-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Band1 (m : (ℓ : Loc Cert.Band1.nD Cert.Band1.τ Cert.Band1.sig) → Buf (Elt Bits) ℓ) : Prop :=
  True

def Pre_Band1Ideal (m : (ℓ : Loc Cert.Band1Ideal.nD Cert.Band1Ideal.τ Cert.Band1Ideal.sig) → Buf (Elt Ideal) ℓ) : Prop :=
  True

def Pre_Band1RefIdeal (m : (ℓ : Loc Cert.Band1RefIdeal.nD Cert.Band1RefIdeal.τ Cert.Band1RefIdeal.sig) → Buf (Elt Ideal) ℓ) : Prop :=
  True

def Pre_Band4 (m : (ℓ : Loc Cert.Band4.nD Cert.Band4.τ Cert.Band4.sig) → Buf (Elt Bits) ℓ) : Prop :=
  True

def Pre_Band4Ideal (m : (ℓ : Loc Cert.Band4Ideal.nD Cert.Band4Ideal.τ Cert.Band4Ideal.sig) → Buf (Elt Ideal) ℓ) : Prop :=
  True

def Pre_Band4RefIdeal (m : (ℓ : Loc Cert.Band4RefIdeal.nD Cert.Band4RefIdeal.τ Cert.Band4RefIdeal.sig) → Buf (Elt Ideal) ℓ) : Prop :=
  True

def Pre_Band16 (m : (ℓ : Loc Cert.Band16.nD Cert.Band16.τ Cert.Band16.sig) → Buf (Elt Bits) ℓ) : Prop :=
  True

def Pre_Band16Ideal (m : (ℓ : Loc Cert.Band16Ideal.nD Cert.Band16Ideal.τ Cert.Band16Ideal.sig) → Buf (Elt Ideal) ℓ) : Prop :=
  True

def Pre_Band16RefIdeal (m : (ℓ : Loc Cert.Band16RefIdeal.nD Cert.Band16RefIdeal.τ Cert.Band16RefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_AttProj (m : (ℓ : Loc Cert.AttProj.nD Cert.AttProj.τ Cert.AttProj.sig) → Buf (Elt Bits) ℓ) : Prop :=
  True

def Pre_AttProjIdeal (m : (ℓ : Loc Cert.AttProjIdeal.nD Cert.AttProjIdeal.τ Cert.AttProjIdeal.sig) → Buf (Elt Ideal) ℓ) : Prop :=
  True

def Pre_AttProjRefIdeal (m : (ℓ : Loc Cert.AttProjRefIdeal.nD Cert.AttProjRefIdeal.τ Cert.AttProjRefIdeal.sig) → Buf (Elt Ideal) ℓ) : Prop :=
  True

def Pre_AttOut (m : (ℓ : Loc Cert.AttOut.nD Cert.AttOut.τ Cert.AttOut.sig) → Buf (Elt Bits) ℓ) : Prop :=
  True

def Pre_AttOutIdeal (m : (ℓ : Loc Cert.AttOutIdeal.nD Cert.AttOutIdeal.τ Cert.AttOutIdeal.sig) → Buf (Elt Ideal) ℓ) : Prop :=
  True

def Pre_AttOutRefIdeal (m : (ℓ : Loc Cert.AttOutRefIdeal.nD Cert.AttOutRefIdeal.τ Cert.AttOutRefIdeal.sig) → Buf (Elt Ideal) ℓ) : Prop :=
  True

def Pre_DnOut (m : (ℓ : Loc Cert.DnOut.nD Cert.DnOut.τ Cert.DnOut.sig) → Buf (Elt Bits) ℓ) : Prop :=
  True

def Pre_DnOutIdeal (m : (ℓ : Loc Cert.DnOutIdeal.nD Cert.DnOutIdeal.τ Cert.DnOutIdeal.sig) → Buf (Elt Ideal) ℓ) : Prop :=
  True

def Pre_DnOutRefIdeal (m : (ℓ : Loc Cert.DnOutRefIdeal.nD Cert.DnOutRefIdeal.τ Cert.DnOutRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Band1 [hBand1 : Cert.Band1.Facts] : Prop :=
  ∀ (m : (ℓ : Loc Cert.Band1.nD Cert.Band1.τ Cert.Band1.sig) → Buf (Elt Bits) ℓ) (g : Dev Cert.Band1.nD → PrngReg), Pre_Band1 m →
    θ_run (Cert.Band1.defs (F := Bits)) (onTc (τ := Cert.Band1.τ) (Cert.Band1.main (F := Bits))) ⟨m, fun _ => 0, g⟩ (fun r => (∀ c : Dev Cert.Band1.nD,
      r.2.mem ((c.tc : Thread Cert.Band1.nD Cert.Band1.τ).loc Cert.Band1.main_arg0) = m ((c.tc : Thread Cert.Band1.nD Cert.Band1.τ).loc Cert.Band1.main_arg0)
      ∧ r.2.mem ((c.tc : Thread Cert.Band1.nD Cert.Band1.τ).loc Cert.Band1.main_arg1) = m ((c.tc : Thread Cert.Band1.nD Cert.Band1.τ).loc Cert.Band1.main_arg1))
      ∧ r.2.sem = fun _ => 0)

def quiescent_Band1Ideal [hBand1Ideal : Cert.Band1Ideal.Facts] : Prop :=
  ∀ (m : (ℓ : Loc Cert.Band1Ideal.nD Cert.Band1Ideal.τ Cert.Band1Ideal.sig) → Buf (Elt Ideal) ℓ) (g : Dev Cert.Band1Ideal.nD → PrngReg), Pre_Band1Ideal m →
    θ_run (Cert.Band1Ideal.defs (F := Ideal)) (onTc (τ := Cert.Band1Ideal.τ) (Cert.Band1Ideal.main (F := Ideal))) ⟨m, fun _ => 0, g⟩ (fun r => (∀ c : Dev Cert.Band1Ideal.nD,
      r.2.mem ((c.tc : Thread Cert.Band1Ideal.nD Cert.Band1Ideal.τ).loc Cert.Band1Ideal.main_arg0) = m ((c.tc : Thread Cert.Band1Ideal.nD Cert.Band1Ideal.τ).loc Cert.Band1Ideal.main_arg0)
      ∧ r.2.mem ((c.tc : Thread Cert.Band1Ideal.nD Cert.Band1Ideal.τ).loc Cert.Band1Ideal.main_arg1) = m ((c.tc : Thread Cert.Band1Ideal.nD Cert.Band1Ideal.τ).loc Cert.Band1Ideal.main_arg1))
      ∧ r.2.sem = fun _ => 0)

def quiescent_Band1RefIdeal [hBand1RefIdeal : Cert.Band1RefIdeal.Facts] : Prop :=
  ∀ (m : (ℓ : Loc Cert.Band1RefIdeal.nD Cert.Band1RefIdeal.τ Cert.Band1RefIdeal.sig) → Buf (Elt Ideal) ℓ) (g : Dev Cert.Band1RefIdeal.nD → PrngReg), Pre_Band1RefIdeal m →
    θ_run (Cert.Band1RefIdeal.defs (F := Ideal)) (onTc (τ := Cert.Band1RefIdeal.τ) (Cert.Band1RefIdeal.main (F := Ideal))) ⟨m, fun _ => 0, g⟩ (fun r => (∀ c : Dev Cert.Band1RefIdeal.nD,
      r.2.mem ((c.tc : Thread Cert.Band1RefIdeal.nD Cert.Band1RefIdeal.τ).loc Cert.Band1RefIdeal.main_arg0) = m ((c.tc : Thread Cert.Band1RefIdeal.nD Cert.Band1RefIdeal.τ).loc Cert.Band1RefIdeal.main_arg0)
      ∧ r.2.mem ((c.tc : Thread Cert.Band1RefIdeal.nD Cert.Band1RefIdeal.τ).loc Cert.Band1RefIdeal.main_arg1) = m ((c.tc : Thread Cert.Band1RefIdeal.nD Cert.Band1RefIdeal.τ).loc Cert.Band1RefIdeal.main_arg1))
      ∧ r.2.sem = fun _ => 0)

def quiescent_Band4 [hBand4 : Cert.Band4.Facts] : Prop :=
  ∀ (m : (ℓ : Loc Cert.Band4.nD Cert.Band4.τ Cert.Band4.sig) → Buf (Elt Bits) ℓ) (g : Dev Cert.Band4.nD → PrngReg), Pre_Band4 m →
    θ_run (Cert.Band4.defs (F := Bits)) (onTc (τ := Cert.Band4.τ) (Cert.Band4.main (F := Bits))) ⟨m, fun _ => 0, g⟩ (fun r => (∀ c : Dev Cert.Band4.nD,
      r.2.mem ((c.tc : Thread Cert.Band4.nD Cert.Band4.τ).loc Cert.Band4.main_arg0) = m ((c.tc : Thread Cert.Band4.nD Cert.Band4.τ).loc Cert.Band4.main_arg0)
      ∧ r.2.mem ((c.tc : Thread Cert.Band4.nD Cert.Band4.τ).loc Cert.Band4.main_arg1) = m ((c.tc : Thread Cert.Band4.nD Cert.Band4.τ).loc Cert.Band4.main_arg1))
      ∧ r.2.sem = fun _ => 0)

def quiescent_Band4Ideal [hBand4Ideal : Cert.Band4Ideal.Facts] : Prop :=
  ∀ (m : (ℓ : Loc Cert.Band4Ideal.nD Cert.Band4Ideal.τ Cert.Band4Ideal.sig) → Buf (Elt Ideal) ℓ) (g : Dev Cert.Band4Ideal.nD → PrngReg), Pre_Band4Ideal m →
    θ_run (Cert.Band4Ideal.defs (F := Ideal)) (onTc (τ := Cert.Band4Ideal.τ) (Cert.Band4Ideal.main (F := Ideal))) ⟨m, fun _ => 0, g⟩ (fun r => (∀ c : Dev Cert.Band4Ideal.nD,
      r.2.mem ((c.tc : Thread Cert.Band4Ideal.nD Cert.Band4Ideal.τ).loc Cert.Band4Ideal.main_arg0) = m ((c.tc : Thread Cert.Band4Ideal.nD Cert.Band4Ideal.τ).loc Cert.Band4Ideal.main_arg0)
      ∧ r.2.mem ((c.tc : Thread Cert.Band4Ideal.nD Cert.Band4Ideal.τ).loc Cert.Band4Ideal.main_arg1) = m ((c.tc : Thread Cert.Band4Ideal.nD Cert.Band4Ideal.τ).loc Cert.Band4Ideal.main_arg1))
      ∧ r.2.sem = fun _ => 0)

def quiescent_Band4RefIdeal [hBand4RefIdeal : Cert.Band4RefIdeal.Facts] : Prop :=
  ∀ (m : (ℓ : Loc Cert.Band4RefIdeal.nD Cert.Band4RefIdeal.τ Cert.Band4RefIdeal.sig) → Buf (Elt Ideal) ℓ) (g : Dev Cert.Band4RefIdeal.nD → PrngReg), Pre_Band4RefIdeal m →
    θ_run (Cert.Band4RefIdeal.defs (F := Ideal)) (onTc (τ := Cert.Band4RefIdeal.τ) (Cert.Band4RefIdeal.main (F := Ideal))) ⟨m, fun _ => 0, g⟩ (fun r => (∀ c : Dev Cert.Band4RefIdeal.nD,
      r.2.mem ((c.tc : Thread Cert.Band4RefIdeal.nD Cert.Band4RefIdeal.τ).loc Cert.Band4RefIdeal.main_arg0) = m ((c.tc : Thread Cert.Band4RefIdeal.nD Cert.Band4RefIdeal.τ).loc Cert.Band4RefIdeal.main_arg0)
      ∧ r.2.mem ((c.tc : Thread Cert.Band4RefIdeal.nD Cert.Band4RefIdeal.τ).loc Cert.Band4RefIdeal.main_arg1) = m ((c.tc : Thread Cert.Band4RefIdeal.nD Cert.Band4RefIdeal.τ).loc Cert.Band4RefIdeal.main_arg1))
      ∧ r.2.sem = fun _ => 0)

def quiescent_Band16 [hBand16 : Cert.Band16.Facts] : Prop :=
  ∀ (m : (ℓ : Loc Cert.Band16.nD Cert.Band16.τ Cert.Band16.sig) → Buf (Elt Bits) ℓ) (g : Dev Cert.Band16.nD → PrngReg), Pre_Band16 m →
    θ_run (Cert.Band16.defs (F := Bits)) (onTc (τ := Cert.Band16.τ) (Cert.Band16.main (F := Bits))) ⟨m, fun _ => 0, g⟩ (fun r => (∀ c : Dev Cert.Band16.nD,
      r.2.mem ((c.tc : Thread Cert.Band16.nD Cert.Band16.τ).loc Cert.Band16.main_arg0) = m ((c.tc : Thread Cert.Band16.nD Cert.Band16.τ).loc Cert.Band16.main_arg0)
      ∧ r.2.mem ((c.tc : Thread Cert.Band16.nD Cert.Band16.τ).loc Cert.Band16.main_arg1) = m ((c.tc : Thread Cert.Band16.nD Cert.Band16.τ).loc Cert.Band16.main_arg1))
      ∧ r.2.sem = fun _ => 0)

def quiescent_Band16Ideal [hBand16Ideal : Cert.Band16Ideal.Facts] : Prop :=
  ∀ (m : (ℓ : Loc Cert.Band16Ideal.nD Cert.Band16Ideal.τ Cert.Band16Ideal.sig) → Buf (Elt Ideal) ℓ) (g : Dev Cert.Band16Ideal.nD → PrngReg), Pre_Band16Ideal m →
    θ_run (Cert.Band16Ideal.defs (F := Ideal)) (onTc (τ := Cert.Band16Ideal.τ) (Cert.Band16Ideal.main (F := Ideal))) ⟨m, fun _ => 0, g⟩ (fun r => (∀ c : Dev Cert.Band16Ideal.nD,
      r.2.mem ((c.tc : Thread Cert.Band16Ideal.nD Cert.Band16Ideal.τ).loc Cert.Band16Ideal.main_arg0) = m ((c.tc : Thread Cert.Band16Ideal.nD Cert.Band16Ideal.τ).loc Cert.Band16Ideal.main_arg0)
      ∧ r.2.mem ((c.tc : Thread Cert.Band16Ideal.nD Cert.Band16Ideal.τ).loc Cert.Band16Ideal.main_arg1) = m ((c.tc : Thread Cert.Band16Ideal.nD Cert.Band16Ideal.τ).loc Cert.Band16Ideal.main_arg1))
      ∧ r.2.sem = fun _ => 0)

def quiescent_Band16RefIdeal [hBand16RefIdeal : Cert.Band16RefIdeal.Facts] : Prop :=
  ∀ (m : (ℓ : Loc Cert.Band16RefIdeal.nD Cert.Band16RefIdeal.τ Cert.Band16RefIdeal.sig) → Buf (Elt Ideal) ℓ) (g : Dev Cert.Band16RefIdeal.nD → PrngReg), Pre_Band16RefIdeal m →
    θ_run (Cert.Band16RefIdeal.defs (F := Ideal)) (onTc (τ := Cert.Band16RefIdeal.τ) (Cert.Band16RefIdeal.main (F := Ideal))) ⟨m, fun _ => 0, g⟩ (fun r => (∀ c : Dev Cert.Band16RefIdeal.nD,
      r.2.mem ((c.tc : Thread Cert.Band16RefIdeal.nD Cert.Band16RefIdeal.τ).loc Cert.Band16RefIdeal.main_arg0) = m ((c.tc : Thread Cert.Band16RefIdeal.nD Cert.Band16RefIdeal.τ).loc Cert.Band16RefIdeal.main_arg0)
      ∧ r.2.mem ((c.tc : Thread Cert.Band16RefIdeal.nD Cert.Band16RefIdeal.τ).loc Cert.Band16RefIdeal.main_arg1) = m ((c.tc : Thread Cert.Band16RefIdeal.nD Cert.Band16RefIdeal.τ).loc Cert.Band16RefIdeal.main_arg1))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2))
      ∧ r.2.sem = fun _ => 0)

def quiescent_AttProj [hAttProj : Cert.AttProj.Facts] : Prop :=
  ∀ (m : (ℓ : Loc Cert.AttProj.nD Cert.AttProj.τ Cert.AttProj.sig) → Buf (Elt Bits) ℓ) (g : Dev Cert.AttProj.nD → PrngReg), Pre_AttProj m →
    θ_run (Cert.AttProj.defs (F := Bits)) (onTc (τ := Cert.AttProj.τ) (Cert.AttProj.main (F := Bits))) ⟨m, fun _ => 0, g⟩ (fun r => (∀ c : Dev Cert.AttProj.nD,
      r.2.mem ((c.tc : Thread Cert.AttProj.nD Cert.AttProj.τ).loc Cert.AttProj.main_arg0) = m ((c.tc : Thread Cert.AttProj.nD Cert.AttProj.τ).loc Cert.AttProj.main_arg0)
      ∧ r.2.mem ((c.tc : Thread Cert.AttProj.nD Cert.AttProj.τ).loc Cert.AttProj.main_arg1) = m ((c.tc : Thread Cert.AttProj.nD Cert.AttProj.τ).loc Cert.AttProj.main_arg1)
      ∧ r.2.mem ((c.tc : Thread Cert.AttProj.nD Cert.AttProj.τ).loc Cert.AttProj.main_arg2) = m ((c.tc : Thread Cert.AttProj.nD Cert.AttProj.τ).loc Cert.AttProj.main_arg2))
      ∧ r.2.sem = fun _ => 0)

def quiescent_AttProjIdeal [hAttProjIdeal : Cert.AttProjIdeal.Facts] : Prop :=
  ∀ (m : (ℓ : Loc Cert.AttProjIdeal.nD Cert.AttProjIdeal.τ Cert.AttProjIdeal.sig) → Buf (Elt Ideal) ℓ) (g : Dev Cert.AttProjIdeal.nD → PrngReg), Pre_AttProjIdeal m →
    θ_run (Cert.AttProjIdeal.defs (F := Ideal)) (onTc (τ := Cert.AttProjIdeal.τ) (Cert.AttProjIdeal.main (F := Ideal))) ⟨m, fun _ => 0, g⟩ (fun r => (∀ c : Dev Cert.AttProjIdeal.nD,
      r.2.mem ((c.tc : Thread Cert.AttProjIdeal.nD Cert.AttProjIdeal.τ).loc Cert.AttProjIdeal.main_arg0) = m ((c.tc : Thread Cert.AttProjIdeal.nD Cert.AttProjIdeal.τ).loc Cert.AttProjIdeal.main_arg0)
      ∧ r.2.mem ((c.tc : Thread Cert.AttProjIdeal.nD Cert.AttProjIdeal.τ).loc Cert.AttProjIdeal.main_arg1) = m ((c.tc : Thread Cert.AttProjIdeal.nD Cert.AttProjIdeal.τ).loc Cert.AttProjIdeal.main_arg1)
      ∧ r.2.mem ((c.tc : Thread Cert.AttProjIdeal.nD Cert.AttProjIdeal.τ).loc Cert.AttProjIdeal.main_arg2) = m ((c.tc : Thread Cert.AttProjIdeal.nD Cert.AttProjIdeal.τ).loc Cert.AttProjIdeal.main_arg2))
      ∧ r.2.sem = fun _ => 0)

def quiescent_AttProjRefIdeal [hAttProjRefIdeal : Cert.AttProjRefIdeal.Facts] : Prop :=
  ∀ (m : (ℓ : Loc Cert.AttProjRefIdeal.nD Cert.AttProjRefIdeal.τ Cert.AttProjRefIdeal.sig) → Buf (Elt Ideal) ℓ) (g : Dev Cert.AttProjRefIdeal.nD → PrngReg), Pre_AttProjRefIdeal m →
    θ_run (Cert.AttProjRefIdeal.defs (F := Ideal)) (onTc (τ := Cert.AttProjRefIdeal.τ) (Cert.AttProjRefIdeal.main (F := Ideal))) ⟨m, fun _ => 0, g⟩ (fun r => (∀ c : Dev Cert.AttProjRefIdeal.nD,
      r.2.mem ((c.tc : Thread Cert.AttProjRefIdeal.nD Cert.AttProjRefIdeal.τ).loc Cert.AttProjRefIdeal.main_arg0) = m ((c.tc : Thread Cert.AttProjRefIdeal.nD Cert.AttProjRefIdeal.τ).loc Cert.AttProjRefIdeal.main_arg0)
      ∧ r.2.mem ((c.tc : Thread Cert.AttProjRefIdeal.nD Cert.AttProjRefIdeal.τ).loc Cert.AttProjRefIdeal.main_arg1) = m ((c.tc : Thread Cert.AttProjRefIdeal.nD Cert.AttProjRefIdeal.τ).loc Cert.AttProjRefIdeal.main_arg1)
      ∧ r.2.mem ((c.tc : Thread Cert.AttProjRefIdeal.nD Cert.AttProjRefIdeal.τ).loc Cert.AttProjRefIdeal.main_arg2) = m ((c.tc : Thread Cert.AttProjRefIdeal.nD Cert.AttProjRefIdeal.τ).loc Cert.AttProjRefIdeal.main_arg2))
      ∧ r.2.sem = fun _ => 0)

def quiescent_AttOut [hAttOut : Cert.AttOut.Facts] : Prop :=
  ∀ (m : (ℓ : Loc Cert.AttOut.nD Cert.AttOut.τ Cert.AttOut.sig) → Buf (Elt Bits) ℓ) (g : Dev Cert.AttOut.nD → PrngReg), Pre_AttOut m →
    θ_run (Cert.AttOut.defs (F := Bits)) (onTc (τ := Cert.AttOut.τ) (Cert.AttOut.main (F := Bits))) ⟨m, fun _ => 0, g⟩ (fun r => (∀ c : Dev Cert.AttOut.nD,
      r.2.mem ((c.tc : Thread Cert.AttOut.nD Cert.AttOut.τ).loc Cert.AttOut.main_arg0) = m ((c.tc : Thread Cert.AttOut.nD Cert.AttOut.τ).loc Cert.AttOut.main_arg0)
      ∧ r.2.mem ((c.tc : Thread Cert.AttOut.nD Cert.AttOut.τ).loc Cert.AttOut.main_arg1) = m ((c.tc : Thread Cert.AttOut.nD Cert.AttOut.τ).loc Cert.AttOut.main_arg1)
      ∧ r.2.mem ((c.tc : Thread Cert.AttOut.nD Cert.AttOut.τ).loc Cert.AttOut.main_arg2) = m ((c.tc : Thread Cert.AttOut.nD Cert.AttOut.τ).loc Cert.AttOut.main_arg2)
      ∧ r.2.mem ((c.tc : Thread Cert.AttOut.nD Cert.AttOut.τ).loc Cert.AttOut.main_arg3) = m ((c.tc : Thread Cert.AttOut.nD Cert.AttOut.τ).loc Cert.AttOut.main_arg3)
      ∧ r.2.mem ((c.tc : Thread Cert.AttOut.nD Cert.AttOut.τ).loc Cert.AttOut.main_arg4) = m ((c.tc : Thread Cert.AttOut.nD Cert.AttOut.τ).loc Cert.AttOut.main_arg4)
      ∧ r.2.mem ((c.tc : Thread Cert.AttOut.nD Cert.AttOut.τ).loc Cert.AttOut.main_arg5) = m ((c.tc : Thread Cert.AttOut.nD Cert.AttOut.τ).loc Cert.AttOut.main_arg5)
      ∧ r.2.mem ((c.tc : Thread Cert.AttOut.nD Cert.AttOut.τ).loc Cert.AttOut.main_arg6) = m ((c.tc : Thread Cert.AttOut.nD Cert.AttOut.τ).loc Cert.AttOut.main_arg6)
      ∧ r.2.mem ((c.tc : Thread Cert.AttOut.nD Cert.AttOut.τ).loc Cert.AttOut.main_arg7) = m ((c.tc : Thread Cert.AttOut.nD Cert.AttOut.τ).loc Cert.AttOut.main_arg7)
      ∧ r.2.mem ((c.tc : Thread Cert.AttOut.nD Cert.AttOut.τ).loc Cert.AttOut.main_arg8) = m ((c.tc : Thread Cert.AttOut.nD Cert.AttOut.τ).loc Cert.AttOut.main_arg8)
      ∧ r.2.mem ((c.tc : Thread Cert.AttOut.nD Cert.AttOut.τ).loc Cert.AttOut.main_arg9) = m ((c.tc : Thread Cert.AttOut.nD Cert.AttOut.τ).loc Cert.AttOut.main_arg9)
      ∧ r.2.mem ((c.tc : Thread Cert.AttOut.nD Cert.AttOut.τ).loc Cert.AttOut.main_arg10) = m ((c.tc : Thread Cert.AttOut.nD Cert.AttOut.τ).loc Cert.AttOut.main_arg10)
      ∧ r.2.mem ((c.tc : Thread Cert.AttOut.nD Cert.AttOut.τ).loc Cert.AttOut.main_arg11) = m ((c.tc : Thread Cert.AttOut.nD Cert.AttOut.τ).loc Cert.AttOut.main_arg11))
      ∧ r.2.sem = fun _ => 0)

def quiescent_AttOutIdeal [hAttOutIdeal : Cert.AttOutIdeal.Facts] : Prop :=
  ∀ (m : (ℓ : Loc Cert.AttOutIdeal.nD Cert.AttOutIdeal.τ Cert.AttOutIdeal.sig) → Buf (Elt Ideal) ℓ) (g : Dev Cert.AttOutIdeal.nD → PrngReg), Pre_AttOutIdeal m →
    θ_run (Cert.AttOutIdeal.defs (F := Ideal)) (onTc (τ := Cert.AttOutIdeal.τ) (Cert.AttOutIdeal.main (F := Ideal))) ⟨m, fun _ => 0, g⟩ (fun r => (∀ c : Dev Cert.AttOutIdeal.nD,
      r.2.mem ((c.tc : Thread Cert.AttOutIdeal.nD Cert.AttOutIdeal.τ).loc Cert.AttOutIdeal.main_arg0) = m ((c.tc : Thread Cert.AttOutIdeal.nD Cert.AttOutIdeal.τ).loc Cert.AttOutIdeal.main_arg0)
      ∧ r.2.mem ((c.tc : Thread Cert.AttOutIdeal.nD Cert.AttOutIdeal.τ).loc Cert.AttOutIdeal.main_arg1) = m ((c.tc : Thread Cert.AttOutIdeal.nD Cert.AttOutIdeal.τ).loc Cert.AttOutIdeal.main_arg1)
      ∧ r.2.mem ((c.tc : Thread Cert.AttOutIdeal.nD Cert.AttOutIdeal.τ).loc Cert.AttOutIdeal.main_arg2) = m ((c.tc : Thread Cert.AttOutIdeal.nD Cert.AttOutIdeal.τ).loc Cert.AttOutIdeal.main_arg2)
      ∧ r.2.mem ((c.tc : Thread Cert.AttOutIdeal.nD Cert.AttOutIdeal.τ).loc Cert.AttOutIdeal.main_arg3) = m ((c.tc : Thread Cert.AttOutIdeal.nD Cert.AttOutIdeal.τ).loc Cert.AttOutIdeal.main_arg3)
      ∧ r.2.mem ((c.tc : Thread Cert.AttOutIdeal.nD Cert.AttOutIdeal.τ).loc Cert.AttOutIdeal.main_arg4) = m ((c.tc : Thread Cert.AttOutIdeal.nD Cert.AttOutIdeal.τ).loc Cert.AttOutIdeal.main_arg4)
      ∧ r.2.mem ((c.tc : Thread Cert.AttOutIdeal.nD Cert.AttOutIdeal.τ).loc Cert.AttOutIdeal.main_arg5) = m ((c.tc : Thread Cert.AttOutIdeal.nD Cert.AttOutIdeal.τ).loc Cert.AttOutIdeal.main_arg5)
      ∧ r.2.mem ((c.tc : Thread Cert.AttOutIdeal.nD Cert.AttOutIdeal.τ).loc Cert.AttOutIdeal.main_arg6) = m ((c.tc : Thread Cert.AttOutIdeal.nD Cert.AttOutIdeal.τ).loc Cert.AttOutIdeal.main_arg6)
      ∧ r.2.mem ((c.tc : Thread Cert.AttOutIdeal.nD Cert.AttOutIdeal.τ).loc Cert.AttOutIdeal.main_arg7) = m ((c.tc : Thread Cert.AttOutIdeal.nD Cert.AttOutIdeal.τ).loc Cert.AttOutIdeal.main_arg7)
      ∧ r.2.mem ((c.tc : Thread Cert.AttOutIdeal.nD Cert.AttOutIdeal.τ).loc Cert.AttOutIdeal.main_arg8) = m ((c.tc : Thread Cert.AttOutIdeal.nD Cert.AttOutIdeal.τ).loc Cert.AttOutIdeal.main_arg8)
      ∧ r.2.mem ((c.tc : Thread Cert.AttOutIdeal.nD Cert.AttOutIdeal.τ).loc Cert.AttOutIdeal.main_arg9) = m ((c.tc : Thread Cert.AttOutIdeal.nD Cert.AttOutIdeal.τ).loc Cert.AttOutIdeal.main_arg9)
      ∧ r.2.mem ((c.tc : Thread Cert.AttOutIdeal.nD Cert.AttOutIdeal.τ).loc Cert.AttOutIdeal.main_arg10) = m ((c.tc : Thread Cert.AttOutIdeal.nD Cert.AttOutIdeal.τ).loc Cert.AttOutIdeal.main_arg10)
      ∧ r.2.mem ((c.tc : Thread Cert.AttOutIdeal.nD Cert.AttOutIdeal.τ).loc Cert.AttOutIdeal.main_arg11) = m ((c.tc : Thread Cert.AttOutIdeal.nD Cert.AttOutIdeal.τ).loc Cert.AttOutIdeal.main_arg11))
      ∧ r.2.sem = fun _ => 0)

def quiescent_AttOutRefIdeal [hAttOutRefIdeal : Cert.AttOutRefIdeal.Facts] : Prop :=
  ∀ (m : (ℓ : Loc Cert.AttOutRefIdeal.nD Cert.AttOutRefIdeal.τ Cert.AttOutRefIdeal.sig) → Buf (Elt Ideal) ℓ) (g : Dev Cert.AttOutRefIdeal.nD → PrngReg), Pre_AttOutRefIdeal m →
    θ_run (Cert.AttOutRefIdeal.defs (F := Ideal)) (onTc (τ := Cert.AttOutRefIdeal.τ) (Cert.AttOutRefIdeal.main (F := Ideal))) ⟨m, fun _ => 0, g⟩ (fun r => (∀ c : Dev Cert.AttOutRefIdeal.nD,
      r.2.mem ((c.tc : Thread Cert.AttOutRefIdeal.nD Cert.AttOutRefIdeal.τ).loc Cert.AttOutRefIdeal.main_arg0) = m ((c.tc : Thread Cert.AttOutRefIdeal.nD Cert.AttOutRefIdeal.τ).loc Cert.AttOutRefIdeal.main_arg0)
      ∧ r.2.mem ((c.tc : Thread Cert.AttOutRefIdeal.nD Cert.AttOutRefIdeal.τ).loc Cert.AttOutRefIdeal.main_arg1) = m ((c.tc : Thread Cert.AttOutRefIdeal.nD Cert.AttOutRefIdeal.τ).loc Cert.AttOutRefIdeal.main_arg1)
      ∧ r.2.mem ((c.tc : Thread Cert.AttOutRefIdeal.nD Cert.AttOutRefIdeal.τ).loc Cert.AttOutRefIdeal.main_arg2) = m ((c.tc : Thread Cert.AttOutRefIdeal.nD Cert.AttOutRefIdeal.τ).loc Cert.AttOutRefIdeal.main_arg2)
      ∧ r.2.mem ((c.tc : Thread Cert.AttOutRefIdeal.nD Cert.AttOutRefIdeal.τ).loc Cert.AttOutRefIdeal.main_arg3) = m ((c.tc : Thread Cert.AttOutRefIdeal.nD Cert.AttOutRefIdeal.τ).loc Cert.AttOutRefIdeal.main_arg3)
      ∧ r.2.mem ((c.tc : Thread Cert.AttOutRefIdeal.nD Cert.AttOutRefIdeal.τ).loc Cert.AttOutRefIdeal.main_arg4) = m ((c.tc : Thread Cert.AttOutRefIdeal.nD Cert.AttOutRefIdeal.τ).loc Cert.AttOutRefIdeal.main_arg4)
      ∧ r.2.mem ((c.tc : Thread Cert.AttOutRefIdeal.nD Cert.AttOutRefIdeal.τ).loc Cert.AttOutRefIdeal.main_arg5) = m ((c.tc : Thread Cert.AttOutRefIdeal.nD Cert.AttOutRefIdeal.τ).loc Cert.AttOutRefIdeal.main_arg5)
      ∧ r.2.mem ((c.tc : Thread Cert.AttOutRefIdeal.nD Cert.AttOutRefIdeal.τ).loc Cert.AttOutRefIdeal.main_arg6) = m ((c.tc : Thread Cert.AttOutRefIdeal.nD Cert.AttOutRefIdeal.τ).loc Cert.AttOutRefIdeal.main_arg6)
      ∧ r.2.mem ((c.tc : Thread Cert.AttOutRefIdeal.nD Cert.AttOutRefIdeal.τ).loc Cert.AttOutRefIdeal.main_arg7) = m ((c.tc : Thread Cert.AttOutRefIdeal.nD Cert.AttOutRefIdeal.τ).loc Cert.AttOutRefIdeal.main_arg7)
      ∧ r.2.mem ((c.tc : Thread Cert.AttOutRefIdeal.nD Cert.AttOutRefIdeal.τ).loc Cert.AttOutRefIdeal.main_arg8) = m ((c.tc : Thread Cert.AttOutRefIdeal.nD Cert.AttOutRefIdeal.τ).loc Cert.AttOutRefIdeal.main_arg8)
      ∧ r.2.mem ((c.tc : Thread Cert.AttOutRefIdeal.nD Cert.AttOutRefIdeal.τ).loc Cert.AttOutRefIdeal.main_arg9) = m ((c.tc : Thread Cert.AttOutRefIdeal.nD Cert.AttOutRefIdeal.τ).loc Cert.AttOutRefIdeal.main_arg9)
      ∧ r.2.mem ((c.tc : Thread Cert.AttOutRefIdeal.nD Cert.AttOutRefIdeal.τ).loc Cert.AttOutRefIdeal.main_arg10) = m ((c.tc : Thread Cert.AttOutRefIdeal.nD Cert.AttOutRefIdeal.τ).loc Cert.AttOutRefIdeal.main_arg10)
      ∧ r.2.mem ((c.tc : Thread Cert.AttOutRefIdeal.nD Cert.AttOutRefIdeal.τ).loc Cert.AttOutRefIdeal.main_arg11) = m ((c.tc : Thread Cert.AttOutRefIdeal.nD Cert.AttOutRefIdeal.τ).loc Cert.AttOutRefIdeal.main_arg11))
      ∧ r.2.sem = fun _ => 0)

def quiescent_DnOut [hDnOut : Cert.DnOut.Facts] : Prop :=
  ∀ (m : (ℓ : Loc Cert.DnOut.nD Cert.DnOut.τ Cert.DnOut.sig) → Buf (Elt Bits) ℓ) (g : Dev Cert.DnOut.nD → PrngReg), Pre_DnOut m →
    θ_run (Cert.DnOut.defs (F := Bits)) (onTc (τ := Cert.DnOut.τ) (Cert.DnOut.main (F := Bits))) ⟨m, fun _ => 0, g⟩ (fun r => (∀ c : Dev Cert.DnOut.nD,
      r.2.mem ((c.tc : Thread Cert.DnOut.nD Cert.DnOut.τ).loc Cert.DnOut.main_arg0) = m ((c.tc : Thread Cert.DnOut.nD Cert.DnOut.τ).loc Cert.DnOut.main_arg0)
      ∧ r.2.mem ((c.tc : Thread Cert.DnOut.nD Cert.DnOut.τ).loc Cert.DnOut.main_arg1) = m ((c.tc : Thread Cert.DnOut.nD Cert.DnOut.τ).loc Cert.DnOut.main_arg1)
      ∧ r.2.mem ((c.tc : Thread Cert.DnOut.nD Cert.DnOut.τ).loc Cert.DnOut.main_arg2) = m ((c.tc : Thread Cert.DnOut.nD Cert.DnOut.τ).loc Cert.DnOut.main_arg2)
      ∧ r.2.mem ((c.tc : Thread Cert.DnOut.nD Cert.DnOut.τ).loc Cert.DnOut.main_arg3) = m ((c.tc : Thread Cert.DnOut.nD Cert.DnOut.τ).loc Cert.DnOut.main_arg3)
      ∧ r.2.mem ((c.tc : Thread Cert.DnOut.nD Cert.DnOut.τ).loc Cert.DnOut.main_arg4) = m ((c.tc : Thread Cert.DnOut.nD Cert.DnOut.τ).loc Cert.DnOut.main_arg4)
      ∧ r.2.mem ((c.tc : Thread Cert.DnOut.nD Cert.DnOut.τ).loc Cert.DnOut.main_arg5) = m ((c.tc : Thread Cert.DnOut.nD Cert.DnOut.τ).loc Cert.DnOut.main_arg5)
      ∧ r.2.mem ((c.tc : Thread Cert.DnOut.nD Cert.DnOut.τ).loc Cert.DnOut.main_arg6) = m ((c.tc : Thread Cert.DnOut.nD Cert.DnOut.τ).loc Cert.DnOut.main_arg6)
      ∧ r.2.mem ((c.tc : Thread Cert.DnOut.nD Cert.DnOut.τ).loc Cert.DnOut.main_arg7) = m ((c.tc : Thread Cert.DnOut.nD Cert.DnOut.τ).loc Cert.DnOut.main_arg7)
      ∧ r.2.mem ((c.tc : Thread Cert.DnOut.nD Cert.DnOut.τ).loc Cert.DnOut.main_arg8) = m ((c.tc : Thread Cert.DnOut.nD Cert.DnOut.τ).loc Cert.DnOut.main_arg8)
      ∧ r.2.mem ((c.tc : Thread Cert.DnOut.nD Cert.DnOut.τ).loc Cert.DnOut.main_arg9) = m ((c.tc : Thread Cert.DnOut.nD Cert.DnOut.τ).loc Cert.DnOut.main_arg9))
      ∧ r.2.sem = fun _ => 0)

def quiescent_DnOutIdeal [hDnOutIdeal : Cert.DnOutIdeal.Facts] : Prop :=
  ∀ (m : (ℓ : Loc Cert.DnOutIdeal.nD Cert.DnOutIdeal.τ Cert.DnOutIdeal.sig) → Buf (Elt Ideal) ℓ) (g : Dev Cert.DnOutIdeal.nD → PrngReg), Pre_DnOutIdeal m →
    θ_run (Cert.DnOutIdeal.defs (F := Ideal)) (onTc (τ := Cert.DnOutIdeal.τ) (Cert.DnOutIdeal.main (F := Ideal))) ⟨m, fun _ => 0, g⟩ (fun r => (∀ c : Dev Cert.DnOutIdeal.nD,
      r.2.mem ((c.tc : Thread Cert.DnOutIdeal.nD Cert.DnOutIdeal.τ).loc Cert.DnOutIdeal.main_arg0) = m ((c.tc : Thread Cert.DnOutIdeal.nD Cert.DnOutIdeal.τ).loc Cert.DnOutIdeal.main_arg0)
      ∧ r.2.mem ((c.tc : Thread Cert.DnOutIdeal.nD Cert.DnOutIdeal.τ).loc Cert.DnOutIdeal.main_arg1) = m ((c.tc : Thread Cert.DnOutIdeal.nD Cert.DnOutIdeal.τ).loc Cert.DnOutIdeal.main_arg1)
      ∧ r.2.mem ((c.tc : Thread Cert.DnOutIdeal.nD Cert.DnOutIdeal.τ).loc Cert.DnOutIdeal.main_arg2) = m ((c.tc : Thread Cert.DnOutIdeal.nD Cert.DnOutIdeal.τ).loc Cert.DnOutIdeal.main_arg2)
      ∧ r.2.mem ((c.tc : Thread Cert.DnOutIdeal.nD Cert.DnOutIdeal.τ).loc Cert.DnOutIdeal.main_arg3) = m ((c.tc : Thread Cert.DnOutIdeal.nD Cert.DnOutIdeal.τ).loc Cert.DnOutIdeal.main_arg3)
      ∧ r.2.mem ((c.tc : Thread Cert.DnOutIdeal.nD Cert.DnOutIdeal.τ).loc Cert.DnOutIdeal.main_arg4) = m ((c.tc : Thread Cert.DnOutIdeal.nD Cert.DnOutIdeal.τ).loc Cert.DnOutIdeal.main_arg4)
      ∧ r.2.mem ((c.tc : Thread Cert.DnOutIdeal.nD Cert.DnOutIdeal.τ).loc Cert.DnOutIdeal.main_arg5) = m ((c.tc : Thread Cert.DnOutIdeal.nD Cert.DnOutIdeal.τ).loc Cert.DnOutIdeal.main_arg5)
      ∧ r.2.mem ((c.tc : Thread Cert.DnOutIdeal.nD Cert.DnOutIdeal.τ).loc Cert.DnOutIdeal.main_arg6) = m ((c.tc : Thread Cert.DnOutIdeal.nD Cert.DnOutIdeal.τ).loc Cert.DnOutIdeal.main_arg6)
      ∧ r.2.mem ((c.tc : Thread Cert.DnOutIdeal.nD Cert.DnOutIdeal.τ).loc Cert.DnOutIdeal.main_arg7) = m ((c.tc : Thread Cert.DnOutIdeal.nD Cert.DnOutIdeal.τ).loc Cert.DnOutIdeal.main_arg7)
      ∧ r.2.mem ((c.tc : Thread Cert.DnOutIdeal.nD Cert.DnOutIdeal.τ).loc Cert.DnOutIdeal.main_arg8) = m ((c.tc : Thread Cert.DnOutIdeal.nD Cert.DnOutIdeal.τ).loc Cert.DnOutIdeal.main_arg8)
      ∧ r.2.mem ((c.tc : Thread Cert.DnOutIdeal.nD Cert.DnOutIdeal.τ).loc Cert.DnOutIdeal.main_arg9) = m ((c.tc : Thread Cert.DnOutIdeal.nD Cert.DnOutIdeal.τ).loc Cert.DnOutIdeal.main_arg9))
      ∧ r.2.sem = fun _ => 0)

def quiescent_DnOutRefIdeal [hDnOutRefIdeal : Cert.DnOutRefIdeal.Facts] : Prop :=
  ∀ (m : (ℓ : Loc Cert.DnOutRefIdeal.nD Cert.DnOutRefIdeal.τ Cert.DnOutRefIdeal.sig) → Buf (Elt Ideal) ℓ) (g : Dev Cert.DnOutRefIdeal.nD → PrngReg), Pre_DnOutRefIdeal m →
    θ_run (Cert.DnOutRefIdeal.defs (F := Ideal)) (onTc (τ := Cert.DnOutRefIdeal.τ) (Cert.DnOutRefIdeal.main (F := Ideal))) ⟨m, fun _ => 0, g⟩ (fun r => (∀ c : Dev Cert.DnOutRefIdeal.nD,
      r.2.mem ((c.tc : Thread Cert.DnOutRefIdeal.nD Cert.DnOutRefIdeal.τ).loc Cert.DnOutRefIdeal.main_arg0) = m ((c.tc : Thread Cert.DnOutRefIdeal.nD Cert.DnOutRefIdeal.τ).loc Cert.DnOutRefIdeal.main_arg0)
      ∧ r.2.mem ((c.tc : Thread Cert.DnOutRefIdeal.nD Cert.DnOutRefIdeal.τ).loc Cert.DnOutRefIdeal.main_arg1) = m ((c.tc : Thread Cert.DnOutRefIdeal.nD Cert.DnOutRefIdeal.τ).loc Cert.DnOutRefIdeal.main_arg1)
      ∧ r.2.mem ((c.tc : Thread Cert.DnOutRefIdeal.nD Cert.DnOutRefIdeal.τ).loc Cert.DnOutRefIdeal.main_arg2) = m ((c.tc : Thread Cert.DnOutRefIdeal.nD Cert.DnOutRefIdeal.τ).loc Cert.DnOutRefIdeal.main_arg2)
      ∧ r.2.mem ((c.tc : Thread Cert.DnOutRefIdeal.nD Cert.DnOutRefIdeal.τ).loc Cert.DnOutRefIdeal.main_arg3) = m ((c.tc : Thread Cert.DnOutRefIdeal.nD Cert.DnOutRefIdeal.τ).loc Cert.DnOutRefIdeal.main_arg3)
      ∧ r.2.mem ((c.tc : Thread Cert.DnOutRefIdeal.nD Cert.DnOutRefIdeal.τ).loc Cert.DnOutRefIdeal.main_arg4) = m ((c.tc : Thread Cert.DnOutRefIdeal.nD Cert.DnOutRefIdeal.τ).loc Cert.DnOutRefIdeal.main_arg4)
      ∧ r.2.mem ((c.tc : Thread Cert.DnOutRefIdeal.nD Cert.DnOutRefIdeal.τ).loc Cert.DnOutRefIdeal.main_arg5) = m ((c.tc : Thread Cert.DnOutRefIdeal.nD Cert.DnOutRefIdeal.τ).loc Cert.DnOutRefIdeal.main_arg5)
      ∧ r.2.mem ((c.tc : Thread Cert.DnOutRefIdeal.nD Cert.DnOutRefIdeal.τ).loc Cert.DnOutRefIdeal.main_arg6) = m ((c.tc : Thread Cert.DnOutRefIdeal.nD Cert.DnOutRefIdeal.τ).loc Cert.DnOutRefIdeal.main_arg6)
      ∧ r.2.mem ((c.tc : Thread Cert.DnOutRefIdeal.nD Cert.DnOutRefIdeal.τ).loc Cert.DnOutRefIdeal.main_arg7) = m ((c.tc : Thread Cert.DnOutRefIdeal.nD Cert.DnOutRefIdeal.τ).loc Cert.DnOutRefIdeal.main_arg7)
      ∧ r.2.mem ((c.tc : Thread Cert.DnOutRefIdeal.nD Cert.DnOutRefIdeal.τ).loc Cert.DnOutRefIdeal.main_arg8) = m ((c.tc : Thread Cert.DnOutRefIdeal.nD Cert.DnOutRefIdeal.τ).loc Cert.DnOutRefIdeal.main_arg8)
      ∧ r.2.mem ((c.tc : Thread Cert.DnOutRefIdeal.nD Cert.DnOutRefIdeal.τ).loc Cert.DnOutRefIdeal.main_arg9) = m ((c.tc : Thread Cert.DnOutRefIdeal.nD Cert.DnOutRefIdeal.τ).loc Cert.DnOutRefIdeal.main_arg9))
      ∧ r.2.sem = fun _ => 0)

def preserves_Ffn_FfnIdeal : Prop :=
  IdealRules.named_const.Statement Cert.FfnIdeal.κ "neg_log2e" .f32 0xBFB8AA3B#32 ((-((Real.log 2)⁻¹) : ℝ) : EReal)

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v32) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Band1_Band1Ideal : Prop :=
  True

def algebraic_Band1Ideal_Band1RefIdeal [hBand1Ideal : Cert.Band1Ideal.Facts] [hBand1RefIdeal : Cert.Band1RefIdeal.Facts] : Prop :=
  ∀ (m : (ℓ : Loc Cert.Band1Ideal.nD Cert.Band1Ideal.τ Cert.Band1Ideal.sig) → Buf (Elt Ideal) ℓ) (g : Dev Cert.Band1Ideal.nD → PrngReg)
    (m' : (ℓ : Loc Cert.Band1RefIdeal.nD Cert.Band1RefIdeal.τ Cert.Band1RefIdeal.sig) → Buf (Elt Ideal) ℓ) (g' : Dev Cert.Band1RefIdeal.nD → PrngReg), Pre_Band1Ideal m →
    (∀ c : Dev Cert.Band1Ideal.nD,
      m' ((c.tc : Thread Cert.Band1RefIdeal.nD Cert.Band1RefIdeal.τ).loc Cert.Band1RefIdeal.main_arg0) = m ((c.tc : Thread Cert.Band1Ideal.nD Cert.Band1Ideal.τ).loc Cert.Band1Ideal.main_arg0)
      ∧ m' ((c.tc : Thread Cert.Band1RefIdeal.nD Cert.Band1RefIdeal.τ).loc Cert.Band1RefIdeal.main_arg1) = m ((c.tc : Thread Cert.Band1Ideal.nD Cert.Band1Ideal.τ).loc Cert.Band1Ideal.main_arg1)) →
    ∃ (v0 : (c : Dev Cert.Band1Ideal.nD) → Buf (Elt Ideal) ((c.tc : Thread Cert.Band1Ideal.nD Cert.Band1Ideal.τ).loc Cert.Band1Ideal.main_v50_0)) (v1 : (c : Dev Cert.Band1Ideal.nD) → Buf (Elt Ideal) ((c.tc : Thread Cert.Band1Ideal.nD Cert.Band1Ideal.τ).loc Cert.Band1Ideal.main_v50_1)),
      θ_run (Cert.Band1Ideal.defs (F := Ideal)) (onTc (τ := Cert.Band1Ideal.τ) (Cert.Band1Ideal.main (F := Ideal))) ⟨m, fun _ => 0, g⟩ (fun r => ∀ c : Dev Cert.Band1Ideal.nD,
          r.2.mem ((c.tc : Thread Cert.Band1Ideal.nD Cert.Band1Ideal.τ).loc Cert.Band1Ideal.main_v50_0) = v0 c
          ∧ r.2.mem ((c.tc : Thread Cert.Band1Ideal.nD Cert.Band1Ideal.τ).loc Cert.Band1Ideal.main_v50_1) = v1 c
          ∧ r.2.mem ((c.tc : Thread Cert.Band1Ideal.nD Cert.Band1Ideal.τ).loc Cert.Band1Ideal.main_arg0) = m ((c.tc : Thread Cert.Band1Ideal.nD Cert.Band1Ideal.τ).loc Cert.Band1Ideal.main_arg0)
          ∧ r.2.mem ((c.tc : Thread Cert.Band1Ideal.nD Cert.Band1Ideal.τ).loc Cert.Band1Ideal.main_arg1) = m ((c.tc : Thread Cert.Band1Ideal.nD Cert.Band1Ideal.τ).loc Cert.Band1Ideal.main_arg1))
      ∧ θ_run (Cert.Band1RefIdeal.defs (F := Ideal)) (onTc (τ := Cert.Band1RefIdeal.τ) (Cert.Band1RefIdeal.main (F := Ideal))) ⟨m', fun _ => 0, g'⟩ (fun r => ∀ c : Dev Cert.Band1RefIdeal.nD,
          r.2.mem ((c.tc : Thread Cert.Band1RefIdeal.nD Cert.Band1RefIdeal.τ).loc Cert.Band1RefIdeal.main_v56) = v0 c
          ∧ r.2.mem ((c.tc : Thread Cert.Band1RefIdeal.nD Cert.Band1RefIdeal.τ).loc Cert.Band1RefIdeal.main_v57) = v1 c
          ∧ r.2.mem ((c.tc : Thread Cert.Band1RefIdeal.nD Cert.Band1RefIdeal.τ).loc Cert.Band1RefIdeal.main_arg0) = m' ((c.tc : Thread Cert.Band1RefIdeal.nD Cert.Band1RefIdeal.τ).loc Cert.Band1RefIdeal.main_arg0)
          ∧ r.2.mem ((c.tc : Thread Cert.Band1RefIdeal.nD Cert.Band1RefIdeal.τ).loc Cert.Band1RefIdeal.main_arg1) = m' ((c.tc : Thread Cert.Band1RefIdeal.nD Cert.Band1RefIdeal.τ).loc Cert.Band1RefIdeal.main_arg1))

def preserves_Band4_Band4Ideal : Prop :=
  True

def algebraic_Band4Ideal_Band4RefIdeal [hBand4Ideal : Cert.Band4Ideal.Facts] [hBand4RefIdeal : Cert.Band4RefIdeal.Facts] : Prop :=
  ∀ (m : (ℓ : Loc Cert.Band4Ideal.nD Cert.Band4Ideal.τ Cert.Band4Ideal.sig) → Buf (Elt Ideal) ℓ) (g : Dev Cert.Band4Ideal.nD → PrngReg)
    (m' : (ℓ : Loc Cert.Band4RefIdeal.nD Cert.Band4RefIdeal.τ Cert.Band4RefIdeal.sig) → Buf (Elt Ideal) ℓ) (g' : Dev Cert.Band4RefIdeal.nD → PrngReg), Pre_Band4Ideal m →
    (∀ c : Dev Cert.Band4Ideal.nD,
      m' ((c.tc : Thread Cert.Band4RefIdeal.nD Cert.Band4RefIdeal.τ).loc Cert.Band4RefIdeal.main_arg0) = m ((c.tc : Thread Cert.Band4Ideal.nD Cert.Band4Ideal.τ).loc Cert.Band4Ideal.main_arg0)
      ∧ m' ((c.tc : Thread Cert.Band4RefIdeal.nD Cert.Band4RefIdeal.τ).loc Cert.Band4RefIdeal.main_arg1) = m ((c.tc : Thread Cert.Band4Ideal.nD Cert.Band4Ideal.τ).loc Cert.Band4Ideal.main_arg1)) →
    ∃ (v0 : (c : Dev Cert.Band4Ideal.nD) → Buf (Elt Ideal) ((c.tc : Thread Cert.Band4Ideal.nD Cert.Band4Ideal.τ).loc Cert.Band4Ideal.main_v50_0)) (v1 : (c : Dev Cert.Band4Ideal.nD) → Buf (Elt Ideal) ((c.tc : Thread Cert.Band4Ideal.nD Cert.Band4Ideal.τ).loc Cert.Band4Ideal.main_v50_1)),
      θ_run (Cert.Band4Ideal.defs (F := Ideal)) (onTc (τ := Cert.Band4Ideal.τ) (Cert.Band4Ideal.main (F := Ideal))) ⟨m, fun _ => 0, g⟩ (fun r => ∀ c : Dev Cert.Band4Ideal.nD,
          r.2.mem ((c.tc : Thread Cert.Band4Ideal.nD Cert.Band4Ideal.τ).loc Cert.Band4Ideal.main_v50_0) = v0 c
          ∧ r.2.mem ((c.tc : Thread Cert.Band4Ideal.nD Cert.Band4Ideal.τ).loc Cert.Band4Ideal.main_v50_1) = v1 c
          ∧ r.2.mem ((c.tc : Thread Cert.Band4Ideal.nD Cert.Band4Ideal.τ).loc Cert.Band4Ideal.main_arg0) = m ((c.tc : Thread Cert.Band4Ideal.nD Cert.Band4Ideal.τ).loc Cert.Band4Ideal.main_arg0)
          ∧ r.2.mem ((c.tc : Thread Cert.Band4Ideal.nD Cert.Band4Ideal.τ).loc Cert.Band4Ideal.main_arg1) = m ((c.tc : Thread Cert.Band4Ideal.nD Cert.Band4Ideal.τ).loc Cert.Band4Ideal.main_arg1))
      ∧ θ_run (Cert.Band4RefIdeal.defs (F := Ideal)) (onTc (τ := Cert.Band4RefIdeal.τ) (Cert.Band4RefIdeal.main (F := Ideal))) ⟨m', fun _ => 0, g'⟩ (fun r => ∀ c : Dev Cert.Band4RefIdeal.nD,
          r.2.mem ((c.tc : Thread Cert.Band4RefIdeal.nD Cert.Band4RefIdeal.τ).loc Cert.Band4RefIdeal.main_v56) = v0 c
          ∧ r.2.mem ((c.tc : Thread Cert.Band4RefIdeal.nD Cert.Band4RefIdeal.τ).loc Cert.Band4RefIdeal.main_v57) = v1 c
          ∧ r.2.mem ((c.tc : Thread Cert.Band4RefIdeal.nD Cert.Band4RefIdeal.τ).loc Cert.Band4RefIdeal.main_arg0) = m' ((c.tc : Thread Cert.Band4RefIdeal.nD Cert.Band4RefIdeal.τ).loc Cert.Band4RefIdeal.main_arg0)
          ∧ r.2.mem ((c.tc : Thread Cert.Band4RefIdeal.nD Cert.Band4RefIdeal.τ).loc Cert.Band4RefIdeal.main_arg1) = m' ((c.tc : Thread Cert.Band4RefIdeal.nD Cert.Band4RefIdeal.τ).loc Cert.Band4RefIdeal.main_arg1))

def preserves_Band16_Band16Ideal : Prop :=
  True

def algebraic_Band16Ideal_Band16RefIdeal [hBand16Ideal : Cert.Band16Ideal.Facts] [hBand16RefIdeal : Cert.Band16RefIdeal.Facts] : Prop :=
  ∀ (m : (ℓ : Loc Cert.Band16Ideal.nD Cert.Band16Ideal.τ Cert.Band16Ideal.sig) → Buf (Elt Ideal) ℓ) (g : Dev Cert.Band16Ideal.nD → PrngReg)
    (m' : (ℓ : Loc Cert.Band16RefIdeal.nD Cert.Band16RefIdeal.τ Cert.Band16RefIdeal.sig) → Buf (Elt Ideal) ℓ) (g' : Dev Cert.Band16RefIdeal.nD → PrngReg), Pre_Band16Ideal m →
    (∀ c : Dev Cert.Band16Ideal.nD,
      m' ((c.tc : Thread Cert.Band16RefIdeal.nD Cert.Band16RefIdeal.τ).loc Cert.Band16RefIdeal.main_arg0) = m ((c.tc : Thread Cert.Band16Ideal.nD Cert.Band16Ideal.τ).loc Cert.Band16Ideal.main_arg0)
      ∧ m' ((c.tc : Thread Cert.Band16RefIdeal.nD Cert.Band16RefIdeal.τ).loc Cert.Band16RefIdeal.main_arg1) = m ((c.tc : Thread Cert.Band16Ideal.nD Cert.Band16Ideal.τ).loc Cert.Band16Ideal.main_arg1)) →
    ∃ (v0 : (c : Dev Cert.Band16Ideal.nD) → Buf (Elt Ideal) ((c.tc : Thread Cert.Band16Ideal.nD Cert.Band16Ideal.τ).loc Cert.Band16Ideal.main_v50_0)) (v1 : (c : Dev Cert.Band16Ideal.nD) → Buf (Elt Ideal) ((c.tc : Thread Cert.Band16Ideal.nD Cert.Band16Ideal.τ).loc Cert.Band16Ideal.main_v50_1)),
      θ_run (Cert.Band16Ideal.defs (F := Ideal)) (onTc (τ := Cert.Band16Ideal.τ) (Cert.Band16Ideal.main (F := Ideal))) ⟨m, fun _ => 0, g⟩ (fun r => ∀ c : Dev Cert.Band16Ideal.nD,
          r.2.mem ((c.tc : Thread Cert.Band16Ideal.nD Cert.Band16Ideal.τ).loc Cert.Band16Ideal.main_v50_0) = v0 c
          ∧ r.2.mem ((c.tc : Thread Cert.Band16Ideal.nD Cert.Band16Ideal.τ).loc Cert.Band16Ideal.main_v50_1) = v1 c
          ∧ r.2.mem ((c.tc : Thread Cert.Band16Ideal.nD Cert.Band16Ideal.τ).loc Cert.Band16Ideal.main_arg0) = m ((c.tc : Thread Cert.Band16Ideal.nD Cert.Band16Ideal.τ).loc Cert.Band16Ideal.main_arg0)
          ∧ r.2.mem ((c.tc : Thread Cert.Band16Ideal.nD Cert.Band16Ideal.τ).loc Cert.Band16Ideal.main_arg1) = m ((c.tc : Thread Cert.Band16Ideal.nD Cert.Band16Ideal.τ).loc Cert.Band16Ideal.main_arg1))
      ∧ θ_run (Cert.Band16RefIdeal.defs (F := Ideal)) (onTc (τ := Cert.Band16RefIdeal.τ) (Cert.Band16RefIdeal.main (F := Ideal))) ⟨m', fun _ => 0, g'⟩ (fun r => ∀ c : Dev Cert.Band16RefIdeal.nD,
          r.2.mem ((c.tc : Thread Cert.Band16RefIdeal.nD Cert.Band16RefIdeal.τ).loc Cert.Band16RefIdeal.main_v56) = v0 c
          ∧ r.2.mem ((c.tc : Thread Cert.Band16RefIdeal.nD Cert.Band16RefIdeal.τ).loc Cert.Band16RefIdeal.main_v57) = v1 c
          ∧ r.2.mem ((c.tc : Thread Cert.Band16RefIdeal.nD Cert.Band16RefIdeal.τ).loc Cert.Band16RefIdeal.main_arg0) = m' ((c.tc : Thread Cert.Band16RefIdeal.nD Cert.Band16RefIdeal.τ).loc Cert.Band16RefIdeal.main_arg0)
          ∧ r.2.mem ((c.tc : Thread Cert.Band16RefIdeal.nD Cert.Band16RefIdeal.τ).loc Cert.Band16RefIdeal.main_arg1) = m' ((c.tc : Thread Cert.Band16RefIdeal.nD Cert.Band16RefIdeal.τ).loc Cert.Band16RefIdeal.main_arg1))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v2_0)) (v1 : (c : Dev Cert.MemKvIdeal.nD) → Buf (Elt Ideal) ((c.tc : Thread Cert.MemKvIdeal.nD Cert.MemKvIdeal.τ).loc Cert.MemKvIdeal.main_v2_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v2_0) = v0 c
          ∧ r.2.mem ((c.tc : Thread Cert.MemKvIdeal.nD Cert.MemKvIdeal.τ).loc Cert.MemKvIdeal.main_v2_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v16) = v0 c
          ∧ r.2.mem ((c.tc : Thread Cert.MemKvRefIdeal.nD Cert.MemKvRefIdeal.τ).loc Cert.MemKvRefIdeal.main_v17) = v1 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2))

def preserves_AttProj_AttProjIdeal : Prop :=
  True

def algebraic_AttProjIdeal_AttProjRefIdeal [hAttProjIdeal : Cert.AttProjIdeal.Facts] [hAttProjRefIdeal : Cert.AttProjRefIdeal.Facts] : Prop :=
  ∀ (m : (ℓ : Loc Cert.AttProjIdeal.nD Cert.AttProjIdeal.τ Cert.AttProjIdeal.sig) → Buf (Elt Ideal) ℓ) (g : Dev Cert.AttProjIdeal.nD → PrngReg)
    (m' : (ℓ : Loc Cert.AttProjRefIdeal.nD Cert.AttProjRefIdeal.τ Cert.AttProjRefIdeal.sig) → Buf (Elt Ideal) ℓ) (g' : Dev Cert.AttProjRefIdeal.nD → PrngReg), Pre_AttProjIdeal m →
    (∀ c : Dev Cert.AttProjIdeal.nD,
      m' ((c.tc : Thread Cert.AttProjRefIdeal.nD Cert.AttProjRefIdeal.τ).loc Cert.AttProjRefIdeal.main_arg0) = m ((c.tc : Thread Cert.AttProjIdeal.nD Cert.AttProjIdeal.τ).loc Cert.AttProjIdeal.main_arg0)
      ∧ m' ((c.tc : Thread Cert.AttProjRefIdeal.nD Cert.AttProjRefIdeal.τ).loc Cert.AttProjRefIdeal.main_arg1) = m ((c.tc : Thread Cert.AttProjIdeal.nD Cert.AttProjIdeal.τ).loc Cert.AttProjIdeal.main_arg1)
      ∧ m' ((c.tc : Thread Cert.AttProjRefIdeal.nD Cert.AttProjRefIdeal.τ).loc Cert.AttProjRefIdeal.main_arg2) = m ((c.tc : Thread Cert.AttProjIdeal.nD Cert.AttProjIdeal.τ).loc Cert.AttProjIdeal.main_arg2)) →
    ∃ (v0 : (c : Dev Cert.AttProjIdeal.nD) → Buf (Elt Ideal) ((c.tc : Thread Cert.AttProjIdeal.nD Cert.AttProjIdeal.τ).loc Cert.AttProjIdeal.main_v16_0)) (v1 : (c : Dev Cert.AttProjIdeal.nD) → Buf (Elt Ideal) ((c.tc : Thread Cert.AttProjIdeal.nD Cert.AttProjIdeal.τ).loc Cert.AttProjIdeal.main_v16_1)) (v2 : (c : Dev Cert.AttProjIdeal.nD) → Buf (Elt Ideal) ((c.tc : Thread Cert.AttProjIdeal.nD Cert.AttProjIdeal.τ).loc Cert.AttProjIdeal.main_v16_2)) (v3 : (c : Dev Cert.AttProjIdeal.nD) → Buf (Elt Ideal) ((c.tc : Thread Cert.AttProjIdeal.nD Cert.AttProjIdeal.τ).loc Cert.AttProjIdeal.main_v16_3)),
      θ_run (Cert.AttProjIdeal.defs (F := Ideal)) (onTc (τ := Cert.AttProjIdeal.τ) (Cert.AttProjIdeal.main (F := Ideal))) ⟨m, fun _ => 0, g⟩ (fun r => ∀ c : Dev Cert.AttProjIdeal.nD,
          r.2.mem ((c.tc : Thread Cert.AttProjIdeal.nD Cert.AttProjIdeal.τ).loc Cert.AttProjIdeal.main_v16_0) = v0 c
          ∧ r.2.mem ((c.tc : Thread Cert.AttProjIdeal.nD Cert.AttProjIdeal.τ).loc Cert.AttProjIdeal.main_v16_1) = v1 c
          ∧ r.2.mem ((c.tc : Thread Cert.AttProjIdeal.nD Cert.AttProjIdeal.τ).loc Cert.AttProjIdeal.main_v16_2) = v2 c
          ∧ r.2.mem ((c.tc : Thread Cert.AttProjIdeal.nD Cert.AttProjIdeal.τ).loc Cert.AttProjIdeal.main_v16_3) = v3 c
          ∧ r.2.mem ((c.tc : Thread Cert.AttProjIdeal.nD Cert.AttProjIdeal.τ).loc Cert.AttProjIdeal.main_arg0) = m ((c.tc : Thread Cert.AttProjIdeal.nD Cert.AttProjIdeal.τ).loc Cert.AttProjIdeal.main_arg0)
          ∧ r.2.mem ((c.tc : Thread Cert.AttProjIdeal.nD Cert.AttProjIdeal.τ).loc Cert.AttProjIdeal.main_arg1) = m ((c.tc : Thread Cert.AttProjIdeal.nD Cert.AttProjIdeal.τ).loc Cert.AttProjIdeal.main_arg1)
          ∧ r.2.mem ((c.tc : Thread Cert.AttProjIdeal.nD Cert.AttProjIdeal.τ).loc Cert.AttProjIdeal.main_arg2) = m ((c.tc : Thread Cert.AttProjIdeal.nD Cert.AttProjIdeal.τ).loc Cert.AttProjIdeal.main_arg2))
      ∧ θ_run (Cert.AttProjRefIdeal.defs (F := Ideal)) (onTc (τ := Cert.AttProjRefIdeal.τ) (Cert.AttProjRefIdeal.main (F := Ideal))) ⟨m', fun _ => 0, g'⟩ (fun r => ∀ c : Dev Cert.AttProjRefIdeal.nD,
          r.2.mem ((c.tc : Thread Cert.AttProjRefIdeal.nD Cert.AttProjRefIdeal.τ).loc Cert.AttProjRefIdeal.main_v22) = v0 c
          ∧ r.2.mem ((c.tc : Thread Cert.AttProjRefIdeal.nD Cert.AttProjRefIdeal.τ).loc Cert.AttProjRefIdeal.main_v28) = v1 c
          ∧ r.2.mem ((c.tc : Thread Cert.AttProjRefIdeal.nD Cert.AttProjRefIdeal.τ).loc Cert.AttProjRefIdeal.main_v34) = v2 c
          ∧ r.2.mem ((c.tc : Thread Cert.AttProjRefIdeal.nD Cert.AttProjRefIdeal.τ).loc Cert.AttProjRefIdeal.main_v35) = v3 c
          ∧ r.2.mem ((c.tc : Thread Cert.AttProjRefIdeal.nD Cert.AttProjRefIdeal.τ).loc Cert.AttProjRefIdeal.main_arg0) = m' ((c.tc : Thread Cert.AttProjRefIdeal.nD Cert.AttProjRefIdeal.τ).loc Cert.AttProjRefIdeal.main_arg0)
          ∧ r.2.mem ((c.tc : Thread Cert.AttProjRefIdeal.nD Cert.AttProjRefIdeal.τ).loc Cert.AttProjRefIdeal.main_arg1) = m' ((c.tc : Thread Cert.AttProjRefIdeal.nD Cert.AttProjRefIdeal.τ).loc Cert.AttProjRefIdeal.main_arg1)
          ∧ r.2.mem ((c.tc : Thread Cert.AttProjRefIdeal.nD Cert.AttProjRefIdeal.τ).loc Cert.AttProjRefIdeal.main_arg2) = m' ((c.tc : Thread Cert.AttProjRefIdeal.nD Cert.AttProjRefIdeal.τ).loc Cert.AttProjRefIdeal.main_arg2))

def preserves_AttOut_AttOutIdeal : Prop :=
  True

def algebraic_AttOutIdeal_AttOutRefIdeal [hAttOutIdeal : Cert.AttOutIdeal.Facts] [hAttOutRefIdeal : Cert.AttOutRefIdeal.Facts] : Prop :=
  ∀ (m : (ℓ : Loc Cert.AttOutIdeal.nD Cert.AttOutIdeal.τ Cert.AttOutIdeal.sig) → Buf (Elt Ideal) ℓ) (g : Dev Cert.AttOutIdeal.nD → PrngReg)
    (m' : (ℓ : Loc Cert.AttOutRefIdeal.nD Cert.AttOutRefIdeal.τ Cert.AttOutRefIdeal.sig) → Buf (Elt Ideal) ℓ) (g' : Dev Cert.AttOutRefIdeal.nD → PrngReg), Pre_AttOutIdeal m →
    (∀ c : Dev Cert.AttOutIdeal.nD,
      m' ((c.tc : Thread Cert.AttOutRefIdeal.nD Cert.AttOutRefIdeal.τ).loc Cert.AttOutRefIdeal.main_arg0) = m ((c.tc : Thread Cert.AttOutIdeal.nD Cert.AttOutIdeal.τ).loc Cert.AttOutIdeal.main_arg0)
      ∧ m' ((c.tc : Thread Cert.AttOutRefIdeal.nD Cert.AttOutRefIdeal.τ).loc Cert.AttOutRefIdeal.main_arg1) = m ((c.tc : Thread Cert.AttOutIdeal.nD Cert.AttOutIdeal.τ).loc Cert.AttOutIdeal.main_arg1)
      ∧ m' ((c.tc : Thread Cert.AttOutRefIdeal.nD Cert.AttOutRefIdeal.τ).loc Cert.AttOutRefIdeal.main_arg2) = m ((c.tc : Thread Cert.AttOutIdeal.nD Cert.AttOutIdeal.τ).loc Cert.AttOutIdeal.main_arg2)
      ∧ m' ((c.tc : Thread Cert.AttOutRefIdeal.nD Cert.AttOutRefIdeal.τ).loc Cert.AttOutRefIdeal.main_arg3) = m ((c.tc : Thread Cert.AttOutIdeal.nD Cert.AttOutIdeal.τ).loc Cert.AttOutIdeal.main_arg3)
      ∧ m' ((c.tc : Thread Cert.AttOutRefIdeal.nD Cert.AttOutRefIdeal.τ).loc Cert.AttOutRefIdeal.main_arg4) = m ((c.tc : Thread Cert.AttOutIdeal.nD Cert.AttOutIdeal.τ).loc Cert.AttOutIdeal.main_arg4)
      ∧ m' ((c.tc : Thread Cert.AttOutRefIdeal.nD Cert.AttOutRefIdeal.τ).loc Cert.AttOutRefIdeal.main_arg5) = m ((c.tc : Thread Cert.AttOutIdeal.nD Cert.AttOutIdeal.τ).loc Cert.AttOutIdeal.main_arg5)
      ∧ m' ((c.tc : Thread Cert.AttOutRefIdeal.nD Cert.AttOutRefIdeal.τ).loc Cert.AttOutRefIdeal.main_arg6) = m ((c.tc : Thread Cert.AttOutIdeal.nD Cert.AttOutIdeal.τ).loc Cert.AttOutIdeal.main_arg6)
      ∧ m' ((c.tc : Thread Cert.AttOutRefIdeal.nD Cert.AttOutRefIdeal.τ).loc Cert.AttOutRefIdeal.main_arg7) = m ((c.tc : Thread Cert.AttOutIdeal.nD Cert.AttOutIdeal.τ).loc Cert.AttOutIdeal.main_arg7)
      ∧ m' ((c.tc : Thread Cert.AttOutRefIdeal.nD Cert.AttOutRefIdeal.τ).loc Cert.AttOutRefIdeal.main_arg8) = m ((c.tc : Thread Cert.AttOutIdeal.nD Cert.AttOutIdeal.τ).loc Cert.AttOutIdeal.main_arg8)
      ∧ m' ((c.tc : Thread Cert.AttOutRefIdeal.nD Cert.AttOutRefIdeal.τ).loc Cert.AttOutRefIdeal.main_arg9) = m ((c.tc : Thread Cert.AttOutIdeal.nD Cert.AttOutIdeal.τ).loc Cert.AttOutIdeal.main_arg9)
      ∧ m' ((c.tc : Thread Cert.AttOutRefIdeal.nD Cert.AttOutRefIdeal.τ).loc Cert.AttOutRefIdeal.main_arg10) = m ((c.tc : Thread Cert.AttOutIdeal.nD Cert.AttOutIdeal.τ).loc Cert.AttOutIdeal.main_arg10)
      ∧ m' ((c.tc : Thread Cert.AttOutRefIdeal.nD Cert.AttOutRefIdeal.τ).loc Cert.AttOutRefIdeal.main_arg11) = m ((c.tc : Thread Cert.AttOutIdeal.nD Cert.AttOutIdeal.τ).loc Cert.AttOutIdeal.main_arg11)) →
    ∃ (v0 : (c : Dev Cert.AttOutIdeal.nD) → Buf (Elt Ideal) ((c.tc : Thread Cert.AttOutIdeal.nD Cert.AttOutIdeal.τ).loc Cert.AttOutIdeal.main_v2)),
      θ_run (Cert.AttOutIdeal.defs (F := Ideal)) (onTc (τ := Cert.AttOutIdeal.τ) (Cert.AttOutIdeal.main (F := Ideal))) ⟨m, fun _ => 0, g⟩ (fun r => ∀ c : Dev Cert.AttOutIdeal.nD,
          r.2.mem ((c.tc : Thread Cert.AttOutIdeal.nD Cert.AttOutIdeal.τ).loc Cert.AttOutIdeal.main_v2) = v0 c
          ∧ r.2.mem ((c.tc : Thread Cert.AttOutIdeal.nD Cert.AttOutIdeal.τ).loc Cert.AttOutIdeal.main_arg0) = m ((c.tc : Thread Cert.AttOutIdeal.nD Cert.AttOutIdeal.τ).loc Cert.AttOutIdeal.main_arg0)
          ∧ r.2.mem ((c.tc : Thread Cert.AttOutIdeal.nD Cert.AttOutIdeal.τ).loc Cert.AttOutIdeal.main_arg1) = m ((c.tc : Thread Cert.AttOutIdeal.nD Cert.AttOutIdeal.τ).loc Cert.AttOutIdeal.main_arg1)
          ∧ r.2.mem ((c.tc : Thread Cert.AttOutIdeal.nD Cert.AttOutIdeal.τ).loc Cert.AttOutIdeal.main_arg2) = m ((c.tc : Thread Cert.AttOutIdeal.nD Cert.AttOutIdeal.τ).loc Cert.AttOutIdeal.main_arg2)
          ∧ r.2.mem ((c.tc : Thread Cert.AttOutIdeal.nD Cert.AttOutIdeal.τ).loc Cert.AttOutIdeal.main_arg3) = m ((c.tc : Thread Cert.AttOutIdeal.nD Cert.AttOutIdeal.τ).loc Cert.AttOutIdeal.main_arg3)
          ∧ r.2.mem ((c.tc : Thread Cert.AttOutIdeal.nD Cert.AttOutIdeal.τ).loc Cert.AttOutIdeal.main_arg4) = m ((c.tc : Thread Cert.AttOutIdeal.nD Cert.AttOutIdeal.τ).loc Cert.AttOutIdeal.main_arg4)
          ∧ r.2.mem ((c.tc : Thread Cert.AttOutIdeal.nD Cert.AttOutIdeal.τ).loc Cert.AttOutIdeal.main_arg5) = m ((c.tc : Thread Cert.AttOutIdeal.nD Cert.AttOutIdeal.τ).loc Cert.AttOutIdeal.main_arg5)
          ∧ r.2.mem ((c.tc : Thread Cert.AttOutIdeal.nD Cert.AttOutIdeal.τ).loc Cert.AttOutIdeal.main_arg6) = m ((c.tc : Thread Cert.AttOutIdeal.nD Cert.AttOutIdeal.τ).loc Cert.AttOutIdeal.main_arg6)
          ∧ r.2.mem ((c.tc : Thread Cert.AttOutIdeal.nD Cert.AttOutIdeal.τ).loc Cert.AttOutIdeal.main_arg7) = m ((c.tc : Thread Cert.AttOutIdeal.nD Cert.AttOutIdeal.τ).loc Cert.AttOutIdeal.main_arg7)
          ∧ r.2.mem ((c.tc : Thread Cert.AttOutIdeal.nD Cert.AttOutIdeal.τ).loc Cert.AttOutIdeal.main_arg8) = m ((c.tc : Thread Cert.AttOutIdeal.nD Cert.AttOutIdeal.τ).loc Cert.AttOutIdeal.main_arg8)
          ∧ r.2.mem ((c.tc : Thread Cert.AttOutIdeal.nD Cert.AttOutIdeal.τ).loc Cert.AttOutIdeal.main_arg9) = m ((c.tc : Thread Cert.AttOutIdeal.nD Cert.AttOutIdeal.τ).loc Cert.AttOutIdeal.main_arg9)
          ∧ r.2.mem ((c.tc : Thread Cert.AttOutIdeal.nD Cert.AttOutIdeal.τ).loc Cert.AttOutIdeal.main_arg10) = m ((c.tc : Thread Cert.AttOutIdeal.nD Cert.AttOutIdeal.τ).loc Cert.AttOutIdeal.main_arg10)
          ∧ r.2.mem ((c.tc : Thread Cert.AttOutIdeal.nD Cert.AttOutIdeal.τ).loc Cert.AttOutIdeal.main_arg11) = m ((c.tc : Thread Cert.AttOutIdeal.nD Cert.AttOutIdeal.τ).loc Cert.AttOutIdeal.main_arg11))
      ∧ θ_run (Cert.AttOutRefIdeal.defs (F := Ideal)) (onTc (τ := Cert.AttOutRefIdeal.τ) (Cert.AttOutRefIdeal.main (F := Ideal))) ⟨m', fun _ => 0, g'⟩ (fun r => ∀ c : Dev Cert.AttOutRefIdeal.nD,
          r.2.mem ((c.tc : Thread Cert.AttOutRefIdeal.nD Cert.AttOutRefIdeal.τ).loc Cert.AttOutRefIdeal.main_v70) = v0 c
          ∧ r.2.mem ((c.tc : Thread Cert.AttOutRefIdeal.nD Cert.AttOutRefIdeal.τ).loc Cert.AttOutRefIdeal.main_arg0) = m' ((c.tc : Thread Cert.AttOutRefIdeal.nD Cert.AttOutRefIdeal.τ).loc Cert.AttOutRefIdeal.main_arg0)
          ∧ r.2.mem ((c.tc : Thread Cert.AttOutRefIdeal.nD Cert.AttOutRefIdeal.τ).loc Cert.AttOutRefIdeal.main_arg1) = m' ((c.tc : Thread Cert.AttOutRefIdeal.nD Cert.AttOutRefIdeal.τ).loc Cert.AttOutRefIdeal.main_arg1)
          ∧ r.2.mem ((c.tc : Thread Cert.AttOutRefIdeal.nD Cert.AttOutRefIdeal.τ).loc Cert.AttOutRefIdeal.main_arg2) = m' ((c.tc : Thread Cert.AttOutRefIdeal.nD Cert.AttOutRefIdeal.τ).loc Cert.AttOutRefIdeal.main_arg2)
          ∧ r.2.mem ((c.tc : Thread Cert.AttOutRefIdeal.nD Cert.AttOutRefIdeal.τ).loc Cert.AttOutRefIdeal.main_arg3) = m' ((c.tc : Thread Cert.AttOutRefIdeal.nD Cert.AttOutRefIdeal.τ).loc Cert.AttOutRefIdeal.main_arg3)
          ∧ r.2.mem ((c.tc : Thread Cert.AttOutRefIdeal.nD Cert.AttOutRefIdeal.τ).loc Cert.AttOutRefIdeal.main_arg4) = m' ((c.tc : Thread Cert.AttOutRefIdeal.nD Cert.AttOutRefIdeal.τ).loc Cert.AttOutRefIdeal.main_arg4)
          ∧ r.2.mem ((c.tc : Thread Cert.AttOutRefIdeal.nD Cert.AttOutRefIdeal.τ).loc Cert.AttOutRefIdeal.main_arg5) = m' ((c.tc : Thread Cert.AttOutRefIdeal.nD Cert.AttOutRefIdeal.τ).loc Cert.AttOutRefIdeal.main_arg5)
          ∧ r.2.mem ((c.tc : Thread Cert.AttOutRefIdeal.nD Cert.AttOutRefIdeal.τ).loc Cert.AttOutRefIdeal.main_arg6) = m' ((c.tc : Thread Cert.AttOutRefIdeal.nD Cert.AttOutRefIdeal.τ).loc Cert.AttOutRefIdeal.main_arg6)
          ∧ r.2.mem ((c.tc : Thread Cert.AttOutRefIdeal.nD Cert.AttOutRefIdeal.τ).loc Cert.AttOutRefIdeal.main_arg7) = m' ((c.tc : Thread Cert.AttOutRefIdeal.nD Cert.AttOutRefIdeal.τ).loc Cert.AttOutRefIdeal.main_arg7)
          ∧ r.2.mem ((c.tc : Thread Cert.AttOutRefIdeal.nD Cert.AttOutRefIdeal.τ).loc Cert.AttOutRefIdeal.main_arg8) = m' ((c.tc : Thread Cert.AttOutRefIdeal.nD Cert.AttOutRefIdeal.τ).loc Cert.AttOutRefIdeal.main_arg8)
          ∧ r.2.mem ((c.tc : Thread Cert.AttOutRefIdeal.nD Cert.AttOutRefIdeal.τ).loc Cert.AttOutRefIdeal.main_arg9) = m' ((c.tc : Thread Cert.AttOutRefIdeal.nD Cert.AttOutRefIdeal.τ).loc Cert.AttOutRefIdeal.main_arg9)
          ∧ r.2.mem ((c.tc : Thread Cert.AttOutRefIdeal.nD Cert.AttOutRefIdeal.τ).loc Cert.AttOutRefIdeal.main_arg10) = m' ((c.tc : Thread Cert.AttOutRefIdeal.nD Cert.AttOutRefIdeal.τ).loc Cert.AttOutRefIdeal.main_arg10)
          ∧ r.2.mem ((c.tc : Thread Cert.AttOutRefIdeal.nD Cert.AttOutRefIdeal.τ).loc Cert.AttOutRefIdeal.main_arg11) = m' ((c.tc : Thread Cert.AttOutRefIdeal.nD Cert.AttOutRefIdeal.τ).loc Cert.AttOutRefIdeal.main_arg11))

def preserves_DnOut_DnOutIdeal : Prop :=
  IdealRules.named_const.Statement Cert.DnOutIdeal.κ "neg_log2e" .f32 0xBFB8AA3B#32 ((-((Real.log 2)⁻¹) : ℝ) : EReal)

def algebraic_DnOutIdeal_DnOutRefIdeal [hDnOutIdeal : Cert.DnOutIdeal.Facts] [hDnOutRefIdeal : Cert.DnOutRefIdeal.Facts] : Prop :=
  ∀ (m : (ℓ : Loc Cert.DnOutIdeal.nD Cert.DnOutIdeal.τ Cert.DnOutIdeal.sig) → Buf (Elt Ideal) ℓ) (g : Dev Cert.DnOutIdeal.nD → PrngReg)
    (m' : (ℓ : Loc Cert.DnOutRefIdeal.nD Cert.DnOutRefIdeal.τ Cert.DnOutRefIdeal.sig) → Buf (Elt Ideal) ℓ) (g' : Dev Cert.DnOutRefIdeal.nD → PrngReg), Pre_DnOutIdeal m →
    (∀ c : Dev Cert.DnOutIdeal.nD,
      m' ((c.tc : Thread Cert.DnOutRefIdeal.nD Cert.DnOutRefIdeal.τ).loc Cert.DnOutRefIdeal.main_arg0) = m ((c.tc : Thread Cert.DnOutIdeal.nD Cert.DnOutIdeal.τ).loc Cert.DnOutIdeal.main_arg0)
      ∧ m' ((c.tc : Thread Cert.DnOutRefIdeal.nD Cert.DnOutRefIdeal.τ).loc Cert.DnOutRefIdeal.main_arg1) = m ((c.tc : Thread Cert.DnOutIdeal.nD Cert.DnOutIdeal.τ).loc Cert.DnOutIdeal.main_arg1)
      ∧ m' ((c.tc : Thread Cert.DnOutRefIdeal.nD Cert.DnOutRefIdeal.τ).loc Cert.DnOutRefIdeal.main_arg2) = m ((c.tc : Thread Cert.DnOutIdeal.nD Cert.DnOutIdeal.τ).loc Cert.DnOutIdeal.main_arg2)
      ∧ m' ((c.tc : Thread Cert.DnOutRefIdeal.nD Cert.DnOutRefIdeal.τ).loc Cert.DnOutRefIdeal.main_arg3) = m ((c.tc : Thread Cert.DnOutIdeal.nD Cert.DnOutIdeal.τ).loc Cert.DnOutIdeal.main_arg3)
      ∧ m' ((c.tc : Thread Cert.DnOutRefIdeal.nD Cert.DnOutRefIdeal.τ).loc Cert.DnOutRefIdeal.main_arg4) = m ((c.tc : Thread Cert.DnOutIdeal.nD Cert.DnOutIdeal.τ).loc Cert.DnOutIdeal.main_arg4)
      ∧ m' ((c.tc : Thread Cert.DnOutRefIdeal.nD Cert.DnOutRefIdeal.τ).loc Cert.DnOutRefIdeal.main_arg5) = m ((c.tc : Thread Cert.DnOutIdeal.nD Cert.DnOutIdeal.τ).loc Cert.DnOutIdeal.main_arg5)
      ∧ m' ((c.tc : Thread Cert.DnOutRefIdeal.nD Cert.DnOutRefIdeal.τ).loc Cert.DnOutRefIdeal.main_arg6) = m ((c.tc : Thread Cert.DnOutIdeal.nD Cert.DnOutIdeal.τ).loc Cert.DnOutIdeal.main_arg6)
      ∧ m' ((c.tc : Thread Cert.DnOutRefIdeal.nD Cert.DnOutRefIdeal.τ).loc Cert.DnOutRefIdeal.main_arg7) = m ((c.tc : Thread Cert.DnOutIdeal.nD Cert.DnOutIdeal.τ).loc Cert.DnOutIdeal.main_arg7)
      ∧ m' ((c.tc : Thread Cert.DnOutRefIdeal.nD Cert.DnOutRefIdeal.τ).loc Cert.DnOutRefIdeal.main_arg8) = m ((c.tc : Thread Cert.DnOutIdeal.nD Cert.DnOutIdeal.τ).loc Cert.DnOutIdeal.main_arg8)
      ∧ m' ((c.tc : Thread Cert.DnOutRefIdeal.nD Cert.DnOutRefIdeal.τ).loc Cert.DnOutRefIdeal.main_arg9) = m ((c.tc : Thread Cert.DnOutIdeal.nD Cert.DnOutIdeal.τ).loc Cert.DnOutIdeal.main_arg9)) →
    ∃ (v0 : (c : Dev Cert.DnOutIdeal.nD) → Buf (Elt Ideal) ((c.tc : Thread Cert.DnOutIdeal.nD Cert.DnOutIdeal.τ).loc Cert.DnOutIdeal.main_v6)),
      θ_run (Cert.DnOutIdeal.defs (F := Ideal)) (onTc (τ := Cert.DnOutIdeal.τ) (Cert.DnOutIdeal.main (F := Ideal))) ⟨m, fun _ => 0, g⟩ (fun r => ∀ c : Dev Cert.DnOutIdeal.nD,
          r.2.mem ((c.tc : Thread Cert.DnOutIdeal.nD Cert.DnOutIdeal.τ).loc Cert.DnOutIdeal.main_v6) = v0 c
          ∧ r.2.mem ((c.tc : Thread Cert.DnOutIdeal.nD Cert.DnOutIdeal.τ).loc Cert.DnOutIdeal.main_arg0) = m ((c.tc : Thread Cert.DnOutIdeal.nD Cert.DnOutIdeal.τ).loc Cert.DnOutIdeal.main_arg0)
          ∧ r.2.mem ((c.tc : Thread Cert.DnOutIdeal.nD Cert.DnOutIdeal.τ).loc Cert.DnOutIdeal.main_arg1) = m ((c.tc : Thread Cert.DnOutIdeal.nD Cert.DnOutIdeal.τ).loc Cert.DnOutIdeal.main_arg1)
          ∧ r.2.mem ((c.tc : Thread Cert.DnOutIdeal.nD Cert.DnOutIdeal.τ).loc Cert.DnOutIdeal.main_arg2) = m ((c.tc : Thread Cert.DnOutIdeal.nD Cert.DnOutIdeal.τ).loc Cert.DnOutIdeal.main_arg2)
          ∧ r.2.mem ((c.tc : Thread Cert.DnOutIdeal.nD Cert.DnOutIdeal.τ).loc Cert.DnOutIdeal.main_arg3) = m ((c.tc : Thread Cert.DnOutIdeal.nD Cert.DnOutIdeal.τ).loc Cert.DnOutIdeal.main_arg3)
          ∧ r.2.mem ((c.tc : Thread Cert.DnOutIdeal.nD Cert.DnOutIdeal.τ).loc Cert.DnOutIdeal.main_arg4) = m ((c.tc : Thread Cert.DnOutIdeal.nD Cert.DnOutIdeal.τ).loc Cert.DnOutIdeal.main_arg4)
          ∧ r.2.mem ((c.tc : Thread Cert.DnOutIdeal.nD Cert.DnOutIdeal.τ).loc Cert.DnOutIdeal.main_arg5) = m ((c.tc : Thread Cert.DnOutIdeal.nD Cert.DnOutIdeal.τ).loc Cert.DnOutIdeal.main_arg5)
          ∧ r.2.mem ((c.tc : Thread Cert.DnOutIdeal.nD Cert.DnOutIdeal.τ).loc Cert.DnOutIdeal.main_arg6) = m ((c.tc : Thread Cert.DnOutIdeal.nD Cert.DnOutIdeal.τ).loc Cert.DnOutIdeal.main_arg6)
          ∧ r.2.mem ((c.tc : Thread Cert.DnOutIdeal.nD Cert.DnOutIdeal.τ).loc Cert.DnOutIdeal.main_arg7) = m ((c.tc : Thread Cert.DnOutIdeal.nD Cert.DnOutIdeal.τ).loc Cert.DnOutIdeal.main_arg7)
          ∧ r.2.mem ((c.tc : Thread Cert.DnOutIdeal.nD Cert.DnOutIdeal.τ).loc Cert.DnOutIdeal.main_arg8) = m ((c.tc : Thread Cert.DnOutIdeal.nD Cert.DnOutIdeal.τ).loc Cert.DnOutIdeal.main_arg8)
          ∧ r.2.mem ((c.tc : Thread Cert.DnOutIdeal.nD Cert.DnOutIdeal.τ).loc Cert.DnOutIdeal.main_arg9) = m ((c.tc : Thread Cert.DnOutIdeal.nD Cert.DnOutIdeal.τ).loc Cert.DnOutIdeal.main_arg9))
      ∧ θ_run (Cert.DnOutRefIdeal.defs (F := Ideal)) (onTc (τ := Cert.DnOutRefIdeal.τ) (Cert.DnOutRefIdeal.main (F := Ideal))) ⟨m', fun _ => 0, g'⟩ (fun r => ∀ c : Dev Cert.DnOutRefIdeal.nD,
          r.2.mem ((c.tc : Thread Cert.DnOutRefIdeal.nD Cert.DnOutRefIdeal.τ).loc Cert.DnOutRefIdeal.main_v76) = v0 c
          ∧ r.2.mem ((c.tc : Thread Cert.DnOutRefIdeal.nD Cert.DnOutRefIdeal.τ).loc Cert.DnOutRefIdeal.main_arg0) = m' ((c.tc : Thread Cert.DnOutRefIdeal.nD Cert.DnOutRefIdeal.τ).loc Cert.DnOutRefIdeal.main_arg0)
          ∧ r.2.mem ((c.tc : Thread Cert.DnOutRefIdeal.nD Cert.DnOutRefIdeal.τ).loc Cert.DnOutRefIdeal.main_arg1) = m' ((c.tc : Thread Cert.DnOutRefIdeal.nD Cert.DnOutRefIdeal.τ).loc Cert.DnOutRefIdeal.main_arg1)
          ∧ r.2.mem ((c.tc : Thread Cert.DnOutRefIdeal.nD Cert.DnOutRefIdeal.τ).loc Cert.DnOutRefIdeal.main_arg2) = m' ((c.tc : Thread Cert.DnOutRefIdeal.nD Cert.DnOutRefIdeal.τ).loc Cert.DnOutRefIdeal.main_arg2)
          ∧ r.2.mem ((c.tc : Thread Cert.DnOutRefIdeal.nD Cert.DnOutRefIdeal.τ).loc Cert.DnOutRefIdeal.main_arg3) = m' ((c.tc : Thread Cert.DnOutRefIdeal.nD Cert.DnOutRefIdeal.τ).loc Cert.DnOutRefIdeal.main_arg3)
          ∧ r.2.mem ((c.tc : Thread Cert.DnOutRefIdeal.nD Cert.DnOutRefIdeal.τ).loc Cert.DnOutRefIdeal.main_arg4) = m' ((c.tc : Thread Cert.DnOutRefIdeal.nD Cert.DnOutRefIdeal.τ).loc Cert.DnOutRefIdeal.main_arg4)
          ∧ r.2.mem ((c.tc : Thread Cert.DnOutRefIdeal.nD Cert.DnOutRefIdeal.τ).loc Cert.DnOutRefIdeal.main_arg5) = m' ((c.tc : Thread Cert.DnOutRefIdeal.nD Cert.DnOutRefIdeal.τ).loc Cert.DnOutRefIdeal.main_arg5)
          ∧ r.2.mem ((c.tc : Thread Cert.DnOutRefIdeal.nD Cert.DnOutRefIdeal.τ).loc Cert.DnOutRefIdeal.main_arg6) = m' ((c.tc : Thread Cert.DnOutRefIdeal.nD Cert.DnOutRefIdeal.τ).loc Cert.DnOutRefIdeal.main_arg6)
          ∧ r.2.mem ((c.tc : Thread Cert.DnOutRefIdeal.nD Cert.DnOutRefIdeal.τ).loc Cert.DnOutRefIdeal.main_arg7) = m' ((c.tc : Thread Cert.DnOutRefIdeal.nD Cert.DnOutRefIdeal.τ).loc Cert.DnOutRefIdeal.main_arg7)
          ∧ r.2.mem ((c.tc : Thread Cert.DnOutRefIdeal.nD Cert.DnOutRefIdeal.τ).loc Cert.DnOutRefIdeal.main_arg8) = m' ((c.tc : Thread Cert.DnOutRefIdeal.nD Cert.DnOutRefIdeal.τ).loc Cert.DnOutRefIdeal.main_arg8)
          ∧ r.2.mem ((c.tc : Thread Cert.DnOutRefIdeal.nD Cert.DnOutRefIdeal.τ).loc Cert.DnOutRefIdeal.main_arg9) = m' ((c.tc : Thread Cert.DnOutRefIdeal.nD Cert.DnOutRefIdeal.τ).loc Cert.DnOutRefIdeal.main_arg9))

def Claim : Prop :=
  ∃ (hFfn : Cert.Ffn.Facts) (hFfnIdeal : Cert.FfnIdeal.Facts) (hFfnRefIdeal : Cert.FfnRefIdeal.Facts) (hBand1 : Cert.Band1.Facts) (hBand1Ideal : Cert.Band1Ideal.Facts) (hBand1RefIdeal : Cert.Band1RefIdeal.Facts) (hBand4 : Cert.Band4.Facts) (hBand4Ideal : Cert.Band4Ideal.Facts) (hBand4RefIdeal : Cert.Band4RefIdeal.Facts) (hBand16 : Cert.Band16.Facts) (hBand16Ideal : Cert.Band16Ideal.Facts) (hBand16RefIdeal : Cert.Band16RefIdeal.Facts) (hMemKv : Cert.MemKv.Facts) (hMemKvIdeal : Cert.MemKvIdeal.Facts) (hMemKvRefIdeal : Cert.MemKvRefIdeal.Facts) (hAttProj : Cert.AttProj.Facts) (hAttProjIdeal : Cert.AttProjIdeal.Facts) (hAttProjRefIdeal : Cert.AttProjRefIdeal.Facts) (hAttOut : Cert.AttOut.Facts) (hAttOutIdeal : Cert.AttOutIdeal.Facts) (hAttOutRefIdeal : Cert.AttOutRefIdeal.Facts) (hDnOut : Cert.DnOut.Facts) (hDnOutIdeal : Cert.DnOutIdeal.Facts) (hDnOutRefIdeal : Cert.DnOutRefIdeal.Facts),
    quiescent_Ffn (hFfn := hFfn)
    ∧ quiescent_FfnIdeal (hFfnIdeal := hFfnIdeal)
    ∧ quiescent_FfnRefIdeal (hFfnRefIdeal := hFfnRefIdeal)
    ∧ quiescent_Band1 (hBand1 := hBand1)
    ∧ quiescent_Band1Ideal (hBand1Ideal := hBand1Ideal)
    ∧ quiescent_Band1RefIdeal (hBand1RefIdeal := hBand1RefIdeal)
    ∧ quiescent_Band4 (hBand4 := hBand4)
    ∧ quiescent_Band4Ideal (hBand4Ideal := hBand4Ideal)
    ∧ quiescent_Band4RefIdeal (hBand4RefIdeal := hBand4RefIdeal)
    ∧ quiescent_Band16 (hBand16 := hBand16)
    ∧ quiescent_Band16Ideal (hBand16Ideal := hBand16Ideal)
    ∧ quiescent_Band16RefIdeal (hBand16RefIdeal := hBand16RefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_AttProj (hAttProj := hAttProj)
    ∧ quiescent_AttProjIdeal (hAttProjIdeal := hAttProjIdeal)
    ∧ quiescent_AttProjRefIdeal (hAttProjRefIdeal := hAttProjRefIdeal)
    ∧ quiescent_AttOut (hAttOut := hAttOut)
    ∧ quiescent_AttOutIdeal (hAttOutIdeal := hAttOutIdeal)
    ∧ quiescent_AttOutRefIdeal (hAttOutRefIdeal := hAttOutRefIdeal)
    ∧ quiescent_DnOut (hDnOut := hDnOut)
    ∧ quiescent_DnOutIdeal (hDnOutIdeal := hDnOutIdeal)
    ∧ quiescent_DnOutRefIdeal (hDnOutRefIdeal := hDnOutRefIdeal)
    ∧ preserves_Ffn_FfnIdeal
    ∧ algebraic_FfnIdeal_FfnRefIdeal (hFfnIdeal := hFfnIdeal) (hFfnRefIdeal := hFfnRefIdeal)
    ∧ preserves_Band1_Band1Ideal
    ∧ algebraic_Band1Ideal_Band1RefIdeal (hBand1Ideal := hBand1Ideal) (hBand1RefIdeal := hBand1RefIdeal)
    ∧ preserves_Band4_Band4Ideal
    ∧ algebraic_Band4Ideal_Band4RefIdeal (hBand4Ideal := hBand4Ideal) (hBand4RefIdeal := hBand4RefIdeal)
    ∧ preserves_Band16_Band16Ideal
    ∧ algebraic_Band16Ideal_Band16RefIdeal (hBand16Ideal := hBand16Ideal) (hBand16RefIdeal := hBand16RefIdeal)
    ∧ preserves_MemKv_MemKvIdeal
    ∧ algebraic_MemKvIdeal_MemKvRefIdeal (hMemKvIdeal := hMemKvIdeal) (hMemKvRefIdeal := hMemKvRefIdeal)
    ∧ preserves_AttProj_AttProjIdeal
    ∧ algebraic_AttProjIdeal_AttProjRefIdeal (hAttProjIdeal := hAttProjIdeal) (hAttProjRefIdeal := hAttProjRefIdeal)
    ∧ preserves_AttOut_AttOutIdeal
    ∧ algebraic_AttOutIdeal_AttOutRefIdeal (hAttOutIdeal := hAttOutIdeal) (hAttOutRefIdeal := hAttOutRefIdeal)
    ∧ preserves_DnOut_DnOutIdeal
    ∧ algebraic_DnOutIdeal_DnOutRefIdeal (hDnOutIdeal := hDnOutIdeal) (hDnOutRefIdeal := hDnOutRefIdeal)
-- ==== Ffn.lean ====
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S1024x2816 : Shape := ⟨2, ![1024, 2816]⟩
abbrev S256x1024 : Shape := ⟨2, ![256, 1024]⟩
abbrev S256 : Shape := ⟨1, ![256]⟩
abbrev S256x1 : Shape := ⟨2, ![256, 1]⟩
abbrev S256x2816 : Shape := ⟨2, ![256, 2816]⟩

abbrev nBuf : Space → Nat
  | .hbm => 10
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024x5632, .bf16⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnIdeal.lean ====
variable {F : FTy → Type} [FloatOps F] [Named F]
def κ : String → Option EReal := fun
  | "neg_log2e" => some ((-((Real.log 2)⁻¹) : ℝ) : EReal)
  | _ => none
-- ==== FfnRefIdeal.lean ====
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5632 : Shape := ⟨2, ![32768, 5632]⟩
abbrev S32768x2816 : Shape := ⟨2, ![32768, 2816]⟩

abbrev nBuf : Space → Nat
  | .hbm => 52
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x5632, .f32⟩
  | .hbm, ⟨22, _⟩ => ⟨S32768x2816, .f32⟩
  | .hbm, ⟨23, _⟩ => ⟨S32768x2816, .f32⟩
  | .hbm, ⟨24, _⟩ => ⟨S32768x2816, .f32⟩
  | .hbm, ⟨25, _⟩ => ⟨S32768x2816, .f32⟩
  | .hbm, ⟨26, _⟩ => ⟨S_, .f32⟩
  | .hbm, ⟨27, _⟩ => ⟨S32768x2816, .f32⟩
  | .hbm, ⟨28, _⟩ => ⟨S32768x2816, .f32⟩
  | .hbm, ⟨29, _⟩ => ⟨S_, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x2816, .f32⟩
  | .hbm, ⟨34, _⟩ => ⟨S32768x1024, .f32⟩
  | .hbm, ⟨35, _⟩ => ⟨S32768x1024, .f32⟩
  | .hbm, ⟨36, _⟩ => ⟨S_, .f32⟩
  | .hbm, ⟨37, _⟩ => ⟨S32768, .f32⟩
  | .hbm, ⟨38, _⟩ => ⟨S32768x1, .f32⟩
  | .hbm, ⟨39, _⟩ => ⟨S_, .f32⟩
  | .hbm, ⟨40, _⟩ => ⟨S32768x1, .f32⟩
  | .hbm, ⟨41, _⟩ => ⟨S32768x1, .f32⟩
  | .hbm, ⟨42, _⟩ => ⟨S_, .f32⟩
  | .hbm, ⟨43, _⟩ => ⟨S32768x1, .f32⟩
  | .hbm, ⟨44, _⟩ => ⟨S32768x1, .f32⟩
  | .hbm, ⟨45, _⟩ => ⟨S32768x1, .f32⟩
  | .hbm, ⟨46, _⟩ => ⟨S32768x1024, .f32⟩
  | .hbm, ⟨47, _⟩ => ⟨S32768x1024, .f32⟩
  | .hbm, ⟨48, _⟩ => ⟨S1x1024, .f32⟩
  | .hbm, ⟨49, _⟩ => ⟨S32768x1024, .f32⟩
  | .hbm, ⟨50, _⟩ => ⟨S32768x1024, .f32⟩
  | .hbm, ⟨51, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]
-- ==== Band1.lean ====
abbrev S32768x768 : Shape := ⟨2, ![32768, 768]⟩
abbrev S32x12 : Shape := ⟨2, ![32, 12]⟩
abbrev S384 : Shape := ⟨1, ![384]⟩
abbrev S1x384 : Shape := ⟨2, ![1, 384]⟩
abbrev S_ : Shape := ⟨0, ![]⟩
abbrev S384x1 : Shape := ⟨2, ![384, 1]⟩
abbrev S384x12 : Shape := ⟨2, ![384, 12]⟩
abbrev S384x4 : Shape := ⟨2, ![384, 4]⟩
abbrev S4x384 : Shape := ⟨2, ![4, 384]⟩
abbrev S1x4x1x384 : Shape := ⟨4, ![1, 4, 1, 384]⟩
abbrev S1x4x128x384 : Shape := ⟨4, ![1, 4, 128, 384]⟩
abbrev S4x49152 : Shape := ⟨2, ![4, 49152]⟩
abbrev S4x49024 : Shape := ⟨2, ![4, 49024]⟩
abbrev S4x128x383 : Shape := ⟨3, ![4, 128, 383]⟩
abbrev S4x128x256 : Shape := ⟨3, ![4, 128, 256]⟩
abbrev S1x4x128x256 : Shape := ⟨4, ![1, 4, 128, 256]⟩
abbrev S3x4x128x256 : Shape := ⟨4, ![3, 4, 128, 256]⟩
abbrev S8x4096x768 : Shape := ⟨3, ![8, 4096, 768]⟩
abbrev S8x4096x256 : Shape := ⟨3, ![8, 4096, 256]⟩
abbrev S1x4096x768 : Shape := ⟨3, ![1, 4096, 768]⟩
abbrev S1x4096x256 : Shape := ⟨3, ![1, 4096, 256]⟩
abbrev S128x128 : Shape := ⟨2, ![128, 128]⟩
abbrev S1x128x256 : Shape := ⟨3, ![1, 128, 256]⟩
abbrev S128x256 : Shape := ⟨2, ![128, 256]⟩
abbrev S1x256x256 : Shape := ⟨3, ![1, 256, 256]⟩
abbrev S256x256 : Shape := ⟨2, ![256, 256]⟩
abbrev S256x128 : Shape := ⟨2, ![256, 128]⟩
abbrev S1x1x128x256 : Shape := ⟨4, ![1, 1, 128, 256]⟩
abbrev S128 : Shape := ⟨1, ![128]⟩
abbrev S128x1 : Shape := ⟨2, ![128, 1]⟩
abbrev S1x128x128 : Shape := ⟨3, ![1, 128, 128]⟩

abbrev nBuf : Space → Nat
  | .hbm => 78
  | .vmem => 7
  | .smem => 0
  | _ => 0

abbrev bufTy : (tb : Table) → Fin (tcTables nBuf tb) → BufTy
  | .hbm, ⟨0, _⟩ => ⟨S32768x768, .bf16⟩
  | .hbm, ⟨1, _⟩ => ⟨S32x12, .f32⟩
  | .hbm, ⟨2, _⟩ => ⟨S384, .i32⟩
  | .hbm, ⟨3, _⟩ => ⟨S384, .i1⟩
  | .hbm, ⟨4, _⟩ => ⟨S384, .i1⟩
  | .hbm, ⟨5, _⟩ => ⟨S1x384, .i1⟩
  | .hbm, ⟨6, _⟩ => ⟨S384, .i32⟩
  | .hbm, ⟨7, _⟩ => ⟨S384, .i1⟩
  | .hbm, ⟨8, _⟩ => ⟨S384, .i1⟩
  | .hbm, ⟨9, _⟩ => ⟨S1x384, .i1⟩
  | .hbm, ⟨10, _⟩ => ⟨S384, .i32⟩
  | .hbm, ⟨11, _⟩ => ⟨S384, .i1⟩
  | .hbm, ⟨12, _⟩ => ⟨S384, .i1⟩
  | .hbm, ⟨13, _⟩ => ⟨S1x384, .i1⟩
  | .hbm, ⟨14, _⟩ => ⟨S_, .i32⟩
  | .hbm, ⟨15, _⟩ => ⟨S384, .i32⟩
  | .hbm, ⟨16, _⟩ => ⟨S384, .i32⟩
  | .hbm, ⟨17, _⟩ => ⟨S384, .i32⟩
  | .hbm, ⟨18, _⟩ => ⟨S384x1, .i32⟩
  | .hbm, ⟨19, _⟩ => ⟨S384x12, .f32⟩
  | .hbm, ⟨20, _⟩ => ⟨S384x4, .f32⟩
  | .hbm, ⟨21, _⟩ => ⟨S4x384, .f32⟩
  | .hbm, ⟨22, _⟩ => ⟨S_, .f32⟩
  | .hbm, ⟨23, _⟩ => ⟨S_, .f32⟩
  | .hbm, ⟨24, _⟩ => ⟨S4x384, .i1⟩
  | .hbm, ⟨25, _⟩ => ⟨S4x384, .f32⟩
  | .hbm, ⟨26, _⟩ => ⟨S4x384, .f32⟩
  | .hbm, ⟨27, _⟩ => ⟨S1x4x1x384, .f32⟩
  | .hbm, ⟨28, _⟩ => ⟨S1x4x128x384, .f32⟩
  | .hbm, ⟨29, _⟩ => ⟨S4x49152, .f32⟩
  | .hbm, ⟨30, _⟩ => ⟨S4x49024, .f32⟩
  | .hbm, ⟨31, _⟩ => ⟨S4x128x383, .f32⟩
  | .hbm, ⟨32, _⟩ => ⟨S4x128x256, .f32⟩
  | .hbm, ⟨33, _⟩ => ⟨S_, .i32⟩
  | .hbm, ⟨34, _⟩ => ⟨S384, .i32⟩
  | .hbm, ⟨35, _⟩ => ⟨S384, .i32⟩
  | .hbm, ⟨36, _⟩ => ⟨S384, .i32⟩
  | .hbm, ⟨37, _⟩ => ⟨S384x1, .i32⟩
  | .hbm, ⟨38, _⟩ => ⟨S384x12, .f32⟩
  | .hbm, ⟨39, _⟩ => ⟨S384x4, .f32⟩
  | .hbm, ⟨40, _⟩ => ⟨S4x384, .f32⟩
  | .hbm, ⟨41, _⟩ => ⟨S_, .f32⟩
  | .hbm, ⟨42, _⟩ => ⟨S_, .f32⟩
  | .hbm, ⟨43, _⟩ => ⟨S4x384, .i1⟩
  | .hbm, ⟨44, _⟩ => ⟨S4x384, .f32⟩
  | .hbm, ⟨45, _⟩ => ⟨S4x384, .f32⟩
  | .hbm, ⟨46, _⟩ => ⟨S1x4x1x384, .f32⟩
  | .hbm, ⟨47, _⟩ => ⟨S1x4x128x384, .f32⟩
  | .hbm, ⟨48, _⟩ => ⟨S4x49152, .f32⟩
  | .hbm, ⟨49, _⟩ => ⟨S4x49024, .f32⟩
  | .hbm, ⟨50, _⟩ => ⟨S4x128x383, .f32⟩
  | .hbm, ⟨51, _⟩ => ⟨S4x128x256, .f32⟩
  | .hbm, ⟨52, _⟩ => ⟨S_, .i32⟩
  | .hbm, ⟨53, _⟩ => ⟨S384, .i32⟩
  | .hbm, ⟨54, _⟩ => ⟨S384, .i32⟩
  | .hbm, ⟨55, _⟩ => ⟨S384, .i32⟩
  | .hbm, ⟨56, _⟩ => ⟨S384x1, .i32⟩
  | .hbm, ⟨57, _⟩ => ⟨S384x12, .f32⟩
  | .hbm, ⟨58, _⟩ => ⟨S384x4, .f32⟩
  | .hbm, ⟨59, _⟩ => ⟨S4x384, .f32⟩
  | .hbm, ⟨60, _⟩ => ⟨S_, .f32⟩
  | .hbm, ⟨61, _⟩ => ⟨S_, .f32⟩
  | .hbm, ⟨62, _⟩ => ⟨S4x384, .i1⟩
  | .hbm, ⟨63, _⟩ => ⟨S4x384, .f32⟩
  | .hbm, ⟨64, _⟩ => ⟨S4x384, .f32⟩
  | .hbm, ⟨65, _⟩ => ⟨S1x4x1x384, .f32⟩
  | .hbm, ⟨66, _⟩ => ⟨S1x4x128x384, .f32⟩
  | .hbm, ⟨67, _⟩ => ⟨S4x49152, .f32⟩
  | .hbm, ⟨68, _⟩ => ⟨S4x49024, .f32⟩
  | .hbm, ⟨69, _⟩ => ⟨S4x128x383, .f32⟩
  | .hbm, ⟨70, _⟩ => ⟨S4x128x256, .f32⟩
  | .hbm, ⟨71, _⟩ => ⟨S1x4x128x256, .f32⟩
  | .hbm, ⟨72, _⟩ => ⟨S1x4x128x256, .f32⟩
  | .hbm, ⟨73, _⟩ => ⟨S1x4x128x256, .f32⟩
  | .hbm, ⟨74, _⟩ => ⟨S3x4x128x256, .f32⟩
  | .hbm, ⟨75, _⟩ => ⟨S8x4096x768, .bf16⟩
  | .hbm, ⟨76, _⟩ => ⟨S8x4096x256, .bf16⟩
  | .hbm, ⟨77, _⟩ => ⟨S8x4096x256, .f32⟩
  | .local _ .vmem, ⟨0, _⟩ => ⟨S1x4096x768, .bf16⟩
  | .local _ .vmem, ⟨1, _⟩ => ⟨S1x4096x768, .bf16⟩
  | .local _ .vmem, ⟨2, _⟩ => ⟨S3x4x128x256, .f32⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .f32⟩
  | .local _ .vmem, ⟨6, _⟩ => ⟨S1x4096x256, .f32⟩
  | _, _ => ⟨S32768x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_v0 : Ref sig .tc := ⟨.hbm, 5, rfl⟩
abbrev main_c_2 : Ref sig .tc := ⟨.hbm, 6, rfl⟩
abbrev main_c_3 : Ref sig .tc := ⟨.hbm, 7, rfl⟩
abbrev main_c_4 : Ref sig .tc := ⟨.hbm, 8, rfl⟩
abbrev main_v1 : Ref sig .tc := ⟨.hbm, 9, rfl⟩
abbrev main_c_5 : Ref sig .tc := ⟨.hbm, 10, rfl⟩
abbrev main_c_6 : Ref sig .tc := ⟨.hbm, 11, rfl⟩
abbrev main_c_7 : Ref sig .tc := ⟨.hbm, 12, rfl⟩
abbrev main_v2 : Ref sig .tc := ⟨.hbm, 13, rfl⟩
abbrev main_c_8 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_9 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_10 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_11 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_12 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50_0 : Ref sig .tc := ⟨.hbm, 76, rfl⟩
abbrev main_v50_1 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

@[reducible] def k0_t1_loop : Scf.Loop 32 :=
  let c0_i32 : BitVec 32 := 0#32
  let c8_i32 : BitVec 32 := 8#32
  let v3 : BitVec 32 := Scalar.addi c0_i32 c8_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c512_i32 : BitVec 32 := 512#32
  let v4 : BitVec 32 := Scalar.muli arg6 c512_i32
  let c0_i32_1 : BitVec 32 := 0#32
  let v5 : BitVec 32 := Scalar.addi v4 c0_i32_1
  v5
def k0_mult2 (k0_t1 : Fin k0_t1_loop.trips) : BitVec 32 :=
  let c3840_i32 : BitVec 32 := 3840#32
  let c0_i32_3 : BitVec 32 := 0#32
  let c0_i32 : BitVec 32 := 0#32
  let c1_i32 : BitVec 32 := 1#32
  let arg6 : BitVec 32 := Scf.iv c0_i32 c1_i32 k0_t1
  let c512_i32 : BitVec 32 := 512#32
  let v4 : BitVec 32 := Scalar.muli arg6 c512_i32
  let c0_i32_1 : BitVec 32 := 0#32
  let v5 : BitVec 32 := Scalar.addi v4 c0_i32_1
  let v6 : BitVec 32 := v5
  let c64_i32_2 : BitVec 32 := 64#32
  let v7 : BitVec 32 := Scalar.subi v6 c64_i32_2
  let v8 : BitVec 32 := Scalar.maxsi c0_i32_3 v7
  let v9 : BitVec 32 := Scalar.minsi c3840_i32 v8
  v9
def k0_off1 (k0_t1 : Fin k0_t1_loop.trips) (c0_i32_1 : BitVec 32) : Fin 3 → Nat :=
  let c0 : Index := 0#32
  let c0_i32 : BitVec 32 := 0#32
  let c1_i32 : BitVec 32 := 1#32
  let arg6 : BitVec 32 := Scf.iv c0_i32 c1_i32 k0_t1
  let c512_i32 : BitVec 32 := 512#32
  let v4 : BitVec 32 := Scalar.muli arg6 c512_i32
  let v5 : BitVec 32 := Scalar.addi v4 c0_i32_1
  let v6 : BitVec 32 := v5
  let v29 : Index := Scalar.indexCast v6
  let c0_11 : Index := 0#32
  ![0, v29.toNat, 0]
def k0_off2 (k0_t1 : Fin k0_t1_loop.trips) (c0_i32_1 : BitVec 32) : Fin 3 → Nat :=
  let c0_12 : Index := 0#32
  let c3840_i32 : BitVec 32 := 3840#32
  let c0_i32_3 : BitVec 32 := 0#32
  let c0_i32 : BitVec 32 := 0#32
  let c1_i32 : BitVec 32 := 1#32
  let arg6 : BitVec 32 := Scf.iv c0_i32 c1_i32 k0_t1
  let c512_i32 : BitVec 32 := 512#32
  let v4 : BitVec 32 := Scalar.muli arg6 c512_i32
  let v5 : BitVec 32 := Scalar.addi v4 c0_i32_1
  let v6 : BitVec 32 := v5
  let c64_i32_2 : BitVec 32 := 64#32
  let v7 : BitVec 32 := Scalar.subi v6 c64_i32_2
  let v8 : BitVec 32 := Scalar.maxsi c0_i32_3 v7
  let v9 : BitVec 32 := Scalar.minsi c3840_i32 v8
  let v28 : BitVec 32 := v9
  let v34 : Index := Scalar.indexCast v28
  let c256 : Index := 256#32
  ![0, v34.toNat, 256]
def k0_off3 (k0_t1 : Fin k0_t1_loop.trips) (c0_i32_1 : BitVec 32) : Fin 3 → Nat :=
  let c0_13 : Index := 0#32
  let c3840_i32 : BitVec 32 := 3840#32
  let c0_i32_3 : BitVec 32 := 0#32
  let c0_i32 : BitVec 32 := 0#32
  let c1_i32 : BitVec 32 := 1#32
  let arg6 : BitVec 32 := Scf.iv c0_i32 c1_i32 k0_t1
  let c512_i32 : BitVec 32 := 512#32
  let v4 : BitVec 32 := Scalar.muli arg6 c512_i32
  let v5 : BitVec 32 := Scalar.addi v4 c0_i32_1
  let v6 : BitVec 32 := v5
  let c64_i32_2 : BitVec 32 := 64#32
  let v7 : BitVec 32 := Scalar.subi v6 c64_i32_2
  let v8 : BitVec 32 := Scalar.maxsi c0_i32_3 v7
  let v9 : BitVec 32 := Scalar.minsi c3840_i32 v8
  let v28 : BitVec 32 := v9
  let v37 : Index := Scalar.indexCast v28
  let c512 : Index := 512#32
  ![0, v37.toNat, 512]
def k0_mult3 (k0_t1 : Fin k0_t1_loop.trips) : BitVec 32 :=
  let c0_i32 : BitVec 32 := 0#32
  let c1_i32 : BitVec 32 := 1#32
  let arg6 : BitVec 32 := Scf.iv c0_i32 c1_i32 k0_t1
  let c512_i32_14 : BitVec 32 := 512#32
  let v40 : BitVec 32 := Scalar.muli arg6 c512_i32_14
  let c128_i32 : BitVec 32 := 128#32
  let v41 : BitVec 32 := Scalar.addi v40 c128_i32
  v41
def k0_mult4 (k0_t1 : Fin k0_t1_loop.trips) : BitVec 32 :=
  let c3840_i32_17 : BitVec 32 := 3840#32
  let c0_i32_16 : BitVec 32 := 0#32
  let c0_i32 : BitVec 32 := 0#32
  let c1_i32 : BitVec 32 := 1#32
  let arg6 : BitVec 32 := Scf.iv c0_i32 c1_i32 k0_t1
  let c512_i32_14 : BitVec 32 := 512#32
  let v40 : BitVec 32 := Scalar.muli arg6 c512_i32_14
  let c128_i32 : BitVec 32 := 128#32
  let v41 : BitVec 32 := Scalar.addi v40 c128_i32
  let v42 : BitVec 32 := v41
  let c64_i32_15 : BitVec 32 := 64#32
  let v43 : BitVec 32 := Scalar.subi v42 c64_i32_15
  let v44 : BitVec 32 := Scalar.maxsi c0_i32_16 v43
  let v45 : BitVec 32 := Scalar.minsi c3840_i32_17 v44
  v45
def k0_mult5 (k0_t1 : Fin k0_t1_loop.trips) : BitVec 32 :=
  let c0_i32 : BitVec 32 := 0#32
  let c1_i32 : BitVec 32 := 1#32
  let arg6 : BitVec 32 := Scf.iv c0_i32 c1_i32 k0_t1
  let c512_i32_32 : BitVec 32 := 512#32
  let v76 : BitVec 32 := Scalar.muli arg6 c512_i32_32
  let c256_i32 : BitVec 32 := 256#32
  let v77 : BitVec 32 := Scalar.addi v76 c256_i32
  v77
def k0_mult6 (k0_t1 : Fin k0_t1_loop.trips) : BitVec 32 :=
  let c3840_i32_35 : BitVec 32 := 3840#32
  let c0_i32_34 : BitVec 32 := 0#32
  let c0_i32 : BitVec 32 := 0#32
  let c1_i32 : BitVec 32 := 1#32
  let arg6 : BitVec 32 := Scf.iv c0_i32 c1_i32 k0_t1
  let c512_i32_32 : BitVec 32 := 512#32
  let v76 : BitVec 32 := Scalar.muli arg6 c512_i32_32
  let c256_i32 : BitVec 32 := 256#32
  let v77 : BitVec 32 := Scalar.addi v76 c256_i32
  let v78 : BitVec 32 := v77
  let c64_i32_33 : BitVec 32 := 64#32
  let v79 : BitVec 32 := Scalar.subi v78 c64_i32_33
  let v80 : BitVec 32 := Scalar.maxsi c0_i32_34 v79
  let v81 : BitVec 32 := Scalar.minsi c3840_i32_35 v80
  v81
def k0_mult7 (k0_t1 : Fin k0_t1_loop.trips) : BitVec 32 :=
  let c0_i32 : BitVec 32 := 0#32
  let c1_i32 : BitVec 32 := 1#32
  let arg6 : BitVec 32 := Scf.iv c0_i32 c1_i32 k0_t1
  let c512_i32_50 : BitVec 32 := 512#32
  let v112 : BitVec 32 := Scalar.muli arg6 c512_i32_50
  let c384_i32 : BitVec 32 := 384#32
  let v113 : BitVec 32 := Scalar.addi v112 c384_i32
  v113
def k0_mult8 (k0_t1 : Fin k0_t1_loop.trips) : BitVec 32 :=
  let c3840_i32_53 : BitVec 32 := 3840#32
  let c0_i32_52 : BitVec 32 := 0#32
  let c0_i32 : BitVec 32 := 0#32
  let c1_i32 : BitVec 32 := 1#32
  let arg6 : BitVec 32 := Scf.iv c0_i32 c1_i32 k0_t1
  let c512_i32_50 : BitVec 32 := 512#32
  let v112 : BitVec 32 := Scalar.muli arg6 c512_i32_50
  let c384_i32 : BitVec 32 := 384#32
  let v113 : BitVec 32 := Scalar.addi v112 c384_i32
  let v114 : BitVec 32 := v113
  let c64_i32_51 : BitVec 32 := 64#32
  let v115 : BitVec 32 := Scalar.subi v114 c64_i32_51
  let v116 : BitVec 32 := Scalar.maxsi c0_i32_52 v115
  let v117 : BitVec 32 := Scalar.minsi c3840_i32_53 v116
  v117
def k0_off4 (k0_t1 : Fin k0_t1_loop.trips) (c0_i32_1 : BitVec 32) : Fin 4 → Nat :=
  let c0_i32 : BitVec 32 := 0#32
  let c1_i32 : BitVec 32 := 1#32
  let arg6 : BitVec 32 := Scf.iv c0_i32 c1_i32 k0_t1
  let c512_i32 : BitVec 32 := 512#32
  let v4 : BitVec 32 := Scalar.muli arg6 c512_i32
  let v5 : BitVec 32 := Scalar.addi v4 c0_i32_1
  let v6 : BitVec 32 := v5
  let c3840_i32 : BitVec 32 := 3840#32
  let c0_i32_3 : BitVec 32 := 0#32
  let c64_i32_2 : BitVec 32 := 64#32
  let v7 : BitVec 32 := Scalar.subi v6 c64_i32_2
  let v8 : BitVec 32 := Scalar.maxsi c0_i32_3 v7
  let v9 : BitVec 32 := Scalar.minsi c3840_i32 v8
  let v10 : BitVec 32 := Scalar.subi v6 v9
  let c0_i32_5 : BitVec 32 := 0#32
  let v12 : BitVec 1 := Scalar.cmpi .sgt v10 c0_i32_5
  let v13 : BitVec 32 := Scalar.extui v12
  let c0_i32_6 : BitVec 32 := 0#32
  let v14 : BitVec 1 := Scalar.cmpi .slt v10 c0_i32_6
  let v15 : BitVec 32 := Scalar.extui v14
  let v16 : BitVec 32 := Scalar.subi v13 v15
  let c64_i32_4 : BitVec 32 := 64#32
  let c0_i32_7 : BitVec 32 := 0#32
  let v17 : BitVec 1 := Scalar.cmpi .sgt c64_i32_4 c0_i32_7
  let v18 : BitVec 32 := Scalar.extui v17
  let c0_i32_8 : BitVec 32 := 0#32
  let v19 : BitVec 1 := Scalar.cmpi .slt c64_i32_4 c0_i32_8
  let v20 : BitVec 32 := Scalar.extui v19
  let v21 : BitVec 32 := Scalar.subi v18 v20
  let v22 : BitVec 1 := Scalar.cmpi .ne v16 v21
  let v23 : BitVec 32 := Scalar.remsi v10 c64_i32_4
  let c0_i32_9 : BitVec 32 := 0#32
  let v24 : BitVec 1 := Scalar.cmpi .ne v23 c0_i32_9
  let v25 : BitVec 1 := Scalar.andi v22 v24
  let v11 : BitVec 32 := Scalar.divsi v10 c64_i32_4
  let c1_i32_10 : BitVec 32 := 1#32
  let v26 : BitVec 32 := Scalar.subi v11 c1_i32_10
  let v27 : BitVec 32 := Scalar.select v25 v26 v11
  let v236 : Index := Scalar.indexCast v27
  let c0_108 : Index := 0#32
  let c0_109 : Index := 0#32
  let c0_110 : Index := 0#32
  ![v236.toNat, 0, 0, 0]
def k0_off5 (k0_t1 : Fin k0_t1_loop.trips) (c0_i32_1 : BitVec 32) : Fin 4 → Nat :=
  let c0_i32 : BitVec 32 := 0#32
  let c1_i32 : BitVec 32 := 1#32
  let arg6 : BitVec 32 := Scf.iv c0_i32 c1_i32 k0_t1
  let c512_i32 : BitVec 32 := 512#32
  let v4 : BitVec 32 := Scalar.muli arg6 c512_i32
  let v5 : BitVec 32 := Scalar.addi v4 c0_i32_1
  let v6 : BitVec 32 := v5
  let c3840_i32 : BitVec 32 := 3840#32
  let c0_i32_3 : BitVec 32 := 0#32
  let c64_i32_2 : BitVec 32 := 64#32
  let v7 : BitVec 32 := Scalar.subi v6 c64_i32_2
  let v8 : BitVec 32 := Scalar.maxsi c0_i32_3 v7
  let v9 : BitVec 32 := Scalar.minsi c3840_i32 v8
  let v10 : BitVec 32 := Scalar.subi v6 v9
  let c0_i32_5 : BitVec 32 := 0#32
  let v12 : BitVec 1 := Scalar.cmpi .sgt v10 c0_i32_5
  let v13 : BitVec 32 := Scalar.extui v12
  let c0_i32_6 : BitVec 32 := 0#32
  let v14 : BitVec 1 := Scalar.cmpi .slt v10 c0_i32_6
  let v15 : BitVec 32 := Scalar.extui v14
  let v16 : BitVec 32 := Scalar.subi v13 v15
  let c64_i32_4 : BitVec 32 := 64#32
  let c0_i32_7 : BitVec 32 := 0#32
  let v17 : BitVec 1 := Scalar.cmpi .sgt c64_i32_4 c0_i32_7
  let v18 : BitVec 32 := Scalar.extui v17
  let c0_i32_8 : BitVec 32 := 0#32
  let v19 : BitVec 1 := Scalar.cmpi .slt c64_i32_4 c0_i32_8
  let v20 : BitVec 32 := Scalar.extui v19
  let v21 : BitVec 32 := Scalar.subi v18 v20
  let v22 : BitVec 1 := Scalar.cmpi .ne v16 v21
  let v23 : BitVec 32 := Scalar.remsi v10 c64_i32_4
  let c0_i32_9 : BitVec 32 := 0#32
  let v24 : BitVec 1 := Scalar.cmpi .ne v23 c0_i32_9
  let v25 : BitVec 1 := Scalar.andi v22 v24
  let v11 : BitVec 32 := Scalar.divsi v10 c64_i32_4
  let c1_i32_10 : BitVec 32 := 1#32
  let v26 : BitVec 32 := Scalar.subi v11 c1_i32_10
  let v27 : BitVec 32 := Scalar.select v25 v26 v11
  let v250 : Index := Scalar.indexCast v27
  let c1 : Index := 1#32
  let c0_113 : Index := 0#32
  let c0_114 : Index := 0#32
  ![v250.toNat, 1, 0, 0]
def k0_off6 (k0_t1 : Fin k0_t1_loop.trips) (c0_i32_1 : BitVec 32) : Fin 4 → Nat :=
  let c0_i32 : BitVec 32 := 0#32
  let c1_i32 : BitVec 32 := 1#32
  let arg6 : BitVec 32 := Scf.iv c0_i32 c1_i32 k0_t1
  let c512_i32 : BitVec 32 := 512#32
  let v4 : BitVec 32 := Scalar.muli arg6 c512_i32
  let v5 : BitVec 32 := Scalar.addi v4 c0_i32_1
  let v6 : BitVec 32 := v5
  let c3840_i32 : BitVec 32 := 3840#32
  let c0_i32_3 : BitVec 32 := 0#32
  let c64_i32_2 : BitVec 32 := 64#32
  let v7 : BitVec 32 := Scalar.subi v6 c64_i32_2
  let v8 : BitVec 32 := Scalar.maxsi c0_i32_3 v7
  let v9 : BitVec 32 := Scalar.minsi c3840_i32 v8
  let v10 : BitVec 32 := Scalar.subi v6 v9
  let c0_i32_5 : BitVec 32 := 0#32
  let v12 : BitVec 1 := Scalar.cmpi .sgt v10 c0_i32_5
  let v13 : BitVec 32 := Scalar.extui v12
  let c0_i32_6 : BitVec 32 := 0#32
  let v14 : BitVec 1 := Scalar.cmpi .slt v10 c0_i32_6
  let v15 : BitVec 32 := Scalar.extui v14
  let v16 : BitVec 32 := Scalar.subi v13 v15
  let c64_i32_4 : BitVec 32 := 64#32
  let c0_i32_7 : BitVec 32 := 0#32
  let v17 : BitVec 1 := Scalar.cmpi .sgt c64_i32_4 c0_i32_7
  let v18 : BitVec 32 := Scalar.extui v17
  let c0_i32_8 : BitVec 32 := 0#32
  let v19 : BitVec 1 := Scalar.cmpi .slt c64_i32_4 c0_i32_8
  let v20 : BitVec 32 := Scalar.extui v19
  let v21 : BitVec 32 := Scalar.subi v18 v20
  let v22 : BitVec 1 := Scalar.cmpi .ne v16 v21
  let v23 : BitVec 32 := Scalar.remsi v10 c64_i32_4
  let c0_i32_9 : BitVec 32 := 0#32
  let v24 : BitVec 1 := Scalar.cmpi .ne v23 c0_i32_9
  let v25 : BitVec 1 := Scalar.andi v22 v24
  let v11 : BitVec 32 := Scalar.divsi v10 c64_i32_4
  let c1_i32_10 : BitVec 32 := 1#32
  let v26 : BitVec 32 := Scalar.subi v11 c1_i32_10
  let v27 : BitVec 32 := Scalar.select v25 v26 v11
  let v264 : Index := Scalar.indexCast v27
  let c2 : Index := 2#32
  let c0_117 : Index := 0#32
  let c0_118 : Index := 0#32
  ![v264.toNat, 2, 0, 0]
def k0_off7 (k0_t1 : Fin k0_t1_loop.trips) (c0_i32_1 : BitVec 32) : Fin 4 → Nat :=
  let c0_i32 : BitVec 32 := 0#32
  let c1_i32 : BitVec 32 := 1#32
  let arg6 : BitVec 32 := Scf.iv c0_i32 c1_i32 k0_t1
  let c512_i32 : BitVec 32 := 512#32
  let v4 : BitVec 32 := Scalar.muli arg6 c512_i32
  let v5 : BitVec 32 := Scalar.addi v4 c0_i32_1
  let v6 : BitVec 32 := v5
  let c3840_i32 : BitVec 32 := 3840#32
  let c0_i32_3 : BitVec 32 := 0#32
  let c64_i32_2 : BitVec 32 := 64#32
  let v7 : BitVec 32 := Scalar.subi v6 c64_i32_2
  let v8 : BitVec 32 := Scalar.maxsi c0_i32_3 v7
  let v9 : BitVec 32 := Scalar.minsi c3840_i32 v8
  let v10 : BitVec 32 := Scalar.subi v6 v9
  let c0_i32_5 : BitVec 32 := 0#32
  let v12 : BitVec 1 := Scalar.cmpi .sgt v10 c0_i32_5
  let v13 : BitVec 32 := Scalar.extui v12
  let c0_i32_6 : BitVec 32 := 0#32
  let v14 : BitVec 1 := Scalar.cmpi .slt v10 c0_i32_6
  let v15 : BitVec 32 := Scalar.extui v14
  let v16 : BitVec 32 := Scalar.subi v13 v15
  let c64_i32_4 : BitVec 32 := 64#32
  let c0_i32_7 : BitVec 32 := 0#32
  let v17 : BitVec 1 := Scalar.cmpi .sgt c64_i32_4 c0_i32_7
  let v18 : BitVec 32 := Scalar.extui v17
  let c0_i32_8 : BitVec 32 := 0#32
  let v19 : BitVec 1 := Scalar.cmpi .slt c64_i32_4 c0_i32_8
  let v20 : BitVec 32 := Scalar.extui v19
  let v21 : BitVec 32 := Scalar.subi v18 v20
  let v22 : BitVec 1 := Scalar.cmpi .ne v16 v21
  let v23 : BitVec 32 := Scalar.remsi v10 c64_i32_4
  let c0_i32_9 : BitVec 32 := 0#32
  let v24 : BitVec 1 := Scalar.cmpi .ne v23 c0_i32_9
  let v25 : BitVec 1 := Scalar.andi v22 v24
  let v11 : BitVec 32 := Scalar.divsi v10 c64_i32_4
  let c1_i32_10 : BitVec 32 := 1#32
  let v26 : BitVec 32 := Scalar.subi v11 c1_i32_10
  let v27 : BitVec 32 := Scalar.select v25 v26 v11
  let v278 : Index := Scalar.indexCast v27
  let c3 : Index := 3#32
  let c0_121 : Index := 0#32
  let c0_122 : Index := 0#32
  ![v278.toNat, 3, 0, 0]
def k0_off8 (k0_t1 : Fin k0_t1_loop.trips) (c0_i32_1 : BitVec 32) : Fin 3 → Nat :=
  let c0_201 : Index := 0#32
  let c0_i32 : BitVec 32 := 0#32
  let c1_i32 : BitVec 32 := 1#32
  let arg6 : BitVec 32 := Scf.iv c0_i32 c1_i32 k0_t1
  let c512_i32 : BitVec 32 := 512#32
  let v4 : BitVec 32 := Scalar.muli arg6 c512_i32
  let v5 : BitVec 32 := Scalar.addi v4 c0_i32_1
  let v6 : BitVec 32 := v5
  let v503 : Index := Scalar.indexCast v6
  let c0_202 : Index := 0#32
  ![0, v503.toNat, 0]
def k0_off9 (k0_t1 : Fin k0_t1_loop.trips) (c0_i32_1 : BitVec 32) : Fin 3 → Nat :=
  let c0_205 : Index := 0#32
  let c0_i32 : BitVec 32 := 0#32
  let c1_i32 : BitVec 32 := 1#32
  let arg6 : BitVec 32 := Scf.iv c0_i32 c1_i32 k0_t1
  let c512_i32 : BitVec 32 := 512#32
  let v4 : BitVec 32 := Scalar.muli arg6 c512_i32
  let v5 : BitVec 32 := Scalar.addi v4 c0_i32_1
  let v6 : BitVec 32 := v5
  let v522 : Index := Scalar.indexCast v6
  let c128 : Index := 128#32
  ![0, v522.toNat, 128]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3x4x128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Band1RefIdeal.lean ====
abbrev S32768x768 : Shape := ⟨2, ![32768, 768]⟩
abbrev S32x12 : Shape := ⟨2, ![32, 12]⟩
abbrev S129 : Shape := ⟨1, ![129]⟩
abbrev S_ : Shape := ⟨0, ![]⟩
abbrev S129x1 : Shape := ⟨2, ![129, 1]⟩
abbrev S129x12 : Shape := ⟨2, ![129, 12]⟩
abbrev S129x4 : Shape := ⟨2, ![129, 4]⟩
abbrev S8x4096x1x3x4x64 : Shape := ⟨6, ![8, 4096, 1, 3, 4, 64]⟩
abbrev S8x4096x1x1x4x64 : Shape := ⟨6, ![8, 4096, 1, 1, 4, 64]⟩
abbrev S8x4096x1x4x64 : Shape := ⟨5, ![8, 4096, 1, 4, 64]⟩
abbrev S4096x4096 : Shape := ⟨2, ![4096, 4096]⟩
abbrev S4096x4096x1 : Shape := ⟨3, ![4096, 4096, 1]⟩
abbrev S4096x4096x4 : Shape := ⟨3, ![4096, 4096, 4]⟩
abbrev S4x4096x4096 : Shape := ⟨3, ![4, 4096, 4096]⟩
abbrev S8x1x4x4096x4096 : Shape := ⟨5, ![8, 1, 4, 4096, 4096]⟩
abbrev S1x1x4x4096x4096 : Shape := ⟨5, ![1, 1, 4, 4096, 4096]⟩
abbrev S8x1x4x4096 : Shape := ⟨4, ![8, 1, 4, 4096]⟩
abbrev S8x1x4x4096x1 : Shape := ⟨5, ![8, 1, 4, 4096, 1]⟩
abbrev S8x1x4x64x4096 : Shape := ⟨5, ![8, 1, 4, 64, 4096]⟩
abbrev S8x4096x1x4 : Shape := ⟨4, ![8, 4096, 1, 4]⟩
abbrev S8x4096x1x4x1 : Shape := ⟨5, ![8, 4096, 1, 4, 1]⟩
abbrev S8x4096x256 : Shape := ⟨3, ![8, 4096, 256]⟩

abbrev nBuf : Space → Nat
  | .hbm => 81
  | .vmem => 0
  | .smem => 0
  | _ => 0

abbrev bufTy : (tb : Table) → Fin (tcTables nBuf tb) → BufTy
  | .hbm, ⟨0, _⟩ => ⟨S32768x768, .bf16⟩
  | .hbm, ⟨1, _⟩ => ⟨S32x12, .f32⟩
  | .hbm, ⟨2, _⟩ => ⟨S129, .i32⟩
  | .hbm, ⟨3, _⟩ => ⟨S129, .i1⟩
  | .hbm, ⟨4, _⟩ => ⟨S_, .i32⟩
  | .hbm, ⟨5, _⟩ => ⟨S129, .i32⟩
  | .hbm, ⟨6, _⟩ => ⟨S129, .i32⟩
  | .hbm, ⟨7, _⟩ => ⟨S129, .i32⟩
  | .hbm, ⟨8, _⟩ => ⟨S129x1, .i32⟩
  | .hbm, ⟨9, _⟩ => ⟨S129x12, .f32⟩
  | .hbm, ⟨10, _⟩ => ⟨S129x4, .f32⟩
  | .hbm, ⟨11, _⟩ => ⟨S32768x768, .f32⟩
  | .hbm, ⟨12, _⟩ => ⟨S8x4096x1x3x4x64, .f32⟩
  | .hbm, ⟨13, _⟩ => ⟨S8x4096x1x1x4x64, .f32⟩
  | .hbm, ⟨14, _⟩ => ⟨S8x4096x1x4x64, .f32⟩
  | .hbm, ⟨15, _⟩ => ⟨S_, .f32⟩
  | .hbm, ⟨16, _⟩ => ⟨S8x4096x1x4x64, .f32⟩
  | .hbm, ⟨17, _⟩ => ⟨S8x4096x1x4x64, .f32⟩
  | .hbm, ⟨18, _⟩ => ⟨S8x4096x1x1x4x64, .f32⟩
  | .hbm, ⟨19, _⟩ => ⟨S8x4096x1x4x64, .f32⟩
  | .hbm, ⟨20, _⟩ => ⟨S8x4096x1x1x4x64, .f32⟩
  | .hbm, ⟨21, _⟩ => ⟨S8x4096x1x4x64, .f32⟩
  | .hbm, ⟨22, _⟩ => ⟨S4096x4096, .i32⟩
  | .hbm, ⟨23, _⟩ => ⟨S4096x4096, .i32⟩
  | .hbm, ⟨24, _⟩ => ⟨S4096x4096, .i32⟩
  | .hbm, ⟨25, _⟩ => ⟨S4096x4096, .i32⟩
  | .hbm, ⟨26, _⟩ => ⟨S_, .i32⟩
  | .hbm, ⟨27, _⟩ => ⟨S4096x4096, .i32⟩
  | .hbm, ⟨28, _⟩ => ⟨S4096x4096, .i1⟩
  | .hbm, ⟨29, _⟩ => ⟨S_, .i32⟩
  | .hbm, ⟨30, _⟩ => ⟨S4096x4096, .i32⟩
  | .hbm, ⟨31, _⟩ => ⟨S4096x4096, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S4096x4096, .i32⟩
  | .hbm, ⟨36, _⟩ => ⟨S4096x4096, .i32⟩
  | .hbm, ⟨37, _⟩ => ⟨S_, .i32⟩
  | .hbm, ⟨38, _⟩ => ⟨S4096x4096, .i32⟩
  | .hbm, ⟨39, _⟩ => ⟨S4096x4096, .i32⟩
  | .hbm, ⟨40, _⟩ => ⟨S_, .i32⟩
  | .hbm, ⟨41, _⟩ => ⟨S4096x4096, .i32⟩
  | .hbm, ⟨42, _⟩ => ⟨S4096x4096, .i1⟩
  | .hbm, ⟨43, _⟩ => ⟨S_, .i32⟩
  | .hbm, ⟨44, _⟩ => ⟨S4096x4096, .i32⟩
  | .hbm, ⟨45, _⟩ => ⟨S4096x4096, .i32⟩
  | .hbm, ⟨46, _⟩ => ⟨S4096x4096, .i32⟩
  | .hbm, ⟨47, _⟩ => ⟨S4096x4096x1, .i32⟩
  | .hbm, ⟨48, _⟩ => ⟨S4096x4096x4, .f32⟩
  | .hbm, ⟨49, _⟩ => ⟨S4x4096x4096, .f32⟩
  | .hbm, ⟨50, _⟩ => ⟨S8x1x4x4096x4096, .f32⟩
  | .hbm, ⟨51, _⟩ => ⟨S1x1x4x4096x4096, .f32⟩
  | .hbm, ⟨52, _⟩ => ⟨S8x1x4x4096x4096, .f32⟩
  | .hbm, ⟨53, _⟩ => ⟨S8x1x4x4096x4096, .f32⟩
  | .hbm, ⟨54, _⟩ => ⟨S_, .f32⟩
  | .hbm, ⟨55, _⟩ => ⟨S_, .f32⟩
  | .hbm, ⟨56, _⟩ => ⟨S8x1x4x4096x4096, .i1⟩
  | .hbm, ⟨57, _⟩ => ⟨S8x1x4x4096x4096, .f32⟩
  | .hbm, ⟨58, _⟩ => ⟨S8x1x4x4096x4096, .f32⟩
  | .hbm, ⟨59, _⟩ => ⟨S_, .f32⟩
  | .hbm, ⟨60, _⟩ => ⟨S8x1x4x4096, .f32⟩
  | .hbm, ⟨61, _⟩ => ⟨S8x1x4x4096x1, .f32⟩
  | .hbm, ⟨62, _⟩ => ⟨S8x1x4x4096x4096, .f32⟩
  | .hbm, ⟨63, _⟩ => ⟨S8x1x4x4096x4096, .f32⟩
  | .hbm, ⟨64, _⟩ => ⟨S8x1x4x4096x4096, .f32⟩
  | .hbm, ⟨65, _⟩ => ⟨S_, .f32⟩
  | .hbm, ⟨66, _⟩ => ⟨S8x1x4x4096, .f32⟩
  | .hbm, ⟨67, _⟩ => ⟨S8x1x4x64x4096, .f32⟩
  | .hbm, ⟨68, _⟩ => ⟨S8x4096x1x4x64, .f32⟩
  | .hbm, ⟨69, _⟩ => ⟨S8x4096x1x4, .f32⟩
  | .hbm, ⟨70, _⟩ => ⟨S8x4096x1x4x1, .f32⟩
  | .hbm, ⟨71, _⟩ => ⟨S8x4096x1x4x64, .f32⟩
  | .hbm, ⟨72, _⟩ => ⟨S8x4096x1x4x64, .f32⟩
  | .hbm, ⟨73, _⟩ => ⟨S8x1x4x4096, .f32⟩
  | .hbm, ⟨74, _⟩ => ⟨S8x1x4x4096, .f32⟩
  | .hbm, ⟨75, _⟩ => ⟨S8x4096x1x4, .f32⟩
  | .hbm, ⟨76, _⟩ => ⟨S8x4096x1x4x1, .f32⟩
  | .hbm, ⟨77, _⟩ => ⟨S8x4096x1x4x64, .f32⟩
  | .hbm, ⟨78, _⟩ => ⟨S8x4096x256, .f32⟩
  | .hbm, ⟨79, _⟩ => ⟨S8x4096x256, .bf16⟩
  | .hbm, ⟨80, _⟩ => ⟨S8x4096x256, .f32⟩
  | _, _ => ⟨S32768x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_2 : Ref sig .tc := ⟨.hbm, 26, rfl⟩
abbrev main_v20 : Ref sig .tc := ⟨.hbm, 27, rfl⟩
abbrev main_v21 : Ref sig .tc := ⟨.hbm, 28, rfl⟩
abbrev main_c_3 : Ref sig .tc := ⟨.hbm, 29, rfl⟩
abbrev main_v22 : Ref sig .tc := ⟨.hbm, 30, rfl⟩
abbrev main_v23 : Ref sig .tc := ⟨.hbm, 31, rfl⟩
abbrev main_c_4 : Ref sig .tc := ⟨.hbm, 32, rfl⟩
abbrev main_c_5 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v24 : Ref sig .tc := ⟨.hbm, 39, rfl⟩
abbrev main_c_6 : Ref sig .tc := ⟨.hbm, 40, rfl⟩
abbrev main_v25 : Ref sig .tc := ⟨.hbm, 41, rfl⟩
abbrev main_v26 : Ref sig .tc := ⟨.hbm, 42, rfl⟩
abbrev main_c_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v37 : Ref sig .tc := ⟨.hbm, 58, rfl⟩
abbrev main_cst_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_10 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩

abbrev nD : Nat := 1
abbrev τ : Topo := Topo.v7x

variable {F : FTy → Type} [FloatOps F]
-- ==== Band4.lean ====
abbrev S8192x3072 : Shape := ⟨2, ![8192, 3072]⟩
abbrev S32x12 : Shape := ⟨2, ![32, 12]⟩
abbrev S384 : Shape := ⟨1, ![384]⟩
abbrev S1x384 : Shape := ⟨2, ![1, 384]⟩
abbrev S_ : Shape := ⟨0, ![]⟩
abbrev S384x1 : Shape := ⟨2, ![384, 1]⟩
abbrev S384x12 : Shape := ⟨2, ![384, 12]⟩
abbrev S384x4 : Shape := ⟨2, ![384, 4]⟩
abbrev S4x384 : Shape := ⟨2, ![4, 384]⟩
abbrev S1x4x1x384 : Shape := ⟨4, ![1, 4, 1, 384]⟩
abbrev S1x4x128x384 : Shape := ⟨4, ![1, 4, 128, 384]⟩
abbrev S4x49152 : Shape := ⟨2, ![4, 49152]⟩
abbrev S4x49024 : Shape := ⟨2, ![4, 49024]⟩
abbrev S4x128x383 : Shape := ⟨3, ![4, 128, 383]⟩
abbrev S4x128x256 : Shape := ⟨3, ![4, 128, 256]⟩
abbrev S1x4x128x256 : Shape := ⟨4, ![1, 4, 128, 256]⟩
abbrev S3x4x128x256 : Shape := ⟨4, ![3, 4, 128, 256]⟩
abbrev S8x1024x3072 : Shape := ⟨3, ![8, 1024, 3072]⟩
abbrev S8x1024x1024 : Shape := ⟨3, ![8, 1024, 1024]⟩
abbrev S1x1024x1536 : Shape := ⟨3, ![1, 1024, 1536]⟩
abbrev S1x1024x512 : Shape := ⟨3, ![1, 1024, 512]⟩
abbrev S128x128 : Shape := ⟨2, ![128, 128]⟩
abbrev S1x128x256 : Shape := ⟨3, ![1, 128, 256]⟩
abbrev S128x256 : Shape := ⟨2, ![128, 256]⟩
abbrev S1x256x256 : Shape := ⟨3, ![1, 256, 256]⟩
abbrev S256x256 : Shape := ⟨2, ![256, 256]⟩
abbrev S256x128 : Shape := ⟨2, ![256, 128]⟩
abbrev S1x1x128x256 : Shape := ⟨4, ![1, 1, 128, 256]⟩
abbrev S128 : Shape := ⟨1, ![128]⟩
abbrev S128x1 : Shape := ⟨2, ![128, 1]⟩
abbrev S1x128x128 : Shape := ⟨3, ![1, 128, 128]⟩

abbrev nBuf : Space → Nat
  | .hbm => 78
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S32x12, .f32⟩
  | .hbm, ⟨2, _⟩ => ⟨S384, .i32⟩
  | .hbm, ⟨3, _⟩ => ⟨S384, .i1⟩
  | .hbm, ⟨4, _⟩ => ⟨S384, .i1⟩
  | .hbm, ⟨5, _⟩ => ⟨S1x384, .i1⟩
  | .hbm, ⟨6, _⟩ => ⟨S384, .i32⟩
  | .hbm, ⟨7, _⟩ => ⟨S384, .i1⟩
  | .hbm, ⟨8, _⟩ => ⟨S384, .i1⟩
  | .hbm, ⟨9, _⟩ => ⟨S1x384, .i1⟩
  | .hbm, ⟨10, _⟩ => ⟨S384, .i32⟩
  | .hbm, ⟨11, _⟩ => ⟨S384, .i1⟩
  | .hbm, ⟨12, _⟩ => ⟨S384, .i1⟩
  | .hbm, ⟨13, _⟩ => ⟨S1x384, .i1⟩
  | .hbm, ⟨14, _⟩ => ⟨S_, .i32⟩
  | .hbm, ⟨15, _⟩ => ⟨S384, .i32⟩
  | .hbm, ⟨16, _⟩ => ⟨S384, .i32⟩
  | .hbm, ⟨17, _⟩ => ⟨S384, .i32⟩
  | .hbm, ⟨18, _⟩ => ⟨S384x1, .i32⟩
  | .hbm, ⟨19, _⟩ => ⟨S384x12, .f32⟩
  | .hbm, ⟨20, _⟩ => ⟨S384x4, .f32⟩
  | .hbm, ⟨21, _⟩ => ⟨S4x384, .f32⟩
  | .hbm, ⟨22, _⟩ => ⟨S_, .f32⟩
  | .hbm, ⟨23, _⟩ => ⟨S_, .f32⟩
  | .hbm, ⟨24, _⟩ => ⟨S4x384, .i1⟩
  | .hbm, ⟨25, _⟩ => ⟨S4x384, .f32⟩
  | .hbm, ⟨26, _⟩ => ⟨S4x384, .f32⟩
  | .hbm, ⟨27, _⟩ => ⟨S1x4x1x384, .f32⟩
  | .hbm, ⟨28, _⟩ => ⟨S1x4x128x384, .f32⟩
  | .hbm, ⟨29, _⟩ => ⟨S4x49152, .f32⟩
  | .hbm, ⟨30, _⟩ => ⟨S4x49024, .f32⟩
  | .hbm, ⟨31, _⟩ => ⟨S4x128x383, .f32⟩
  | .hbm, ⟨32, _⟩ => ⟨S4x128x256, .f32⟩
  | .hbm, ⟨33, _⟩ => ⟨S_, .i32⟩
  | .hbm, ⟨34, _⟩ => ⟨S384, .i32⟩
  | .hbm, ⟨35, _⟩ => ⟨S384, .i32⟩
  | .hbm, ⟨36, _⟩ => ⟨S384, .i32⟩
  | .hbm, ⟨37, _⟩ => ⟨S384x1, .i32⟩
  | .hbm, ⟨38, _⟩ => ⟨S384x12, .f32⟩
  | .hbm, ⟨39, _⟩ => ⟨S384x4, .f32⟩
  | .hbm, ⟨40, _⟩ => ⟨S4x384, .f32⟩
  | .hbm, ⟨41, _⟩ => ⟨S_, .f32⟩
  | .hbm, ⟨42, _⟩ => ⟨S_, .f32⟩
  | .hbm, ⟨43, _⟩ => ⟨S4x384, .i1⟩
  | .hbm, ⟨44, _⟩ => ⟨S4x384, .f32⟩
  | .hbm, ⟨45, _⟩ => ⟨S4x384, .f32⟩
  | .hbm, ⟨46, _⟩ => ⟨S1x4x1x384, .f32⟩
  | .hbm, ⟨47, _⟩ => ⟨S1x4x128x384, .f32⟩
  | .hbm, ⟨48, _⟩ => ⟨S4x49152, .f32⟩
  | .hbm, ⟨49, _⟩ => ⟨S4x49024, .f32⟩
  | .hbm, ⟨50, _⟩ => ⟨S4x128x383, .f32⟩
  | .hbm, ⟨51, _⟩ => ⟨S4x128x256, .f32⟩
  | .hbm, ⟨52, _⟩ => ⟨S_, .i32⟩
  | .hbm, ⟨53, _⟩ => ⟨S384, .i32⟩
  | .hbm, ⟨54, _⟩ => ⟨S384, .i32⟩
  | .hbm, ⟨55, _⟩ => ⟨S384, .i32⟩
  | .hbm, ⟨56, _⟩ => ⟨S384x1, .i32⟩
  | .hbm, ⟨57, _⟩ => ⟨S384x12, .f32⟩
  | .hbm, ⟨58, _⟩ => ⟨S384x4, .f32⟩
  | .hbm, ⟨59, _⟩ => ⟨S4x384, .f32⟩
  | .hbm, ⟨60, _⟩ => ⟨S_, .f32⟩
  | .hbm, ⟨61, _⟩ => ⟨S_, .f32⟩
  | .hbm, ⟨62, _⟩ => ⟨S4x384, .i1⟩
  | .hbm, ⟨63, _⟩ => ⟨S4x384, .f32⟩
  | .hbm, ⟨64, _⟩ => ⟨S4x384, .f32⟩
  | .hbm, ⟨65, _⟩ => ⟨S1x4x1x384, .f32⟩
  | .hbm, ⟨66, _⟩ => ⟨S1x4x128x384, .f32⟩
  | .hbm, ⟨67, _⟩ => ⟨S4x49152, .f32⟩
  | .hbm, ⟨68, _⟩ => ⟨S4x49024, .f32⟩
  | .hbm, ⟨69, _⟩ => ⟨S4x128x383, .f32⟩
  | .hbm, ⟨70, _⟩ => ⟨S4x128x256, .f32⟩
  | .hbm, ⟨71, _⟩ => ⟨S1x4x128x256, .f32⟩
  | .hbm, ⟨72, _⟩ => ⟨S1x4x128x256, .f32⟩
  | .hbm, ⟨73, _⟩ => ⟨S1x4x128x256, .f32⟩
  | .hbm, ⟨74, _⟩ => ⟨S3x4x128x256, .f32⟩
  | .hbm, ⟨75, _⟩ => ⟨S8x1024x3072, .bf16⟩
  | .hbm, ⟨76, _⟩ => ⟨S8x1024x1024, .bf16⟩
  | .hbm, ⟨77, _⟩ => ⟨S8x1024x1024, .f32⟩
  | .local _ .vmem, ⟨0, _⟩ => ⟨S1x1024x1536, .bf16⟩
  | .local _ .vmem, ⟨1, _⟩ => ⟨S1x1024x1536, .bf16⟩
  | .local _ .vmem, ⟨2, _⟩ => ⟨S3x4x128x256, .f32⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .f32⟩
  | .local _ .vmem, ⟨6, _⟩ => ⟨S1x1024x512, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_v0 : Ref sig .tc := ⟨.hbm, 5, rfl⟩
abbrev main_c_2 : Ref sig .tc := ⟨.hbm, 6, rfl⟩
abbrev main_c_3 : Ref sig .tc := ⟨.hbm, 7, rfl⟩
abbrev main_c_4 : Ref sig .tc := ⟨.hbm, 8, rfl⟩
abbrev main_v1 : Ref sig .tc := ⟨.hbm, 9, rfl⟩
abbrev main_c_5 : Ref sig .tc := ⟨.hbm, 10, rfl⟩
abbrev main_c_6 : Ref sig .tc := ⟨.hbm, 11, rfl⟩
abbrev main_c_7 : Ref sig .tc := ⟨.hbm, 12, rfl⟩
abbrev main_v2 : Ref sig .tc := ⟨.hbm, 13, rfl⟩
abbrev main_c_8 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_9 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_10 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_11 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_12 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50_0 : Ref sig .tc := ⟨.hbm, 76, rfl⟩
abbrev main_v50_1 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 2], ![false, false]⟩

@[reducible] def k0_t1_loop : Scf.Loop 32 :=
  let c0_i32 : BitVec 32 := 0#32
  let c4_i32 : BitVec 32 := 4#32
  let v3 : BitVec 32 := Scalar.addi c0_i32 c4_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c256_i32 : BitVec 32 := 256#32
  let v4 : BitVec 32 := Scalar.muli arg6 c256_i32
  let c0_i32_1 : BitVec 32 := 0#32
  let v5 : BitVec 32 := Scalar.addi v4 c0_i32_1
  v5
def k0_mult2 (k0_t1 : Fin k0_t1_loop.trips) : BitVec 32 :=
  let c768_i32 : BitVec 32 := 768#32
  let c0_i32_3 : BitVec 32 := 0#32
  let c0_i32 : BitVec 32 := 0#32
  let c1_i32 : BitVec 32 := 1#32
  let arg6 : BitVec 32 := Scf.iv c0_i32 c1_i32 k0_t1
  let c256_i32 : BitVec 32 := 256#32
  let v4 : BitVec 32 := Scalar.muli arg6 c256_i32
  let c0_i32_1 : BitVec 32 := 0#32
  let v5 : BitVec 32 := Scalar.addi v4 c0_i32_1
  let v6 : BitVec 32 := v5
  let c64_i32_2 : BitVec 32 := 64#32
  let v7 : BitVec 32 := Scalar.subi v6 c64_i32_2
  let v8 : BitVec 32 := Scalar.maxsi c0_i32_3 v7
  let v9 : BitVec 32 := Scalar.minsi c768_i32 v8
  v9
def k0_off1 (k0_t1 : Fin k0_t1_loop.trips) (c0_i32_1 : BitVec 32) : Fin 3 → Nat :=
  let c0 : Index := 0#32
  let c0_i32 : BitVec 32 := 0#32
  let c1_i32 : BitVec 32 := 1#32
  let arg6 : BitVec 32 := Scf.iv c0_i32 c1_i32 k0_t1
  let c256_i32 : BitVec 32 := 256#32
  let v4 : BitVec 32 := Scalar.muli arg6 c256_i32
  let v5 : BitVec 32 := Scalar.addi v4 c0_i32_1
  let v6 : BitVec 32 := v5
  let v29 : Index := Scalar.indexCast v6
  let c0_11 : Index := 0#32
  ![0, v29.toNat, 0]
def k0_off2 (k0_t1 : Fin k0_t1_loop.trips) (c0_i32_1 : BitVec 32) : Fin 3 → Nat :=
  let c0_12 : Index := 0#32
  let c768_i32 : BitVec 32 := 768#32
  let c0_i32_3 : BitVec 32 := 0#32
  let c0_i32 : BitVec 32 := 0#32
  let c1_i32 : BitVec 32 := 1#32
  let arg6 : BitVec 32 := Scf.iv c0_i32 c1_i32 k0_t1
  let c256_i32 : BitVec 32 := 256#32
  let v4 : BitVec 32 := Scalar.muli arg6 c256_i32
  let v5 : BitVec 32 := Scalar.addi v4 c0_i32_1
  let v6 : BitVec 32 := v5
  let c64_i32_2 : BitVec 32 := 64#32
  let v7 : BitVec 32 := Scalar.subi v6 c64_i32_2
  let v8 : BitVec 32 := Scalar.maxsi c0_i32_3 v7
  let v9 : BitVec 32 := Scalar.minsi c768_i32 v8
  let v28 : BitVec 32 := v9
  let v34 : Index := Scalar.indexCast v28
  let c256 : Index := 256#32
  ![0, v34.toNat, 256]
def k0_off3 (k0_t1 : Fin k0_t1_loop.trips) (c0_i32_1 : BitVec 32) : Fin 3 → Nat :=
  let c0_13 : Index := 0#32
  let c768_i32 : BitVec 32 := 768#32
  let c0_i32_3 : BitVec 32 := 0#32
  let c0_i32 : BitVec 32 := 0#32
  let c1_i32 : BitVec 32 := 1#32
  let arg6 : BitVec 32 := Scf.iv c0_i32 c1_i32 k0_t1
  let c256_i32 : BitVec 32 := 256#32
  let v4 : BitVec 32 := Scalar.muli arg6 c256_i32
  let v5 : BitVec 32 := Scalar.addi v4 c0_i32_1
  let v6 : BitVec 32 := v5
  let c64_i32_2 : BitVec 32 := 64#32
  let v7 : BitVec 32 := Scalar.subi v6 c64_i32_2
  let v8 : BitVec 32 := Scalar.maxsi c0_i32_3 v7
  let v9 : BitVec 32 := Scalar.minsi c768_i32 v8
  let v28 : BitVec 32 := v9
  let v37 : Index := Scalar.indexCast v28
  let c512 : Index := 512#32
  ![0, v37.toNat, 512]
def k0_mult3 (k0_t1 : Fin k0_t1_loop.trips) : BitVec 32 :=
  let c0_i32 : BitVec 32 := 0#32
  let c1_i32 : BitVec 32 := 1#32
  let arg6 : BitVec 32 := Scf.iv c0_i32 c1_i32 k0_t1
  let c256_i32_14 : BitVec 32 := 256#32
  let v40 : BitVec 32 := Scalar.muli arg6 c256_i32_14
  let c128_i32 : BitVec 32 := 128#32
  let v41 : BitVec 32 := Scalar.addi v40 c128_i32
  v41
def k0_mult4 (k0_t1 : Fin k0_t1_loop.trips) : BitVec 32 :=
  let c768_i32_17 : BitVec 32 := 768#32
  let c0_i32_16 : BitVec 32 := 0#32
  let c0_i32 : BitVec 32 := 0#32
  let c1_i32 : BitVec 32 := 1#32
  let arg6 : BitVec 32 := Scf.iv c0_i32 c1_i32 k0_t1
  let c256_i32_14 : BitVec 32 := 256#32
  let v40 : BitVec 32 := Scalar.muli arg6 c256_i32_14
  let c128_i32 : BitVec 32 := 128#32
  let v41 : BitVec 32 := Scalar.addi v40 c128_i32
  let v42 : BitVec 32 := v41
  let c64_i32_15 : BitVec 32 := 64#32
  let v43 : BitVec 32 := Scalar.subi v42 c64_i32_15
  let v44 : BitVec 32 := Scalar.maxsi c0_i32_16 v43
  let v45 : BitVec 32 := Scalar.minsi c768_i32_17 v44
  v45
def k0_mult5 (k0_t1 : Fin k0_t1_loop.trips) : BitVec 32 :=
  let c0_i32 : BitVec 32 := 0#32
  let c1_i32 : BitVec 32 := 1#32
  let arg6 : BitVec 32 := Scf.iv c0_i32 c1_i32 k0_t1
  let c256_i32_32 : BitVec 32 := 256#32
  let v76 : BitVec 32 := Scalar.muli arg6 c256_i32_32
  let c0_i32_33 : BitVec 32 := 0#32
  let v77 : BitVec 32 := Scalar.addi v76 c0_i32_33
  v77
def k0_mult6 (k0_t1 : Fin k0_t1_loop.trips) : BitVec 32 :=
  let c768_i32_36 : BitVec 32 := 768#32
  let c0_i32_35 : BitVec 32 := 0#32
  let c0_i32 : BitVec 32 := 0#32
  let c1_i32 : BitVec 32 := 1#32
  let arg6 : BitVec 32 := Scf.iv c0_i32 c1_i32 k0_t1
  let c256_i32_32 : BitVec 32 := 256#32
  let v76 : BitVec 32 := Scalar.muli arg6 c256_i32_32
  let c0_i32_33 : BitVec 32 := 0#32
  let v77 : BitVec 32 := Scalar.addi v76 c0_i32_33
  let v78 : BitVec 32 := v77
  let c64_i32_34 : BitVec 32 := 64#32
  let v79 : BitVec 32 := Scalar.subi v78 c64_i32_34
  let v80 : BitVec 32 := Scalar.maxsi c0_i32_35 v79
  let v81 : BitVec 32 := Scalar.minsi c768_i32_36 v80
  v81
def k0_off4 (k0_t1 : Fin k0_t1_loop.trips) (c0_i32_33 : BitVec 32) : Fin 3 → Nat :=
  let c0_44 : Index := 0#32
  let c0_i32 : BitVec 32 := 0#32
  let c1_i32 : BitVec 32 := 1#32
  let arg6 : BitVec 32 := Scf.iv c0_i32 c1_i32 k0_t1
  let c256_i32_32 : BitVec 32 := 256#32
  let v76 : BitVec 32 := Scalar.muli arg6 c256_i32_32
  let v77 : BitVec 32 := Scalar.addi v76 c0_i32_33
  let v78 : BitVec 32 := v77
  let v101 : Index := Scalar.indexCast v78
  let c768 : Index := 768#32
  ![0, v101.toNat, 768]
def k0_off5 (k0_t1 : Fin k0_t1_loop.trips) (c0_i32_33 : BitVec 32) : Fin 3 → Nat :=
  let c0_46 : Index := 0#32
  let c768_i32_36 : BitVec 32 := 768#32
  let c0_i32_35 : BitVec 32 := 0#32
  let c0_i32 : BitVec 32 := 0#32
  let c1_i32 : BitVec 32 := 1#32
  let arg6 : BitVec 32 := Scf.iv c0_i32 c1_i32 k0_t1
  let c256_i32_32 : BitVec 32 := 256#32
  let v76 : BitVec 32 := Scalar.muli arg6 c256_i32_32
  let v77 : BitVec 32 := Scalar.addi v76 c0_i32_33
  let v78 : BitVec 32 := v77
  let c64_i32_34 : BitVec 32 := 64#32
  let v79 : BitVec 32 := Scalar.subi v78 c64_i32_34
  let v80 : BitVec 32 := Scalar.maxsi c0_i32_35 v79
  let v81 : BitVec 32 := Scalar.minsi c768_i32_36 v80
  let v100 : BitVec 32 := v81
  let v106 : Index := Scalar.indexCast v100
  let c1024 : Index := 1024#32
  ![0, v106.toNat, 1024]
def k0_off6 (k0_t1 : Fin k0_t1_loop.trips) (c0_i32_33 : BitVec 32) : Fin 3 → Nat :=
  let c0_47 : Index := 0#32
  let c768_i32_36 : BitVec 32 := 768#32
  let c0_i32_35 : BitVec 32 := 0#32
  let c0_i32 : BitVec 32 := 0#32
  let c1_i32 : BitVec 32 := 1#32
  let arg6 : BitVec 32 := Scf.iv c0_i32 c1_i32 k0_t1
  let c256_i32_32 : BitVec 32 := 256#32
  let v76 : BitVec 32 := Scalar.muli arg6 c256_i32_32
  let v77 : BitVec 32 := Scalar.addi v76 c0_i32_33
  let v78 : BitVec 32 := v77
  let c64_i32_34 : BitVec 32 := 64#32
  let v79 : BitVec 32 := Scalar.subi v78 c64_i32_34
  let v80 : BitVec 32 := Scalar.maxsi c0_i32_35 v79
  let v81 : BitVec 32 := Scalar.minsi c768_i32_36 v80
  let v100 : BitVec 32 := v81
  let v109 : Index := Scalar.indexCast v100
  let c1280 : Index := 1280#32
  ![0, v109.toNat, 1280]
def k0_mult7 (k0_t1 : Fin k0_t1_loop.trips) : BitVec 32 :=
  let c0_i32 : BitVec 32 := 0#32
  let c1_i32 : BitVec 32 := 1#32
  let arg6 : BitVec 32 := Scf.iv c0_i32 c1_i32 k0_t1
  let c256_i32_48 : BitVec 32 := 256#32
  let v112 : BitVec 32 := Scalar.muli arg6 c256_i32_48
  let c128_i32_49 : BitVec 32 := 128#32
  let v113 : BitVec 32 := Scalar.addi v112 c128_i32_49
  v113
def k0_mult8 (k0_t1 : Fin k0_t1_loop.trips) : BitVec 32 :=
  let c768_i32_52 : BitVec 32 := 768#32
  let c0_i32_51 : BitVec 32 := 0#32
  let c0_i32 : BitVec 32 := 0#32
  let c1_i32 : BitVec 32 := 1#32
  let arg6 : BitVec 32 := Scf.iv c0_i32 c1_i32 k0_t1
  let c256_i32_48 : BitVec 32 := 256#32
  let v112 : BitVec 32 := Scalar.muli arg6 c256_i32_48
  let c128_i32_49 : BitVec 32 := 128#32
  let v113 : BitVec 32 := Scalar.addi v112 c128_i32_49
  let v114 : BitVec 32 := v113
  let c64_i32_50 : BitVec 32 := 64#32
  let v115 : BitVec 32 := Scalar.subi v114 c64_i32_50
  let v116 : BitVec 32 := Scalar.maxsi c0_i32_51 v115
  let v117 : BitVec 32 := Scalar.minsi c768_i32_52 v116
  v117
def k0_off7 (k0_t1 : Fin k0_t1_loop.trips) (c0_i32_1 : BitVec 32) : Fin 4 → Nat :=
  let c0_i32 : BitVec 32 := 0#32
  let c1_i32 : BitVec 32 := 1#32
  let arg6 : BitVec 32 := Scf.iv c0_i32 c1_i32 k0_t1
  let c256_i32 : BitVec 32 := 256#32
  let v4 : BitVec 32 := Scalar.muli arg6 c256_i32
  let v5 : BitVec 32 := Scalar.addi v4 c0_i32_1
  let v6 : BitVec 32 := v5
  let c768_i32 : BitVec 32 := 768#32
  let c0_i32_3 : BitVec 32 := 0#32
  let c64_i32_2 : BitVec 32 := 64#32
  let v7 : BitVec 32 := Scalar.subi v6 c64_i32_2
  let v8 : BitVec 32 := Scalar.maxsi c0_i32_3 v7
  let v9 : BitVec 32 := Scalar.minsi c768_i32 v8
  let v10 : BitVec 32 := Scalar.subi v6 v9
  let c0_i32_5 : BitVec 32 := 0#32
  let v12 : BitVec 1 := Scalar.cmpi .sgt v10 c0_i32_5
  let v13 : BitVec 32 := Scalar.extui v12
  let c0_i32_6 : BitVec 32 := 0#32
  let v14 : BitVec 1 := Scalar.cmpi .slt v10 c0_i32_6
  let v15 : BitVec 32 := Scalar.extui v14
  let v16 : BitVec 32 := Scalar.subi v13 v15
  let c64_i32_4 : BitVec 32 := 64#32
  let c0_i32_7 : BitVec 32 := 0#32
  let v17 : BitVec 1 := Scalar.cmpi .sgt c64_i32_4 c0_i32_7
  let v18 : BitVec 32 := Scalar.extui v17
  let c0_i32_8 : BitVec 32 := 0#32
  let v19 : BitVec 1 := Scalar.cmpi .slt c64_i32_4 c0_i32_8
  let v20 : BitVec 32 := Scalar.extui v19
  let v21 : BitVec 32 := Scalar.subi v18 v20
  let v22 : BitVec 1 := Scalar.cmpi .ne v16 v21
  let v23 : BitVec 32 := Scalar.remsi v10 c64_i32_4
  let c0_i32_9 : BitVec 32 := 0#32
  let v24 : BitVec 1 := Scalar.cmpi .ne v23 c0_i32_9
  let v25 : BitVec 1 := Scalar.andi v22 v24
  let v11 : BitVec 32 := Scalar.divsi v10 c64_i32_4
  let c1_i32_10 : BitVec 32 := 1#32
  let v26 : BitVec 32 := Scalar.subi v11 c1_i32_10
  let v27 : BitVec 32 := Scalar.select v25 v26 v11
  let v236 : Index := Scalar.indexCast v27
  let c0_107 : Index := 0#32
  let c0_108 : Index := 0#32
  let c0_109 : Index := 0#32
  ![v236.toNat, 0, 0, 0]
def k0_off8 (k0_t1 : Fin k0_t1_loop.trips) (c0_i32_1 : BitVec 32) : Fin 4 → Nat :=
  let c0_i32 : BitVec 32 := 0#32
  let c1_i32 : BitVec 32 := 1#32
  let arg6 : BitVec 32 := Scf.iv c0_i32 c1_i32 k0_t1
  let c256_i32 : BitVec 32 := 256#32
  let v4 : BitVec 32 := Scalar.muli arg6 c256_i32
  let v5 : BitVec 32 := Scalar.addi v4 c0_i32_1
  let v6 : BitVec 32 := v5
  let c768_i32 : BitVec 32 := 768#32
  let c0_i32_3 : BitVec 32 := 0#32
  let c64_i32_2 : BitVec 32 := 64#32
  let v7 : BitVec 32 := Scalar.subi v6 c64_i32_2
  let v8 : BitVec 32 := Scalar.maxsi c0_i32_3 v7
  let v9 : BitVec 32 := Scalar.minsi c768_i32 v8
  let v10 : BitVec 32 := Scalar.subi v6 v9
  let c0_i32_5 : BitVec 32 := 0#32
  let v12 : BitVec 1 := Scalar.cmpi .sgt v10 c0_i32_5
  let v13 : BitVec 32 := Scalar.extui v12
  let c0_i32_6 : BitVec 32 := 0#32
  let v14 : BitVec 1 := Scalar.cmpi .slt v10 c0_i32_6
  let v15 : BitVec 32 := Scalar.extui v14
  let v16 : BitVec 32 := Scalar.subi v13 v15
  let c64_i32_4 : BitVec 32 := 64#32
  let c0_i32_7 : BitVec 32 := 0#32
  let v17 : BitVec 1 := Scalar.cmpi .sgt c64_i32_4 c0_i32_7
  let v18 : BitVec 32 := Scalar.extui v17
  let c0_i32_8 : BitVec 32 := 0#32
  let v19 : BitVec 1 := Scalar.cmpi .slt c64_i32_4 c0_i32_8
  let v20 : BitVec 32 := Scalar.extui v19
  let v21 : BitVec 32 := Scalar.subi v18 v20
  let v22 : BitVec 1 := Scalar.cmpi .ne v16 v21
  let v23 : BitVec 32 := Scalar.remsi v10 c64_i32_4
  let c0_i32_9 : BitVec 32 := 0#32
  let v24 : BitVec 1 := Scalar.cmpi .ne v23 c0_i32_9
  let v25 : BitVec 1 := Scalar.andi v22 v24
  let v11 : BitVec 32 := Scalar.divsi v10 c64_i32_4
  let c1_i32_10 : BitVec 32 := 1#32
  let v26 : BitVec 32 := Scalar.subi v11 c1_i32_10
  let v27 : BitVec 32 := Scalar.select v25 v26 v11
  let v250 : Index := Scalar.indexCast v27
  let c1 : Index := 1#32
  let c0_112 : Index := 0#32
  let c0_113 : Index := 0#32
  ![v250.toNat, 1, 0, 0]
def k0_off9 (k0_t1 : Fin k0_t1_loop.trips) (c0_i32_1 : BitVec 32) : Fin 4 → Nat :=
  let c0_i32 : BitVec 32 := 0#32
  let c1_i32 : BitVec 32 := 1#32
  let arg6 : BitVec 32 := Scf.iv c0_i32 c1_i32 k0_t1
  let c256_i32 : BitVec 32 := 256#32
  let v4 : BitVec 32 := Scalar.muli arg6 c256_i32
  let v5 : BitVec 32 := Scalar.addi v4 c0_i32_1
  let v6 : BitVec 32 := v5
  let c768_i32 : BitVec 32 := 768#32
  let c0_i32_3 : BitVec 32 := 0#32
  let c64_i32_2 : BitVec 32 := 64#32
  let v7 : BitVec 32 := Scalar.subi v6 c64_i32_2
  let v8 : BitVec 32 := Scalar.maxsi c0_i32_3 v7
  let v9 : BitVec 32 := Scalar.minsi c768_i32 v8
  let v10 : BitVec 32 := Scalar.subi v6 v9
  let c0_i32_5 : BitVec 32 := 0#32
  let v12 : BitVec 1 := Scalar.cmpi .sgt v10 c0_i32_5
  let v13 : BitVec 32 := Scalar.extui v12
  let c0_i32_6 : BitVec 32 := 0#32
  let v14 : BitVec 1 := Scalar.cmpi .slt v10 c0_i32_6
  let v15 : BitVec 32 := Scalar.extui v14
  let v16 : BitVec 32 := Scalar.subi v13 v15
  let c64_i32_4 : BitVec 32 := 64#32
  let c0_i32_7 : BitVec 32 := 0#32
  let v17 : BitVec 1 := Scalar.cmpi .sgt c64_i32_4 c0_i32_7
  let v18 : BitVec 32 := Scalar.extui v17
  let c0_i32_8 : BitVec 32 := 0#32
  let v19 : BitVec 1 := Scalar.cmpi .slt c64_i32_4 c0_i32_8
  let v20 : BitVec 32 := Scalar.extui v19
  let v21 : BitVec 32 := Scalar.subi v18 v20
  let v22 : BitVec 1 := Scalar.cmpi .ne v16 v21
  let v23 : BitVec 32 := Scalar.remsi v10 c64_i32_4
  let c0_i32_9 : BitVec 32 := 0#32
  let v24 : BitVec 1 := Scalar.cmpi .ne v23 c0_i32_9
  let v25 : BitVec 1 := Scalar.andi v22 v24
  let v11 : BitVec 32 := Scalar.divsi v10 c64_i32_4
  let c1_i32_10 : BitVec 32 := 1#32
  let v26 : BitVec 32 := Scalar.subi v11 c1_i32_10
  let v27 : BitVec 32 := Scalar.select v25 v26 v11
  let v264 : Index := Scalar.indexCast v27
  let c2 : Index := 2#32
  let c0_116 : Index := 0#32
  let c0_117 : Index := 0#32
  ![v264.toNat, 2, 0, 0]
def k0_off10 (k0_t1 : Fin k0_t1_loop.trips) (c0_i32_1 : BitVec 32) : Fin 4 → Nat :=
  let c0_i32 : BitVec 32 := 0#32
  let c1_i32 : BitVec 32 := 1#32
  let arg6 : BitVec 32 := Scf.iv c0_i32 c1_i32 k0_t1
  let c256_i32 : BitVec 32 := 256#32
  let v4 : BitVec 32 := Scalar.muli arg6 c256_i32
  let v5 : BitVec 32 := Scalar.addi v4 c0_i32_1
  let v6 : BitVec 32 := v5
  let c768_i32 : BitVec 32 := 768#32
  let c0_i32_3 : BitVec 32 := 0#32
  let c64_i32_2 : BitVec 32 := 64#32
  let v7 : BitVec 32 := Scalar.subi v6 c64_i32_2
  let v8 : BitVec 32 := Scalar.maxsi c0_i32_3 v7
  let v9 : BitVec 32 := Scalar.minsi c768_i32 v8
  let v10 : BitVec 32 := Scalar.subi v6 v9
  let c0_i32_5 : BitVec 32 := 0#32
  let v12 : BitVec 1 := Scalar.cmpi .sgt v10 c0_i32_5
  let v13 : BitVec 32 := Scalar.extui v12
  let c0_i32_6 : BitVec 32 := 0#32
  let v14 : BitVec 1 := Scalar.cmpi .slt v10 c0_i32_6
  let v15 : BitVec 32 := Scalar.extui v14
  let v16 : BitVec 32 := Scalar.subi v13 v15
  let c64_i32_4 : BitVec 32 := 64#32
  let c0_i32_7 : BitVec 32 := 0#32
  let v17 : BitVec 1 := Scalar.cmpi .sgt c64_i32_4 c0_i32_7
  let v18 : BitVec 32 := Scalar.extui v17
  let c0_i32_8 : BitVec 32 := 0#32
  let v19 : BitVec 1 := Scalar.cmpi .slt c64_i32_4 c0_i32_8
  let v20 : BitVec 32 := Scalar.extui v19
  let v21 : BitVec 32 := Scalar.subi v18 v20
  let v22 : BitVec 1 := Scalar.cmpi .ne v16 v21
  let v23 : BitVec 32 := Scalar.remsi v10 c64_i32_4
  let c0_i32_9 : BitVec 32 := 0#32
  let v24 : BitVec 1 := Scalar.cmpi .ne v23 c0_i32_9
  let v25 : BitVec 1 := Scalar.andi v22 v24
  let v11 : BitVec 32 := Scalar.divsi v10 c64_i32_4
  let c1_i32_10 : BitVec 32 := 1#32
  let v26 : BitVec 32 := Scalar.subi v11 c1_i32_10
  let v27 : BitVec 32 := Scalar.select v25 v26 v11
  let v278 : Index := Scalar.indexCast v27
  let c3 : Index := 3#32
  let c0_120 : Index := 0#32
  let c0_121 : Index := 0#32
  ![v278.toNat, 3, 0, 0]
def k0_off11 (k0_t1 : Fin k0_t1_loop.trips) (c0_i32_1 : BitVec 32) : Fin 3 → Nat :=
  let c0_200 : Index := 0#32
  let c0_i32 : BitVec 32 := 0#32
  let c1_i32 : BitVec 32 := 1#32
  let arg6 : BitVec 32 := Scf.iv c0_i32 c1_i32 k0_t1
  let c256_i32 : BitVec 32 := 256#32
  let v4 : BitVec 32 := Scalar.muli arg6 c256_i32
  let v5 : BitVec 32 := Scalar.addi v4 c0_i32_1
  let v6 : BitVec 32 := v5
  let v503 : Index := Scalar.indexCast v6
  let c0_201 : Index := 0#32
  ![0, v503.toNat, 0]
def k0_off12 (k0_t1 : Fin k0_t1_loop.trips) (c0_i32_1 : BitVec 32) : Fin 3 → Nat :=
  let c0_204 : Index := 0#32
  let c0_i32 : BitVec 32 := 0#32
  let c1_i32 : BitVec 32 := 1#32
  let arg6 : BitVec 32 := Scf.iv c0_i32 c1_i32 k0_t1
  let c256_i32 : BitVec 32 := 256#32
  let v4 : BitVec 32 := Scalar.muli arg6 c256_i32
  let v5 : BitVec 32 := Scalar.addi v4 c0_i32_1
  let v6 : BitVec 32 := v5
  let v522 : Index := Scalar.indexCast v6
  let c128 : Index := 128#32
  ![0, v522.toNat, 128]
def k0_off13 (k0_t1 : Fin k0_t1_loop.trips) (c0_i32_33 : BitVec 32) : Fin 3 → Nat :=
  let c0_215 : Index := 0#32
  let c0_i32 : BitVec 32 := 0#32
  let c1_i32 : BitVec 32 := 1#32
  let arg6 : BitVec 32 := Scf.iv c0_i32 c1_i32 k0_t1
  let c256_i32_32 : BitVec 32 := 256#32
  let v76 : BitVec 32 := Scalar.muli arg6 c256_i32_32
  let v77 : BitVec 32 := Scalar.addi v76 c0_i32_33
  let v78 : BitVec 32 := v77
  let v579 : Index := Scalar.indexCast v78
  let c256_216 : Index := 256#32
  ![0, v579.toNat, 256]
def k0_off14 (k0_t1 : Fin k0_t1_loop.trips) (c0_i32_33 : BitVec 32) : Fin 3 → Nat :=
  let c0_219 : Index := 0#32
  let c0_i32 : BitVec 32 := 0#32
  let c1_i32 : BitVec 32 := 1#32
  let arg6 : BitVec 32 := Scf.iv c0_i32 c1_i32 k0_t1
  let c256_i32_32 : BitVec 32 := 256#32
  let v76 : BitVec 32 := Scalar.muli arg6 c256_i32_32
  let v77 : BitVec 32 := Scalar.addi v76 c0_i32_33
  let v78 : BitVec 32 := v77
  let v598 : Index := Scalar.indexCast v78
  let c384 : Index := 384#32
  ![0, v598.toNat, 384]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3x4x128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Band4RefIdeal.lean ====
abbrev S8192x3072 : Shape := ⟨2, ![8192, 3072]⟩
abbrev S32x12 : Shape := ⟨2, ![32, 12]⟩
abbrev S129 : Shape := ⟨1, ![129]⟩
abbrev S_ : Shape := ⟨0, ![]⟩
abbrev S129x1 : Shape := ⟨2, ![129, 1]⟩
abbrev S129x12 : Shape := ⟨2, ![129, 12]⟩
abbrev S129x4 : Shape := ⟨2, ![129, 4]⟩
abbrev S8x1024x4x3x4x64 : Shape := ⟨6, ![8, 1024, 4, 3, 4, 64]⟩
abbrev S8x1024x4x1x4x64 : Shape := ⟨6, ![8, 1024, 4, 1, 4, 64]⟩
abbrev S8x1024x4x4x64 : Shape := ⟨5, ![8, 1024, 4, 4, 64]⟩
abbrev S1024x1024 : Shape := ⟨2, ![1024, 1024]⟩
abbrev S1024x1024x1 : Shape := ⟨3, ![1024, 1024, 1]⟩
abbrev S1024x1024x4 : Shape := ⟨3, ![1024, 1024, 4]⟩
abbrev S4x1024x1024 : Shape := ⟨3, ![4, 1024, 1024]⟩
abbrev S8x4x4x1024x1024 : Shape := ⟨5, ![8, 4, 4, 1024, 1024]⟩
abbrev S1x1x4x1024x1024 : Shape := ⟨5, ![1, 1, 4, 1024, 1024]⟩
abbrev S8x4x4x1024 : Shape := ⟨4, ![8, 4, 4, 1024]⟩
abbrev S8x4x4x1024x1 : Shape := ⟨5, ![8, 4, 4, 1024, 1]⟩
abbrev S8x4x4x64x1024 : Shape := ⟨5, ![8, 4, 4, 64, 1024]⟩
abbrev S8x1024x4x4 : Shape := ⟨4, ![8, 1024, 4, 4]⟩
abbrev S8x1024x4x4x1 : Shape := ⟨5, ![8, 1024, 4, 4, 1]⟩
abbrev S8x1024x1024 : Shape := ⟨3, ![8, 1024, 1024]⟩

abbrev nBuf : Space → Nat
  | .hbm => 81
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S32x12, .f32⟩
  | .hbm, ⟨2, _⟩ => ⟨S129, .i32⟩
  | .hbm, ⟨3, _⟩ => ⟨S129, .i1⟩
  | .hbm, ⟨4, _⟩ => ⟨S_, .i32⟩
  | .hbm, ⟨5, _⟩ => ⟨S129, .i32⟩
  | .hbm, ⟨6, _⟩ => ⟨S129, .i32⟩
  | .hbm, ⟨7, _⟩ => ⟨S129, .i32⟩
  | .hbm, ⟨8, _⟩ => ⟨S129x1, .i32⟩
  | .hbm, ⟨9, _⟩ => ⟨S129x12, .f32⟩
  | .hbm, ⟨10, _⟩ => ⟨S129x4, .f32⟩
  | .hbm, ⟨11, _⟩ => ⟨S8192x3072, .f32⟩
  | .hbm, ⟨12, _⟩ => ⟨S8x1024x4x3x4x64, .f32⟩
  | .hbm, ⟨13, _⟩ => ⟨S8x1024x4x1x4x64, .f32⟩
  | .hbm, ⟨14, _⟩ => ⟨S8x1024x4x4x64, .f32⟩
  | .hbm, ⟨15, _⟩ => ⟨S_, .f32⟩
  | .hbm, ⟨16, _⟩ => ⟨S8x1024x4x4x64, .f32⟩
  | .hbm, ⟨17, _⟩ => ⟨S8x1024x4x4x64, .f32⟩
  | .hbm, ⟨18, _⟩ => ⟨S8x1024x4x1x4x64, .f32⟩
  | .hbm, ⟨19, _⟩ => ⟨S8x1024x4x4x64, .f32⟩
  | .hbm, ⟨20, _⟩ => ⟨S8x1024x4x1x4x64, .f32⟩
  | .hbm, ⟨21, _⟩ => ⟨S8x1024x4x4x64, .f32⟩
  | .hbm, ⟨22, _⟩ => ⟨S1024x1024, .i32⟩
  | .hbm, ⟨23, _⟩ => ⟨S1024x1024, .i32⟩
  | .hbm, ⟨24, _⟩ => ⟨S1024x1024, .i32⟩
  | .hbm, ⟨25, _⟩ => ⟨S1024x1024, .i32⟩
  | .hbm, ⟨26, _⟩ => ⟨S_, .i32⟩
  | .hbm, ⟨27, _⟩ => ⟨S1024x1024, .i32⟩
  | .hbm, ⟨28, _⟩ => ⟨S1024x1024, .i1⟩
  | .hbm, ⟨29, _⟩ => ⟨S_, .i32⟩
  | .hbm, ⟨30, _⟩ => ⟨S1024x1024, .i32⟩
  | .hbm, ⟨31, _⟩ => ⟨S1024x1024, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S1024x1024, .i32⟩
  | .hbm, ⟨36, _⟩ => ⟨S1024x1024, .i32⟩
  | .hbm, ⟨37, _⟩ => ⟨S_, .i32⟩
  | .hbm, ⟨38, _⟩ => ⟨S1024x1024, .i32⟩
  | .hbm, ⟨39, _⟩ => ⟨S1024x1024, .i32⟩
  | .hbm, ⟨40, _⟩ => ⟨S_, .i32⟩
  | .hbm, ⟨41, _⟩ => ⟨S1024x1024, .i32⟩
  | .hbm, ⟨42, _⟩ => ⟨S1024x1024, .i1⟩
  | .hbm, ⟨43, _⟩ => ⟨S_, .i32⟩
  | .hbm, ⟨44, _⟩ => ⟨S1024x1024, .i32⟩
  | .hbm, ⟨45, _⟩ => ⟨S1024x1024, .i32⟩
  | .hbm, ⟨46, _⟩ => ⟨S1024x1024, .i32⟩
  | .hbm, ⟨47, _⟩ => ⟨S1024x1024x1, .i32⟩
  | .hbm, ⟨48, _⟩ => ⟨S1024x1024x4, .f32⟩
  | .hbm, ⟨49, _⟩ => ⟨S4x1024x1024, .f32⟩
  | .hbm, ⟨50, _⟩ => ⟨S8x4x4x1024x1024, .f32⟩
  | .hbm, ⟨51, _⟩ => ⟨S1x1x4x1024x1024, .f32⟩
  | .hbm, ⟨52, _⟩ => ⟨S8x4x4x1024x1024, .f32⟩
  | .hbm, ⟨53, _⟩ => ⟨S8x4x4x1024x1024, .f32⟩
  | .hbm, ⟨54, _⟩ => ⟨S_, .f32⟩
  | .hbm, ⟨55, _⟩ => ⟨S_, .f32⟩
  | .hbm, ⟨56, _⟩ => ⟨S8x4x4x1024x1024, .i1⟩
  | .hbm, ⟨57, _⟩ => ⟨S8x4x4x1024x1024, .f32⟩
  | .hbm, ⟨58, _⟩ => ⟨S8x4x4x1024x1024, .f32⟩
  | .hbm, ⟨59, _⟩ => ⟨S_, .f32⟩
  | .hbm, ⟨60, _⟩ => ⟨S8x4x4x1024, .f32⟩
  | .hbm, ⟨61, _⟩ => ⟨S8x4x4x1024x1, .f32⟩
  | .hbm, ⟨62, _⟩ => ⟨S8x4x4x1024x1024, .f32⟩
  | .hbm, ⟨63, _⟩ => ⟨S8x4x4x1024x1024, .f32⟩
  | .hbm, ⟨64, _⟩ => ⟨S8x4x4x1024x1024, .f32⟩
  | .hbm, ⟨65, _⟩ => ⟨S_, .f32⟩
  | .hbm, ⟨66, _⟩ => ⟨S8x4x4x1024, .f32⟩
  | .hbm, ⟨67, _⟩ => ⟨S8x4x4x64x1024, .f32⟩
  | .hbm, ⟨68, _⟩ => ⟨S8x1024x4x4x64, .f32⟩
  | .hbm, ⟨69, _⟩ => ⟨S8x1024x4x4, .f32⟩
  | .hbm, ⟨70, _⟩ => ⟨S8x1024x4x4x1, .f32⟩
  | .hbm, ⟨71, _⟩ => ⟨S8x1024x4x4x64, .f32⟩
  | .hbm, ⟨72, _⟩ => ⟨S8x1024x4x4x64, .f32⟩
  | .hbm, ⟨73, _⟩ => ⟨S8x4x4x1024, .f32⟩
  | .hbm, ⟨74, _⟩ => ⟨S8x4x4x1024, .f32⟩
  | .hbm, ⟨75, _⟩ => ⟨S8x1024x4x4, .f32⟩
  | .hbm, ⟨76, _⟩ => ⟨S8x1024x4x4x1, .f32⟩
  | .hbm, ⟨77, _⟩ => ⟨S8x1024x4x4x64, .f32⟩
  | .hbm, ⟨78, _⟩ => ⟨S8x1024x1024, .f32⟩
  | .hbm, ⟨79, _⟩ => ⟨S8x1024x1024, .bf16⟩
  | .hbm, ⟨80, _⟩ => ⟨S8x1024x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_2 : Ref sig .tc := ⟨.hbm, 26, rfl⟩
abbrev main_v20 : Ref sig .tc := ⟨.hbm, 27, rfl⟩
abbrev main_v21 : Ref sig .tc := ⟨.hbm, 28, rfl⟩
abbrev main_c_3 : Ref sig .tc := ⟨.hbm, 29, rfl⟩
abbrev main_v22 : Ref sig .tc := ⟨.hbm, 30, rfl⟩
abbrev main_v23 : Ref sig .tc := ⟨.hbm, 31, rfl⟩
abbrev main_c_4 : Ref sig .tc := ⟨.hbm, 32, rfl⟩
abbrev main_c_5 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v24 : Ref sig .tc := ⟨.hbm, 39, rfl⟩
abbrev main_c_6 : Ref sig .tc := ⟨.hbm, 40, rfl⟩
abbrev main_v25 : Ref sig .tc := ⟨.hbm, 41, rfl⟩
abbrev main_v26 : Ref sig .tc := ⟨.hbm, 42, rfl⟩
abbrev main_c_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v37 : Ref sig .tc := ⟨.hbm, 58, rfl⟩
abbrev main_cst_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_10 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩

abbrev nD : Nat := 1
abbrev τ : Topo := Topo.v7x

variable {F : FTy → Type} [FloatOps F]
-- ==== Band16.lean ====
abbrev S2048x12288 : Shape := ⟨2, ![2048, 12288]⟩
abbrev S32x12 : Shape := ⟨2, ![32, 12]⟩
abbrev S384 : Shape := ⟨1, ![384]⟩
abbrev S1x384 : Shape := ⟨2, ![1, 384]⟩
abbrev S_ : Shape := ⟨0, ![]⟩
abbrev S384x1 : Shape := ⟨2, ![384, 1]⟩
abbrev S384x12 : Shape := ⟨2, ![384, 12]⟩
abbrev S384x4 : Shape := ⟨2, ![384, 4]⟩
abbrev S4x384 : Shape := ⟨2, ![4, 384]⟩
abbrev S1x4x1x384 : Shape := ⟨4, ![1, 4, 1, 384]⟩
abbrev S1x4x128x384 : Shape := ⟨4, ![1, 4, 128, 384]⟩
abbrev S4x49152 : Shape := ⟨2, ![4, 49152]⟩
abbrev S4x49024 : Shape := ⟨2, ![4, 49024]⟩
abbrev S4x128x383 : Shape := ⟨3, ![4, 128, 383]⟩
abbrev S4x128x256 : Shape := ⟨3, ![4, 128, 256]⟩
abbrev S1x4x128x256 : Shape := ⟨4, ![1, 4, 128, 256]⟩
abbrev S3x4x128x256 : Shape := ⟨4, ![3, 4, 128, 256]⟩
abbrev S8x256x12288 : Shape := ⟨3, ![8, 256, 12288]⟩
abbrev S8x256x4096 : Shape := ⟨3, ![8, 256, 4096]⟩
abbrev S1x256x1536 : Shape := ⟨3, ![1, 256, 1536]⟩
abbrev S1x256x512 : Shape := ⟨3, ![1, 256, 512]⟩
abbrev S128x128 : Shape := ⟨2, ![128, 128]⟩
abbrev S1x128x256 : Shape := ⟨3, ![1, 128, 256]⟩
abbrev S128x256 : Shape := ⟨2, ![128, 256]⟩
abbrev S1x256x256 : Shape := ⟨3, ![1, 256, 256]⟩
abbrev S256x256 : Shape := ⟨2, ![256, 256]⟩
abbrev S256x128 : Shape := ⟨2, ![256, 128]⟩
abbrev S1x1x128x256 : Shape := ⟨4, ![1, 1, 128, 256]⟩
abbrev S128 : Shape := ⟨1, ![128]⟩
abbrev S128x1 : Shape := ⟨2, ![128, 1]⟩
abbrev S1x128x128 : Shape := ⟨3, ![1, 128, 128]⟩

abbrev nBuf : Space → Nat
  | .hbm => 78
  | .vmem => 7
  | .smem => 0
  | _ => 0

abbrev bufTy : (tb : Table) → Fin (tcTables nBuf tb) → BufTy
  | .hbm, ⟨0, _⟩ => ⟨S2048x12288, .bf16⟩
  | .hbm, ⟨1, _⟩ => ⟨S32x12, .f32⟩
  | .hbm, ⟨2, _⟩ => ⟨S384, .i32⟩
  | .hbm, ⟨3, _⟩ => ⟨S384, .i1⟩
  | .hbm, ⟨4, _⟩ => ⟨S384, .i1⟩
  | .hbm, ⟨5, _⟩ => ⟨S1x384, .i1⟩
  | .hbm, ⟨6, _⟩ => ⟨S384, .i32⟩
  | .hbm, ⟨7, _⟩ => ⟨S384, .i1⟩
  | .hbm, ⟨8, _⟩ => ⟨S384, .i1⟩
  | .hbm, ⟨9, _⟩ => ⟨S1x384, .i1⟩
  | .hbm, ⟨10, _⟩ => ⟨S384, .i32⟩
  | .hbm, ⟨11, _⟩ => ⟨S384, .i1⟩
  | .hbm, ⟨12, _⟩ => ⟨S384, .i1⟩
  | .hbm, ⟨13, _⟩ => ⟨S1x384, .i1⟩
  | .hbm, ⟨14, _⟩ => ⟨S_, .i32⟩
  | .hbm, ⟨15, _⟩ => ⟨S384, .i32⟩
  | .hbm, ⟨16, _⟩ => ⟨S384, .i32⟩
  | .hbm, ⟨17, _⟩ => ⟨S384, .i32⟩
  | .hbm, ⟨18, _⟩ => ⟨S384x1, .i32⟩
  | .hbm, ⟨19, _⟩ => ⟨S384x12, .f32⟩
  | .hbm, ⟨20, _⟩ => ⟨S384x4, .f32⟩
  | .hbm, ⟨21, _⟩ => ⟨S4x384, .f32⟩
  | .hbm, ⟨22, _⟩ => ⟨S_, .f32⟩
  | .hbm, ⟨23, _⟩ => ⟨S_, .f32⟩
  | .hbm, ⟨24, _⟩ => ⟨S4x384, .i1⟩
  | .hbm, ⟨25, _⟩ => ⟨S4x384, .f32⟩
  | .hbm, ⟨26, _⟩ => ⟨S4x384, .f32⟩
  | .hbm, ⟨27, _⟩ => ⟨S1x4x1x384, .f32⟩
  | .hbm, ⟨28, _⟩ => ⟨S1x4x128x384, .f32⟩
  | .hbm, ⟨29, _⟩ => ⟨S4x49152, .f32⟩
  | .hbm, ⟨30, _⟩ => ⟨S4x49024, .f32⟩
  | .hbm, ⟨31, _⟩ => ⟨S4x128x383, .f32⟩
  | .hbm, ⟨32, _⟩ => ⟨S4x128x256, .f32⟩
  | .hbm, ⟨33, _⟩ => ⟨S_, .i32⟩
  | .hbm, ⟨34, _⟩ => ⟨S384, .i32⟩
  | .hbm, ⟨35, _⟩ => ⟨S384, .i32⟩
  | .hbm, ⟨36, _⟩ => ⟨S384, .i32⟩
  | .hbm, ⟨37, _⟩ => ⟨S384x1, .i32⟩
  | .hbm, ⟨38, _⟩ => ⟨S384x12, .f32⟩
  | .hbm, ⟨39, _⟩ => ⟨S384x4, .f32⟩
  | .hbm, ⟨40, _⟩ => ⟨S4x384, .f32⟩
  | .hbm, ⟨41, _⟩ => ⟨S_, .f32⟩
  | .hbm, ⟨42, _⟩ => ⟨S_, .f32⟩
  | .hbm, ⟨43, _⟩ => ⟨S4x384, .i1⟩
  | .hbm, ⟨44, _⟩ => ⟨S4x384, .f32⟩
  | .hbm, ⟨45, _⟩ => ⟨S4x384, .f32⟩
  | .hbm, ⟨46, _⟩ => ⟨S1x4x1x384, .f32⟩
  | .hbm, ⟨47, _⟩ => ⟨S1x4x128x384, .f32⟩
  | .hbm, ⟨48, _⟩ => ⟨S4x49152, .f32⟩
  | .hbm, ⟨49, _⟩ => ⟨S4x49024, .f32⟩
  | .hbm, ⟨50, _⟩ => ⟨S4x128x383, .f32⟩
  | .hbm, ⟨51, _⟩ => ⟨S4x128x256, .f32⟩
  | .hbm, ⟨52, _⟩ => ⟨S_, .i32⟩
  | .hbm, ⟨53, _⟩ => ⟨S384, .i32⟩
  | .hbm, ⟨54, _⟩ => ⟨S384, .i32⟩
  | .hbm, ⟨55, _⟩ => ⟨S384, .i32⟩
  | .hbm, ⟨56, _⟩ => ⟨S384x1, .i32⟩
  | .hbm, ⟨57, _⟩ => ⟨S384x12, .f32⟩
  | .hbm, ⟨58, _⟩ => ⟨S384x4, .f32⟩
  | .hbm, ⟨59, _⟩ => ⟨S4x384, .f32⟩
  | .hbm, ⟨60, _⟩ => ⟨S_, .f32⟩
  | .hbm, ⟨61, _⟩ => ⟨S_, .f32⟩
  | .hbm, ⟨62, _⟩ => ⟨S4x384, .i1⟩
  | .hbm, ⟨63, _⟩ => ⟨S4x384, .f32⟩
  | .hbm, ⟨64, _⟩ => ⟨S4x384, .f32⟩
  | .hbm, ⟨65, _⟩ => ⟨S1x4x1x384, .f32⟩
  | .hbm, ⟨66, _⟩ => ⟨S1x4x128x384, .f32⟩
  | .hbm, ⟨67, _⟩ => ⟨S4x49152, .f32⟩
  | .hbm, ⟨68, _⟩ => ⟨S4x49024, .f32⟩
  | .hbm, ⟨69, _⟩ => ⟨S4x128x383, .f32⟩
  | .hbm, ⟨70, _⟩ => ⟨S4x128x256, .f32⟩
  | .hbm, ⟨71, _⟩ => ⟨S1x4x128x256, .f32⟩
  | .hbm, ⟨72, _⟩ => ⟨S1x4x128x256, .f32⟩
  | .hbm, ⟨73, _⟩ => ⟨S1x4x128x256, .f32⟩
  | .hbm, ⟨74, _⟩ => ⟨S3x4x128x256, .f32⟩
  | .hbm, ⟨75, _⟩ => ⟨S8x256x12288, .bf16⟩
  | .hbm, ⟨76, _⟩ => ⟨S8x256x4096, .bf16⟩
  | .hbm, ⟨77, _⟩ => ⟨S8x256x4096, .f32⟩
  | .local _ .vmem, ⟨0, _⟩ => ⟨S1x256x1536, .bf16⟩
  | .local _ .vmem, ⟨1, _⟩ => ⟨S1x256x1536, .bf16⟩
  | .local _ .vmem, ⟨2, _⟩ => ⟨S3x4x128x256, .f32⟩
  | .local _ .vmem, ⟨3, _⟩ => ⟨S1x256x512, .bf16⟩
  | .local _ .vmem, ⟨4, _⟩ => ⟨S1x256x512, .bf16⟩
  | .local _ .vmem, ⟨5, _⟩ => ⟨S1x256x512, .f32⟩
  | .local _ .vmem, ⟨6, _⟩ => ⟨S1x256x512, .f32⟩
  | _, _ => ⟨S2048x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_v0 : Ref sig .tc := ⟨.hbm, 5, rfl⟩
abbrev main_c_2 : Ref sig .tc := ⟨.hbm, 6, rfl⟩
abbrev main_c_3 : Ref sig .tc := ⟨.hbm, 7, rfl⟩
abbrev main_c_4 : Ref sig .tc := ⟨.hbm, 8, rfl⟩
abbrev main_v1 : Ref sig .tc := ⟨.hbm, 9, rfl⟩
abbrev main_c_5 : Ref sig .tc := ⟨.hbm, 10, rfl⟩
abbrev main_c_6 : Ref sig .tc := ⟨.hbm, 11, rfl⟩
abbrev main_c_7 : Ref sig .tc := ⟨.hbm, 12, rfl⟩
abbrev main_v2 : Ref sig .tc := ⟨.hbm, 13, rfl⟩
abbrev main_c_8 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_9 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_10 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_11 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_12 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50_0 : Ref sig .tc := ⟨.hbm, 76, rfl⟩
abbrev main_v50_1 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def k0_mult1 : BitVec 32 :=
  let c0_i32 : BitVec 32 := 0#32
  let c256_i32 : BitVec 32 := 256#32
  let v3 : BitVec 32 := Scalar.muli c0_i32 c256_i32
  let c0_i32_0 : BitVec 32 := 0#32
  let v4 : BitVec 32 := Scalar.addi v3 c0_i32_0
  v4
def k0_mult2 : BitVec 32 :=
  let c0_i32_3 : BitVec 32 := 0#32
  let c0_i32_2 : BitVec 32 := 0#32
  let c0_i32 : BitVec 32 := 0#32
  let c256_i32 : BitVec 32 := 256#32
  let v3 : BitVec 32 := Scalar.muli c0_i32 c256_i32
  let c0_i32_0 : BitVec 32 := 0#32
  let v4 : BitVec 32 := Scalar.addi v3 c0_i32_0
  let v5 : BitVec 32 := v4
  let c64_i32_1 : BitVec 32 := 64#32
  let v6 : BitVec 32 := Scalar.subi v5 c64_i32_1
  let v7 : BitVec 32 := Scalar.maxsi c0_i32_2 v6
  let v8 : BitVec 32 := Scalar.minsi c0_i32_3 v7
  v8
def k0_off1 (c0_i32_0 : BitVec 32) : Fin 3 → Nat :=
  let c0 : Index := 0#32
  let c0_i32 : BitVec 32 := 0#32
  let c256_i32 : BitVec 32 := 256#32
  let v3 : BitVec 32 := Scalar.muli c0_i32 c256_i32
  let v4 : BitVec 32 := Scalar.addi v3 c0_i32_0
  let v5 : BitVec 32 := v4
  let v28 : Index := Scalar.indexCast v5
  let c0_10 : Index := 0#32
  ![0, v28.toNat, 0]
def k0_off2 (c0_i32_0 : BitVec 32) : Fin 3 → Nat :=
  let c0_11 : Index := 0#32
  let c0_i32_3 : BitVec 32 := 0#32
  let c0_i32_2 : BitVec 32 := 0#32
  let c0_i32 : BitVec 32 := 0#32
  let c256_i32 : BitVec 32 := 256#32
  let v3 : BitVec 32 := Scalar.muli c0_i32 c256_i32
  let v4 : BitVec 32 := Scalar.addi v3 c0_i32_0
  let v5 : BitVec 32 := v4
  let c64_i32_1 : BitVec 32 := 64#32
  let v6 : BitVec 32 := Scalar.subi v5 c64_i32_1
  let v7 : BitVec 32 := Scalar.maxsi c0_i32_2 v6
  let v8 : BitVec 32 := Scalar.minsi c0_i32_3 v7
  let v27 : BitVec 32 := v8
  let v33 : Index := Scalar.indexCast v27
  let c256 : Index := 256#32
  ![0, v33.toNat, 256]
def k0_off3 (c0_i32_0 : BitVec 32) : Fin 3 → Nat :=
  let c0_12 : Index := 0#32
  let c0_i32_3 : BitVec 32 := 0#32
  let c0_i32_2 : BitVec 32 := 0#32
  let c0_i32 : BitVec 32 := 0#32
  let c256_i32 : BitVec 32 := 256#32
  let v3 : BitVec 32 := Scalar.muli c0_i32 c256_i32
  let v4 : BitVec 32 := Scalar.addi v3 c0_i32_0
  let v5 : BitVec 32 := v4
  let c64_i32_1 : BitVec 32 := 64#32
  let v6 : BitVec 32 := Scalar.subi v5 c64_i32_1
  let v7 : BitVec 32 := Scalar.maxsi c0_i32_2 v6
  let v8 : BitVec 32 := Scalar.minsi c0_i32_3 v7
  let v27 : BitVec 32 := v8
  let v36 : Index := Scalar.indexCast v27
  let c512 : Index := 512#32
  ![0, v36.toNat, 512]
def k0_mult3 : BitVec 32 :=
  let c0_i32 : BitVec 32 := 0#32
  let c256_i32_13 : BitVec 32 := 256#32
  let v39 : BitVec 32 := Scalar.muli c0_i32 c256_i32_13
  let c128_i32 : BitVec 32 := 128#32
  let v40 : BitVec 32 := Scalar.addi v39 c128_i32
  v40
def k0_mult4 : BitVec 32 :=
  let c0_i32_16 : BitVec 32 := 0#32
  let c0_i32_15 : BitVec 32 := 0#32
  let c0_i32 : BitVec 32 := 0#32
  let c256_i32_13 : BitVec 32 := 256#32
  let v39 : BitVec 32 := Scalar.muli c0_i32 c256_i32_13
  let c128_i32 : BitVec 32 := 128#32
  let v40 : BitVec 32 := Scalar.addi v39 c128_i32
  let v41 : BitVec 32 := v40
  let c64_i32_14 : BitVec 32 := 64#32
  let v42 : BitVec 32 := Scalar.subi v41 c64_i32_14
  let v43 : BitVec 32 := Scalar.maxsi c0_i32_15 v42
  let v44 : BitVec 32 := Scalar.minsi c0_i32_16 v43
  v44
def k0_mult5 : BitVec 32 :=
  let c0_i32 : BitVec 32 := 0#32
  let c256_i32_31 : BitVec 32 := 256#32
  let v75 : BitVec 32 := Scalar.muli c0_i32 c256_i32_31
  let c0_i32_32 : BitVec 32 := 0#32
  let v76 : BitVec 32 := Scalar.addi v75 c0_i32_32
  v76
def k0_mult6 : BitVec 32 :=
  let c0_i32_35 : BitVec 32 := 0#32
  let c0_i32_34 : BitVec 32 := 0#32
  let c0_i32 : BitVec 32 := 0#32
  let c256_i32_31 : BitVec 32 := 256#32
  let v75 : BitVec 32 := Scalar.muli c0_i32 c256_i32_31
  let c0_i32_32 : BitVec 32 := 0#32
  let v76 : BitVec 32 := Scalar.addi v75 c0_i32_32
  let v77 : BitVec 32 := v76
  let c64_i32_33 : BitVec 32 := 64#32
  let v78 : BitVec 32 := Scalar.subi v77 c64_i32_33
  let v79 : BitVec 32 := Scalar.maxsi c0_i32_34 v78
  let v80 : BitVec 32 := Scalar.minsi c0_i32_35 v79
  v80
def k0_off4 (c0_i32_32 : BitVec 32) : Fin 3 → Nat :=
  let c0_43 : Index := 0#32
  let c0_i32 : BitVec 32 := 0#32
  let c256_i32_31 : BitVec 32 := 256#32
  let v75 : BitVec 32 := Scalar.muli c0_i32 c256_i32_31
  let v76 : BitVec 32 := Scalar.addi v75 c0_i32_32
  let v77 : BitVec 32 := v76
  let v100 : Index := Scalar.indexCast v77
  let c768 : Index := 768#32
  ![0, v100.toNat, 768]
def k0_off5 (c0_i32_32 : BitVec 32) : Fin 3 → Nat :=
  let c0_45 : Index := 0#32
  let c0_i32_35 : BitVec 32 := 0#32
  let c0_i32_34 : BitVec 32 := 0#32
  let c0_i32 : BitVec 32 := 0#32
  let c256_i32_31 : BitVec 32 := 256#32
  let v75 : BitVec 32 := Scalar.muli c0_i32 c256_i32_31
  let v76 : BitVec 32 := Scalar.addi v75 c0_i32_32
  let v77 : BitVec 32 := v76
  let c64_i32_33 : BitVec 32 := 64#32
  let v78 : BitVec 32 := Scalar.subi v77 c64_i32_33
  let v79 : BitVec 32 := Scalar.maxsi c0_i32_34 v78
  let v80 : BitVec 32 := Scalar.minsi c0_i32_35 v79
  let v99 : BitVec 32 := v80
  let v105 : Index := Scalar.indexCast v99
  let c1024 : Index := 1024#32
  ![0, v105.toNat, 1024]
def k0_off6 (c0_i32_32 : BitVec 32) : Fin 3 → Nat :=
  let c0_46 : Index := 0#32
  let c0_i32_35 : BitVec 32 := 0#32
  let c0_i32_34 : BitVec 32 := 0#32
  let c0_i32 : BitVec 32 := 0#32
  let c256_i32_31 : BitVec 32 := 256#32
  let v75 : BitVec 32 := Scalar.muli c0_i32 c256_i32_31
  let v76 : BitVec 32 := Scalar.addi v75 c0_i32_32
  let v77 : BitVec 32 := v76
  let c64_i32_33 : BitVec 32 := 64#32
  let v78 : BitVec 32 := Scalar.subi v77 c64_i32_33
  let v79 : BitVec 32 := Scalar.maxsi c0_i32_34 v78
  let v80 : BitVec 32 := Scalar.minsi c0_i32_35 v79
  let v99 : BitVec 32 := v80
  let v108 : Index := Scalar.indexCast v99
  let c1280 : Index := 1280#32
  ![0, v108.toNat, 1280]
def k0_mult7 : BitVec 32 :=
  let c0_i32 : BitVec 32 := 0#32
  let c256_i32_47 : BitVec 32 := 256#32
  let v111 : BitVec 32 := Scalar.muli c0_i32 c256_i32_47
  let c128_i32_48 : BitVec 32 := 128#32
  let v112 : BitVec 32 := Scalar.addi v111 c128_i32_48
  v112
def k0_mult8 : BitVec 32 :=
  let c0_i32_51 : BitVec 32 := 0#32
  let c0_i32_50 : BitVec 32 := 0#32
  let c0_i32 : BitVec 32 := 0#32
  let c256_i32_47 : BitVec 32 := 256#32
  let v111 : BitVec 32 := Scalar.muli c0_i32 c256_i32_47
  let c128_i32_48 : BitVec 32 := 128#32
  let v112 : BitVec 32 := Scalar.addi v111 c128_i32_48
  let v113 : BitVec 32 := v112
  let c64_i32_49 : BitVec 32 := 64#32
  let v114 : BitVec 32 := Scalar.subi v113 c64_i32_49
  let v115 : BitVec 32 := Scalar.maxsi c0_i32_50 v114
  let v116 : BitVec 32 := Scalar.minsi c0_i32_51 v115
  v116
def k0_off7 (c0_i32_0 : BitVec 32) : Fin 4 → Nat :=
  let c0_i32 : BitVec 32 := 0#32
  let c256_i32 : BitVec 32 := 256#32
  let v3 : BitVec 32 := Scalar.muli c0_i32 c256_i32
  let v4 : BitVec 32 := Scalar.addi v3 c0_i32_0
  let v5 : BitVec 32 := v4
  let c0_i32_3 : BitVec 32 := 0#32
  let c0_i32_2 : BitVec 32 := 0#32
  let c64_i32_1 : BitVec 32 := 64#32
  let v6 : BitVec 32 := Scalar.subi v5 c64_i32_1
  let v7 : BitVec 32 := Scalar.maxsi c0_i32_2 v6
  let v8 : BitVec 32 := Scalar.minsi c0_i32_3 v7
  let v9 : BitVec 32 := Scalar.subi v5 v8
  let c0_i32_5 : BitVec 32 := 0#32
  let v11 : BitVec 1 := Scalar.cmpi .sgt v9 c0_i32_5
  let v12 : BitVec 32 := Scalar.extui v11
  let c0_i32_6 : BitVec 32 := 0#32
  let v13 : BitVec 1 := Scalar.cmpi .slt v9 c0_i32_6
  let v14 : BitVec 32 := Scalar.extui v13
  let v15 : BitVec 32 := Scalar.subi v12 v14
  let c64_i32_4 : BitVec 32 := 64#32
  let c0_i32_7 : BitVec 32 := 0#32
  let v16 : BitVec 1 := Scalar.cmpi .sgt c64_i32_4 c0_i32_7
  let v17 : BitVec 32 := Scalar.extui v16
  let c0_i32_8 : BitVec 32 := 0#32
  let v18 : BitVec 1 := Scalar.cmpi .slt c64_i32_4 c0_i32_8
  let v19 : BitVec 32 := Scalar.extui v18
  let v20 : BitVec 32 := Scalar.subi v17 v19
  let v21 : BitVec 1 := Scalar.cmpi .ne v15 v20
  let v22 : BitVec 32 := Scalar.remsi v9 c64_i32_4
  let c0_i32_9 : BitVec 32 := 0#32
  let v23 : BitVec 1 := Scalar.cmpi .ne v22 c0_i32_9
  let v24 : BitVec 1 := Scalar.andi v21 v23
  let v10 : BitVec 32 := Scalar.divsi v9 c64_i32_4
  let c1_i32 : BitVec 32 := 1#32
  let v25 : BitVec 32 := Scalar.subi v10 c1_i32
  let v26 : BitVec 32 := Scalar.select v24 v25 v10
  let v235 : Index := Scalar.indexCast v26
  let c0_106 : Index := 0#32
  let c0_107 : Index := 0#32
  let c0_108 : Index := 0#32
  ![v235.toNat, 0, 0, 0]
def k0_off8 (c0_i32_0 : BitVec 32) : Fin 4 → Nat :=
  let c0_i32 : BitVec 32 := 0#32
  let c256_i32 : BitVec 32 := 256#32
  let v3 : BitVec 32 := Scalar.muli c0_i32 c256_i32
  let v4 : BitVec 32 := Scalar.addi v3 c0_i32_0
  let v5 : BitVec 32 := v4
  let c0_i32_3 : BitVec 32 := 0#32
  let c0_i32_2 : BitVec 32 := 0#32
  let c64_i32_1 : BitVec 32 := 64#32
  let v6 : BitVec 32 := Scalar.subi v5 c64_i32_1
  let v7 : BitVec 32 := Scalar.maxsi c0_i32_2 v6
  let v8 : BitVec 32 := Scalar.minsi c0_i32_3 v7
  let v9 : BitVec 32 := Scalar.subi v5 v8
  let c0_i32_5 : BitVec 32 := 0#32
  let v11 : BitVec 1 := Scalar.cmpi .sgt v9 c0_i32_5
  let v12 : BitVec 32 := Scalar.extui v11
  let c0_i32_6 : BitVec 32 := 0#32
  let v13 : BitVec 1 := Scalar.cmpi .slt v9 c0_i32_6
  let v14 : BitVec 32 := Scalar.extui v13
  let v15 : BitVec 32 := Scalar.subi v12 v14
  let c64_i32_4 : BitVec 32 := 64#32
  let c0_i32_7 : BitVec 32 := 0#32
  let v16 : BitVec 1 := Scalar.cmpi .sgt c64_i32_4 c0_i32_7
  let v17 : BitVec 32 := Scalar.extui v16
  let c0_i32_8 : BitVec 32 := 0#32
  let v18 : BitVec 1 := Scalar.cmpi .slt c64_i32_4 c0_i32_8
  let v19 : BitVec 32 := Scalar.extui v18
  let v20 : BitVec 32 := Scalar.subi v17 v19
  let v21 : BitVec 1 := Scalar.cmpi .ne v15 v20
  let v22 : BitVec 32 := Scalar.remsi v9 c64_i32_4
  let c0_i32_9 : BitVec 32 := 0#32
  let v23 : BitVec 1 := Scalar.cmpi .ne v22 c0_i32_9
  let v24 : BitVec 1 := Scalar.andi v21 v23
  let v10 : BitVec 32 := Scalar.divsi v9 c64_i32_4
  let c1_i32 : BitVec 32 := 1#32
  let v25 : BitVec 32 := Scalar.subi v10 c1_i32
  let v26 : BitVec 32 := Scalar.select v24 v25 v10
  let v249 : Index := Scalar.indexCast v26
  let c1 : Index := 1#32
  let c0_111 : Index := 0#32
  let c0_112 : Index := 0#32
  ![v249.toNat, 1, 0, 0]
def k0_off9 (c0_i32_0 : BitVec 32) : Fin 4 → Nat :=
  let c0_i32 : BitVec 32 := 0#32
  let c256_i32 : BitVec 32 := 256#32
  let v3 : BitVec 32 := Scalar.muli c0_i32 c256_i32
  let v4 : BitVec 32 := Scalar.addi v3 c0_i32_0
  let v5 : BitVec 32 := v4
  let c0_i32_3 : BitVec 32 := 0#32
  let c0_i32_2 : BitVec 32 := 0#32
  let c64_i32_1 : BitVec 32 := 64#32
  let v6 : BitVec 32 := Scalar.subi v5 c64_i32_1
  let v7 : BitVec 32 := Scalar.maxsi c0_i32_2 v6
  let v8 : BitVec 32 := Scalar.minsi c0_i32_3 v7
  let v9 : BitVec 32 := Scalar.subi v5 v8
  let c0_i32_5 : BitVec 32 := 0#32
  let v11 : BitVec 1 := Scalar.cmpi .sgt v9 c0_i32_5
  let v12 : BitVec 32 := Scalar.extui v11
  let c0_i32_6 : BitVec 32 := 0#32
  let v13 : BitVec 1 := Scalar.cmpi .slt v9 c0_i32_6
  let v14 : BitVec 32 := Scalar.extui v13
  let v15 : BitVec 32 := Scalar.subi v12 v14
  let c64_i32_4 : BitVec 32 := 64#32
  let c0_i32_7 : BitVec 32 := 0#32
  let v16 : BitVec 1 := Scalar.cmpi .sgt c64_i32_4 c0_i32_7
  let v17 : BitVec 32 := Scalar.extui v16
  let c0_i32_8 : BitVec 32 := 0#32
  let v18 : BitVec 1 := Scalar.cmpi .slt c64_i32_4 c0_i32_8
  let v19 : BitVec 32 := Scalar.extui v18
  let v20 : BitVec 32 := Scalar.subi v17 v19
  let v21 : BitVec 1 := Scalar.cmpi .ne v15 v20
  let v22 : BitVec 32 := Scalar.remsi v9 c64_i32_4
  let c0_i32_9 : BitVec 32 := 0#32
  let v23 : BitVec 1 := Scalar.cmpi .ne v22 c0_i32_9
  let v24 : BitVec 1 := Scalar.andi v21 v23
  let v10 : BitVec 32 := Scalar.divsi v9 c64_i32_4
  let c1_i32 : BitVec 32 := 1#32
  let v25 : BitVec 32 := Scalar.subi v10 c1_i32
  let v26 : BitVec 32 := Scalar.select v24 v25 v10
  let v263 : Index := Scalar.indexCast v26
  let c2 : Index := 2#32
  let c0_115 : Index := 0#32
  let c0_116 : Index := 0#32
  ![v263.toNat, 2, 0, 0]
def k0_off10 (c0_i32_0 : BitVec 32) : Fin 4 → Nat :=
  let c0_i32 : BitVec 32 := 0#32
  let c256_i32 : BitVec 32 := 256#32
  let v3 : BitVec 32 := Scalar.muli c0_i32 c256_i32
  let v4 : BitVec 32 := Scalar.addi v3 c0_i32_0
  let v5 : BitVec 32 := v4
  let c0_i32_3 : BitVec 32 := 0#32
  let c0_i32_2 : BitVec 32 := 0#32
  let c64_i32_1 : BitVec 32 := 64#32
  let v6 : BitVec 32 := Scalar.subi v5 c64_i32_1
  let v7 : BitVec 32 := Scalar.maxsi c0_i32_2 v6
  let v8 : BitVec 32 := Scalar.minsi c0_i32_3 v7
  let v9 : BitVec 32 := Scalar.subi v5 v8
  let c0_i32_5 : BitVec 32 := 0#32
  let v11 : BitVec 1 := Scalar.cmpi .sgt v9 c0_i32_5
  let v12 : BitVec 32 := Scalar.extui v11
  let c0_i32_6 : BitVec 32 := 0#32
  let v13 : BitVec 1 := Scalar.cmpi .slt v9 c0_i32_6
  let v14 : BitVec 32 := Scalar.extui v13
  let v15 : BitVec 32 := Scalar.subi v12 v14
  let c64_i32_4 : BitVec 32 := 64#32
  let c0_i32_7 : BitVec 32 := 0#32
  let v16 : BitVec 1 := Scalar.cmpi .sgt c64_i32_4 c0_i32_7
  let v17 : BitVec 32 := Scalar.extui v16
  let c0_i32_8 : BitVec 32 := 0#32
  let v18 : BitVec 1 := Scalar.cmpi .slt c64_i32_4 c0_i32_8
  let v19 : BitVec 32 := Scalar.extui v18
  let v20 : BitVec 32 := Scalar.subi v17 v19
  let v21 : BitVec 1 := Scalar.cmpi .ne v15 v20
  let v22 : BitVec 32 := Scalar.remsi v9 c64_i32_4
  let c0_i32_9 : BitVec 32 := 0#32
  let v23 : BitVec 1 := Scalar.cmpi .ne v22 c0_i32_9
  let v24 : BitVec 1 := Scalar.andi v21 v23
  let v10 : BitVec 32 := Scalar.divsi v9 c64_i32_4
  let c1_i32 : BitVec 32 := 1#32
  let v25 : BitVec 32 := Scalar.subi v10 c1_i32
  let v26 : BitVec 32 := Scalar.select v24 v25 v10
  let v277 : Index := Scalar.indexCast v26
  let c3 : Index := 3#32
  let c0_119 : Index := 0#32
  let c0_120 : Index := 0#32
  ![v277.toNat, 3, 0, 0]
def k0_off11 (c0_i32_0 : BitVec 32) : Fin 3 → Nat :=
  let c0_199 : Index := 0#32
  let c0_i32 : BitVec 32 := 0#32
  let c256_i32 : BitVec 32 := 256#32
  let v3 : BitVec 32 := Scalar.muli c0_i32 c256_i32
  let v4 : BitVec 32 := Scalar.addi v3 c0_i32_0
  let v5 : BitVec 32 := v4
  let v502 : Index := Scalar.indexCast v5
  let c0_200 : Index := 0#32
  ![0, v502.toNat, 0]
def k0_off12 (c0_i32_0 : BitVec 32) : Fin 3 → Nat :=
  let c0_203 : Index := 0#32
  let c0_i32 : BitVec 32 := 0#32
  let c256_i32 : BitVec 32 := 256#32
  let v3 : BitVec 32 := Scalar.muli c0_i32 c256_i32
  let v4 : BitVec 32 := Scalar.addi v3 c0_i32_0
  let v5 : BitVec 32 := v4
  let v521 : Index := Scalar.indexCast v5
  let c128 : Index := 128#32
  ![0, v521.toNat, 128]
def k0_off13 (c0_i32_32 : BitVec 32) : Fin 3 → Nat :=
  let c0_214 : Index := 0#32
  let c0_i32 : BitVec 32 := 0#32
  let c256_i32_31 : BitVec 32 := 256#32
  let v75 : BitVec 32 := Scalar.muli c0_i32 c256_i32_31
  let v76 : BitVec 32 := Scalar.addi v75 c0_i32_32
  let v77 : BitVec 32 := v76
  let v578 : Index := Scalar.indexCast v77
  let c256_215 : Index := 256#32
  ![0, v578.toNat, 256]
def k0_off14 (c0_i32_32 : BitVec 32) : Fin 3 → Nat :=
  let c0_218 : Index := 0#32
  let c0_i32 : BitVec 32 := 0#32
  let c256_i32_31 : BitVec 32 := 256#32
  let v75 : BitVec 32 := Scalar.muli c0_i32 c256_i32_31
  let v76 : BitVec 32 := Scalar.addi v75 c0_i32_32
  let v77 : BitVec 32 := v76
  let v597 : Index := Scalar.indexCast v77
  let c384 : Index := 384#32
  ![0, v597.toNat, 384]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3x4x128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Band16RefIdeal.lean ====
abbrev S2048x12288 : Shape := ⟨2, ![2048, 12288]⟩
abbrev S32x12 : Shape := ⟨2, ![32, 12]⟩
abbrev S129 : Shape := ⟨1, ![129]⟩
abbrev S_ : Shape := ⟨0, ![]⟩
abbrev S129x1 : Shape := ⟨2, ![129, 1]⟩
abbrev S129x12 : Shape := ⟨2, ![129, 12]⟩
abbrev S129x4 : Shape := ⟨2, ![129, 4]⟩
abbrev S8x256x16x3x4x64 : Shape := ⟨6, ![8, 256, 16, 3, 4, 64]⟩
abbrev S8x256x16x1x4x64 : Shape := ⟨6, ![8, 256, 16, 1, 4, 64]⟩
abbrev S8x256x16x4x64 : Shape := ⟨5, ![8, 256, 16, 4, 64]⟩
abbrev S256x256 : Shape := ⟨2, ![256, 256]⟩
abbrev S256x256x1 : Shape := ⟨3, ![256, 256, 1]⟩
abbrev S256x256x4 : Shape := ⟨3, ![256, 256, 4]⟩
abbrev S4x256x256 : Shape := ⟨3, ![4, 256, 256]⟩
abbrev S8x16x4x256x256 : Shape := ⟨5, ![8, 16, 4, 256, 256]⟩
abbrev S1x1x4x256x256 : Shape := ⟨5, ![1, 1, 4, 256, 256]⟩
abbrev S8x16x4x256 : Shape := ⟨4, ![8, 16, 4, 256]⟩
abbrev S8x16x4x256x1 : Shape := ⟨5, ![8, 16, 4, 256, 1]⟩
abbrev S8x16x4x64x256 : Shape := ⟨5, ![8, 16, 4, 64, 256]⟩
abbrev S8x256x16x4 : Shape := ⟨4, ![8, 256, 16, 4]⟩
abbrev S8x256x16x4x1 : Shape := ⟨5, ![8, 256, 16, 4, 1]⟩
abbrev S8x256x4096 : Shape := ⟨3, ![8, 256, 4096]⟩

abbrev nBuf : Space → Nat
  | .hbm => 81
  | .vmem => 0
  | .smem => 0
  | _ => 0

abbrev bufTy : (tb : Table) → Fin (tcTables nBuf tb) → BufTy
  | .hbm, ⟨0, _⟩ => ⟨S2048x12288, .bf16⟩
  | .hbm, ⟨1, _⟩ => ⟨S32x12, .f32⟩
  | .hbm, ⟨2, _⟩ => ⟨S129, .i32⟩
  | .hbm, ⟨3, _⟩ => ⟨S129, .i1⟩
  | .hbm, ⟨4, _⟩ => ⟨S_, .i32⟩
  | .hbm, ⟨5, _⟩ => ⟨S129, .i32⟩
  | .hbm, ⟨6, _⟩ => ⟨S129, .i32⟩
  | .hbm, ⟨7, _⟩ => ⟨S129, .i32⟩
  | .hbm, ⟨8, _⟩ => ⟨S129x1, .i32⟩
  | .hbm, ⟨9, _⟩ => ⟨S129x12, .f32⟩
  | .hbm, ⟨10, _⟩ => ⟨S129x4, .f32⟩
  | .hbm, ⟨11, _⟩ => ⟨S2048x12288, .f32⟩
  | .hbm, ⟨12, _⟩ => ⟨S8x256x16x3x4x64, .f32⟩
  | .hbm, ⟨13, _⟩ => ⟨S8x256x16x1x4x64, .f32⟩
  | .hbm, ⟨14, _⟩ => ⟨S8x256x16x4x64, .f32⟩
  | .hbm, ⟨15, _⟩ => ⟨S_, .f32⟩
  | .hbm, ⟨16, _⟩ => ⟨S8x256x16x4x64, .f32⟩
  | .hbm, ⟨17, _⟩ => ⟨S8x256x16x4x64, .f32⟩
  | .hbm, ⟨18, _⟩ => ⟨S8x256x16x1x4x64, .f32⟩
  | .hbm, ⟨19, _⟩ => ⟨S8x256x16x4x64, .f32⟩
  | .hbm, ⟨20, _⟩ => ⟨S8x256x16x1x4x64, .f32⟩
  | .hbm, ⟨21, _⟩ => ⟨S8x256x16x4x64, .f32⟩
  | .hbm, ⟨22, _⟩ => ⟨S256x256, .i32⟩
  | .hbm, ⟨23, _⟩ => ⟨S256x256, .i32⟩
  | .hbm, ⟨24, _⟩ => ⟨S256x256, .i32⟩
  | .hbm, ⟨25, _⟩ => ⟨S256x256, .i32⟩
  | .hbm, ⟨26, _⟩ => ⟨S_, .i32⟩
  | .hbm, ⟨27, _⟩ => ⟨S256x256, .i32⟩
  | .hbm, ⟨28, _⟩ => ⟨S256x256, .i1⟩
  | .hbm, ⟨29, _⟩ => ⟨S_, .i32⟩
  | .hbm, ⟨30, _⟩ => ⟨S256x256, .i32⟩
  | .hbm, ⟨31, _⟩ => ⟨S256x256, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S256x256, .i32⟩
  | .hbm, ⟨36, _⟩ => ⟨S256x256, .i32⟩
  | .hbm, ⟨37, _⟩ => ⟨S_, .i32⟩
  | .hbm, ⟨38, _⟩ => ⟨S256x256, .i32⟩
  | .hbm, ⟨39, _⟩ => ⟨S256x256, .i32⟩
  | .hbm, ⟨40, _⟩ => ⟨S_, .i32⟩
  | .hbm, ⟨41, _⟩ => ⟨S256x256, .i32⟩
  | .hbm, ⟨42, _⟩ => ⟨S256x256, .i1⟩
  | .hbm, ⟨43, _⟩ => ⟨S_, .i32⟩
  | .hbm, ⟨44, _⟩ => ⟨S256x256, .i32⟩
  | .hbm, ⟨45, _⟩ => ⟨S256x256, .i32⟩
  | .hbm, ⟨46, _⟩ => ⟨S256x256, .i32⟩
  | .hbm, ⟨47, _⟩ => ⟨S256x256x1, .i32⟩
  | .hbm, ⟨48, _⟩ => ⟨S256x256x4, .f32⟩
  | .hbm, ⟨49, _⟩ => ⟨S4x256x256, .f32⟩
  | .hbm, ⟨50, _⟩ => ⟨S8x16x4x256x256, .f32⟩
  | .hbm, ⟨51, _⟩ => ⟨S1x1x4x256x256, .f32⟩
  | .hbm, ⟨52, _⟩ => ⟨S8x16x4x256x256, .f32⟩
  | .hbm, ⟨53, _⟩ => ⟨S8x16x4x256x256, .f32⟩
  | .hbm, ⟨54, _⟩ => ⟨S_, .f32⟩
  | .hbm, ⟨55, _⟩ => ⟨S_, .f32⟩
  | .hbm, ⟨56, _⟩ => ⟨S8x16x4x256x256, .i1⟩
  | .hbm, ⟨57, _⟩ => ⟨S8x16x4x256x256, .f32⟩
  | .hbm, ⟨58, _⟩ => ⟨S8x16x4x256x256, .f32⟩
  | .hbm, ⟨59, _⟩ => ⟨S_, .f32⟩
  | .hbm, ⟨60, _⟩ => ⟨S8x16x4x256, .f32⟩
  | .hbm, ⟨61, _⟩ => ⟨S8x16x4x256x1, .f32⟩
  | .hbm, ⟨62, _⟩ => ⟨S8x16x4x256x256, .f32⟩
  | .hbm, ⟨63, _⟩ => ⟨S8x16x4x256x256, .f32⟩
  | .hbm, ⟨64, _⟩ => ⟨S8x16x4x256x256, .f32⟩
  | .hbm, ⟨65, _⟩ => ⟨S_, .f32⟩
  | .hbm, ⟨66, _⟩ => ⟨S8x16x4x256, .f32⟩
  | .hbm, ⟨67, _⟩ => ⟨S8x16x4x64x256, .f32⟩
  | .hbm, ⟨68, _⟩ => ⟨S8x256x16x4x64, .f32⟩
  | .hbm, ⟨69, _⟩ => ⟨S8x256x16x4, .f32⟩
  | .hbm, ⟨70, _⟩ => ⟨S8x256x16x4x1, .f32⟩
  | .hbm, ⟨71, _⟩ => ⟨S8x256x16x4x64, .f32⟩
  | .hbm, ⟨72, _⟩ => ⟨S8x256x16x4x64, .f32⟩
  | .hbm, ⟨73, _⟩ => ⟨S8x16x4x256, .f32⟩
  | .hbm, ⟨74, _⟩ => ⟨S8x16x4x256, .f32⟩
  | .hbm, ⟨75, _⟩ => ⟨S8x256x16x4, .f32⟩
  | .hbm, ⟨76, _⟩ => ⟨S8x256x16x4x1, .f32⟩
  | .hbm, ⟨77, _⟩ => ⟨S8x256x16x4x64, .f32⟩
  | .hbm, ⟨78, _⟩ => ⟨S8x256x4096, .f32⟩
  | .hbm, ⟨79, _⟩ => ⟨S8x256x4096, .bf16⟩
  | .hbm, ⟨80, _⟩ => ⟨S8x256x4096, .f32⟩
  | _, _ => ⟨S2048x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_2 : Ref sig .tc := ⟨.hbm, 26, rfl⟩
abbrev main_v20 : Ref sig .tc := ⟨.hbm, 27, rfl⟩
abbrev main_v21 : Ref sig .tc := ⟨.hbm, 28, rfl⟩
abbrev main_c_3 : Ref sig .tc := ⟨.hbm, 29, rfl⟩
abbrev main_v22 : Ref sig .tc := ⟨.hbm, 30, rfl⟩
abbrev main_v23 : Ref sig .tc := ⟨.hbm, 31, rfl⟩
abbrev main_c_4 : Ref sig .tc := ⟨.hbm, 32, rfl⟩
abbrev main_c_5 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v24 : Ref sig .tc := ⟨.hbm, 39, rfl⟩
abbrev main_c_6 : Ref sig .tc := ⟨.hbm, 40, rfl⟩
abbrev main_v25 : Ref sig .tc := ⟨.hbm, 41, rfl⟩
abbrev main_v26 : Ref sig .tc := ⟨.hbm, 42, rfl⟩
abbrev main_c_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v37 : Ref sig .tc := ⟨.hbm, 58, rfl⟩
abbrev main_cst_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_10 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩

abbrev nD : Nat := 1
abbrev τ : Topo := Topo.v7x

variable {F : FTy → Type} [FloatOps F]
-- ==== MemKv.lean ====
abbrev S8x256x1024 : Shape := ⟨3, ![8, 256, 1024]⟩
abbrev S1024 : Shape := ⟨1, ![1024]⟩
abbrev S1024x512 : Shape := ⟨2, ![1024, 512]⟩
abbrev S1x1024 : Shape := ⟨2, ![1, 1024]⟩
abbrev S8x256x256 : Shape := ⟨3, ![8, 256, 256]⟩
abbrev S1x256x1024 : Shape := ⟨3, ![1, 256, 1024]⟩
abbrev S1x256x256 : Shape := ⟨3, ![1, 256, 256]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩
abbrev S256x256 : Shape := ⟨2, ![256, 256]⟩

abbrev nBuf : Space → Nat
  | .hbm => 7
  | .vmem => 8
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x512, .f32⟩
  | .hbm, ⟨3, _⟩ => ⟨S1024x512, .bf16⟩
  | .hbm, ⟨4, _⟩ => ⟨S1x1024, .f32⟩
  | .hbm, ⟨5, _⟩ => ⟨S8x256x256, .bf16⟩
  | .hbm, ⟨6, _⟩ => ⟨S8x256x256, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x512, .bf16⟩
  | .local _ .vmem, ⟨4, _⟩ => ⟨S1x256x256, .bf16⟩
  | .local _ .vmem, ⟨5, _⟩ => ⟨S1x256x256, .bf16⟩
  | .local _ .vmem, ⟨6, _⟩ => ⟨S1x256x256, .bf16⟩
  | .local _ .vmem, ⟨7, _⟩ => ⟨S1x256x256, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MemKvRefIdeal.lean ====
abbrev S8x256x1024 : Shape := ⟨3, ![8, 256, 1024]⟩
abbrev S1024 : Shape := ⟨1, ![1024]⟩
abbrev S1024x512 : Shape := ⟨2, ![1024, 512]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x256x512 : Shape := ⟨3, ![8, 256, 512]⟩
abbrev S8x256x256 : Shape := ⟨3, ![8, 256, 256]⟩

abbrev nBuf : Space → Nat
  | .hbm => 24
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x512, .f32⟩
  | .hbm, ⟨3, _⟩ => ⟨S8x256x1024, .f32⟩
  | .hbm, ⟨4, _⟩ => ⟨S_, .f32⟩
  | .hbm, ⟨5, _⟩ => ⟨S8x256, .f32⟩
  | .hbm, ⟨6, _⟩ => ⟨S8x256x1, .f32⟩
  | .hbm, ⟨7, _⟩ => ⟨S_, .f32⟩
  | .hbm, ⟨8, _⟩ => ⟨S8x256x1, .f32⟩
  | .hbm, ⟨9, _⟩ => ⟨S8x256x1, .f32⟩
  | .hbm, ⟨10, _⟩ => ⟨S_, .f32⟩
  | .hbm, ⟨11, _⟩ => ⟨S8x256x1, .f32⟩
  | .hbm, ⟨12, _⟩ => ⟨S8x256x1, .f32⟩
  | .hbm, ⟨13, _⟩ => ⟨S8x256x1, .f32⟩
  | .hbm, ⟨14, _⟩ => ⟨S8x256x1024, .f32⟩
  | .hbm, ⟨15, _⟩ => ⟨S8x256x1024, .f32⟩
  | .hbm, ⟨16, _⟩ => ⟨S1x1x1024, .f32⟩
  | .hbm, ⟨17, _⟩ => ⟨S8x256x1024, .f32⟩
  | .hbm, ⟨18, _⟩ => ⟨S8x256x1024, .f32⟩
  | .hbm, ⟨19, _⟩ => ⟨S8x256x512, .f32⟩
  | .hbm, ⟨20, _⟩ => ⟨S8x256x256, .f32⟩
  | .hbm, ⟨21, _⟩ => ⟨S8x256x256, .f32⟩
  | .hbm, ⟨22, _⟩ => ⟨S8x256x256, .bf16⟩
  | .hbm, ⟨23, _⟩ => ⟨S8x256x256, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== AttProj.lean ====
abbrev S32768x1024 : Shape := ⟨2, ![32768, 1024]⟩
abbrev S1024 : Shape := ⟨1, ![1024]⟩
abbrev S1024x2560 : Shape := ⟨2, ![1024, 2560]⟩
abbrev S1024x2304 : Shape := ⟨2, ![1024, 2304]⟩
abbrev S1024x3x3x256 : Shape := ⟨4, ![1024, 3, 3, 256]⟩
abbrev S1024x1x3x256 : Shape := ⟨4, ![1024, 1, 3, 256]⟩
abbrev S1024x3x256 : Shape := ⟨3, ![1024, 3, 256]⟩
abbrev S1024x768 : Shape := ⟨2, ![1024, 768]⟩
abbrev S1024x256 : Shape := ⟨2, ![1024, 256]⟩
abbrev S1x1024 : Shape := ⟨2, ![1, 1024]⟩
abbrev S32768x768 : Shape := ⟨2, ![32768, 768]⟩
abbrev S8192x3072 : Shape := ⟨2, ![8192, 3072]⟩
abbrev S2048x12288 : Shape := ⟨2, ![2048, 12288]⟩
abbrev S32768x256 : Shape := ⟨2, ![32768, 256]⟩
abbrev S512x1024 : Shape := ⟨2, ![512, 1024]⟩
abbrev S512x768 : Shape := ⟨2, ![512, 768]⟩
abbrev S128x3072 : Shape := ⟨2, ![128, 3072]⟩
abbrev S32x12288 : Shape := ⟨2, ![32, 12288]⟩
abbrev S512x256 : Shape := ⟨2, ![512, 256]⟩
abbrev S6x512x128 : Shape := ⟨3, ![6, 512, 128]⟩
abbrev S512 : Shape := ⟨1, ![512]⟩
abbrev S512x1 : Shape := ⟨2, ![512, 1]⟩
abbrev S512x128 : Shape := ⟨2, ![512, 128]⟩
abbrev S1x512x128 : Shape := ⟨3, ![1, 512, 128]⟩
abbrev S1x128x128 : Shape := ⟨3, ![1, 128, 128]⟩
abbrev S128x128 : Shape := ⟨2, ![128, 128]⟩
abbrev S1x32x128 : Shape := ⟨3, ![1, 32, 128]⟩
abbrev S32x128 : Shape := ⟨2, ![32, 128]⟩

abbrev nBuf : Space → Nat
  | .hbm => 23
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2560, .f32⟩
  | .hbm, ⟨3, _⟩ => ⟨S1024x2304, .f32⟩
  | .hbm, ⟨4, _⟩ => ⟨S1024x3x3x256, .f32⟩
  | .hbm, ⟨5, _⟩ => ⟨S1024x3x3x256, .f32⟩
  | .hbm, ⟨6, _⟩ => ⟨S1024x3x3x256, .bf16⟩
  | .hbm, ⟨7, _⟩ => ⟨S1024x1x3x256, .bf16⟩
  | .hbm, ⟨8, _⟩ => ⟨S1024x3x256, .bf16⟩
  | .hbm, ⟨9, _⟩ => ⟨S1024x768, .bf16⟩
  | .hbm, ⟨10, _⟩ => ⟨S1024x1x3x256, .bf16⟩
  | .hbm, ⟨11, _⟩ => ⟨S1024x3x256, .bf16⟩
  | .hbm, ⟨12, _⟩ => ⟨S1024x768, .bf16⟩
  | .hbm, ⟨13, _⟩ => ⟨S1024x1x3x256, .bf16⟩
  | .hbm, ⟨14, _⟩ => ⟨S1024x3x256, .bf16⟩
  | .hbm, ⟨15, _⟩ => ⟨S1024x768, .bf16⟩
  | .hbm, ⟨16, _⟩ => ⟨S1024x256, .f32⟩
  | .hbm, ⟨17, _⟩ => ⟨S1024x256, .bf16⟩
  | .hbm, ⟨18, _⟩ => ⟨S1x1024, .f32⟩
  | .hbm, ⟨19, _⟩ => ⟨S32768x768, .bf16⟩
  | .hbm, ⟨20, _⟩ => ⟨S8192x3072, .bf16⟩
  | .hbm, ⟨21, _⟩ => ⟨S2048x12288, .bf16⟩
  | .hbm, ⟨22, _⟩ => ⟨S32768x256, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | .local _ .vmem, ⟨6, _⟩ => ⟨S1024x256, .bf16⟩
  | .local _ .vmem, ⟨7, _⟩ => ⟨S512x768, .bf16⟩
  | .local _ .vmem, ⟨8, _⟩ => ⟨S512x768, .bf16⟩
  | .local _ .vmem, ⟨9, _⟩ => ⟨S128x3072, .bf16⟩
  | .local _ .vmem, ⟨10, _⟩ => ⟨S128x3072, .bf16⟩
  | .local _ .vmem, ⟨11, _⟩ => ⟨S32x12288, .bf16⟩
  | .local _ .vmem, ⟨12, _⟩ => ⟨S32x12288, .bf16⟩
  | .local _ .vmem, ⟨13, _⟩ => ⟨S512x256, .bf16⟩
  | .local _ .vmem, ⟨14, _⟩ => ⟨S512x256, .bf16⟩
  | .local _ .vmem, ⟨15, _⟩ => ⟨S6x512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16_0 : Ref sig .tc := ⟨.hbm, 19, rfl⟩
abbrev main_v16_1 : Ref sig .tc := ⟨.hbm, 20, rfl⟩
abbrev main_v16_2 : Ref sig .tc := ⟨.hbm, 21, rfl⟩
abbrev main_v16_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x12288 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AttProjRefIdeal.lean ====
abbrev S32768x1024 : Shape := ⟨2, ![32768, 1024]⟩
abbrev S1024 : Shape := ⟨1, ![1024]⟩
abbrev S1024x2560 : Shape := ⟨2, ![1024, 2560]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2560 : Shape := ⟨2, ![32768, 2560]⟩
abbrev S32768x768 : Shape := ⟨2, ![32768, 768]⟩
abbrev S32768x256 : Shape := ⟨2, ![32768, 256]⟩
abbrev S8192x3072 : Shape := ⟨2, ![8192, 3072]⟩
abbrev S2048x12288 : Shape := ⟨2, ![2048, 12288]⟩

abbrev nBuf : Space → Nat
  | .hbm => 42
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2560, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x2560, .f32⟩
  | .hbm, ⟨20, _⟩ => ⟨S32768x768, .f32⟩
  | .hbm, ⟨21, _⟩ => ⟨S32768x768, .f32⟩
  | .hbm, ⟨22, _⟩ => ⟨S32768x768, .f32⟩
  | .hbm, ⟨23, _⟩ => ⟨S32768x256, .f32⟩
  | .hbm, ⟨24, _⟩ => ⟨S32768x256, .f32⟩
  | .hbm, ⟨25, _⟩ => ⟨S32768x256, .f32⟩
  | .hbm, ⟨26, _⟩ => ⟨S32768x256, .f32⟩
  | .hbm, ⟨27, _⟩ => ⟨S32768x768, .f32⟩
  | .hbm, ⟨28, _⟩ => ⟨S32768x768, .bf16⟩
  | .hbm, ⟨29, _⟩ => ⟨S32768x256, .f32⟩
  | .hbm, ⟨30, _⟩ => ⟨S32768x256, .f32⟩
  | .hbm, ⟨31, _⟩ => ⟨S32768x256, .f32⟩
  | .hbm, ⟨32, _⟩ => ⟨S32768x768, .f32⟩
  | .hbm, ⟨33, _⟩ => ⟨S8192x3072, .f32⟩
  | .hbm, ⟨34, _⟩ => ⟨S8192x3072, .bf16⟩
  | .hbm, ⟨35, _⟩ => ⟨S32768x256, .f32⟩
  | .hbm, ⟨36, _⟩ => ⟨S32768x256, .f32⟩
  | .hbm, ⟨37, _⟩ => ⟨S32768x256, .f32⟩
  | .hbm, ⟨38, _⟩ => ⟨S32768x768, .f32⟩
  | .hbm, ⟨39, _⟩ => ⟨S2048x12288, .f32⟩
  | .hbm, ⟨40, _⟩ => ⟨S2048x12288, .bf16⟩
  | .hbm, ⟨41, _⟩ => ⟨S32768x256, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩

abbrev nD : Nat := 1
abbrev τ : Topo := Topo.v7x

variable {F : FTy → Type} [FloatOps F]
-- ==== AttOut.lean ====
abbrev S32768x256 : Shape := ⟨2, ![32768, 256]⟩
abbrev S8192x1024 : Shape := ⟨2, ![8192, 1024]⟩
abbrev S2048x4096 : Shape := ⟨2, ![2048, 4096]⟩
abbrev S8x256x256 : Shape := ⟨3, ![8, 256, 256]⟩
abbrev S32768x1024 : Shape := ⟨2, ![32768, 1024]⟩
abbrev S1024x1024 : Shape := ⟨2, ![1024, 1024]⟩
abbrev S1024 : Shape := ⟨1, ![1024]⟩
abbrev S1x1024 : Shape := ⟨2, ![1, 1024]⟩
abbrev S1024x256 : Shape := ⟨2, ![1024, 256]⟩
abbrev S256x1024 : Shape := ⟨2, ![256, 1024]⟩
abbrev S64x4096 : Shape := ⟨2, ![64, 4096]⟩
abbrev S1x256x256 : Shape := ⟨3, ![1, 256, 256]⟩
abbrev S12x1024x128 : Shape := ⟨3, ![12, 1024, 128]⟩
abbrev S256x128 : Shape := ⟨2, ![256, 128]⟩
abbrev S1x256x128 : Shape := ⟨3, ![1, 256, 128]⟩
abbrev S1x1024x128 : Shape := ⟨3, ![1, 1024, 128]⟩
abbrev S1024x128 : Shape := ⟨2, ![1024, 128]⟩
abbrev S64x128 : Shape := ⟨2, ![64, 128]⟩
abbrev S1x64x128 : Shape := ⟨3, ![1, 64, 128]⟩
abbrev S256x256 : Shape := ⟨2, ![256, 256]⟩
abbrev S1024x1 : Shape := ⟨2, ![1024, 1]⟩

abbrev nBuf : Space → Nat
  | .hbm => 15
  | .vmem => 25
  | .smem => 0
  | _ => 0

abbrev bufTy : (tb : Table) → Fin (tcTables nBuf tb) → BufTy
  | .hbm, ⟨0, _⟩ => ⟨S32768x256, .bf16⟩
  | .hbm, ⟨1, _⟩ => ⟨S8192x1024, .bf16⟩
  | .hbm, ⟨2, _⟩ => ⟨S2048x4096, .bf16⟩
  | .hbm, ⟨3, _⟩ => ⟨S32768x256, .f32⟩
  | .hbm, ⟨4, _⟩ => ⟨S8192x1024, .f32⟩
  | .hbm, ⟨5, _⟩ => ⟨S2048x4096, .f32⟩
  | .hbm, ⟨6, _⟩ => ⟨S32768x256, .bf16⟩
  | .hbm, ⟨7, _⟩ => ⟨S8x256x256, .bf16⟩
  | .hbm, ⟨8, _⟩ => ⟨S8x256x256, .bf16⟩
  | .hbm, ⟨9, _⟩ => ⟨S32768x1024, .f32⟩
  | .hbm, ⟨10, _⟩ => ⟨S1024x1024, .f32⟩
  | .hbm, ⟨11, _⟩ => ⟨S1024, .f32⟩
  | .hbm, ⟨12, _⟩ => ⟨S1024x1024, .bf16⟩
  | .hbm, ⟨13, _⟩ => ⟨S1x1024, .f32⟩
  | .hbm, ⟨14, _⟩ => ⟨S32768x1024, .f32⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S256x1024, .bf16⟩
  | .local _ .vmem, ⟨4, _⟩ => ⟨S64x4096, .bf16⟩
  | .local _ .vmem, ⟨5, _⟩ => ⟨S64x4096, .bf16⟩
  | .local _ .vmem, ⟨6, _⟩ => ⟨S1024x256, .f32⟩
  | .local _ .vmem, ⟨7, _⟩ => ⟨S1024x256, .f32⟩
  | .local _ .vmem, ⟨8, _⟩ => ⟨S256x1024, .f32⟩
  | .local _ .vmem, ⟨9, _⟩ => ⟨S256x1024, .f32⟩
  | .local _ .vmem, ⟨10, _⟩ => ⟨S64x4096, .f32⟩
  | .local _ .vmem, ⟨11, _⟩ => ⟨S64x4096, .f32⟩
  | .local _ .vmem, ⟨12, _⟩ => ⟨S1024x256, .bf16⟩
  | .local _ .vmem, ⟨13, _⟩ => ⟨S1024x256, .bf16⟩
  | .local _ .vmem, ⟨14, _⟩ => ⟨S1x256x256, .bf16⟩
  | .local _ .vmem, ⟨15, _⟩ => ⟨S1x256x256, .bf16⟩
  | .local _ .vmem, ⟨16, _⟩ => ⟨S1x256x256, .bf16⟩
  | .local _ .vmem, ⟨17, _⟩ => ⟨S1x256x256, .bf16⟩
  | .local _ .vmem, ⟨18, _⟩ => ⟨S1024x1024, .f32⟩
  | .local _ .vmem, ⟨19, _⟩ => ⟨S1024x1024, .f32⟩
  | .local _ .vmem, ⟨20, _⟩ => ⟨S1024x1024, .bf16⟩
  | .local _ .vmem, ⟨21, _⟩ => ⟨S1x1024, .f32⟩
  | .local _ .vmem, ⟨22, _⟩ => ⟨S1024x1024, .f32⟩
  | .local _ .vmem, ⟨23, _⟩ => ⟨S1024x1024, .f32⟩
  | .local _ .vmem, ⟨24, _⟩ => ⟨S12x1024x128, .f32⟩
  | _, _ => ⟨S32768x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== AttOutRefIdeal.lean ====
abbrev S32768x256 : Shape := ⟨2, ![32768, 256]⟩
abbrev S8192x1024 : Shape := ⟨2, ![8192, 1024]⟩
abbrev S2048x4096 : Shape := ⟨2, ![2048, 4096]⟩
abbrev S8x256x256 : Shape := ⟨3, ![8, 256, 256]⟩
abbrev S32768x1024 : Shape := ⟨2, ![32768, 1024]⟩
abbrev S1024x1024 : Shape := ⟨2, ![1024, 1024]⟩
abbrev S1024 : Shape := ⟨1, ![1024]⟩
abbrev S1x32768x256 : Shape := ⟨3, ![1, 32768, 256]⟩
abbrev S3x32768x256 : Shape := ⟨3, ![3, 32768, 256]⟩
abbrev S_ : Shape := ⟨0, ![]⟩
abbrev S32768x768 : Shape := ⟨2, ![32768, 768]⟩
abbrev S8x4096x4x64 : Shape := ⟨4, ![8, 4096, 4, 64]⟩
abbrev S8x256x4x64 : Shape := ⟨4, ![8, 256, 4, 64]⟩
abbrev S8x4x4096x256 : Shape := ⟨4, ![8, 4, 4096, 256]⟩
abbrev S8x4x4096 : Shape := ⟨3, ![8, 4, 4096]⟩
abbrev S8x4x4096x1 : Shape := ⟨4, ![8, 4, 4096, 1]⟩
abbrev S8x4x64x4096 : Shape := ⟨4, ![8, 4, 64, 4096]⟩
abbrev S32768 : Shape := ⟨1, ![32768]⟩
abbrev S32768x1 : Shape := ⟨2, ![32768, 1]⟩
abbrev S1x1024 : Shape := ⟨2, ![1, 1024]⟩

abbrev nBuf : Space → Nat
  | .hbm => 93
  | .vmem => 0
  | .smem => 0
  | _ => 0

abbrev bufTy : (tb : Table) → Fin (tcTables nBuf tb) → BufTy
  | .hbm, ⟨0, _⟩ => ⟨S32768x256, .bf16⟩
  | .hbm, ⟨1, _⟩ => ⟨S8192x1024, .bf16⟩
  | .hbm, ⟨2, _⟩ => ⟨S2048x4096, .bf16⟩
  | .hbm, ⟨3, _⟩ => ⟨S32768x256, .f32⟩
  | .hbm, ⟨4, _⟩ => ⟨S8192x1024, .f32⟩
  | .hbm, ⟨5, _⟩ => ⟨S2048x4096, .f32⟩
  | .hbm, ⟨6, _⟩ => ⟨S32768x256, .bf16⟩
  | .hbm, ⟨7, _⟩ => ⟨S8x256x256, .bf16⟩
  | .hbm, ⟨8, _⟩ => ⟨S8x256x256, .bf16⟩
  | .hbm, ⟨9, _⟩ => ⟨S32768x1024, .f32⟩
  | .hbm, ⟨10, _⟩ => ⟨S1024x1024, .f32⟩
  | .hbm, ⟨11, _⟩ => ⟨S1024, .f32⟩
  | .hbm, ⟨12, _⟩ => ⟨S32768x256, .f32⟩
  | .hbm, ⟨13, _⟩ => ⟨S8192x1024, .f32⟩
  | .hbm, ⟨14, _⟩ => ⟨S32768x256, .f32⟩
  | .hbm, ⟨15, _⟩ => ⟨S2048x4096, .f32⟩
  | .hbm, ⟨16, _⟩ => ⟨S32768x256, .f32⟩
  | .hbm, ⟨17, _⟩ => ⟨S32768x256, .f32⟩
  | .hbm, ⟨18, _⟩ => ⟨S32768x256, .f32⟩
  | .hbm, ⟨19, _⟩ => ⟨S1x32768x256, .f32⟩
  | .hbm, ⟨20, _⟩ => ⟨S1x32768x256, .f32⟩
  | .hbm, ⟨21, _⟩ => ⟨S1x32768x256, .f32⟩
  | .hbm, ⟨22, _⟩ => ⟨S3x32768x256, .f32⟩
  | .hbm, ⟨23, _⟩ => ⟨S_, .f32⟩
  | .hbm, ⟨24, _⟩ => ⟨S32768x256, .f32⟩
  | .hbm, ⟨25, _⟩ => ⟨S_, .f32⟩
  | .hbm, ⟨26, _⟩ => ⟨S32768x256, .f32⟩
  | .hbm, ⟨27, _⟩ => ⟨S32768x256, .f32⟩
  | .hbm, ⟨28, _⟩ => ⟨S1x32768x256, .f32⟩
  | .hbm, ⟨29, _⟩ => ⟨S3x32768x256, .f32⟩
  | .hbm, ⟨30, _⟩ => ⟨S3x32768x256, .f32⟩
  | .hbm, ⟨31, _⟩ => ⟨S3x32768x256, .f32⟩
  | .hbm, ⟨32, _⟩ => ⟨S_, .f32⟩
  | .hbm, ⟨33, _⟩ => ⟨S32768x256, .f32⟩
  | .hbm, ⟨34, _⟩ => ⟨S1x32768x256, .f32⟩
  | .hbm, ⟨35, _⟩ => ⟨S3x32768x256, .f32⟩
  | .hbm, ⟨36, _⟩ => ⟨S3x32768x256, .f32⟩
  | .hbm, ⟨37, _⟩ => ⟨S1x32768x256, .f32⟩
  | .hbm, ⟨38, _⟩ => ⟨S32768x256, .f32⟩
  | .hbm, ⟨39, _⟩ => ⟨S1x32768x256, .f32⟩
  | .hbm, ⟨40, _⟩ => ⟨S32768x256, .f32⟩
  | .hbm, ⟨41, _⟩ => ⟨S1x32768x256, .f32⟩
  | .hbm, ⟨42, _⟩ => ⟨S32768x256, .f32⟩
  | .hbm, ⟨43, _⟩ => ⟨S32768x256, .f32⟩
  | .hbm, ⟨44, _⟩ => ⟨S32768x256, .f32⟩
  | .hbm, ⟨45, _⟩ => ⟨S32768x256, .f32⟩
  | .hbm, ⟨46, _⟩ => ⟨S32768x768, .f32⟩
  | .hbm, ⟨47, _⟩ => ⟨S32768x256, .f32⟩
  | .hbm, ⟨48, _⟩ => ⟨S8x4096x4x64, .f32⟩
  | .hbm, ⟨49, _⟩ => ⟨S_, .f32⟩
  | .hbm, ⟨50, _⟩ => ⟨S8x4096x4x64, .f32⟩
  | .hbm, ⟨51, _⟩ => ⟨S8x4096x4x64, .f32⟩
  | .hbm, ⟨52, _⟩ => ⟨S8x256x256, .f32⟩
  | .hbm, ⟨53, _⟩ => ⟨S8x256x4x64, .f32⟩
  | .hbm, ⟨54, _⟩ => ⟨S8x256x256, .f32⟩
  | .hbm, ⟨55, _⟩ => ⟨S8x256x4x64, .f32⟩
  | .hbm, ⟨56, _⟩ => ⟨S8x4x4096x256, .f32⟩
  | .hbm, ⟨57, _⟩ => ⟨S_, .f32⟩
  | .hbm, ⟨58, _⟩ => ⟨S8x4x4096, .f32⟩
  | .hbm, ⟨59, _⟩ => ⟨S_, .f32⟩
  | .hbm, ⟨60, _⟩ => ⟨S8x4x4096, .f32⟩
  | .hbm, ⟨61, _⟩ => ⟨S8x4x4096, .f32⟩
  | .hbm, ⟨62, _⟩ => ⟨S8x4x4096x1, .f32⟩
  | .hbm, ⟨63, _⟩ => ⟨S8x4x4096x256, .f32⟩
  | .hbm, ⟨64, _⟩ => ⟨S8x4x4096x256, .f32⟩
  | .hbm, ⟨65, _⟩ => ⟨S8x4x4096x256, .f32⟩
  | .hbm, ⟨66, _⟩ => ⟨S_, .f32⟩
  | .hbm, ⟨67, _⟩ => ⟨S8x4x4096, .f32⟩
  | .hbm, ⟨68, _⟩ => ⟨S8x4x4096x1, .f32⟩
  | .hbm, ⟨69, _⟩ => ⟨S8x4x4096x256, .f32⟩
  | .hbm, ⟨70, _⟩ => ⟨S8x4x4096x256, .f32⟩
  | .hbm, ⟨71, _⟩ => ⟨S8x4x64x4096, .f32⟩
  | .hbm, ⟨72, _⟩ => ⟨S8x4096x4x64, .f32⟩
  | .hbm, ⟨73, _⟩ => ⟨S32768x256, .f32⟩
  | .hbm, ⟨74, _⟩ => ⟨S32768x1024, .f32⟩
  | .hbm, ⟨75, _⟩ => ⟨S32768x1024, .f32⟩
  | .hbm, ⟨76, _⟩ => ⟨S32768x1024, .f32⟩
  | .hbm, ⟨77, _⟩ => ⟨S_, .f32⟩
  | .hbm, ⟨78, _⟩ => ⟨S32768, .f32⟩
  | .hbm, ⟨79, _⟩ => ⟨S32768x1, .f32⟩
  | .hbm, ⟨80, _⟩ => ⟨S_, .f32⟩
  | .hbm, ⟨81, _⟩ => ⟨S32768x1, .f32⟩
  | .hbm, ⟨82, _⟩ => ⟨S32768x1, .f32⟩
  | .hbm, ⟨83, _⟩ => ⟨S_, .f32⟩
  | .hbm, ⟨84, _⟩ => ⟨S32768x1, .f32⟩
  | .hbm, ⟨85, _⟩ => ⟨S32768x1, .f32⟩
  | .hbm, ⟨86, _⟩ => ⟨S32768x1, .f32⟩
  | .hbm, ⟨87, _⟩ => ⟨S32768x1024, .f32⟩
  | .hbm, ⟨88, _⟩ => ⟨S32768x1024, .f32⟩
  | .hbm, ⟨89, _⟩ => ⟨S1x1024, .f32⟩
  | .hbm, ⟨90, _⟩ => ⟨S32768x1024, .f32⟩
  | .hbm, ⟨91, _⟩ => ⟨S32768x1024, .f32⟩
  | .hbm, ⟨92, _⟩ => ⟨S32768x1024, .f32⟩
  | _, _ => ⟨S32768x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_2 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_3 : Ref sig .tc := ⟨.hbm, 57, rfl⟩
abbrev main_v41 : Ref sig .tc := ⟨.hbm, 58, rfl⟩
abbrev main_cst_4 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_5 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_6 : Ref sig .tc := ⟨.hbm, 77, rfl⟩
abbrev main_v58 : Ref sig .tc := ⟨.hbm, 78, rfl⟩
abbrev main_v59 : Ref sig .tc := ⟨.hbm, 79, rfl⟩
abbrev main_cst_7 : Ref sig .tc := ⟨.hbm, 80, rfl⟩
abbrev main_v60 : Ref sig .tc := ⟨.hbm, 81, rfl⟩
abbrev main_v61 : Ref sig .tc := ⟨.hbm, 82, rfl⟩
abbrev main_cst_8 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩

abbrev nD : Nat := 1
abbrev τ : Topo := Topo.v7x

variable {F : FTy → Type} [FloatOps F]
-- ==== DnOut.lean ====
abbrev S32768x768 : Shape := ⟨2, ![32768, 768]⟩
abbrev S8x256x256 : Shape := ⟨3, ![8, 256, 256]⟩
abbrev S32768x1024 : Shape := ⟨2, ![32768, 1024]⟩
abbrev S1024 : Shape := ⟨1, ![1024]⟩
abbrev S1024x3352 : Shape := ⟨2, ![1024, 3352]⟩
abbrev S128 : Shape := ⟨1, ![128]⟩
abbrev S1024x1024 : Shape := ⟨2, ![1024, 1024]⟩
abbrev S1024x256 : Shape := ⟨2, ![1024, 256]⟩
abbrev S1x1024 : Shape := ⟨2, ![1, 1024]⟩
abbrev S1x128 : Shape := ⟨2, ![1, 128]⟩
abbrev S1024x768 : Shape := ⟨2, ![1024, 768]⟩
abbrev S1x256x256 : Shape := ⟨3, ![1, 256, 256]⟩
abbrev S1024x1 : Shape := ⟨2, ![1024, 1]⟩
abbrev S1024x128 : Shape := ⟨2, ![1024, 128]⟩
abbrev S256x256 : Shape := ⟨2, ![256, 256]⟩

abbrev nBuf : Space → Nat
  | .hbm => 17
  | .vmem => 18
  | .smem => 0
  | _ => 0

abbrev bufTy : (tb : Table) → Fin (tcTables nBuf tb) → BufTy
  | .hbm, ⟨0, _⟩ => ⟨S32768x768, .bf16⟩
  | .hbm, ⟨1, _⟩ => ⟨S32768x768, .bf16⟩
  | .hbm, ⟨2, _⟩ => ⟨S8x256x256, .bf16⟩
  | .hbm, ⟨3, _⟩ => ⟨S8x256x256, .bf16⟩
  | .hbm, ⟨4, _⟩ => ⟨S32768x1024, .f32⟩
  | .hbm, ⟨5, _⟩ => ⟨S1024, .f32⟩
  | .hbm, ⟨6, _⟩ => ⟨S1024x3352, .f32⟩
  | .hbm, ⟨7, _⟩ => ⟨S128, .f32⟩
  | .hbm, ⟨8, _⟩ => ⟨S1024x1024, .f32⟩
  | .hbm, ⟨9, _⟩ => ⟨S1024, .f32⟩
  | .hbm, ⟨10, _⟩ => ⟨S1024x3352, .bf16⟩
  | .hbm, ⟨11, _⟩ => ⟨S1024x256, .bf16⟩
  | .hbm, ⟨12, _⟩ => ⟨S1024x1024, .bf16⟩
  | .hbm, ⟨13, _⟩ => ⟨S1x1024, .f32⟩
  | .hbm, ⟨14, _⟩ => ⟨S1x128, .f32⟩
  | .hbm, ⟨15, _⟩ => ⟨S1x1024, .f32⟩
  | .hbm, ⟨16, _⟩ => ⟨S32768x1024, .f32⟩
  | .local _ .vmem, ⟨0, _⟩ => ⟨S1024x768, .bf16⟩
  | .local _ .vmem, ⟨1, _⟩ => ⟨S1024x768, .bf16⟩
  | .local _ .vmem, ⟨2, _⟩ => ⟨S1024x768, .bf16⟩
  | .local _ .vmem, ⟨3, _⟩ => ⟨S1024x768, .bf16⟩
  | .local _ .vmem, ⟨4, _⟩ => ⟨S1x256x256, .bf16⟩
  | .local _ .vmem, ⟨5, _⟩ => ⟨S1x256x256, .bf16⟩
  | .local _ .vmem, ⟨6, _⟩ => ⟨S1x256x256, .bf16⟩
  | .local _ .vmem, ⟨7, _⟩ => ⟨S1x256x256, .bf16⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1024x768, .bf16⟩
  | .local _ .vmem, ⟨12, _⟩ => ⟨S1024x256, .bf16⟩
  | .local _ .vmem, ⟨13, _⟩ => ⟨S1x128, .f32⟩
  | .local _ .vmem, ⟨14, _⟩ => ⟨S1024x1024, .bf16⟩
  | .local _ .vmem, ⟨15, _⟩ => ⟨S1x1024, .f32⟩
  | .local _ .vmem, ⟨16, _⟩ => ⟨S1024x1024, .f32⟩
  | .local _ .vmem, ⟨17, _⟩ => ⟨S1024x1024, .f32⟩
  | _, _ => ⟨S32768x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== DnOutIdeal.lean ====
variable {F : FTy → Type} [FloatOps F] [Named F]
def κ : String → Option EReal := fun
  | "neg_log2e" => some ((-((Real.log 2)⁻¹) : ℝ) : EReal)
  | _ => none
-- ==== DnOutRefIdeal.lean ====
abbrev S32768x768 : Shape := ⟨2, ![32768, 768]⟩
abbrev S8x256x256 : Shape := ⟨3, ![8, 256, 256]⟩
abbrev S32768x1024 : Shape := ⟨2, ![32768, 1024]⟩
abbrev S1024 : Shape := ⟨1, ![1024]⟩
abbrev S1024x3352 : Shape := ⟨2, ![1024, 3352]⟩
abbrev S128 : Shape := ⟨1, ![128]⟩
abbrev S1024x1024 : Shape := ⟨2, ![1024, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3352 : Shape := ⟨2, ![32768, 3352]⟩
abbrev S32768x2304 : Shape := ⟨2, ![32768, 2304]⟩
abbrev S32768x24 : Shape := ⟨2, ![32768, 24]⟩
abbrev S32768x256 : Shape := ⟨2, ![32768, 256]⟩
abbrev S32768x6x128 : Shape := ⟨3, ![32768, 6, 128]⟩
abbrev S32768x6 : Shape := ⟨2, ![32768, 6]⟩
abbrev S32768x6x1 : Shape := ⟨3, ![32768, 6, 1]⟩
abbrev S1x1x128 : Shape := ⟨3, ![1, 1, 128]⟩
abbrev S8x4096x4x64 : Shape := ⟨4, ![8, 4096, 4, 64]⟩
abbrev S8x256x4x64 : Shape := ⟨4, ![8, 256, 4, 64]⟩
abbrev S8x4x4096x256 : Shape := ⟨4, ![8, 4, 4096, 256]⟩
abbrev S8x4x4096 : Shape := ⟨3, ![8, 4, 4096]⟩
abbrev S8x4x4096x1 : Shape := ⟨4, ![8, 4, 4096, 1]⟩
abbrev S8x4x64x4096 : Shape := ⟨4, ![8, 4, 64, 4096]⟩

abbrev nBuf : Space → Nat
  | .hbm => 108
  | .vmem => 0
  | .smem => 0
  | _ => 0

abbrev bufTy : (tb : Table) → Fin (tcTables nBuf tb) → BufTy
  | .hbm, ⟨0, _⟩ => ⟨S32768x768, .bf16⟩
  | .hbm, ⟨1, _⟩ => ⟨S32768x768, .bf16⟩
  | .hbm, ⟨2, _⟩ => ⟨S8x256x256, .bf16⟩
  | .hbm, ⟨3, _⟩ => ⟨S8x256x256, .bf16⟩
  | .hbm, ⟨4, _⟩ => ⟨S32768x1024, .f32⟩
  | .hbm, ⟨5, _⟩ => ⟨S1024, .f32⟩
  | .hbm, ⟨6, _⟩ => ⟨S1024x3352, .f32⟩
  | .hbm, ⟨7, _⟩ => ⟨S128, .f32⟩
  | .hbm, ⟨8, _⟩ => ⟨S1024x1024, .f32⟩
  | .hbm, ⟨9, _⟩ => ⟨S1024, .f32⟩
  | .hbm, ⟨10, _⟩ => ⟨S32768x1024, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1, .f32⟩
  | .hbm, ⟨21, _⟩ => ⟨S32768x1024, .f32⟩
  | .hbm, ⟨22, _⟩ => ⟨S32768x1024, .f32⟩
  | .hbm, ⟨23, _⟩ => ⟨S1x1024, .f32⟩
  | .hbm, ⟨24, _⟩ => ⟨S32768x1024, .f32⟩
  | .hbm, ⟨25, _⟩ => ⟨S32768x1024, .f32⟩
  | .hbm, ⟨26, _⟩ => ⟨S32768x3352, .f32⟩
  | .hbm, ⟨27, _⟩ => ⟨S32768x2304, .f32⟩
  | .hbm, ⟨28, _⟩ => ⟨S32768x768, .f32⟩
  | .hbm, ⟨29, _⟩ => ⟨S32768x24, .f32⟩
  | .hbm, ⟨30, _⟩ => ⟨S32768x256, .f32⟩
  | .hbm, ⟨31, _⟩ => ⟨S32768x768, .f32⟩
  | .hbm, ⟨32, _⟩ => ⟨S32768x768, .f32⟩
  | .hbm, ⟨33, _⟩ => ⟨S32768x768, .f32⟩
  | .hbm, ⟨34, _⟩ => ⟨S32768x6x128, .f32⟩
  | .hbm, ⟨35, _⟩ => ⟨S32768x6x128, .f32⟩
  | .hbm, ⟨36, _⟩ => ⟨S_, .f32⟩
  | .hbm, ⟨37, _⟩ => ⟨S32768x6, .f32⟩
  | .hbm, ⟨38, _⟩ => ⟨S32768x6x1, .f32⟩
  | .hbm, ⟨39, _⟩ => ⟨S_, .f32⟩
  | .hbm, ⟨40, _⟩ => ⟨S32768x6x1, .f32⟩
  | .hbm, ⟨41, _⟩ => ⟨S32768x6x1, .f32⟩
  | .hbm, ⟨42, _⟩ => ⟨S_, .f32⟩
  | .hbm, ⟨43, _⟩ => ⟨S32768x6x1, .f32⟩
  | .hbm, ⟨44, _⟩ => ⟨S32768x6x1, .f32⟩
  | .hbm, ⟨45, _⟩ => ⟨S32768x6x1, .f32⟩
  | .hbm, ⟨46, _⟩ => ⟨S32768x6x128, .f32⟩
  | .hbm, ⟨47, _⟩ => ⟨S32768x6x128, .f32⟩
  | .hbm, ⟨48, _⟩ => ⟨S1x1x128, .f32⟩
  | .hbm, ⟨49, _⟩ => ⟨S32768x6x128, .f32⟩
  | .hbm, ⟨50, _⟩ => ⟨S32768x6x128, .f32⟩
  | .hbm, ⟨51, _⟩ => ⟨S32768x6x128, .f32⟩
  | .hbm, ⟨52, _⟩ => ⟨S32768x6x128, .f32⟩
  | .hbm, ⟨53, _⟩ => ⟨S32768x6x128, .f32⟩
  | .hbm, ⟨54, _⟩ => ⟨S_, .f32⟩
  | .hbm, ⟨55, _⟩ => ⟨S32768x6x128, .f32⟩
  | .hbm, ⟨56, _⟩ => ⟨S32768x6x128, .f32⟩
  | .hbm, ⟨57, _⟩ => ⟨S_, .f32⟩
  | .hbm, ⟨58, _⟩ => ⟨S32768x6x128, .f32⟩
  | .hbm, ⟨59, _⟩ => ⟨S32768x6x128, .f32⟩
  | .hbm, ⟨60, _⟩ => ⟨S32768x6x128, .f32⟩
  | .hbm, ⟨61, _⟩ => ⟨S32768x6x128, .f32⟩
  | .hbm, ⟨62, _⟩ => ⟨S32768x768, .f32⟩
  | .hbm, ⟨63, _⟩ => ⟨S8x4096x4x64, .f32⟩
  | .hbm, ⟨64, _⟩ => ⟨S_, .f32⟩
  | .hbm, ⟨65, _⟩ => ⟨S8x4096x4x64, .f32⟩
  | .hbm, ⟨66, _⟩ => ⟨S8x4096x4x64, .f32⟩
  | .hbm, ⟨67, _⟩ => ⟨S8x256x256, .f32⟩
  | .hbm, ⟨68, _⟩ => ⟨S8x256x4x64, .f32⟩
  | .hbm, ⟨69, _⟩ => ⟨S8x256x256, .f32⟩
  | .hbm, ⟨70, _⟩ => ⟨S8x256x4x64, .f32⟩
  | .hbm, ⟨71, _⟩ => ⟨S8x4x4096x256, .f32⟩
  | .hbm, ⟨72, _⟩ => ⟨S_, .f32⟩
  | .hbm, ⟨73, _⟩ => ⟨S8x4x4096, .f32⟩
  | .hbm, ⟨74, _⟩ => ⟨S_, .f32⟩
  | .hbm, ⟨75, _⟩ => ⟨S8x4x4096, .f32⟩
  | .hbm, ⟨76, _⟩ => ⟨S8x4x4096, .f32⟩
  | .hbm, ⟨77, _⟩ => ⟨S8x4x4096x1, .f32⟩
  | .hbm, ⟨78, _⟩ => ⟨S8x4x4096x256, .f32⟩
  | .hbm, ⟨79, _⟩ => ⟨S8x4x4096x256, .f32⟩
  | .hbm, ⟨80, _⟩ => ⟨S8x4x4096x256, .f32⟩
  | .hbm, ⟨81, _⟩ => ⟨S_, .f32⟩
  | .hbm, ⟨82, _⟩ => ⟨S8x4x4096, .f32⟩
  | .hbm, ⟨83, _⟩ => ⟨S8x4x4096x1, .f32⟩
  | .hbm, ⟨84, _⟩ => ⟨S8x4x4096x256, .f32⟩
  | .hbm, ⟨85, _⟩ => ⟨S8x4x4096x256, .f32⟩
  | .hbm, ⟨86, _⟩ => ⟨S8x4x64x4096, .f32⟩
  | .hbm, ⟨87, _⟩ => ⟨S8x4096x4x64, .f32⟩
  | .hbm, ⟨88, _⟩ => ⟨S32768x256, .f32⟩
  | .hbm, ⟨89, _⟩ => ⟨S32768x1024, .f32⟩
  | .hbm, ⟨90, _⟩ => ⟨S32768x1024, .f32⟩
  | .hbm, ⟨91, _⟩ => ⟨S32768x1024, .f32⟩
  | .hbm, ⟨92, _⟩ => ⟨S_, .f32⟩
  | .hbm, ⟨93, _⟩ => ⟨S32768, .f32⟩
  | .hbm, ⟨94, _⟩ => ⟨S32768x1, .f32⟩
  | .hbm, ⟨95, _⟩ => ⟨S_, .f32⟩
  | .hbm, ⟨96, _⟩ => ⟨S32768x1, .f32⟩
  | .hbm, ⟨97, _⟩ => ⟨S32768x1, .f32⟩
  | .hbm, ⟨98, _⟩ => ⟨S_, .f32⟩
  | .hbm, ⟨99, _⟩ => ⟨S32768x1, .f32⟩
  | .hbm, ⟨100, _⟩ => ⟨S32768x1, .f32⟩
  | .hbm, ⟨101, _⟩ => ⟨S32768x1, .f32⟩
  | .hbm, ⟨102, _⟩ => ⟨S32768x1024, .f32⟩
  | .hbm, ⟨103, _⟩ => ⟨S32768x1024, .f32⟩
  | .hbm, ⟨104, _⟩ => ⟨S1x1024, .f32⟩
  | .hbm, ⟨105, _⟩ => ⟨S32768x1024, .f32⟩
  | .hbm, ⟨106, _⟩ => ⟨S32768x1024, .f32⟩
  | .hbm, ⟨107, _⟩ => ⟨S32768x1024, .f32⟩
  | _, _ => ⟨S32768x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_5 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_6 : Ref sig .tc := ⟨.hbm, 72, rfl⟩
abbrev main_v47 : Ref sig .tc := ⟨.hbm, 73, rfl⟩
abbrev main_cst_7 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_8 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_9 : Ref sig .tc := ⟨.hbm, 92, rfl⟩
abbrev main_v64 : Ref sig .tc := ⟨.hbm, 93, rfl⟩
abbrev main_v65 : Ref sig .tc := ⟨.hbm, 94, rfl⟩
abbrev main_cst_10 : Ref sig .tc := ⟨.hbm, 95, rfl⟩
abbrev main_v66 : Ref sig .tc := ⟨.hbm, 96, rfl⟩
abbrev main_v67 : Ref sig .tc := ⟨.hbm, 97, rfl⟩
abbrev main_cst_11 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩

abbrev nD : Nat := 1
abbrev τ : Topo := Topo.v7x

variable {F : FTy → Type} [FloatOps F]
-- ==== Proof.Layer.FfnMath.lean ====
/-
  The feed-forward block on ONE row, as a plain function of extended reals: root-mean-square norm, gate and up products,
  the gate through `silu`, the down product, a second norm, the residual sum. Both programs are read down to `ffnRow`
  elsewhere; here is the function and the one piece of arithmetic on which they differ, `silu` by base-2 exponentials.
-/
module

public import Idealize.ShloMosaic.Lib.Pointwise
public import Idealize.ShloMosaic.PureOps.Ideal

@[expose] public section

set_option maxRecDepth 16384

noncomputable section

open Idealize.ShloMosaic

namespace Cert.Layer

/-- A row scaled to unit root mean square, then by the gains `g`. -/
def rmsRow (x g : Fin 1024 → EReal) (k : Fin 1024) : EReal :=
  x k * Ideal.rsqrt (Ideal.div (∑ j : Fin 1024, x j * x j) (Ideal.ofBits .f32 0x44800000#32)
    + Ideal.ofBits .f32 0x358637BD#32) * g k

/-- `x / (1 + e^(-x))`, written as a product with the logistic function of `x`. -/
def siluRow (x : EReal) : EReal := x * Ideal.div 1 (1 + Ideal.exp (-x))

/-- The hidden row: `silu` of the gate product times the up product. -/
def hidRow (h : Fin 1024 → EReal) (wg wu : Fin 1024 → Fin 2816 → EReal) (f : Fin 2816) : EReal :=
  siluRow (∑ k : Fin 1024, h k * wg k f) * ∑ k : Fin 1024, h k * wu k f

/-- The whole block on one row. -/
def ffnRow (x g : Fin 1024 → EReal) (wg wu : Fin 1024 → Fin 2816 → EReal) (wd : Fin 2816 → Fin 1024 → EReal)
    (gp : Fin 1024 → EReal) (l : Fin 1024) : EReal :=
  x l + rmsRow (fun n => ∑ f : Fin 2816, hidRow (rmsRow x g) wg wu f * wd f n) gp l

/-- The product by `-1/log 2` turns the base-2 exponential into the exponential of the negated argument, on every
    extended real. -/
theorem exp2_neg_inv_log (x : EReal) : Ideal.exp2 (x * ((-(Real.log 2)⁻¹ : ℝ) : EReal)) = Ideal.exp (-x) := by
  have hl : (0 : ℝ) < Real.log 2 := Real.log_pos (by norm_num)
  have hc : (-(Real.log 2)⁻¹ : ℝ) < 0 := neg_lt_zero.mpr (inv_pos.mpr hl)
  induction x using EReal.rec with
  | bot => rw [EReal.bot_mul_coe_of_neg hc]; rfl
  | top => rw [EReal.top_mul_coe_of_neg hc]; rfl
  | coe r =>
    rw [← EReal.coe_mul, ← EReal.coe_neg, Ideal.exp2_coe, Ideal.exp_coe]
    congr 1
    show (2 : ℝ) ^ (r * -(Real.log 2)⁻¹) = Real.exp (-r)
    rw [Real.rpow_def_of_pos (by norm_num)]
    congr 1
    field_simp

/-- An exponential is nowhere negative, so one more than it is not zero. -/
theorem one_add_exp_ne_zero (x : EReal) : 1 + Ideal.exp x ≠ 0 := by
  have h : (0 : EReal) ≤ Ideal.exp x := by
    induction x using EReal.rec with
    | bot => exact le_refl _
    | top => exact le_top
    | coe r => rw [Ideal.exp_coe]; exact_mod_cast (Real.exp_pos r).le
  have h1 : (1 : EReal) ≤ 1 + Ideal.exp x := le_add_of_nonneg_right h
  exact (lt_of_lt_of_le zero_lt_one h1).ne'

/-- `silu` as the kernel writes it. -/
theorem silu_exp2 (x : EReal) :
    Ideal.div x (1 + Ideal.exp2 (x * ((-(Real.log 2)⁻¹ : ℝ) : EReal))) = siluRow x := by
  rw [exp2_neg_inv_log]
  unfold siluRow Ideal.div
  rw [if_neg (one_add_exp_ne_zero _), if_neg (one_add_exp_ne_zero _), one_mul]

/-- The block on two rows that agree, with weights that agree, at one lane. -/
theorem ffnRow_congr {x x' g g' : Fin 1024 → EReal} {wg wg' wu wu' : Fin 1024 → Fin 2816 → EReal}
    {wd wd' : Fin 2816 → Fin 1024 → EReal} {gp gp' : Fin 1024 → EReal} {l l' : Fin 1024}
    (hx : ∀ k, x k = x' k) (hg : ∀ k, g k = g' k) (hwg : ∀ k f, wg k f = wg' k f) (hwu : ∀ k f, wu k f = wu' k f)
    (hwd : ∀ f n, wd f n = wd' f n) (hgp : ∀ k, gp k = gp' k) (hl : l = l') :
    ffnRow x g wg wu wd gp l = ffnRow x' g' wg' wu' wd' gp' l' := by
  obtain rfl : x = x' := funext hx
  obtain rfl : g = g' := funext hg
  obtain rfl : wg = wg' := funext fun k => funext (hwg k)
  obtain rfl : wu = wu' := funext fun k => funext (hwu k)
  obtain rfl : wd = wd' := funext fun k => funext (hwd k)
  obtain rfl : gp = gp' := funext hgp
  subst hl; rfl

end Cert.Layer

end
-- ==== Proof.Layer.FfnValue.lean ====
/-
  The feed-forward kernel's result array, and the reference's, read index by index as `Cert.Layer.ffnRow` of the arguments.
-/
module

public import proofs.«01_k».proof.Proof.Gen.FfnIdeal.Value
public import proofs.«01_k».proof.Proof.Gen.FfnRefIdeal.Run
public import proofs.«01_k».proof.Proof.Layer.FfnMath
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Layer.FfnKernel

open Cert.FfnIdeal Cert.FfnIdeal.Gen Cert.Layer

/-- The kernel's named constant denotes `-1/log 2`. -/
theorem neg_log2e :
    Named.named (F := Ideal) Cert.FfnIdeal.κ "neg_log2e" (φ := .f32) 0xBFB8AA3B#32 = ((-(Real.log 2)⁻¹ : ℝ) : EReal) :=
  IdealRules.named_const.ideal_named_scalar _ _ _ _ rfl

/-- The base-2 exponential of the extended reals, behind the operation's name. -/
theorem exp2_ideal (x : EReal) : FloatOps.exp2 (F := Ideal) (φ := .f32) x = Ideal.exp2 x := rfl

/-- What the body stores for its first 256 rows, at row `r` and lane `l`: the block on that row. -/
theorem first_rows (x : FVec Ideal S256x1024 .f32) (g : FVec Ideal S1x1024 .f32) (wg wu : FVec Ideal S1024x2816 .bf16)
    (wd : FVec Ideal S2816x1024 .bf16) (gp : FVec Ideal S1x1024 .f32) (r : Fin 256) (l : Fin 1024) :
    k0_pay5 (F := Ideal) x (k0_pay2 x g wg wu wd) (k0_pay3 gp) (k0_pay4 x g wg wu wd) (ix2 r l)
      = ffnRow (fun k => x (ix2 r k)) (fun k => g (ix2 0 k)) (fun k f => wg (ix2 k f)) (fun k f => wu (ix2 k f))
          (fun f n => wd (ix2 f n)) (fun k => gp (ix2 0 k)) l := by
  pointwise [k0_pay5, k0_pay2, k0_pay3, k0_pay4]
  simp only [neg_log2e, exp2_ideal, silu_exp2, ffnRow, rmsRow, hidRow]

/-- What the body stores for its last 256 rows, likewise. -/
theorem last_rows (x : FVec Ideal S256x1024 .f32) (g : FVec Ideal S1x1024 .f32) (wg wu : FVec Ideal S1024x2816 .bf16)
    (wd : FVec Ideal S2816x1024 .bf16) (gp : FVec Ideal S1x1024 .f32) (r : Fin 256) (l : Fin 1024) :
    k0_pay1 (F := Ideal) x (k0_pay6 x g wg wu) wd gp (ix2 r l)
      = ffnRow (fun k => x (ix2 r k)) (fun k => g (ix2 0 k)) (fun k f => wg (ix2 k f)) (fun k f => wu (ix2 k f))
          (fun f n => wd (ix2 f n)) (fun k => gp (ix2 0 k)) l := by
  pointwise [k0_pay1, k0_pay6]
  simp only [neg_log2e, exp2_ideal, silu_exp2, ffnRow, rmsRow, hidRow]

/-- Where each window's block sits, at every grid point: the rows move with the point, the up weights are the second
    block of columns of the array the gate weights are the first of, everything else is whole. -/
theorem idx : ∀ t : Fin cfg0.N, win0_0.index t = ![t.val, 0] ∧ win0_1.index t = ![0, 0] ∧ win0_2.index t = ![0, 0]
    ∧ win0_3.index t = ![0, 1] ∧ win0_4.index t = ![0, 0] ∧ win0_5.index t = ![0, 0] ∧ win0_6.index t = ![t.val, 0] :=
  (by decide +kernel : ∀ t : Fin grid0.N, _)

variable (m : (ℓ : Loc nD τ sig) → Buf (Elt Ideal) ℓ)

/-- The kernel's result array as a function of the arguments: the block on every row. -/
def result (x : FVec Ideal S32768x1024 .f32) (g : FVec Ideal S1024 .f32) (w : FVec Ideal S1024x5632 .f32)
    (wd : FVec Ideal S2816x1024 .f32) (gp : FVec Ideal S1024 .f32) : FVec Ideal S32768x1024 .f32 := fun i =>
  ffnRow (fun k => x (ix2 (i 0) k)) (fun k => g (ix1 k)) (fun k f => w (ix2 k ⟨f, by omega⟩))
    (fun k f => w (ix2 k ⟨2816 + f, by omega⟩)) (fun f n => wd (ix2 f n)) (fun k => gp (ix1 k)) (i 1)

/-- The result array after the run. -/
theorem final (c : Dev nD) : (dats m 0 c).arrAt 6 cfg0.N
    = result (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  frame_out
  canon_tiles x h
  · idx_vars x
    refine (last_rows _ _ _ _ _ _ _ _).trans (ffnRow_congr (fun k => ?_) (fun k => ?_) (fun k f => ?_) (fun k f => ?_)
      (fun f n => ?_) (fun k => ?_) ?_)
    all_goals first | (pointwise; blk_point [iblk, V, idx t]; done) | (refine Fin.ext ?_; blk_simp [idx t]; omega)
  · idx_vars x
    refine (first_rows _ _ _ _ _ _ _ _).trans (ffnRow_congr (fun k => ?_) (fun k => ?_) (fun k f => ?_) (fun k f => ?_)
      (fun f n => ?_) (fun k => ?_) ?_)
    all_goals first | (pointwise; blk_point [iblk, V, idx t]; done) | (refine Fin.ext ?_; blk_simp [idx t]; omega)

end Cert.Layer.FfnKernel

namespace Cert.Layer.FfnReference

open Cert.FfnRefIdeal Cert.FfnRefIdeal.Gen Cert.FfnRefIdeal.Value Cert.Layer

variable (m : (ℓ : Loc nD τ sig) → Buf (Elt Ideal) ℓ)

/-- The reference's result at row `r` and lane `l`: the block on that row, the gate weights the first 2816 columns of the
    one weight array and the up weights the last. -/
theorem result_apply (c : Dev nD) (x : FVec Ideal S32768x1024 .f32) (g gp : FVec Ideal S1024 .f32)
    (w : FVec Ideal S1024x5632 .f32) (wd : FVec Ideal S2816x1024 .f32)
    (hx : m ((c : Thread nD τ).loc main_arg0) = x) (hg : m ((c : Thread nD τ).loc main_arg1) = g)
    (hw : m ((c : Thread nD τ).loc main_arg2) = w) (hwd : m ((c : Thread nD τ).loc main_arg3) = wd)
    (hgp : m ((c : Thread nD τ).loc main_arg4) = gp) (r : Fin 32768) (l : Fin 1024) :
    res_out0 m c (ix2 r l)
      = ffnRow (fun k => x (ix2 r k)) (fun k => g (ix1 k)) (fun k f => w (ix2 k ⟨f, by omega⟩))
          (fun k f => w (ix2 k ⟨2816 + f, by omega⟩)) (fun f n => wd (ix2 f n)) (fun k => gp (ix1 k)) l := by
  unfold res_out0 res_main_v32
  rw [hx, hg, hw, hwd, hgp]
  pointwise
  simp only [siluRow, ffnRow, rmsRow, hidRow]

end Cert.Layer.FfnReference

end
-- ==== Proof.Layer.FfnClaims.lean ====
/-
  The claims about the feed-forward block: every program leaves its arguments and its counters as they were, the
  idealised kernel is the printed one, and it computes what the reference computes.
-/
module

public import proofs.«01_k».proof.Defs
public import proofs.«01_k».proof.Proof.Gen.Ffn.Frame
public import proofs.«01_k».proof.Proof.Layer.FfnValue
public import Idealize.ShloMosaic.Lib.Quiescent
public import Idealize.ShloMosaic.Lib.Claim

@[expose] public section

set_option maxRecDepth 16384

noncomputable section

open Idealize.ShloMosaic Idealize.ShloMosaic.TcCoe Idealize.SL.Sem

namespace Cert.Layer.FfnClaims

/-- The kernel leaves its arguments and its counters as they were. -/
theorem frame_kernel : Cert.quiescent_Ffn := fun m ρ _ => Cert.Ffn.Gen.frame m ρ
/-- So does the idealised kernel. -/
theorem frame_ideal : Cert.quiescent_FfnIdeal := fun m ρ _ => Cert.FfnIdeal.Gen.frame m ρ
/-- So does the reference. -/
theorem frame_reference : Cert.quiescent_FfnRefIdeal := fun m ρ _ =>
  (θ_run Cert.FfnRefIdeal.defs _ _).mono (fun r h => ⟨fun c => (h c).2,
      Idealize.ShloMosaic.sem_eq_zero_of_no_sems (by decide) r.2⟩)
    (Cert.FfnRefIdeal.Value.run (F := Ideal) m ρ)

/-- The one rewritten constant is `-1/log 2`, of which the printed one is the rounding. -/
theorem preserves : Cert.preserves_Ffn_FfnIdeal :=
  IdealRules.named_const.statement Cert.FfnIdeal.κ "neg_log2e" .f32 0xBFB8AA3B#32 ((-((Real.log 2)⁻¹) : ℝ) : EReal) rfl

/-- On equal arguments the kernel's result array and the reference's hold the same extended reals: the block on every row. -/
theorem algebraic : Cert.algebraic_FfnIdeal_FfnRefIdeal := by
  intro m ρ m' ρ' _ hagree
  refine ⟨_, (θ_run Cert.FfnIdeal.defs _ _).mono (fun _ h c => ⟨(h c).1.trans (FfnKernel.final m c), (h c).2⟩)
    (Cert.FfnIdeal.Value.run_blocks (F := Ideal) m ρ), ?_⟩
  refine (θ_run Cert.FfnRefIdeal.defs _ _).mono (fun _ h c => ⟨(h c).1.trans ?_, (h c).2⟩)
    (Cert.FfnRefIdeal.Value.run (F := Ideal) m' ρ')
  obtain ⟨h0, h1, h2, h3, h4⟩ := hagree c
  funext i
  idx_vars i
  exact FfnReference.result_apply m' c _ _ _ _ _ h0 h1 h2 h3 h4 i0 i1

end Cert.Layer.FfnClaims

end
-- ==== Proof.Layer.BandFrames.lean ====
/-
  The frame claims of the band attention's three dilations: every program leaves its arguments and its counters as
  they were; and the idealisation rewrites nothing.
-/
module

public import proofs.«01_k».proof.Defs
public import proofs.«01_k».proof.Proof.Gen.Band1.Frame
public import proofs.«01_k».proof.Proof.Gen.Band1Ideal.Frame
public import proofs.«01_k».proof.Proof.Gen.Band1RefIdeal.Run
public import proofs.«01_k».proof.Proof.Gen.Band4.Frame
public import proofs.«01_k».proof.Proof.Gen.Band4Ideal.Frame
public import proofs.«01_k».proof.Proof.Gen.Band4RefIdeal.Run
public import proofs.«01_k».proof.Proof.Gen.Band16.Frame
public import proofs.«01_k».proof.Proof.Gen.Band16Ideal.Frame
public import proofs.«01_k».proof.Proof.Gen.Band16RefIdeal.Run
public import Idealize.ShloMosaic.Lib.Quiescent
public import Idealize.ShloMosaic.Lib.Claim

@[expose] public section

noncomputable section

open Idealize.ShloMosaic Idealize.ShloMosaic.TcCoe Idealize.SL.Sem

namespace Cert.Layer.BandFrames

/-- The kernel of dilation 1 leaves its arguments and its counters as they were. -/
theorem frame_kernel1 : Cert.quiescent_Band1 := fun m ρ _ => Cert.Band1.Gen.frame m ρ
/-- So does its idealisation. -/
theorem frame_ideal1 : Cert.quiescent_Band1Ideal := fun m ρ _ => Cert.Band1Ideal.Gen.frame m ρ
/-- So does the reference of dilation 1. -/
theorem frame_reference1 : Cert.quiescent_Band1RefIdeal := fun m ρ _ =>
  (θ_run Cert.Band1RefIdeal.defs _ _).mono (fun r h => ⟨fun c => (h c).2.2,
      Idealize.ShloMosaic.sem_eq_zero_of_no_sems (by decide) r.2⟩)
    (Cert.Band1RefIdeal.Value.run (F := Ideal) m ρ)
/-- No operation of dilation 1 was rewritten. -/
theorem preserves1 : Cert.preserves_Band1_Band1Ideal := trivial

/-- The kernel of dilation 4 leaves its arguments and its counters as they were. -/
theorem frame_kernel4 : Cert.quiescent_Band4 := fun m ρ _ => Cert.Band4.Gen.frame m ρ
/-- So does its idealisation. -/
theorem frame_ideal4 : Cert.quiescent_Band4Ideal := fun m ρ _ => Cert.Band4Ideal.Gen.frame m ρ
/-- So does the reference of dilation 4. -/
theorem frame_reference4 : Cert.quiescent_Band4RefIdeal := fun m ρ _ =>
  (θ_run Cert.Band4RefIdeal.defs _ _).mono (fun r h => ⟨fun c => (h c).2.2,
      Idealize.ShloMosaic.sem_eq_zero_of_no_sems (by decide) r.2⟩)
    (Cert.Band4RefIdeal.Value.run (F := Ideal) m ρ)
/-- No operation of dilation 4 was rewritten. -/
theorem preserves4 : Cert.preserves_Band4_Band4Ideal := trivial

/-- The kernel of dilation 16 leaves its arguments and its counters as they were. -/
theorem frame_kernel16 : Cert.quiescent_Band16 := fun m ρ _ => Cert.Band16.Gen.frame m ρ
/-- So does its idealisation. -/
theorem frame_ideal16 : Cert.quiescent_Band16Ideal := fun m ρ _ => Cert.Band16Ideal.Gen.frame m ρ
/-- So does the reference of dilation 16. -/
theorem frame_reference16 : Cert.quiescent_Band16RefIdeal := fun m ρ _ =>
  (θ_run Cert.Band16RefIdeal.defs _ _).mono (fun r h => ⟨fun c => (h c).2.2,
      Idealize.ShloMosaic.sem_eq_zero_of_no_sems (by decide) r.2⟩)
    (Cert.Band16RefIdeal.Value.run (F := Ideal) m ρ)
/-- No operation of dilation 16 was rewritten. -/
theorem preserves16 : Cert.preserves_Band16_Band16Ideal := trivial

end Cert.Layer.BandFrames

end
-- ==== Proof.Layer.BandMath.lean ====
/-
  One query's attention over a family of keys, as a plain function of extended reals: logits with a bias, their maximum, the
  exponentials, their sum, the weighted mean of the values and the log of the denominator. Keys whose bias is `⊥` weigh
  nothing, so that a family may be cut down to a window that holds every other key.
-/
module

public import Idealize.ShloMosaic.Lib.Pointwise
public import Idealize.ShloMosaic.PureOps.Ideal

@[expose] public section

noncomputable section

open Idealize.ShloMosaic

namespace Cert.Layer

section
variable {ι κ : Type} [Fintype ι] [Fintype κ]

/-- The largest of the logits. -/
def topLogit (s : ι → EReal) : EReal := Finset.univ.fold max (⊥ : EReal) s

/-- A key's weight: the exponential of its logit's distance to the largest. -/
def keyWeight (s : ι → EReal) (j : ι) : EReal := Ideal.exp (s j - topLogit s)

/-- The softmax denominator. -/
def rowDen (s : ι → EReal) : EReal := ∑ j, keyWeight s j

/-- The weighted mean of one lane of the values. -/
def rowOut (s v : ι → EReal) : EReal := Ideal.div (∑ j, keyWeight s j * v j) (rowDen s)

/-- The log of the denominator, the maximum put back. -/
def rowLse (s : ι → EReal) : EReal := topLogit s + Ideal.log (rowDen s)

/-- A query's logits: products with the keys plus the bias. -/
def rowLogits (q : Fin 64 → EReal) (k : ι → Fin 64 → EReal) (b : ι → EReal) (j : ι) : EReal := (∑ d : Fin 64, q d * k j d) + b j

theorem topLogit_eq_sup (s : ι → EReal) : topLogit s = Finset.univ.sup s := by
  unfold topLogit
  rfl

/-- The maximum over a family is the maximum over any window outside which the logits are `⊥`. -/
theorem topLogit_window (e : κ → ι) (s : ι → EReal) (h : ∀ j, j ∉ Set.range e → s j = ⊥) :
    topLogit s = topLogit (fun c => s (e c)) := by
  rw [topLogit_eq_sup, topLogit_eq_sup]
  apply le_antisymm
  · refine Finset.sup_le fun j _ => ?_
    by_cases hj : j ∈ Set.range e
    · obtain ⟨c, rfl⟩ := hj
      exact Finset.le_sup (f := fun c => s (e c)) (Finset.mem_univ c)
    · rw [h j hj]; exact bot_le
  · exact Finset.sup_le fun c _ => Finset.le_sup (Finset.mem_univ _)

/-- A logit of `⊥` weighs nothing. -/
theorem keyWeight_bot (s : ι → EReal) (j : ι) (h : s j = ⊥) : keyWeight s j = 0 := by
  unfold keyWeight
  rw [h, sub_eq_add_neg, EReal.bot_add, Ideal.exp_bot]

theorem keyWeight_window (e : κ → ι) (s : ι → EReal) (h : ∀ j, j ∉ Set.range e → s j = ⊥) (c : κ) :
    keyWeight s (e c) = keyWeight (fun c => s (e c)) c := by
  unfold keyWeight
  rw [topLogit_window e s h]

/-- A weighted sum over the family is the weighted sum over the window. -/
theorem sum_window (e : κ → ι) (he : Function.Injective e) (s v : ι → EReal) (h : ∀ j, j ∉ Set.range e → s j = ⊥) :
    ∑ j, keyWeight s j * v j = ∑ c, keyWeight (fun c => s (e c)) c * v (e c) := by
  refine (Fintype.sum_of_injective e he _ _ (fun j hj => ?_) (fun c => ?_)).symm
  · rw [keyWeight_bot s j (h j hj), zero_mul]
  · rw [keyWeight_window e s h]

/-- So is the denominator. -/
theorem rowDen_window (e : κ → ι) (he : Function.Injective e) (s : ι → EReal) (h : ∀ j, j ∉ Set.range e → s j = ⊥) :
    rowDen s = rowDen (fun c => s (e c)) := by
  refine (Fintype.sum_of_injective e he _ _ (fun j hj => ?_) (fun c => ?_)).symm
  · exact keyWeight_bot s j (h j hj)
  · rw [keyWeight_window e s h]

/-- The weighted mean over the family is the one over the window. -/
theorem rowOut_window (e : κ → ι) (he : Function.Injective e) (s v : ι → EReal) (h : ∀ j, j ∉ Set.range e → s j = ⊥) :
    rowOut s v = rowOut (fun c => s (e c)) (fun c => v (e c)) := by
  unfold rowOut
  rw [sum_window e he s v h, rowDen_window e he s h]

/-- And the log of the denominator. -/
theorem rowLse_window (e : κ → ι) (he : Function.Injective e) (s : ι → EReal) (h : ∀ j, j ∉ Set.range e → s j = ⊥) :
    rowLse s = rowLse (fun c => s (e c)) := by
  unfold rowLse
  rw [topLogit_window e s h, rowDen_window e he s h]

end

/-- A sum over 128 lanes of which the last 64 are zero is the sum over the first 64. -/
theorem sum_low (F : Fin 128 → EReal) (f : Fin 64 → EReal) (h : ∀ d : Fin 64, F ⟨d.val, by omega⟩ = f d)
    (h0 : ∀ l : Fin 128, ¬ l.val < 64 → F l = 0) : ∑ l, F l = ∑ d, f d := by
  refine (Fintype.sum_of_injective (fun d : Fin 64 => (⟨d.val, by omega⟩ : Fin 128)) (fun a b h => ?_) _ _ (fun l hl => ?_)
    (fun d => (h d).symm)).symm
  · exact Fin.ext (by simpa using h)
  · exact h0 l fun h => hl ⟨⟨l.val, h⟩, rfl⟩

/-- And of which the first 64 are zero, the sum over the last. -/
theorem sum_high (F : Fin 128 → EReal) (f : Fin 64 → EReal) (h : ∀ d : Fin 64, F ⟨64 + d.val, by omega⟩ = f d)
    (h0 : ∀ l : Fin 128, l.val < 64 → F l = 0) : ∑ l, F l = ∑ d, f d := by
  refine (Fintype.sum_of_injective (fun d : Fin 64 => (⟨64 + d.val, by omega⟩ : Fin 128)) (fun a b h => ?_) _ _ (fun l hl => ?_)
    (fun d => (h d).symm)).symm
  · exact Fin.ext (by simpa using h)
  · refine h0 l ?_
    by_contra h
    exact hl ⟨⟨l.val - 64, by omega⟩, Fin.ext (by simp; omega)⟩

/-- Where the window of 256 keys starts for the block of 128 queries at `i0`, in a sequence of `L`. -/
def winStart (L i0 : ℕ) : ℕ := min (i0 - 64) (L - 256)

/-- A rank-two array at naturals, zero out of range. -/
def at2 {n0 n1 : ℕ} (X : (⟨2, ![n0, n1]⟩ : Shape).Idx → EReal) (a b : ℕ) : EReal :=
  if h : a < n0 ∧ b < n1 then X (ix2 ⟨a, h.1⟩ ⟨b, h.2⟩) else 0

theorem at2_eq {n0 n1 : ℕ} (X : (⟨2, ![n0, n1]⟩ : Shape).Idx → EReal) (a : Fin n0) (b : Fin n1) :
    X (ix2 a b) = at2 X a.val b.val := by
  symm; exact dif_pos ⟨a.isLt, b.isLt⟩

/-- A rank-three array at naturals. -/
def at3 {n0 n1 n2 : ℕ} (X : (⟨3, ![n0, n1, n2]⟩ : Shape).Idx → EReal) (a b c : ℕ) : EReal :=
  if h : a < n0 ∧ b < n1 ∧ c < n2 then X (ix3 ⟨a, h.1⟩ ⟨b, h.2.1⟩ ⟨c, h.2.2⟩) else 0

theorem at3_eq {n0 n1 n2 : ℕ} (X : (⟨3, ![n0, n1, n2]⟩ : Shape).Idx → EReal) (a : Fin n0) (b : Fin n1) (c : Fin n2) :
    X (ix3 a b c) = at3 X a.val b.val c.val := by
  symm; exact dif_pos ⟨a.isLt, b.isLt, c.isLt⟩

/-- A rank-four array at naturals. -/
def at4 {n0 n1 n2 n3 : ℕ} (X : (⟨4, ![n0, n1, n2, n3]⟩ : Shape).Idx → EReal) (a b c d : ℕ) : EReal :=
  if h : a < n0 ∧ b < n1 ∧ c < n2 ∧ d < n3 then X (ix4 ⟨a, h.1⟩ ⟨b, h.2.1⟩ ⟨c, h.2.2.1⟩ ⟨d, h.2.2.2⟩) else 0

theorem at4_eq {n0 n1 n2 n3 : ℕ} (X : (⟨4, ![n0, n1, n2, n3]⟩ : Shape).Idx → EReal) (a : Fin n0) (b : Fin n1) (c : Fin n2)
    (d : Fin n3) : X (ix4 a b c d) = at4 X a.val b.val c.val d.val := by
  symm; exact dif_pos ⟨a.isLt, b.isLt, c.isLt, d.isLt⟩

/-- The logits of query `row` of a sequence `x` of `L` rows, over the window of the query's block. The head's queries and
    keys start at lanes `qo` and `ko`; `tab` holds the head's bias tables, by variant, query and key. -/
def blockLogits (L : ℕ) (x : ℕ → ℕ → EReal) (tab : ℕ → ℕ → ℕ → EReal) (qo ko row : ℕ) : Fin 256 → EReal :=
  rowLogits (fun d => x row (qo + d.val) * Ideal.ofBits .f32 0x3E000000#32)
    (fun c d => x (winStart L (row / 128 * 128) + c.val) (ko + d.val))
    (fun c => tab ((row / 128 * 128 - winStart L (row / 128 * 128)) / 64) (row % 128) c.val)

/-- The logits behind output lane `lane`: a sequence's 256 lanes come after those of the sequences before it, a head has 64 of
    them; in `x` a sequence has 768, queries before keys before values. -/
def laneLogits (L : ℕ) (x : ℕ → ℕ → EReal) (tab : ℕ → ℕ → ℕ → ℕ → EReal) (row lane : ℕ) : Fin 256 → EReal :=
  blockLogits L x (fun a => tab a (lane % 256 / 64)) (lane / 256 * 768 + lane % 256 / 64 * 64)
    (lane / 256 * 768 + 256 + lane % 256 / 64 * 64) row

/-- The attention output at a row and a lane. -/
def blockOut (L : ℕ) (x : ℕ → ℕ → EReal) (tab : ℕ → ℕ → ℕ → ℕ → EReal) (row lane : ℕ) : EReal :=
  rowOut (laneLogits L x tab row lane) (fun c => x (winStart L (row / 128 * 128) + c.val) (lane / 256 * 768 + 512 + lane % 256))

/-- The log of the denominator at a row and a lane. -/
def blockLse (L : ℕ) (x : ℕ → ℕ → EReal) (tab : ℕ → ℕ → ℕ → ℕ → EReal) (row lane : ℕ) : EReal :=
  rowLse (laneLogits L x tab row lane)

end Cert.Layer

end
-- ==== Proof.Layer.BandHead.lean ====
/-
  What the band kernel's body computes for one block of 128 queries and one pair of heads, from the five tiles it loads, read
  at a row and a lane: two rows of attention, one per head of the pair, side by side. The tiles' sizes are the same for every
  dilation, so the other dilations' bodies are read by the same lemmas.
-/
module

public import proofs.«01_k».proof.Proof.Gen.Band1Ideal.Skeleton
public import proofs.«01_k».proof.Proof.Layer.BandMath

@[expose] public section

set_option maxRecDepth 16384

noncomputable section

open Idealize.ShloMosaic Idealize.ShloMosaic.TcCoe

namespace Cert.Layer.Head

open Cert.Band1Ideal Cert.Band1Ideal.Gen Cert.Layer

variable (q : FVec Ideal S1x128x256 .bf16) (k v : FVec Ideal S1x256x256 .bf16)
variable (b b' : FVec Ideal S1x1x128x256 .f32)

/-- The products of the first pair's first head. -/
def dots0 : FVec Ideal S128x256 .f32 := k0_pay14 (F := Ideal) k0_pay1 (k0_pay2 q) (k0_pay3 k)
/-- Of its second head. -/
def dots1 : FVec Ideal S128x256 .f32 := k0_pay15 (F := Ideal) k0_pay1 (k0_pay2 q) (k0_pay3 k)
/-- Of the second pair's first head. -/
def dots2 : FVec Ideal S128x256 .f32 := k0_pay18 (F := Ideal) k0_pay1 (k0_pay3 k) (k0_pay16 (k0_pay2 q)) k0_pay17
/-- Of its second head. -/
def dots3 : FVec Ideal S128x256 .f32 := k0_pay19 (F := Ideal) k0_pay1 (k0_pay2 q) (k0_pay3 k)

/-- The logits of one query of one head, whose lanes start at `o`, from the tiles. -/
def tileLogits (o : ℕ) (ho : o ≤ 192) (r : Fin 128) : Fin 256 → EReal :=
  rowLogits (fun d => q (ix3 0 r ⟨o + d.val, by omega⟩) * Ideal.ofBits .f32 0x3E000000#32)
    (fun c d => k (ix3 0 c ⟨o + d.val, by omega⟩)) (fun c => b (ix4 0 0 r c))

/-- One eighth, in either width. -/
theorem scale_eq : Ideal.ofBits .bf16 0x3E00#16 = Ideal.ofBits .f32 0x3E000000#32 := by
  simp [Ideal.ofBits, Ideal.ieee, -EReal.coe_mul]
  norm_num

/-- The bits of minus infinity. -/
theorem neg_inf : Ideal.ofBits .f32 0xFF800000#32 = ⊥ := by
  simp [Ideal.ofBits, Ideal.ieee]

/-- A select on the lane masks as a case split on the lane. -/
theorem select_low {α : Type} (l : Fin 128) (x y : α) :
    Scalar.select (IntOp.cmpi CmpIPredicate.slt (BitVec.ofNat 32 l.val) 64#32) x y = if l.val < 64 then x else y := by
  have h : ∀ l : Fin 128, IntOp.cmpi CmpIPredicate.slt (BitVec.ofNat 32 l.val) 64#32 = if l.val < 64 then 1#1 else 0#1 := by
    decide +kernel
  rw [h l]
  by_cases hl : l.val < 64 <;> simp [hl, Scalar.select]

/-- And on the other mask. -/
theorem select_high {α : Type} (l : Fin 128) (x y : α) :
    Scalar.select (IntOp.xori (IntOp.cmpi CmpIPredicate.slt (BitVec.ofNat 32 l.val) 64#32) 1#1) x y
      = if l.val < 64 then y else x := by
  have h : ∀ l : Fin 128, IntOp.xori (IntOp.cmpi CmpIPredicate.slt (BitVec.ofNat 32 l.val) 64#32) 1#1
      = if l.val < 64 then 0#1 else 1#1 := by decide +kernel
  rw [h l]
  by_cases hl : l.val < 64 <;> simp [hl, Scalar.select]

/-- The first head's logits. -/
theorem logits0 (r : Fin 128) (c : Fin 256) :
    k0_pay41 (F := Ideal) (dots0 q k) b (ix2 r c) = tileLogits q k b 0 (by omega) r c := by
  pointwise [k0_pay41, dots0, k0_pay14, k0_pay1, k0_pay2, k0_pay3]
  unfold tileLogits rowLogits
  rw [← scale_eq]
  refine congrArg₂ (· + ·) ?_ rfl
  refine sum_low _ _ (fun d => ?_) (fun l hl => ?_)
  · rw [select_low, if_pos d.isLt]
    refine congrArg₂ (· * ·) (congrArg₂ (· * ·) (congrArg q (congrArg (ix3 0 r) (Fin.ext ?_))) rfl)
      (congrArg k (congrArg (ix3 0 c) (Fin.ext ?_)))
    all_goals first | rfl | (dsimp only; omega)
  · rw [select_low, if_neg hl]

/-- The second head's logits. -/
theorem logits1 (r : Fin 128) (c : Fin 256) :
    k0_pay41 (F := Ideal) (dots1 q k) b (ix2 r c) = tileLogits q k b 64 (by omega) r c := by
  pointwise [k0_pay41, dots1, k0_pay15, k0_pay1, k0_pay2, k0_pay3]
  unfold tileLogits rowLogits
  rw [← scale_eq]
  refine congrArg₂ (· + ·) ?_ rfl
  refine sum_high _ _ (fun d => ?_) (fun l hl => ?_)
  · rw [select_high, if_neg (by simp)]
  · rw [select_high, if_pos hl]

/-- The third head's logits. -/
theorem logits2 (r : Fin 128) (c : Fin 256) :
    k0_pay41 (F := Ideal) (dots2 q k) b (ix2 r c) = tileLogits q k b 128 (by omega) r c := by
  pointwise [k0_pay41, dots2, k0_pay18, k0_pay16, k0_pay17, k0_pay1, k0_pay2, k0_pay3]
  unfold tileLogits rowLogits
  rw [← scale_eq]
  refine congrArg₂ (· + ·) ?_ rfl
  refine sum_low _ _ (fun d => ?_) (fun l hl => ?_)
  · rw [select_low, if_pos d.isLt]
  · rw [select_low, if_neg hl]

/-- The fourth head's logits. -/
theorem logits3 (r : Fin 128) (c : Fin 256) :
    k0_pay41 (F := Ideal) (dots3 q k) b (ix2 r c) = tileLogits q k b 192 (by omega) r c := by
  pointwise [k0_pay41, dots3, k0_pay19, k0_pay1, k0_pay2, k0_pay3]
  unfold tileLogits rowLogits
  rw [← scale_eq]
  refine congrArg₂ (· + ·) ?_ rfl
  refine sum_high _ _ (fun d => ?_) (fun l hl => ?_)
  · rw [select_high, if_neg (by simp)]
    refine congrArg₂ (· * ·) (congrArg₂ (· * ·) (congrArg q (congrArg (ix3 0 r) (Fin.ext ?_))) rfl)
      (congrArg k (congrArg (ix3 0 c) (Fin.ext ?_)))
    all_goals first | rfl | (dsimp only; omega)
  · rw [select_high, if_pos hl]

/-- The maximum, the denominator and the weights of a head, from its logits along a row. -/
theorem softmax (s : FVec Ideal S128x256 .f32) (r : Fin 128) (S : Fin 256 → EReal)
    (h : ∀ c, k0_pay41 (F := Ideal) s b (ix2 r c) = S c) :
    k0_pay44 (F := Ideal) s b (ix2 r 0) = rowDen S ∧ k0_pay46 (F := Ideal) s b (ix2 r 0) = rowLse S
      ∧ ∀ c, k0_pay45 (F := Ideal) s b (ix2 r c) = keyWeight S c := by
  have h' : S = fun c => s (ix2 r c) + b (ix4 0 0 r c) := by
    funext c; rw [← h c]; pointwise [k0_pay41]
  subst h'
  refine ⟨?_, ?_, fun c => ?_⟩
  · pointwise [k0_pay44, k0_pay43, k0_pay42, k0_pay41]
    rw [neg_inf]; rfl
  · pointwise [k0_pay46, k0_pay44, k0_pay43, k0_pay42, k0_pay41]
    rw [neg_inf]; rfl
  · pointwise [k0_pay45, k0_pay43, k0_pay42, k0_pay41]
    rw [neg_inf]; rfl

/-- What the body stores of the first pair: the two heads' weighted means. -/
def outLow : FVec Ideal S1x128x128 .bf16 :=
  k0_pay149 (F := Ideal) k0_pay1 (k0_pay44 (dots0 q k) b) (k0_pay44 (dots1 q k) b')
    (k0_pay131 (k0_pay4 v) (k0_pay45 (dots0 q k) b)) (k0_pay131 (k0_pay4 v) (k0_pay45 (dots1 q k) b'))

/-- Of the second pair. -/
def outHigh : FVec Ideal S1x128x128 .bf16 :=
  k0_pay149 (F := Ideal) k0_pay1 (k0_pay44 (dots2 q k) b) (k0_pay44 (dots3 q k) b')
    (k0_pay135 (k0_pay4 v) (k0_pay45 (dots2 q k) b)) (k0_pay135 (k0_pay4 v) (k0_pay45 (dots3 q k) b'))

/-- One row of a pair's store: each lane is its head's weighted mean. -/
theorem outLow_apply (r l : Fin 128) :
    outLow q k v b b' (ix3 0 r l)
      = rowOut (if l.val < 64 then tileLogits q k b 0 (by omega) r else tileLogits q k b' 64 (by omega) r)
          (fun c => v (ix3 0 c ⟨l.val, by omega⟩)) := by
  obtain ⟨d0, -, w0⟩ := softmax b (dots0 q k) r _ (logits0 q k b r)
  obtain ⟨d1, -, w1⟩ := softmax b' (dots1 q k) r _ (logits1 q k b' r)
  unfold outLow
  pointwise [k0_pay149, k0_pay131, k0_pay4]
  simp only [d0, d1, w0, w1]
  pointwise [k0_pay1]
  rw [select_low]
  unfold rowOut
  by_cases hl : l.val < 64
  · rw [if_pos hl, if_pos hl]
  · rw [if_neg hl, if_neg hl]

/-- Likewise of the second pair. -/
theorem outHigh_apply (r l : Fin 128) :
    outHigh q k v b b' (ix3 0 r l)
      = rowOut (if l.val < 64 then tileLogits q k b 128 (by omega) r else tileLogits q k b' 192 (by omega) r)
          (fun c => v (ix3 0 c ⟨128 + l.val, by omega⟩)) := by
  obtain ⟨d0, -, w0⟩ := softmax b (dots2 q k) r _ (logits2 q k b r)
  obtain ⟨d1, -, w1⟩ := softmax b' (dots3 q k) r _ (logits3 q k b' r)
  unfold outHigh
  pointwise [k0_pay149, k0_pay135, k0_pay4]
  simp only [d0, d1, w0, w1]
  pointwise [k0_pay1]
  rw [select_low]
  unfold rowOut
  by_cases hl : l.val < 64
  · rw [if_pos hl, if_pos hl]
  · rw [if_neg hl, if_neg hl]

/-- The logs of the first pair's denominators, as the body stores them. -/
def lseLow : FVec Ideal S1x128x128 .f32 :=
  k0_pay152 (F := Ideal) k0_pay1 (k0_pay46 (dots0 q k) b) (k0_pay46 (dots1 q k) b')

/-- The second pair's. -/
def lseHigh : FVec Ideal S1x128x128 .f32 :=
  k0_pay152 (F := Ideal) k0_pay1 (k0_pay46 (dots2 q k) b) (k0_pay46 (dots3 q k) b')

/-- One row of them: each lane is its head's. -/
theorem lseLow_apply (r l : Fin 128) :
    lseLow q k b b' (ix3 0 r l)
      = rowLse (if l.val < 64 then tileLogits q k b 0 (by omega) r else tileLogits q k b' 64 (by omega) r) := by
  obtain ⟨-, d0, -⟩ := softmax b (dots0 q k) r _ (logits0 q k b r)
  obtain ⟨-, d1, -⟩ := softmax b' (dots1 q k) r _ (logits1 q k b' r)
  unfold lseLow
  pointwise [k0_pay152]
  simp only [d0, d1]
  pointwise [k0_pay1]
  rw [select_low]
  by_cases hl : l.val < 64
  · rw [if_pos hl, if_pos hl]
  · rw [if_neg hl, if_neg hl]

/-- Likewise of the second pair. -/
theorem lseHigh_apply (r l : Fin 128) :
    lseHigh q k b b' (ix3 0 r l)
      = rowLse (if l.val < 64 then tileLogits q k b 128 (by omega) r else tileLogits q k b' 192 (by omega) r) := by
  obtain ⟨-, d0, -⟩ := softmax b (dots2 q k) r _ (logits2 q k b r)
  obtain ⟨-, d1, -⟩ := softmax b' (dots3 q k) r _ (logits3 q k b' r)
  unfold lseHigh
  pointwise [k0_pay152]
  simp only [d0, d1]
  pointwise [k0_pay1]
  rw [select_low]
  by_cases hl : l.val < 64
  · rw [if_pos hl, if_pos hl]
  · rw [if_neg hl, if_neg hl]

/-- A head's logits from the tiles are its logits from the block the tiles are cut from. -/
theorem tileLogits_block (o h : ℕ) (ho : o ≤ 192) (hh : o = h * 64) (L : ℕ) (x : ℕ → ℕ → EReal) (tab : ℕ → ℕ → ℕ → ℕ → EReal) (i0 res : ℕ) (hi : i0 % 128 = 0)
    (hq : ∀ (r : Fin 128) (l : Fin 256), q (ix3 0 r l) = x (i0 + r.val) (res * 768 + l.val))
    (hk : ∀ (r : Fin 256) (l : Fin 256), k (ix3 0 r l) = x (winStart L i0 + r.val) (res * 768 + 256 + l.val))
    (hb : ∀ (r : Fin 128) (c : Fin 256), b (ix4 0 0 r c) = tab ((i0 - winStart L i0) / 64) h r.val c.val)
    (r : Fin 128) (lane : ℕ) (hl : lane / 256 = res) (hl' : lane % 256 / 64 = h) :
    tileLogits q k b o ho r = laneLogits L x tab (i0 + r.val) lane := by
  have h1 : (i0 + r.val) / 128 * 128 = i0 := by omega
  have h2 : (i0 + r.val) % 128 = r.val := by omega
  unfold tileLogits laneLogits blockLogits
  rw [h1, h2, hl, hl', ← hh]
  simp only [hq, hk, hb, Nat.add_assoc]

/-- The store of the first pair (weighted means), from the block. -/
theorem outLow_block (L : ℕ) (x : ℕ → ℕ → EReal) (tab : ℕ → ℕ → ℕ → ℕ → EReal) (i0 res : ℕ) (hi : i0 % 128 = 0)
    (hq : ∀ (r : Fin 128) (l : Fin 256), q (ix3 0 r l) = x (i0 + r.val) (res * 768 + l.val))
    (hk : ∀ (r : Fin 256) (l : Fin 256), k (ix3 0 r l) = x (winStart L i0 + r.val) (res * 768 + 256 + l.val))
    (hv : ∀ (r : Fin 256) (l : Fin 256), v (ix3 0 r l) = x (winStart L i0 + r.val) (res * 768 + 512 + l.val))
    (hb : ∀ (r : Fin 128) (c : Fin 256), b (ix4 0 0 r c) = tab ((i0 - winStart L i0) / 64) 0 r.val c.val)
    (hb' : ∀ (r : Fin 128) (c : Fin 256), b' (ix4 0 0 r c) = tab ((i0 - winStart L i0) / 64) 1 r.val c.val)
    (r l : Fin 128) : outLow q k v b b' (ix3 0 r l) = blockOut L x tab (i0 + r.val) (res * 256 + l.val) := by
  have h1 : (i0 + r.val) / 128 * 128 = i0 := by omega
  have h3 : (res * 256 + l.val) / 256 = res := by omega
  have h4 : (res * 256 + l.val) % 256 = l.val := by omega
  rw [outLow_apply]
  unfold blockOut
  rw [h1, h3, h4]
  simp only [hv]
  by_cases hl : l.val < 64
  · rw [if_pos hl, tileLogits_block q k b 0 0 (by omega) rfl L x tab i0 res hi hq hk hb r (res * 256 + l.val) h3 (by omega)]
  · rw [if_neg hl, tileLogits_block q k b' 64 1 (by omega) rfl L x tab i0 res hi hq hk hb' r (res * 256 + l.val) h3 (by omega)]

/-- The store of the second pair (weighted means), from the block. -/
theorem outHigh_block (L : ℕ) (x : ℕ → ℕ → EReal) (tab : ℕ → ℕ → ℕ → ℕ → EReal) (i0 res : ℕ) (hi : i0 % 128 = 0)
    (hq : ∀ (r : Fin 128) (l : Fin 256), q (ix3 0 r l) = x (i0 + r.val) (res * 768 + l.val))
    (hk : ∀ (r : Fin 256) (l : Fin 256), k (ix3 0 r l) = x (winStart L i0 + r.val) (res * 768 + 256 + l.val))
    (hv : ∀ (r : Fin 256) (l : Fin 256), v (ix3 0 r l) = x (winStart L i0 + r.val) (res * 768 + 512 + l.val))
    (hb : ∀ (r : Fin 128) (c : Fin 256), b (ix4 0 0 r c) = tab ((i0 - winStart L i0) / 64) 2 r.val c.val)
    (hb' : ∀ (r : Fin 128) (c : Fin 256), b' (ix4 0 0 r c) = tab ((i0 - winStart L i0) / 64) 3 r.val c.val)
    (r l : Fin 128) : outHigh q k v b b' (ix3 0 r l) = blockOut L x tab (i0 + r.val) (res * 256 + 128 + l.val) := by
  have h1 : (i0 + r.val) / 128 * 128 = i0 := by omega
  have h3 : (res * 256 + 128 + l.val) / 256 = res := by omega
  have h4 : (res * 256 + 128 + l.val) % 256 = 128 + l.val := by omega
  rw [outHigh_apply]
  unfold blockOut
  rw [h1, h3, h4]
  simp only [hv]
  by_cases hl : l.val < 64
  · rw [if_pos hl, tileLogits_block q k b 128 2 (by omega) rfl L x tab i0 res hi hq hk hb r (res * 256 + 128 + l.val) h3 (by omega)]
  · rw [if_neg hl, tileLogits_block q k b' 192 3 (by omega) rfl L x tab i0 res hi hq hk hb' r (res * 256 + 128 + l.val) h3 (by omega)]

/-- The store of the first pair (logs of denominators), from the block. -/
theorem lseLow_block (L : ℕ) (x : ℕ → ℕ → EReal) (tab : ℕ → ℕ → ℕ → ℕ → EReal) (i0 res : ℕ) (hi : i0 % 128 = 0)
    (hq : ∀ (r : Fin 128) (l : Fin 256), q (ix3 0 r l) = x (i0 + r.val) (res * 768 + l.val))
    (hk : ∀ (r : Fin 256) (l : Fin 256), k (ix3 0 r l) = x (winStart L i0 + r.val) (res * 768 + 256 + l.val))
    (hb : ∀ (r : Fin 128) (c : Fin 256), b (ix4 0 0 r c) = tab ((i0 - winStart L i0) / 64) 0 r.val c.val)
    (hb' : ∀ (r : Fin 128) (c : Fin 256), b' (ix4 0 0 r c) = tab ((i0 - winStart L i0) / 64) 1 r.val c.val)
    (r l : Fin 128) : lseLow q k b b' (ix3 0 r l) = blockLse L x tab (i0 + r.val) (res * 256 + l.val) := by
  have h1 : (i0 + r.val) / 128 * 128 = i0 := by omega
  have h3 : (res * 256 + l.val) / 256 = res := by omega
  have h4 : (res * 256 + l.val) % 256 = l.val := by omega
  rw [lseLow_apply]
  unfold blockLse
  by_cases hl : l.val < 64
  · rw [if_pos hl, tileLogits_block q k b 0 0 (by omega) rfl L x tab i0 res hi hq hk hb r (res * 256 + l.val) h3 (by omega)]
  · rw [if_neg hl, tileLogits_block q k b' 64 1 (by omega) rfl L x tab i0 res hi hq hk hb' r (res * 256 + l.val) h3 (by omega)]

/-- The store of the second pair (logs of denominators), from the block. -/
theorem lseHigh_block (L : ℕ) (x : ℕ → ℕ → EReal) (tab : ℕ → ℕ → ℕ → ℕ → EReal) (i0 res : ℕ) (hi : i0 % 128 = 0)
    (hq : ∀ (r : Fin 128) (l : Fin 256), q (ix3 0 r l) = x (i0 + r.val) (res * 768 + l.val))
    (hk : ∀ (r : Fin 256) (l : Fin 256), k (ix3 0 r l) = x (winStart L i0 + r.val) (res * 768 + 256 + l.val))
    (hb : ∀ (r : Fin 128) (c : Fin 256), b (ix4 0 0 r c) = tab ((i0 - winStart L i0) / 64) 2 r.val c.val)
    (hb' : ∀ (r : Fin 128) (c : Fin 256), b' (ix4 0 0 r c) = tab ((i0 - winStart L i0) / 64) 3 r.val c.val)
    (r l : Fin 128) : lseHigh q k b b' (ix3 0 r l) = blockLse L x tab (i0 + r.val) (res * 256 + 128 + l.val) := by
  have h1 : (i0 + r.val) / 128 * 128 = i0 := by omega
  have h3 : (res * 256 + 128 + l.val) / 256 = res := by omega
  have h4 : (res * 256 + 128 + l.val) % 256 = 128 + l.val := by omega
  rw [lseHigh_apply]
  unfold blockLse
  by_cases hl : l.val < 64
  · rw [if_pos hl, tileLogits_block q k b 128 2 (by omega) rfl L x tab i0 res hi hq hk hb r (res * 256 + 128 + l.val) h3 (by omega)]
  · rw [if_neg hl, tileLogits_block q k b' 192 3 (by omega) rfl L x tab i0 res hi hq hk hb' r (res * 256 + 128 + l.val) h3 (by omega)]

end Cert.Layer.Head

end
-- ==== Proof.Layer.BandLoad.lean ====
/-
  Loads of a tile out of a block held whole, and stores of a tile into one, read at naturals: the tile's entry is the block's
  at the tile's offsets.
-/
module

public import proofs.«01_k».proof.Proof.Layer.BandMath
public import Idealize.ShloMosaic.Lib.WholeRead
public import Idealize.ShloMosaic.Lib.Pipeline.ReadBack

@[expose] public section

noncomputable section

open Idealize.ShloMosaic

namespace Cert.Layer

theorem at3_of {n0 n1 n2 : ℕ} (X : (⟨3, ![n0, n1, n2]⟩ : Shape).Idx → EReal) (i : (⟨3, ![n0, n1, n2]⟩ : Shape).Idx) (a b c : ℕ)
    (ha : (i 0).val = a) (hb : (i 1).val = b) (hc : (i 2).val = c) : X i = at3 X a b c := by
  subst ha hb hc
  exact (congrArg X (by funext j; fin_cases j <;> rfl)).trans (at3_eq X (i 0) (i 1) (i 2))

theorem at4_of {n0 n1 n2 n3 : ℕ} (X : (⟨4, ![n0, n1, n2, n3]⟩ : Shape).Idx → EReal) (i : (⟨4, ![n0, n1, n2, n3]⟩ : Shape).Idx)
    (a b c d : ℕ) (ha : (i 0).val = a) (hb : (i 1).val = b) (hc : (i 2).val = c) (hd : (i 3).val = d) : X i = at4 X a b c d := by
  subst ha hb hc hd
  exact (congrArg X (by funext j; fin_cases j <;> rfl)).trans (at4_eq X (i 0) (i 1) (i 2) (i 3))

/-- A tile of a rank-three block. -/
theorem load3 {sig : RefSig} {κ : Kind} {sp : Space} {n1 n2 e1 e2 : ℕ} (m : Memref sig κ sp (⟨3, ![1, n1, n2]⟩ : Shape) .bf16)
    (h : m.IsWhole) (X : FVec Ideal (⟨3, ![1, n1, n2]⟩ : Shape) .bf16) (off : Fin 3 → ℕ) (o1 o2 : ℕ) (ho : off = ![0, o1, o2])
    (inb : ∀ a, off a + (![1, e1, e2] : Fin 3 → ℕ) a ≤ (⟨3, ![1, n1, n2]⟩ : Shape).size a) (a : Fin e1) (l : Fin e2) :
    View.readAt (Elt Ideal) m.view (Rect.unit (s := (⟨3, ![1, n1, n2]⟩ : Shape)) off ![1, e1, e2] inb).toLoadRect (h.unread X) (ix3 0 a l)
      = at3 (n0 := 1) (n1 := n1) (n2 := n2) X 0 (o1 + a.val) (o2 + l.val) := by
  subst ho
  refine (Memref.IsWhole.readAt_unread (Val := Elt Ideal) h X _ _).trans ?_
  refine at3_of (n0 := 1) (n1 := n1) (n2 := n2) X _ _ _ _ ?_ ?_ ?_
  · rfl
  · show o1 + 1 * a.val = _
    omega
  · show o2 + 1 * l.val = _
    omega

/-- A tile of a rank-four block, one entry on its first two axes. -/
theorem load4 {sig : RefSig} {κ : Kind} {sp : Space} {n0 n1 n2 n3 e2 e3 : ℕ} (m : Memref sig κ sp (⟨4, ![n0, n1, n2, n3]⟩ : Shape) .f32)
    (h : m.IsWhole) (X : FVec Ideal (⟨4, ![n0, n1, n2, n3]⟩ : Shape) .f32) (off : Fin 4 → ℕ) (o0 o1 : ℕ) (ho : off = ![o0, o1, 0, 0])
    (inb : ∀ a, off a + (![1, 1, e2, e3] : Fin 4 → ℕ) a ≤ (⟨4, ![n0, n1, n2, n3]⟩ : Shape).size a) (a : Fin e2) (l : Fin e3) :
    View.readAt (Elt Ideal) m.view (Rect.unit (s := (⟨4, ![n0, n1, n2, n3]⟩ : Shape)) off ![1, 1, e2, e3] inb).toLoadRect (h.unread X)
        (ix4 0 0 a l)
      = at4 (n0 := n0) (n1 := n1) (n2 := n2) (n3 := n3) X o0 o1 a.val l.val := by
  subst ho
  refine (Memref.IsWhole.readAt_unread (Val := Elt Ideal) h X _ _).trans ?_
  refine at4_of (n0 := n0) (n1 := n1) (n2 := n2) (n3 := n3) X _ _ _ _ _ ?_ ?_ ?_ ?_
  · rfl
  · rfl
  · show 0 + 1 * a.val = _
    omega
  · show 0 + 1 * l.val = _
    omega

/-- Where a stored tile's entry lies in a rank-three block: its row, -/
theorem emb_row {n1 n2 e1 e2 : ℕ} (off : Fin 3 → ℕ) (o1 o2 : ℕ) (ho : off = ![0, o1, o2])
    (inb : ∀ a, off a + (![1, e1, e2] : Fin 3 → ℕ) a ≤ (⟨3, ![1, n1, n2]⟩ : Shape).size a) (a : Fin e1) (l : Fin e2) :
    o1 + a.val = ((Rect.unit (s := (⟨3, ![1, n1, n2]⟩ : Shape)) off ![1, e1, e2] inb).emb (ix3 0 a l) 1).val := by
  subst ho
  show _ = o1 + (1 * a.val)
  omega

/-- and its lane. -/
theorem emb_lane {n1 n2 e1 e2 : ℕ} (off : Fin 3 → ℕ) (o1 o2 : ℕ) (ho : off = ![0, o1, o2])
    (inb : ∀ a, off a + (![1, e1, e2] : Fin 3 → ℕ) a ≤ (⟨3, ![1, n1, n2]⟩ : Shape).size a) (a : Fin e1) (l : Fin e2) :
    o2 + l.val = ((Rect.unit (s := (⟨3, ![1, n1, n2]⟩ : Shape)) off ![1, e1, e2] inb).emb (ix3 0 a l) 2).val := by
  subst ho
  show _ = o2 + (1 * l.val)
  omega

/-- Two lists of stores of one array are one such list. -/
theorem piecesOf_append {Val : EltTy → Type} {s : Shape} {e : EltTy} (G : s.Idx → Val e) :
    ∀ (L L' : List (View.Piece Val s e)), View.PiecesOf G L → View.PiecesOf G L' → View.PiecesOf G (L ++ L')
  | [], _, _, h' => h'
  | _ :: L, L', h, h' => ⟨h.1, piecesOf_append G L L' h.2 h'⟩

end Cert.Layer

end
-- ==== Proof.Layer.Band1Block.lean ====
/-
  What the block of dilation 1 leaves in its two outputs: every stored tile of every trip is the windowed softmax of the block's own rows, so the
  outputs are, whole, that function of the block loaded.
-/
module

public import proofs.«01_k».proof.Proof.Gen.Band1Ideal.Value
public import proofs.«01_k».proof.Proof.Layer.BandHead
public import proofs.«01_k».proof.Proof.Layer.BandLoad
public import Idealize.ShloMosaic.Lib.Writes

@[expose] public section

set_option maxRecDepth 65536

noncomputable section

open Idealize.ShloMosaic Idealize.ShloMosaic.TcCoe Idealize.SL.Sem
open Idealize.ShloMosaic.Pipeline (Dat)

namespace Cert.Layer.Band1Block

open Cert.Band1Ideal Cert.Band1Ideal.Gen Cert.Layer Cert.Layer.Head

/-- Where block `r`'s tiles start in trip `k`: queries, keys and values, the heads' bias tables, and the stores. -/
theorem offs : ∀ (k : Fin k0_t1_loop.trips) (r : Fin 4),
    k0_off1 k (BitVec.ofNat 32 (128 * r.val)) = ![0, 512 * k.val + 128 * r.val, 0 * 768]
    ∧ k0_off2 k (BitVec.ofNat 32 (128 * r.val)) = ![0, winStart 4096 (512 * k.val + 128 * r.val), 0 * 768 + 256]
    ∧ k0_off3 k (BitVec.ofNat 32 (128 * r.val)) = ![0, winStart 4096 (512 * k.val + 128 * r.val), 0 * 768 + 512]
    ∧ k0_off4 k (BitVec.ofNat 32 (128 * r.val)) = ![((512 * k.val + 128 * r.val) - winStart 4096 (512 * k.val + 128 * r.val)) / 64, 0, 0, 0]
    ∧ k0_off5 k (BitVec.ofNat 32 (128 * r.val)) = ![((512 * k.val + 128 * r.val) - winStart 4096 (512 * k.val + 128 * r.val)) / 64, 1, 0, 0]
    ∧ k0_off6 k (BitVec.ofNat 32 (128 * r.val)) = ![((512 * k.val + 128 * r.val) - winStart 4096 (512 * k.val + 128 * r.val)) / 64, 2, 0, 0]
    ∧ k0_off7 k (BitVec.ofNat 32 (128 * r.val)) = ![((512 * k.val + 128 * r.val) - winStart 4096 (512 * k.val + 128 * r.val)) / 64, 3, 0, 0]
    ∧ k0_off8 k (BitVec.ofNat 32 (128 * r.val)) = ![0, 512 * k.val + 128 * r.val, (0 * 256)]
    ∧ k0_off9 k (BitVec.ofNat 32 (128 * r.val)) = ![0, 512 * k.val + 128 * r.val, (0 * 256 + 128)] := by decide +kernel

section

variable (arg2 : Memref sig .tc .vmem S1x4096x768 .bf16) (harg2 : arg2.IsWhole) (arg3 : Memref sig .tc .vmem S3x4x128x256 .f32) (harg3 : arg3.IsWhole)
variable (x0 : FVec Ideal S1x4096x768 .bf16) (x1 : FVec Ideal S3x4x128x256 .f32) (k : Fin k0_t1_loop.trips) (r : Fin 4)

/-- The tiles block `r` loads: queries, keys and values, -/
def qT0 : FVec Ideal S1x128x256 .bf16 := View.readAt (Elt Ideal) arg2.view (Rect.unit (s := S1x4096x768) (k0_off1 k (BitVec.ofNat 32 (128 * r.val))) S1x128x256.size (k0_off1_inb k r)).toLoadRect (harg2.unread x0)
def kT0 : FVec Ideal S1x256x256 .bf16 := View.readAt (Elt Ideal) arg2.view (Rect.unit (s := S1x4096x768) (k0_off2 k (BitVec.ofNat 32 (128 * r.val))) S1x256x256.size (k0_off2_inb k r)).toLoadRect (harg2.unread x0)
def vT0 : FVec Ideal S1x256x256 .bf16 := View.readAt (Elt Ideal) arg2.view (Rect.unit (s := S1x4096x768) (k0_off3 k (BitVec.ofNat 32 (128 * r.val))) S1x256x256.size (k0_off3_inb k r)).toLoadRect (harg2.unread x0)
/-- and the four heads' bias tables. -/
def bT0 : FVec Ideal S1x1x128x256 .f32 := View.readAt (Elt Ideal) arg3.view (Rect.unit (s := S3x4x128x256) (k0_off4 k (BitVec.ofNat 32 (128 * r.val))) S1x1x128x256.size (k0_off4_inb k r)).toLoadRect (harg3.unread x1)
def bT1 : FVec Ideal S1x1x128x256 .f32 := View.readAt (Elt Ideal) arg3.view (Rect.unit (s := S3x4x128x256) (k0_off5 k (BitVec.ofNat 32 (128 * r.val))) S1x1x128x256.size (k0_off5_inb k r)).toLoadRect (harg3.unread x1)
def bT2 : FVec Ideal S1x1x128x256 .f32 := View.readAt (Elt Ideal) arg3.view (Rect.unit (s := S3x4x128x256) (k0_off6 k (BitVec.ofNat 32 (128 * r.val))) S1x1x128x256.size (k0_off6_inb k r)).toLoadRect (harg3.unread x1)
def bT3 : FVec Ideal S1x1x128x256 .f32 := View.readAt (Elt Ideal) arg3.view (Rect.unit (s := S3x4x128x256) (k0_off7 k (BitVec.ofNat 32 (128 * r.val))) S1x1x128x256.size (k0_off7_inb k r)).toLoadRect (harg3.unread x1)
theorem qT0_apply (a : Fin 128) (l : Fin 256) : qT0 arg2 harg2 x0 k r (ix3 0 a l) = at3 x0 0 (512 * k.val + 128 * r.val + a.val) (0 * 768 + l.val) :=
  load3 arg2 harg2 x0 _ (512 * k.val + 128 * r.val) (0 * 768) (offs k r).1 _ a l

theorem kT0_apply (a : Fin 256) (l : Fin 256) : kT0 arg2 harg2 x0 k r (ix3 0 a l) = at3 x0 0 (winStart 4096 (512 * k.val + 128 * r.val) + a.val) (0 * 768 + 256 + l.val) :=
  load3 arg2 harg2 x0 _ (winStart 4096 (512 * k.val + 128 * r.val)) (0 * 768 + 256) (offs k r).2.1 _ a l

theorem vT0_apply (a : Fin 256) (l : Fin 256) : vT0 arg2 harg2 x0 k r (ix3 0 a l) = at3 x0 0 (winStart 4096 (512 * k.val + 128 * r.val) + a.val) (0 * 768 + 512 + l.val) :=
  load3 arg2 harg2 x0 _ (winStart 4096 (512 * k.val + 128 * r.val)) (0 * 768 + 512) (offs k r).2.2.1 _ a l

theorem bT0_apply (a : Fin 128) (l : Fin 256) : bT0 arg3 harg3 x1 k r (ix4 0 0 a l) = at4 x1 (((512 * k.val + 128 * r.val) - winStart 4096 (512 * k.val + 128 * r.val)) / 64) 0 a.val l.val :=
  load4 arg3 harg3 x1 _ (((512 * k.val + 128 * r.val) - winStart 4096 (512 * k.val + 128 * r.val)) / 64) 0 (offs k r).2.2.2.1 _ a l

theorem bT1_apply (a : Fin 128) (l : Fin 256) : bT1 arg3 harg3 x1 k r (ix4 0 0 a l) = at4 x1 (((512 * k.val + 128 * r.val) - winStart 4096 (512 * k.val + 128 * r.val)) / 64) 1 a.val l.val :=
  load4 arg3 harg3 x1 _ (((512 * k.val + 128 * r.val) - winStart 4096 (512 * k.val + 128 * r.val)) / 64) 1 (offs k r).2.2.2.2.1 _ a l

theorem bT2_apply (a : Fin 128) (l : Fin 256) : bT2 arg3 harg3 x1 k r (ix4 0 0 a l) = at4 x1 (((512 * k.val + 128 * r.val) - winStart 4096 (512 * k.val + 128 * r.val)) / 64) 2 a.val l.val :=
  load4 arg3 harg3 x1 _ (((512 * k.val + 128 * r.val) - winStart 4096 (512 * k.val + 128 * r.val)) / 64) 2 (offs k r).2.2.2.2.2.1 _ a l

theorem bT3_apply (a : Fin 128) (l : Fin 256) : bT3 arg3 harg3 x1 k r (ix4 0 0 a l) = at4 x1 (((512 * k.val + 128 * r.val) - winStart 4096 (512 * k.val + 128 * r.val)) / 64) 3 a.val l.val :=
  load4 arg3 harg3 x1 _ (((512 * k.val + 128 * r.val) - winStart 4096 (512 * k.val + 128 * r.val)) / 64) 3 (offs k r).2.2.2.2.2.2.1 _ a l

/-- The outputs of the first two heads, where they are stored. -/
theorem outLow0 (z : S1x128x128.Idx) : outLow (qT0 arg2 harg2 x0 k r) (kT0 arg2 harg2 x0 k r) (vT0 arg2 harg2 x0 k r) (bT0 arg3 harg3 x1 k r) (bT1 arg3 harg3 x1 k r) z
    = blockOut 4096 (at3 x0 0) (at4 x1) ((Rect.unit (s := S1x4096x256) (k0_off8 k (BitVec.ofNat 32 (128 * r.val))) S1x128x128.size (k0_off8_inb k r)).emb z 1).val
        ((Rect.unit (s := S1x4096x256) (k0_off8 k (BitVec.ofNat 32 (128 * r.val))) S1x128x128.size (k0_off8_inb k r)).emb z 2).val := by
  idx_vars z
  obtain rfl : z0 = 0 := Subsingleton.elim _ _
  refine (outLow_block (qT0 arg2 harg2 x0 k r) (kT0 arg2 harg2 x0 k r) (vT0 arg2 harg2 x0 k r) (bT0 arg3 harg3 x1 k r) (bT1 arg3 harg3 x1 k r) 4096 (at3 x0 0) (at4 x1) (512 * k.val + 128 * r.val) 0 (by omega)
      (qT0_apply arg2 harg2 x0 k r)
      (kT0_apply arg2 harg2 x0 k r)
      (vT0_apply arg2 harg2 x0 k r)
      (bT0_apply arg3 harg3 x1 k r)
      (bT1_apply arg3 harg3 x1 k r) z1 z2).trans ?_
  exact congrArg₂ (blockOut 4096 (at3 x0 0) (at4 x1)) (emb_row _ (512 * k.val + 128 * r.val) (0 * 256) (offs k r).2.2.2.2.2.2.2.1 _ z1 z2)
    (emb_lane _ (512 * k.val + 128 * r.val) (0 * 256) (offs k r).2.2.2.2.2.2.2.1 _ z1 z2)

/-- The logs of the denominators of the first two heads, where they are stored. -/
theorem lseLow0 (z : S1x128x128.Idx) : lseLow (qT0 arg2 harg2 x0 k r) (kT0 arg2 harg2 x0 k r) (bT0 arg3 harg3 x1 k r) (bT1 arg3 harg3 x1 k r) z
    = blockLse 4096 (at3 x0 0) (at4 x1) ((Rect.unit (s := S1x4096x256) (k0_off8 k (BitVec.ofNat 32 (128 * r.val))) S1x128x128.size (k0_off8_inb k r)).emb z 1).val
        ((Rect.unit (s := S1x4096x256) (k0_off8 k (BitVec.ofNat 32 (128 * r.val))) S1x128x128.size (k0_off8_inb k r)).emb z 2).val := by
  idx_vars z
  obtain rfl : z0 = 0 := Subsingleton.elim _ _
  refine (lseLow_block (qT0 arg2 harg2 x0 k r) (kT0 arg2 harg2 x0 k r) (bT0 arg3 harg3 x1 k r) (bT1 arg3 harg3 x1 k r) 4096 (at3 x0 0) (at4 x1) (512 * k.val + 128 * r.val) 0 (by omega)
      (qT0_apply arg2 harg2 x0 k r)
      (kT0_apply arg2 harg2 x0 k r)
      (bT0_apply arg3 harg3 x1 k r)
      (bT1_apply arg3 harg3 x1 k r) z1 z2).trans ?_
  exact congrArg₂ (blockLse 4096 (at3 x0 0) (at4 x1)) (emb_row _ (512 * k.val + 128 * r.val) (0 * 256) (offs k r).2.2.2.2.2.2.2.1 _ z1 z2)
    (emb_lane _ (512 * k.val + 128 * r.val) (0 * 256) (offs k r).2.2.2.2.2.2.2.1 _ z1 z2)

/-- The outputs of the last two heads, where they are stored. -/
theorem outHigh0 (z : S1x128x128.Idx) : outHigh (qT0 arg2 harg2 x0 k r) (kT0 arg2 harg2 x0 k r) (vT0 arg2 harg2 x0 k r) (bT2 arg3 harg3 x1 k r) (bT3 arg3 harg3 x1 k r) z
    = blockOut 4096 (at3 x0 0) (at4 x1) ((Rect.unit (s := S1x4096x256) (k0_off9 k (BitVec.ofNat 32 (128 * r.val))) S1x128x128.size (k0_off9_inb k r)).emb z 1).val
        ((Rect.unit (s := S1x4096x256) (k0_off9 k (BitVec.ofNat 32 (128 * r.val))) S1x128x128.size (k0_off9_inb k r)).emb z 2).val := by
  idx_vars z
  obtain rfl : z0 = 0 := Subsingleton.elim _ _
  refine (outHigh_block (qT0 arg2 harg2 x0 k r) (kT0 arg2 harg2 x0 k r) (vT0 arg2 harg2 x0 k r) (bT2 arg3 harg3 x1 k r) (bT3 arg3 harg3 x1 k r) 4096 (at3 x0 0) (at4 x1) (512 * k.val + 128 * r.val) 0 (by omega)
      (qT0_apply arg2 harg2 x0 k r)
      (kT0_apply arg2 harg2 x0 k r)
      (vT0_apply arg2 harg2 x0 k r)
      (bT2_apply arg3 harg3 x1 k r)
      (bT3_apply arg3 harg3 x1 k r) z1 z2).trans ?_
  exact congrArg₂ (blockOut 4096 (at3 x0 0) (at4 x1)) (emb_row _ (512 * k.val + 128 * r.val) (0 * 256 + 128) (offs k r).2.2.2.2.2.2.2.2 _ z1 z2)
    (emb_lane _ (512 * k.val + 128 * r.val) (0 * 256 + 128) (offs k r).2.2.2.2.2.2.2.2 _ z1 z2)

/-- The logs of the denominators of the last two heads, where they are stored. -/
theorem lseHigh0 (z : S1x128x128.Idx) : lseHigh (qT0 arg2 harg2 x0 k r) (kT0 arg2 harg2 x0 k r) (bT2 arg3 harg3 x1 k r) (bT3 arg3 harg3 x1 k r) z
    = blockLse 4096 (at3 x0 0) (at4 x1) ((Rect.unit (s := S1x4096x256) (k0_off9 k (BitVec.ofNat 32 (128 * r.val))) S1x128x128.size (k0_off9_inb k r)).emb z 1).val
        ((Rect.unit (s := S1x4096x256) (k0_off9 k (BitVec.ofNat 32 (128 * r.val))) S1x128x128.size (k0_off9_inb k r)).emb z 2).val := by
  idx_vars z
  obtain rfl : z0 = 0 := Subsingleton.elim _ _
  refine (lseHigh_block (qT0 arg2 harg2 x0 k r) (kT0 arg2 harg2 x0 k r) (bT2 arg3 harg3 x1 k r) (bT3 arg3 harg3 x1 k r) 4096 (at3 x0 0) (at4 x1) (512 * k.val + 128 * r.val) 0 (by omega)
      (qT0_apply arg2 harg2 x0 k r)
      (kT0_apply arg2 harg2 x0 k r)
      (bT2_apply arg3 harg3 x1 k r)
      (bT3_apply arg3 harg3 x1 k r) z1 z2).trans ?_
  exact congrArg₂ (blockLse 4096 (at3 x0 0) (at4 x1)) (emb_row _ (512 * k.val + 128 * r.val) (0 * 256 + 128) (offs k r).2.2.2.2.2.2.2.2 _ z1 z2)
    (emb_lane _ (512 * k.val + 128 * r.val) (0 * 256 + 128) (offs k r).2.2.2.2.2.2.2.2 _ z1 z2)

end

/-- The outputs as one array over the block. -/
def outG (x0 : FVec Ideal S1x4096x768 .bf16) (x1 : FVec Ideal S3x4x128x256 .f32) : FVec Ideal S1x4096x256 .bf16 :=
  fun y => blockOut 4096 (at3 x0 0) (at4 x1) (y 1).val (y 2).val

/-- The output tiles one trip stores. -/
theorem out_trip (𝒱 : Variants) (c : Dev nD) (bd : Option 𝒱.V) (i : grid0.Coords) (arg2 : Memref sig .tc .vmem S1x4096x768 .bf16) (harg2 : arg2.IsWhole) (arg3 : Memref sig .tc .vmem S3x4x128x256 .f32) (harg3 : arg3.IsWhole)
    (arg4 : Memref sig .tc .vmem S1x4096x256 .bf16) (harg4 : arg4.IsWhole) (arg5 : Memref sig .tc .vmem S1x4096x256 .f32) (harg5 : arg5.IsWhole)
    (x0 : FVec Ideal S1x4096x768 .bf16) (x1 : FVec Ideal S3x4x128x256 .f32) (k : Fin k0_t1_loop.trips) :
    View.PiecesOf (outG x0 x1)
      (trip_k0_t1 (F := Ideal) 𝒱 c bd i arg2 harg2 arg3 harg3 arg4 harg4 arg5 harg5 (harg2.unread x0) (harg3.unread x1) k).1 := by
  unfold trip_k0_t1
  dsimp only
  exact ⟨fun z => outHigh0 arg2 harg2 arg3 harg3 x0 x1 k 3 z,
    fun z => outLow0 arg2 harg2 arg3 harg3 x0 x1 k 3 z,
    fun z => outHigh0 arg2 harg2 arg3 harg3 x0 x1 k 2 z,
    fun z => outLow0 arg2 harg2 arg3 harg3 x0 x1 k 2 z,
    fun z => outHigh0 arg2 harg2 arg3 harg3 x0 x1 k 1 z,
    fun z => outLow0 arg2 harg2 arg3 harg3 x0 x1 k 1 z,
    fun z => outHigh0 arg2 harg2 arg3 harg3 x0 x1 k 0 z,
    fun z => outLow0 arg2 harg2 arg3 harg3 x0 x1 k 0 z, trivial⟩

/-- The output tiles the first `n` trips store. -/
theorem out_trips (c : Dev nD) (i : grid0.Coords) (arg2 : Memref sig .tc .vmem S1x4096x768 .bf16) (harg2 : arg2.IsWhole) (arg3 : Memref sig .tc .vmem S3x4x128x256 .f32) (harg3 : arg3.IsWhole)
    (arg4 : Memref sig .tc .vmem S1x4096x256 .bf16) (harg4 : arg4.IsWhole) (arg5 : Memref sig .tc .vmem S1x4096x256 .f32) (harg5 : arg5.IsWhole)
    (x0 : FVec Ideal S1x4096x768 .bf16) (x1 : FVec Ideal S3x4x128x256 .f32) : ∀ (n : ℕ) (hn : n ≤ k0_t1_loop.trips),
    View.PiecesOf (outG x0 x1)
      (pb_k0_t1 (F := Ideal) Variants.none c none i arg2 harg2 arg3 harg3 arg4 harg4 arg5 harg5 (harg2.unread x0) (harg3.unread x1) n).1
  | 0, _ => trivial
  | n + 1, hn => by
    have h := pb_k0_t1_succ (F := Ideal) Variants.none c none i arg2 harg2 arg3 harg3 arg4 harg4 arg5 harg5 (harg2.unread x0) (harg3.unread x1) ⟨n, hn⟩
    rw [show n + 1 = (⟨n, hn⟩ : Fin k0_t1_loop.trips).val + 1 from rfl, h]
    exact piecesOf_append _ _ _ (out_trip _ c _ i arg2 harg2 arg3 harg3 arg4 harg4 arg5 harg5 x0 x1 ⟨n, hn⟩) (out_trips c i arg2 harg2 arg3 harg3 arg4 harg4 arg5 harg5 x0 x1 n (Nat.le_of_succ_le hn))

/-- The output tiles the body stores. -/
theorem out_body (c : Dev nD) (i : grid0.Coords) (arg2 : Memref sig .tc .vmem S1x4096x768 .bf16) (harg2 : arg2.IsWhole) (arg3 : Memref sig .tc .vmem S3x4x128x256 .f32) (harg3 : arg3.IsWhole)
    (arg4 : Memref sig .tc .vmem S1x4096x256 .bf16) (harg4 : arg4.IsWhole) (arg5 : Memref sig .tc .vmem S1x4096x256 .f32) (harg5 : arg5.IsWhole)
    (x0 : FVec Ideal S1x4096x768 .bf16) (x1 : FVec Ideal S3x4x128x256 .f32) :
    View.PiecesOf (outG x0 x1)
      (kernelRun0_A (F := Ideal) c i arg2 harg2 arg3 harg3 arg4 harg4 arg5 harg5 x0 x1).1 := by
  unfold kernelRun0_A
  dsimp only
  exact out_trips c i arg2 harg2 arg3 harg3 arg4 harg4 arg5 harg5 x0 x1 _ k0_t1_abs.2.1

/-- The output block, whole. -/
theorem out_eq (c : Dev nD) (i : grid0.Coords) (arg2 : Memref sig .tc .vmem S1x4096x768 .bf16) (harg2 : arg2.IsWhole) (arg3 : Memref sig .tc .vmem S3x4x128x256 .f32) (harg3 : arg3.IsWhole)
    (arg4 : Memref sig .tc .vmem S1x4096x256 .bf16) (harg4 : arg4.IsWhole) (arg5 : Memref sig .tc .vmem S1x4096x256 .f32) (harg5 : arg5.IsWhole)
    (x0 : FVec Ideal S1x4096x768 .bf16) (x1 : FVec Ideal S3x4x128x256 .f32) (y : S1x4096x256.Idx) :
    out0_A_2 (F := Ideal) c i arg2 harg2 arg3 harg3 arg4 harg4 arg5 harg5 x0 x1 y = outG x0 x1 y := by
  unfold out0_A_2
  exact View.read_writes_apply_of_pieces VO0_2 VO0_2.junk (outG x0 x1) _
    (fun p hp => View.PiecesOf.mem (out_body c i arg2 harg2 arg3 harg3 arg4 harg4 arg5 harg5 x0 x1) p hp) y
    (cover0_A_2 (F := Ideal) c i arg2 harg2 arg3 harg3 arg4 harg4 arg5 harg5 x0 x1 y)

/-- The logs as one array over the block. -/
def lseG (x0 : FVec Ideal S1x4096x768 .bf16) (x1 : FVec Ideal S3x4x128x256 .f32) : FVec Ideal S1x4096x256 .f32 :=
  fun y => blockLse 4096 (at3 x0 0) (at4 x1) (y 1).val (y 2).val

/-- The log tiles one trip stores. -/
theorem lse_trip (𝒱 : Variants) (c : Dev nD) (bd : Option 𝒱.V) (i : grid0.Coords) (arg2 : Memref sig .tc .vmem S1x4096x768 .bf16) (harg2 : arg2.IsWhole) (arg3 : Memref sig .tc .vmem S3x4x128x256 .f32) (harg3 : arg3.IsWhole)
    (arg4 : Memref sig .tc .vmem S1x4096x256 .bf16) (harg4 : arg4.IsWhole) (arg5 : Memref sig .tc .vmem S1x4096x256 .f32) (harg5 : arg5.IsWhole)
    (x0 : FVec Ideal S1x4096x768 .bf16) (x1 : FVec Ideal S3x4x128x256 .f32) (k : Fin k0_t1_loop.trips) :
    View.PiecesOf (lseG x0 x1)
      (trip_k0_t1 (F := Ideal) 𝒱 c bd i arg2 harg2 arg3 harg3 arg4 harg4 arg5 harg5 (harg2.unread x0) (harg3.unread x1) k).2.1 := by
  unfold trip_k0_t1
  dsimp only
  exact ⟨fun z => lseHigh0 arg2 harg2 arg3 harg3 x0 x1 k 3 z,
    fun z => lseLow0 arg2 harg2 arg3 harg3 x0 x1 k 3 z,
    fun z => lseHigh0 arg2 harg2 arg3 harg3 x0 x1 k 2 z,
    fun z => lseLow0 arg2 harg2 arg3 harg3 x0 x1 k 2 z,
    fun z => lseHigh0 arg2 harg2 arg3 harg3 x0 x1 k 1 z,
    fun z => lseLow0 arg2 harg2 arg3 harg3 x0 x1 k 1 z,
    fun z => lseHigh0 arg2 harg2 arg3 harg3 x0 x1 k 0 z,
    fun z => lseLow0 arg2 harg2 arg3 harg3 x0 x1 k 0 z, trivial⟩

/-- The log tiles the first `n` trips store. -/
theorem lse_trips (c : Dev nD) (i : grid0.Coords) (arg2 : Memref sig .tc .vmem S1x4096x768 .bf16) (harg2 : arg2.IsWhole) (arg3 : Memref sig .tc .vmem S3x4x128x256 .f32) (harg3 : arg3.IsWhole)
    (arg4 : Memref sig .tc .vmem S1x4096x256 .bf16) (harg4 : arg4.IsWhole) (arg5 : Memref sig .tc .vmem S1x4096x256 .f32) (harg5 : arg5.IsWhole)
    (x0 : FVec Ideal S1x4096x768 .bf16) (x1 : FVec Ideal S3x4x128x256 .f32) : ∀ (n : ℕ) (hn : n ≤ k0_t1_loop.trips),
    View.PiecesOf (lseG x0 x1)
      (pb_k0_t1 (F := Ideal) Variants.none c none i arg2 harg2 arg3 harg3 arg4 harg4 arg5 harg5 (harg2.unread x0) (harg3.unread x1) n).2
  | 0, _ => trivial
  | n + 1, hn => by
    have h := pb_k0_t1_succ (F := Ideal) Variants.none c none i arg2 harg2 arg3 harg3 arg4 harg4 arg5 harg5 (harg2.unread x0) (harg3.unread x1) ⟨n, hn⟩
    rw [show n + 1 = (⟨n, hn⟩ : Fin k0_t1_loop.trips).val + 1 from rfl, h]
    exact piecesOf_append _ _ _ (lse_trip _ c _ i arg2 harg2 arg3 harg3 arg4 harg4 arg5 harg5 x0 x1 ⟨n, hn⟩) (lse_trips c i arg2 harg2 arg3 harg3 arg4 harg4 arg5 harg5 x0 x1 n (Nat.le_of_succ_le hn))

/-- The log tiles the body stores. -/
theorem lse_body (c : Dev nD) (i : grid0.Coords) (arg2 : Memref sig .tc .vmem S1x4096x768 .bf16) (harg2 : arg2.IsWhole) (arg3 : Memref sig .tc .vmem S3x4x128x256 .f32) (harg3 : arg3.IsWhole)
    (arg4 : Memref sig .tc .vmem S1x4096x256 .bf16) (harg4 : arg4.IsWhole) (arg5 : Memref sig .tc .vmem S1x4096x256 .f32) (harg5 : arg5.IsWhole)
    (x0 : FVec Ideal S1x4096x768 .bf16) (x1 : FVec Ideal S3x4x128x256 .f32) :
    View.PiecesOf (lseG x0 x1)
      (kernelRun0_A (F := Ideal) c i arg2 harg2 arg3 harg3 arg4 harg4 arg5 harg5 x0 x1).2.1 := by
  unfold kernelRun0_A
  dsimp only
  exact lse_trips c i arg2 harg2 arg3 harg3 arg4 harg4 arg5 harg5 x0 x1 _ k0_t1_abs.2.1

/-- The log block, whole. -/
theorem lse_eq (c : Dev nD) (i : grid0.Coords) (arg2 : Memref sig .tc .vmem S1x4096x768 .bf16) (harg2 : arg2.IsWhole) (arg3 : Memref sig .tc .vmem S3x4x128x256 .f32) (harg3 : arg3.IsWhole)
    (arg4 : Memref sig .tc .vmem S1x4096x256 .bf16) (harg4 : arg4.IsWhole) (arg5 : Memref sig .tc .vmem S1x4096x256 .f32) (harg5 : arg5.IsWhole)
    (x0 : FVec Ideal S1x4096x768 .bf16) (x1 : FVec Ideal S3x4x128x256 .f32) (y : S1x4096x256.Idx) :
    out0_A_3 (F := Ideal) c i arg2 harg2 arg3 harg3 arg4 harg4 arg5 harg5 x0 x1 y = lseG x0 x1 y := by
  unfold out0_A_3
  exact View.read_writes_apply_of_pieces VO0_3 VO0_3.junk (lseG x0 x1) _
    (fun p hp => View.PiecesOf.mem (lse_body c i arg2 harg2 arg3 harg3 arg4 harg4 arg5 harg5 x0 x1) p hp) y
    (cover0_A_3 (F := Ideal) c i arg2 harg2 arg3 harg3 arg4 harg4 arg5 harg5 x0 x1 y)

end Cert.Layer.Band1Block

end
-- ==== Proof.Layer.BandWindow.lean ====
/-
  Banded attention over a whole sequence, as the mathematics writes it: a query sees the keys at a distance of at most 64,
  with a bias by the distance. The windowed form over 256 keys is the same function, when its tables hold the bias inside the
  band and `⊥` outside.
-/
module

public import proofs.«01_k».proof.Proof.Layer.BandMath

@[expose] public section

noncomputable section

open Idealize.ShloMosaic

namespace Cert.Layer

/-- The logits of query `i` of a sequence `x` of `L` rows: product plus bias at the keys at a distance of at most 64, `⊥` at
    the others. `f` is the head's bias by distance, counted from 64 keys before the query. -/
def seqLogits (L : ℕ) (x : ℕ → ℕ → EReal) (f : ℕ → EReal) (qo ko i : ℕ) (j : Fin L) : EReal :=
  if i ≤ j.val + 64 ∧ j.val ≤ i + 64 then
    (∑ d : Fin 64, x i (qo + d.val) * Ideal.ofBits .f32 0x3E000000#32 * x j.val (ko + d.val)) + f (j.val + 64 - i)
  else ⊥

/-- The logits behind output lane `lane`. -/
def seqLaneLogits (L : ℕ) (x : ℕ → ℕ → EReal) (f : ℕ → ℕ → EReal) (i lane : ℕ) : Fin L → EReal :=
  seqLogits L x (f (lane % 256 / 64)) (lane / 256 * 768 + lane % 256 / 64 * 64) (lane / 256 * 768 + 256 + lane % 256 / 64 * 64) i

/-- The attention output at a row and a lane. -/
def seqOut (L : ℕ) (x : ℕ → ℕ → EReal) (f : ℕ → ℕ → EReal) (i lane : ℕ) : EReal :=
  rowOut (seqLaneLogits L x f i lane) (fun j => x j.val (lane / 256 * 768 + 512 + lane % 256))

/-- The log of the denominator at a row and a lane. -/
def seqLse (L : ℕ) (x : ℕ → ℕ → EReal) (f : ℕ → ℕ → EReal) (i lane : ℕ) : EReal := rowLse (seqLaneLogits L x f i lane)

/-- The window's keys among the sequence's. -/
def winKey (L i : ℕ) (hL : 256 ≤ L) (c : Fin 256) : Fin L := ⟨winStart L (i / 128 * 128) + c.val, by unfold winStart; omega⟩

theorem winKey_injective (L i : ℕ) (hL : 256 ≤ L) : Function.Injective (winKey L i hL) := fun a b h => by
  have := congrArg Fin.val h
  simp only [winKey] at this
  exact Fin.ext (by omega)

section
variable (L : ℕ) (x : ℕ → ℕ → EReal) (f : ℕ → ℕ → EReal) (hL : 256 ≤ L) (hm : L % 128 = 0) (i lane : ℕ) (hi : i < L)

include hm hi in
/-- A key outside the window lies outside the band. -/
theorem seqLaneLogits_outside (j : Fin L) (hj : j ∉ Set.range (winKey L i hL)) : seqLaneLogits L x f i lane j = ⊥ := by
  unfold seqLaneLogits seqLogits
  refine if_neg fun h => hj ?_
  have hw : winStart L (i / 128 * 128) ≤ j.val ∧ j.val < winStart L (i / 128 * 128) + 256 := by
    have := j.isLt
    unfold winStart
    omega
  exact ⟨⟨j.val - winStart L (i / 128 * 128), by omega⟩, Fin.ext (by simp only [winKey]; omega)⟩

variable (tab : ℕ → ℕ → ℕ → ℕ → EReal)
  (htab : ∀ v h r l, v < 3 → h < 4 → r < 128 → l < 256 →
    tab v h r l = if r + 64 * v ≤ l + 64 ∧ l ≤ r + 64 * v + 64 then f h (l + 64 - (r + 64 * v)) else ⊥)

include hm hi htab in
/-- Inside the window the two have the same logits. -/
theorem laneLogits_eq (c : Fin 256) : laneLogits L x tab i lane c = seqLaneLogits L x f i lane (winKey L i hL c) := by
  have hc := c.isLt
  have hv : i / 128 * 128 - winStart L (i / 128 * 128) = 64 * ((i / 128 * 128 - winStart L (i / 128 * 128)) / 64) := by
    unfold winStart; omega
  have hv3 : (i / 128 * 128 - winStart L (i / 128 * 128)) / 64 < 3 := by unfold winStart; omega
  have hle : winStart L (i / 128 * 128) ≤ i / 128 * 128 := by unfold winStart; omega
  unfold laneLogits blockLogits rowLogits seqLaneLogits seqLogits
  dsimp only
  rw [htab _ _ _ _ hv3 (by omega) (by omega) hc]
  have hk : (winKey L i hL c).val = winStart L (i / 128 * 128) + c.val := rfl
  rw [hk]
  generalize (i / 128 * 128 - winStart L (i / 128 * 128)) / 64 = v at hv hv3
  generalize winStart L (i / 128 * 128) = w at hv hle
  by_cases h : i % 128 + 64 * v ≤ c.val + 64 ∧ c.val ≤ i % 128 + 64 * v + 64
  · rw [if_pos h, if_pos (by omega)]
    have e : c.val + 64 - (i % 128 + 64 * v) = w + c.val + 64 - i := by omega
    rw [e]
  · rw [if_neg h, if_neg (by omega), EReal.add_bot]

include hL hm hi htab in
/-- The windowed output is the output over the whole sequence. -/
theorem blockOut_eq : blockOut L x tab i lane = seqOut L x f i lane := by
  unfold blockOut seqOut
  rw [rowOut_window (winKey L i hL) (winKey_injective L i hL) _ _ (seqLaneLogits_outside L x f hL hm i lane hi)]
  exact congrArg₂ rowOut (funext fun c => laneLogits_eq L x f hL hm i lane hi tab htab c) rfl

include hL hm hi htab in
/-- And so is the log of the denominator. -/
theorem blockLse_eq : blockLse L x tab i lane = seqLse L x f i lane := by
  unfold blockLse seqLse
  rw [rowLse_window (winKey L i hL) (winKey_injective L i hL) _ (seqLaneLogits_outside L x f hL hm i lane hi)]
  exact congrArg rowLse (funext fun c => laneLogits_eq L x f hL hm i lane hi tab htab c)

end

section
variable (L : ℕ) (x X : ℕ → ℕ → EReal) (f : ℕ → ℕ → EReal) (n s i lane : ℕ) (hi : i < L) (hl : lane < 256 * n)
  (hx : ∀ a l, a < L → l < 768 * n → x a l = X a (s * (768 * n) + l))

include hi hl hx in
theorem seqLaneLogits_shift : seqLaneLogits L x f i lane = seqLaneLogits L X f i (s * (256 * n) + lane) := by
  have e1 : (s * (256 * n) + lane) % 256 = lane % 256 := by
    rw [show s * (256 * n) + lane = lane + 256 * (s * n) by ring]; omega
  have e2 : (s * (256 * n) + lane) / 256 * 768 = s * (768 * n) + lane / 256 * 768 := by
    rw [show s * (256 * n) + lane = lane + 256 * (s * n) by ring, show s * (768 * n) = 768 * (s * n) by ring]; omega
  funext j
  have hj := j.isLt
  unfold seqLaneLogits seqLogits
  rw [e1, e2]
  by_cases h : i ≤ j.val + 64 ∧ j.val ≤ i + 64
  · rw [if_pos h, if_pos h]
    refine congrArg₂ (· + ·) (Finset.sum_congr rfl fun d _ => ?_) rfl
    have hd := d.isLt
    rw [hx i _ hi (by omega), hx j.val _ hj (by omega)]
    simp only [Nat.add_assoc]
  · rw [if_neg h, if_neg h]

include hi hl hx in
/-- A block of lanes read out of a wider array. -/
theorem seqOut_shift : seqOut L x f i lane = seqOut L X f i (s * (256 * n) + lane) := by
  have e1 : (s * (256 * n) + lane) % 256 = lane % 256 := by
    rw [show s * (256 * n) + lane = lane + 256 * (s * n) by ring]; omega
  have e2 : (s * (256 * n) + lane) / 256 * 768 = s * (768 * n) + lane / 256 * 768 := by
    rw [show s * (256 * n) + lane = lane + 256 * (s * n) by ring, show s * (768 * n) = 768 * (s * n) by ring]; omega
  unfold seqOut
  rw [seqLaneLogits_shift L x X f n s i lane hi hl hx]
  refine congrArg₂ rowOut rfl (funext fun j => ?_)
  have hj := j.isLt
  rw [hx j.val _ hj (by omega), e1, e2]
  simp only [Nat.add_assoc]

include hi hl hx in
theorem seqLse_shift : seqLse L x f i lane = seqLse L X f i (s * (256 * n) + lane) := by
  unfold seqLse
  rw [seqLaneLogits_shift L x X f n s i lane hi hl hx]

end

/-- The bias by distance depends on its 129 values alone. -/
theorem seqLaneLogits_bias (L : ℕ) (x : ℕ → ℕ → EReal) (f g : ℕ → ℕ → EReal) (h : ∀ a j, a < 4 → j < 129 → f a j = g a j) (i lane : ℕ) :
    seqLaneLogits L x f i lane = seqLaneLogits L x g i lane := by
  funext j
  unfold seqLaneLogits seqLogits
  by_cases hb : i ≤ j.val + 64 ∧ j.val ≤ i + 64
  · rw [if_pos hb, if_pos hb, h _ _ (by omega) (by omega)]
  · rw [if_neg hb, if_neg hb]

end Cert.Layer

end
-- ==== Proof.Layer.Band1Table.lean ====
/-
  The bias tables of dilation 1, which the host builds before the kernel: variant, head, query and key to the bias of the
  distance inside the band and `⊥` outside.
-/
module

public import proofs.«01_k».proof.Proof.Gen.Band1Ideal.Value
public import proofs.«01_k».proof.Proof.Gen.Band1RefIdeal.Run
public import proofs.«01_k».proof.Proof.Layer.BandWindow
public import proofs.«01_k».proof.Proof.Layer.BandHead
public import Idealize.ShloMosaic.Lib.Pointwise
public import Idealize.ShloMosaic.Lib.StableHlo.ReadAt
public import Idealize.ShloMosaic.Lib.Routing.Ops

@[expose] public section

set_option maxRecDepth 65536

noncomputable section

open Idealize.ShloMosaic Idealize.ShloMosaic.TcCoe Idealize.SL.Sem

namespace Cert.Layer.Band1Table

open Cert.Band1Ideal Cert.Band1Ideal.Gen Cert.Layer Cert.Layer.Head

/-- The bucket of distance `j - 64`, as the reference lists them. -/
def bucket (j : ℕ) : ℕ := if h : j < 129 then (Cert.Band1RefIdeal.lit0 ⟨j, h⟩).toNat else 0

/-- The bias of a head at distance `j - 64`. -/
def bias (tab : FVec Ideal S32x12 .f32) (h j : ℕ) : EReal := at2 (n0 := 32) (n1 := 12) tab (bucket j) (0 + h)

/-- Where the skewed row of a variant lies in the band. -/
abbrev band (v p : ℕ) : Prop := 127 + 64 * v ≤ p + 64 ∧ p ≤ 127 + 64 * v + 64

theorem mask0 : ∀ p : Fin 384, lit1 p = if band 0 p.val then 1#1 else 0#1 := by decide +kernel

theorem words0 : ∀ p : Fin 384, (lit0 p).toNat < 32
    ∧ (band 0 p.val → (lit0 p).toNat = bucket (p.val + 64 - (127 + 64 * 0))) := by decide +kernel

theorem mask1 : ∀ p : Fin 384, lit3 p = if band 1 p.val then 1#1 else 0#1 := by decide +kernel

theorem words1 : ∀ p : Fin 384, (lit2 p).toNat < 32
    ∧ (band 1 p.val → (lit2 p).toNat = bucket (p.val + 64 - (127 + 64 * 1))) := by decide +kernel

theorem mask2 : ∀ p : Fin 384, lit5 p = if band 2 p.val then 1#1 else 0#1 := by decide +kernel

theorem words2 : ∀ p : Fin 384, (lit4 p).toNat < 32
    ∧ (band 2 p.val → (lit4 p).toNat = bucket (p.val + 64 - (127 + 64 * 2))) := by decide +kernel

theorem position (p : Fin 384) : S384.rowMajor (ix1 p) = p := Fin.ext (Shape.rowMajor_val_one _)

/-- A table of biases by variant, head, query and key. -/
def tableAt (f : ℕ → ℕ → EReal) (v h r l : ℕ) : EReal :=
  if r + 64 * v ≤ l + 64 ∧ l ≤ r + 64 * v + 64 then f h (l + 64 - (r + 64 * v)) else ⊥

/-- One entry of a variant's skewed row: the gathered bias inside the band, `⊥` outside. -/
theorem entry (v : ℕ) (mask : Fin 384 → BitVec 1) (words : Fin 384 → BitVec 32)
    (hm : ∀ p : Fin 384, mask p = if band v p.val then 1#1 else 0#1)
    (hw : ∀ p : Fin 384, (words p).toNat < 32 ∧ (band v p.val → (words p).toNat = bucket (p.val + 64 - (127 + 64 * v))))
    (tab : FVec Ideal S32x12 .f32) (X : IVec S384 32) (p : Fin 384) (col : Fin 12) (h r l : ℕ)
    (hp : p.val = 127 + l - r) (hr : r < 128) (hc : col.val = 0 + h) :
    Scalar.select (mask (S384.rowMajor (ix1 p)))
      (Host.gather gather_S32x12_S384x1_S384x12_1_0_n_n_0_1_112 tab (broadcastInDim S384x1 ![0] bcast_S384_S384x1_0
        (select (constantI S384 1 0#1) X (fun i => words (S384.rowMajor i)))) (ix2 p col))
      (id (constant (F := Ideal) S_ FTy.f32 0xFF800000#32) ix0)
    = tableAt (bias tab) v h r l := by
  rw [position, hm p]
  unfold tableAt
  by_cases hb : r + 64 * v ≤ l + 64 ∧ l ≤ r + 64 * v + 64
  · have hb' : band v p.val := by rw [hp]; unfold band; omega
    rw [if_pos hb, if_pos hb']
    refine (Routing.gather_row gather_S32x12_S384x1_S384x12_1_0_n_n_0_1_112 rfl rfl rfl rfl rfl tab _ p col
      ⟨(words p).toNat, (hw p).1⟩ ?_ (by norm_num)).trans ?_
    · pointwise
      show words (S384.rowMajor (ix1 p)) = _
      rw [position]
      simp
    · refine (at2_eq (n0 := 32) (n1 := 12) tab ⟨(words p).toNat, (hw p).1⟩ col).trans ?_
      refine congrArg₂ (at2 (n0 := 32) (n1 := 12) tab) (((hw p).2 hb').trans (congrArg bucket ?_)) hc
      rw [hp]
      omega
  · have hb' : ¬ band v p.val := by rw [hp]; unfold band; omega
    rw [if_neg hb, if_neg hb']
    exact neg_inf

variable (m : (ℓ : Loc nD τ sig) → Buf (Elt Ideal) ℓ)

set_option maxHeartbeats 1000000 in
/-- The table of variant 0. -/
theorem table0 (c : Dev nD) (h : Fin 4) (r : Fin 128) (l : Fin 256) :
    V m c main_v48 (ix4 0 h r l) = tableAt (bias (m ((c : Thread nD τ).loc main_arg1))) 0 h.val r.val l.val := by
  have hr := r.isLt
  have hl := l.isLt
  unfold V
  after_reads_at
  after_reads_at
  exact entry 0 lit1 lit0 mask0 words0 (m ((c : Thread nD τ).loc main_arg1))
    (addi (fun i => lit0 (S384.rowMajor i)) (broadcastInDim S384 ![] bcast_S_S384 (constantI S_ 32 32#32)))
    ⟨(r.val * 383 + (127 + l.val)) % 384, by omega⟩ ⟨h.val, by omega⟩ h.val r.val l.val (by dsimp only; omega) hr
    (by dsimp only; omega)

set_option maxHeartbeats 1000000 in
/-- The table of variant 1. -/
theorem table1 (c : Dev nD) (h : Fin 4) (r : Fin 128) (l : Fin 256) :
    V m c main_v48 (ix4 1 h r l) = tableAt (bias (m ((c : Thread nD τ).loc main_arg1))) 1 h.val r.val l.val := by
  have hr := r.isLt
  have hl := l.isLt
  unfold V
  after_reads_at
  after_reads_at
  exact entry 1 lit3 lit2 mask1 words1 (m ((c : Thread nD τ).loc main_arg1))
    (addi (fun i => lit2 (S384.rowMajor i)) (broadcastInDim S384 ![] bcast_S_S384 (constantI S_ 32 32#32)))
    ⟨(r.val * 383 + (127 + l.val)) % 384, by omega⟩ ⟨h.val, by omega⟩ h.val r.val l.val (by dsimp only; omega) hr
    (by dsimp only; omega)

set_option maxHeartbeats 1000000 in
/-- The table of variant 2. -/
theorem table2 (c : Dev nD) (h : Fin 4) (r : Fin 128) (l : Fin 256) :
    V m c main_v48 (ix4 2 h r l) = tableAt (bias (m ((c : Thread nD τ).loc main_arg1))) 2 h.val r.val l.val := by
  have hr := r.isLt
  have hl := l.isLt
  unfold V
  after_reads_at
  after_reads_at
  exact entry 2 lit5 lit4 mask2 words2 (m ((c : Thread nD τ).loc main_arg1))
    (addi (fun i => lit4 (S384.rowMajor i)) (broadcastInDim S384 ![] bcast_S_S384 (constantI S_ 32 32#32)))
    ⟨(r.val * 383 + (127 + l.val)) % 384, by omega⟩ ⟨h.val, by omega⟩ h.val r.val l.val (by dsimp only; omega) hr
    (by dsimp only; omega)

/-- The stacked tables. -/
theorem table (c : Dev nD) : ∀ (v : Fin 3) (h : Fin 4) (r : Fin 128) (l : Fin 256),
    V m c main_v48 (ix4 v h r l) = tableAt (bias (m ((c : Thread nD τ).loc main_arg1))) v.val h.val r.val l.val
  | 0, h, r, l => table0 m c h r l
  | 1, h, r, l => table1 m c h r l
  | 2, h, r, l => table2 m c h r l

end Cert.Layer.Band1Table

end
-- ==== Proof.Layer.Band1Value.lean ====
/-
  The result arrays of the banded attention of dilation 1: the output and the log of the denominator over the whole
  sequences, as functions of the arguments.
-/
module

public import proofs.«01_k».proof.Proof.Gen.Band1Ideal.Value
public import proofs.«01_k».proof.Proof.Layer.Band1Block
public import proofs.«01_k».proof.Proof.Layer.Band1Table
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Layer.Band1Value

open Cert.Band1Ideal Cert.Band1Ideal.Gen Cert.Layer Cert.Layer.Band1Block Cert.Layer.Band1Table

/-- Where each window's block sits: the sequence and, in it, the residues' lanes move with the point, the tables are whole. -/
theorem idx : ∀ t : Fin cfg0.N, win0_0.index t = ![t.val, 0, 0] ∧ win0_1.index t = ![0, 0, 0, 0]
    ∧ win0_2.index t = ![t.val, 0, 0] ∧ win0_3.index t = ![t.val, 0, 0] :=
  (by decide +kernel : ∀ t : Fin grid0.N, _)

/-- The rows of sequence `b` of the queries, keys and values. -/
def rows (x : FVec Ideal S32768x768 .bf16) (b a l : ℕ) : EReal := at2 (n0 := 32768) (n1 := 768) x (b * 4096 + a) l

/-- The output array as a function of the arguments. -/
def outArr (x : FVec Ideal S32768x768 .bf16) (tab : FVec Ideal S32x12 .f32) : FVec Ideal S8x4096x256 .bf16 := fun i =>
  seqOut 4096 (rows x (i 0).val) (bias tab) (i 1).val (i 2).val

/-- The log of the denominators as a function of the arguments. -/
def lseArr (x : FVec Ideal S32768x768 .bf16) (tab : FVec Ideal S32x12 .f32) : FVec Ideal S8x4096x256 .f32 := fun i =>
  seqLse 4096 (rows x (i 0).val) (bias tab) (i 1).val (i 2).val

variable (m : (ℓ : Loc nD τ sig) → Buf (Elt Ideal) ℓ)

/-- The host's array of the sequences, read from the argument. -/
theorem sequences (c : Dev nD) (b : Fin 8) (a : Fin 4096) (l : Fin 768) :
    V m c main_v49 (ix3 b a l) = m ((c : Thread nD τ).loc main_arg0) (ix2 ⟨b.val * 4096 + a.val, by omega⟩ l) := by
  unfold V
  after_reads_at <;> blk_ext!

/-- A point's block of the queries, keys and values, read from the argument. -/
theorem block_rows (c : Dev nD) (t : Fin cfg0.N) (a l : ℕ) (ha : a < 4096) (hl : l < 768) :
    at3 (n0 := 1) (n1 := 4096) (n2 := 768) (iblk m c 0 t) 0 a l
      = rows (m ((c : Thread nD τ).loc main_arg0)) (t.val) a (0 * 768 + l) := by
  have ht : t.val < 8 := lt_of_lt_of_eq t.isLt (by decide +kernel)
  refine (at3_eq (n0 := 1) (n1 := 4096) (n2 := 768) (iblk m c 0 t) 0 ⟨a, ha⟩ ⟨l, hl⟩).symm.trans ?_
  refine Eq.trans (b := V m c main_v49 (ix3 ⟨t.val, by omega⟩ ⟨a, ha⟩ ⟨0 * 768 + l, by omega⟩)) (by blk_point [iblk, idx t]) ?_
  refine (sequences m c ⟨t.val, by omega⟩ ⟨a, ha⟩ ⟨0 * 768 + l, by omega⟩).trans ?_
  exact (at2_eq (n0 := 32768) (n1 := 768) (m ((c : Thread nD τ).loc main_arg0)) ⟨(t.val) * 4096 + a, by omega⟩ ⟨0 * 768 + l, by omega⟩)

/-- A point's block of the tables, read from the host's array. -/
theorem block_table (c : Dev nD) (t : Fin cfg0.N) (v h r l : ℕ) (hv : v < 3) (hh : h < 4) (hr : r < 128) (hl : l < 256) :
    at4 (n0 := 3) (n1 := 4) (n2 := 128) (n3 := 256) (iblk m c 1 t) v h r l = tableAt (bias (m ((c : Thread nD τ).loc main_arg1))) v h r l := by
  refine (at4_eq (n0 := 3) (n1 := 4) (n2 := 128) (n3 := 256) (iblk m c 1 t) ⟨v, hv⟩ ⟨h, hh⟩ ⟨r, hr⟩ ⟨l, hl⟩).symm.trans ?_
  refine Eq.trans ?_ (table m c ⟨v, hv⟩ ⟨h, hh⟩ ⟨r, hr⟩ ⟨l, hl⟩)
  blk_point [iblk, idx t]

/-- The output array after the run. -/
theorem out_final (c : Dev nD) : (dats m 0 c).arrAt 2 cfg0.N
    = outArr (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  idx_vars y
  obtain rfl : y0 = 0 := Subsingleton.elim _ _
  have ht : t.val < 8 := lt_of_lt_of_eq t.isLt (by decide +kernel)
  refine (out_eq c (grid0.coords t) (ms0_0 t) (hs0_0 t) (ms0_1 t) (hs0_1 t) (ms0_2 t) (hs0_2 t) (ms0_3 t) (hs0_3 t)
    (iblk m c 0 t) (iblk m c 1 t) _).trans ?_
  have e0 : ((((cfg0.win 2).blk t).view.emb (ix3 0 y1 y2)) 0).val = t.val := by blk_simp [idx t] <;> first | rfl | omega
  have e1 : ((((cfg0.win 2).blk t).view.emb (ix3 0 y1 y2)) 1).val = y1.val := by blk_simp [idx t] <;> first | rfl | omega
  have e2 : ((((cfg0.win 2).blk t).view.emb (ix3 0 y1 y2)) 2).val = 0 * 256 + y2.val := by blk_simp [idx t] <;> first | rfl | omega
  refine (blockOut_eq 4096 _ (bias (m ((c : Thread nD τ).loc main_arg1))) (by norm_num) (by norm_num) y1.val y2.val y1.isLt _
    fun v h r l hv hh hr hl => block_table m c t v h r l hv hh hr hl).trans ?_
  refine (seqOut_shift 4096 _ (rows (m ((c : Thread nD τ).loc main_arg0)) (t.val)) _ 1 (0) y1.val y2.val y1.isLt y2.isLt
    fun a l ha hl => block_rows m c t a l ha hl).trans ?_
  refine Eq.symm ?_
  show seqOut 4096 (rows (m ((c : Thread nD τ).loc main_arg0)) ((((cfg0.win 2).blk t).view.emb (ix3 0 y1 y2)) 0).val) (bias (m ((c : Thread nD τ).loc main_arg1)))
    ((((cfg0.win 2).blk t).view.emb (ix3 0 y1 y2)) 1).val ((((cfg0.win 2).blk t).view.emb (ix3 0 y1 y2)) 2).val = _
  rw [e0, e1, e2]

/-- The log-denominator array after the run. -/
theorem lse_final (c : Dev nD) : (dats m 0 c).arrAt 3 cfg0.N
    = lseArr (m ((c : Thread nD τ).loc main_arg0)) (m ((c : Thread nD τ).loc main_arg1)) := by
  refine (dats m 0 c).arrAt_eq_of_covers 3 _ (by decide +kernel) fun t _ y => ?_
  blk_simp
  rw [after0_3]
  unfold outsAt0
  idx_vars y
  obtain rfl : y0 = 0 := Subsingleton.elim _ _
  have ht : t.val < 8 := lt_of_lt_of_eq t.isLt (by decide +kernel)
  refine (lse_eq c (grid0.coords t) (ms0_0 t) (hs0_0 t) (ms0_1 t) (hs0_1 t) (ms0_2 t) (hs0_2 t) (ms0_3 t) (hs0_3 t)
    (iblk m c 0 t) (iblk m c 1 t) _).trans ?_
  have e0 : ((((cfg0.win 3).blk t).view.emb (ix3 0 y1 y2)) 0).val = t.val := by blk_simp [idx t] <;> first | rfl | omega
  have e1 : ((((cfg0.win 3).blk t).view.emb (ix3 0 y1 y2)) 1).val = y1.val := by blk_simp [idx t] <;> first | rfl | omega
  have e2 : ((((cfg0.win 3).blk t).view.emb (ix3 0 y1 y2)) 2).val = 0 * 256 + y2.val := by blk_simp [idx t] <;> first | rfl | omega
  refine (blockLse_eq 4096 _ (bias (m ((c : Thread nD τ).loc main_arg1))) (by norm_num) (by norm_num) y1.val y2.val y1.isLt _
    fun v h r l hv hh hr hl => block_table m c t v h r l hv hh hr hl).trans ?_
  refine (seqLse_shift 4096 _ (rows (m ((c : Thread nD τ).loc main_arg0)) (t.val)) _ 1 (0) y1.val y2.val y1.isLt y2.isLt
    fun a l ha hl => block_rows m c t a l ha hl).trans ?_
  refine Eq.symm ?_
  show seqLse 4096 (rows (m ((c : Thread nD τ).loc main_arg0)) ((((cfg0.win 3).blk t).view.emb (ix3 0 y1 y2)) 0).val) (bias (m ((c : Thread nD τ).loc main_arg1)))
    ((((cfg0.win 3).blk t).view.emb (ix3 0 y1 y2)) 1).val ((((cfg0.win 3).blk t).view.emb (ix3 0 y1 y2)) 2).val = _
  rw [e0, e1, e2]

end Cert.Layer.Band1Value

end
-- ==== Proof.Layer.BandGather.lean ====
/-
  What the reference's integer arithmetic and gather mean: the distance of two positions clipped to the band's width, the
  test whether they lie in the band, and rows of a table read at a square of row numbers.
-/
module

public import Idealize.ShloMosaic.Lib.Pointwise
public import Idealize.ShloMosaic.Lib.Routing.Ops
public import proofs.«01_k».proof.Proof.Layer.BandMath

@[expose] public section

noncomputable section

open Idealize.ShloMosaic

namespace Cert.Layer

/-- Rows of width `C` of a table of `N` rows, read at an `L` by `L` square of row numbers. -/
def squareDims (N C L : ℕ) (wf : GatherDims.WF ⟨2, ![N, C]⟩ ⟨3, ![L, L, 1]⟩ ⟨3, ![L, L, C]⟩ [2] [0] [] [0] [] 2 ![1, C]) :
    GatherDims ⟨2, ![N, C]⟩ ⟨3, ![L, L, 1]⟩ ⟨3, ![L, L, C]⟩ where
  offsetDims := [2]
  collapsedSliceDims := [0]
  operandBatchingDims := []
  startIndicesBatchingDims := []
  startIndexMap := [0]
  indexVectorDim := 2
  sliceSizes := ![1, C]
  wf := wf

/-- Where the square holds row number `b`, the result is row `b`. -/
theorem square_apply {α : Type} {N C L : ℕ}
    (wf : GatherDims.WF ⟨2, ![N, C]⟩ ⟨3, ![L, L, 1]⟩ ⟨3, ![L, L, C]⟩ [2] [0] [] [0] [] 2 ![1, C])
    (x : (⟨2, ![N, C]⟩ : Shape).Idx → α) (idx : IVec ⟨3, ![L, L, 1]⟩ 32) (p q : Fin L) (y : Fin C) (b : Fin N)
    (hb : idx (ix3 p q 0) = BitVec.ofNat 32 b.val) (hN : N < 2 ^ 31) :
    Host.gather (squareDims N C L wf) x idx (ix3 p q y) = x (ix2 b y) := by
  have hbl := b.isLt
  unfold Host.gather
  refine congrArg x (funext fun a => Fin.ext ?_)
  match a with
  | ⟨0, _⟩ =>
    have hm : (0 : Fin 2) ∈ (squareDims N C L wf).startIndexMap := List.mem_singleton.mpr rfl
    show (squareDims N C L wf).start (ix3 p q y) idx 0 + (squareDims N C L wf).batchCoord (ix3 p q y) 0
      + (squareDims N C L wf).offCoord (ix3 p q y) 0 = b.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos hm]
    have hsi : (squareDims N C L wf).siIdx (ix3 p q y) ⟨List.idxOf (0 : Fin 2) (squareDims N C L wf).startIndexMap,
        List.idxOf_lt_length_iff.2 hm⟩ = ix3 p q 0 := by
      funext k
      refine Fin.ext ?_
      match k with
      | ⟨0, _⟩ => rfl
      | ⟨1, _⟩ => rfl
      | ⟨2, _⟩ => rfl
    rw [hsi, hb, StableHlo.Predicate.toInt_ofNat_small _ (by omega)]
    show min ((b.val : Int)).toNat (N - 1) = b.val
    omega
  | ⟨1, _⟩ =>
    have hm : (1 : Fin 2) ∉ (squareDims N C L wf).startIndexMap := fun h =>
      absurd (congrArg Fin.val (List.mem_singleton.mp h)) Nat.one_ne_zero
    show (squareDims N C L wf).start (ix3 p q y) idx 1 + (squareDims N C L wf).batchCoord (ix3 p q y) 1
      + (squareDims N C L wf).offCoord (ix3 p q y) 1 = y.val
    rw [GatherDims.batchCoord_eq_zero _ _ _ List.not_mem_nil]
    unfold GatherDims.start
    rw [dif_neg hm]
    simp only [Nat.zero_add]
    rfl

/-- A distance clipped to the band and wrapped from the end when negative, on the words. -/
def offsetWord (w : BitVec 32) : BitVec 32 :=
  Scalar.select (IntOp.cmpi .slt (IntOp.minsi 128#32 (IntOp.maxsi 0#32 w)) 0#32)
    (IntOp.minsi 128#32 (IntOp.maxsi 0#32 w) + 129#32) (IntOp.minsi 128#32 (IntOp.maxsi 0#32 w))

theorem offsetWord_small : ∀ n : Fin 129, offsetWord (BitVec.ofNat 32 n.val) = BitVec.ofNat 32 n.val := by decide +kernel

/-- Inside the band nothing is clipped: the word is the distance counted from the band's start. -/
theorem offsetWord_band (i j : ℕ) (hi : i < 4096) (hj : j < 4096) (h : i ≤ j + 64 ∧ j ≤ i + 64) :
    offsetWord (BitVec.ofNat 32 j - BitVec.ofNat 32 i + 64#32) = BitVec.ofNat 32 (j + 64 - i) := by
  have e : BitVec.ofNat 32 j - BitVec.ofNat 32 i + 64#32 = BitVec.ofNat 32 (j + 64 - i) := by
    apply BitVec.eq_of_toNat_eq
    simp only [BitVec.toNat_add, BitVec.toNat_sub, BitVec.toNat_ofNat]
    omega
  rw [e]
  exact offsetWord_small ⟨j + 64 - i, by omega⟩

theorem nearWord : ∀ k : Fin 8192, IntOp.cmpi .sle (IntOp.absi (BitVec.ofNat 32 k.val - 4096#32)) 64#32
    = if 4032 ≤ k.val ∧ k.val ≤ 4160 then 1#1 else 0#1 := by decide +kernel

/-- The test whether two positions lie in the band, on the words. -/
theorem nearWord_band (i j : ℕ) (hi : i < 4096) (hj : j < 4096) :
    IntOp.cmpi .sle (IntOp.absi (BitVec.ofNat 32 j - BitVec.ofNat 32 i)) 64#32 = if i ≤ j + 64 ∧ j ≤ i + 64 then 1#1 else 0#1 := by
  have e : BitVec.ofNat 32 j - BitVec.ofNat 32 i = BitVec.ofNat 32 (j + 4096 - i) - 4096#32 := by
    apply BitVec.eq_of_toNat_eq
    simp only [BitVec.toNat_sub, BitVec.toNat_ofNat]
    omega
  rw [e]
  refine (nearWord ⟨j + 4096 - i, by omega⟩).trans ?_
  by_cases h : i ≤ j + 64 ∧ j ≤ i + 64
  · rw [if_pos h, if_pos (by dsimp only; omega)]
  · rw [if_neg h, if_neg (by dsimp only; omega)]

end Cert.Layer

end
-- ==== Proof.Layer.Band1Reference.lean ====
/-
  The reference of the banded attention of dilation 1, read index by index: the output and the log of the denominator over
  the whole sequences, as functions of the arguments.
-/
module

public import proofs.«01_k».proof.Proof.Gen.Band1RefIdeal.Run
public import proofs.«01_k».proof.Proof.Layer.Band1Table
public import proofs.«01_k».proof.Proof.Layer.BandGather
public import proofs.«01_k».proof.Proof.Layer.BandHead
public import Idealize.ShloMosaic.Lib.Pipeline.ValueKit

@[expose] public section

set_option maxRecDepth 16384

noncomputable section

open Idealize.ShloMosaic Idealize.ShloMosaic.TcCoe Idealize.SL.Sem

namespace Cert.Layer.Band1Reference

open Cert.Band1RefIdeal Cert.Band1RefIdeal.Gen Cert.Band1RefIdeal.Value Cert.Layer Cert.Layer.Band1Table

/-- The rows of sequence `b` of the queries, keys and values. -/
def rows (x : FVec Ideal S32768x768 .bf16) (b a l : ℕ) : EReal := at2 (n0 := 32768) (n1 := 768) x (b * 4096 + a) l

/-- Key position minus query position. -/
def dist : IVec S4096x4096 32 := subi (iotaInDim S4096x4096 32 1) (iotaInDim S4096x4096 32 0)
/-- The distance clipped to the band. -/
def clipped : IVec S4096x4096 32 :=
  minsi (broadcastInDim S4096x4096 ![] bcast_S_S4096x4096 (id (constantI S_ 32 128#32)))
    (maxsi (broadcastInDim S4096x4096 ![] bcast_S_S4096x4096 (id (constantI S_ 32 0#32)))
      (addi dist (broadcastInDim S4096x4096 ![] bcast_S_S4096x4096 (constantI S_ 32 64#32))))
/-- The row of the bias table for every pair of positions. -/
def offsets : IVec S4096x4096 32 :=
  select (cmpi .slt clipped (broadcastInDim S4096x4096 ![] bcast_S_S4096x4096 (constantI S_ 32 0#32)))
    (addi clipped (broadcastInDim S4096x4096 ![] bcast_S_S4096x4096 (constantI S_ 32 129#32))) clipped
/-- Which pairs lie in the band. -/
def near : IVec S4096x4096 1 := cmpi .sle (absi dist) (broadcastInDim S4096x4096 ![] bcast_S_S4096x4096 (constantI S_ 32 64#32))
/-- The bias by distance of the heads of this dilation. -/
def headBias (tab : FVec Ideal S32x12 .f32) : FVec Ideal S129x4 .f32 :=
  extractStridedSlice S129x4 ![0, 0] (Host.gather gather_S32x12_S129x1_S129x12_1_0_n_n_0_1_112 tab
    (broadcastInDim S129x1 ![0] bcast_S129_S129x1_0 (select (constantI S129 1 0#1)
      (addi (fun i => lit0 (S129.rowMajor i)) (broadcastInDim S129 ![] bcast_S_S129 (constantI S_ 32 32#32)))
      (fun i => lit0 (S129.rowMajor i))))) slices_S129x12_S129x4_0_0
/-- The bias of every head, query and key. -/
def pairBias (tab : FVec Ideal S32x12 .f32) : FVec Ideal S4x4096x4096 .f32 :=
  transpose S4x4096x4096 [2, 0, 1] (Host.gather gather_S129x4_S4096x4096x1_S4096x4096x4_2_0_n_n_0_2_14 (headBias tab)
    (broadcastInDim S4096x4096x1 ![0, 1] bcast_S4096x4096_S4096x4096x1_0_1 offsets)) transposes_S4096x4096x4_S4x4096x4096_2_0_1

/-- The queries. -/
def queries (x : FVec Ideal S32768x768 .bf16) : FVec Ideal S8x4096x1x4x64 .f32 :=
  mulf (shapeCast _ (extractStridedSlice S8x4096x1x1x4x64 ![0, 0, 0, 0, 0, 0] (shapeCast _ (extf .f32 x bitsLt_bf16_f32) shapeCasts_S32768x768_S8x4096x1x3x4x64) slices_S8x4096x1x3x4x64_S8x4096x1x1x4x64_0_0_0_0_0_0) shapeCasts_S8x4096x1x1x4x64_S8x4096x1x4x64) (broadcastInDim S8x4096x1x4x64 ![] bcast_S_S8x4096x1x4x64 (constant S_ .f32 0x3E000000#32))
/-- The keys. -/
def keys (x : FVec Ideal S32768x768 .bf16) : FVec Ideal S8x4096x1x4x64 .f32 :=
  shapeCast _ (extractStridedSlice S8x4096x1x1x4x64 ![0, 0, 0, 1, 0, 0] (shapeCast _ (extf .f32 x bitsLt_bf16_f32) shapeCasts_S32768x768_S8x4096x1x3x4x64) slices_S8x4096x1x3x4x64_S8x4096x1x1x4x64_0_0_0_1_0_0) shapeCasts_S8x4096x1x1x4x64_S8x4096x1x4x64
/-- The values. -/
def values (x : FVec Ideal S32768x768 .bf16) : FVec Ideal S8x4096x1x4x64 .f32 :=
  shapeCast _ (extractStridedSlice S8x4096x1x1x4x64 ![0, 0, 0, 2, 0, 0] (shapeCast _ (extf .f32 x bitsLt_bf16_f32) shapeCasts_S32768x768_S8x4096x1x3x4x64) slices_S8x4096x1x3x4x64_S8x4096x1x1x4x64_0_0_0_2_0_0) shapeCasts_S8x4096x1x1x4x64_S8x4096x1x4x64
/-- The logits, `⊥` outside the band. -/
def logits (x : FVec Ideal S32768x768 .bf16) (tab : FVec Ideal S32x12 .f32) : FVec Ideal S8x1x4x4096x4096 .f32 :=
  select (broadcastInDim S8x1x4x4096x4096 ![3, 4] bcast_S4096x4096_S8x1x4x4096x4096_3_4 near)
    (addf (Host.dotGeneral dot_S8x4096x1x4x64_S8x4096x1x4x64_S8x1x4x4096x4096_4_4_1_1_023_023 none (queries x) (keys x))
      (broadcastInDim S8x1x4x4096x4096 ![0, 1, 2, 3, 4] bcast_S1x1x4x4096x4096_S8x1x4x4096x4096_0_1_2_3_4 (broadcastInDim S1x1x4x4096x4096 ![2, 3, 4] bcast_S4x4096x4096_S1x1x4x4096x4096_2_3_4 (pairBias tab))))
    (broadcastInDim S8x1x4x4096x4096 ![] bcast_S_S8x1x4x4096x4096 (id (constant S_ .f32 0xFF800000#32)))
/-- The largest logit of every query. -/
def tops (s : FVec Ideal S8x1x4x4096x4096 .f32) : FVec Ideal S8x1x4x4096 .f32 :=
  Host.reduce FloatOps.maximumf s (constant S_ .f32 0xFF800000#32) reducesTo_S8x1x4x4096x4096_S8x1x4x4096_d4 h_S_
/-- The keys' weights. -/
def weights (s : FVec Ideal S8x1x4x4096x4096 .f32) : FVec Ideal S8x1x4x4096x4096 .f32 :=
  Host.exp (subf s (broadcastInDim S8x1x4x4096x4096 ![0, 1, 2, 3, 4] bcast_S8x1x4x4096x1_S8x1x4x4096x4096_0_1_2_3_4 (broadcastInDim S8x1x4x4096x1 ![0, 1, 2, 3] bcast_S8x1x4x4096_S8x1x4x4096x1_0_1_2_3 (tops s))))
/-- The softmax denominators. -/
def dens (s : FVec Ideal S8x1x4x4096x4096 .f32) : FVec Ideal S8x1x4x4096 .f32 :=
  Host.reduceAdd (weights s) (constant S_ .f32 0x00000000#32) reducesTo_S8x1x4x4096x4096_S8x1x4x4096_d4 h_S_
/-- The weighted values, the batch, residue and head before the lane. -/
def mixed (x : FVec Ideal S32768x768 .bf16) (s : FVec Ideal S8x1x4x4096x4096 .f32) : FVec Ideal S8x1x4x64x4096 .f32 :=
  Host.dotGeneral dot_S8x4096x1x4x64_S8x1x4x4096x4096_S8x1x4x64x4096_1_4_4_3_023_012 none (values x) (weights s)
/-- The output from the weighted values and the denominators. -/
def outOf (w : FVec Ideal S8x1x4x64x4096 .f32) (d : FVec Ideal S8x1x4x4096 .f32) : FVec Ideal S8x4096x256 .bf16 :=
  truncf .bf16 (shapeCast _ (Host.divf (transpose S8x4096x1x4x64 [0, 4, 1, 2, 3] w transposes_S8x1x4x64x4096_S8x4096x1x4x64_0_4_1_2_3)
    (broadcastInDim S8x4096x1x4x64 ![0, 1, 2, 3, 4] bcast_S8x4096x1x4x1_S8x4096x1x4x64_0_1_2_3_4 (broadcastInDim S8x4096x1x4x1 ![0, 1, 2, 3] bcast_S8x4096x1x4_S8x4096x1x4x1_0_1_2_3
      (transpose S8x4096x1x4 [0, 3, 1, 2] d transposes_S8x1x4x4096_S8x4096x1x4_0_3_1_2)))) shapeCasts_S8x4096x1x4x64_S8x4096x256) bitsLt_bf16_f32
/-- The log of the denominators, for every lane of a head. -/
def lseOf (t d : FVec Ideal S8x1x4x4096 .f32) : FVec Ideal S8x4096x256 .f32 :=
  shapeCast _ (broadcastInDim S8x4096x1x4x64 ![0, 1, 2, 3, 4] bcast_S8x4096x1x4x1_S8x4096x1x4x64_0_1_2_3_4 (broadcastInDim S8x4096x1x4x1 ![0, 1, 2, 3] bcast_S8x4096x1x4_S8x4096x1x4x1_0_1_2_3
    (transpose S8x4096x1x4 [0, 3, 1, 2] (addf t (Host.log d)) transposes_S8x1x4x4096_S8x4096x1x4_0_3_1_2))) shapeCasts_S8x4096x1x4x64_S8x4096x256

section
variable (m : (ℓ : Loc nD τ sig) → Buf (Elt Ideal) ℓ)

theorem out_res (c : Dev nD) (x : FVec Ideal S32768x768 .bf16) (tab : FVec Ideal S32x12 .f32)
    (hx : m ((c : Thread nD τ).loc main_arg0) = x) (ht : m ((c : Thread nD τ).loc main_arg1) = tab) :
    res_out0 m c = outOf (mixed x (logits x tab)) (dens (logits x tab)) := by
  unfold res_out0 res_main_v56
  rw [hx, ht]
  rfl

theorem lse_res (c : Dev nD) (x : FVec Ideal S32768x768 .bf16) (tab : FVec Ideal S32x12 .f32)
    (hx : m ((c : Thread nD τ).loc main_arg0) = x) (ht : m ((c : Thread nD τ).loc main_arg1) = tab) :
    res_out1 m c = lseOf (tops (logits x tab)) (dens (logits x tab)) := by
  unfold res_out1 res_main_v57
  rw [hx, ht]
  rfl
end

theorem queries_apply (x : FVec Ideal S32768x768 .bf16) (b : Fin 8) (a : Fin 4096) (r : Fin 1) (h : Fin 4) (d : Fin 64) :
    queries x (ix5 b a r h d) = rows x b.val a.val (r.val * 768 + h.val * 64 + d.val) * Ideal.ofBits .f32 0x3E000000#32 := by
  obtain rfl : r = 0 := Subsingleton.elim _ _
  pointwise [queries]
  refine congrArg (· * Ideal.ofBits .f32 0x3E000000#32) ?_
  refine (at2_eq (n0 := 32768) (n1 := 768) x _ _).trans (congrArg₂ (at2 (n0 := 32768) (n1 := 768) x) rfl ?_)
  first | (dsimp only; done) | (dsimp only; omega)

theorem keys_apply (x : FVec Ideal S32768x768 .bf16) (b : Fin 8) (a : Fin 4096) (r : Fin 1) (h : Fin 4) (d : Fin 64) :
    keys x (ix5 b a r h d) = rows x b.val a.val (r.val * 768 + 256 + h.val * 64 + d.val) := by
  obtain rfl : r = 0 := Subsingleton.elim _ _
  pointwise [keys]
  refine (at2_eq (n0 := 32768) (n1 := 768) x _ _).trans (congrArg₂ (at2 (n0 := 32768) (n1 := 768) x) rfl ?_)
  first | (dsimp only; done) | (dsimp only; omega)

theorem values_apply (x : FVec Ideal S32768x768 .bf16) (b : Fin 8) (a : Fin 4096) (r : Fin 1) (h : Fin 4) (d : Fin 64) :
    values x (ix5 b a r h d) = rows x b.val a.val (r.val * 768 + 512 + (h.val * 64 + d.val)) := by
  obtain rfl : r = 0 := Subsingleton.elim _ _
  pointwise [values]
  refine (at2_eq (n0 := 32768) (n1 := 768) x _ _).trans (congrArg₂ (at2 (n0 := 32768) (n1 := 768) x) rfl ?_)
  first | (dsimp only; done) | (dsimp only; omega)

theorem near_apply (i j : Fin 4096) : near (ix2 i j) = if i.val ≤ j.val + 64 ∧ j.val ≤ i.val + 64 then 1#1 else 0#1 := by
  pointwise [near, dist]
  exact nearWord_band i.val j.val (by omega) (by omega)

theorem offsets_apply (i j : Fin 4096) : offsets (ix2 i j) = offsetWord (BitVec.ofNat 32 j.val - BitVec.ofNat 32 i.val + 64#32) := by
  pointwise [offsets, clipped, dist]
  rfl

theorem buckets : ∀ k : Fin 129, lit0 k = BitVec.ofNat 32 (bucket k.val) ∧ bucket k.val < 32 := by decide +kernel

theorem position (p : Fin 129) : S129.rowMajor (ix1 p) = p := Fin.ext (Shape.rowMajor_val_one _)

theorem headBias_apply (tab : FVec Ideal S32x12 .f32) (k : Fin 129) (h : Fin 4) : headBias tab (ix2 k h) = bias tab h.val k.val := by
  pointwise [headBias]
  refine (Routing.gather_row gather_S32x12_S129x1_S129x12_1_0_n_n_0_1_112 rfl rfl rfl rfl rfl tab _ k _
    ⟨bucket k.val, (buckets k).2⟩ ?_ (by norm_num)).trans ?_
  · pointwise
    show lit0 (S129.rowMajor (ix1 k)) = _
    rw [position]
    exact (buckets k).1
  · refine (at2_eq (n0 := 32) (n1 := 12) tab _ _).trans ?_
    show _ = at2 (n0 := 32) (n1 := 12) tab (bucket k.val) (0 + h.val)
    exact congrArg₂ (at2 (n0 := 32) (n1 := 12) tab) rfl (by first | rfl | (dsimp only; omega))

/-- The bias of a pair of positions in the band. -/
theorem pairBias_apply (tab : FVec Ideal S32x12 .f32) (h : Fin 4) (i j : Fin 4096) (hb : i.val ≤ j.val + 64 ∧ j.val ≤ i.val + 64) :
    pairBias tab (ix3 h i j) = bias tab h.val (j.val + 64 - i.val) := by
  pointwise [pairBias]
  refine (square_apply (N := 129) (C := 4) (L := 4096) gather_S129x4_S4096x4096x1_S4096x4096x4_2_0_n_n_0_2_14_wf (headBias tab) _ i j h
    ⟨j.val + 64 - i.val, by omega⟩ ?_ (by norm_num)).trans (headBias_apply tab _ h)
  pointwise
  exact (offsets_apply i j).trans (offsetWord_band i.val j.val (by omega) (by omega) hb)

/-- The logits are the sequence's. -/
theorem logits_apply (x : FVec Ideal S32768x768 .bf16) (tab : FVec Ideal S32x12 .f32) (b : Fin 8) (r : Fin 1) (h : Fin 4) (i j : Fin 4096) :
    logits x tab (ix5 b r h i j)
      = seqLogits 4096 (rows x b.val) (bias tab h.val) (r.val * 768 + h.val * 64) (r.val * 768 + 256 + h.val * 64) i.val j := by
  have hp : logits x tab (ix5 b r h i j) = Scalar.select (near (ix2 i j))
      (∑ d : Fin 64, queries x (ix5 b i r h d) * keys x (ix5 b j r h d) + pairBias tab (ix3 h i j))
      (id (constant (F := Ideal) S_ FTy.f32 0xFF800000#32) ix0) := by pointwise [logits]
  rw [hp]
  unfold seqLogits
  rw [near_apply]
  by_cases hb : i.val ≤ j.val + 64 ∧ j.val ≤ i.val + 64
  · rw [if_pos hb, if_pos hb]
    refine Eq.trans rfl (congrArg₂ (· + ·) (Finset.sum_congr rfl fun d _ => ?_) (pairBias_apply tab h i j hb))
    exact congrArg₂ (· * ·) (queries_apply x b i r h d) (keys_apply x b j r h d)
  · rw [if_neg hb, if_neg hb]
    exact Head.neg_inf

theorem tops_apply (s : FVec Ideal S8x1x4x4096x4096 .f32) (b : Fin 8) (r : Fin 1) (h : Fin 4) (i : Fin 4096) :
    tops s (ix4 b r h i) = topLogit fun j => s (ix5 b r h i j) := by
  obtain rfl : r = 0 := Subsingleton.elim _ _
  pointwise [tops]
  rw [Head.neg_inf]
  rfl

theorem weights_apply (s : FVec Ideal S8x1x4x4096x4096 .f32) (b : Fin 8) (r : Fin 1) (h : Fin 4) (i j : Fin 4096) :
    weights s (ix5 b r h i j) = keyWeight (fun j => s (ix5 b r h i j)) j := by
  obtain rfl : r = 0 := Subsingleton.elim _ _
  pointwise [weights]
  rw [tops_apply]
  rfl

theorem dens_apply (s : FVec Ideal S8x1x4x4096x4096 .f32) (b : Fin 8) (r : Fin 1) (h : Fin 4) (i : Fin 4096) :
    dens s (ix4 b r h i) = rowDen fun j => s (ix5 b r h i j) := by
  obtain rfl : r = 0 := Subsingleton.elim _ _
  pointwise [dens]
  exact Finset.sum_congr rfl fun j _ => weights_apply s b _ h i j

theorem mixed_apply (x : FVec Ideal S32768x768 .bf16) (s : FVec Ideal S8x1x4x4096x4096 .f32) (b : Fin 8) (r : Fin 1) (h : Fin 4) (d : Fin 64) (i : Fin 4096) :
    mixed x s (ix5 b r h d i)
      = ∑ j : Fin 4096, keyWeight (fun j => s (ix5 b r h i j)) j * rows x b.val j.val (r.val * 768 + 512 + (h.val * 64 + d.val)) := by
  have hp : mixed x s (ix5 b r h d i) = ∑ j : Fin 4096, values x (ix5 b j r h d) * weights s (ix5 b r h i j) := by pointwise [mixed]
  refine hp.trans ?_
  refine Finset.sum_congr rfl fun j _ => ?_
  exact (congrArg₂ (· * ·) (values_apply x b j r h d) (weights_apply s b r h i j)).trans (mul_comm _ _)

theorem outOf_apply (w : FVec Ideal S8x1x4x64x4096 .f32) (d : FVec Ideal S8x1x4x4096 .f32) (b : Fin 8) (i : Fin 4096) (l : Fin 256) :
    outOf w d (ix3 b i l) = Ideal.div (w (ix5 b ⟨l.val / 256, by omega⟩ ⟨l.val % 256 / 64, by omega⟩ ⟨l.val % 64, by omega⟩ i))
      (d (ix4 b ⟨l.val / 256, by omega⟩ ⟨l.val % 256 / 64, by omega⟩ i)) := by
  pointwise [outOf]
  refine congrArg₂ Ideal.div (congrArg w ?_) (congrArg d ?_) <;> blk_ext

theorem lseOf_apply (t d : FVec Ideal S8x1x4x4096 .f32) (b : Fin 8) (i : Fin 4096) (l : Fin 256) :
    lseOf t d (ix3 b i l) = t (ix4 b ⟨l.val / 256, by omega⟩ ⟨l.val % 256 / 64, by omega⟩ i)
      + Ideal.log (d (ix4 b ⟨l.val / 256, by omega⟩ ⟨l.val % 256 / 64, by omega⟩ i)) := by
  pointwise [lseOf]
  refine congrArg₂ (fun a b => a + Ideal.log b) (congrArg t ?_) (congrArg d ?_) <;> blk_ext

section
variable (m : (ℓ : Loc nD τ sig) → Buf (Elt Ideal) ℓ)

/-- The output, over the whole sequence. -/
theorem out_apply (c : Dev nD) (x : FVec Ideal S32768x768 .bf16) (tab : FVec Ideal S32x12 .f32)
    (hx : m ((c : Thread nD τ).loc main_arg0) = x) (ht : m ((c : Thread nD τ).loc main_arg1) = tab)
    (b : Fin 8) (i : Fin 4096) (l : Fin 256) :
    res_out0 m c (ix3 b i l) = seqOut 4096 (rows x b.val) (bias tab) i.val l.val := by
  have hl := l.isLt
  refine (congrFun (out_res m c x tab hx ht) (ix3 b i l)).trans ((outOf_apply _ _ b i l).trans ?_)
  rw [mixed_apply, dens_apply, funext fun j => logits_apply x tab b ⟨l.val / 256, by omega⟩ ⟨l.val % 256 / 64, by omega⟩ i j]
  unfold seqOut rowOut seqLaneLogits
  have e : l.val % 256 / 64 * 64 + l.val % 64 = l.val % 256 := by omega
  dsimp only
  rw [e]

/-- The log of the denominator, over the whole sequence. -/
theorem lse_apply (c : Dev nD) (x : FVec Ideal S32768x768 .bf16) (tab : FVec Ideal S32x12 .f32)
    (hx : m ((c : Thread nD τ).loc main_arg0) = x) (ht : m ((c : Thread nD τ).loc main_arg1) = tab)
    (b : Fin 8) (i : Fin 4096) (l : Fin 256) :
    res_out1 m c (ix3 b i l) = seqLse 4096 (rows x b.val) (bias tab) i.val l.val := by
  have hl := l.isLt
  refine (congrFun (lse_res m c x tab hx ht) (ix3 b i l)).trans ((lseOf_apply _ _ b i l).trans ?_)
  rw [tops_apply, dens_apply, funext fun j => logits_apply x tab b ⟨l.val / 256, by omega⟩ ⟨l.val % 256 / 64, by omega⟩ i j]
  rfl

end

end Cert.Layer.Band1Reference

end
-- ==== Proof.Layer.Band4Block.lean ====
/-
  What the block of dilation 4 leaves in its two outputs: every stored tile of every trip is the windowed softmax of the block's own rows, so the
  outputs are, whole, that function of the block loaded.
-/
module

public import proofs.«01_k».proof.Proof.Gen.Band4Ideal.Value
public import proofs.«01_k».proof.Proof.Layer.BandHead
public import proofs.«01_k».proof.Proof.Layer.BandLoad
public import Idealize.ShloMosaic.Lib.Writes

@[expose] public section

set_option maxRecDepth 65536

noncomputable section

open Idealize.ShloMosaic Idealize.ShloMosaic.TcCoe Idealize.SL.Sem
open Idealize.ShloMosaic.Pipeline (Dat)

namespace Cert.Layer.Band4Block

open Cert.Band4Ideal Cert.Band4Ideal.Gen Cert.Layer Cert.Layer.Head

/-- Where block `r`'s tiles start in trip `k`: queries, keys and values, the heads' bias tables, and the stores. -/
theorem offs : ∀ (k : Fin k0_t1_loop.trips) (r : Fin 2),
    k0_off1 k (BitVec.ofNat 32 (128 * r.val)) = ![0, 256 * k.val + 128 * r.val, 0 * 768]
    ∧ k0_off2 k (BitVec.ofNat 32 (128 * r.val)) = ![0, winStart 1024 (256 * k.val + 128 * r.val), 0 * 768 + 256]
    ∧ k0_off3 k (BitVec.ofNat 32 (128 * r.val)) = ![0, winStart 1024 (256 * k.val + 128 * r.val), 0 * 768 + 512]
    ∧ k0_off4 k (BitVec.ofNat 32 (128 * r.val)) = ![0, 256 * k.val + 128 * r.val, 1 * 768]
    ∧ k0_off5 k (BitVec.ofNat 32 (128 * r.val)) = ![0, winStart 1024 (256 * k.val + 128 * r.val), 1 * 768 + 256]
    ∧ k0_off6 k (BitVec.ofNat 32 (128 * r.val)) = ![0, winStart 1024 (256 * k.val + 128 * r.val), 1 * 768 + 512]
    ∧ k0_off7 k (BitVec.ofNat 32 (128 * r.val)) = ![((256 * k.val + 128 * r.val) - winStart 1024 (256 * k.val + 128 * r.val)) / 64, 0, 0, 0]
    ∧ k0_off8 k (BitVec.ofNat 32 (128 * r.val)) = ![((256 * k.val + 128 * r.val) - winStart 1024 (256 * k.val + 128 * r.val)) / 64, 1, 0, 0]
    ∧ k0_off9 k (BitVec.ofNat 32 (128 * r.val)) = ![((256 * k.val + 128 * r.val) - winStart 1024 (256 * k.val + 128 * r.val)) / 64, 2, 0, 0]
    ∧ k0_off10 k (BitVec.ofNat 32 (128 * r.val)) = ![((256 * k.val + 128 * r.val) - winStart 1024 (256 * k.val + 128 * r.val)) / 64, 3, 0, 0]
    ∧ k0_off11 k (BitVec.ofNat 32 (128 * r.val)) = ![0, 256 * k.val + 128 * r.val, (0 * 256)]
    ∧ k0_off12 k (BitVec.ofNat 32 (128 * r.val)) = ![0, 256 * k.val + 128 * r.val, (0 * 256 + 128)]
    ∧ k0_off13 k (BitVec.ofNat 32 (128 * r.val)) = ![0, 256 * k.val + 128 * r.val, (1 * 256)]
    ∧ k0_off14 k (BitVec.ofNat 32 (128 * r.val)) = ![0, 256 * k.val + 128 * r.val, (1 * 256 + 128)] := by decide +kernel

section

variable (arg2 : Memref sig .tc .vmem S1x1024x1536 .bf16) (harg2 : arg2.IsWhole) (arg3 : Memref sig .tc .vmem S3x4x128x256 .f32) (harg3 : arg3.IsWhole)
variable (x0 : FVec Ideal S1x1024x1536 .bf16) (x1 : FVec Ideal S3x4x128x256 .f32) (k : Fin k0_t1_loop.trips) (r : Fin 2)

/-- The tiles block `r` loads: queries, keys and values of each residue, -/
def qT0 : FVec Ideal S1x128x256 .bf16 := View.readAt (Elt Ideal) arg2.view (Rect.unit (s := S1x1024x1536) (k0_off1 k (BitVec.ofNat 32 (128 * r.val))) S1x128x256.size (k0_off1_inb k r)).toLoadRect (harg2.unread x0)
def kT0 : FVec Ideal S1x256x256 .bf16 := View.readAt (Elt Ideal) arg2.view (Rect.unit (s := S1x1024x1536) (k0_off2 k (BitVec.ofNat 32 (128 * r.val))) S1x256x256.size (k0_off2_inb k r)).toLoadRect (harg2.unread x0)
def vT0 : FVec Ideal S1x256x256 .bf16 := View.readAt (Elt Ideal) arg2.view (Rect.unit (s := S1x1024x1536) (k0_off3 k (BitVec.ofNat 32 (128 * r.val))) S1x256x256.size (k0_off3_inb k r)).toLoadRect (harg2.unread x0)
def qT1 : FVec Ideal S1x128x256 .bf16 := View.readAt (Elt Ideal) arg2.view (Rect.unit (s := S1x1024x1536) (k0_off4 k (BitVec.ofNat 32 (128 * r.val))) S1x128x256.size (k0_off4_inb k r)).toLoadRect (harg2.unread x0)
def kT1 : FVec Ideal S1x256x256 .bf16 := View.readAt (Elt Ideal) arg2.view (Rect.unit (s := S1x1024x1536) (k0_off5 k (BitVec.ofNat 32 (128 * r.val))) S1x256x256.size (k0_off5_inb k r)).toLoadRect (harg2.unread x0)
def vT1 : FVec Ideal S1x256x256 .bf16 := View.readAt (Elt Ideal) arg2.view (Rect.unit (s := S1x1024x1536) (k0_off6 k (BitVec.ofNat 32 (128 * r.val))) S1x256x256.size (k0_off6_inb k r)).toLoadRect (harg2.unread x0)
/-- and the four heads' bias tables. -/
def bT0 : FVec Ideal S1x1x128x256 .f32 := View.readAt (Elt Ideal) arg3.view (Rect.unit (s := S3x4x128x256) (k0_off7 k (BitVec.ofNat 32 (128 * r.val))) S1x1x128x256.size (k0_off7_inb k r)).toLoadRect (harg3.unread x1)
def bT1 : FVec Ideal S1x1x128x256 .f32 := View.readAt (Elt Ideal) arg3.view (Rect.unit (s := S3x4x128x256) (k0_off8 k (BitVec.ofNat 32 (128 * r.val))) S1x1x128x256.size (k0_off8_inb k r)).toLoadRect (harg3.unread x1)
def bT2 : FVec Ideal S1x1x128x256 .f32 := View.readAt (Elt Ideal) arg3.view (Rect.unit (s := S3x4x128x256) (k0_off9 k (BitVec.ofNat 32 (128 * r.val))) S1x1x128x256.size (k0_off9_inb k r)).toLoadRect (harg3.unread x1)
def bT3 : FVec Ideal S1x1x128x256 .f32 := View.readAt (Elt Ideal) arg3.view (Rect.unit (s := S3x4x128x256) (k0_off10 k (BitVec.ofNat 32 (128 * r.val))) S1x1x128x256.size (k0_off10_inb k r)).toLoadRect (harg3.unread x1)
theorem qT0_apply (a : Fin 128) (l : Fin 256) : qT0 arg2 harg2 x0 k r (ix3 0 a l) = at3 x0 0 (256 * k.val + 128 * r.val + a.val) (0 * 768 + l.val) :=
  load3 arg2 harg2 x0 _ (256 * k.val + 128 * r.val) (0 * 768) (offs k r).1 _ a l

theorem kT0_apply (a : Fin 256) (l : Fin 256) : kT0 arg2 harg2 x0 k r (ix3 0 a l) = at3 x0 0 (winStart 1024 (256 * k.val + 128 * r.val) + a.val) (0 * 768 + 256 + l.val) :=
  load3 arg2 harg2 x0 _ (winStart 1024 (256 * k.val + 128 * r.val)) (0 * 768 + 256) (offs k r).2.1 _ a l

theorem vT0_apply (a : Fin 256) (l : Fin 256) : vT0 arg2 harg2 x0 k r (ix3 0 a l) = at3 x0 0 (winStart 1024 (256 * k.val + 128 * r.val) + a.val) (0 * 768 + 512 + l.val) :=
  load3 arg2 harg2 x0 _ (winStart 1024 (256 * k.val + 128 * r.val)) (0 * 768 + 512) (offs k r).2.2.1 _ a l

theorem qT1_apply (a : Fin 128) (l : Fin 256) : qT1 arg2 harg2 x0 k r (ix3 0 a l) = at3 x0 0 (256 * k.val + 128 * r.val + a.val) (1 * 768 + l.val) :=
  load3 arg2 harg2 x0 _ (256 * k.val + 128 * r.val) (1 * 768) (offs k r).2.2.2.1 _ a l

theorem kT1_apply (a : Fin 256) (l : Fin 256) : kT1 arg2 harg2 x0 k r (ix3 0 a l) = at3 x0 0 (winStart 1024 (256 * k.val + 128 * r.val) + a.val) (1 * 768 + 256 + l.val) :=
  load3 arg2 harg2 x0 _ (winStart 1024 (256 * k.val + 128 * r.val)) (1 * 768 + 256) (offs k r).2.2.2.2.1 _ a l

theorem vT1_apply (a : Fin 256) (l : Fin 256) : vT1 arg2 harg2 x0 k r (ix3 0 a l) = at3 x0 0 (winStart 1024 (256 * k.val + 128 * r.val) + a.val) (1 * 768 + 512 + l.val) :=
  load3 arg2 harg2 x0 _ (winStart 1024 (256 * k.val + 128 * r.val)) (1 * 768 + 512) (offs k r).2.2.2.2.2.1 _ a l

theorem bT0_apply (a : Fin 128) (l : Fin 256) : bT0 arg3 harg3 x1 k r (ix4 0 0 a l) = at4 x1 (((256 * k.val + 128 * r.val) - winStart 1024 (256 * k.val + 128 * r.val)) / 64) 0 a.val l.val :=
  load4 arg3 harg3 x1 _ (((256 * k.val + 128 * r.val) - winStart 1024 (256 * k.val + 128 * r.val)) / 64) 0 (offs k r).2.2.2.2.2.2.1 _ a l

theorem bT1_apply (a : Fin 128) (l : Fin 256) : bT1 arg3 harg3 x1 k r (ix4 0 0 a l) = at4 x1 (((256 * k.val + 128 * r.val) - winStart 1024 (256 * k.val + 128 * r.val)) / 64) 1 a.val l.val :=
  load4 arg3 harg3 x1 _ (((256 * k.val + 128 * r.val) - winStart 1024 (256 * k.val + 128 * r.val)) / 64) 1 (offs k r).2.2.2.2.2.2.2.1 _ a l

theorem bT2_apply (a : Fin 128) (l : Fin 256) : bT2 arg3 harg3 x1 k r (ix4 0 0 a l) = at4 x1 (((256 * k.val + 128 * r.val) - winStart 1024 (256 * k.val + 128 * r.val)) / 64) 2 a.val l.val :=
  load4 arg3 harg3 x1 _ (((256 * k.val + 128 * r.val) - winStart 1024 (256 * k.val + 128 * r.val)) / 64) 2 (offs k r).2.2.2.2.2.2.2.2.1 _ a l

theorem bT3_apply (a : Fin 128) (l : Fin 256) : bT3 arg3 harg3 x1 k r (ix4 0 0 a l) = at4 x1 (((256 * k.val + 128 * r.val) - winStart 1024 (256 * k.val + 128 * r.val)) / 64) 3 a.val l.val :=
  load4 arg3 harg3 x1 _ (((256 * k.val + 128 * r.val) - winStart 1024 (256 * k.val + 128 * r.val)) / 64) 3 (offs k r).2.2.2.2.2.2.2.2.2.1 _ a l

/-- The outputs of the first two heads of residue 0, where they are stored. -/
theorem outLow0 (z : S1x128x128.Idx) : outLow (qT0 arg2 harg2 x0 k r) (kT0 arg2 harg2 x0 k r) (vT0 arg2 harg2 x0 k r) (bT0 arg3 harg3 x1 k r) (bT1 arg3 harg3 x1 k r) z
    = blockOut 1024 (at3 x0 0) (at4 x1) ((Rect.unit (s := S1x1024x512) (k0_off11 k (BitVec.ofNat 32 (128 * r.val))) S1x128x128.size (k0_off11_inb k r)).emb z 1).val
        ((Rect.unit (s := S1x1024x512) (k0_off11 k (BitVec.ofNat 32 (128 * r.val))) S1x128x128.size (k0_off11_inb k r)).emb z 2).val := by
  idx_vars z
  obtain rfl : z0 = 0 := Subsingleton.elim _ _
  refine (outLow_block (qT0 arg2 harg2 x0 k r) (kT0 arg2 harg2 x0 k r) (vT0 arg2 harg2 x0 k r) (bT0 arg3 harg3 x1 k r) (bT1 arg3 harg3 x1 k r) 1024 (at3 x0 0) (at4 x1) (256 * k.val + 128 * r.val) 0 (by omega)
      (qT0_apply arg2 harg2 x0 k r)
      (kT0_apply arg2 harg2 x0 k r)
      (vT0_apply arg2 harg2 x0 k r)
      (bT0_apply arg3 harg3 x1 k r)
      (bT1_apply arg3 harg3 x1 k r) z1 z2).trans ?_
  exact congrArg₂ (blockOut 1024 (at3 x0 0) (at4 x1)) (emb_row _ (256 * k.val + 128 * r.val) (0 * 256) (offs k r).2.2.2.2.2.2.2.2.2.2.1 _ z1 z2)
    (emb_lane _ (256 * k.val + 128 * r.val) (0 * 256) (offs k r).2.2.2.2.2.2.2.2.2.2.1 _ z1 z2)

/-- The logs of the denominators of the first two heads of residue 0, where they are stored. -/
theorem lseLow0 (z : S1x128x128.Idx) : lseLow (qT0 arg2 harg2 x0 k r) (kT0 arg2 harg2 x0 k r) (bT0 arg3 harg3 x1 k r) (bT1 arg3 harg3 x1 k r) z
    = blockLse 1024 (at3 x0 0) (at4 x1) ((Rect.unit (s := S1x1024x512) (k0_off11 k (BitVec.ofNat 32 (128 * r.val))) S1x128x128.size (k0_off11_inb k r)).emb z 1).val
        ((Rect.unit (s := S1x1024x512) (k0_off11 k (BitVec.ofNat 32 (128 * r.val))) S1x128x128.size (k0_off11_inb k r)).emb z 2).val := by
  idx_vars z
  obtain rfl : z0 = 0 := Subsingleton.elim _ _
  refine (lseLow_block (qT0 arg2 harg2 x0 k r) (kT0 arg2 harg2 x0 k r) (bT0 arg3 harg3 x1 k r) (bT1 arg3 harg3 x1 k r) 1024 (at3 x0 0) (at4 x1) (256 * k.val + 128 * r.val) 0 (by omega)
      (qT0_apply arg2 harg2 x0 k r)
      (kT0_apply arg2 harg2 x0 k r)
      (bT0_apply arg3 harg3 x1 k r)
      (bT1_apply arg3 harg3 x1 k r) z1 z2).trans ?_
  exact congrArg₂ (blockLse 1024 (at3 x0 0) (at4 x1)) (emb_row _ (256 * k.val + 128 * r.val) (0 * 256) (offs k r).2.2.2.2.2.2.2.2.2.2.1 _ z1 z2)
    (emb_lane _ (256 * k.val + 128 * r.val) (0 * 256) (offs k r).2.2.2.2.2.2.2.2.2.2.1 _ z1 z2)

/-- The outputs of the last two heads of residue 0, where they are stored. -/
theorem outHigh0 (z : S1x128x128.Idx) : outHigh (qT0 arg2 harg2 x0 k r) (kT0 arg2 harg2 x0 k r) (vT0 arg2 harg2 x0 k r) (bT2 arg3 harg3 x1 k r) (bT3 arg3 harg3 x1 k r) z
    = blockOut 1024 (at3 x0 0) (at4 x1) ((Rect.unit (s := S1x1024x512) (k0_off12 k (BitVec.ofNat 32 (128 * r.val))) S1x128x128.size (k0_off12_inb k r)).emb z 1).val
        ((Rect.unit (s := S1x1024x512) (k0_off12 k (BitVec.ofNat 32 (128 * r.val))) S1x128x128.size (k0_off12_inb k r)).emb z 2).val := by
  idx_vars z
  obtain rfl : z0 = 0 := Subsingleton.elim _ _
  refine (outHigh_block (qT0 arg2 harg2 x0 k r) (kT0 arg2 harg2 x0 k r) (vT0 arg2 harg2 x0 k r) (bT2 arg3 harg3 x1 k r) (bT3 arg3 harg3 x1 k r) 1024 (at3 x0 0) (at4 x1) (256 * k.val + 128 * r.val) 0 (by omega)
      (qT0_apply arg2 harg2 x0 k r)
      (kT0_apply arg2 harg2 x0 k r)
      (vT0_apply arg2 harg2 x0 k r)
      (bT2_apply arg3 harg3 x1 k r)
      (bT3_apply arg3 harg3 x1 k r) z1 z2).trans ?_
  exact congrArg₂ (blockOut 1024 (at3 x0 0) (at4 x1)) (emb_row _ (256 * k.val + 128 * r.val) (0 * 256 + 128) (offs k r).2.2.2.2.2.2.2.2.2.2.2.1 _ z1 z2)
    (emb_lane _ (256 * k.val + 128 * r.val) (0 * 256 + 128) (offs k r).2.2.2.2.2.2.2.2.2.2.2.1 _ z1 z2)

/-- The logs of the denominators of the last two heads of residue 0, where they are stored. -/
theorem lseHigh0 (z : S1x128x128.Idx) : lseHigh (qT0 arg2 harg2 x0 k r) (kT0 arg2 harg2 x0 k r) (bT2 arg3 harg3 x1 k r) (bT3 arg3 harg3 x1 k r) z
    = blockLse 1024 (at3 x0 0) (at4 x1) ((Rect.unit (s := S1x1024x512) (k0_off12 k (BitVec.ofNat 32 (128 * r.val))) S1x128x128.size (k0_off12_inb k r)).emb z 1).val
        ((Rect.unit (s := S1x1024x512) (k0_off12 k (BitVec.ofNat 32 (128 * r.val))) S1x128x128.size (k0_off12_inb k r)).emb z 2).val := by
  idx_vars z
  obtain rfl : z0 = 0 := Subsingleton.elim _ _
  refine (lseHigh_block (qT0 arg2 harg2 x0 k r) (kT0 arg2 harg2 x0 k r) (bT2 arg3 harg3 x1 k r) (bT3 arg3 harg3 x1 k r) 1024 (at3 x0 0) (at4 x1) (256 * k.val + 128 * r.val) 0 (by omega)
      (qT0_apply arg2 harg2 x0 k r)
      (kT0_apply arg2 harg2 x0 k r)
      (bT2_apply arg3 harg3 x1 k r)
      (bT3_apply arg3 harg3 x1 k r) z1 z2).trans ?_
  exact congrArg₂ (blockLse 1024 (at3 x0 0) (at4 x1)) (emb_row _ (256 * k.val + 128 * r.val) (0 * 256 + 128) (offs k r).2.2.2.2.2.2.2.2.2.2.2.1 _ z1 z2)
    (emb_lane _ (256 * k.val + 128 * r.val) (0 * 256 + 128) (offs k r).2.2.2.2.2.2.2.2.2.2.2.1 _ z1 z2)

/-- The outputs of the first two heads of residue 1, where they are stored. -/
theorem outLow1 (z : S1x128x128.Idx) : outLow (qT1 arg2 harg2 x0 k r) (kT1 arg2 harg2 x0 k r) (vT1 arg2 harg2 x0 k r) (bT0 arg3 harg3 x1 k r) (bT1 arg3 harg3 x1 k r) z
    = blockOut 1024 (at3 x0 0) (at4 x1) ((Rect.unit (s := S1x1024x512) (k0_off13 k (BitVec.ofNat 32 (128 * r.val))) S1x128x128.size (k0_off13_inb k r)).emb z 1).val
        ((Rect.unit (s := S1x1024x512) (k0_off13 k (BitVec.ofNat 32 (128 * r.val))) S1x128x128.size (k0_off13_inb k r)).emb z 2).val := by
  idx_vars z
  obtain rfl : z0 = 0 := Subsingleton.elim _ _
  refine (outLow_block (qT1 arg2 harg2 x0 k r) (kT1 arg2 harg2 x0 k r) (vT1 arg2 harg2 x0 k r) (bT0 arg3 harg3 x1 k r) (bT1 arg3 harg3 x1 k r) 1024 (at3 x0 0) (at4 x1) (256 * k.val + 128 * r.val) 1 (by omega)
      (qT1_apply arg2 harg2 x0 k r)
      (kT1_apply arg2 harg2 x0 k r)
      (vT1_apply arg2 harg2 x0 k r)
      (bT0_apply arg3 harg3 x1 k r)
      (bT1_apply arg3 harg3 x1 k r) z1 z2).trans ?_
  exact congrArg₂ (blockOut 1024 (at3 x0 0) (at4 x1)) (emb_row _ (256 * k.val + 128 * r.val) (1 * 256) (offs k r).2.2.2.2.2.2.2.2.2.2.2.2.1 _ z1 z2)
    (emb_lane _ (256 * k.val + 128 * r.val) (1 * 256) (offs k r).2.2.2.2.2.2.2.2.2.2.2.2.1 _ z1 z2)

/-- The logs of the denominators of the first two heads of residue 1, where they are stored. -/
theorem lseLow1 (z : S1x128x128.Idx) : lseLow (qT1 arg2 harg2 x0 k r) (kT1 arg2 harg2 x0 k r) (bT0 arg3 harg3 x1 k r) (bT1 arg3 harg3 x1 k r) z
    = blockLse 1024 (at3 x0 0) (at4 x1) ((Rect.unit (s := S1x1024x512) (k0_off13 k (BitVec.ofNat 32 (128 * r.val))) S1x128x128.size (k0_off13_inb k r)).emb z 1).val
        ((Rect.unit (s := S1x1024x512) (k0_off13 k (BitVec.ofNat 32 (128 * r.val))) S1x128x128.size (k0_off13_inb k r)).emb z 2).val := by
  idx_vars z
  obtain rfl : z0 = 0 := Subsingleton.elim _ _
  refine (lseLow_block (qT1 arg2 harg2 x0 k r) (kT1 arg2 harg2 x0 k r) (bT0 arg3 harg3 x1 k r) (bT1 arg3 harg3 x1 k r) 1024 (at3 x0 0) (at4 x1) (256 * k.val + 128 * r.val) 1 (by omega)
      (qT1_apply arg2 harg2 x0 k r)
      (kT1_apply arg2 harg2 x0 k r)
      (bT0_apply arg3 harg3 x1 k r)
      (bT1_apply arg3 harg3 x1 k r) z1 z2).trans ?_
  exact congrArg₂ (blockLse 1024 (at3 x0 0) (at4 x1)) (emb_row _ (256 * k.val + 128 * r.val) (1 * 256) (offs k r).2.2.2.2.2.2.2.2.2.2.2.2.1 _ z1 z2)
    (emb_lane _ (256 * k.val + 128 * r.val) (1 * 256) (offs k r).2.2.2.2.2.2.2.2.2.2.2.2.1 _ z1 z2)

/-- The outputs of the last two heads of residue 1, where they are stored. -/
theorem outHigh1 (z : S1x128x128.Idx) : outHigh (qT1 arg2 harg2 x0 k r) (kT1 arg2 harg2 x0 k r) (vT1 arg2 harg2 x0 k r) (bT2 arg3 harg3 x1 k r) (bT3 arg3 harg3 x1 k r) z
    = blockOut 1024 (at3 x0 0) (at4 x1) ((Rect.unit (s := S1x1024x512) (k0_off14 k (BitVec.ofNat 32 (128 * r.val))) S1x128x128.size (k0_off14_inb k r)).emb z 1).val
        ((Rect.unit (s := S1x1024x512) (k0_off14 k (BitVec.ofNat 32 (128 * r.val))) S1x128x128.size (k0_off14_inb k r)).emb z 2).val := by
  idx_vars z
  obtain rfl : z0 = 0 := Subsingleton.elim _ _
  refine (outHigh_block (qT1 arg2 harg2 x0 k r) (kT1 arg2 harg2 x0 k r) (vT1 arg2 harg2 x0 k r) (bT2 arg3 harg3 x1 k r) (bT3 arg3 harg3 x1 k r) 1024 (at3 x0 0) (at4 x1) (256 * k.val + 128 * r.val) 1 (by omega)
      (qT1_apply arg2 harg2 x0 k r)
      (kT1_apply arg2 harg2 x0 k r)
      (vT1_apply arg2 harg2 x0 k r)
      (bT2_apply arg3 harg3 x1 k r)
      (bT3_apply arg3 harg3 x1 k r) z1 z2).trans ?_
  exact congrArg₂ (blockOut 1024 (at3 x0 0) (at4 x1)) (emb_row _ (256 * k.val + 128 * r.val) (1 * 256 + 128) (offs k r).2.2.2.2.2.2.2.2.2.2.2.2.2 _ z1 z2)
    (emb_lane _ (256 * k.val + 128 * r.val) (1 * 256 + 128) (offs k r).2.2.2.2.2.2.2.2.2.2.2.2.2 _ z1 z2)

/-- The logs of the denominators of the last two heads of residue 1, where they are stored. -/
theorem lseHigh1 (z : S1x128x128.Idx) : lseHigh (qT1 arg2 harg2 x0 k r) (kT1 arg2 harg2 x0 k r) (bT2 arg3 harg3 x1 k r) (bT3 arg3 harg3 x1 k r) z
    = blockLse 1024 (at3 x0 0) (at4 x1) ((Rect.unit (s := S1x1024x512) (k0_off14 k (BitVec.ofNat 32 (128 * r.val))) S1x128x128.size (k0_off14_inb k r)).emb z 1).val
        ((Rect.unit (s := S1x1024x512) (k0_off14 k (BitVec.ofNat 32 (128 * r.val))) S1x128x128.size (k0_off14_inb k r)).emb z 2).val := by
  idx_vars z
  obtain rfl : z0 = 0 := Subsingleton.elim _ _
  refine (lseHigh_block (qT1 arg2 harg2 x0 k r) (kT1 arg2 harg2 x0 k r) (bT2 arg3 harg3 x1 k r) (bT3 arg3 harg3 x1 k r) 1024 (at3 x0 0) (at4 x1) (256 * k.val + 128 * r.val) 1 (by omega)
      (qT1_apply arg2 harg2 x0 k r)
      (kT1_apply arg2 harg2 x0 k r)
      (bT2_apply arg3 harg3 x1 k r)
      (bT3_apply arg3 harg3 x1 k r) z1 z2).trans ?_
  exact congrArg₂ (blockLse 1024 (at3 x0 0) (at4 x1)) (emb_row _ (256 * k.val + 128 * r.val) (1 * 256 + 128) (offs k r).2.2.2.2.2.2.2.2.2.2.2.2.2 _ z1 z2)
    (emb_lane _ (256 * k.val + 128 * r.val) (1 * 256 + 128) (offs k r).2.2.2.2.2.2.2.2.2.2.2.2.2 _ z1 z2)

end

/-- The outputs as one array over the block. -/
def outG (x0 : FVec Ideal S1x1024x1536 .bf16) (x1 : FVec Ideal S3x4x128x256 .f32) : FVec Ideal S1x1024x512 .bf16 :=
  fun y => blockOut 1024 (at3 x0 0) (at4 x1) (y 1).val (y 2).val

/-- The output tiles one trip stores. -/
theorem out_trip (𝒱 : Variants) (c : Dev nD) (bd : Option 𝒱.V) (i : grid0.Coords) (arg2 : Memref sig .tc .vmem S1x1024x1536 .bf16) (harg2 : arg2.IsWhole) (arg3 : Memref sig .tc .vmem S3x4x128x256 .f32) (harg3 : arg3.IsWhole)
    (arg4 : Memref sig .tc .vmem S1x1024x512 .bf16) (harg4 : arg4.IsWhole) (arg5 : Memref sig .tc .vmem S1x1024x512 .f32) (harg5 : arg5.IsWhole)
    (x0 : FVec Ideal S1x1024x1536 .bf16) (x1 : FVec Ideal S3x4x128x256 .f32) (k : Fin k0_t1_loop.trips) :
    View.PiecesOf (outG x0 x1)
      (trip_k0_t1 (F := Ideal) 𝒱 c bd i arg2 harg2 arg3 harg3 arg4 harg4 arg5 harg5 (harg2.unread x0) (harg3.unread x1) k).1 := by
  unfold trip_k0_t1
  dsimp only
  exact ⟨fun z => outHigh1 arg2 harg2 arg3 harg3 x0 x1 k 1 z,
    fun z => outLow1 arg2 harg2 arg3 harg3 x0 x1 k 1 z,
    fun z => outHigh1 arg2 harg2 arg3 harg3 x0 x1 k 0 z,
    fun z => outLow1 arg2 harg2 arg3 harg3 x0 x1 k 0 z,
    fun z => outHigh0 arg2 harg2 arg3 harg3 x0 x1 k 1 z,
    fun z => outLow0 arg2 harg2 arg3 harg3 x0 x1 k 1 z,
    fun z => outHigh0 arg2 harg2 arg3 harg3 x0 x1 k 0 z,
    fun z => outLow0 arg2 harg2 arg3 harg3 x0 x1 k 0 z, trivial⟩

/-- The output tiles the first `n` trips store. -/
theorem out_trips (c : Dev nD) (i : grid0.Coords) (arg2 : Memref sig .tc .vmem S1x1024x1536 .bf16) (harg2 : arg2.IsWhole) (arg3 : Memref sig .tc .vmem S3x4x128x256 .f32) (harg3 : arg3.IsWhole)
    (arg4 : Memref sig .tc .vmem S1x1024x512 .bf16) (harg4 : arg4.IsWhole) (arg5 : Memref sig .tc .vmem S1x1024x512 .f32) (harg5 : arg5.IsWhole)
    (x0 : FVec Ideal S1x1024x1536 .bf16) (x1 : FVec Ideal S3x4x128x256 .f32) : ∀ (n : ℕ) (hn : n ≤ k0_t1_loop.trips),
    View.PiecesOf (outG x0 x1)
      (pb_k0_t1 (F := Ideal) Variants.none c none i arg2 harg2 arg3 harg3 arg4 harg4 arg5 harg5 (harg2.unread x0) (harg3.unread x1) n).1
  | 0, _ => trivial
  | n + 1, hn => by
    have h := pb_k0_t1_succ (F := Ideal) Variants.none c none i arg2 harg2 arg3 harg3 arg4 harg4 arg5 harg5 (harg2.unread x0) (harg3.unread x1) ⟨n, hn⟩
    rw [show n + 1 = (⟨n, hn⟩ : Fin k0_t1_loop.trips).val + 1 from rfl, h]
    exact piecesOf_append _ _ _ (out_trip _ c _ i arg2 harg2 arg3 harg3 arg4 harg4 arg5 harg5 x0 x1 ⟨n, hn⟩) (out_trips c i arg2 harg2 arg3 harg3 arg4 harg4 arg5 harg5 x0 x1 n (Nat.le_of_succ_le hn))

/-- The output tiles the body stores. -/
theorem out_body (c : Dev nD) (i : grid0.Coords) (arg2 : Memref sig .tc .vmem S1x1024x1536 .bf16) (harg2 : arg2.IsWhole) (arg3 : Memref sig .tc .vmem S3x4x128x256 .f32) (harg3 : arg3.IsWhole)
    (arg4 : Memref sig .tc .vmem S1x1024x512 .bf16) (harg4 : arg4.IsWhole) (arg5 : Memref sig .tc .vmem S1x1024x512 .f32) (harg5 : arg5.IsWhole)
    (x0 : FVec Ideal S1x1024x1536 .bf16) (x1 : FVec Ideal S3x4x128x256 .f32) :
    View.PiecesOf (outG x0 x1)
      (kernelRun0_A (F := Ideal) c i arg2 harg2 arg3 harg3 arg4 harg4 arg5 harg5 x0 x1).1 := by
  unfold kernelRun0_A
  dsimp only
  exact out_trips c i arg2 harg2 arg3 harg3 arg4 harg4 arg5 harg5 x0 x1 _ k0_t1_abs.2.1

/-- The output block, whole. -/
theorem out_eq (c : Dev nD) (i : grid0.Coords) (arg2 : Memref sig .tc .vmem S1x1024x1536 .bf16) (harg2 : arg2.IsWhole) (arg3 : Memref sig .tc .vmem S3x4x128x256 .f32) (harg3 : arg3.IsWhole)
    (arg4 : Memref sig .tc .vmem S1x1024x512 .bf16) (harg4 : arg4.IsWhole) (arg5 : Memref sig .tc .vmem S1x1024x512 .f32) (harg5 : arg5.IsWhole)
    (x0 : FVec Ideal S1x1024x1536 .bf16) (x1 : FVec Ideal S3x4x128x256 .f32) (y : S1x1024x512.Idx) :
    out0_A_2 (F := Ideal) c i arg2 harg2 arg3 harg3 arg4 harg4 arg5 harg5 x0 x1 y = outG x0 x1 y := by
  unfold out0_A_2
  exact View.read_writes_apply_of_pieces VO0_2 VO0_2.junk (outG x0 x1) _
    (fun p hp => View.PiecesOf.mem (out_body c i arg2 harg2 arg3 harg3 arg4 harg4 arg5 harg5 x0 x1) p hp) y
    (cover0_A_2 (F := Ideal) c i arg2 harg2 arg3 harg3 arg4 harg4 arg5 harg5 x0 x1 y)

/-- The logs as one array over the block. -/
def lseG (x0 : FVec Ideal S1x1024x1536 .bf16) (x1 : FVec Ideal S3x4x128x256 .f32) : FVec Ideal S1x1024x512 .f32 :=
  fun y => blockLse 1024 (at3 x0 0) (at4 x1) (y 1).val (y 2).val

/-- The log tiles one trip stores. -/
theorem lse_trip (𝒱 : Variants) (c : Dev nD) (bd : Option 𝒱.V) (i : grid0.Coords) (arg2 : Memref sig .tc .vmem S1x1024x1536 .bf16) (harg2 : arg2.IsWhole) (arg3 : Memref sig .tc .vmem S3x4x128x256 .f32) (harg3 : arg3.IsWhole)
    (arg4 : Memref sig .tc .vmem S1x1024x512 .bf16) (harg4 : arg4.IsWhole) (arg5 : Memref sig .tc .vmem S1x1024x512 .f32) (harg5 : arg5.IsWhole)
    (x0 : FVec Ideal S1x1024x1536 .bf16) (x1 : FVec Ideal S3x4x128x256 .f32) (k : Fin k0_t1_loop.trips) :
    View.PiecesOf (lseG x0 x1)
      (trip_k0_t1 (F := Ideal) 𝒱 c bd i arg2 harg2 arg3 harg3 arg4 harg4 arg5 harg5 (harg2.unread x0) (harg3.unread x1) k).2.1 := by
  unfold trip_k0_t1
  dsimp only
  exact ⟨fun z => lseHigh1 arg2 harg2 arg3 harg3 x0 x1 k 1 z,
    fun z => lseLow1 arg2 harg2 arg3 harg3 x0 x1 k 1 z,
    fun z => lseHigh1 arg2 harg2 arg3 harg3 x0 x1 k 0 z,
    fun z => lseLow1 arg2 harg2 arg3 harg3 x0 x1 k 0 z,
    fun z => lseHigh0 arg2 harg2 arg3 harg3 x0 x1 k 1 z,
    fun z => lseLow0 arg2 harg2 arg3 harg3 x0 x1 k 1 z,
    fun z => lseHigh0 arg2 harg2 arg3 harg3 x0 x1 k 0 z,
    fun z => lseLow0 arg2 harg2 arg3 harg3 x0 x1 k 0 z, trivial⟩

/-- The log tiles the first `n` trips store. -/
theorem lse_trips (c : Dev nD) (i : grid0.Coords) (arg2 : Memref sig .tc .vmem S1x1024x1536 .bf16) (harg2 : arg2.IsWhole) (arg3 : Memref sig .tc .vmem S3x4x128x256 .f32) (harg3 : arg3.IsWhole)
    (arg4 : Memref sig .tc .vmem S1x1024x512 .bf16) (harg4 : arg4.IsWhole) (arg5 : Memref sig .tc .vmem S1x1024x512 .f32) (harg5 : arg5.IsWhole)
    (x0 : FVec Ideal S1x1024x1536 .bf16) (x1 : FVec Ideal S3x4x128x256 .f32) : ∀ (n : ℕ) (hn : n ≤ k0_t1_loop.trips),
    View.PiecesOf (lseG x0 x1)
      (pb_k0_t1 (F := Ideal) Variants.none c none i arg2 harg2 arg3 harg3 arg4 harg4 arg5 harg5 (harg2.unread x0) (harg3.unread x1) n).2
  | 0, _ => trivial
  | n + 1, hn => by
    have h := pb_k0_t1_succ (F := Ideal) Variants.none c none i arg2 harg2 arg3 harg3 arg4 harg4 arg5 harg5 (harg2.unread x0) (harg3.unread x1) ⟨n, hn⟩
    rw [show n + 1 = (⟨n, hn⟩ : Fin k0_t1_loop.trips).val + 1 from rfl, h]
    exact piecesOf_append _ _ _ (lse_trip _ c _ i arg2 harg2 arg3 harg3 arg4 harg4 arg5 harg5 x0 x1 ⟨n, hn⟩) (lse_trips c i arg2 harg2 arg3 harg3 arg4 harg4 arg5 harg5 x0 x1 n (Nat.le_of_succ_le hn))

/-- The log tiles the body stores. -/
theorem lse_body (c : Dev nD) (i : grid0.Coords) (arg2 : Memref sig .tc .vmem S1x1024x1536 .bf16) (harg2 : arg2.IsWhole) (arg3 : Memref sig .tc .vmem S3x4x128x256 .f32) (harg3 : arg3.IsWhole)
    (arg4 : Memref sig .tc .vmem S1x1024x512 .bf16) (harg4 : arg4.IsWhole) (arg5 : Memref sig .tc .vmem S1x1024x512 .f32) (harg5 : arg5.IsWhole)
    (x0 : FVec Ideal S1x1024x1536 .bf16) (x1 : FVec Ideal S3x4x128x256 .f32) :
    View.PiecesOf (lseG x0 x1)
      (kernelRun0_A (F := Ideal) c i arg2 harg2 arg3 harg3 arg4 harg4 arg5 harg5 x0 x1).2.1 := by
  unfold kernelRun0_A
  dsimp only
  exact lse_trips c i arg2 harg2 arg3 harg3 arg4 harg4 arg5 harg5 x0 x1 _ k0_t1_abs.2.1

/-- The log block, whole. -/
theorem lse_eq (c : Dev nD) (i : grid0.Coords) (arg2 : Memref sig .tc .vmem S1x1024x1536 .bf16) (harg2 : arg2.IsWhole) (arg3 : Memref sig .tc .vmem S3x4x128x256 .f32) (harg3 : arg3.IsWhole)
    (arg4 : Memref sig .tc .vmem S1x1024x512 .bf16) (harg4 : arg4.IsWhole) (arg5 : Memref sig .tc .vmem S1x1024x512 .f32) (harg5 : arg5.IsWhole)
    (x0 : FVec Ideal S1x1024x1536 .bf16) (x1 : FVec Ideal S3x4x128x256 .f32) (y : S1x1024x512.Idx) :
    out0_A_3 (F := Ideal) c i arg2 harg2 arg3 harg3 arg4 harg4 arg5 harg5 x0 x1 y = lseG x0 x1 y := by
  unfold out0_A_3
  exact View.read_writes_apply_of_pieces VO0_3 VO0_3.junk (lseG x0 x1) _
    (fun p hp => View.PiecesOf.mem (lse_body c i arg2 harg2 arg3 harg3 arg4 harg4 arg5 harg5 x0 x1) p hp) y
    (cover0_A_3 (F := Ideal) c i arg2 harg2 arg3 harg3 arg4 harg4 arg5 harg5 x0 x1 y)

end Cert.Layer.Band4Block

end
-- ==== Proof.Layer.Band4Table.lean ====
/-
  The bias tables of dilation 4, which the host builds before the kernel: variant, head, query and key to the bias of the
  distance inside the band and `⊥` outside.
-/
module

public import proofs.«01_k».proof.Proof.Gen.Band4Ideal.Value
public import proofs.«01_k».proof.Proof.Gen.Band4RefIdeal.Run
public import proofs.«01_k».proof.Proof.Layer.BandWindow
public import proofs.«01_k».proof.Proof.Layer.BandHead
public import Idealize.ShloMosaic.Lib.Pointwise
public import Idealize.ShloMosaic.Lib.StableHlo.ReadAt
public import Idealize.ShloMosaic.Lib.Routing.Ops

@[expose] public section

set_option maxRecDepth 65536

noncomputable section

open Idealize.ShloMosaic Idealize.ShloMosaic.TcCoe Idealize.SL.Sem

namespace Cert.Layer.Band4Table

open Cert.Band4Ideal Cert.Band4Ideal.Gen Cert.Layer Cert.Layer.Head

/-- The bucket of distance `j - 64`, as the reference lists them. -/
def bucket (j : ℕ) : ℕ := if h : j < 129 then (Cert.Band4RefIdeal.lit0 ⟨j, h⟩).toNat else 0

/-- The bias of a head at distance `j - 64`. -/
def bias (tab : FVec Ideal S32x12 .f32) (h j : ℕ) : EReal := at2 (n0 := 32) (n1 := 12) tab (bucket j) (4 + h)

/-- Where the skewed row of a variant lies in the band. -/
abbrev band (v p : ℕ) : Prop := 127 + 64 * v ≤ p + 64 ∧ p ≤ 127 + 64 * v + 64

theorem mask0 : ∀ p : Fin 384, lit1 p = if band 0 p.val then 1#1 else 0#1 := by decide +kernel

theorem words0 : ∀ p : Fin 384, (lit0 p).toNat < 32
    ∧ (band 0 p.val → (lit0 p).toNat = bucket (p.val + 64 - (127 + 64 * 0))) := by decide +kernel

theorem mask1 : ∀ p : Fin 384, lit3 p = if band 1 p.val then 1#1 else 0#1 := by decide +kernel

theorem words1 : ∀ p : Fin 384, (lit2 p).toNat < 32
    ∧ (band 1 p.val → (lit2 p).toNat = bucket (p.val + 64 - (127 + 64 * 1))) := by decide +kernel

theorem mask2 : ∀ p : Fin 384, lit5 p = if band 2 p.val then 1#1 else 0#1 := by decide +kernel

theorem words2 : ∀ p : Fin 384, (lit4 p).toNat < 32
    ∧ (band 2 p.val → (lit4 p).toNat = bucket (p.val + 64 - (127 + 64 * 2))) := by decide +kernel

theorem position (p : Fin 384) : S384.rowMajor (ix1 p) = p := Fin.ext (Shape.rowMajor_val_one _)

/-- A table of biases by variant, head, query and key. -/
def tableAt (f : ℕ → ℕ → EReal) (v h r l : ℕ) : EReal :=
  if r + 64 * v ≤ l + 64 ∧ l ≤ r + 64 * v + 64 then f h (l + 64 - (r + 64 * v)) else ⊥

/-- One entry of a variant's skewed row: the gathered bias inside the band, `⊥` outside. -/
theorem entry (v : ℕ) (mask : Fin 384 → BitVec 1) (words : Fin 384 → BitVec 32)
    (hm : ∀ p : Fin 384, mask p = if band v p.val then 1#1 else 0#1)
    (hw : ∀ p : Fin 384, (words p).toNat < 32 ∧ (band v p.val → (words p).toNat = bucket (p.val + 64 - (127 + 64 * v))))
    (tab : FVec Ideal S32x12 .f32) (X : IVec S384 32) (p : Fin 384) (col : Fin 12) (h r l : ℕ)
    (hp : p.val = 127 + l - r) (hr : r < 128) (hc : col.val = 4 + h) :
    Scalar.select (mask (S384.rowMajor (ix1 p)))
      (Host.gather gather_S32x12_S384x1_S384x12_1_0_n_n_0_1_112 tab (broadcastInDim S384x1 ![0] bcast_S384_S384x1_0
        (select (constantI S384 1 0#1) X (fun i => words (S384.rowMajor i)))) (ix2 p col))
      (id (constant (F := Ideal) S_ FTy.f32 0xFF800000#32) ix0)
    = tableAt (bias tab) v h r l := by
  rw [position, hm p]
  unfold tableAt
  by_cases hb : r + 64 * v ≤ l + 64 ∧ l ≤ r + 64 * v + 64
  · have hb' : band v p.val := by rw [hp]; unfold band; omega
    rw [if_pos hb, if_pos hb']
    refine (Routing.gather_row gather_S32x12_S384x1_S384x12_1_0_n_n_0_1_112 rfl rfl rfl rfl rfl tab _ p col
      ⟨(words p).toNat, (hw p).1⟩ ?_ (by norm_num)).trans ?_
    · pointwise
      show words (S384.rowMajor (ix1 p)) = _
      rw [position]
      simp
    · refine (at2_eq (n0 := 32) (n1 := 12) tab ⟨(words p).toNat, (hw p).1⟩ col).trans ?_
      refine congrArg₂ (at2 (n0 := 32) (n1 := 12) tab) (((hw p).2 hb').trans (congrArg bucket ?_)) hc
      rw [hp]
      omega
  · have hb' : ¬ band v p.val := by rw [hp]; unfold band; omega
    rw [if_neg hb, if_neg hb']
    exact neg_inf

variable (m : (ℓ : Loc nD τ sig) → Buf (Elt Ideal) ℓ)

set_option maxHeartbeats 1000000 in
/-- The table of variant 0. -/
theorem table0 (c : Dev nD) (h : Fin 4) (r : Fin 128) (l : Fin 256) :
    V m c main_v48 (ix4 0 h r l) = tableAt (bias (m ((c : Thread nD τ).loc main_arg1))) 0 h.val r.val l.val := by
  have hr := r.isLt
  have hl := l.isLt
  unfold V
  after_reads_at
  after_reads_at
  exact entry 0 lit1 lit0 mask0 words0 (m ((c : Thread nD τ).loc main_arg1))
    (addi (fun i => lit0 (S384.rowMajor i)) (broadcastInDim S384 ![] bcast_S_S384 (constantI S_ 32 32#32)))
    ⟨(r.val * 383 + (127 + l.val)) % 384, by omega⟩ ⟨4 + h.val, by omega⟩ h.val r.val l.val (by dsimp only; omega) hr
    (by dsimp only)

set_option maxHeartbeats 1000000 in
/-- The table of variant 1. -/
theorem table1 (c : Dev nD) (h : Fin 4) (r : Fin 128) (l : Fin 256) :
    V m c main_v48 (ix4 1 h r l) = tableAt (bias (m ((c : Thread nD τ).loc main_arg1))) 1 h.val r.val l.val := by
  have hr := r.isLt
  have hl := l.isLt
  unfold V
  after_reads_at
  after_reads_at
  exact entry 1 lit3 lit2 mask1 words1 (m ((c : Thread nD τ).loc main_arg1))
    (addi (fun i => lit2 (S384.rowMajor i)) (broadcastInDim S384 ![] bcast_S_S384 (constantI S_ 32 32#32)))
    ⟨(r.val * 383 + (127 + l.val)) % 384, by omega⟩ ⟨4 + h.val, by omega⟩ h.val r.val l.val (by dsimp only; omega) hr
    (by dsimp only)

set_option maxHeartbeats 1000000 in
/-- The table of variant 2. -/
theorem table2 (c : Dev nD) (h : Fin 4) (r : Fin 128) (l : Fin 256) :
    V m c main_v48 (ix4 2 h r l) = tableAt (bias (m ((c : Thread nD τ).loc main_arg1))) 2 h.val r.val l.val := by
  have hr := r.isLt
  have hl := l.isLt
  unfold V
  after_reads_at
  after_reads_at
  exact entry 2 lit5 lit4 mask2 words2 (m ((c : Thread nD τ).loc main_arg1))
    (addi (fun i => lit4 (S384.rowMajor i)) (broadcastInDim S384 ![] bcast_S_S384 (constantI S_ 32 32#32)))
    ⟨(r.val * 383 + (127 + l.val)) % 384, by omega⟩ ⟨4 + h.val, by omega⟩ h.val r.val l.val (by dsimp only; omega) hr
    (by dsimp only)

/-- The stacked tables. -/
theorem table (c : Dev nD) : ∀ (v : Fin 3) (h : Fin 4) (r : Fin 128) (l : Fin 256),
    V m c main_v48 (ix4 v h r l) = tableAt (bias (m ((c : Thread nD τ).loc main_arg1))) v.val h.val r.val l.val
  | 0, h, r, l => table0 m c h r l
  | 1, h, r, l => table1 m c h r l
  | 2, h, r, l => table2 m c h r l

end Cert.Layer.Band4Table

end
-- ==== Proof.Layer.Band4Value.lean ====
/-
  The result arrays of the banded attention of dilation 4: the output and the log of the denominator over the whole
  sequences, as functions of the arguments.
-/
module

public import proofs.«01_k».proof.Proof.Gen.Band4Ideal.Value
public import proofs.«01_k».proof.Proof.Layer.Band4Block
public import proofs.«01_k».proof.Proof.Layer.Band4Table
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Layer.Band4Value

open Cert.Band4Ideal Cert.Band4Ideal.Gen Cert.Layer Cert.Layer.Band4Block Cert.Layer.Band4Table

/-- Where each window's block sits: the sequence and, in it, the residues' lanes move with the point, the tables are whole. -/
theorem idx : ∀ t : Fin cfg0.N, win0_0.index t = ![t.val / 2, 0, t.val % 2] ∧ win0_1.index t = ![0, 0, 0, 0]
    ∧ win0_2.index t = ![t.val / 2, 0, t.val % 2] ∧ win0_3.index t = ![t.val / 2, 0, t.val % 2] :=
  (by decide +kernel : ∀ t : Fin grid0.N, _)

/-- The rows of sequence `b` of the queries, keys and values. -/
def rows (x : FVec Ideal S8192x3072 .bf16) (b a l : ℕ) : EReal := at2 (n0 := 8192) (n1 := 3072) x (b * 1024 + a) l

/-- The output array as a function of the arguments. -/
def outArr (x : FVec Ideal S8192x3072 .bf16) (tab : FVec Ideal S32x12 .f32) : FVec Ideal S8x1024x1024 .bf16 := fun i =>
  seqOut 1024 (rows x (i 0).val) (bias tab) (i 1).val (i 2).val

/-- The log of the denominators as a function of the arguments. -/
def lseArr (x : FVec Ideal S8192x3072 .bf16) (tab : FVec Ideal S32x12 .f32) : FVec Ideal S8x1024x1024 .f32 := fun i =>
  seqLse 1024 (rows x (i 0).val) (bias tab) (i 1).val (i 2).val

variable (m : (ℓ : Loc nD τ sig) → Buf (Elt Ideal) ℓ)

/-- The host's array of the sequences, read from the argument. -/
theorem sequences (c : Dev nD) (b : Fin 8) (a : Fin 1024) (l : Fin 3072) :
    V m c main_v49 (ix3 b a l) = m ((c : Thread nD τ).loc main_arg0) (ix2 ⟨b.val * 1024 + a.val, by omega⟩ l) := by
  unfold V
  after_reads_at <;> blk_ext!

/-- A point's block of the queries, keys and values, read from the argument. -/
theorem block_rows (c : Dev nD) (t : Fin cfg0.N) (a l : ℕ) (ha : a < 1024) (hl : l < 1536) :
    at3 (n0 := 1) (n1 := 1024) (n2 := 1536) (iblk m c 0 t) 0 a l
      = rows (m ((c : Thread nD τ).loc main_arg0)) (t.val / 2) a (t.val % 2 * 1536 + l) := by
  have ht : t.val < 16 := lt_of_lt_of_eq t.isLt (by decide +kernel)
  refine (at3_eq (n0 := 1) (n1 := 1024) (n2 := 1536) (iblk m c 0 t) 0 ⟨a, ha⟩ ⟨l, hl⟩).symm.trans ?_
  refine Eq.trans (b := V m c main_v49 (ix3 ⟨t.val / 2, by omega⟩ ⟨a, ha⟩ ⟨t.val % 2 * 1536 + l, by omega⟩)) (by blk_point [iblk, idx t]) ?_
  refine (sequences m c ⟨t.val / 2, by omega⟩ ⟨a, ha⟩ ⟨t.val % 2 * 1536 + l, by omega⟩).trans ?_
  exact (at2_eq (n0 := 8192) (n1 := 3072) (m ((c : Thread nD τ).loc main_arg0)) ⟨(t.val / 2) * 1024 + a, by omega⟩ ⟨t.val % 2 * 1536 + l, by omega⟩)

/-- A point's block of the tables, read from the host's array. -/
theorem block_table (c : Dev nD) (t : Fin cfg0.N) (v h r l : ℕ) (hv : v < 3) (hh : h < 4) (hr : r < 128) (hl : l < 256) :
    at4 (n0 := 3) (n1 := 4) (n2 := 128) (n3 := 256) (iblk m c 1 t) v h r l = tableAt (bias (m ((c : Thread nD τ).loc main_arg1))) v h r l := by
  refine (at4_eq (n0 := 3) (n1 := 4) (n2 := 128) (n3 := 256) (iblk m c 1 t) ⟨v, hv⟩ ⟨h, hh⟩ ⟨r, hr⟩ ⟨l, hl⟩).symm.trans ?_
  refine Eq.trans ?_ (table m c ⟨v, hv⟩ ⟨h, hh⟩ ⟨r, hr⟩ ⟨l, hl⟩)
  blk_point [iblk, idx t]

/-- The output array after the run. -/
theorem out_final (c : Dev nD) : (dats m 0 c).arrAt 2 cfg0.N
    = outArr (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  idx_vars y
  obtain rfl : y0 = 0 := Subsingleton.elim _ _
  have ht : t.val < 16 := lt_of_lt_of_eq t.isLt (by decide +kernel)
  refine (out_eq c (grid0.coords t) (ms0_0 t) (hs0_0 t) (ms0_1 t) (hs0_1 t) (ms0_2 t) (hs0_2 t) (ms0_3 t) (hs0_3 t)
    (iblk m c 0 t) (iblk m c 1 t) _).trans ?_
  have e0 : ((((cfg0.win 2).blk t).view.emb (ix3 0 y1 y2)) 0).val = t.val / 2 := by blk_simp [idx t] <;> first | rfl | omega
  have e1 : ((((cfg0.win 2).blk t).view.emb (ix3 0 y1 y2)) 1).val = y1.val := by blk_simp [idx t] <;> first | rfl | omega
  have e2 : ((((cfg0.win 2).blk t).view.emb (ix3 0 y1 y2)) 2).val = t.val % 2 * 512 + y2.val := by blk_simp [idx t] <;> first | rfl | omega
  refine (blockOut_eq 1024 _ (bias (m ((c : Thread nD τ).loc main_arg1))) (by norm_num) (by norm_num) y1.val y2.val y1.isLt _
    fun v h r l hv hh hr hl => block_table m c t v h r l hv hh hr hl).trans ?_
  refine (seqOut_shift 1024 _ (rows (m ((c : Thread nD τ).loc main_arg0)) (t.val / 2)) _ 2 (t.val % 2) y1.val y2.val y1.isLt y2.isLt
    fun a l ha hl => block_rows m c t a l ha hl).trans ?_
  refine Eq.symm ?_
  show seqOut 1024 (rows (m ((c : Thread nD τ).loc main_arg0)) ((((cfg0.win 2).blk t).view.emb (ix3 0 y1 y2)) 0).val) (bias (m ((c : Thread nD τ).loc main_arg1)))
    ((((cfg0.win 2).blk t).view.emb (ix3 0 y1 y2)) 1).val ((((cfg0.win 2).blk t).view.emb (ix3 0 y1 y2)) 2).val = _
  rw [e0, e1, e2]

/-- The log-denominator array after the run. -/
theorem lse_final (c : Dev nD) : (dats m 0 c).arrAt 3 cfg0.N
    = lseArr (m ((c : Thread nD τ).loc main_arg0)) (m ((c : Thread nD τ).loc main_arg1)) := by
  refine (dats m 0 c).arrAt_eq_of_covers 3 _ (by decide +kernel) fun t _ y => ?_
  blk_simp
  rw [after0_3]
  unfold outsAt0
  idx_vars y
  obtain rfl : y0 = 0 := Subsingleton.elim _ _
  have ht : t.val < 16 := lt_of_lt_of_eq t.isLt (by decide +kernel)
  refine (lse_eq c (grid0.coords t) (ms0_0 t) (hs0_0 t) (ms0_1 t) (hs0_1 t) (ms0_2 t) (hs0_2 t) (ms0_3 t) (hs0_3 t)
    (iblk m c 0 t) (iblk m c 1 t) _).trans ?_
  have e0 : ((((cfg0.win 3).blk t).view.emb (ix3 0 y1 y2)) 0).val = t.val / 2 := by blk_simp [idx t] <;> first | rfl | omega
  have e1 : ((((cfg0.win 3).blk t).view.emb (ix3 0 y1 y2)) 1).val = y1.val := by blk_simp [idx t] <;> first | rfl | omega
  have e2 : ((((cfg0.win 3).blk t).view.emb (ix3 0 y1 y2)) 2).val = t.val % 2 * 512 + y2.val := by blk_simp [idx t] <;> first | rfl | omega
  refine (blockLse_eq 1024 _ (bias (m ((c : Thread nD τ).loc main_arg1))) (by norm_num) (by norm_num) y1.val y2.val y1.isLt _
    fun v h r l hv hh hr hl => block_table m c t v h r l hv hh hr hl).trans ?_
  refine (seqLse_shift 1024 _ (rows (m ((c : Thread nD τ).loc main_arg0)) (t.val / 2)) _ 2 (t.val % 2) y1.val y2.val y1.isLt y2.isLt
    fun a l ha hl => block_rows m c t a l ha hl).trans ?_
  refine Eq.symm ?_
  show seqLse 1024 (rows (m ((c : Thread nD τ).loc main_arg0)) ((((cfg0.win 3).blk t).view.emb (ix3 0 y1 y2)) 0).val) (bias (m ((c : Thread nD τ).loc main_arg1)))
    ((((cfg0.win 3).blk t).view.emb (ix3 0 y1 y2)) 1).val ((((cfg0.win 3).blk t).view.emb (ix3 0 y1 y2)) 2).val = _
  rw [e0, e1, e2]

end Cert.Layer.Band4Value

end
-- ==== Proof.Layer.Band4Reference.lean ====
/-
  The reference of the banded attention of dilation 4, read index by index: the output and the log of the denominator over
  the whole sequences, as functions of the arguments.
-/
module

public import proofs.«01_k».proof.Proof.Gen.Band4RefIdeal.Run
public import proofs.«01_k».proof.Proof.Layer.Band4Table
public import proofs.«01_k».proof.Proof.Layer.BandGather
public import proofs.«01_k».proof.Proof.Layer.BandHead
public import Idealize.ShloMosaic.Lib.Pipeline.ValueKit

@[expose] public section

set_option maxRecDepth 16384

noncomputable section

open Idealize.ShloMosaic Idealize.ShloMosaic.TcCoe Idealize.SL.Sem

namespace Cert.Layer.Band4Reference

open Cert.Band4RefIdeal Cert.Band4RefIdeal.Gen Cert.Band4RefIdeal.Value Cert.Layer Cert.Layer.Band4Table

/-- The rows of sequence `b` of the queries, keys and values. -/
def rows (x : FVec Ideal S8192x3072 .bf16) (b a l : ℕ) : EReal := at2 (n0 := 8192) (n1 := 3072) x (b * 1024 + a) l

/-- Key position minus query position. -/
def dist : IVec S1024x1024 32 := subi (iotaInDim S1024x1024 32 1) (iotaInDim S1024x1024 32 0)
/-- The distance clipped to the band. -/
def clipped : IVec S1024x1024 32 :=
  minsi (broadcastInDim S1024x1024 ![] bcast_S_S1024x1024 (id (constantI S_ 32 128#32)))
    (maxsi (broadcastInDim S1024x1024 ![] bcast_S_S1024x1024 (id (constantI S_ 32 0#32)))
      (addi dist (broadcastInDim S1024x1024 ![] bcast_S_S1024x1024 (constantI S_ 32 64#32))))
/-- The row of the bias table for every pair of positions. -/
def offsets : IVec S1024x1024 32 :=
  select (cmpi .slt clipped (broadcastInDim S1024x1024 ![] bcast_S_S1024x1024 (constantI S_ 32 0#32)))
    (addi clipped (broadcastInDim S1024x1024 ![] bcast_S_S1024x1024 (constantI S_ 32 129#32))) clipped
/-- Which pairs lie in the band. -/
def near : IVec S1024x1024 1 := cmpi .sle (absi dist) (broadcastInDim S1024x1024 ![] bcast_S_S1024x1024 (constantI S_ 32 64#32))
/-- The bias by distance of the heads of this dilation. -/
def headBias (tab : FVec Ideal S32x12 .f32) : FVec Ideal S129x4 .f32 :=
  extractStridedSlice S129x4 ![0, 4] (Host.gather gather_S32x12_S129x1_S129x12_1_0_n_n_0_1_112 tab
    (broadcastInDim S129x1 ![0] bcast_S129_S129x1_0 (select (constantI S129 1 0#1)
      (addi (fun i => lit0 (S129.rowMajor i)) (broadcastInDim S129 ![] bcast_S_S129 (constantI S_ 32 32#32)))
      (fun i => lit0 (S129.rowMajor i))))) slices_S129x12_S129x4_0_4
/-- The bias of every head, query and key. -/
def pairBias (tab : FVec Ideal S32x12 .f32) : FVec Ideal S4x1024x1024 .f32 :=
  transpose S4x1024x1024 [2, 0, 1] (Host.gather gather_S129x4_S1024x1024x1_S1024x1024x4_2_0_n_n_0_2_14 (headBias tab)
    (broadcastInDim S1024x1024x1 ![0, 1] bcast_S1024x1024_S1024x1024x1_0_1 offsets)) transposes_S1024x1024x4_S4x1024x1024_2_0_1

/-- The queries. -/
def queries (x : FVec Ideal S8192x3072 .bf16) : FVec Ideal S8x1024x4x4x64 .f32 :=
  mulf (shapeCast _ (extractStridedSlice S8x1024x4x1x4x64 ![0, 0, 0, 0, 0, 0] (shapeCast _ (extf .f32 x bitsLt_bf16_f32) shapeCasts_S8192x3072_S8x1024x4x3x4x64) slices_S8x1024x4x3x4x64_S8x1024x4x1x4x64_0_0_0_0_0_0) shapeCasts_S8x1024x4x1x4x64_S8x1024x4x4x64) (broadcastInDim S8x1024x4x4x64 ![] bcast_S_S8x1024x4x4x64 (constant S_ .f32 0x3E000000#32))
/-- The keys. -/
def keys (x : FVec Ideal S8192x3072 .bf16) : FVec Ideal S8x1024x4x4x64 .f32 :=
  shapeCast _ (extractStridedSlice S8x1024x4x1x4x64 ![0, 0, 0, 1, 0, 0] (shapeCast _ (extf .f32 x bitsLt_bf16_f32) shapeCasts_S8192x3072_S8x1024x4x3x4x64) slices_S8x1024x4x3x4x64_S8x1024x4x1x4x64_0_0_0_1_0_0) shapeCasts_S8x1024x4x1x4x64_S8x1024x4x4x64
/-- The values. -/
def values (x : FVec Ideal S8192x3072 .bf16) : FVec Ideal S8x1024x4x4x64 .f32 :=
  shapeCast _ (extractStridedSlice S8x1024x4x1x4x64 ![0, 0, 0, 2, 0, 0] (shapeCast _ (extf .f32 x bitsLt_bf16_f32) shapeCasts_S8192x3072_S8x1024x4x3x4x64) slices_S8x1024x4x3x4x64_S8x1024x4x1x4x64_0_0_0_2_0_0) shapeCasts_S8x1024x4x1x4x64_S8x1024x4x4x64
/-- The logits, `⊥` outside the band. -/
def logits (x : FVec Ideal S8192x3072 .bf16) (tab : FVec Ideal S32x12 .f32) : FVec Ideal S8x4x4x1024x1024 .f32 :=
  select (broadcastInDim S8x4x4x1024x1024 ![3, 4] bcast_S1024x1024_S8x4x4x1024x1024_3_4 near)
    (addf (Host.dotGeneral dot_S8x1024x4x4x64_S8x1024x4x4x64_S8x4x4x1024x1024_4_4_1_1_023_023 none (queries x) (keys x))
      (broadcastInDim S8x4x4x1024x1024 ![0, 1, 2, 3, 4] bcast_S1x1x4x1024x1024_S8x4x4x1024x1024_0_1_2_3_4 (broadcastInDim S1x1x4x1024x1024 ![2, 3, 4] bcast_S4x1024x1024_S1x1x4x1024x1024_2_3_4 (pairBias tab))))
    (broadcastInDim S8x4x4x1024x1024 ![] bcast_S_S8x4x4x1024x1024 (id (constant S_ .f32 0xFF800000#32)))
/-- The largest logit of every query. -/
def tops (s : FVec Ideal S8x4x4x1024x1024 .f32) : FVec Ideal S8x4x4x1024 .f32 :=
  Host.reduce FloatOps.maximumf s (constant S_ .f32 0xFF800000#32) reducesTo_S8x4x4x1024x1024_S8x4x4x1024_d4 h_S_
/-- The keys' weights. -/
def weights (s : FVec Ideal S8x4x4x1024x1024 .f32) : FVec Ideal S8x4x4x1024x1024 .f32 :=
  Host.exp (subf s (broadcastInDim S8x4x4x1024x1024 ![0, 1, 2, 3, 4] bcast_S8x4x4x1024x1_S8x4x4x1024x1024_0_1_2_3_4 (broadcastInDim S8x4x4x1024x1 ![0, 1, 2, 3] bcast_S8x4x4x1024_S8x4x4x1024x1_0_1_2_3 (tops s))))
/-- The softmax denominators. -/
def dens (s : FVec Ideal S8x4x4x1024x1024 .f32) : FVec Ideal S8x4x4x1024 .f32 :=
  Host.reduceAdd (weights s) (constant S_ .f32 0x00000000#32) reducesTo_S8x4x4x1024x1024_S8x4x4x1024_d4 h_S_
/-- The weighted values, the batch, residue and head before the lane. -/
def mixed (x : FVec Ideal S8192x3072 .bf16) (s : FVec Ideal S8x4x4x1024x1024 .f32) : FVec Ideal S8x4x4x64x1024 .f32 :=
  Host.dotGeneral dot_S8x1024x4x4x64_S8x4x4x1024x1024_S8x4x4x64x1024_1_4_4_3_023_012 none (values x) (weights s)
/-- The output from the weighted values and the denominators. -/
def outOf (w : FVec Ideal S8x4x4x64x1024 .f32) (d : FVec Ideal S8x4x4x1024 .f32) : FVec Ideal S8x1024x1024 .bf16 :=
  truncf .bf16 (shapeCast _ (Host.divf (transpose S8x1024x4x4x64 [0, 4, 1, 2, 3] w transposes_S8x4x4x64x1024_S8x1024x4x4x64_0_4_1_2_3)
    (broadcastInDim S8x1024x4x4x64 ![0, 1, 2, 3, 4] bcast_S8x1024x4x4x1_S8x1024x4x4x64_0_1_2_3_4 (broadcastInDim S8x1024x4x4x1 ![0, 1, 2, 3] bcast_S8x1024x4x4_S8x1024x4x4x1_0_1_2_3
      (transpose S8x1024x4x4 [0, 3, 1, 2] d transposes_S8x4x4x1024_S8x1024x4x4_0_3_1_2)))) shapeCasts_S8x1024x4x4x64_S8x1024x1024) bitsLt_bf16_f32
/-- The log of the denominators, for every lane of a head. -/
def lseOf (t d : FVec Ideal S8x4x4x1024 .f32) : FVec Ideal S8x1024x1024 .f32 :=
  shapeCast _ (broadcastInDim S8x1024x4x4x64 ![0, 1, 2, 3, 4] bcast_S8x1024x4x4x1_S8x1024x4x4x64_0_1_2_3_4 (broadcastInDim S8x1024x4x4x1 ![0, 1, 2, 3] bcast_S8x1024x4x4_S8x1024x4x4x1_0_1_2_3
    (transpose S8x1024x4x4 [0, 3, 1, 2] (addf t (Host.log d)) transposes_S8x4x4x1024_S8x1024x4x4_0_3_1_2))) shapeCasts_S8x1024x4x4x64_S8x1024x1024

section
variable (m : (ℓ : Loc nD τ sig) → Buf (Elt Ideal) ℓ)

theorem out_res (c : Dev nD) (x : FVec Ideal S8192x3072 .bf16) (tab : FVec Ideal S32x12 .f32)
    (hx : m ((c : Thread nD τ).loc main_arg0) = x) (ht : m ((c : Thread nD τ).loc main_arg1) = tab) :
    res_out0 m c = outOf (mixed x (logits x tab)) (dens (logits x tab)) := by
  unfold res_out0 res_main_v56
  rw [hx, ht]
  rfl

theorem lse_res (c : Dev nD) (x : FVec Ideal S8192x3072 .bf16) (tab : FVec Ideal S32x12 .f32)
    (hx : m ((c : Thread nD τ).loc main_arg0) = x) (ht : m ((c : Thread nD τ).loc main_arg1) = tab) :
    res_out1 m c = lseOf (tops (logits x tab)) (dens (logits x tab)) := by
  unfold res_out1 res_main_v57
  rw [hx, ht]
  rfl
end

theorem queries_apply (x : FVec Ideal S8192x3072 .bf16) (b : Fin 8) (a : Fin 1024) (r : Fin 4) (h : Fin 4) (d : Fin 64) :
    queries x (ix5 b a r h d) = rows x b.val a.val (r.val * 768 + h.val * 64 + d.val) * Ideal.ofBits .f32 0x3E000000#32 := by
  pointwise [queries]
  refine congrArg (· * Ideal.ofBits .f32 0x3E000000#32) ?_
  refine (at2_eq (n0 := 8192) (n1 := 3072) x _ _).trans (congrArg₂ (at2 (n0 := 8192) (n1 := 3072) x) rfl ?_)
  first | (dsimp only; done) | (dsimp only; omega)

theorem keys_apply (x : FVec Ideal S8192x3072 .bf16) (b : Fin 8) (a : Fin 1024) (r : Fin 4) (h : Fin 4) (d : Fin 64) :
    keys x (ix5 b a r h d) = rows x b.val a.val (r.val * 768 + 256 + h.val * 64 + d.val) := by
  pointwise [keys]
  refine (at2_eq (n0 := 8192) (n1 := 3072) x _ _).trans (congrArg₂ (at2 (n0 := 8192) (n1 := 3072) x) rfl ?_)
  first | (dsimp only; done) | (dsimp only; omega)

theorem values_apply (x : FVec Ideal S8192x3072 .bf16) (b : Fin 8) (a : Fin 1024) (r : Fin 4) (h : Fin 4) (d : Fin 64) :
    values x (ix5 b a r h d) = rows x b.val a.val (r.val * 768 + 512 + (h.val * 64 + d.val)) := by
  pointwise [values]
  refine (at2_eq (n0 := 8192) (n1 := 3072) x _ _).trans (congrArg₂ (at2 (n0 := 8192) (n1 := 3072) x) rfl ?_)
  first | (dsimp only; done) | (dsimp only; omega)

theorem near_apply (i j : Fin 1024) : near (ix2 i j) = if i.val ≤ j.val + 64 ∧ j.val ≤ i.val + 64 then 1#1 else 0#1 := by
  pointwise [near, dist]
  exact nearWord_band i.val j.val (by omega) (by omega)

theorem offsets_apply (i j : Fin 1024) : offsets (ix2 i j) = offsetWord (BitVec.ofNat 32 j.val - BitVec.ofNat 32 i.val + 64#32) := by
  pointwise [offsets, clipped, dist]
  rfl

theorem buckets : ∀ k : Fin 129, lit0 k = BitVec.ofNat 32 (bucket k.val) ∧ bucket k.val < 32 := by decide +kernel

theorem position (p : Fin 129) : S129.rowMajor (ix1 p) = p := Fin.ext (Shape.rowMajor_val_one _)

theorem headBias_apply (tab : FVec Ideal S32x12 .f32) (k : Fin 129) (h : Fin 4) : headBias tab (ix2 k h) = bias tab h.val k.val := by
  pointwise [headBias]
  refine (Routing.gather_row gather_S32x12_S129x1_S129x12_1_0_n_n_0_1_112 rfl rfl rfl rfl rfl tab _ k _
    ⟨bucket k.val, (buckets k).2⟩ ?_ (by norm_num)).trans ?_
  · pointwise
    show lit0 (S129.rowMajor (ix1 k)) = _
    rw [position]
    exact (buckets k).1
  · refine (at2_eq (n0 := 32) (n1 := 12) tab _ _).trans ?_
    show _ = at2 (n0 := 32) (n1 := 12) tab (bucket k.val) (4 + h.val)
    exact congrArg₂ (at2 (n0 := 32) (n1 := 12) tab) rfl (by first | rfl | (dsimp only; omega))

/-- The bias of a pair of positions in the band. -/
theorem pairBias_apply (tab : FVec Ideal S32x12 .f32) (h : Fin 4) (i j : Fin 1024) (hb : i.val ≤ j.val + 64 ∧ j.val ≤ i.val + 64) :
    pairBias tab (ix3 h i j) = bias tab h.val (j.val + 64 - i.val) := by
  pointwise [pairBias]
  refine (square_apply (N := 129) (C := 4) (L := 1024) gather_S129x4_S1024x1024x1_S1024x1024x4_2_0_n_n_0_2_14_wf (headBias tab) _ i j h
    ⟨j.val + 64 - i.val, by omega⟩ ?_ (by norm_num)).trans (headBias_apply tab _ h)
  pointwise
  exact (offsets_apply i j).trans (offsetWord_band i.val j.val (by omega) (by omega) hb)

/-- The logits are the sequence's. -/
theorem logits_apply (x : FVec Ideal S8192x3072 .bf16) (tab : FVec Ideal S32x12 .f32) (b : Fin 8) (r : Fin 4) (h : Fin 4) (i j : Fin 1024) :
    logits x tab (ix5 b r h i j)
      = seqLogits 1024 (rows x b.val) (bias tab h.val) (r.val * 768 + h.val * 64) (r.val * 768 + 256 + h.val * 64) i.val j := by
  have hp : logits x tab (ix5 b r h i j) = Scalar.select (near (ix2 i j))
      (∑ d : Fin 64, queries x (ix5 b i r h d) * keys x (ix5 b j r h d) + pairBias tab (ix3 h i j))
      (id (constant (F := Ideal) S_ FTy.f32 0xFF800000#32) ix0) := by pointwise [logits]
  rw [hp]
  unfold seqLogits
  rw [near_apply]
  by_cases hb : i.val ≤ j.val + 64 ∧ j.val ≤ i.val + 64
  · rw [if_pos hb, if_pos hb]
    refine Eq.trans rfl (congrArg₂ (· + ·) (Finset.sum_congr rfl fun d _ => ?_) (pairBias_apply tab h i j hb))
    exact congrArg₂ (· * ·) (queries_apply x b i r h d) (keys_apply x b j r h d)
  · rw [if_neg hb, if_neg hb]
    exact Head.neg_inf

theorem tops_apply (s : FVec Ideal S8x4x4x1024x1024 .f32) (b : Fin 8) (r : Fin 4) (h : Fin 4) (i : Fin 1024) :
    tops s (ix4 b r h i) = topLogit fun j => s (ix5 b r h i j) := by
  pointwise [tops]
  rw [Head.neg_inf]
  rfl

theorem weights_apply (s : FVec Ideal S8x4x4x1024x1024 .f32) (b : Fin 8) (r : Fin 4) (h : Fin 4) (i j : Fin 1024) :
    weights s (ix5 b r h i j) = keyWeight (fun j => s (ix5 b r h i j)) j := by
  pointwise [weights]
  rw [tops_apply]
  rfl

theorem dens_apply (s : FVec Ideal S8x4x4x1024x1024 .f32) (b : Fin 8) (r : Fin 4) (h : Fin 4) (i : Fin 1024) :
    dens s (ix4 b r h i) = rowDen fun j => s (ix5 b r h i j) := by
  pointwise [dens]
  exact Finset.sum_congr rfl fun j _ => weights_apply s b _ h i j

theorem mixed_apply (x : FVec Ideal S8192x3072 .bf16) (s : FVec Ideal S8x4x4x1024x1024 .f32) (b : Fin 8) (r : Fin 4) (h : Fin 4) (d : Fin 64) (i : Fin 1024) :
    mixed x s (ix5 b r h d i)
      = ∑ j : Fin 1024, keyWeight (fun j => s (ix5 b r h i j)) j * rows x b.val j.val (r.val * 768 + 512 + (h.val * 64 + d.val)) := by
  have hp : mixed x s (ix5 b r h d i) = ∑ j : Fin 1024, values x (ix5 b j r h d) * weights s (ix5 b r h i j) := by pointwise [mixed]
  refine hp.trans ?_
  refine Finset.sum_congr rfl fun j _ => ?_
  exact (congrArg₂ (· * ·) (values_apply x b j r h d) (weights_apply s b r h i j)).trans (mul_comm _ _)

theorem outOf_apply (w : FVec Ideal S8x4x4x64x1024 .f32) (d : FVec Ideal S8x4x4x1024 .f32) (b : Fin 8) (i : Fin 1024) (l : Fin 1024) :
    outOf w d (ix3 b i l) = Ideal.div (w (ix5 b ⟨l.val / 256, by omega⟩ ⟨l.val % 256 / 64, by omega⟩ ⟨l.val % 64, by omega⟩ i))
      (d (ix4 b ⟨l.val / 256, by omega⟩ ⟨l.val % 256 / 64, by omega⟩ i)) := by
  pointwise [outOf]
  refine congrArg₂ Ideal.div (congrArg w ?_) (congrArg d ?_) <;> blk_ext

theorem lseOf_apply (t d : FVec Ideal S8x4x4x1024 .f32) (b : Fin 8) (i : Fin 1024) (l : Fin 1024) :
    lseOf t d (ix3 b i l) = t (ix4 b ⟨l.val / 256, by omega⟩ ⟨l.val % 256 / 64, by omega⟩ i)
      + Ideal.log (d (ix4 b ⟨l.val / 256, by omega⟩ ⟨l.val % 256 / 64, by omega⟩ i)) := by
  pointwise [lseOf]
  refine congrArg₂ (fun a b => a + Ideal.log b) (congrArg t ?_) (congrArg d ?_) <;> blk_ext

section
variable (m : (ℓ : Loc nD τ sig) → Buf (Elt Ideal) ℓ)

/-- The output, over the whole sequence. -/
theorem out_apply (c : Dev nD) (x : FVec Ideal S8192x3072 .bf16) (tab : FVec Ideal S32x12 .f32)
    (hx : m ((c : Thread nD τ).loc main_arg0) = x) (ht : m ((c : Thread nD τ).loc main_arg1) = tab)
    (b : Fin 8) (i : Fin 1024) (l : Fin 1024) :
    res_out0 m c (ix3 b i l) = seqOut 1024 (rows x b.val) (bias tab) i.val l.val := by
  have hl := l.isLt
  refine (congrFun (out_res m c x tab hx ht) (ix3 b i l)).trans ((outOf_apply _ _ b i l).trans ?_)
  rw [mixed_apply, dens_apply, funext fun j => logits_apply x tab b ⟨l.val / 256, by omega⟩ ⟨l.val % 256 / 64, by omega⟩ i j]
  unfold seqOut rowOut seqLaneLogits
  have e : l.val % 256 / 64 * 64 + l.val % 64 = l.val % 256 := by omega
  dsimp only
  rw [e]

/-- The log of the denominator, over the whole sequence. -/
theorem lse_apply (c : Dev nD) (x : FVec Ideal S8192x3072 .bf16) (tab : FVec Ideal S32x12 .f32)
    (hx : m ((c : Thread nD τ).loc main_arg0) = x) (ht : m ((c : Thread nD τ).loc main_arg1) = tab)
    (b : Fin 8) (i : Fin 1024) (l : Fin 1024) :
    res_out1 m c (ix3 b i l) = seqLse 1024 (rows x b.val) (bias tab) i.val l.val := by
  have hl := l.isLt
  refine (congrFun (lse_res m c x tab hx ht) (ix3 b i l)).trans ((lseOf_apply _ _ b i l).trans ?_)
  rw [tops_apply, dens_apply, funext fun j => logits_apply x tab b ⟨l.val / 256, by omega⟩ ⟨l.val % 256 / 64, by omega⟩ i j]
  rfl

end

end Cert.Layer.Band4Reference

end
-- ==== Proof.Layer.Band16Block.lean ====
/-
  What the block of dilation 16 leaves in its two outputs: every stored tile is the windowed softmax of the block's own rows, so the
  outputs are, whole, that function of the block loaded.
-/
module

public import proofs.«01_k».proof.Proof.Gen.Band16Ideal.Value
public import proofs.«01_k».proof.Proof.Layer.BandHead
public import proofs.«01_k».proof.Proof.Layer.BandLoad
public import Idealize.ShloMosaic.Lib.Writes

@[expose] public section

set_option maxRecDepth 65536

noncomputable section

open Idealize.ShloMosaic Idealize.ShloMosaic.TcCoe Idealize.SL.Sem
open Idealize.ShloMosaic.Pipeline (Dat)

namespace Cert.Layer.Band16Block

open Cert.Band16Ideal Cert.Band16Ideal.Gen Cert.Layer Cert.Layer.Head

/-- Where block `r`'s tiles start: queries, keys and values, the heads' bias tables, and the stores. -/
theorem offs : ∀ (r : Fin 2),
    k0_off1 (BitVec.ofNat 32 (128 * r.val)) = ![0, 128 * r.val, 0 * 768]
    ∧ k0_off2 (BitVec.ofNat 32 (128 * r.val)) = ![0, winStart 256 (128 * r.val), 0 * 768 + 256]
    ∧ k0_off3 (BitVec.ofNat 32 (128 * r.val)) = ![0, winStart 256 (128 * r.val), 0 * 768 + 512]
    ∧ k0_off4 (BitVec.ofNat 32 (128 * r.val)) = ![0, 128 * r.val, 1 * 768]
    ∧ k0_off5 (BitVec.ofNat 32 (128 * r.val)) = ![0, winStart 256 (128 * r.val), 1 * 768 + 256]
    ∧ k0_off6 (BitVec.ofNat 32 (128 * r.val)) = ![0, winStart 256 (128 * r.val), 1 * 768 + 512]
    ∧ k0_off7 (BitVec.ofNat 32 (128 * r.val)) = ![((128 * r.val) - winStart 256 (128 * r.val)) / 64, 0, 0, 0]
    ∧ k0_off8 (BitVec.ofNat 32 (128 * r.val)) = ![((128 * r.val) - winStart 256 (128 * r.val)) / 64, 1, 0, 0]
    ∧ k0_off9 (BitVec.ofNat 32 (128 * r.val)) = ![((128 * r.val) - winStart 256 (128 * r.val)) / 64, 2, 0, 0]
    ∧ k0_off10 (BitVec.ofNat 32 (128 * r.val)) = ![((128 * r.val) - winStart 256 (128 * r.val)) / 64, 3, 0, 0]
    ∧ k0_off11 (BitVec.ofNat 32 (128 * r.val)) = ![0, 128 * r.val, (0 * 256)]
    ∧ k0_off12 (BitVec.ofNat 32 (128 * r.val)) = ![0, 128 * r.val, (0 * 256 + 128)]
    ∧ k0_off13 (BitVec.ofNat 32 (128 * r.val)) = ![0, 128 * r.val, (1 * 256)]
    ∧ k0_off14 (BitVec.ofNat 32 (128 * r.val)) = ![0, 128 * r.val, (1 * 256 + 128)] := by decide +kernel

section

variable (arg2 : Memref sig .tc .vmem S1x256x1536 .bf16) (harg2 : arg2.IsWhole) (arg3 : Memref sig .tc .vmem S3x4x128x256 .f32) (harg3 : arg3.IsWhole)
variable (x0 : FVec Ideal S1x256x1536 .bf16) (x1 : FVec Ideal S3x4x128x256 .f32) (r : Fin 2)

/-- The tiles block `r` loads: queries, keys and values of each residue, -/
def qT0 : FVec Ideal S1x128x256 .bf16 := View.readAt (Elt Ideal) arg2.view (Rect.unit (s := S1x256x1536) (k0_off1 (BitVec.ofNat 32 (128 * r.val))) S1x128x256.size (k0_off1_inb r)).toLoadRect (harg2.unread x0)
def kT0 : FVec Ideal S1x256x256 .bf16 := View.readAt (Elt Ideal) arg2.view (Rect.unit (s := S1x256x1536) (k0_off2 (BitVec.ofNat 32 (128 * r.val))) S1x256x256.size (k0_off2_inb r)).toLoadRect (harg2.unread x0)
def vT0 : FVec Ideal S1x256x256 .bf16 := View.readAt (Elt Ideal) arg2.view (Rect.unit (s := S1x256x1536) (k0_off3 (BitVec.ofNat 32 (128 * r.val))) S1x256x256.size (k0_off3_inb r)).toLoadRect (harg2.unread x0)
def qT1 : FVec Ideal S1x128x256 .bf16 := View.readAt (Elt Ideal) arg2.view (Rect.unit (s := S1x256x1536) (k0_off4 (BitVec.ofNat 32 (128 * r.val))) S1x128x256.size (k0_off4_inb r)).toLoadRect (harg2.unread x0)
def kT1 : FVec Ideal S1x256x256 .bf16 := View.readAt (Elt Ideal) arg2.view (Rect.unit (s := S1x256x1536) (k0_off5 (BitVec.ofNat 32 (128 * r.val))) S1x256x256.size (k0_off5_inb r)).toLoadRect (harg2.unread x0)
def vT1 : FVec Ideal S1x256x256 .bf16 := View.readAt (Elt Ideal) arg2.view (Rect.unit (s := S1x256x1536) (k0_off6 (BitVec.ofNat 32 (128 * r.val))) S1x256x256.size (k0_off6_inb r)).toLoadRect (harg2.unread x0)
/-- and the four heads' bias tables. -/
def bT0 : FVec Ideal S1x1x128x256 .f32 := View.readAt (Elt Ideal) arg3.view (Rect.unit (s := S3x4x128x256) (k0_off7 (BitVec.ofNat 32 (128 * r.val))) S1x1x128x256.size (k0_off7_inb r)).toLoadRect (harg3.unread x1)
def bT1 : FVec Ideal S1x1x128x256 .f32 := View.readAt (Elt Ideal) arg3.view (Rect.unit (s := S3x4x128x256) (k0_off8 (BitVec.ofNat 32 (128 * r.val))) S1x1x128x256.size (k0_off8_inb r)).toLoadRect (harg3.unread x1)
def bT2 : FVec Ideal S1x1x128x256 .f32 := View.readAt (Elt Ideal) arg3.view (Rect.unit (s := S3x4x128x256) (k0_off9 (BitVec.ofNat 32 (128 * r.val))) S1x1x128x256.size (k0_off9_inb r)).toLoadRect (harg3.unread x1)
def bT3 : FVec Ideal S1x1x128x256 .f32 := View.readAt (Elt Ideal) arg3.view (Rect.unit (s := S3x4x128x256) (k0_off10 (BitVec.ofNat 32 (128 * r.val))) S1x1x128x256.size (k0_off10_inb r)).toLoadRect (harg3.unread x1)
theorem qT0_apply (a : Fin 128) (l : Fin 256) : qT0 arg2 harg2 x0 r (ix3 0 a l) = at3 x0 0 (128 * r.val + a.val) (0 * 768 + l.val) :=
  load3 arg2 harg2 x0 _ (128 * r.val) (0 * 768) (offs r).1 _ a l

theorem kT0_apply (a : Fin 256) (l : Fin 256) : kT0 arg2 harg2 x0 r (ix3 0 a l) = at3 x0 0 (winStart 256 (128 * r.val) + a.val) (0 * 768 + 256 + l.val) :=
  load3 arg2 harg2 x0 _ (winStart 256 (128 * r.val)) (0 * 768 + 256) (offs r).2.1 _ a l

theorem vT0_apply (a : Fin 256) (l : Fin 256) : vT0 arg2 harg2 x0 r (ix3 0 a l) = at3 x0 0 (winStart 256 (128 * r.val) + a.val) (0 * 768 + 512 + l.val) :=
  load3 arg2 harg2 x0 _ (winStart 256 (128 * r.val)) (0 * 768 + 512) (offs r).2.2.1 _ a l

theorem qT1_apply (a : Fin 128) (l : Fin 256) : qT1 arg2 harg2 x0 r (ix3 0 a l) = at3 x0 0 (128 * r.val + a.val) (1 * 768 + l.val) :=
  load3 arg2 harg2 x0 _ (128 * r.val) (1 * 768) (offs r).2.2.2.1 _ a l

theorem kT1_apply (a : Fin 256) (l : Fin 256) : kT1 arg2 harg2 x0 r (ix3 0 a l) = at3 x0 0 (winStart 256 (128 * r.val) + a.val) (1 * 768 + 256 + l.val) :=
  load3 arg2 harg2 x0 _ (winStart 256 (128 * r.val)) (1 * 768 + 256) (offs r).2.2.2.2.1 _ a l

theorem vT1_apply (a : Fin 256) (l : Fin 256) : vT1 arg2 harg2 x0 r (ix3 0 a l) = at3 x0 0 (winStart 256 (128 * r.val) + a.val) (1 * 768 + 512 + l.val) :=
  load3 arg2 harg2 x0 _ (winStart 256 (128 * r.val)) (1 * 768 + 512) (offs r).2.2.2.2.2.1 _ a l

theorem bT0_apply (a : Fin 128) (l : Fin 256) : bT0 arg3 harg3 x1 r (ix4 0 0 a l) = at4 x1 (((128 * r.val) - winStart 256 (128 * r.val)) / 64) 0 a.val l.val :=
  load4 arg3 harg3 x1 _ (((128 * r.val) - winStart 256 (128 * r.val)) / 64) 0 (offs r).2.2.2.2.2.2.1 _ a l

theorem bT1_apply (a : Fin 128) (l : Fin 256) : bT1 arg3 harg3 x1 r (ix4 0 0 a l) = at4 x1 (((128 * r.val) - winStart 256 (128 * r.val)) / 64) 1 a.val l.val :=
  load4 arg3 harg3 x1 _ (((128 * r.val) - winStart 256 (128 * r.val)) / 64) 1 (offs r).2.2.2.2.2.2.2.1 _ a l

theorem bT2_apply (a : Fin 128) (l : Fin 256) : bT2 arg3 harg3 x1 r (ix4 0 0 a l) = at4 x1 (((128 * r.val) - winStart 256 (128 * r.val)) / 64) 2 a.val l.val :=
  load4 arg3 harg3 x1 _ (((128 * r.val) - winStart 256 (128 * r.val)) / 64) 2 (offs r).2.2.2.2.2.2.2.2.1 _ a l

theorem bT3_apply (a : Fin 128) (l : Fin 256) : bT3 arg3 harg3 x1 r (ix4 0 0 a l) = at4 x1 (((128 * r.val) - winStart 256 (128 * r.val)) / 64) 3 a.val l.val :=
  load4 arg3 harg3 x1 _ (((128 * r.val) - winStart 256 (128 * r.val)) / 64) 3 (offs r).2.2.2.2.2.2.2.2.2.1 _ a l

/-- The outputs of the first two heads of residue 0, where they are stored. -/
theorem outLow0 (z : S1x128x128.Idx) : outLow (qT0 arg2 harg2 x0 r) (kT0 arg2 harg2 x0 r) (vT0 arg2 harg2 x0 r) (bT0 arg3 harg3 x1 r) (bT1 arg3 harg3 x1 r) z
    = blockOut 256 (at3 x0 0) (at4 x1) ((Rect.unit (s := S1x256x512) (k0_off11 (BitVec.ofNat 32 (128 * r.val))) S1x128x128.size (k0_off11_inb r)).emb z 1).val
        ((Rect.unit (s := S1x256x512) (k0_off11 (BitVec.ofNat 32 (128 * r.val))) S1x128x128.size (k0_off11_inb r)).emb z 2).val := by
  idx_vars z
  obtain rfl : z0 = 0 := Subsingleton.elim _ _
  refine (outLow_block (qT0 arg2 harg2 x0 r) (kT0 arg2 harg2 x0 r) (vT0 arg2 harg2 x0 r) (bT0 arg3 harg3 x1 r) (bT1 arg3 harg3 x1 r) 256 (at3 x0 0) (at4 x1) (128 * r.val) 0 (by omega)
      (qT0_apply arg2 harg2 x0 r)
      (kT0_apply arg2 harg2 x0 r)
      (vT0_apply arg2 harg2 x0 r)
      (bT0_apply arg3 harg3 x1 r)
      (bT1_apply arg3 harg3 x1 r) z1 z2).trans ?_
  exact congrArg₂ (blockOut 256 (at3 x0 0) (at4 x1)) (emb_row _ (128 * r.val) (0 * 256) (offs r).2.2.2.2.2.2.2.2.2.2.1 _ z1 z2)
    (emb_lane _ (128 * r.val) (0 * 256) (offs r).2.2.2.2.2.2.2.2.2.2.1 _ z1 z2)

/-- The logs of the denominators of the first two heads of residue 0, where they are stored. -/
theorem lseLow0 (z : S1x128x128.Idx) : lseLow (qT0 arg2 harg2 x0 r) (kT0 arg2 harg2 x0 r) (bT0 arg3 harg3 x1 r) (bT1 arg3 harg3 x1 r) z
    = blockLse 256 (at3 x0 0) (at4 x1) ((Rect.unit (s := S1x256x512) (k0_off11 (BitVec.ofNat 32 (128 * r.val))) S1x128x128.size (k0_off11_inb r)).emb z 1).val
        ((Rect.unit (s := S1x256x512) (k0_off11 (BitVec.ofNat 32 (128 * r.val))) S1x128x128.size (k0_off11_inb r)).emb z 2).val := by
  idx_vars z
  obtain rfl : z0 = 0 := Subsingleton.elim _ _
  refine (lseLow_block (qT0 arg2 harg2 x0 r) (kT0 arg2 harg2 x0 r) (bT0 arg3 harg3 x1 r) (bT1 arg3 harg3 x1 r) 256 (at3 x0 0) (at4 x1) (128 * r.val) 0 (by omega)
      (qT0_apply arg2 harg2 x0 r)
      (kT0_apply arg2 harg2 x0 r)
      (bT0_apply arg3 harg3 x1 r)
      (bT1_apply arg3 harg3 x1 r) z1 z2).trans ?_
  exact congrArg₂ (blockLse 256 (at3 x0 0) (at4 x1)) (emb_row _ (128 * r.val) (0 * 256) (offs r).2.2.2.2.2.2.2.2.2.2.1 _ z1 z2)
    (emb_lane _ (128 * r.val) (0 * 256) (offs r).2.2.2.2.2.2.2.2.2.2.1 _ z1 z2)

/-- The outputs of the last two heads of residue 0, where they are stored. -/
theorem outHigh0 (z : S1x128x128.Idx) : outHigh (qT0 arg2 harg2 x0 r) (kT0 arg2 harg2 x0 r) (vT0 arg2 harg2 x0 r) (bT2 arg3 harg3 x1 r) (bT3 arg3 harg3 x1 r) z
    = blockOut 256 (at3 x0 0) (at4 x1) ((Rect.unit (s := S1x256x512) (k0_off12 (BitVec.ofNat 32 (128 * r.val))) S1x128x128.size (k0_off12_inb r)).emb z 1).val
        ((Rect.unit (s := S1x256x512) (k0_off12 (BitVec.ofNat 32 (128 * r.val))) S1x128x128.size (k0_off12_inb r)).emb z 2).val := by
  idx_vars z
  obtain rfl : z0 = 0 := Subsingleton.elim _ _
  refine (outHigh_block (qT0 arg2 harg2 x0 r) (kT0 arg2 harg2 x0 r) (vT0 arg2 harg2 x0 r) (bT2 arg3 harg3 x1 r) (bT3 arg3 harg3 x1 r) 256 (at3 x0 0) (at4 x1) (128 * r.val) 0 (by omega)
      (qT0_apply arg2 harg2 x0 r)
      (kT0_apply arg2 harg2 x0 r)
      (vT0_apply arg2 harg2 x0 r)
      (bT2_apply arg3 harg3 x1 r)
      (bT3_apply arg3 harg3 x1 r) z1 z2).trans ?_
  exact congrArg₂ (blockOut 256 (at3 x0 0) (at4 x1)) (emb_row _ (128 * r.val) (0 * 256 + 128) (offs r).2.2.2.2.2.2.2.2.2.2.2.1 _ z1 z2)
    (emb_lane _ (128 * r.val) (0 * 256 + 128) (offs r).2.2.2.2.2.2.2.2.2.2.2.1 _ z1 z2)

/-- The logs of the denominators of the last two heads of residue 0, where they are stored. -/
theorem lseHigh0 (z : S1x128x128.Idx) : lseHigh (qT0 arg2 harg2 x0 r) (kT0 arg2 harg2 x0 r) (bT2 arg3 harg3 x1 r) (bT3 arg3 harg3 x1 r) z
    = blockLse 256 (at3 x0 0) (at4 x1) ((Rect.unit (s := S1x256x512) (k0_off12 (BitVec.ofNat 32 (128 * r.val))) S1x128x128.size (k0_off12_inb r)).emb z 1).val
        ((Rect.unit (s := S1x256x512) (k0_off12 (BitVec.ofNat 32 (128 * r.val))) S1x128x128.size (k0_off12_inb r)).emb z 2).val := by
  idx_vars z
  obtain rfl : z0 = 0 := Subsingleton.elim _ _
  refine (lseHigh_block (qT0 arg2 harg2 x0 r) (kT0 arg2 harg2 x0 r) (bT2 arg3 harg3 x1 r) (bT3 arg3 harg3 x1 r) 256 (at3 x0 0) (at4 x1) (128 * r.val) 0 (by omega)
      (qT0_apply arg2 harg2 x0 r)
      (kT0_apply arg2 harg2 x0 r)
      (bT2_apply arg3 harg3 x1 r)
      (bT3_apply arg3 harg3 x1 r) z1 z2).trans ?_
  exact congrArg₂ (blockLse 256 (at3 x0 0) (at4 x1)) (emb_row _ (128 * r.val) (0 * 256 + 128) (offs r).2.2.2.2.2.2.2.2.2.2.2.1 _ z1 z2)
    (emb_lane _ (128 * r.val) (0 * 256 + 128) (offs r).2.2.2.2.2.2.2.2.2.2.2.1 _ z1 z2)

/-- The outputs of the first two heads of residue 1, where they are stored. -/
theorem outLow1 (z : S1x128x128.Idx) : outLow (qT1 arg2 harg2 x0 r) (kT1 arg2 harg2 x0 r) (vT1 arg2 harg2 x0 r) (bT0 arg3 harg3 x1 r) (bT1 arg3 harg3 x1 r) z
    = blockOut 256 (at3 x0 0) (at4 x1) ((Rect.unit (s := S1x256x512) (k0_off13 (BitVec.ofNat 32 (128 * r.val))) S1x128x128.size (k0_off13_inb r)).emb z 1).val
        ((Rect.unit (s := S1x256x512) (k0_off13 (BitVec.ofNat 32 (128 * r.val))) S1x128x128.size (k0_off13_inb r)).emb z 2).val := by
  idx_vars z
  obtain rfl : z0 = 0 := Subsingleton.elim _ _
  refine (outLow_block (qT1 arg2 harg2 x0 r) (kT1 arg2 harg2 x0 r) (vT1 arg2 harg2 x0 r) (bT0 arg3 harg3 x1 r) (bT1 arg3 harg3 x1 r) 256 (at3 x0 0) (at4 x1) (128 * r.val) 1 (by omega)
      (qT1_apply arg2 harg2 x0 r)
      (kT1_apply arg2 harg2 x0 r)
      (vT1_apply arg2 harg2 x0 r)
      (bT0_apply arg3 harg3 x1 r)
      (bT1_apply arg3 harg3 x1 r) z1 z2).trans ?_
  exact congrArg₂ (blockOut 256 (at3 x0 0) (at4 x1)) (emb_row _ (128 * r.val) (1 * 256) (offs r).2.2.2.2.2.2.2.2.2.2.2.2.1 _ z1 z2)
    (emb_lane _ (128 * r.val) (1 * 256) (offs r).2.2.2.2.2.2.2.2.2.2.2.2.1 _ z1 z2)

/-- The logs of the denominators of the first two heads of residue 1, where they are stored. -/
theorem lseLow1 (z : S1x128x128.Idx) : lseLow (qT1 arg2 harg2 x0 r) (kT1 arg2 harg2 x0 r) (bT0 arg3 harg3 x1 r) (bT1 arg3 harg3 x1 r) z
    = blockLse 256 (at3 x0 0) (at4 x1) ((Rect.unit (s := S1x256x512) (k0_off13 (BitVec.ofNat 32 (128 * r.val))) S1x128x128.size (k0_off13_inb r)).emb z 1).val
        ((Rect.unit (s := S1x256x512) (k0_off13 (BitVec.ofNat 32 (128 * r.val))) S1x128x128.size (k0_off13_inb r)).emb z 2).val := by
  idx_vars z
  obtain rfl : z0 = 0 := Subsingleton.elim _ _
  refine (lseLow_block (qT1 arg2 harg2 x0 r) (kT1 arg2 harg2 x0 r) (bT0 arg3 harg3 x1 r) (bT1 arg3 harg3 x1 r) 256 (at3 x0 0) (at4 x1) (128 * r.val) 1 (by omega)
      (qT1_apply arg2 harg2 x0 r)
      (kT1_apply arg2 harg2 x0 r)
      (bT0_apply arg3 harg3 x1 r)
      (bT1_apply arg3 harg3 x1 r) z1 z2).trans ?_
  exact congrArg₂ (blockLse 256 (at3 x0 0) (at4 x1)) (emb_row _ (128 * r.val) (1 * 256) (offs r).2.2.2.2.2.2.2.2.2.2.2.2.1 _ z1 z2)
    (emb_lane _ (128 * r.val) (1 * 256) (offs r).2.2.2.2.2.2.2.2.2.2.2.2.1 _ z1 z2)

/-- The outputs of the last two heads of residue 1, where they are stored. -/
theorem outHigh1 (z : S1x128x128.Idx) : outHigh (qT1 arg2 harg2 x0 r) (kT1 arg2 harg2 x0 r) (vT1 arg2 harg2 x0 r) (bT2 arg3 harg3 x1 r) (bT3 arg3 harg3 x1 r) z
    = blockOut 256 (at3 x0 0) (at4 x1) ((Rect.unit (s := S1x256x512) (k0_off14 (BitVec.ofNat 32 (128 * r.val))) S1x128x128.size (k0_off14_inb r)).emb z 1).val
        ((Rect.unit (s := S1x256x512) (k0_off14 (BitVec.ofNat 32 (128 * r.val))) S1x128x128.size (k0_off14_inb r)).emb z 2).val := by
  idx_vars z
  obtain rfl : z0 = 0 := Subsingleton.elim _ _
  refine (outHigh_block (qT1 arg2 harg2 x0 r) (kT1 arg2 harg2 x0 r) (vT1 arg2 harg2 x0 r) (bT2 arg3 harg3 x1 r) (bT3 arg3 harg3 x1 r) 256 (at3 x0 0) (at4 x1) (128 * r.val) 1 (by omega)
      (qT1_apply arg2 harg2 x0 r)
      (kT1_apply arg2 harg2 x0 r)
      (vT1_apply arg2 harg2 x0 r)
      (bT2_apply arg3 harg3 x1 r)
      (bT3_apply arg3 harg3 x1 r) z1 z2).trans ?_
  exact congrArg₂ (blockOut 256 (at3 x0 0) (at4 x1)) (emb_row _ (128 * r.val) (1 * 256 + 128) (offs r).2.2.2.2.2.2.2.2.2.2.2.2.2 _ z1 z2)
    (emb_lane _ (128 * r.val) (1 * 256 + 128) (offs r).2.2.2.2.2.2.2.2.2.2.2.2.2 _ z1 z2)

/-- The logs of the denominators of the last two heads of residue 1, where they are stored. -/
theorem lseHigh1 (z : S1x128x128.Idx) : lseHigh (qT1 arg2 harg2 x0 r) (kT1 arg2 harg2 x0 r) (bT2 arg3 harg3 x1 r) (bT3 arg3 harg3 x1 r) z
    = blockLse 256 (at3 x0 0) (at4 x1) ((Rect.unit (s := S1x256x512) (k0_off14 (BitVec.ofNat 32 (128 * r.val))) S1x128x128.size (k0_off14_inb r)).emb z 1).val
        ((Rect.unit (s := S1x256x512) (k0_off14 (BitVec.ofNat 32 (128 * r.val))) S1x128x128.size (k0_off14_inb r)).emb z 2).val := by
  idx_vars z
  obtain rfl : z0 = 0 := Subsingleton.elim _ _
  refine (lseHigh_block (qT1 arg2 harg2 x0 r) (kT1 arg2 harg2 x0 r) (bT2 arg3 harg3 x1 r) (bT3 arg3 harg3 x1 r) 256 (at3 x0 0) (at4 x1) (128 * r.val) 1 (by omega)
      (qT1_apply arg2 harg2 x0 r)
      (kT1_apply arg2 harg2 x0 r)
      (bT2_apply arg3 harg3 x1 r)
      (bT3_apply arg3 harg3 x1 r) z1 z2).trans ?_
  exact congrArg₂ (blockLse 256 (at3 x0 0) (at4 x1)) (emb_row _ (128 * r.val) (1 * 256 + 128) (offs r).2.2.2.2.2.2.2.2.2.2.2.2.2 _ z1 z2)
    (emb_lane _ (128 * r.val) (1 * 256 + 128) (offs r).2.2.2.2.2.2.2.2.2.2.2.2.2 _ z1 z2)

end

/-- The outputs as one array over the block. -/
def outG (x0 : FVec Ideal S1x256x1536 .bf16) (x1 : FVec Ideal S3x4x128x256 .f32) : FVec Ideal S1x256x512 .bf16 :=
  fun y => blockOut 256 (at3 x0 0) (at4 x1) (y 1).val (y 2).val

/-- The output tiles the body stores. -/
theorem out_body (c : Dev nD) (i : grid0.Coords) (arg2 : Memref sig .tc .vmem S1x256x1536 .bf16) (harg2 : arg2.IsWhole) (arg3 : Memref sig .tc .vmem S3x4x128x256 .f32) (harg3 : arg3.IsWhole)
    (arg4 : Memref sig .tc .vmem S1x256x512 .bf16) (harg4 : arg4.IsWhole) (arg5 : Memref sig .tc .vmem S1x256x512 .f32) (harg5 : arg5.IsWhole)
    (x0 : FVec Ideal S1x256x1536 .bf16) (x1 : FVec Ideal S3x4x128x256 .f32) :
    View.PiecesOf (outG x0 x1)
      (kernelRun0_A (F := Ideal) c i arg2 harg2 arg3 harg3 arg4 harg4 arg5 harg5 x0 x1).1 := by
  unfold kernelRun0_A
  dsimp only
  exact ⟨fun z => outHigh1 arg2 harg2 arg3 harg3 x0 x1 1 z,
    fun z => outLow1 arg2 harg2 arg3 harg3 x0 x1 1 z,
    fun z => outHigh1 arg2 harg2 arg3 harg3 x0 x1 0 z,
    fun z => outLow1 arg2 harg2 arg3 harg3 x0 x1 0 z,
    fun z => outHigh0 arg2 harg2 arg3 harg3 x0 x1 1 z,
    fun z => outLow0 arg2 harg2 arg3 harg3 x0 x1 1 z,
    fun z => outHigh0 arg2 harg2 arg3 harg3 x0 x1 0 z,
    fun z => outLow0 arg2 harg2 arg3 harg3 x0 x1 0 z, trivial⟩

/-- The output block, whole. -/
theorem out_eq (c : Dev nD) (i : grid0.Coords) (arg2 : Memref sig .tc .vmem S1x256x1536 .bf16) (harg2 : arg2.IsWhole) (arg3 : Memref sig .tc .vmem S3x4x128x256 .f32) (harg3 : arg3.IsWhole)
    (arg4 : Memref sig .tc .vmem S1x256x512 .bf16) (harg4 : arg4.IsWhole) (arg5 : Memref sig .tc .vmem S1x256x512 .f32) (harg5 : arg5.IsWhole)
    (x0 : FVec Ideal S1x256x1536 .bf16) (x1 : FVec Ideal S3x4x128x256 .f32) (y : S1x256x512.Idx) :
    out0_A_2 (F := Ideal) c i arg2 harg2 arg3 harg3 arg4 harg4 arg5 harg5 x0 x1 y = outG x0 x1 y := by
  unfold out0_A_2
  exact View.read_writes_apply_of_pieces VO0_2 VO0_2.junk (outG x0 x1) _
    (fun p hp => View.PiecesOf.mem (out_body c i arg2 harg2 arg3 harg3 arg4 harg4 arg5 harg5 x0 x1) p hp) y
    (cover0_A_2 (F := Ideal) c i arg2 harg2 arg3 harg3 arg4 harg4 arg5 harg5 x0 x1 y)

/-- The logs as one array over the block. -/
def lseG (x0 : FVec Ideal S1x256x1536 .bf16) (x1 : FVec Ideal S3x4x128x256 .f32) : FVec Ideal S1x256x512 .f32 :=
  fun y => blockLse 256 (at3 x0 0) (at4 x1) (y 1).val (y 2).val

/-- The log tiles the body stores. -/
theorem lse_body (c : Dev nD) (i : grid0.Coords) (arg2 : Memref sig .tc .vmem S1x256x1536 .bf16) (harg2 : arg2.IsWhole) (arg3 : Memref sig .tc .vmem S3x4x128x256 .f32) (harg3 : arg3.IsWhole)
    (arg4 : Memref sig .tc .vmem S1x256x512 .bf16) (harg4 : arg4.IsWhole) (arg5 : Memref sig .tc .vmem S1x256x512 .f32) (harg5 : arg5.IsWhole)
    (x0 : FVec Ideal S1x256x1536 .bf16) (x1 : FVec Ideal S3x4x128x256 .f32) :
    View.PiecesOf (lseG x0 x1)
      (kernelRun0_A (F := Ideal) c i arg2 harg2 arg3 harg3 arg4 harg4 arg5 harg5 x0 x1).2.1 := by
  unfold kernelRun0_A
  dsimp only
  exact ⟨fun z => lseHigh1 arg2 harg2 arg3 harg3 x0 x1 1 z,
    fun z => lseLow1 arg2 harg2 arg3 harg3 x0 x1 1 z,
    fun z => lseHigh1 arg2 harg2 arg3 harg3 x0 x1 0 z,
    fun z => lseLow1 arg2 harg2 arg3 harg3 x0 x1 0 z,
    fun z => lseHigh0 arg2 harg2 arg3 harg3 x0 x1 1 z,
    fun z => lseLow0 arg2 harg2 arg3 harg3 x0 x1 1 z,
    fun z => lseHigh0 arg2 harg2 arg3 harg3 x0 x1 0 z,
    fun z => lseLow0 arg2 harg2 arg3 harg3 x0 x1 0 z, trivial⟩

/-- The log block, whole. -/
theorem lse_eq (c : Dev nD) (i : grid0.Coords) (arg2 : Memref sig .tc .vmem S1x256x1536 .bf16) (harg2 : arg2.IsWhole) (arg3 : Memref sig .tc .vmem S3x4x128x256 .f32) (harg3 : arg3.IsWhole)
    (arg4 : Memref sig .tc .vmem S1x256x512 .bf16) (harg4 : arg4.IsWhole) (arg5 : Memref sig .tc .vmem S1x256x512 .f32) (harg5 : arg5.IsWhole)
    (x0 : FVec Ideal S1x256x1536 .bf16) (x1 : FVec Ideal S3x4x128x256 .f32) (y : S1x256x512.Idx) :
    out0_A_3 (F := Ideal) c i arg2 harg2 arg3 harg3 arg4 harg4 arg5 harg5 x0 x1 y = lseG x0 x1 y := by
  unfold out0_A_3
  exact View.read_writes_apply_of_pieces VO0_3 VO0_3.junk (lseG x0 x1) _
    (fun p hp => View.PiecesOf.mem (lse_body c i arg2 harg2 arg3 harg3 arg4 harg4 arg5 harg5 x0 x1) p hp) y
    (cover0_A_3 (F := Ideal) c i arg2 harg2 arg3 harg3 arg4 harg4 arg5 harg5 x0 x1 y)

end Cert.Layer.Band16Block

end
-- ==== Proof.Layer.Band16Table.lean ====
/-
  The bias tables of dilation 16, which the host builds before the kernel: variant, head, query and key to the bias of the
  distance inside the band and `⊥` outside.
-/
module

public import proofs.«01_k».proof.Proof.Gen.Band16Ideal.Value
public import proofs.«01_k».proof.Proof.Gen.Band16RefIdeal.Run
public import proofs.«01_k».proof.Proof.Layer.BandWindow
public import proofs.«01_k».proof.Proof.Layer.BandHead
public import Idealize.ShloMosaic.Lib.Pointwise
public import Idealize.ShloMosaic.Lib.StableHlo.ReadAt
public import Idealize.ShloMosaic.Lib.Routing.Ops

@[expose] public section

set_option maxRecDepth 65536

noncomputable section

open Idealize.ShloMosaic Idealize.ShloMosaic.TcCoe Idealize.SL.Sem

namespace Cert.Layer.Band16Table

open Cert.Band16Ideal Cert.Band16Ideal.Gen Cert.Layer Cert.Layer.Head

/-- The bucket of distance `j - 64`, as the reference lists them. -/
def bucket (j : ℕ) : ℕ := if h : j < 129 then (Cert.Band16RefIdeal.lit0 ⟨j, h⟩).toNat else 0

/-- The bias of a head at distance `j - 64`. -/
def bias (tab : FVec Ideal S32x12 .f32) (h j : ℕ) : EReal := at2 (n0 := 32) (n1 := 12) tab (bucket j) (8 + h)

/-- Where the skewed row of a variant lies in the band. -/
abbrev band (v p : ℕ) : Prop := 127 + 64 * v ≤ p + 64 ∧ p ≤ 127 + 64 * v + 64

theorem mask0 : ∀ p : Fin 384, lit1 p = if band 0 p.val then 1#1 else 0#1 := by decide +kernel

theorem words0 : ∀ p : Fin 384, (lit0 p).toNat < 32
    ∧ (band 0 p.val → (lit0 p).toNat = bucket (p.val + 64 - (127 + 64 * 0))) := by decide +kernel

theorem mask1 : ∀ p : Fin 384, lit3 p = if band 1 p.val then 1#1 else 0#1 := by decide +kernel

theorem words1 : ∀ p : Fin 384, (lit2 p).toNat < 32
    ∧ (band 1 p.val → (lit2 p).toNat = bucket (p.val + 64 - (127 + 64 * 1))) := by decide +kernel

theorem mask2 : ∀ p : Fin 384, lit5 p = if band 2 p.val then 1#1 else 0#1 := by decide +kernel

theorem words2 : ∀ p : Fin 384, (lit4 p).toNat < 32
    ∧ (band 2 p.val → (lit4 p).toNat = bucket (p.val + 64 - (127 + 64 * 2))) := by decide +kernel

theorem position (p : Fin 384) : S384.rowMajor (ix1 p) = p := Fin.ext (Shape.rowMajor_val_one _)

/-- A table of biases by variant, head, query and key. -/
def tableAt (f : ℕ → ℕ → EReal) (v h r l : ℕ) : EReal :=
  if r + 64 * v ≤ l + 64 ∧ l ≤ r + 64 * v + 64 then f h (l + 64 - (r + 64 * v)) else ⊥

/-- One entry of a variant's skewed row: the gathered bias inside the band, `⊥` outside. -/
theorem entry (v : ℕ) (mask : Fin 384 → BitVec 1) (words : Fin 384 → BitVec 32)
    (hm : ∀ p : Fin 384, mask p = if band v p.val then 1#1 else 0#1)
    (hw : ∀ p : Fin 384, (words p).toNat < 32 ∧ (band v p.val → (words p).toNat = bucket (p.val + 64 - (127 + 64 * v))))
    (tab : FVec Ideal S32x12 .f32) (X : IVec S384 32) (p : Fin 384) (col : Fin 12) (h r l : ℕ)
    (hp : p.val = 127 + l - r) (hr : r < 128) (hc : col.val = 8 + h) :
    Scalar.select (mask (S384.rowMajor (ix1 p)))
      (Host.gather gather_S32x12_S384x1_S384x12_1_0_n_n_0_1_112 tab (broadcastInDim S384x1 ![0] bcast_S384_S384x1_0
        (select (constantI S384 1 0#1) X (fun i => words (S384.rowMajor i)))) (ix2 p col))
      (id (constant (F := Ideal) S_ FTy.f32 0xFF800000#32) ix0)
    = tableAt (bias tab) v h r l := by
  rw [position, hm p]
  unfold tableAt
  by_cases hb : r + 64 * v ≤ l + 64 ∧ l ≤ r + 64 * v + 64
  · have hb' : band v p.val := by rw [hp]; unfold band; omega
    rw [if_pos hb, if_pos hb']
    refine (Routing.gather_row gather_S32x12_S384x1_S384x12_1_0_n_n_0_1_112 rfl rfl rfl rfl rfl tab _ p col
      ⟨(words p).toNat, (hw p).1⟩ ?_ (by norm_num)).trans ?_
    · pointwise
      show words (S384.rowMajor (ix1 p)) = _
      rw [position]
      simp
    · refine (at2_eq (n0 := 32) (n1 := 12) tab ⟨(words p).toNat, (hw p).1⟩ col).trans ?_
      refine congrArg₂ (at2 (n0 := 32) (n1 := 12) tab) (((hw p).2 hb').trans (congrArg bucket ?_)) hc
      rw [hp]
      omega
  · have hb' : ¬ band v p.val := by rw [hp]; unfold band; omega
    rw [if_neg hb, if_neg hb']
    exact neg_inf

variable (m : (ℓ : Loc nD τ sig) → Buf (Elt Ideal) ℓ)

set_option maxHeartbeats 1000000 in
/-- The table of variant 0. -/
theorem table0 (c : Dev nD) (h : Fin 4) (r : Fin 128) (l : Fin 256) :
    V m c main_v48 (ix4 0 h r l) = tableAt (bias (m ((c : Thread nD τ).loc main_arg1))) 0 h.val r.val l.val := by
  have hr := r.isLt
  have hl := l.isLt
  unfold V
  after_reads_at
  after_reads_at
  exact entry 0 lit1 lit0 mask0 words0 (m ((c : Thread nD τ).loc main_arg1))
    (addi (fun i => lit0 (S384.rowMajor i)) (broadcastInDim S384 ![] bcast_S_S384 (constantI S_ 32 32#32)))
    ⟨(r.val * 383 + (127 + l.val)) % 384, by omega⟩ ⟨8 + h.val, by omega⟩ h.val r.val l.val (by dsimp only; omega) hr
    (by dsimp only)

set_option maxHeartbeats 1000000 in
/-- The table of variant 1. -/
theorem table1 (c : Dev nD) (h : Fin 4) (r : Fin 128) (l : Fin 256) :
    V m c main_v48 (ix4 1 h r l) = tableAt (bias (m ((c : Thread nD τ).loc main_arg1))) 1 h.val r.val l.val := by
  have hr := r.isLt
  have hl := l.isLt
  unfold V
  after_reads_at
  after_reads_at
  exact entry 1 lit3 lit2 mask1 words1 (m ((c : Thread nD τ).loc main_arg1))
    (addi (fun i => lit2 (S384.rowMajor i)) (broadcastInDim S384 ![] bcast_S_S384 (constantI S_ 32 32#32)))
    ⟨(r.val * 383 + (127 + l.val)) % 384, by omega⟩ ⟨8 + h.val, by omega⟩ h.val r.val l.val (by dsimp only; omega) hr
    (by dsimp only)

set_option maxHeartbeats 1000000 in
/-- The table of variant 2. -/
theorem table2 (c : Dev nD) (h : Fin 4) (r : Fin 128) (l : Fin 256) :
    V m c main_v48 (ix4 2 h r l) = tableAt (bias (m ((c : Thread nD τ).loc main_arg1))) 2 h.val r.val l.val := by
  have hr := r.isLt
  have hl := l.isLt
  unfold V
  after_reads_at
  after_reads_at
  exact entry 2 lit5 lit4 mask2 words2 (m ((c : Thread nD τ).loc main_arg1))
    (addi (fun i => lit4 (S384.rowMajor i)) (broadcastInDim S384 ![] bcast_S_S384 (constantI S_ 32 32#32)))
    ⟨(r.val * 383 + (127 + l.val)) % 384, by omega⟩ ⟨8 + h.val, by omega⟩ h.val r.val l.val (by dsimp only; omega) hr
    (by dsimp only)

/-- The stacked tables. -/
theorem table (c : Dev nD) : ∀ (v : Fin 3) (h : Fin 4) (r : Fin 128) (l : Fin 256),
    V m c main_v48 (ix4 v h r l) = tableAt (bias (m ((c : Thread nD τ).loc main_arg1))) v.val h.val r.val l.val
  | 0, h, r, l => table0 m c h r l
  | 1, h, r, l => table1 m c h r l
  | 2, h, r, l => table2 m c h r l

end Cert.Layer.Band16Table

end
-- ==== Proof.Layer.Band16Value.lean ====
/-
  The result arrays of the banded attention of dilation 16: the output and the log of the denominator over the whole
  sequences, as functions of the arguments.
-/
module

public import proofs.«01_k».proof.Proof.Gen.Band16Ideal.Value
public import proofs.«01_k».proof.Proof.Layer.Band16Block
public import proofs.«01_k».proof.Proof.Layer.Band16Table
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Layer.Band16Value

open Cert.Band16Ideal Cert.Band16Ideal.Gen Cert.Layer Cert.Layer.Band16Block Cert.Layer.Band16Table

/-- Where each window's block sits: the sequence and, in it, the residues' lanes move with the point, the tables are whole. -/
theorem idx : ∀ t : Fin cfg0.N, win0_0.index t = ![t.val / 8, 0, t.val % 8] ∧ win0_1.index t = ![0, 0, 0, 0]
    ∧ win0_2.index t = ![t.val / 8, 0, t.val % 8] ∧ win0_3.index t = ![t.val / 8, 0, t.val % 8] :=
  (by decide +kernel : ∀ t : Fin grid0.N, _)

/-- The rows of sequence `b` of the queries, keys and values. -/
def rows (x : FVec Ideal S2048x12288 .bf16) (b a l : ℕ) : EReal := at2 (n0 := 2048) (n1 := 12288) x (b * 256 + a) l

/-- The output array as a function of the arguments. -/
def outArr (x : FVec Ideal S2048x12288 .bf16) (tab : FVec Ideal S32x12 .f32) : FVec Ideal S8x256x4096 .bf16 := fun i =>
  seqOut 256 (rows x (i 0).val) (bias tab) (i 1).val (i 2).val

/-- The log of the denominators as a function of the arguments. -/
def lseArr (x : FVec Ideal S2048x12288 .bf16) (tab : FVec Ideal S32x12 .f32) : FVec Ideal S8x256x4096 .f32 := fun i =>
  seqLse 256 (rows x (i 0).val) (bias tab) (i 1).val (i 2).val

variable (m : (ℓ : Loc nD τ sig) → Buf (Elt Ideal) ℓ)

/-- The host's array of the sequences, read from the argument. -/
theorem sequences (c : Dev nD) (b : Fin 8) (a : Fin 256) (l : Fin 12288) :
    V m c main_v49 (ix3 b a l) = m ((c : Thread nD τ).loc main_arg0) (ix2 ⟨b.val * 256 + a.val, by omega⟩ l) := by
  unfold V
  after_reads_at <;> blk_ext!

/-- A point's block of the queries, keys and values, read from the argument. -/
theorem block_rows (c : Dev nD) (t : Fin cfg0.N) (a l : ℕ) (ha : a < 256) (hl : l < 1536) :
    at3 (n0 := 1) (n1 := 256) (n2 := 1536) (iblk m c 0 t) 0 a l
      = rows (m ((c : Thread nD τ).loc main_arg0)) (t.val / 8) a (t.val % 8 * 1536 + l) := by
  have ht : t.val < 64 := lt_of_lt_of_eq t.isLt (by decide +kernel)
  refine (at3_eq (n0 := 1) (n1 := 256) (n2 := 1536) (iblk m c 0 t) 0 ⟨a, ha⟩ ⟨l, hl⟩).symm.trans ?_
  refine Eq.trans (b := V m c main_v49 (ix3 ⟨t.val / 8, by omega⟩ ⟨a, ha⟩ ⟨t.val % 8 * 1536 + l, by omega⟩)) (by blk_point [iblk, idx t]) ?_
  refine (sequences m c ⟨t.val / 8, by omega⟩ ⟨a, ha⟩ ⟨t.val % 8 * 1536 + l, by omega⟩).trans ?_
  exact (at2_eq (n0 := 2048) (n1 := 12288) (m ((c : Thread nD τ).loc main_arg0)) ⟨(t.val / 8) * 256 + a, by omega⟩ ⟨t.val % 8 * 1536 + l, by omega⟩)

/-- A point's block of the tables, read from the host's array. -/
theorem block_table (c : Dev nD) (t : Fin cfg0.N) (v h r l : ℕ) (hv : v < 3) (hh : h < 4) (hr : r < 128) (hl : l < 256) :
    at4 (n0 := 3) (n1 := 4) (n2 := 128) (n3 := 256) (iblk m c 1 t) v h r l = tableAt (bias (m ((c : Thread nD τ).loc main_arg1))) v h r l := by
  refine (at4_eq (n0 := 3) (n1 := 4) (n2 := 128) (n3 := 256) (iblk m c 1 t) ⟨v, hv⟩ ⟨h, hh⟩ ⟨r, hr⟩ ⟨l, hl⟩).symm.trans ?_
  refine Eq.trans ?_ (table m c ⟨v, hv⟩ ⟨h, hh⟩ ⟨r, hr⟩ ⟨l, hl⟩)
  blk_point [iblk, idx t]

/-- The output array after the run. -/
theorem out_final (c : Dev nD) : (dats m 0 c).arrAt 2 cfg0.N
    = outArr (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  idx_vars y
  obtain rfl : y0 = 0 := Subsingleton.elim _ _
  have ht : t.val < 64 := lt_of_lt_of_eq t.isLt (by decide +kernel)
  refine (out_eq c (grid0.coords t) (ms0_0 t) (hs0_0 t) (ms0_1 t) (hs0_1 t) (ms0_2 t) (hs0_2 t) (ms0_3 t) (hs0_3 t)
    (iblk m c 0 t) (iblk m c 1 t) _).trans ?_
  have e0 : ((((cfg0.win 2).blk t).view.emb (ix3 0 y1 y2)) 0).val = t.val / 8 := by blk_simp [idx t] <;> first | rfl | omega
  have e1 : ((((cfg0.win 2).blk t).view.emb (ix3 0 y1 y2)) 1).val = y1.val := by blk_simp [idx t] <;> first | rfl | omega
  have e2 : ((((cfg0.win 2).blk t).view.emb (ix3 0 y1 y2)) 2).val = t.val % 8 * 512 + y2.val := by blk_simp [idx t] <;> first | rfl | omega
  refine (blockOut_eq 256 _ (bias (m ((c : Thread nD τ).loc main_arg1))) (by norm_num) (by norm_num) y1.val y2.val y1.isLt _
    fun v h r l hv hh hr hl => block_table m c t v h r l hv hh hr hl).trans ?_
  refine (seqOut_shift 256 _ (rows (m ((c : Thread nD τ).loc main_arg0)) (t.val / 8)) _ 2 (t.val % 8) y1.val y2.val y1.isLt y2.isLt
    fun a l ha hl => block_rows m c t a l ha hl).trans ?_
  refine Eq.symm ?_
  show seqOut 256 (rows (m ((c : Thread nD τ).loc main_arg0)) ((((cfg0.win 2).blk t).view.emb (ix3 0 y1 y2)) 0).val) (bias (m ((c : Thread nD τ).loc main_arg1)))
    ((((cfg0.win 2).blk t).view.emb (ix3 0 y1 y2)) 1).val ((((cfg0.win 2).blk t).view.emb (ix3 0 y1 y2)) 2).val = _
  rw [e0, e1, e2]

/-- The log-denominator array after the run. -/
theorem lse_final (c : Dev nD) : (dats m 0 c).arrAt 3 cfg0.N
    = lseArr (m ((c : Thread nD τ).loc main_arg0)) (m ((c : Thread nD τ).loc main_arg1)) := by
  refine (dats m 0 c).arrAt_eq_of_covers 3 _ (by decide +kernel) fun t _ y => ?_
  blk_simp
  rw [after0_3]
  unfold outsAt0
  idx_vars y
  obtain rfl : y0 = 0 := Subsingleton.elim _ _
  have ht : t.val < 64 := lt_of_lt_of_eq t.isLt (by decide +kernel)
  refine (lse_eq c (grid0.coords t) (ms0_0 t) (hs0_0 t) (ms0_1 t) (hs0_1 t) (ms0_2 t) (hs0_2 t) (ms0_3 t) (hs0_3 t)
    (iblk m c 0 t) (iblk m c 1 t) _).trans ?_
  have e0 : ((((cfg0.win 3).blk t).view.emb (ix3 0 y1 y2)) 0).val = t.val / 8 := by blk_simp [idx t] <;> first | rfl | omega
  have e1 : ((((cfg0.win 3).blk t).view.emb (ix3 0 y1 y2)) 1).val = y1.val := by blk_simp [idx t] <;> first | rfl | omega
  have e2 : ((((cfg0.win 3).blk t).view.emb (ix3 0 y1 y2)) 2).val = t.val % 8 * 512 + y2.val := by blk_simp [idx t] <;> first | rfl | omega
  refine (blockLse_eq 256 _ (bias (m ((c : Thread nD τ).loc main_arg1))) (by norm_num) (by norm_num) y1.val y2.val y1.isLt _
    fun v h r l hv hh hr hl => block_table m c t v h r l hv hh hr hl).trans ?_
  refine (seqLse_shift 256 _ (rows (m ((c : Thread nD τ).loc main_arg0)) (t.val / 8)) _ 2 (t.val % 8) y1.val y2.val y1.isLt y2.isLt
    fun a l ha hl => block_rows m c t a l ha hl).trans ?_
  refine Eq.symm ?_
  show seqLse 256 (rows (m ((c : Thread nD τ).loc main_arg0)) ((((cfg0.win 3).blk t).view.emb (ix3 0 y1 y2)) 0).val) (bias (m ((c : Thread nD τ).loc main_arg1)))
    ((((cfg0.win 3).blk t).view.emb (ix3 0 y1 y2)) 1).val ((((cfg0.win 3).blk t).view.emb (ix3 0 y1 y2)) 2).val = _
  rw [e0, e1, e2]

end Cert.Layer.Band16Value

end
-- ==== Proof.Layer.Band16Reference.lean ====
/-
  The reference of the banded attention of dilation 16, read index by index: the output and the log of the denominator over
  the whole sequences, as functions of the arguments.
-/
module

public import proofs.«01_k».proof.Proof.Gen.Band16RefIdeal.Run
public import proofs.«01_k».proof.Proof.Layer.Band16Table
public import proofs.«01_k».proof.Proof.Layer.BandGather
public import proofs.«01_k».proof.Proof.Layer.BandHead
public import Idealize.ShloMosaic.Lib.Pipeline.ValueKit

@[expose] public section

set_option maxRecDepth 16384

noncomputable section

open Idealize.ShloMosaic Idealize.ShloMosaic.TcCoe Idealize.SL.Sem

namespace Cert.Layer.Band16Reference

open Cert.Band16RefIdeal Cert.Band16RefIdeal.Gen Cert.Band16RefIdeal.Value Cert.Layer Cert.Layer.Band16Table

/-- The rows of sequence `b` of the queries, keys and values. -/
def rows (x : FVec Ideal S2048x12288 .bf16) (b a l : ℕ) : EReal := at2 (n0 := 2048) (n1 := 12288) x (b * 256 + a) l

/-- Key position minus query position. -/
def dist : IVec S256x256 32 := subi (iotaInDim S256x256 32 1) (iotaInDim S256x256 32 0)
/-- The distance clipped to the band. -/
def clipped : IVec S256x256 32 :=
  minsi (broadcastInDim S256x256 ![] bcast_S_S256x256 (id (constantI S_ 32 128#32)))
    (maxsi (broadcastInDim S256x256 ![] bcast_S_S256x256 (id (constantI S_ 32 0#32)))
      (addi dist (broadcastInDim S256x256 ![] bcast_S_S256x256 (constantI S_ 32 64#32))))
/-- The row of the bias table for every pair of positions. -/
def offsets : IVec S256x256 32 :=
  select (cmpi .slt clipped (broadcastInDim S256x256 ![] bcast_S_S256x256 (constantI S_ 32 0#32)))
    (addi clipped (broadcastInDim S256x256 ![] bcast_S_S256x256 (constantI S_ 32 129#32))) clipped
/-- Which pairs lie in the band. -/
def near : IVec S256x256 1 := cmpi .sle (absi dist) (broadcastInDim S256x256 ![] bcast_S_S256x256 (constantI S_ 32 64#32))
/-- The bias by distance of the heads of this dilation. -/
def headBias (tab : FVec Ideal S32x12 .f32) : FVec Ideal S129x4 .f32 :=
  extractStridedSlice S129x4 ![0, 8] (Host.gather gather_S32x12_S129x1_S129x12_1_0_n_n_0_1_112 tab
    (broadcastInDim S129x1 ![0] bcast_S129_S129x1_0 (select (constantI S129 1 0#1)
      (addi (fun i => lit0 (S129.rowMajor i)) (broadcastInDim S129 ![] bcast_S_S129 (constantI S_ 32 32#32)))
      (fun i => lit0 (S129.rowMajor i))))) slices_S129x12_S129x4_0_8
/-- The bias of every head, query and key. -/
def pairBias (tab : FVec Ideal S32x12 .f32) : FVec Ideal S4x256x256 .f32 :=
  transpose S4x256x256 [2, 0, 1] (Host.gather gather_S129x4_S256x256x1_S256x256x4_2_0_n_n_0_2_14 (headBias tab)
    (broadcastInDim S256x256x1 ![0, 1] bcast_S256x256_S256x256x1_0_1 offsets)) transposes_S256x256x4_S4x256x256_2_0_1

/-- The queries. -/
def queries (x : FVec Ideal S2048x12288 .bf16) : FVec Ideal S8x256x16x4x64 .f32 :=
  mulf (shapeCast _ (extractStridedSlice S8x256x16x1x4x64 ![0, 0, 0, 0, 0, 0] (shapeCast _ (extf .f32 x bitsLt_bf16_f32) shapeCasts_S2048x12288_S8x256x16x3x4x64) slices_S8x256x16x3x4x64_S8x256x16x1x4x64_0_0_0_0_0_0) shapeCasts_S8x256x16x1x4x64_S8x256x16x4x64) (broadcastInDim S8x256x16x4x64 ![] bcast_S_S8x256x16x4x64 (constant S_ .f32 0x3E000000#32))
/-- The keys. -/
def keys (x : FVec Ideal S2048x12288 .bf16) : FVec Ideal S8x256x16x4x64 .f32 :=
  shapeCast _ (extractStridedSlice S8x256x16x1x4x64 ![0, 0, 0, 1, 0, 0] (shapeCast _ (extf .f32 x bitsLt_bf16_f32) shapeCasts_S2048x12288_S8x256x16x3x4x64) slices_S8x256x16x3x4x64_S8x256x16x1x4x64_0_0_0_1_0_0) shapeCasts_S8x256x16x1x4x64_S8x256x16x4x64
/-- The values. -/
def values (x : FVec Ideal S2048x12288 .bf16) : FVec Ideal S8x256x16x4x64 .f32 :=
  shapeCast _ (extractStridedSlice S8x256x16x1x4x64 ![0, 0, 0, 2, 0, 0] (shapeCast _ (extf .f32 x bitsLt_bf16_f32) shapeCasts_S2048x12288_S8x256x16x3x4x64) slices_S8x256x16x3x4x64_S8x256x16x1x4x64_0_0_0_2_0_0) shapeCasts_S8x256x16x1x4x64_S8x256x16x4x64
/-- The logits, `⊥` outside the band. -/
def logits (x : FVec Ideal S2048x12288 .bf16) (tab : FVec Ideal S32x12 .f32) : FVec Ideal S8x16x4x256x256 .f32 :=
  select (broadcastInDim S8x16x4x256x256 ![3, 4] bcast_S256x256_S8x16x4x256x256_3_4 near)
    (addf (Host.dotGeneral dot_S8x256x16x4x64_S8x256x16x4x64_S8x16x4x256x256_4_4_1_1_023_023 none (queries x) (keys x))
      (broadcastInDim S8x16x4x256x256 ![0, 1, 2, 3, 4] bcast_S1x1x4x256x256_S8x16x4x256x256_0_1_2_3_4 (broadcastInDim S1x1x4x256x256 ![2, 3, 4] bcast_S4x256x256_S1x1x4x256x256_2_3_4 (pairBias tab))))
    (broadcastInDim S8x16x4x256x256 ![] bcast_S_S8x16x4x256x256 (id (constant S_ .f32 0xFF800000#32)))
/-- The largest logit of every query. -/
def tops (s : FVec Ideal S8x16x4x256x256 .f32) : FVec Ideal S8x16x4x256 .f32 :=
  Host.reduce FloatOps.maximumf s (constant S_ .f32 0xFF800000#32) reducesTo_S8x16x4x256x256_S8x16x4x256_d4 h_S_
/-- The keys' weights. -/
def weights (s : FVec Ideal S8x16x4x256x256 .f32) : FVec Ideal S8x16x4x256x256 .f32 :=
  Host.exp (subf s (broadcastInDim S8x16x4x256x256 ![0, 1, 2, 3, 4] bcast_S8x16x4x256x1_S8x16x4x256x256_0_1_2_3_4 (broadcastInDim S8x16x4x256x1 ![0, 1, 2, 3] bcast_S8x16x4x256_S8x16x4x256x1_0_1_2_3 (tops s))))
/-- The softmax denominators. -/
def dens (s : FVec Ideal S8x16x4x256x256 .f32) : FVec Ideal S8x16x4x256 .f32 :=
  Host.reduceAdd (weights s) (constant S_ .f32 0x00000000#32) reducesTo_S8x16x4x256x256_S8x16x4x256_d4 h_S_
/-- The weighted values, the batch, residue and head before the lane. -/
def mixed (x : FVec Ideal S2048x12288 .bf16) (s : FVec Ideal S8x16x4x256x256 .f32) : FVec Ideal S8x16x4x64x256 .f32 :=
  Host.dotGeneral dot_S8x256x16x4x64_S8x16x4x256x256_S8x16x4x64x256_1_4_4_3_023_012 none (values x) (weights s)
/-- The output from the weighted values and the denominators. -/
def outOf (w : FVec Ideal S8x16x4x64x256 .f32) (d : FVec Ideal S8x16x4x256 .f32) : FVec Ideal S8x256x4096 .bf16 :=
  truncf .bf16 (shapeCast _ (Host.divf (transpose S8x256x16x4x64 [0, 4, 1, 2, 3] w transposes_S8x16x4x64x256_S8x256x16x4x64_0_4_1_2_3)
    (broadcastInDim S8x256x16x4x64 ![0, 1, 2, 3, 4] bcast_S8x256x16x4x1_S8x256x16x4x64_0_1_2_3_4 (broadcastInDim S8x256x16x4x1 ![0, 1, 2, 3] bcast_S8x256x16x4_S8x256x16x4x1_0_1_2_3
      (transpose S8x256x16x4 [0, 3, 1, 2] d transposes_S8x16x4x256_S8x256x16x4_0_3_1_2)))) shapeCasts_S8x256x16x4x64_S8x256x4096) bitsLt_bf16_f32
/-- The log of the denominators, for every lane of a head. -/
def lseOf (t d : FVec Ideal S8x16x4x256 .f32) : FVec Ideal S8x256x4096 .f32 :=
  shapeCast _ (broadcastInDim S8x256x16x4x64 ![0, 1, 2, 3, 4] bcast_S8x256x16x4x1_S8x256x16x4x64_0_1_2_3_4 (broadcastInDim S8x256x16x4x1 ![0, 1, 2, 3] bcast_S8x256x16x4_S8x256x16x4x1_0_1_2_3
    (transpose S8x256x16x4 [0, 3, 1, 2] (addf t (Host.log d)) transposes_S8x16x4x256_S8x256x16x4_0_3_1_2))) shapeCasts_S8x256x16x4x64_S8x256x4096

section
variable (m : (ℓ : Loc nD τ sig) → Buf (Elt Ideal) ℓ)

theorem out_res (c : Dev nD) (x : FVec Ideal S2048x12288 .bf16) (tab : FVec Ideal S32x12 .f32)
    (hx : m ((c : Thread nD τ).loc main_arg0) = x) (ht : m ((c : Thread nD τ).loc main_arg1) = tab) :
    res_out0 m c = outOf (mixed x (logits x tab)) (dens (logits x tab)) := by
  unfold res_out0 res_main_v56
  rw [hx, ht]
  rfl

theorem lse_res (c : Dev nD) (x : FVec Ideal S2048x12288 .bf16) (tab : FVec Ideal S32x12 .f32)
    (hx : m ((c : Thread nD τ).loc main_arg0) = x) (ht : m ((c : Thread nD τ).loc main_arg1) = tab) :
    res_out1 m c = lseOf (tops (logits x tab)) (dens (logits x tab)) := by
  unfold res_out1 res_main_v57
  rw [hx, ht]
  rfl
end

theorem queries_apply (x : FVec Ideal S2048x12288 .bf16) (b : Fin 8) (a : Fin 256) (r : Fin 16) (h : Fin 4) (d : Fin 64) :
    queries x (ix5 b a r h d) = rows x b.val a.val (r.val * 768 + h.val * 64 + d.val) * Ideal.ofBits .f32 0x3E000000#32 := by
  pointwise [queries]
  refine congrArg (· * Ideal.ofBits .f32 0x3E000000#32) ?_
  refine (at2_eq (n0 := 2048) (n1 := 12288) x _ _).trans (congrArg₂ (at2 (n0 := 2048) (n1 := 12288) x) rfl ?_)
  first | (dsimp only; done) | (dsimp only; omega)

theorem keys_apply (x : FVec Ideal S2048x12288 .bf16) (b : Fin 8) (a : Fin 256) (r : Fin 16) (h : Fin 4) (d : Fin 64) :
    keys x (ix5 b a r h d) = rows x b.val a.val (r.val * 768 + 256 + h.val * 64 + d.val) := by
  pointwise [keys]
  refine (at2_eq (n0 := 2048) (n1 := 12288) x _ _).trans (congrArg₂ (at2 (n0 := 2048) (n1 := 12288) x) rfl ?_)
  first | (dsimp only; done) | (dsimp only; omega)

theorem values_apply (x : FVec Ideal S2048x12288 .bf16) (b : Fin 8) (a : Fin 256) (r : Fin 16) (h : Fin 4) (d : Fin 64) :
    values x (ix5 b a r h d) = rows x b.val a.val (r.val * 768 + 512 + (h.val * 64 + d.val)) := by
  pointwise [values]
  refine (at2_eq (n0 := 2048) (n1 := 12288) x _ _).trans (congrArg₂ (at2 (n0 := 2048) (n1 := 12288) x) rfl ?_)
  first | (dsimp only; done) | (dsimp only; omega)

theorem near_apply (i j : Fin 256) : near (ix2 i j) = if i.val ≤ j.val + 64 ∧ j.val ≤ i.val + 64 then 1#1 else 0#1 := by
  pointwise [near, dist]
  exact nearWord_band i.val j.val (by omega) (by omega)

theorem offsets_apply (i j : Fin 256) : offsets (ix2 i j) = offsetWord (BitVec.ofNat 32 j.val - BitVec.ofNat 32 i.val + 64#32) := by
  pointwise [offsets, clipped, dist]
  rfl

theorem buckets : ∀ k : Fin 129, lit0 k = BitVec.ofNat 32 (bucket k.val) ∧ bucket k.val < 32 := by decide +kernel

theorem position (p : Fin 129) : S129.rowMajor (ix1 p) = p := Fin.ext (Shape.rowMajor_val_one _)

theorem headBias_apply (tab : FVec Ideal S32x12 .f32) (k : Fin 129) (h : Fin 4) : headBias tab (ix2 k h) = bias tab h.val k.val := by
  pointwise [headBias]
  refine (Routing.gather_row gather_S32x12_S129x1_S129x12_1_0_n_n_0_1_112 rfl rfl rfl rfl rfl tab _ k _
    ⟨bucket k.val, (buckets k).2⟩ ?_ (by norm_num)).trans ?_
  · pointwise
    show lit0 (S129.rowMajor (ix1 k)) = _
    rw [position]
    exact (buckets k).1
  · refine (at2_eq (n0 := 32) (n1 := 12) tab _ _).trans ?_
    show _ = at2 (n0 := 32) (n1 := 12) tab (bucket k.val) (8 + h.val)
    exact congrArg₂ (at2 (n0 := 32) (n1 := 12) tab) rfl (by first | rfl | (dsimp only; omega))

/-- The bias of a pair of positions in the band. -/
theorem pairBias_apply (tab : FVec Ideal S32x12 .f32) (h : Fin 4) (i j : Fin 256) (hb : i.val ≤ j.val + 64 ∧ j.val ≤ i.val + 64) :
    pairBias tab (ix3 h i j) = bias tab h.val (j.val + 64 - i.val) := by
  pointwise [pairBias]
  refine (square_apply (N := 129) (C := 4) (L := 256) gather_S129x4_S256x256x1_S256x256x4_2_0_n_n_0_2_14_wf (headBias tab) _ i j h
    ⟨j.val + 64 - i.val, by omega⟩ ?_ (by norm_num)).trans (headBias_apply tab _ h)
  pointwise
  exact (offsets_apply i j).trans (offsetWord_band i.val j.val (by omega) (by omega) hb)

/-- The logits are the sequence's. -/
theorem logits_apply (x : FVec Ideal S2048x12288 .bf16) (tab : FVec Ideal S32x12 .f32) (b : Fin 8) (r : Fin 16) (h : Fin 4) (i j : Fin 256) :
    logits x tab (ix5 b r h i j)
      = seqLogits 256 (rows x b.val) (bias tab h.val) (r.val * 768 + h.val * 64) (r.val * 768 + 256 + h.val * 64) i.val j := by
  have hp : logits x tab (ix5 b r h i j) = Scalar.select (near (ix2 i j))
      (∑ d : Fin 64, queries x (ix5 b i r h d) * keys x (ix5 b j r h d) + pairBias tab (ix3 h i j))
      (id (constant (F := Ideal) S_ FTy.f32 0xFF800000#32) ix0) := by pointwise [logits]
  rw [hp]
  unfold seqLogits
  rw [near_apply]
  by_cases hb : i.val ≤ j.val + 64 ∧ j.val ≤ i.val + 64
  · rw [if_pos hb, if_pos hb]
    refine Eq.trans rfl (congrArg₂ (· + ·) (Finset.sum_congr rfl fun d _ => ?_) (pairBias_apply tab h i j hb))
    exact congrArg₂ (· * ·) (queries_apply x b i r h d) (keys_apply x b j r h d)
  · rw [if_neg hb, if_neg hb]
    exact Head.neg_inf

theorem tops_apply (s : FVec Ideal S8x16x4x256x256 .f32) (b : Fin 8) (r : Fin 16) (h : Fin 4) (i : Fin 256) :
    tops s (ix4 b r h i) = topLogit fun j => s (ix5 b r h i j) := by
  pointwise [tops]
  rw [Head.neg_inf]
  rfl

theorem weights_apply (s : FVec Ideal S8x16x4x256x256 .f32) (b : Fin 8) (r : Fin 16) (h : Fin 4) (i j : Fin 256) :
    weights s (ix5 b r h i j) = keyWeight (fun j => s (ix5 b r h i j)) j := by
  pointwise [weights]
  rw [tops_apply]
  rfl

theorem dens_apply (s : FVec Ideal S8x16x4x256x256 .f32) (b : Fin 8) (r : Fin 16) (h : Fin 4) (i : Fin 256) :
    dens s (ix4 b r h i) = rowDen fun j => s (ix5 b r h i j) := by
  pointwise [dens]
  exact Finset.sum_congr rfl fun j _ => weights_apply s b _ h i j

theorem mixed_apply (x : FVec Ideal S2048x12288 .bf16) (s : FVec Ideal S8x16x4x256x256 .f32) (b : Fin 8) (r : Fin 16) (h : Fin 4) (d : Fin 64) (i : Fin 256) :
    mixed x s (ix5 b r h d i)
      = ∑ j : Fin 256, keyWeight (fun j => s (ix5 b r h i j)) j * rows x b.val j.val (r.val * 768 + 512 + (h.val * 64 + d.val)) := by
  have hp : mixed x s (ix5 b r h d i) = ∑ j : Fin 256, values x (ix5 b j r h d) * weights s (ix5 b r h i j) := by pointwise [mixed]
  refine hp.trans ?_
  refine Finset.sum_congr rfl fun j _ => ?_
  exact (congrArg₂ (· * ·) (values_apply x b j r h d) (weights_apply s b r h i j)).trans (mul_comm _ _)

theorem outOf_apply (w : FVec Ideal S8x16x4x64x256 .f32) (d : FVec Ideal S8x16x4x256 .f32) (b : Fin 8) (i : Fin 256) (l : Fin 4096) :
    outOf w d (ix3 b i l) = Ideal.div (w (ix5 b ⟨l.val / 256, by omega⟩ ⟨l.val % 256 / 64, by omega⟩ ⟨l.val % 64, by omega⟩ i))
      (d (ix4 b ⟨l.val / 256, by omega⟩ ⟨l.val % 256 / 64, by omega⟩ i)) := by
  pointwise [outOf]
  refine congrArg₂ Ideal.div (congrArg w ?_) (congrArg d ?_) <;> blk_ext

theorem lseOf_apply (t d : FVec Ideal S8x16x4x256 .f32) (b : Fin 8) (i : Fin 256) (l : Fin 4096) :
    lseOf t d (ix3 b i l) = t (ix4 b ⟨l.val / 256, by omega⟩ ⟨l.val % 256 / 64, by omega⟩ i)
      + Ideal.log (d (ix4 b ⟨l.val / 256, by omega⟩ ⟨l.val % 256 / 64, by omega⟩ i)) := by
  pointwise [lseOf]
  refine congrArg₂ (fun a b => a + Ideal.log b) (congrArg t ?_) (congrArg d ?_) <;> blk_ext

section
variable (m : (ℓ : Loc nD τ sig) → Buf (Elt Ideal) ℓ)

/-- The output, over the whole sequence. -/
theorem out_apply (c : Dev nD) (x : FVec Ideal S2048x12288 .bf16) (tab : FVec Ideal S32x12 .f32)
    (hx : m ((c : Thread nD τ).loc main_arg0) = x) (ht : m ((c : Thread nD τ).loc main_arg1) = tab)
    (b : Fin 8) (i : Fin 256) (l : Fin 4096) :
    res_out0 m c (ix3 b i l) = seqOut 256 (rows x b.val) (bias tab) i.val l.val := by
  have hl := l.isLt
  refine (congrFun (out_res m c x tab hx ht) (ix3 b i l)).trans ((outOf_apply _ _ b i l).trans ?_)
  rw [mixed_apply, dens_apply, funext fun j => logits_apply x tab b ⟨l.val / 256, by omega⟩ ⟨l.val % 256 / 64, by omega⟩ i j]
  unfold seqOut rowOut seqLaneLogits
  have e : l.val % 256 / 64 * 64 + l.val % 64 = l.val % 256 := by omega
  dsimp only
  rw [e]

/-- The log of the denominator, over the whole sequence. -/
theorem lse_apply (c : Dev nD) (x : FVec Ideal S2048x12288 .bf16) (tab : FVec Ideal S32x12 .f32)
    (hx : m ((c : Thread nD τ).loc main_arg0) = x) (ht : m ((c : Thread nD τ).loc main_arg1) = tab)
    (b : Fin 8) (i : Fin 256) (l : Fin 4096) :
    res_out1 m c (ix3 b i l) = seqLse 256 (rows x b.val) (bias tab) i.val l.val := by
  have hl := l.isLt
  refine (congrFun (lse_res m c x tab hx ht) (ix3 b i l)).trans ((lseOf_apply _ _ b i l).trans ?_)
  rw [tops_apply, dens_apply, funext fun j => logits_apply x tab b ⟨l.val / 256, by omega⟩ ⟨l.val % 256 / 64, by omega⟩ i j]
  rfl

end

end Cert.Layer.Band16Reference

end
-- ==== Proof.Layer.BandClaims.lean ====
/-
  The banded attention computes what its reference computes, for each of its three dilations.
-/
module

public import proofs.«01_k».proof.Defs
public import proofs.«01_k».proof.Proof.Layer.Band1Value
public import proofs.«01_k».proof.Proof.Layer.Band1Reference
public import proofs.«01_k».proof.Proof.Layer.Band4Value
public import proofs.«01_k».proof.Proof.Layer.Band4Reference
public import proofs.«01_k».proof.Proof.Layer.Band16Value
public import proofs.«01_k».proof.Proof.Layer.Band16Reference
public import Idealize.ShloMosaic.Lib.Claim

@[expose] public section

set_option maxRecDepth 16384

noncomputable section

open Idealize.ShloMosaic Idealize.ShloMosaic.TcCoe Idealize.SL.Sem

namespace Cert.Layer.BandClaims

/-- On equal arguments the kernel of dilation 1 and its reference hold the same extended reals in both results. -/
theorem algebraic1 : Cert.algebraic_Band1Ideal_Band1RefIdeal := by
  intro m ρ m' ρ' _ hagree
  refine ⟨_, _, (θ_run Cert.Band1Ideal.defs _ _).mono
      (fun _ h c => ⟨(h c).1.trans (Band1Value.out_final m c), (h c).2.1.trans (Band1Value.lse_final m c), (h c).2.2⟩)
    (Cert.Band1Ideal.Value.run_blocks (F := Ideal) m ρ), ?_⟩
  refine (θ_run Cert.Band1RefIdeal.defs _ _).mono (fun _ h c => ⟨(h c).1.trans ?_, (h c).2.1.trans ?_, (h c).2.2⟩)
    (Cert.Band1RefIdeal.Value.run (F := Ideal) m' ρ')
  all_goals
    obtain ⟨h0, h1⟩ := hagree c
    funext i
    idx_vars i
  · exact Band1Reference.out_apply m' c _ _ h0 h1 i0 i1 i2
  · exact Band1Reference.lse_apply m' c _ _ h0 h1 i0 i1 i2

/-- On equal arguments the kernel of dilation 4 and its reference hold the same extended reals in both results. -/
theorem algebraic4 : Cert.algebraic_Band4Ideal_Band4RefIdeal := by
  intro m ρ m' ρ' _ hagree
  refine ⟨_, _, (θ_run Cert.Band4Ideal.defs _ _).mono
      (fun _ h c => ⟨(h c).1.trans (Band4Value.out_final m c), (h c).2.1.trans (Band4Value.lse_final m c), (h c).2.2⟩)
    (Cert.Band4Ideal.Value.run_blocks (F := Ideal) m ρ), ?_⟩
  refine (θ_run Cert.Band4RefIdeal.defs _ _).mono (fun _ h c => ⟨(h c).1.trans ?_, (h c).2.1.trans ?_, (h c).2.2⟩)
    (Cert.Band4RefIdeal.Value.run (F := Ideal) m' ρ')
  all_goals
    obtain ⟨h0, h1⟩ := hagree c
    funext i
    idx_vars i
  · exact Band4Reference.out_apply m' c _ _ h0 h1 i0 i1 i2
  · exact Band4Reference.lse_apply m' c _ _ h0 h1 i0 i1 i2

/-- On equal arguments the kernel of dilation 16 and its reference hold the same extended reals in both results. -/
theorem algebraic16 : Cert.algebraic_Band16Ideal_Band16RefIdeal := by
  intro m ρ m' ρ' _ hagree
  refine ⟨_, _, (θ_run Cert.Band16Ideal.defs _ _).mono
      (fun _ h c => ⟨(h c).1.trans (Band16Value.out_final m c), (h c).2.1.trans (Band16Value.lse_final m c), (h c).2.2⟩)
    (Cert.Band16Ideal.Value.run_blocks (F := Ideal) m ρ), ?_⟩
  refine (θ_run Cert.Band16RefIdeal.defs _ _).mono (fun _ h c => ⟨(h c).1.trans ?_, (h c).2.1.trans ?_, (h c).2.2⟩)
    (Cert.Band16RefIdeal.Value.run (F := Ideal) m' ρ')
  all_goals
    obtain ⟨h0, h1⟩ := hagree c
    funext i
    idx_vars i
  · exact Band16Reference.out_apply m' c _ _ h0 h1 i0 i1 i2
  · exact Band16Reference.lse_apply m' c _ _ h0 h1 i0 i1 i2

end Cert.Layer.BandClaims

end
-- ==== Proof.Layer.MixerFrames.lean ====
/-
  The frame claims of the projections into the mixers, the mixers' outputs and the memory's keys and values: every program
  leaves its arguments and its counters as they were. And what the idealisation rewrites.
-/
module

public import proofs.«01_k».proof.Defs
public import proofs.«01_k».proof.Proof.Gen.MemKv.Frame
public import proofs.«01_k».proof.Proof.Gen.MemKvIdeal.Frame
public import proofs.«01_k».proof.Proof.Gen.MemKvRefIdeal.Run
public import proofs.«01_k».proof.Proof.Gen.AttProj.Frame
public import proofs.«01_k».proof.Proof.Gen.AttProjIdeal.Frame
public import proofs.«01_k».proof.Proof.Gen.AttProjRefIdeal.Run
public import proofs.«01_k».proof.Proof.Gen.AttOut.Frame
public import proofs.«01_k».proof.Proof.Gen.AttOutIdeal.Frame
public import proofs.«01_k».proof.Proof.Gen.AttOutRefIdeal.Run
public import proofs.«01_k».proof.Proof.Gen.DnOut.Frame
public import proofs.«01_k».proof.Proof.Gen.DnOutIdeal.Frame
public import proofs.«01_k».proof.Proof.Gen.DnOutRefIdeal.Run
public import Idealize.ShloMosaic.Lib.Quiescent
public import Idealize.ShloMosaic.Lib.Claim

@[expose] public section

noncomputable section

open Idealize.ShloMosaic Idealize.ShloMosaic.TcCoe Idealize.SL.Sem

namespace Cert.Layer.MixerFrames

/-- `MemKv` leaves its arguments and its counters as they were. -/
theorem frame_kernelMemKv : Cert.quiescent_MemKv := fun m ρ _ => Cert.MemKv.Gen.frame m ρ
/-- So does its idealisation. -/
theorem frame_idealMemKv : Cert.quiescent_MemKvIdeal := fun m ρ _ => Cert.MemKvIdeal.Gen.frame m ρ
/-- So does its reference. -/
theorem frame_referenceMemKv : Cert.quiescent_MemKvRefIdeal := fun m ρ _ =>
  (θ_run Cert.MemKvRefIdeal.defs _ _).mono (fun r h => ⟨fun c => (h c).2.2,
      Idealize.ShloMosaic.sem_eq_zero_of_no_sems (by decide) r.2⟩)
    (Cert.MemKvRefIdeal.Value.run (F := Ideal) m ρ)

/-- No operation of `MemKv` was rewritten. -/
theorem preservesMemKv : Cert.preserves_MemKv_MemKvIdeal := trivial

/-- `AttProj` leaves its arguments and its counters as they were. -/
theorem frame_kernelAttProj : Cert.quiescent_AttProj := fun m ρ _ => Cert.AttProj.Gen.frame m ρ
/-- So does its idealisation. -/
theorem frame_idealAttProj : Cert.quiescent_AttProjIdeal := fun m ρ _ => Cert.AttProjIdeal.Gen.frame m ρ
/-- So does its reference. -/
theorem frame_referenceAttProj : Cert.quiescent_AttProjRefIdeal := fun m ρ _ =>
  (θ_run Cert.AttProjRefIdeal.defs _ _).mono (fun r h => ⟨fun c => (h c).2.2.2.2,
      Idealize.ShloMosaic.sem_eq_zero_of_no_sems (by decide) r.2⟩)
    (Cert.AttProjRefIdeal.Value.run (F := Ideal) m ρ)

/-- No operation of `AttProj` was rewritten. -/
theorem preservesAttProj : Cert.preserves_AttProj_AttProjIdeal := trivial

/-- `AttOut` leaves its arguments and its counters as they were. -/
theorem frame_kernelAttOut : Cert.quiescent_AttOut := fun m ρ _ => Cert.AttOut.Gen.frame m ρ
/-- So does its idealisation. -/
theorem frame_idealAttOut : Cert.quiescent_AttOutIdeal := fun m ρ _ => Cert.AttOutIdeal.Gen.frame m ρ
/-- So does its reference. -/
theorem frame_referenceAttOut : Cert.quiescent_AttOutRefIdeal := fun m ρ _ =>
  (θ_run Cert.AttOutRefIdeal.defs _ _).mono (fun r h => ⟨fun c => (h c).2,
      Idealize.ShloMosaic.sem_eq_zero_of_no_sems (by decide) r.2⟩)
    (Cert.AttOutRefIdeal.Value.run (F := Ideal) m ρ)

/-- No operation of `AttOut` was rewritten. -/
theorem preservesAttOut : Cert.preserves_AttOut_AttOutIdeal := trivial

/-- `DnOut` leaves its arguments and its counters as they were. -/
theorem frame_kernelDnOut : Cert.quiescent_DnOut := fun m ρ _ => Cert.DnOut.Gen.frame m ρ
/-- So does its idealisation. -/
theorem frame_idealDnOut : Cert.quiescent_DnOutIdeal := fun m ρ _ => Cert.DnOutIdeal.Gen.frame m ρ
/-- So does its reference. -/
theorem frame_referenceDnOut : Cert.quiescent_DnOutRefIdeal := fun m ρ _ =>
  (θ_run Cert.DnOutRefIdeal.defs _ _).mono (fun r h => ⟨fun c => (h c).2,
      Idealize.ShloMosaic.sem_eq_zero_of_no_sems (by decide) r.2⟩)
    (Cert.DnOutRefIdeal.Value.run (F := Ideal) m ρ)

/-- The one constant of `DnOut` rewritten is `-1/log 2`, of which the printed one is the rounding. -/
theorem preservesDnOut : Cert.preserves_DnOut_DnOutIdeal :=
  IdealRules.named_const.statement Cert.DnOutIdeal.κ "neg_log2e" .f32 0xBFB8AA3B#32 ((-((Real.log 2)⁻¹) : ℝ) : EReal) rfl

end Cert.Layer.MixerFrames

end
-- ==== Proof.Layer.MixMath.lean ====
/-
  A normalised row times a column of weights, with rows and columns named by naturals.
-/
module

public import proofs.«01_k».proof.Proof.Layer.FfnMath
public import proofs.«01_k».proof.Proof.Layer.BandMath

@[expose] public section

noncomputable section

open Idealize.ShloMosaic

namespace Cert.Layer

/-- A normalised row times a column of weights. -/
def projRow (x g w : Fin 1024 → EReal) : EReal := ∑ k : Fin 1024, rmsRow x g k * w k

/-- Such products agree where their rows, gains and columns agree. -/
theorem projRow_congr {x x' g g' w w' : Fin 1024 → EReal} (hx : ∀ k, x k = x' k) (hg : ∀ k, g k = g' k) (hw : ∀ k, w k = w' k) :
    projRow x g w = projRow x' g' w' := by
  obtain rfl : x = x' := funext hx
  obtain rfl : g = g' := funext hg
  obtain rfl : w = w' := funext hw
  rfl

/-- An array's entry, named by the values of its coordinates. -/
theorem at2_of {n0 n1 : ℕ} (X : (⟨2, ![n0, n1]⟩ : Shape).Idx → EReal) (i : (⟨2, ![n0, n1]⟩ : Shape).Idx) (a b : ℕ)
    (ha : (i 0).val = a) (hb : (i 1).val = b) : X i = at2 X a b := by
  subst ha hb
  exact (congrArg X (by funext j; fin_cases j <;> rfl)).trans (at2_eq X (i 0) (i 1))

/-- Row `r` of `x`, normalised, times column `l` of `w`. -/
def projAt {n d : ℕ} (x : (⟨2, ![n, 1024]⟩ : Shape).Idx → EReal) (g : Fin 1024 → EReal)
    (w : (⟨2, ![1024, d]⟩ : Shape).Idx → EReal) (r l : ℕ) : EReal :=
  projRow (fun k => at2 x r k.val) g (fun k => at2 w k.val l)

/-- The same with the coordinates of an index. -/
theorem projAt_eq {n d : ℕ} (x : (⟨2, ![n, 1024]⟩ : Shape).Idx → EReal) (g : Fin 1024 → EReal)
    (w : (⟨2, ![1024, d]⟩ : Shape).Idx → EReal) (r : Fin n) (l : Fin d) :
    projRow (fun k => x (ix2 r k)) g (fun k => w (ix2 k l)) = projAt x g w r.val l.val :=
  projRow_congr (fun k => at2_eq x r k) (fun _ => rfl) (fun k => at2_eq w k l)

/-- The column of the weights that lane `l` of head group `gi` is projected by: the group's queries, keys and values lie
    768 columns apart. -/
def groupCol (gi l : ℕ) : ℕ := l / 256 * 768 + gi * 256 + l % 256

end Cert.Layer

end
-- ==== Proof.Layer.MemKvValue.lean ====
/-
  The memory's keys and values, by the kernel and by the reference, read index by index: the normalised memory rows times
  the first and the last 256 columns of the weights.
-/
module

public import proofs.«01_k».proof.Proof.Gen.MemKvIdeal.Value
public import proofs.«01_k».proof.Proof.Gen.MemKvRefIdeal.Run
public import proofs.«01_k».proof.Proof.Layer.MixMath
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Layer.MemKvKernel

open Cert.MemKvIdeal Cert.MemKvIdeal.Gen Cert.Layer

/-- The keys a block stores, entry by entry. -/
theorem keys_apply (x : FVec Ideal S1x256x1024 .f32) (g : FVec Ideal S1x1024 .f32) (w : FVec Ideal S1024x512 .bf16)
    (z : Fin 1) (r l : Fin 256) :
    k0_pay2 (F := Ideal) x g w (ix3 z r l)
      = projRow (fun k => x (ix3 0 r k)) (fun k => g (ix2 0 k)) (fun k => w (ix2 k ⟨l, by omega⟩)) := by
  pointwise [k0_pay2, k0_pay1]
  simp only [projRow, rmsRow]

/-- The values a block stores, entry by entry. -/
theorem values_apply (x : FVec Ideal S1x256x1024 .f32) (g : FVec Ideal S1x1024 .f32) (w : FVec Ideal S1024x512 .bf16)
    (z : Fin 1) (r l : Fin 256) :
    k0_pay3 (F := Ideal) x g w (ix3 z r l)
      = projRow (fun k => x (ix3 0 r k)) (fun k => g (ix2 0 k)) (fun k => w (ix2 k ⟨256 + l, by omega⟩)) := by
  pointwise [k0_pay3, k0_pay1]
  simp only [projRow, rmsRow]

/-- Where each window's block sits: the memory of the point's sequence, everything else whole. -/
theorem idx : ∀ t : Fin cfg0.N, win0_0.index t = ![t.val, 0, 0] ∧ win0_1.index t = ![0, 0] ∧ win0_2.index t = ![0, 0]
    ∧ win0_3.index t = ![t.val, 0, 0] ∧ win0_4.index t = ![t.val, 0, 0] :=
  (by decide +kernel : ∀ t : Fin grid0.N, _)

variable (m : (ℓ : Loc nD τ sig) → Buf (Elt Ideal) ℓ)

/-- Half of the kernel's results as a function of the arguments: the columns from `o` on. -/
def half (o : ℕ) (ho : o ≤ 256) (x : FVec Ideal S8x256x1024 .f32) (g : FVec Ideal S1024 .f32) (w : FVec Ideal S1024x512 .f32) :
    FVec Ideal S8x256x256 .bf16 := fun i =>
  projRow (fun k => x (ix3 (i 0) (i 1) k)) (fun k => g (ix1 k))
    (fun k => w (ix2 k ⟨o + (i 2).val, by have : (i 2).val < 256 := (i 2).isLt; omega⟩))

/-- The keys after the run. -/
theorem keys_final (c : Dev nD) : (dats m 0 c).arrAt 3 cfg0.N
    = half 0 (by omega) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  idx_vars y
  refine (keys_apply _ _ _ _ _ _).trans (projRow_congr (fun k => ?_) (fun k => ?_) (fun k => ?_))
  all_goals first | (pointwise; blk_point [iblk, V, idx t]; done) | (refine Fin.ext ?_; blk_simp [idx t]; omega)

/-- The values after the run. -/
theorem values_final (c : Dev nD) : (dats m 0 c).arrAt 4 cfg0.N
    = half 256 (by omega) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  frame_out
  idx_vars y
  refine (values_apply _ _ _ _ _ _).trans (projRow_congr (fun k => ?_) (fun k => ?_) (fun k => ?_))
  all_goals first | (pointwise; blk_point [iblk, V, idx t]; done) | (refine Fin.ext ?_; blk_simp [idx t]; omega)

end Cert.Layer.MemKvKernel

end
-- ==== Proof.Layer.MemKvReference.lean ====
/-
  The reference's memory keys and values, entry by entry.
-/
module

public import proofs.«01_k».proof.Proof.Gen.MemKvRefIdeal.Run
public import proofs.«01_k».proof.Proof.Layer.MixMath

@[expose] public section

set_option maxRecDepth 16384

noncomputable section

open Idealize.ShloMosaic Idealize.ShloMosaic.TcCoe Idealize.SL.Sem

namespace Cert.Layer.MemKvReference

open Cert.MemKvRefIdeal Cert.MemKvRefIdeal.Gen Cert.MemKvRefIdeal.Value Cert.Layer

variable (x : FVec Ideal S8x256x1024 .f32) (g : FVec Ideal S1024 .f32) (w : FVec Ideal S1024x512 .f32)

/-- Keys and values side by side. -/
def product : FVec Ideal S8x256x512 .f32 :=
  Host.dotGeneral dot_S8x256x1024_S1024x512_S8x256x512_2_0_01_1_n_n none (mulf (mulf x (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf x x) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 g))) w

/-- One of them. -/
theorem product_apply (b : Fin 8) (r : Fin 256) (l : Fin 512) :
    product x g w (ix3 b r l) = projRow (fun k => x (ix3 b r k)) (fun k => g (ix1 k)) (fun k => w (ix2 k l)) := by
  pointwise [product]
  simp only [projRow, rmsRow]

/-- The keys: the first 256 columns. -/
theorem keys_apply (b : Fin 8) (r l : Fin 256) :
    (truncf .bf16 (extractStridedSlice S8x256x256 ![0, 0, 0] (product x g w) slices_S8x256x512_S8x256x256_0_0_0) bitsLt_bf16_f32 : FVec Ideal S8x256x256 .bf16) (ix3 b r l)
      = projRow (fun k => x (ix3 b r k)) (fun k => g (ix1 k)) (fun k => w (ix2 k ⟨0 + l.val, by omega⟩)) := by
  have hp : (truncf .bf16 (extractStridedSlice S8x256x256 ![0, 0, 0] (product x g w) slices_S8x256x512_S8x256x256_0_0_0) bitsLt_bf16_f32 : FVec Ideal S8x256x256 .bf16) (ix3 b r l)
      = product x g w (ix3 b r ⟨0 + l.val, by omega⟩) := by
    pointwise
  exact hp.trans (product_apply x g w b r _)

/-- The values: the last 256 columns. -/
theorem values_apply (b : Fin 8) (r l : Fin 256) :
    (truncf .bf16 (extractStridedSlice S8x256x256 ![0, 0, 256] (product x g w) slices_S8x256x512_S8x256x256_0_0_256) bitsLt_bf16_f32 : FVec Ideal S8x256x256 .bf16) (ix3 b r l)
      = projRow (fun k => x (ix3 b r k)) (fun k => g (ix1 k)) (fun k => w (ix2 k ⟨256 + l.val, by omega⟩)) := by
  have hp : (truncf .bf16 (extractStridedSlice S8x256x256 ![0, 0, 256] (product x g w) slices_S8x256x512_S8x256x256_0_0_256) bitsLt_bf16_f32 : FVec Ideal S8x256x256 .bf16) (ix3 b r l)
      = product x g w (ix3 b r ⟨256 + l.val, by omega⟩) := by
    pointwise
  exact hp.trans (product_apply x g w b r _)

end Cert.Layer.MemKvReference

end
-- ==== Proof.Layer.AttProjBlock.lean ====
/-
  What one grid point of the projections leaves in its outputs: the products are staged lane tile by lane tile, and read back
  with the stride of the dilation, so that a row of the output holds `dil` tokens.
-/
module

public import proofs.«01_k».proof.Proof.Gen.AttProjIdeal.Frame
public import proofs.«01_k».proof.Proof.Layer.MixMath
public import Idealize.ShloMosaic.Lib.WholeRead
public import Idealize.ShloMosaic.Lib.Writes
public import Idealize.ShloMosaic.Lib.Pipeline.ReadBack
public import Idealize.ShloMosaic.Lib.Pipeline.ValueKit

@[expose] public section

set_option maxRecDepth 65536

noncomputable section

open Idealize.ShloMosaic Idealize.ShloMosaic.TcCoe Idealize.SL.Sem

namespace Cert.Layer.AttProjBlock

open Cert.AttProjIdeal Cert.AttProjIdeal.Gen Cert.Layer

/-- A load of a whole matrix is the matrix. -/
theorem load_whole {n d : ℕ} {e : EltTy} {κ : Kind} {sp : Space} (a : Memref sig κ sp (⟨2, ![n, d]⟩ : Shape) e) (h : a.IsWhole)
    (X : (⟨2, ![n, d]⟩ : Shape).Idx → Elt Ideal e) (inb : ∀ a, (![0, 0] : Fin 2 → ℕ) a + (![n, d] : Fin 2 → ℕ) a ≤ (⟨2, ![n, d]⟩ : Shape).size a) :
    View.readAt (Elt Ideal) a.view (Rect.unit (s := (⟨2, ![n, d]⟩ : Shape)) ![0, 0] ![n, d] inb).toLoadRect (h.unread X) = X := by
  funext y
  refine (Memref.IsWhole.readAt_unread (Val := Elt Ideal) h X _ _).trans (congrArg X ?_)
  funext j
  refine Fin.ext ?_
  fin_cases j
  · show 0 + 1 * (y 0).val = (y 0).val
    omega
  · show 0 + 1 * (y 1).val = (y 1).val
    omega

section
variable (x : FVec Ideal S512x1024 .f32) (g : FVec Ideal S1x1024 .f32)

/-- A product with 768 columns. -/
theorem product_apply (w : FVec Ideal S1024x768 .bf16) (r : Fin 512) (l : Fin 768) :
    k0_pay6 (F := Ideal) x g w (ix2 r l) = projAt x (fun k => g (ix2 0 k)) w r.val l.val := by
  refine Eq.trans ?_ (projAt_eq x _ w r l)
  pointwise [k0_pay6, k0_pay4]
  simp only [projRow, rmsRow]

/-- The second product is the same function. -/
theorem product_eq (w : FVec Ideal S1024x768 .bf16) : k0_pay38 (F := Ideal) (k0_pay4 x g) w = k0_pay6 x g w := rfl

/-- The rows as the first output keeps them. -/
theorem rows_apply (w : FVec Ideal S1024x768 .bf16) (r : Fin 512) (l : Fin 768) :
    k0_pay5 (F := Ideal) x g w (ix2 r l) = projAt x (fun k => g (ix2 0 k)) w r.val l.val := by
  refine Eq.trans ?_ (projAt_eq x _ w r l)
  pointwise [k0_pay5, k0_pay4]
  simp only [projRow, rmsRow]

/-- The memory heads' queries. -/
theorem queries_apply (w : FVec Ideal S1024x256 .bf16) (r : Fin 512) (l : Fin 256) :
    k0_pay3 (F := Ideal) (k0_pay4 x g) w (ix2 r l) = projAt x (fun k => g (ix2 0 k)) w r.val l.val := by
  refine Eq.trans ?_ (projAt_eq x _ w r l)
  pointwise [k0_pay3, k0_pay4]
  simp only [projRow, rmsRow]

end

/-- The product as the scratch holds it: lane tile `c` is plane `c`. -/
def staged (p : FVec Ideal S512x768 .f32) (y : S6x512x128.Idx) : EReal := at2 p (y 1).val ((y 0).val * 128 + (y 2).val)

/-- Lane tile `c` of a product, as the scratch takes it. -/
def tile (o : ℕ) (h : S512x768.Slices ![0, o] S512x128) (p : FVec Ideal S512x768 .f32) : FVec Ideal S1x512x128 .f32 :=
  shapeCast S1x512x128 (extractStridedSlice S512x128 ![0, o] p h) shapeCasts_S512x128_S1x512x128

theorem tile_0 (p : FVec Ideal S512x768 .f32) (inb : ∀ a, (![0, 0, 0] : Fin 3 → ℕ) a + S1x512x128.size a ≤ S6x512x128.size a) (z : S1x512x128.Idx) :
    tile 0 slices_S512x768_o0_0_S512x128 p z = staged p ((Rect.unit (s := S6x512x128) ![0, 0, 0] S1x512x128.size inb).emb z) := by
  idx_vars z
  obtain rfl : z0 = 0 := Subsingleton.elim _ _
  have hp : tile 0 slices_S512x768_o0_0_S512x128 p (ix3 0 z1 z2) = p (ix2 z1 ⟨0 + z2.val, by omega⟩) := by
    pointwise [tile]
  refine hp.trans ((at2_eq p z1 ⟨0 + z2.val, by omega⟩).trans ?_)
  refine congrArg₂ (at2 p) ?_ ?_
  · show z1.val = 0 + 1 * z1.val
    omega
  · show 0 + z2.val = (0 + 1 * 0) * 128 + (0 + 1 * z2.val)
    omega

theorem tile_1 (p : FVec Ideal S512x768 .f32) (inb : ∀ a, (![1, 0, 0] : Fin 3 → ℕ) a + S1x512x128.size a ≤ S6x512x128.size a) (z : S1x512x128.Idx) :
    tile 128 slices_S512x768_o0_128_S512x128 p z = staged p ((Rect.unit (s := S6x512x128) ![1, 0, 0] S1x512x128.size inb).emb z) := by
  idx_vars z
  obtain rfl : z0 = 0 := Subsingleton.elim _ _
  have hp : tile 128 slices_S512x768_o0_128_S512x128 p (ix3 0 z1 z2) = p (ix2 z1 ⟨128 + z2.val, by omega⟩) := by
    pointwise [tile]
  refine hp.trans ((at2_eq p z1 ⟨128 + z2.val, by omega⟩).trans ?_)
  refine congrArg₂ (at2 p) ?_ ?_
  · show z1.val = 0 + 1 * z1.val
    omega
  · show 128 + z2.val = (1 + 1 * 0) * 128 + (0 + 1 * z2.val)
    omega

theorem tile_2 (p : FVec Ideal S512x768 .f32) (inb : ∀ a, (![2, 0, 0] : Fin 3 → ℕ) a + S1x512x128.size a ≤ S6x512x128.size a) (z : S1x512x128.Idx) :
    tile 256 slices_S512x768_o0_256_S512x128 p z = staged p ((Rect.unit (s := S6x512x128) ![2, 0, 0] S1x512x128.size inb).emb z) := by
  idx_vars z
  obtain rfl : z0 = 0 := Subsingleton.elim _ _
  have hp : tile 256 slices_S512x768_o0_256_S512x128 p (ix3 0 z1 z2) = p (ix2 z1 ⟨256 + z2.val, by omega⟩) := by
    pointwise [tile]
  refine hp.trans ((at2_eq p z1 ⟨256 + z2.val, by omega⟩).trans ?_)
  refine congrArg₂ (at2 p) ?_ ?_
  · show z1.val = 0 + 1 * z1.val
    omega
  · show 256 + z2.val = (2 + 1 * 0) * 128 + (0 + 1 * z2.val)
    omega

theorem tile_3 (p : FVec Ideal S512x768 .f32) (inb : ∀ a, (![3, 0, 0] : Fin 3 → ℕ) a + S1x512x128.size a ≤ S6x512x128.size a) (z : S1x512x128.Idx) :
    tile 384 slices_S512x768_o0_384_S512x128 p z = staged p ((Rect.unit (s := S6x512x128) ![3, 0, 0] S1x512x128.size inb).emb z) := by
  idx_vars z
  obtain rfl : z0 = 0 := Subsingleton.elim _ _
  have hp : tile 384 slices_S512x768_o0_384_S512x128 p (ix3 0 z1 z2) = p (ix2 z1 ⟨384 + z2.val, by omega⟩) := by
    pointwise [tile]
  refine hp.trans ((at2_eq p z1 ⟨384 + z2.val, by omega⟩).trans ?_)
  refine congrArg₂ (at2 p) ?_ ?_
  · show z1.val = 0 + 1 * z1.val
    omega
  · show 384 + z2.val = (3 + 1 * 0) * 128 + (0 + 1 * z2.val)
    omega

theorem tile_4 (p : FVec Ideal S512x768 .f32) (inb : ∀ a, (![4, 0, 0] : Fin 3 → ℕ) a + S1x512x128.size a ≤ S6x512x128.size a) (z : S1x512x128.Idx) :
    tile 512 slices_S512x768_o0_512_S512x128 p z = staged p ((Rect.unit (s := S6x512x128) ![4, 0, 0] S1x512x128.size inb).emb z) := by
  idx_vars z
  obtain rfl : z0 = 0 := Subsingleton.elim _ _
  have hp : tile 512 slices_S512x768_o0_512_S512x128 p (ix3 0 z1 z2) = p (ix2 z1 ⟨512 + z2.val, by omega⟩) := by
    pointwise [tile]
  refine hp.trans ((at2_eq p z1 ⟨512 + z2.val, by omega⟩).trans ?_)
  refine congrArg₂ (at2 p) ?_ ?_
  · show z1.val = 0 + 1 * z1.val
    omega
  · show 512 + z2.val = (4 + 1 * 0) * 128 + (0 + 1 * z2.val)
    omega

theorem tile_5 (p : FVec Ideal S512x768 .f32) (inb : ∀ a, (![5, 0, 0] : Fin 3 → ℕ) a + S1x512x128.size a ≤ S6x512x128.size a) (z : S1x512x128.Idx) :
    tile 640 slices_S512x768_o0_640_S512x128 p z = staged p ((Rect.unit (s := S6x512x128) ![5, 0, 0] S1x512x128.size inb).emb z) := by
  idx_vars z
  obtain rfl : z0 = 0 := Subsingleton.elim _ _
  have hp : tile 640 slices_S512x768_o0_640_S512x128 p (ix3 0 z1 z2) = p (ix2 z1 ⟨640 + z2.val, by omega⟩) := by
    pointwise [tile]
  refine hp.trans ((at2_eq p z1 ⟨640 + z2.val, by omega⟩).trans ?_)
  refine congrArg₂ (at2 p) ?_ ?_
  · show z1.val = 0 + 1 * z1.val
    omega
  · show 640 + z2.val = (5 + 1 * 0) * 128 + (0 + 1 * z2.val)
    omega

/-- A staged product with 4 tokens to a row. -/
def rows4 (p : FVec Ideal S512x768 .f32) (y : S128x3072.Idx) : EReal := at2 p ((y 0).val * 4 + (y 1).val / 768) ((y 1).val % 768)

/-- A strided load of the staged product is the tile of the output it is stored into: token `r` of each row, lane tile `c`. -/
theorem piece4 (v : View sig .tc .vmem S6x512x128 .f32) (L : List (View.Piece (Elt Ideal) S6x512x128 .f32)) (p : FVec Ideal S512x768 .f32)
    (hL : ∀ y, View.canon L y = staged p y) (c r k : ℕ) (hc : c < 6) (hk : k = 128 * (6 * r + c))
    (inb : ∀ a, S1x128x128.size a = 0 ∨ (![c, r, 0] : Fin 3 → Nat) a + (![1, 4, 1] : Fin 3 → Nat) a * (S1x128x128.size a - 1) < S6x512x128.size a)
    (inb' : ∀ a, (![0, k] : Fin 2 → Nat) a + S128x128.size a ≤ S128x3072.size a) (z : S128x128.Idx) :
    k0_pay14 (F := Ideal) (v.readCov L (⟨![c, r, 0], S1x128x128.size, ![1, 4, 1], inb⟩ : LoadRect S6x512x128)) z
      = rows4 p ((Rect.unit (s := S128x3072) ![0, k] S128x128.size inb').emb z) := by
  idx_vars z
  have hp : ∀ q : Vec Ideal S1x128x128 .f32, k0_pay14 (F := Ideal) q (ix2 z0 z1) = q (ix3 0 z0 z1) := by
    intro q
    pointwise [k0_pay14]
  refine (hp _).trans ?_
  refine (congrFun (View.readCov_eq_canon' v L (⟨![c, r, 0], S1x128x128.size, ![1, 4, 1], inb⟩ : LoadRect S6x512x128)) (ix3 0 z0 z1)).trans ?_
  refine (hL _).trans (congrArg₂ (at2 p) ?_ ?_)
  · show r + 4 * z0.val = (0 + 1 * z0.val) * 4 + (k + 1 * z1.val) / 768
    have h1 := z1.isLt
    omega
  · show (c + 1 * 0) * 128 + (0 + 1 * z1.val) = (k + 1 * z1.val) % 768
    have h1 := z1.isLt
    omega

/-- A staged product with 16 tokens to a row. -/
def rows16 (p : FVec Ideal S512x768 .f32) (y : S32x12288.Idx) : EReal := at2 p ((y 0).val * 16 + (y 1).val / 768) ((y 1).val % 768)

/-- A strided load of the staged product is the tile of the output it is stored into: token `r` of each row, lane tile `c`. -/
theorem piece16 (v : View sig .tc .vmem S6x512x128 .f32) (L : List (View.Piece (Elt Ideal) S6x512x128 .f32)) (p : FVec Ideal S512x768 .f32)
    (hL : ∀ y, View.canon L y = staged p y) (c r k : ℕ) (hc : c < 6) (hk : k = 128 * (6 * r + c))
    (inb : ∀ a, S1x32x128.size a = 0 ∨ (![c, r, 0] : Fin 3 → Nat) a + (![1, 16, 1] : Fin 3 → Nat) a * (S1x32x128.size a - 1) < S6x512x128.size a)
    (inb' : ∀ a, (![0, k] : Fin 2 → Nat) a + S32x128.size a ≤ S32x12288.size a) (z : S32x128.Idx) :
    k0_pay46 (F := Ideal) (v.readCov L (⟨![c, r, 0], S1x32x128.size, ![1, 16, 1], inb⟩ : LoadRect S6x512x128)) z
      = rows16 p ((Rect.unit (s := S32x12288) ![0, k] S32x128.size inb').emb z) := by
  idx_vars z
  have hp : ∀ q : Vec Ideal S1x32x128 .f32, k0_pay46 (F := Ideal) q (ix2 z0 z1) = q (ix3 0 z0 z1) := by
    intro q
    pointwise [k0_pay46]
  refine (hp _).trans ?_
  refine (congrFun (View.readCov_eq_canon' v L (⟨![c, r, 0], S1x32x128.size, ![1, 16, 1], inb⟩ : LoadRect S6x512x128)) (ix3 0 z0 z1)).trans ?_
  refine (hL _).trans (congrArg₂ (at2 p) ?_ ?_)
  · show r + 16 * z0.val = (0 + 1 * z0.val) * 16 + (k + 1 * z1.val) / 768
    have h1 := z1.isLt
    omega
  · show (c + 1 * 0) * 128 + (0 + 1 * z1.val) = (k + 1 * z1.val) % 768
    have h1 := z1.isLt
    omega

section
variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x768 .bf16) (harg3 : arg3.IsWhole) (arg4 : Memref sig .tc .vmem S1024x768 .bf16) (harg4 : arg4.IsWhole) (arg5 : Memref sig .tc .vmem S1024x768 .bf16) (harg5 : arg5.IsWhole) (arg6 : Memref sig .tc .vmem S1024x256 .bf16) (harg6 : arg6.IsWhole) (arg7 : Memref sig .tc .vmem S512x768 .bf16) (harg7 : arg7.IsWhole) (arg8 : Memref sig .tc .vmem S128x3072 .bf16) (harg8 : arg8.IsWhole) (arg9 : Memref sig .tc .vmem S32x12288 .bf16) (harg9 : arg9.IsWhole) (arg10 : Memref sig .tc .vmem S512x256 .bf16) (harg10 : arg10.IsWhole) (arg11 : Memref sig .tc .vmem S6x512x128 .f32) (harg11 : arg11.IsWhole)
    (x0 : FVec Ideal S512x1024 .f32) (x1 : FVec Ideal S1x1024 .f32) (x2 x3 x4 : FVec Ideal S1024x768 .bf16) (x5 : FVec Ideal S1024x256 .bf16)

/-- The scratch after the stores of the first staged product. -/
theorem stage1 (y : S6x512x128.Idx) :
    View.canon (kernelRun0_A.sl.HS0_6 (F := Ideal) c arg1 harg1 arg2 harg2 arg4 harg4 x0 x1 x3) y = staged (k0_pay6 (F := Ideal) x0 x1 x3) y := by
  have e0 := load_whole arg1 harg1 x0 inb_S512x1024_S512x1024_0_0
  have e1 := load_whole arg2 harg2 x1 inb_S1x1024_S1x1024_0_0
  have e3 := load_whole arg4 harg4 x3 inb_S1024x768_S1024x768_0_0
  have h : View.PiecesOf (Val := Elt Ideal) (staged (k0_pay6 (F := Ideal) x0 x1 x3)) (kernelRun0_A.sl.HS0_6 (F := Ideal) c arg1 harg1 arg2 harg2 arg4 harg4 x0 x1 x3) := by
    unfold kernelRun0_A.sl.HS0_6
    simp only [kernelRun0_A.sl.r_1, kernelRun0_A.sl.r_2]
    rw [e0, e1, e3]
    exact ⟨fun z => tile_5 (k0_pay6 (F := Ideal) x0 x1 x3) inb_S6x512x128_S1x512x128_5_0_0 z, fun z => tile_4 (k0_pay6 (F := Ideal) x0 x1 x3) inb_S6x512x128_S1x512x128_4_0_0 z, fun z => tile_3 (k0_pay6 (F := Ideal) x0 x1 x3) inb_S6x512x128_S1x512x128_3_0_0 z, fun z => tile_2 (k0_pay6 (F := Ideal) x0 x1 x3) inb_S6x512x128_S1x512x128_2_0_0 z, fun z => tile_1 (k0_pay6 (F := Ideal) x0 x1 x3) inb_S6x512x128_S1x512x128_1_0_0 z, fun z => tile_0 (k0_pay6 (F := Ideal) x0 x1 x3) inb_S6x512x128_S1x512x128_0_0_0 z, trivial⟩
  have hc : ∃ q ∈ (kernelRun0_A.sl.HS0_6 (F := Ideal) c arg1 harg1 arg2 harg2 arg4 harg4 x0 x1 x3), y ∈ q.1.set :=
    View.cover_of_tiled (kernelRun0_A.sl.HS0_6 (F := Ideal) c arg1 harg1 arg2 harg2 arg4 harg4 x0 x1 x3) ![1, 512, 128] rfl y
  exact (congrArg (fun L => View.canon L y) (List.append_nil _).symm).trans (View.canon_append_of_piecesOf _ [] _ h y hc)

/-- The scratch after the stores of the second staged product, over those of the first. -/
theorem stage2 (y : S6x512x128.Idx) :
    View.canon (kernelRun0_A.sl.HS0_12 (F := Ideal) c arg1 harg1 arg2 harg2 arg4 harg4 arg5 harg5 x0 x1 x3 x4) y = staged (k0_pay6 (F := Ideal) x0 x1 x4) y := by
  have e0 := load_whole arg1 harg1 x0 inb_S512x1024_S512x1024_0_0
  have e1 := load_whole arg2 harg2 x1 inb_S1x1024_S1x1024_0_0
  have e4 := load_whole arg5 harg5 x4 inb_S1024x768_S1024x768_0_0
  have hs : (kernelRun0_A.sl.HS0_12 (F := Ideal) c arg1 harg1 arg2 harg2 arg4 harg4 arg5 harg5 x0 x1 x3 x4) = (kernelRun0_A.sl.HS0_12 (F := Ideal) c arg1 harg1 arg2 harg2 arg4 harg4 arg5 harg5 x0 x1 x3 x4).take 6 ++ (kernelRun0_A.sl.HS0_6 (F := Ideal) c arg1 harg1 arg2 harg2 arg4 harg4 x0 x1 x3) := rfl
  have h : View.PiecesOf (Val := Elt Ideal) (staged (k0_pay6 (F := Ideal) x0 x1 x4)) ((kernelRun0_A.sl.HS0_12 (F := Ideal) c arg1 harg1 arg2 harg2 arg4 harg4 arg5 harg5 x0 x1 x3 x4).take 6) := by
    unfold kernelRun0_A.sl.HS0_12
    simp only [List.take_succ_cons, List.take_zero, kernelRun0_A.sl.r, kernelRun0_A.sl.r_3, kernelRun0_A.sl.r_4]
    rw [e0, e1, e4]
    exact ⟨fun z => tile_5 (k0_pay6 (F := Ideal) x0 x1 x4) inb_S6x512x128_S1x512x128_5_0_0 z, fun z => tile_4 (k0_pay6 (F := Ideal) x0 x1 x4) inb_S6x512x128_S1x512x128_4_0_0 z, fun z => tile_3 (k0_pay6 (F := Ideal) x0 x1 x4) inb_S6x512x128_S1x512x128_3_0_0 z, fun z => tile_2 (k0_pay6 (F := Ideal) x0 x1 x4) inb_S6x512x128_S1x512x128_2_0_0 z, fun z => tile_1 (k0_pay6 (F := Ideal) x0 x1 x4) inb_S6x512x128_S1x512x128_1_0_0 z, fun z => tile_0 (k0_pay6 (F := Ideal) x0 x1 x4) inb_S6x512x128_S1x512x128_0_0_0 z, trivial⟩
  have hc : ∃ q ∈ (kernelRun0_A.sl.HS0_12 (F := Ideal) c arg1 harg1 arg2 harg2 arg4 harg4 arg5 harg5 x0 x1 x3 x4).take 6, y ∈ q.1.set :=
    View.cover_of_tiled ((kernelRun0_A.sl.HS0_12 (F := Ideal) c arg1 harg1 arg2 harg2 arg4 harg4 arg5 harg5 x0 x1 x3 x4).take 6) ![1, 512, 128] rfl y
  rw [hs]
  exact View.canon_append_of_piecesOf _ _ _ h y hc

/-- Every store into output 7 is a tile of the product with 4 tokens to a row; -/
theorem body7 : View.PiecesOf (Val := Elt Ideal) (rows4 (k0_pay6 (F := Ideal) x0 x1 x3))
    (kernelRun0_A (F := Ideal) c i arg1 harg1 arg2 harg2 arg3 harg3 arg4 harg4 arg5 harg5 arg6 harg6 arg7 harg7 arg8 harg8 arg9 harg9 arg10 harg10 arg11 harg11 x0 x1 x2 x3 x4 x5).2.1 := by
  have hL : ∀ y, View.canon (kernelRun0_A.sl.HS0_6 (F := Ideal) c arg1 harg1 arg2 harg2 arg4 harg4 x0 x1 x3) y = staged (k0_pay6 (F := Ideal) x0 x1 x3) y := fun y => stage1 ..
  unfold kernelRun0_A
  dsimp only
  exact ⟨fun z => piece4 arg11.view _ _ hL 5 3 2944 (by decide) (by decide) inb_S6x512x128_S1x128x128_5_3_0_s_1_4_1 inb_S128x3072_S128x128_0_2944 z,
    fun z => piece4 arg11.view _ _ hL 4 3 2816 (by decide) (by decide) inb_S6x512x128_S1x128x128_4_3_0_s_1_4_1 inb_S128x3072_S128x128_0_2816 z,
    fun z => piece4 arg11.view _ _ hL 3 3 2688 (by decide) (by decide) inb_S6x512x128_S1x128x128_3_3_0_s_1_4_1 inb_S128x3072_S128x128_0_2688 z,
    fun z => piece4 arg11.view _ _ hL 2 3 2560 (by decide) (by decide) inb_S6x512x128_S1x128x128_2_3_0_s_1_4_1 inb_S128x3072_S128x128_0_2560 z,
    fun z => piece4 arg11.view _ _ hL 1 3 2432 (by decide) (by decide) inb_S6x512x128_S1x128x128_1_3_0_s_1_4_1 inb_S128x3072_S128x128_0_2432 z,
    fun z => piece4 arg11.view _ _ hL 0 3 2304 (by decide) (by decide) inb_S6x512x128_S1x128x128_0_3_0_s_1_4_1 inb_S128x3072_S128x128_0_2304 z,
    fun z => piece4 arg11.view _ _ hL 5 2 2176 (by decide) (by decide) inb_S6x512x128_S1x128x128_5_2_0_s_1_4_1 inb_S128x3072_S128x128_0_2176 z,
    fun z => piece4 arg11.view _ _ hL 4 2 2048 (by decide) (by decide) inb_S6x512x128_S1x128x128_4_2_0_s_1_4_1 inb_S128x3072_S128x128_0_2048 z,
    fun z => piece4 arg11.view _ _ hL 3 2 1920 (by decide) (by decide) inb_S6x512x128_S1x128x128_3_2_0_s_1_4_1 inb_S128x3072_S128x128_0_1920 z,
    fun z => piece4 arg11.view _ _ hL 2 2 1792 (by decide) (by decide) inb_S6x512x128_S1x128x128_2_2_0_s_1_4_1 inb_S128x3072_S128x128_0_1792 z,
    fun z => piece4 arg11.view _ _ hL 1 2 1664 (by decide) (by decide) inb_S6x512x128_S1x128x128_1_2_0_s_1_4_1 inb_S128x3072_S128x128_0_1664 z,
    fun z => piece4 arg11.view _ _ hL 0 2 1536 (by decide) (by decide) inb_S6x512x128_S1x128x128_0_2_0_s_1_4_1 inb_S128x3072_S128x128_0_1536 z,
    fun z => piece4 arg11.view _ _ hL 5 1 1408 (by decide) (by decide) inb_S6x512x128_S1x128x128_5_1_0_s_1_4_1 inb_S128x3072_S128x128_0_1408 z,
    fun z => piece4 arg11.view _ _ hL 4 1 1280 (by decide) (by decide) inb_S6x512x128_S1x128x128_4_1_0_s_1_4_1 inb_S128x3072_S128x128_0_1280 z,
    fun z => piece4 arg11.view _ _ hL 3 1 1152 (by decide) (by decide) inb_S6x512x128_S1x128x128_3_1_0_s_1_4_1 inb_S128x3072_S128x128_0_1152 z,
    fun z => piece4 arg11.view _ _ hL 2 1 1024 (by decide) (by decide) inb_S6x512x128_S1x128x128_2_1_0_s_1_4_1 inb_S128x3072_S128x128_0_1024 z,
    fun z => piece4 arg11.view _ _ hL 1 1 896 (by decide) (by decide) inb_S6x512x128_S1x128x128_1_1_0_s_1_4_1 inb_S128x3072_S128x128_0_896 z,
    fun z => piece4 arg11.view _ _ hL 0 1 768 (by decide) (by decide) inb_S6x512x128_S1x128x128_0_1_0_s_1_4_1 inb_S128x3072_S128x128_0_768 z,
    fun z => piece4 arg11.view _ _ hL 5 0 640 (by decide) (by decide) inb_S6x512x128_S1x128x128_5_0_0_s_1_4_1 inb_S128x3072_S128x128_0_640 z,
    fun z => piece4 arg11.view _ _ hL 4 0 512 (by decide) (by decide) inb_S6x512x128_S1x128x128_4_0_0_s_1_4_1 inb_S128x3072_S128x128_0_512 z,
    fun z => piece4 arg11.view _ _ hL 3 0 384 (by decide) (by decide) inb_S6x512x128_S1x128x128_3_0_0_s_1_4_1 inb_S128x3072_S128x128_0_384 z,
    fun z => piece4 arg11.view _ _ hL 2 0 256 (by decide) (by decide) inb_S6x512x128_S1x128x128_2_0_0_s_1_4_1 inb_S128x3072_S128x128_0_256 z,
    fun z => piece4 arg11.view _ _ hL 1 0 128 (by decide) (by decide) inb_S6x512x128_S1x128x128_1_0_0_s_1_4_1 inb_S128x3072_S128x128_0_128 z,
    fun z => piece4 arg11.view _ _ hL 0 0 0 (by decide) (by decide) inb_S6x512x128_S1x128x128_0_0_0_s_1_4_1 inb_S128x3072_S128x128_0_0 z,
    trivial⟩

/-- so the output is that. -/
theorem out7 (y : S128x3072.Idx) :
    out0_A_7 (F := Ideal) c i arg1 harg1 arg2 harg2 arg3 harg3 arg4 harg4 arg5 harg5 arg6 harg6 arg7 harg7 arg8 harg8 arg9 harg9 arg10 harg10 arg11 harg11 x0 x1 x2 x3 x4 x5 y = rows4 (k0_pay6 (F := Ideal) x0 x1 x3) y := by
  unfold out0_A_7
  exact View.read_writes_apply_of_pieces VO0_7 VO0_7.junk (rows4 (k0_pay6 (F := Ideal) x0 x1 x3)) _
    (fun q hq => View.PiecesOf.mem (body7 c i arg1 harg1 arg2 harg2 arg3 harg3 arg4 harg4 arg5 harg5 arg6 harg6 arg7 harg7 arg8 harg8 arg9 harg9 arg10 harg10 arg11 harg11 x0 x1 x2 x3 x4 x5) q hq) y
    (cover0_A_7 (F := Ideal) c i arg1 harg1 arg2 harg2 arg3 harg3 arg4 harg4 arg5 harg5 arg6 harg6 arg7 harg7 arg8 harg8 arg9 harg9 arg10 harg10 arg11 harg11 x0 x1 x2 x3 x4 x5 y)

/-- Every store into output 8 is a tile of the product with 16 tokens to a row; -/
theorem body8 : View.PiecesOf (Val := Elt Ideal) (rows16 (k0_pay6 (F := Ideal) x0 x1 x4))
    (kernelRun0_A (F := Ideal) c i arg1 harg1 arg2 harg2 arg3 harg3 arg4 harg4 arg5 harg5 arg6 harg6 arg7 harg7 arg8 harg8 arg9 harg9 arg10 harg10 arg11 harg11 x0 x1 x2 x3 x4 x5).2.2.1 := by
  have hL : ∀ y, View.canon (kernelRun0_A.sl.HS0_12 (F := Ideal) c arg1 harg1 arg2 harg2 arg4 harg4 arg5 harg5 x0 x1 x3 x4) y = staged (k0_pay6 (F := Ideal) x0 x1 x4) y := fun y => stage2 ..
  unfold kernelRun0_A
  dsimp only
  exact ⟨fun z => piece16 arg11.view _ _ hL 5 15 12160 (by decide) (by decide) inb_S6x512x128_S1x32x128_5_15_0_s_1_16_1 inb_S32x12288_S32x128_0_12160 z,
    fun z => piece16 arg11.view _ _ hL 4 15 12032 (by decide) (by decide) inb_S6x512x128_S1x32x128_4_15_0_s_1_16_1 inb_S32x12288_S32x128_0_12032 z,
    fun z => piece16 arg11.view _ _ hL 3 15 11904 (by decide) (by decide) inb_S6x512x128_S1x32x128_3_15_0_s_1_16_1 inb_S32x12288_S32x128_0_11904 z,
    fun z => piece16 arg11.view _ _ hL 2 15 11776 (by decide) (by decide) inb_S6x512x128_S1x32x128_2_15_0_s_1_16_1 inb_S32x12288_S32x128_0_11776 z,
    fun z => piece16 arg11.view _ _ hL 1 15 11648 (by decide) (by decide) inb_S6x512x128_S1x32x128_1_15_0_s_1_16_1 inb_S32x12288_S32x128_0_11648 z,
    fun z => piece16 arg11.view _ _ hL 0 15 11520 (by decide) (by decide) inb_S6x512x128_S1x32x128_0_15_0_s_1_16_1 inb_S32x12288_S32x128_0_11520 z,
    fun z => piece16 arg11.view _ _ hL 5 14 11392 (by decide) (by decide) inb_S6x512x128_S1x32x128_5_14_0_s_1_16_1 inb_S32x12288_S32x128_0_11392 z,
    fun z => piece16 arg11.view _ _ hL 4 14 11264 (by decide) (by decide) inb_S6x512x128_S1x32x128_4_14_0_s_1_16_1 inb_S32x12288_S32x128_0_11264 z,
    fun z => piece16 arg11.view _ _ hL 3 14 11136 (by decide) (by decide) inb_S6x512x128_S1x32x128_3_14_0_s_1_16_1 inb_S32x12288_S32x128_0_11136 z,
    fun z => piece16 arg11.view _ _ hL 2 14 11008 (by decide) (by decide) inb_S6x512x128_S1x32x128_2_14_0_s_1_16_1 inb_S32x12288_S32x128_0_11008 z,
    fun z => piece16 arg11.view _ _ hL 1 14 10880 (by decide) (by decide) inb_S6x512x128_S1x32x128_1_14_0_s_1_16_1 inb_S32x12288_S32x128_0_10880 z,
    fun z => piece16 arg11.view _ _ hL 0 14 10752 (by decide) (by decide) inb_S6x512x128_S1x32x128_0_14_0_s_1_16_1 inb_S32x12288_S32x128_0_10752 z,
    fun z => piece16 arg11.view _ _ hL 5 13 10624 (by decide) (by decide) inb_S6x512x128_S1x32x128_5_13_0_s_1_16_1 inb_S32x12288_S32x128_0_10624 z,
    fun z => piece16 arg11.view _ _ hL 4 13 10496 (by decide) (by decide) inb_S6x512x128_S1x32x128_4_13_0_s_1_16_1 inb_S32x12288_S32x128_0_10496 z,
    fun z => piece16 arg11.view _ _ hL 3 13 10368 (by decide) (by decide) inb_S6x512x128_S1x32x128_3_13_0_s_1_16_1 inb_S32x12288_S32x128_0_10368 z,
    fun z => piece16 arg11.view _ _ hL 2 13 10240 (by decide) (by decide) inb_S6x512x128_S1x32x128_2_13_0_s_1_16_1 inb_S32x12288_S32x128_0_10240 z,
    fun z => piece16 arg11.view _ _ hL 1 13 10112 (by decide) (by decide) inb_S6x512x128_S1x32x128_1_13_0_s_1_16_1 inb_S32x12288_S32x128_0_10112 z,
    fun z => piece16 arg11.view _ _ hL 0 13 9984 (by decide) (by decide) inb_S6x512x128_S1x32x128_0_13_0_s_1_16_1 inb_S32x12288_S32x128_0_9984 z,
    fun z => piece16 arg11.view _ _ hL 5 12 9856 (by decide) (by decide) inb_S6x512x128_S1x32x128_5_12_0_s_1_16_1 inb_S32x12288_S32x128_0_9856 z,
    fun z => piece16 arg11.view _ _ hL 4 12 9728 (by decide) (by decide) inb_S6x512x128_S1x32x128_4_12_0_s_1_16_1 inb_S32x12288_S32x128_0_9728 z,
    fun z => piece16 arg11.view _ _ hL 3 12 9600 (by decide) (by decide) inb_S6x512x128_S1x32x128_3_12_0_s_1_16_1 inb_S32x12288_S32x128_0_9600 z,
    fun z => piece16 arg11.view _ _ hL 2 12 9472 (by decide) (by decide) inb_S6x512x128_S1x32x128_2_12_0_s_1_16_1 inb_S32x12288_S32x128_0_9472 z,
    fun z => piece16 arg11.view _ _ hL 1 12 9344 (by decide) (by decide) inb_S6x512x128_S1x32x128_1_12_0_s_1_16_1 inb_S32x12288_S32x128_0_9344 z,
    fun z => piece16 arg11.view _ _ hL 0 12 9216 (by decide) (by decide) inb_S6x512x128_S1x32x128_0_12_0_s_1_16_1 inb_S32x12288_S32x128_0_9216 z,
    fun z => piece16 arg11.view _ _ hL 5 11 9088 (by decide) (by decide) inb_S6x512x128_S1x32x128_5_11_0_s_1_16_1 inb_S32x12288_S32x128_0_9088 z,
    fun z => piece16 arg11.view _ _ hL 4 11 8960 (by decide) (by decide) inb_S6x512x128_S1x32x128_4_11_0_s_1_16_1 inb_S32x12288_S32x128_0_8960 z,
    fun z => piece16 arg11.view _ _ hL 3 11 8832 (by decide) (by decide) inb_S6x512x128_S1x32x128_3_11_0_s_1_16_1 inb_S32x12288_S32x128_0_8832 z,
    fun z => piece16 arg11.view _ _ hL 2 11 8704 (by decide) (by decide) inb_S6x512x128_S1x32x128_2_11_0_s_1_16_1 inb_S32x12288_S32x128_0_8704 z,
    fun z => piece16 arg11.view _ _ hL 1 11 8576 (by decide) (by decide) inb_S6x512x128_S1x32x128_1_11_0_s_1_16_1 inb_S32x12288_S32x128_0_8576 z,
    fun z => piece16 arg11.view _ _ hL 0 11 8448 (by decide) (by decide) inb_S6x512x128_S1x32x128_0_11_0_s_1_16_1 inb_S32x12288_S32x128_0_8448 z,
    fun z => piece16 arg11.view _ _ hL 5 10 8320 (by decide) (by decide) inb_S6x512x128_S1x32x128_5_10_0_s_1_16_1 inb_S32x12288_S32x128_0_8320 z,
    fun z => piece16 arg11.view _ _ hL 4 10 8192 (by decide) (by decide) inb_S6x512x128_S1x32x128_4_10_0_s_1_16_1 inb_S32x12288_S32x128_0_8192 z,
    fun z => piece16 arg11.view _ _ hL 3 10 8064 (by decide) (by decide) inb_S6x512x128_S1x32x128_3_10_0_s_1_16_1 inb_S32x12288_S32x128_0_8064 z,
    fun z => piece16 arg11.view _ _ hL 2 10 7936 (by decide) (by decide) inb_S6x512x128_S1x32x128_2_10_0_s_1_16_1 inb_S32x12288_S32x128_0_7936 z,
    fun z => piece16 arg11.view _ _ hL 1 10 7808 (by decide) (by decide) inb_S6x512x128_S1x32x128_1_10_0_s_1_16_1 inb_S32x12288_S32x128_0_7808 z,
    fun z => piece16 arg11.view _ _ hL 0 10 7680 (by decide) (by decide) inb_S6x512x128_S1x32x128_0_10_0_s_1_16_1 inb_S32x12288_S32x128_0_7680 z,
    fun z => piece16 arg11.view _ _ hL 5 9 7552 (by decide) (by decide) inb_S6x512x128_S1x32x128_5_9_0_s_1_16_1 inb_S32x12288_S32x128_0_7552 z,
    fun z => piece16 arg11.view _ _ hL 4 9 7424 (by decide) (by decide) inb_S6x512x128_S1x32x128_4_9_0_s_1_16_1 inb_S32x12288_S32x128_0_7424 z,
    fun z => piece16 arg11.view _ _ hL 3 9 7296 (by decide) (by decide) inb_S6x512x128_S1x32x128_3_9_0_s_1_16_1 inb_S32x12288_S32x128_0_7296 z,
    fun z => piece16 arg11.view _ _ hL 2 9 7168 (by decide) (by decide) inb_S6x512x128_S1x32x128_2_9_0_s_1_16_1 inb_S32x12288_S32x128_0_7168 z,
    fun z => piece16 arg11.view _ _ hL 1 9 7040 (by decide) (by decide) inb_S6x512x128_S1x32x128_1_9_0_s_1_16_1 inb_S32x12288_S32x128_0_7040 z,
    fun z => piece16 arg11.view _ _ hL 0 9 6912 (by decide) (by decide) inb_S6x512x128_S1x32x128_0_9_0_s_1_16_1 inb_S32x12288_S32x128_0_6912 z,
    fun z => piece16 arg11.view _ _ hL 5 8 6784 (by decide) (by decide) inb_S6x512x128_S1x32x128_5_8_0_s_1_16_1 inb_S32x12288_S32x128_0_6784 z,
    fun z => piece16 arg11.view _ _ hL 4 8 6656 (by decide) (by decide) inb_S6x512x128_S1x32x128_4_8_0_s_1_16_1 inb_S32x12288_S32x128_0_6656 z,
    fun z => piece16 arg11.view _ _ hL 3 8 6528 (by decide) (by decide) inb_S6x512x128_S1x32x128_3_8_0_s_1_16_1 inb_S32x12288_S32x128_0_6528 z,
    fun z => piece16 arg11.view _ _ hL 2 8 6400 (by decide) (by decide) inb_S6x512x128_S1x32x128_2_8_0_s_1_16_1 inb_S32x12288_S32x128_0_6400 z,
    fun z => piece16 arg11.view _ _ hL 1 8 6272 (by decide) (by decide) inb_S6x512x128_S1x32x128_1_8_0_s_1_16_1 inb_S32x12288_S32x128_0_6272 z,
    fun z => piece16 arg11.view _ _ hL 0 8 6144 (by decide) (by decide) inb_S6x512x128_S1x32x128_0_8_0_s_1_16_1 inb_S32x12288_S32x128_0_6144 z,
    fun z => piece16 arg11.view _ _ hL 5 7 6016 (by decide) (by decide) inb_S6x512x128_S1x32x128_5_7_0_s_1_16_1 inb_S32x12288_S32x128_0_6016 z,
    fun z => piece16 arg11.view _ _ hL 4 7 5888 (by decide) (by decide) inb_S6x512x128_S1x32x128_4_7_0_s_1_16_1 inb_S32x12288_S32x128_0_5888 z,
    fun z => piece16 arg11.view _ _ hL 3 7 5760 (by decide) (by decide) inb_S6x512x128_S1x32x128_3_7_0_s_1_16_1 inb_S32x12288_S32x128_0_5760 z,
    fun z => piece16 arg11.view _ _ hL 2 7 5632 (by decide) (by decide) inb_S6x512x128_S1x32x128_2_7_0_s_1_16_1 inb_S32x12288_S32x128_0_5632 z,
    fun z => piece16 arg11.view _ _ hL 1 7 5504 (by decide) (by decide) inb_S6x512x128_S1x32x128_1_7_0_s_1_16_1 inb_S32x12288_S32x128_0_5504 z,
    fun z => piece16 arg11.view _ _ hL 0 7 5376 (by decide) (by decide) inb_S6x512x128_S1x32x128_0_7_0_s_1_16_1 inb_S32x12288_S32x128_0_5376 z,
    fun z => piece16 arg11.view _ _ hL 5 6 5248 (by decide) (by decide) inb_S6x512x128_S1x32x128_5_6_0_s_1_16_1 inb_S32x12288_S32x128_0_5248 z,
    fun z => piece16 arg11.view _ _ hL 4 6 5120 (by decide) (by decide) inb_S6x512x128_S1x32x128_4_6_0_s_1_16_1 inb_S32x12288_S32x128_0_5120 z,
    fun z => piece16 arg11.view _ _ hL 3 6 4992 (by decide) (by decide) inb_S6x512x128_S1x32x128_3_6_0_s_1_16_1 inb_S32x12288_S32x128_0_4992 z,
    fun z => piece16 arg11.view _ _ hL 2 6 4864 (by decide) (by decide) inb_S6x512x128_S1x32x128_2_6_0_s_1_16_1 inb_S32x12288_S32x128_0_4864 z,
    fun z => piece16 arg11.view _ _ hL 1 6 4736 (by decide) (by decide) inb_S6x512x128_S1x32x128_1_6_0_s_1_16_1 inb_S32x12288_S32x128_0_4736 z,
    fun z => piece16 arg11.view _ _ hL 0 6 4608 (by decide) (by decide) inb_S6x512x128_S1x32x128_0_6_0_s_1_16_1 inb_S32x12288_S32x128_0_4608 z,
    fun z => piece16 arg11.view _ _ hL 5 5 4480 (by decide) (by decide) inb_S6x512x128_S1x32x128_5_5_0_s_1_16_1 inb_S32x12288_S32x128_0_4480 z,
    fun z => piece16 arg11.view _ _ hL 4 5 4352 (by decide) (by decide) inb_S6x512x128_S1x32x128_4_5_0_s_1_16_1 inb_S32x12288_S32x128_0_4352 z,
    fun z => piece16 arg11.view _ _ hL 3 5 4224 (by decide) (by decide) inb_S6x512x128_S1x32x128_3_5_0_s_1_16_1 inb_S32x12288_S32x128_0_4224 z,
    fun z => piece16 arg11.view _ _ hL 2 5 4096 (by decide) (by decide) inb_S6x512x128_S1x32x128_2_5_0_s_1_16_1 inb_S32x12288_S32x128_0_4096 z,
    fun z => piece16 arg11.view _ _ hL 1 5 3968 (by decide) (by decide) inb_S6x512x128_S1x32x128_1_5_0_s_1_16_1 inb_S32x12288_S32x128_0_3968 z,
    fun z => piece16 arg11.view _ _ hL 0 5 3840 (by decide) (by decide) inb_S6x512x128_S1x32x128_0_5_0_s_1_16_1 inb_S32x12288_S32x128_0_3840 z,
    fun z => piece16 arg11.view _ _ hL 5 4 3712 (by decide) (by decide) inb_S6x512x128_S1x32x128_5_4_0_s_1_16_1 inb_S32x12288_S32x128_0_3712 z,
    fun z => piece16 arg11.view _ _ hL 4 4 3584 (by decide) (by decide) inb_S6x512x128_S1x32x128_4_4_0_s_1_16_1 inb_S32x12288_S32x128_0_3584 z,
    fun z => piece16 arg11.view _ _ hL 3 4 3456 (by decide) (by decide) inb_S6x512x128_S1x32x128_3_4_0_s_1_16_1 inb_S32x12288_S32x128_0_3456 z,
    fun z => piece16 arg11.view _ _ hL 2 4 3328 (by decide) (by decide) inb_S6x512x128_S1x32x128_2_4_0_s_1_16_1 inb_S32x12288_S32x128_0_3328 z,
    fun z => piece16 arg11.view _ _ hL 1 4 3200 (by decide) (by decide) inb_S6x512x128_S1x32x128_1_4_0_s_1_16_1 inb_S32x12288_S32x128_0_3200 z,
    fun z => piece16 arg11.view _ _ hL 0 4 3072 (by decide) (by decide) inb_S6x512x128_S1x32x128_0_4_0_s_1_16_1 inb_S32x12288_S32x128_0_3072 z,
    fun z => piece16 arg11.view _ _ hL 5 3 2944 (by decide) (by decide) inb_S6x512x128_S1x32x128_5_3_0_s_1_16_1 inb_S32x12288_S32x128_0_2944 z,
    fun z => piece16 arg11.view _ _ hL 4 3 2816 (by decide) (by decide) inb_S6x512x128_S1x32x128_4_3_0_s_1_16_1 inb_S32x12288_S32x128_0_2816 z,
    fun z => piece16 arg11.view _ _ hL 3 3 2688 (by decide) (by decide) inb_S6x512x128_S1x32x128_3_3_0_s_1_16_1 inb_S32x12288_S32x128_0_2688 z,
    fun z => piece16 arg11.view _ _ hL 2 3 2560 (by decide) (by decide) inb_S6x512x128_S1x32x128_2_3_0_s_1_16_1 inb_S32x12288_S32x128_0_2560 z,
    fun z => piece16 arg11.view _ _ hL 1 3 2432 (by decide) (by decide) inb_S6x512x128_S1x32x128_1_3_0_s_1_16_1 inb_S32x12288_S32x128_0_2432 z,
    fun z => piece16 arg11.view _ _ hL 0 3 2304 (by decide) (by decide) inb_S6x512x128_S1x32x128_0_3_0_s_1_16_1 inb_S32x12288_S32x128_0_2304 z,
    fun z => piece16 arg11.view _ _ hL 5 2 2176 (by decide) (by decide) inb_S6x512x128_S1x32x128_5_2_0_s_1_16_1 inb_S32x12288_S32x128_0_2176 z,
    fun z => piece16 arg11.view _ _ hL 4 2 2048 (by decide) (by decide) inb_S6x512x128_S1x32x128_4_2_0_s_1_16_1 inb_S32x12288_S32x128_0_2048 z,
    fun z => piece16 arg11.view _ _ hL 3 2 1920 (by decide) (by decide) inb_S6x512x128_S1x32x128_3_2_0_s_1_16_1 inb_S32x12288_S32x128_0_1920 z,
    fun z => piece16 arg11.view _ _ hL 2 2 1792 (by decide) (by decide) inb_S6x512x128_S1x32x128_2_2_0_s_1_16_1 inb_S32x12288_S32x128_0_1792 z,
    fun z => piece16 arg11.view _ _ hL 1 2 1664 (by decide) (by decide) inb_S6x512x128_S1x32x128_1_2_0_s_1_16_1 inb_S32x12288_S32x128_0_1664 z,
    fun z => piece16 arg11.view _ _ hL 0 2 1536 (by decide) (by decide) inb_S6x512x128_S1x32x128_0_2_0_s_1_16_1 inb_S32x12288_S32x128_0_1536 z,
    fun z => piece16 arg11.view _ _ hL 5 1 1408 (by decide) (by decide) inb_S6x512x128_S1x32x128_5_1_0_s_1_16_1 inb_S32x12288_S32x128_0_1408 z,
    fun z => piece16 arg11.view _ _ hL 4 1 1280 (by decide) (by decide) inb_S6x512x128_S1x32x128_4_1_0_s_1_16_1 inb_S32x12288_S32x128_0_1280 z,
    fun z => piece16 arg11.view _ _ hL 3 1 1152 (by decide) (by decide) inb_S6x512x128_S1x32x128_3_1_0_s_1_16_1 inb_S32x12288_S32x128_0_1152 z,
    fun z => piece16 arg11.view _ _ hL 2 1 1024 (by decide) (by decide) inb_S6x512x128_S1x32x128_2_1_0_s_1_16_1 inb_S32x12288_S32x128_0_1024 z,
    fun z => piece16 arg11.view _ _ hL 1 1 896 (by decide) (by decide) inb_S6x512x128_S1x32x128_1_1_0_s_1_16_1 inb_S32x12288_S32x128_0_896 z,
    fun z => piece16 arg11.view _ _ hL 0 1 768 (by decide) (by decide) inb_S6x512x128_S1x32x128_0_1_0_s_1_16_1 inb_S32x12288_S32x128_0_768 z,
    fun z => piece16 arg11.view _ _ hL 5 0 640 (by decide) (by decide) inb_S6x512x128_S1x32x128_5_0_0_s_1_16_1 inb_S32x12288_S32x128_0_640 z,
    fun z => piece16 arg11.view _ _ hL 4 0 512 (by decide) (by decide) inb_S6x512x128_S1x32x128_4_0_0_s_1_16_1 inb_S32x12288_S32x128_0_512 z,
    fun z => piece16 arg11.view _ _ hL 3 0 384 (by decide) (by decide) inb_S6x512x128_S1x32x128_3_0_0_s_1_16_1 inb_S32x12288_S32x128_0_384 z,
    fun z => piece16 arg11.view _ _ hL 2 0 256 (by decide) (by decide) inb_S6x512x128_S1x32x128_2_0_0_s_1_16_1 inb_S32x12288_S32x128_0_256 z,
    fun z => piece16 arg11.view _ _ hL 1 0 128 (by decide) (by decide) inb_S6x512x128_S1x32x128_1_0_0_s_1_16_1 inb_S32x12288_S32x128_0_128 z,
    fun z => piece16 arg11.view _ _ hL 0 0 0 (by decide) (by decide) inb_S6x512x128_S1x32x128_0_0_0_s_1_16_1 inb_S32x12288_S32x128_0_0 z,
    trivial⟩

/-- so the output is that. -/
theorem out8 (y : S32x12288.Idx) :
    out0_A_8 (F := Ideal) c i arg1 harg1 arg2 harg2 arg3 harg3 arg4 harg4 arg5 harg5 arg6 harg6 arg7 harg7 arg8 harg8 arg9 harg9 arg10 harg10 arg11 harg11 x0 x1 x2 x3 x4 x5 y = rows16 (k0_pay6 (F := Ideal) x0 x1 x4) y := by
  unfold out0_A_8
  exact View.read_writes_apply_of_pieces VO0_8 VO0_8.junk (rows16 (k0_pay6 (F := Ideal) x0 x1 x4)) _
    (fun q hq => View.PiecesOf.mem (body8 c i arg1 harg1 arg2 harg2 arg3 harg3 arg4 harg4 arg5 harg5 arg6 harg6 arg7 harg7 arg8 harg8 arg9 harg9 arg10 harg10 arg11 harg11 x0 x1 x2 x3 x4 x5) q hq) y
    (cover0_A_8 (F := Ideal) c i arg1 harg1 arg2 harg2 arg3 harg3 arg4 harg4 arg5 harg5 arg6 harg6 arg7 harg7 arg8 harg8 arg9 harg9 arg10 harg10 arg11 harg11 x0 x1 x2 x3 x4 x5 y)

/-- Output 6 is one store. -/
theorem out6 (y : S512x768.Idx) :
    out0_A_6 (F := Ideal) c i arg1 harg1 arg2 harg2 arg3 harg3 arg4 harg4 arg5 harg5 arg6 harg6 arg7 harg7 arg8 harg8 arg9 harg9 arg10 harg10 arg11 harg11 x0 x1 x2 x3 x4 x5 y = (k0_pay5 (F := Ideal) x0 x1 x2) y := by
  have e0 := load_whole arg1 harg1 x0 inb_S512x1024_S512x1024_0_0
  have e1 := load_whole arg2 harg2 x1 inb_S1x1024_S1x1024_0_0
  have e2 := load_whole arg3 harg3 x2 inb_S1024x768_S1024x768_0_0
  unfold out0_A_6
  refine View.read_writes_apply_of_pieces VO0_6 VO0_6.junk (k0_pay5 (F := Ideal) x0 x1 x2) _
    (fun q hq => View.PiecesOf.mem (Val := Elt Ideal) ?_ q hq) y
    (cover0_A_6 (F := Ideal) c i arg1 harg1 arg2 harg2 arg3 harg3 arg4 harg4 arg5 harg5 arg6 harg6 arg7 harg7 arg8 harg8 arg9 harg9 arg10 harg10 arg11 harg11 x0 x1 x2 x3 x4 x5 y)
  unfold kernelRun0_A
  dsimp only
  try simp only [kernelRun0_A.sl.r]
  rw [e0, e1, e2]
  refine ⟨fun z => congrArg (k0_pay5 (F := Ideal) x0 x1 x2) ?_, trivial⟩
  funext j
  refine Fin.ext ?_
  fin_cases j
  · show (z 0).val = 0 + 1 * (z 0).val
    omega
  · show (z 1).val = 0 + 1 * (z 1).val
    omega

/-- Output 9 is one store. -/
theorem out9 (y : S512x256.Idx) :
    out0_A_9 (F := Ideal) c i arg1 harg1 arg2 harg2 arg3 harg3 arg4 harg4 arg5 harg5 arg6 harg6 arg7 harg7 arg8 harg8 arg9 harg9 arg10 harg10 arg11 harg11 x0 x1 x2 x3 x4 x5 y = (k0_pay3 (F := Ideal) (k0_pay4 x0 x1) x5) y := by
  have e0 := load_whole arg1 harg1 x0 inb_S512x1024_S512x1024_0_0
  have e1 := load_whole arg2 harg2 x1 inb_S1x1024_S1x1024_0_0
  have e5 := load_whole arg6 harg6 x5 inb_S1024x256_S1024x256_0_0
  unfold out0_A_9
  refine View.read_writes_apply_of_pieces VO0_9 VO0_9.junk (k0_pay3 (F := Ideal) (k0_pay4 x0 x1) x5) _
    (fun q hq => View.PiecesOf.mem (Val := Elt Ideal) ?_ q hq) y
    (cover0_A_9 (F := Ideal) c i arg1 harg1 arg2 harg2 arg3 harg3 arg4 harg4 arg5 harg5 arg6 harg6 arg7 harg7 arg8 harg8 arg9 harg9 arg10 harg10 arg11 harg11 x0 x1 x2 x3 x4 x5 y)
  unfold kernelRun0_A
  dsimp only
  try simp only [kernelRun0_A.sl.r]
  rw [e0, e1, e5]
  refine ⟨fun z => congrArg (k0_pay3 (F := Ideal) (k0_pay4 x0 x1) x5) ?_, trivial⟩
  funext j
  refine Fin.ext ?_
  fin_cases j
  · show (z 0).val = 0 + 1 * (z 0).val
    omega
  · show (z 1).val = 0 + 1 * (z 1).val
    omega

end

end Cert.Layer.AttProjBlock

end
-- ==== Proof.Layer.AttProjValue.lean ====
/-
  The projections after a run of the kernel: each output is the normalised rows times the columns of one head group (or of the
  memory heads), with the tokens of a row of the output side by side.
-/
module

public import proofs.«01_k».proof.Proof.Gen.AttProjIdeal.Value
public import proofs.«01_k».proof.Proof.Layer.AttProjBlock
public import Idealize.ShloMosaic.Lib.Pipeline.ValueKit
public import Idealize.ShloMosaic.Lib.StableHlo.ReadAt

@[expose] public section

set_option maxRecDepth 65536

noncomputable section

open Idealize.ShloMosaic Idealize.ShloMosaic.TcCoe Idealize.SL.Sem
open Idealize.ShloMosaic.Pipeline (Dat)

namespace Cert.Layer.AttProjValue

open Cert.AttProjIdeal Cert.AttProjIdeal.Gen Cert.Layer Cert.Layer.AttProjBlock

/-- Where each window's block sits: the point's rows of the input and of the outputs, everything else whole. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0]
    ∧ win0_6.index t = ![t.val, 0] ∧ win0_7.index t = ![t.val, 0] ∧ win0_8.index t = ![t.val, 0] ∧ win0_9.index t = ![t.val, 0] :=
  (by decide +kernel : ∀ t : Fin grid0.N, _)

variable (m : (ℓ : Loc nD τ sig) → Buf (Elt Ideal) ℓ)

/-- The gain, as the host lays it out. -/
theorem gain (c : Dev nD) (k : Fin 1024) : V m c main_v15 (ix2 0 k) = m ((c : Thread nD τ).loc main_arg1) (ix1 k) := by
  unfold V
  after_reads_at <;> blk_ext!

/-- The memory heads' columns of the weights. -/
theorem weights_memory (c : Dev nD) (k : Fin 1024) (l : Fin 256) :
    V m c main_v14 (ix2 k l) = m ((c : Thread nD τ).loc main_arg2) (ix2 k ⟨2304 + l.val, by omega⟩) := by
  unfold V
  after_reads_at <;> blk_ext!

/-- A column of a head group is one of the weights' columns. -/
theorem groupCol_lt (gi l : ℕ) (hg : gi < 3) (hl : l < 768) : groupCol gi l < 2560 := by
  unfold groupCol
  omega

/-- The columns of head group 0. -/
theorem weights0 (c : Dev nD) (k : Fin 1024) (l : Fin 768) :
    V m c main_v6 (ix2 k l) = m ((c : Thread nD τ).loc main_arg2) (ix2 k ⟨groupCol 0 l.val, groupCol_lt 0 l.val (by decide) l.isLt⟩) := by
  unfold V groupCol
  after_reads_at <;> blk_ext!

/-- The columns of head group 1. -/
theorem weights1 (c : Dev nD) (k : Fin 1024) (l : Fin 768) :
    V m c main_v9 (ix2 k l) = m ((c : Thread nD τ).loc main_arg2) (ix2 k ⟨groupCol 1 l.val, groupCol_lt 1 l.val (by decide) l.isLt⟩) := by
  unfold V groupCol
  after_reads_at <;> blk_ext!

/-- The columns of head group 2. -/
theorem weights2 (c : Dev nD) (k : Fin 1024) (l : Fin 768) :
    V m c main_v12 (ix2 k l) = m ((c : Thread nD τ).loc main_arg2) (ix2 k ⟨groupCol 2 l.val, groupCol_lt 2 l.val (by decide) l.isLt⟩) := by
  unfold V groupCol
  after_reads_at <;> blk_ext!

/-- A point's block of the input. -/
theorem block_x (c : Dev nD) (t : Fin cfg0.N) (r : ℕ) (hr : r < 512) (k : Fin 1024) :
    at2 (n0 := 512) (n1 := 1024) (iblk m c 0 t) r k.val
      = at2 (n0 := 32768) (n1 := 1024) (m ((c : Thread nD τ).loc main_arg0)) (t.val * 512 + r) k.val := by
  have ht : t.val < 64 := lt_of_lt_of_eq t.isLt (by decide +kernel)
  refine (at2_eq (n0 := 512) (n1 := 1024) (iblk m c 0 t) ⟨r, hr⟩ k).symm.trans ?_
  refine Eq.trans ?_ (at2_eq (n0 := 32768) (n1 := 1024) (m ((c : Thread nD τ).loc main_arg0)) ⟨t.val * 512 + r, by omega⟩ k)
  blk_point [iblk, V, idx t]

/-- The gain's block. -/
theorem block_gain (c : Dev nD) (t : Fin cfg0.N) (k : Fin 1024) :
    (iblk m c 1 t : FVec Ideal S1x1024 .f32) (ix2 0 k) = m ((c : Thread nD τ).loc main_arg1) (ix1 k) := by
  refine Eq.trans ?_ (gain m c k)
  blk_point [iblk, idx t]

/-- The block of the weights of head group 0. -/
theorem block_weights0 (c : Dev nD) (t : Fin cfg0.N) (k : Fin 1024) (l : ℕ) (hl : l < 768) :
    at2 (n0 := 1024) (n1 := 768) (iblk m c 2 t) k.val l
      = at2 (n0 := 1024) (n1 := 2560) (m ((c : Thread nD τ).loc main_arg2)) k.val (groupCol 0 l) := by
  refine (at2_eq (n0 := 1024) (n1 := 768) (iblk m c 2 t) k ⟨l, hl⟩).symm.trans ?_
  refine Eq.trans ?_ ((weights0 m c k ⟨l, hl⟩).trans (at2_eq (n0 := 1024) (n1 := 2560) (m ((c : Thread nD τ).loc main_arg2)) k _))
  blk_point [iblk, idx t]

/-- The block of the weights of head group 1. -/
theorem block_weights1 (c : Dev nD) (t : Fin cfg0.N) (k : Fin 1024) (l : ℕ) (hl : l < 768) :
    at2 (n0 := 1024) (n1 := 768) (iblk m c 3 t) k.val l
      = at2 (n0 := 1024) (n1 := 2560) (m ((c : Thread nD τ).loc main_arg2)) k.val (groupCol 1 l) := by
  refine (at2_eq (n0 := 1024) (n1 := 768) (iblk m c 3 t) k ⟨l, hl⟩).symm.trans ?_
  refine Eq.trans ?_ ((weights1 m c k ⟨l, hl⟩).trans (at2_eq (n0 := 1024) (n1 := 2560) (m ((c : Thread nD τ).loc main_arg2)) k _))
  blk_point [iblk, idx t]

/-- The block of the weights of head group 2. -/
theorem block_weights2 (c : Dev nD) (t : Fin cfg0.N) (k : Fin 1024) (l : ℕ) (hl : l < 768) :
    at2 (n0 := 1024) (n1 := 768) (iblk m c 4 t) k.val l
      = at2 (n0 := 1024) (n1 := 2560) (m ((c : Thread nD τ).loc main_arg2)) k.val (groupCol 2 l) := by
  refine (at2_eq (n0 := 1024) (n1 := 768) (iblk m c 4 t) k ⟨l, hl⟩).symm.trans ?_
  refine Eq.trans ?_ ((weights2 m c k ⟨l, hl⟩).trans (at2_eq (n0 := 1024) (n1 := 2560) (m ((c : Thread nD τ).loc main_arg2)) k _))
  blk_point [iblk, idx t]

/-- The block of the memory heads' weights. -/
theorem block_weights_memory (c : Dev nD) (t : Fin cfg0.N) (k : Fin 1024) (l : ℕ) (hl : l < 256) :
    at2 (n0 := 1024) (n1 := 256) (iblk m c 5 t) k.val l
      = at2 (n0 := 1024) (n1 := 2560) (m ((c : Thread nD τ).loc main_arg2)) k.val (2304 + l) := by
  refine (at2_eq (n0 := 1024) (n1 := 256) (iblk m c 5 t) k ⟨l, hl⟩).symm.trans ?_
  refine Eq.trans ?_ ((weights_memory m c k ⟨l, hl⟩).trans (at2_eq (n0 := 1024) (n1 := 2560) (m ((c : Thread nD τ).loc main_arg2)) k _))
  blk_point [iblk, idx t]

/-- The first head group: one token to a row. -/
def band1Arr (x : FVec Ideal S32768x1024 .f32) (g : FVec Ideal S1024 .f32) (w : FVec Ideal S1024x2560 .f32) : FVec Ideal S32768x768 .bf16 :=
  fun i => projAt x (fun k => g (ix1 k)) w ((i 0).val) (groupCol 0 (i 1).val)

/-- Its array after the run. -/
theorem band1_final (c : Dev nD) : (dats m 0 c).arrAt 6 cfg0.N
    = band1Arr (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  unfold outsAt0
  idx_vars y
  have ht : t.val < 64 := lt_of_lt_of_eq t.isLt (by decide +kernel)
  have hy0 := y0.isLt
  have hy1 := y1.isLt
  refine (out6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _)
    (iblk m c 0 t) (iblk m c 1 t) (iblk m c 2 t) (iblk m c 3 t) (iblk m c 4 t) (iblk m c 5 t) _).trans ?_
  have e0 : ((((cfg0.win 6).blk t).view.emb (ix2 y0 y1)) 0).val = t.val * 512 + y0.val := by blk_simp [idx t] <;> first | rfl | omega
  have e1 : ((((cfg0.win 6).blk t).view.emb (ix2 y0 y1)) 1).val = y1.val := by blk_simp [idx t] <;> first | rfl | omega
  refine Eq.trans ?_ (Eq.symm (b := projAt (m ((c : Thread nD τ).loc main_arg0)) (fun k => m ((c : Thread nD τ).loc main_arg1) (ix1 k)) (m ((c : Thread nD τ).loc main_arg2))
    ((t.val * 512 + y0.val)) (groupCol 0 y1.val)) ?_)
  · refine (rows_apply _ _ _ y0 y1).trans (projRow_congr (fun k => block_x m c t y0.val hy0 k) (fun k => block_gain m c t k)
      (fun k => block_weights0 m c t k y1.val hy1))
  · show projAt _ _ _ (((((cfg0.win 6).blk t).view.emb (ix2 y0 y1)) 0).val) (groupCol 0 ((((cfg0.win 6).blk t).view.emb (ix2 y0 y1)) 1).val) = _
    rw [e0, e1]

/-- The second head group: four tokens to a row. -/
def band4Arr (x : FVec Ideal S32768x1024 .f32) (g : FVec Ideal S1024 .f32) (w : FVec Ideal S1024x2560 .f32) : FVec Ideal S8192x3072 .bf16 :=
  fun i => projAt x (fun k => g (ix1 k)) w (((i 0).val * 4 + (i 1).val / 768)) (groupCol 1 ((i 1).val % 768))

/-- Its array after the run. -/
theorem band4_final (c : Dev nD) : (dats m 0 c).arrAt 7 cfg0.N
    = band4Arr (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  unfold outsAt0
  idx_vars y
  have ht : t.val < 64 := lt_of_lt_of_eq t.isLt (by decide +kernel)
  have hy0 := y0.isLt
  have hy1 := y1.isLt
  refine (out7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _)
    (iblk m c 0 t) (iblk m c 1 t) (iblk m c 2 t) (iblk m c 3 t) (iblk m c 4 t) (iblk m c 5 t) _).trans ?_
  have e0 : ((((cfg0.win 7).blk t).view.emb (ix2 y0 y1)) 0).val = t.val * 128 + y0.val := by blk_simp [idx t] <;> first | rfl | omega
  have e1 : ((((cfg0.win 7).blk t).view.emb (ix2 y0 y1)) 1).val = y1.val := by blk_simp [idx t] <;> first | rfl | omega
  refine Eq.trans ?_ (Eq.symm (b := projAt (m ((c : Thread nD τ).loc main_arg0)) (fun k => m ((c : Thread nD τ).loc main_arg1) (ix1 k)) (m ((c : Thread nD τ).loc main_arg2))
    (((t.val * 128 + y0.val) * 4 + y1.val / 768)) (groupCol 1 (y1.val % 768))) ?_)
  · have hr : y0.val * 4 + y1.val / 768 < 512 := by omega
    have hl : y1.val % 768 < 768 := by omega
    refine (at2_eq (k0_pay6 (F := Ideal) (iblk m c 0 t) (iblk m c 1 t) (iblk m c 3 t)) ⟨y0.val * 4 + y1.val / 768, hr⟩ ⟨y1.val % 768, hl⟩).symm.trans ?_
    refine (product_apply _ _ _ ⟨y0.val * 4 + y1.val / 768, hr⟩ ⟨y1.val % 768, hl⟩).trans
      (projRow_congr (fun k => (block_x m c t _ hr k).trans (congrArg (fun r => at2 (m ((c : Thread nD τ).loc main_arg0)) r k.val) ?_)) (fun k => block_gain m c t k)
      (fun k => block_weights1 m c t k _ hl))
    omega
  · show projAt _ _ _ ((((((cfg0.win 7).blk t).view.emb (ix2 y0 y1)) 0).val * 4 + ((((cfg0.win 7).blk t).view.emb (ix2 y0 y1)) 1).val / 768)) (groupCol 1 (((((cfg0.win 7).blk t).view.emb (ix2 y0 y1)) 1).val % 768)) = _
    rw [e0, e1]

/-- The third head group: sixteen tokens to a row. -/
def band16Arr (x : FVec Ideal S32768x1024 .f32) (g : FVec Ideal S1024 .f32) (w : FVec Ideal S1024x2560 .f32) : FVec Ideal S2048x12288 .bf16 :=
  fun i => projAt x (fun k => g (ix1 k)) w (((i 0).val * 16 + (i 1).val / 768)) (groupCol 2 ((i 1).val % 768))

/-- Its array after the run. -/
theorem band16_final (c : Dev nD) : (dats m 0 c).arrAt 8 cfg0.N
    = band16Arr (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [after0_8]
  unfold outsAt0
  idx_vars y
  have ht : t.val < 64 := lt_of_lt_of_eq t.isLt (by decide +kernel)
  have hy0 := y0.isLt
  have hy1 := y1.isLt
  refine (out8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _)
    (iblk m c 0 t) (iblk m c 1 t) (iblk m c 2 t) (iblk m c 3 t) (iblk m c 4 t) (iblk m c 5 t) _).trans ?_
  have e0 : ((((cfg0.win 8).blk t).view.emb (ix2 y0 y1)) 0).val = t.val * 32 + y0.val := by blk_simp [idx t] <;> first | rfl | omega
  have e1 : ((((cfg0.win 8).blk t).view.emb (ix2 y0 y1)) 1).val = y1.val := by blk_simp [idx t] <;> first | rfl | omega
  refine Eq.trans ?_ (Eq.symm (b := projAt (m ((c : Thread nD τ).loc main_arg0)) (fun k => m ((c : Thread nD τ).loc main_arg1) (ix1 k)) (m ((c : Thread nD τ).loc main_arg2))
    (((t.val * 32 + y0.val) * 16 + y1.val / 768)) (groupCol 2 (y1.val % 768))) ?_)
  · have hr : y0.val * 16 + y1.val / 768 < 512 := by omega
    have hl : y1.val % 768 < 768 := by omega
    refine (at2_eq (k0_pay6 (F := Ideal) (iblk m c 0 t) (iblk m c 1 t) (iblk m c 4 t)) ⟨y0.val * 16 + y1.val / 768, hr⟩ ⟨y1.val % 768, hl⟩).symm.trans ?_
    refine (product_apply _ _ _ ⟨y0.val * 16 + y1.val / 768, hr⟩ ⟨y1.val % 768, hl⟩).trans
      (projRow_congr (fun k => (block_x m c t _ hr k).trans (congrArg (fun r => at2 (m ((c : Thread nD τ).loc main_arg0)) r k.val) ?_)) (fun k => block_gain m c t k)
      (fun k => block_weights2 m c t k _ hl))
    omega
  · show projAt _ _ _ ((((((cfg0.win 8).blk t).view.emb (ix2 y0 y1)) 0).val * 16 + ((((cfg0.win 8).blk t).view.emb (ix2 y0 y1)) 1).val / 768)) (groupCol 2 (((((cfg0.win 8).blk t).view.emb (ix2 y0 y1)) 1).val % 768)) = _
    rw [e0, e1]

/-- The memory heads' queries. -/
def memoryArr (x : FVec Ideal S32768x1024 .f32) (g : FVec Ideal S1024 .f32) (w : FVec Ideal S1024x2560 .f32) : FVec Ideal S32768x256 .bf16 :=
  fun i => projAt x (fun k => g (ix1 k)) w ((i 0).val) (2304 + (i 1).val)

/-- Its array after the run. -/
theorem memory_final (c : Dev nD) : (dats m 0 c).arrAt 9 cfg0.N
    = memoryArr (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9]
  unfold outsAt0
  idx_vars y
  have ht : t.val < 64 := lt_of_lt_of_eq t.isLt (by decide +kernel)
  have hy0 := y0.isLt
  have hy1 := y1.isLt
  refine (out9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _)
    (iblk m c 0 t) (iblk m c 1 t) (iblk m c 2 t) (iblk m c 3 t) (iblk m c 4 t) (iblk m c 5 t) _).trans ?_
  have e0 : ((((cfg0.win 9).blk t).view.emb (ix2 y0 y1)) 0).val = t.val * 512 + y0.val := by blk_simp [idx t] <;> first | rfl | omega
  have e1 : ((((cfg0.win 9).blk t).view.emb (ix2 y0 y1)) 1).val = y1.val := by blk_simp [idx t] <;> first | rfl | omega
  refine Eq.trans ?_ (Eq.symm (b := projAt (m ((c : Thread nD τ).loc main_arg0)) (fun k => m ((c : Thread nD τ).loc main_arg1) (ix1 k)) (m ((c : Thread nD τ).loc main_arg2))
    ((t.val * 512 + y0.val)) (2304 + y1.val)) ?_)
  · refine (queries_apply _ _ _ y0 y1).trans (projRow_congr (fun k => block_x m c t y0.val hy0 k) (fun k => block_gain m c t k)
      (fun k => block_weights_memory m c t k y1.val hy1))
  · show projAt _ _ _ (((((cfg0.win 9).blk t).view.emb (ix2 y0 y1)) 0).val) (2304 + ((((cfg0.win 9).blk t).view.emb (ix2 y0 y1)) 1).val) = _
    rw [e0, e1]

end Cert.Layer.AttProjValue

end
-- ==== Proof.Layer.AttProjReference.lean ====
/-
  The reference's projections into the banded heads and the memory heads, entry by entry.
-/
module

public import proofs.«01_k».proof.Proof.Gen.AttProjRefIdeal.Run
public import proofs.«01_k».proof.Proof.Layer.MixMath

@[expose] public section

set_option maxRecDepth 16384

noncomputable section

open Idealize.ShloMosaic Idealize.ShloMosaic.TcCoe Idealize.SL.Sem

namespace Cert.Layer.AttProjReference

open Cert.AttProjRefIdeal Cert.AttProjRefIdeal.Gen Cert.AttProjRefIdeal.Value Cert.Layer

/-- All products at once: the normalised rows times the weights. -/
def product (x : FVec Ideal S32768x1024 .f32) (g : FVec Ideal S1024 .f32) (w : FVec Ideal S1024x2560 .f32) : FVec Ideal S32768x2560 .f32 :=
  Host.dotGeneral dot_S32768x1024_S1024x2560_S32768x2560_1_0_0_1_n_n none (mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))) w

/-- One product. -/
theorem product_apply (x : FVec Ideal S32768x1024 .f32) (g : FVec Ideal S1024 .f32) (w : FVec Ideal S1024x2560 .f32) (r : Fin 32768) (l : Fin 2560) :
    product x g w (ix2 r l) = projAt x (fun k => g (ix1 k)) w r.val l.val := by
  refine Eq.trans ?_ (projAt_eq x _ w r l)
  pointwise [product]
  simp only [projRow, rmsRow]

/-- The queries, keys and values of head group 0, side by side. -/
def group0 (p : FVec Ideal S32768x2560 .f32) : FVec Ideal S32768x768 .f32 :=
  concatenate S32768x768 1 [⟨S32768x256, extractStridedSlice S32768x256 ![0, 0] (extractStridedSlice S32768x768 ![0, 0] p slices_S32768x2560_S32768x768_0_0) slices_S32768x768_S32768x256_0_0⟩, ⟨S32768x256, extractStridedSlice S32768x256 ![0, 0] (extractStridedSlice S32768x768 ![0, 768] p slices_S32768x2560_S32768x768_0_768) slices_S32768x768_S32768x256_0_0⟩, ⟨S32768x256, extractStridedSlice S32768x256 ![0, 0] (extractStridedSlice S32768x768 ![0, 1536] p slices_S32768x2560_S32768x768_0_1536) slices_S32768x768_S32768x256_0_0⟩] concatenates_S32768x256_S32768x256_S32768x256_S32768x768_d1

/-- Those of head group 1. -/
def group1 (p : FVec Ideal S32768x2560 .f32) : FVec Ideal S32768x768 .f32 :=
  concatenate S32768x768 1 [⟨S32768x256, extractStridedSlice S32768x256 ![0, 256] (extractStridedSlice S32768x768 ![0, 0] p slices_S32768x2560_S32768x768_0_0) slices_S32768x768_S32768x256_0_256⟩, ⟨S32768x256, extractStridedSlice S32768x256 ![0, 256] (extractStridedSlice S32768x768 ![0, 768] p slices_S32768x2560_S32768x768_0_768) slices_S32768x768_S32768x256_0_256⟩, ⟨S32768x256, extractStridedSlice S32768x256 ![0, 256] (extractStridedSlice S32768x768 ![0, 1536] p slices_S32768x2560_S32768x768_0_1536) slices_S32768x768_S32768x256_0_256⟩] concatenates_S32768x256_S32768x256_S32768x256_S32768x768_d1

/-- Those of head group 2. -/
def group2 (p : FVec Ideal S32768x2560 .f32) : FVec Ideal S32768x768 .f32 :=
  concatenate S32768x768 1 [⟨S32768x256, extractStridedSlice S32768x256 ![0, 512] (extractStridedSlice S32768x768 ![0, 0] p slices_S32768x2560_S32768x768_0_0) slices_S32768x768_S32768x256_0_512⟩, ⟨S32768x256, extractStridedSlice S32768x256 ![0, 512] (extractStridedSlice S32768x768 ![0, 768] p slices_S32768x2560_S32768x768_0_768) slices_S32768x768_S32768x256_0_512⟩, ⟨S32768x256, extractStridedSlice S32768x256 ![0, 512] (extractStridedSlice S32768x768 ![0, 1536] p slices_S32768x2560_S32768x768_0_1536) slices_S32768x768_S32768x256_0_512⟩] concatenates_S32768x256_S32768x256_S32768x256_S32768x768_d1

/-- A lane of head group 0 lies in the products. -/
theorem group0_apply (p : FVec Ideal S32768x2560 .f32) (r : Fin 32768) (l : Fin 768) :
    group0 p (ix2 r l) = at2 p r.val (groupCol 0 l.val) := by
  have hl := l.isLt
  unfold group0
  pointwise
  split_ifs with h1 h2
  all_goals
    refine (at2_eq p r _).trans (congrArg (at2 p r.val) ?_)
    unfold groupCol
    dsimp only
    omega

/-- A lane of head group 1 lies in the products. -/
theorem group1_apply (p : FVec Ideal S32768x2560 .f32) (r : Fin 32768) (l : Fin 768) :
    group1 p (ix2 r l) = at2 p r.val (groupCol 1 l.val) := by
  have hl := l.isLt
  unfold group1
  pointwise
  split_ifs with h1 h2
  all_goals
    refine (at2_eq p r _).trans (congrArg (at2 p r.val) ?_)
    unfold groupCol
    dsimp only
    omega

/-- A lane of head group 2 lies in the products. -/
theorem group2_apply (p : FVec Ideal S32768x2560 .f32) (r : Fin 32768) (l : Fin 768) :
    group2 p (ix2 r l) = at2 p r.val (groupCol 2 l.val) := by
  have hl := l.isLt
  unfold group2
  pointwise
  split_ifs with h1 h2
  all_goals
    refine (at2_eq p r _).trans (congrArg (at2 p r.val) ?_)
    unfold groupCol
    dsimp only
    omega

section results

variable (x : FVec Ideal S32768x1024 .f32) (g : FVec Ideal S1024 .f32) (w : FVec Ideal S1024x2560 .f32)

/-- An entry of the products, named by naturals. -/
theorem product_at (r l : ℕ) (hr : r < 32768) (hl : l < 2560) : at2 (product x g w) r l = projAt x (fun k => g (ix1 k)) w r l :=
  (at2_eq (product x g w) ⟨r, hr⟩ ⟨l, hl⟩).symm.trans (product_apply x g w ⟨r, hr⟩ ⟨l, hl⟩)

/-- The first head group: one token to a row. -/
theorem result0 (a : Fin 32768) (i : Fin 768) :
    (truncf .bf16 (group0 (product x g w)) bitsLt_bf16_f32 : FVec Ideal S32768x768 .bf16) (ix2 a i)
      = projAt x (fun k => g (ix1 k)) w a.val (groupCol 0 i.val) := by
  have hi := i.isLt
  refine (group0_apply (product x g w) a i).trans (product_at x g w _ _ a.isLt ?_)
  unfold groupCol
  omega

/-- The second head group: four tokens to a row. -/
theorem result1 (a : Fin 8192) (i : Fin 3072) :
    (truncf .bf16 (shapeCast S8192x3072 (group1 (product x g w)) shapeCasts_S32768x768_S8192x3072) bitsLt_bf16_f32 : FVec Ideal S8192x3072 .bf16) (ix2 a i)
      = projAt x (fun k => g (ix1 k)) w (a.val * 4 + i.val / 768) (groupCol 1 (i.val % 768)) := by
  have hi := i.isLt
  have ha := a.isLt
  have hp : (truncf .bf16 (shapeCast S8192x3072 (group1 (product x g w)) shapeCasts_S32768x768_S8192x3072) bitsLt_bf16_f32 : FVec Ideal S8192x3072 .bf16) (ix2 a i)
      = group1 (product x g w) (ix2 ⟨a.val * 4 + i.val / 768, by omega⟩ ⟨i.val % 768, by omega⟩) := by
    pointwise
  refine hp.trans ((group1_apply (product x g w) _ _).trans (product_at x g w _ _ ?_ ?_))
  · show a.val * 4 + i.val / 768 < 32768
    omega
  · show groupCol 1 (i.val % 768) < 2560
    unfold groupCol
    omega

/-- The third head group: sixteen tokens to a row. -/
theorem result2 (a : Fin 2048) (i : Fin 12288) :
    (truncf .bf16 (shapeCast S2048x12288 (group2 (product x g w)) shapeCasts_S32768x768_S2048x12288) bitsLt_bf16_f32 : FVec Ideal S2048x12288 .bf16) (ix2 a i)
      = projAt x (fun k => g (ix1 k)) w (a.val * 16 + i.val / 768) (groupCol 2 (i.val % 768)) := by
  have hi := i.isLt
  have ha := a.isLt
  have hp : (truncf .bf16 (shapeCast S2048x12288 (group2 (product x g w)) shapeCasts_S32768x768_S2048x12288) bitsLt_bf16_f32 : FVec Ideal S2048x12288 .bf16) (ix2 a i)
      = group2 (product x g w) (ix2 ⟨a.val * 16 + i.val / 768, by omega⟩ ⟨i.val % 768, by omega⟩) := by
    pointwise
  refine hp.trans ((group2_apply (product x g w) _ _).trans (product_at x g w _ _ ?_ ?_))
  · show a.val * 16 + i.val / 768 < 32768
    omega
  · show groupCol 2 (i.val % 768) < 2560
    unfold groupCol
    omega

/-- The memory heads' queries. -/
theorem result3 (a : Fin 32768) (i : Fin 256) :
    (truncf .bf16 (extractStridedSlice S32768x256 ![0, 2304] (product x g w) slices_S32768x2560_S32768x256_0_2304) bitsLt_bf16_f32 : FVec Ideal S32768x256 .bf16) (ix2 a i)
      = projAt x (fun k => g (ix1 k)) w a.val (2304 + i.val) := by
  have hp : (truncf .bf16 (extractStridedSlice S32768x256 ![0, 2304] (product x g w) slices_S32768x2560_S32768x256_0_2304) bitsLt_bf16_f32 : FVec Ideal S32768x256 .bf16) (ix2 a i)
      = product x g w (ix2 a ⟨2304 + i.val, by omega⟩) := by
    pointwise
  exact hp.trans (product_apply x g w a ⟨2304 + i.val, by omega⟩)

end results

end Cert.Layer.AttProjReference

end
-- ==== Proof.Layer.ProjClaims.lean ====
/-
  The projections into the heads, and the memory's keys and values, compute what their references compute.
-/
module

public import proofs.«01_k».proof.Defs
public import proofs.«01_k».proof.Proof.Layer.MemKvValue
public import proofs.«01_k».proof.Proof.Layer.MemKvReference
public import proofs.«01_k».proof.Proof.Layer.AttProjValue
public import proofs.«01_k».proof.Proof.Layer.AttProjReference
public import Idealize.ShloMosaic.Lib.Claim

@[expose] public section

set_option maxRecDepth 16384

noncomputable section

open Idealize.ShloMosaic Idealize.ShloMosaic.TcCoe Idealize.SL.Sem

namespace Cert.Layer.ProjClaims

/-- On equal arguments the kernel and its reference hold the same memory keys and the same memory values. -/
theorem algebraicMemKv : Cert.algebraic_MemKvIdeal_MemKvRefIdeal := by
  intro m ρ m' ρ' _ hagree
  refine ⟨_, _, (θ_run Cert.MemKvIdeal.defs _ _).mono
      (fun _ h c => ⟨(h c).1.trans (MemKvKernel.keys_final m c), (h c).2.1.trans (MemKvKernel.values_final m c), (h c).2.2⟩)
    (Cert.MemKvIdeal.Value.run_blocks (F := Ideal) m ρ), ?_⟩
  refine (θ_run Cert.MemKvRefIdeal.defs _ _).mono (fun _ h c => ⟨(h c).1.trans ?_, (h c).2.1.trans ?_, (h c).2.2⟩)
    (Cert.MemKvRefIdeal.Value.run (F := Ideal) m' ρ')
  all_goals
    obtain ⟨h0, h1, h2⟩ := hagree c
    funext i
    idx_vars i
  · exact (MemKvReference.keys_apply _ _ _ i0 i1 i2).trans (by rw [h0, h1, h2]; rfl)
  · exact (MemKvReference.values_apply _ _ _ i0 i1 i2).trans (by rw [h0, h1, h2]; rfl)

/-- On equal arguments the kernel and its reference hold the same projections, for each head group and for the memory heads. -/
theorem algebraicAttProj : Cert.algebraic_AttProjIdeal_AttProjRefIdeal := by
  intro m ρ m' ρ' _ hagree
  refine ⟨_, _, _, _, (θ_run Cert.AttProjIdeal.defs _ _).mono
      (fun _ h c => ⟨(h c).1.trans (AttProjValue.band1_final m c), (h c).2.1.trans (AttProjValue.band4_final m c),
        (h c).2.2.1.trans (AttProjValue.band16_final m c), (h c).2.2.2.1.trans (AttProjValue.memory_final m c), (h c).2.2.2.2⟩)
    (Cert.AttProjIdeal.Value.run_blocks (F := Ideal) m ρ), ?_⟩
  refine (θ_run Cert.AttProjRefIdeal.defs _ _).mono
    (fun _ h c => ⟨(h c).1.trans ?_, (h c).2.1.trans ?_, (h c).2.2.1.trans ?_, (h c).2.2.2.1.trans ?_, (h c).2.2.2.2⟩)
    (Cert.AttProjRefIdeal.Value.run (F := Ideal) m' ρ')
  all_goals
    obtain ⟨h0, h1, h2⟩ := hagree c
    funext i
    idx_vars i
  · exact (AttProjReference.result0 _ _ _ i0 i1).trans (by rw [h0, h1, h2]; rfl)
  · exact (AttProjReference.result1 _ _ _ i0 i1).trans (by rw [h0, h1, h2]; rfl)
  · exact (AttProjReference.result2 _ _ _ i0 i1).trans (by rw [h0, h1, h2]; rfl)
  · exact (AttProjReference.result3 _ _ _ i0 i1).trans (by rw [h0, h1, h2]; rfl)

end Cert.Layer.ProjClaims

end
-- ==== Proof.Layer.OutMath.lean ====
/-
  The outputs of the two mixers on one row, as plain functions of extended reals: the memory heads' attention, the gated
  delta-rule heads, and the output projection with its normalisation and residual.
-/
module

public import proofs.«01_k».proof.Proof.Layer.MixMath

@[expose] public section

noncomputable section

open Idealize.ShloMosaic

namespace Cert.Layer

/-- The logits of the memory head that lane `l` belongs to: a head has 64 lanes, its queries scaled by one eighth. -/
def memLogits (q : ℕ → EReal) (k : ℕ → ℕ → EReal) (h : ℕ) (j : Fin 256) : EReal :=
  ∑ d : Fin 64, q (64 * h + d.val) * Ideal.ofBits .f32 0x3E000000#32 * k j.val (64 * h + d.val)

/-- One lane of the memory heads' attention: the head's softmax over the 256 keys, times the lane of the values. -/
def memRow (q : ℕ → EReal) (k v : ℕ → ℕ → EReal) (l : ℕ) : EReal :=
  ∑ j : Fin 256, Ideal.div (keyWeight (memLogits q k (l / 64)) j) (rowDen (memLogits q k (l / 64))) * v j.val l

/-- One lane of the delta-rule heads, 128 lanes a head: normalised over the head, scaled and gated. -/
def gatedRow (o n z : ℕ → EReal) (l : ℕ) : EReal :=
  o l * Ideal.rsqrt (Ideal.div (∑ d : Fin 128, o (128 * (l / 128) + d.val) * o (128 * (l / 128) + d.val))
    (Ideal.ofBits .f32 0x43000000#32) + Ideal.ofBits .f32 0x358637BD#32) * n (l % 128) * siluRow (z l)

/-- 768 lanes of the first kind beside 256 of the second. -/
def besideRow (a b : ℕ → EReal) (l : ℕ) : EReal := if l < 768 then a l else b (l - 768)

/-- The output projection, normalised, on top of the residual. -/
def outRow (x : ℕ → EReal) (a : ℕ → EReal) (w : ℕ → ℕ → EReal) (g : ℕ → EReal) (l : Fin 1024) : EReal :=
  x l.val + rmsRow (fun n => ∑ f : Fin 1024, a f.val * w f.val n.val) (fun k => g k.val) l

/-- A sum over 256 lanes of which only head `h`'s count is the sum over the head's lanes. -/
theorem sum_head (h : ℕ) (hh : h < 4) (F : Fin 256 → EReal) (f : Fin 64 → EReal)
    (hf : ∀ d : Fin 64, F ⟨64 * h + d.val, by omega⟩ = f d) (h0 : ∀ l : Fin 256, ¬ l.val / 64 = h → F l = 0) :
    ∑ l, F l = ∑ d, f d := by
  refine (Fintype.sum_of_injective (fun d : Fin 64 => (⟨64 * h + d.val, by omega⟩ : Fin 256)) (fun a b e => ?_) _ _
    (fun l hl => ?_) (fun d => (hf d).symm)).symm
  · exact Fin.ext (by simpa using e)
  · refine h0 l fun e => hl ⟨⟨l.val - 64 * h, by omega⟩, Fin.ext ?_⟩
    show 64 * h + (l.val - 64 * h) = l.val
    omega

/-- The logits of one memory head, from a sum over all the lanes that counts only the head's. -/
theorem memLogits_of (h : ℕ) (hh : h < 4) (q : ℕ → EReal) (k : ℕ → ℕ → EReal) (j : Fin 256) (F : Fin 256 → EReal)
    (hF : ∀ l : Fin 256, F l = if l.val / 64 = h then q l.val * Ideal.ofBits .f32 0x3E000000#32 * k j.val l.val else 0) :
    ∑ l, F l = memLogits q k h j := by
  refine sum_head h hh F _ (fun d => ?_) (fun l hl => ?_)
  · rw [hF, if_pos (by show (64 * h + d.val) / 64 = h; omega)]
  · rw [hF, if_neg hl]

/-- One lane of head `c` of the delta-rule heads, from the head's lanes. -/
theorem gatedRow_of (c : ℕ) (o n z : ℕ → EReal) (l : Fin 128) (A : Fin 128 → EReal) (nl zl : EReal)
    (hA : ∀ d : Fin 128, A d = o (128 * c + d.val)) (hn : nl = n l.val) (hz : zl = z (128 * c + l.val)) :
    A l * Ideal.rsqrt (Ideal.div (∑ d : Fin 128, A d * A d) (Ideal.ofBits .f32 0x43000000#32) + Ideal.ofBits .f32 0x358637BD#32)
      * nl * siluRow zl = gatedRow o n z (128 * c + l.val) := by
  obtain rfl : A = fun d => o (128 * c + d.val) := funext hA
  subst hn hz
  have h1 : (128 * c + l.val) / 128 = c := by omega
  have h2 : (128 * c + l.val) % 128 = l.val := by omega
  unfold gatedRow
  rw [h1, h2]

/-- Six heads of 128 lanes and the memory heads' 256 lanes, side by side. -/
def joined (p0 p1 p2 p3 p4 p5 : Fin 128 → EReal) (b : Fin 256 → EReal) (x : Fin 1024) : EReal :=
  if h : x.val < 128 then p0 ⟨x.val, by omega⟩
  else if h : x.val - 128 < 128 then p1 ⟨x.val - 128, by omega⟩
  else if h : x.val - 128 - 128 < 128 then p2 ⟨x.val - 128 - 128, by omega⟩
  else if h : x.val - 128 - 128 - 128 < 128 then p3 ⟨x.val - 128 - 128 - 128, by omega⟩
  else if h : x.val - 128 - 128 - 128 - 128 < 128 then p4 ⟨x.val - 128 - 128 - 128 - 128, by omega⟩
  else if h : x.val - 128 - 128 - 128 - 128 - 128 < 128 then p5 ⟨x.val - 128 - 128 - 128 - 128 - 128, by omega⟩
  else b ⟨x.val - 128 - 128 - 128 - 128 - 128 - 128, by omega⟩

/-- The six heads are one row of 768 lanes. -/
theorem joined_eq (p0 p1 p2 p3 p4 p5 : Fin 128 → EReal) (b : Fin 256 → EReal) (A B : ℕ → EReal)
    (h0 : ∀ l, p0 l = A (128 * 0 + l.val)) (h1 : ∀ l, p1 l = A (128 * 1 + l.val)) (h2 : ∀ l, p2 l = A (128 * 2 + l.val))
    (h3 : ∀ l, p3 l = A (128 * 3 + l.val)) (h4 : ∀ l, p4 l = A (128 * 4 + l.val)) (h5 : ∀ l, p5 l = A (128 * 5 + l.val))
    (hb : ∀ l, b l = B l.val) (x : Fin 1024) : joined p0 p1 p2 p3 p4 p5 b x = besideRow A B x.val := by
  unfold joined besideRow
  split_ifs
  all_goals first | (exfalso; omega) | (simp only [h0, h1, h2, h3, h4, h5, hb]; refine congrArg _ ?_; omega)

/-- The memory heads' lane, chosen among the four heads' products. -/
theorem memRow_choice (q : ℕ → EReal) (k v : ℕ → ℕ → EReal) (l : Fin 256) (a0 a1 a2 a3 : EReal)
    (h0 : a0 = ∑ j : Fin 256, Ideal.div (keyWeight (memLogits q k 0) j) (rowDen (memLogits q k 0)) * v j.val l.val)
    (h1 : a1 = ∑ j : Fin 256, Ideal.div (keyWeight (memLogits q k 1) j) (rowDen (memLogits q k 1)) * v j.val l.val)
    (h2 : a2 = ∑ j : Fin 256, Ideal.div (keyWeight (memLogits q k 2) j) (rowDen (memLogits q k 2)) * v j.val l.val)
    (h3 : a3 = ∑ j : Fin 256, Ideal.div (keyWeight (memLogits q k 3) j) (rowDen (memLogits q k 3)) * v j.val l.val) :
    (if l.val / 64 = 2 then a2 else if l.val / 64 = 1 then a1 else if l.val / 64 = 0 then a0 else a3)
      = memRow q k v l.val := by
  subst h0 h1 h2 h3
  unfold memRow
  have hl : l.val / 64 < 4 := by omega
  split_ifs with a b c
  · rw [a]
  · rw [b]
  · rw [c]
  · rw [show l.val / 64 = 3 by omega]

/-- The logits of a head depend only on the head's lanes. -/
theorem memLogits_congr {q q' : ℕ → EReal} {k k' : ℕ → ℕ → EReal} (h : ℕ) (hh : h < 4) (hq : ∀ l, l < 256 → q l = q' l)
    (hk : ∀ j l, j < 256 → l < 256 → k j l = k' j l) : memLogits q k h = memLogits q' k' h := by
  funext j
  unfold memLogits
  refine Finset.sum_congr rfl fun d _ => ?_
  rw [hq _ (by omega), hk _ _ j.isLt (by omega)]

/-- The memory heads at one lane depend only on the 256 lanes and keys. -/
theorem memRow_congr {q q' : ℕ → EReal} {k k' v v' : ℕ → ℕ → EReal} (hq : ∀ l, l < 256 → q l = q' l)
    (hk : ∀ j l, j < 256 → l < 256 → k j l = k' j l) (hv : ∀ j l, j < 256 → l < 256 → v j l = v' j l) (l : ℕ) (hl : l < 256) :
    memRow q k v l = memRow q' k' v' l := by
  unfold memRow
  rw [memLogits_congr (l / 64) (by omega) hq hk]
  exact Finset.sum_congr rfl fun j _ => by rw [hv _ _ j.isLt hl]

/-- The gated heads at one lane depend only on the 768 lanes. -/
theorem gatedRow_congr {o o' n n' z z' : ℕ → EReal} (ho : ∀ l, l < 768 → o l = o' l) (hn : ∀ l, l < 128 → n l = n' l)
    (hz : ∀ l, l < 768 → z l = z' l) (l : ℕ) (hl : l < 768) : gatedRow o n z l = gatedRow o' n' z' l := by
  have e : ∀ d : Fin 128, o (128 * (l / 128) + d.val) = o' (128 * (l / 128) + d.val) := fun d => ho _ (by omega)
  unfold gatedRow
  rw [ho l hl, hn (l % 128) (by omega), hz l hl]
  simp only [e]

/-- A row of 1024 lanes depends only on its parts' lanes. -/
theorem besideRow_congr {a a' b b' : ℕ → EReal} (ha : ∀ l, l < 768 → a l = a' l) (hb : ∀ l, l < 256 → b l = b' l) (l : ℕ)
    (hl : l < 1024) : besideRow a b l = besideRow a' b' l := by
  unfold besideRow
  split_ifs with h
  · exact ha l h
  · exact hb _ (by omega)

/-- The output row depends only on the 1024 lanes of everything. -/
theorem outRow_congr {x x' a a' g g' : ℕ → EReal} {w w' : ℕ → ℕ → EReal} (hx : ∀ l, l < 1024 → x l = x' l)
    (ha : ∀ l, l < 1024 → a l = a' l) (hw : ∀ f n, f < 1024 → n < 1024 → w f n = w' f n) (hg : ∀ l, l < 1024 → g l = g' l)
    (l : Fin 1024) : outRow x a w g l = outRow x' a' w' g' l := by
  have e : (fun n : Fin 1024 => ∑ f : Fin 1024, a f.val * w f.val n.val) = fun n => ∑ f : Fin 1024, a' f.val * w' f.val n.val := by
    funext n
    exact Finset.sum_congr rfl fun f _ => by rw [ha _ f.isLt, hw _ _ f.isLt n.isLt]
  have e' : (fun k : Fin 1024 => g k.val) = fun k => g' k.val := funext fun k => hg _ k.isLt
  unfold outRow
  rw [hx _ l.isLt, e, e']

/-- A sum over the 1024 lanes is a sum over the first 768 and one over the last 256. -/
theorem sum_beside (A B : ℕ → EReal) (W : ℕ → EReal) :
    ∑ f : Fin 1024, besideRow A B f.val * W f.val
      = ∑ x : Fin 768, A x.val * W x.val + ∑ x : Fin 256, B x.val * W (768 + x.val) := by
  refine (Fin.sum_univ_add (a := 768) (b := 256) (fun f : Fin (768 + 256) => besideRow A B f.val * W f.val)).trans ?_
  refine congrArg₂ (· + ·) (Finset.sum_congr rfl fun x _ => ?_) (Finset.sum_congr rfl fun x _ => ?_)
  · show besideRow A B x.val * W x.val = _
    unfold besideRow
    rw [if_pos x.isLt]
  · show besideRow A B (768 + x.val) * W (768 + x.val) = _
    unfold besideRow
    rw [if_neg (by omega), Nat.add_sub_cancel_left]

/-- A vector's entry, by a natural. -/
def at1 {n0 : ℕ} (X : (⟨1, ![n0]⟩ : Shape).Idx → EReal) (a : ℕ) : EReal := if h : a < n0 then X (ix1 ⟨a, h⟩) else 0

theorem at1_eq {n0 : ℕ} (X : (⟨1, ![n0]⟩ : Shape).Idx → EReal) (a : Fin n0) : X (ix1 a) = at1 X a.val := by
  unfold at1
  rw [dif_pos a.isLt]

/-- The delta-rule layer's output at row `r` and lane `l`. -/
def dnOutAt {t : ℕ} (S : ℕ) (of ob : (⟨2, ![t, 768]⟩ : Shape).Idx → EReal) (k v : ℕ → ℕ → ℕ → EReal)
    (x : (⟨2, ![t, 1024]⟩ : Shape).Idx → EReal) (z qm : ℕ → ℕ → EReal) (n : ℕ → EReal)
    (w : (⟨2, ![1024, 1024]⟩ : Shape).Idx → EReal) (g : ℕ → EReal) (r : ℕ) (l : Fin 1024) : EReal :=
  outRow (fun l => at2 x r l) (besideRow (gatedRow (fun l => at2 of r l + at2 ob r l) n (z r))
    (memRow (qm r) (k (r / S)) (v (r / S)))) (fun f n => at2 w f n) g l

end Cert.Layer

end
-- ==== Proof.Layer.DnOutBlock.lean ====
/-
  What the body of the delta-rule layer's output call stores for its 1024 rows: at every row, the gated heads beside the
  memory heads, through the output projection.
-/
module

public import proofs.«01_k».proof.Proof.Gen.DnOutIdeal.Skeleton
public import proofs.«01_k».proof.Proof.Layer.OutMath

@[expose] public section

set_option maxRecDepth 16384

noncomputable section

open Idealize.ShloMosaic Idealize.ShloMosaic.TcCoe

namespace Cert.Layer.DnOutBlock

open Cert.DnOutIdeal Cert.DnOutIdeal.Gen Cert.Layer

/-- The kernel's named constant denotes `-1/log 2`. -/
theorem neg_log2e :
    Named.named (F := Ideal) Cert.DnOutIdeal.κ "neg_log2e" (φ := .f32) 0xBFB8AA3B#32 = ((-(Real.log 2)⁻¹ : ℝ) : EReal) :=
  IdealRules.named_const.ideal_named_scalar _ _ _ _ rfl

/-- The base-2 exponential of the extended reals, behind the operation's name. -/
theorem exp2_of (x : EReal) : FloatOps.exp2 (F := Ideal) (φ := .f32) x = Ideal.exp2 x := rfl

/-- One eighth, in either width. -/
theorem eighth : Ideal.ofBits .bf16 0x3E00#16 = Ideal.ofBits .f32 0x3E000000#32 := by
  simp [Ideal.ofBits, Ideal.ieee, -EReal.coe_mul]
  norm_num

/-- The bits of minus infinity. -/
theorem minus_inf : Ideal.ofBits .f32 0xFF800000#32 = ⊥ := by
  simp [Ideal.ofBits, Ideal.ieee]

/-! ### The memory heads -/

/-- The mask of head 0's lanes. -/
theorem mask0 {α : Type} (r : Fin 1024) (l : Fin 256) (a b : α) :
    Scalar.select (k0_pay18 (ix2 r l)) a b = if l.val / 64 = 0 then a else b := by
  have h : ∀ l : Fin 256, IntOp.andi (IntOp.cmpi CmpIPredicate.sge (BitVec.ofNat 32 l.val) 0#32)
      (IntOp.cmpi CmpIPredicate.slt (BitVec.ofNat 32 l.val) 64#32) = if l.val / 64 = 0 then 1#1 else 0#1 := by decide +kernel
  have e : k0_pay18 (ix2 r l) = if l.val / 64 = 0 then 1#1 else 0#1 := by
    rw [← h l]; pointwise [k0_pay18]
  rw [e]
  by_cases hl : l.val / 64 = 0 <;> simp [hl, Scalar.select]

/-- The mask of head 1's lanes. -/
theorem mask1 {α : Type} (r : Fin 1024) (l : Fin 256) (a b : α) :
    Scalar.select (k0_pay19 (ix2 r l)) a b = if l.val / 64 = 1 then a else b := by
  have h : ∀ l : Fin 256, IntOp.andi (IntOp.cmpi CmpIPredicate.sge (BitVec.ofNat 32 l.val) 64#32)
      (IntOp.cmpi CmpIPredicate.slt (BitVec.ofNat 32 l.val) 128#32) = if l.val / 64 = 1 then 1#1 else 0#1 := by decide +kernel
  have e : k0_pay19 (ix2 r l) = if l.val / 64 = 1 then 1#1 else 0#1 := by
    rw [← h l]; pointwise [k0_pay19]
  rw [e]
  by_cases hl : l.val / 64 = 1 <;> simp [hl, Scalar.select]

/-- The lanes' numbers. -/
def laneIota : IVec S1024x256 32 := iota .tc S1024x256 32 [1] iota_S1024x256_d1_w32

/-- The mask of head 2's lanes. -/
theorem mask2 {α : Type} (r : Fin 1024) (l : Fin 256) (a b : α) :
    Scalar.select (k0_pay21 laneIota k0_pay20 192#32 (ix2 r l)) a b = if l.val / 64 = 2 then a else b := by
  have h : ∀ l : Fin 256, IntOp.andi (IntOp.cmpi CmpIPredicate.sge (BitVec.ofNat 32 l.val) 128#32)
      (IntOp.cmpi CmpIPredicate.slt (BitVec.ofNat 32 l.val) 192#32) = if l.val / 64 = 2 then 1#1 else 0#1 := by decide +kernel
  have e : k0_pay21 laneIota k0_pay20 192#32 (ix2 r l) = if l.val / 64 = 2 then 1#1 else 0#1 := by
    rw [← h l]; pointwise [k0_pay21, k0_pay20, laneIota]
  rw [e]
  by_cases hl : l.val / 64 = 2 <;> simp [hl, Scalar.select]

/-- The mask of head 3's lanes. -/
theorem mask3 {α : Type} (l : Fin 256) (a b : α) :
    Scalar.select (IntOp.andi (IntOp.cmpi CmpIPredicate.sge (BitVec.ofNat 32 l.val) 192#32)
      (IntOp.cmpi CmpIPredicate.slt (BitVec.ofNat 32 l.val) 256#32)) a b = if l.val / 64 = 3 then a else b := by
  have h : ∀ l : Fin 256, IntOp.andi (IntOp.cmpi CmpIPredicate.sge (BitVec.ofNat 32 l.val) 192#32)
      (IntOp.cmpi CmpIPredicate.slt (BitVec.ofNat 32 l.val) 256#32) = if l.val / 64 = 3 then 1#1 else 0#1 := by decide +kernel
  rw [h l]
  by_cases hl : l.val / 64 = 3 <;> simp [hl, Scalar.select]

section
variable (q : FVec Ideal S1024x256 .bf16) (k : FVec Ideal S256x256 .bf16) (r : Fin 1024)

/-- A masked product with the keys is a head's logits. -/
theorem logits_of (h : ℕ) (hh : h < 4) (j : Fin 256) (sel : Fin 256 → EReal → EReal → EReal)
    (hs : ∀ l a b, sel l a b = if l.val / 64 = h then a else b) :
    ∑ l : Fin 256, sel l (q (ix2 r l) * Ideal.ofBits .bf16 0x3E00#16 * k (ix2 j l)) 0
      = memLogits (fun l => at2 q r.val l) (fun j l => at2 k j l) h j := by
  refine memLogits_of h hh _ _ j _ fun l => ?_
  rw [hs, eighth, at2_eq q r l, at2_eq k j l]

/-- The probabilities of head 0. -/
theorem probs0 (j : Fin 256) : k0_pay25 (F := Ideal) q k k0_pay18 (ix2 r j)
    = Ideal.div (keyWeight (memLogits (fun l => at2 q r.val l) (fun j l => at2 k j l) 0) j)
        (rowDen (memLogits (fun l => at2 q r.val l) (fun j l => at2 k j l) 0)) := by
  have e := fun j => logits_of q k r 0 (by omega) j (fun l a b => Scalar.select (k0_pay18 (ix2 r l)) a b) fun l a b => mask0 r l a b
  pointwise [k0_pay25, k0_pay22]
  simp only [e, minus_inf, keyWeight, rowDen, topLogit]

/-- The probabilities of head 1. -/
theorem probs1 (j : Fin 256) : k0_pay26 (F := Ideal) q k k0_pay19 (ix2 r j)
    = Ideal.div (keyWeight (memLogits (fun l => at2 q r.val l) (fun j l => at2 k j l) 1) j)
        (rowDen (memLogits (fun l => at2 q r.val l) (fun j l => at2 k j l) 1)) := by
  have e := fun j => logits_of q k r 1 (by omega) j (fun l a b => Scalar.select (k0_pay19 (ix2 r l)) a b) fun l a b => mask1 r l a b
  pointwise [k0_pay26, k0_pay22]
  simp only [e, minus_inf, keyWeight, rowDen, topLogit]

/-- The logits of head 2. -/
theorem logits2 (j : Fin 256) : k0_pay23 (F := Ideal) q k laneIota k0_pay20 192#32 (ix2 r j)
    = memLogits (fun l => at2 q r.val l) (fun j l => at2 k j l) 2 j := by
  refine Eq.trans ?_ (logits_of q k r 2 (by omega) j
    (fun l a b => Scalar.select (k0_pay21 laneIota k0_pay20 192#32 (ix2 r l)) a b) fun l a b => mask2 r l a b)
  pointwise [k0_pay23, k0_pay22]

/-- Their largest. -/
theorem top2 : k0_pay27 (F := Ideal) q k laneIota k0_pay20 192#32 (ix2 r 0)
    = topLogit (memLogits (fun l => at2 q r.val l) (fun j l => at2 k j l) 2) := by
  have e := fun j => logits2 q k r j
  pointwise [k0_pay27]
  simp only [e, minus_inf, topLogit]

/-- The logits of head 3. -/
theorem logits3 (j : Fin 256) : k0_pay24 (F := Ideal) q k laneIota (ix2 r j)
    = memLogits (fun l => at2 q r.val l) (fun j l => at2 k j l) 3 j := by
  refine Eq.trans ?_ (logits_of q k r 3 (by omega) j
    (fun l a b => Scalar.select (IntOp.andi (IntOp.cmpi CmpIPredicate.sge (BitVec.ofNat 32 l.val) 192#32)
      (IntOp.cmpi CmpIPredicate.slt (BitVec.ofNat 32 l.val) 256#32)) a b) fun l a b => mask3 l a b)
  pointwise [k0_pay24, k0_pay22, laneIota]

end

/-! ### The gated heads -/

section
variable (z : FVec Ideal S1024x768 .f32) (a b : FVec Ideal S1024x128 .bf16) (n : FVec Ideal S1x128 .f32)
variable (r : Fin 1024) (l : Fin 128) (O Z N : ℕ → EReal)
variable (hn : ∀ l : Fin 128, n (ix2 0 l) = N l.val) (hz : ∀ l : Fin 768, z (ix2 r l) = Z l.val)
include hn hz

/-- Head 0. -/
theorem head0 (ho : ∀ d : Fin 128, a (ix2 r d) + b (ix2 r d) = O (128 * 0 + d.val)) :
    k0_pay5 (F := Ideal) z (k0_pay4 a b) n (ix2 r l) = gatedRow O N Z (128 * 0 + l.val) := by
  refine Eq.trans ?_ (gatedRow_of 0 O N Z l _ _ _ ho (hn l) (hz ⟨128 * 0 + l.val, by omega⟩))
  pointwise [k0_pay5, k0_pay4]
  simp only [neg_log2e, exp2_of, silu_exp2]

/-- Head 1. -/
theorem head1 (ho : ∀ d : Fin 128, a (ix2 r d) + b (ix2 r d) = O (128 * 1 + d.val)) :
    k0_pay6 (F := Ideal) z a b n (ix2 r l) = gatedRow O N Z (128 * 1 + l.val) := by
  refine Eq.trans ?_ (gatedRow_of 1 O N Z l _ _ _ ho (hn l) (hz ⟨128 * 1 + l.val, by omega⟩))
  pointwise [k0_pay6]
  simp only [neg_log2e, exp2_of, silu_exp2]

/-- Head 2. -/
theorem head2 (ho : ∀ d : Fin 128, a (ix2 r d) + b (ix2 r d) = O (128 * 2 + d.val)) :
    k0_pay8 (F := Ideal) z (k0_pay7 a) b n (ix2 r l) = gatedRow O N Z (128 * 2 + l.val) := by
  refine Eq.trans ?_ (gatedRow_of 2 O N Z l _ _ _ ho (hn l) (hz ⟨128 * 2 + l.val, by omega⟩))
  pointwise [k0_pay8, k0_pay7]
  simp only [neg_log2e, exp2_of, silu_exp2]

/-- Head 3. -/
theorem head3 (ho : ∀ d : Fin 128, a (ix2 r d) + b (ix2 r d) = O (128 * 3 + d.val)) :
    k0_pay11 (F := Ideal) z (k0_pay9 a b) (k0_pay10 n) (ix2 r l) = gatedRow O N Z (128 * 3 + l.val) := by
  refine Eq.trans ?_ (gatedRow_of 3 O N Z l _ _ _ ho (hn l) (hz ⟨128 * 3 + l.val, by omega⟩))
  pointwise [k0_pay11, k0_pay9, k0_pay10]
  simp only [neg_log2e, exp2_of, silu_exp2]

/-- Head 4. -/
theorem head4 (ho : ∀ d : Fin 128, a (ix2 r d) + b (ix2 r d) = O (128 * 4 + d.val)) :
    k0_pay12 (F := Ideal) z a b n (ix2 r l) = gatedRow O N Z (128 * 4 + l.val) := by
  refine Eq.trans ?_ (gatedRow_of 4 O N Z l _ _ _ ho (hn l) (hz ⟨128 * 4 + l.val, by omega⟩))
  pointwise [k0_pay12]
  simp only [neg_log2e, exp2_of, silu_exp2]

/-- Head 5. -/
theorem head5 (ho : ∀ d : Fin 128, a (ix2 r d) + b (ix2 r d) = O (128 * 5 + d.val)) :
    k0_pay15 (F := Ideal) z (k0_pay13 a) (k0_pay14 b) n (ix2 r l) = gatedRow O N Z (128 * 5 + l.val) := by
  refine Eq.trans ?_ (gatedRow_of 5 O N Z l _ _ _ ho (hn l) (hz ⟨128 * 5 + l.val, by omega⟩))
  pointwise [k0_pay15, k0_pay13, k0_pay14]
  simp only [neg_log2e, exp2_of, silu_exp2]

end

/-! ### All of it -/

/-- The last step at a row and a lane: the heads side by side, through the output projection. -/
theorem last_apply (x : FVec Ideal S1024x1024 .f32) (p0 p1 p2 p3 p4 p5 : FVec Ideal S1024x128 .bf16)
    (v : FVec Ideal S256x256 .bf16) (m0 m1 m2 : IVec S1024x256 1) (s2 s3 : FVec Ideal S1024x256 .f32)
    (e0 e1 : FVec Ideal S1024x256 .bf16) (t2 : FVec Ideal S1024x1 .f32) (w : FVec Ideal S1024x1024 .bf16)
    (g : FVec Ideal S1x1024 .f32) (r l : Fin 1024) :
    k0_pay28 (F := Ideal) x p0 p1 p2 p3 p4 p5 v m0 m1 m2 s2 s3 e0 e1 t2 w g (ix2 r l)
      = x (ix2 r l) + rmsRow (fun n => ∑ f : Fin 1024, joined (fun l => p0 (ix2 r l)) (fun l => p1 (ix2 r l))
          (fun l => p2 (ix2 r l)) (fun l => p3 (ix2 r l)) (fun l => p4 (ix2 r l)) (fun l => p5 (ix2 r l))
          (fun l => Scalar.select (m2 (ix2 r l))
            (∑ j : Fin 256, Ideal.div (Ideal.exp (s2 (ix2 r j) - t2 (ix2 r 0))) (∑ i : Fin 256, Ideal.exp (s2 (ix2 r i) - t2 (ix2 r 0)))
              * v (ix2 j l))
            (Scalar.select (m1 (ix2 r l)) (∑ j : Fin 256, e1 (ix2 r j) * v (ix2 j l))
              (Scalar.select (m0 (ix2 r l)) (∑ j : Fin 256, e0 (ix2 r j) * v (ix2 j l))
                (∑ j : Fin 256, Ideal.div (keyWeight (fun j => s3 (ix2 r j)) j) (rowDen fun j => s3 (ix2 r j)) * v (ix2 j l))))) f
          * w (ix2 f n)) (fun k => g (ix2 0 k)) l := by
  pointwise [k0_pay28]
  simp only [minus_inf, joined, rmsRow, keyWeight, rowDen, topLogit]

end Cert.Layer.DnOutBlock

end
-- ==== Proof.Layer.DnOutStore.lean ====
/-
  What one grid point of the delta-rule layer's output call leaves in its output: one store of the whole block, every entry
  of which is the layer's output at that row and lane.
-/
module

public import proofs.«01_k».proof.Proof.Gen.DnOutIdeal.Frame
public import proofs.«01_k».proof.Proof.Layer.DnOutBlock
public import Idealize.ShloMosaic.Lib.WholeRead
public import Idealize.ShloMosaic.Lib.Writes
public import Idealize.ShloMosaic.Lib.Pipeline.ReadBack
public import Idealize.ShloMosaic.Lib.Pipeline.ValueKit

@[expose] public section

set_option maxRecDepth 65536

noncomputable section

open Idealize.ShloMosaic Idealize.ShloMosaic.TcCoe Idealize.SL.Sem

namespace Cert.Layer.DnOutStore

open Cert.DnOutIdeal Cert.DnOutIdeal.Gen Cert.Layer Cert.Layer.DnOutBlock

/-- A load of a whole matrix is the matrix. -/
theorem load_matrix {n d : ℕ} {e : EltTy} {κ : Kind} {sp : Space} (a : Memref sig κ sp (⟨2, ![n, d]⟩ : Shape) e) (h : a.IsWhole)
    (X : (⟨2, ![n, d]⟩ : Shape).Idx → Elt Ideal e) (inb : ∀ a, (![0, 0] : Fin 2 → ℕ) a + (![n, d] : Fin 2 → ℕ) a ≤ (⟨2, ![n, d]⟩ : Shape).size a) :
    View.readAt (Elt Ideal) a.view (Rect.unit (s := (⟨2, ![n, d]⟩ : Shape)) ![0, 0] ![n, d] inb).toLoadRect (h.unread X) = X := by
  funext y
  refine (Memref.IsWhole.readAt_unread (Val := Elt Ideal) h X _ _).trans (congrArg X (funext fun j => Fin.ext ?_))
  fin_cases j
  · show 0 + 1 * (y 0).val = (y 0).val
    omega
  · show 0 + 1 * (y 1).val = (y 1).val
    omega

/-- A load of a whole stack of matrices is the stack. -/
theorem load_stack {n d f : ℕ} {e : EltTy} {κ : Kind} {sp : Space} (a : Memref sig κ sp (⟨3, ![n, d, f]⟩ : Shape) e) (h : a.IsWhole)
    (X : (⟨3, ![n, d, f]⟩ : Shape).Idx → Elt Ideal e)
    (inb : ∀ a, (![0, 0, 0] : Fin 3 → ℕ) a + (![n, d, f] : Fin 3 → ℕ) a ≤ (⟨3, ![n, d, f]⟩ : Shape).size a) :
    View.readAt (Elt Ideal) a.view (Rect.unit (s := (⟨3, ![n, d, f]⟩ : Shape)) ![0, 0, 0] ![n, d, f] inb).toLoadRect (h.unread X) = X := by
  funext y
  refine (Memref.IsWhole.readAt_unread (Val := Elt Ideal) h X _ _).trans (congrArg X (funext fun j => Fin.ext ?_))
  fin_cases j
  · show 0 + 1 * (y 0).val = (y 0).val
    omega
  · show 0 + 1 * (y 1).val = (y 1).val
    omega
  · show 0 + 1 * (y 2).val = (y 2).val
    omega

/-- The 128 lanes from `o` on. -/
def lanes (o : ℕ) (X : FVec Ideal S1024x768 .bf16) : FVec Ideal S1024x128 .bf16 := fun y => at2 X (y 0).val (o + (y 1).val)

/-- A load of 128 lanes. -/
theorem load_lanes (o : ℕ) {κ : Kind} {sp : Space} (a : Memref sig κ sp S1024x768 .bf16) (h : a.IsWhole)
    (X : FVec Ideal S1024x768 .bf16) (inb : ∀ a, (![0, o] : Fin 2 → ℕ) a + (![1024, 128] : Fin 2 → ℕ) a ≤ S1024x768.size a) :
    View.readAt (Elt Ideal) a.view (Rect.unit (s := S1024x768) ![0, o] ![1024, 128] inb).toLoadRect (h.unread X) = lanes o X := by
  funext y
  have ho : o + 128 ≤ 768 := inb 1
  have h0 : (y 0).val < 1024 := (y 0).isLt
  have h1 : (y 1).val < 128 := (y 1).isLt
  refine (Memref.IsWhole.readAt_unread (Val := Elt Ideal) h X _ _).trans (Eq.trans (congrArg X (funext fun j => Fin.ext ?_))
    (at2_eq X ⟨(y 0).val, h0⟩ ⟨o + (y 1).val, by omega⟩))
  fin_cases j
  · show 0 + 1 * (y 0).val = (y 0).val
    omega
  · show o + 1 * (y 1).val = o + (y 1).val
    omega

section
variable (x0 x1 : FVec Ideal S1024x768 .bf16) (x2 x3 : FVec Ideal S1x256x256 .bf16) (x4 : FVec Ideal S1024x1024 .f32)
variable (x5 : FVec Ideal S1x1024 .f32) (x6 : FVec Ideal S1024x768 .bf16) (x7 : FVec Ideal S1024x256 .bf16)
variable (x8 : FVec Ideal S1x128 .f32) (x9 : FVec Ideal S1024x1024 .bf16) (x10 : FVec Ideal S1x1024 .f32)

/-- The block the point stores. -/
def stored : FVec Ideal S1024x1024 .f32 :=
  k0_pay28 x4 (k0_pay5 (k0_pay2 x4 x5 x6) (k0_pay4 (lanes 0 x0) (lanes 0 x1)) x8) (k0_pay6 (k0_pay2 x4 x5 x6) (lanes 128 x0) (lanes 128 x1) x8)
    (k0_pay8 (k0_pay2 x4 x5 x6) (k0_pay7 (lanes 256 x0)) (lanes 256 x1) x8)
    (k0_pay11 (k0_pay2 x4 x5 x6) (k0_pay9 (lanes 384 x0) (lanes 384 x1)) (k0_pay10 x8))
    (k0_pay12 (k0_pay2 x4 x5 x6) (lanes 512 x0) (lanes 512 x1) x8)
    (k0_pay15 (k0_pay2 x4 x5 x6) (k0_pay13 (lanes 640 x0)) (k0_pay14 (lanes 640 x1)) x8)
    (k0_pay17 x3) k0_pay18 k0_pay19 (k0_pay21 laneIota k0_pay20 192#32)
    (k0_pay23 (k0_pay3 x4 x5 x7) (k0_pay16 x2) laneIota k0_pay20 192#32) (k0_pay24 (k0_pay3 x4 x5 x7) (k0_pay16 x2) laneIota)
    (k0_pay25 (k0_pay3 x4 x5 x7) (k0_pay16 x2) k0_pay18) (k0_pay26 (k0_pay3 x4 x5 x7) (k0_pay16 x2) k0_pay19)
    (k0_pay27 (k0_pay3 x4 x5 x7) (k0_pay16 x2) laneIota k0_pay20 192#32) x9 x10

/-- The gates before `silu`. -/
theorem gates_apply (r : Fin 1024) (l : Fin 768) :
    k0_pay2 (F := Ideal) x4 x5 x6 (ix2 r l) = projAt x4 (fun k => x5 (ix2 0 k)) x6 r.val l.val := by
  refine Eq.trans ?_ (projAt_eq x4 _ x6 r l)
  pointwise [k0_pay2, k0_pay1]
  simp only [projRow, rmsRow]

/-- The memory heads' queries. -/
theorem queries_apply (r : Fin 1024) (l : Fin 256) :
    k0_pay3 (F := Ideal) x4 x5 x7 (ix2 r l) = projAt x4 (fun k => x5 (ix2 0 k)) x7 r.val l.val := by
  refine Eq.trans ?_ (projAt_eq x4 _ x7 r l)
  pointwise [k0_pay3, k0_pay1]
  simp only [projRow, rmsRow]

/-- The memory's keys. -/
theorem keys_apply (j l : Fin 256) : k0_pay16 (F := Ideal) x2 (ix2 j l) = at3 x2 0 j.val l.val := by
  refine Eq.trans ?_ (at3_eq x2 0 j l)
  pointwise [k0_pay16]

/-- The memory's values. -/
theorem values_apply (j l : Fin 256) : k0_pay17 (F := Ideal) x3 (ix2 j l) = at3 x3 0 j.val l.val := by
  refine Eq.trans ?_ (at3_eq x3 0 j l)
  pointwise [k0_pay17]

/-- The stored block at a row and a lane. -/
theorem stored_apply (r l : Fin 1024) : stored x0 x1 x2 x3 x4 x5 x6 x7 x8 x9 x10 (ix2 r l)
    = outRow (fun l => at2 x4 r.val l)
        (besideRow (gatedRow (fun l => at2 x0 r.val l + at2 x1 r.val l) (fun l => at2 x8 0 l)
            (fun l => projAt x4 (fun k => x5 (ix2 0 k)) x6 r.val l))
          (memRow (fun l => projAt x4 (fun k => x5 (ix2 0 k)) x7 r.val l) (fun j l => at3 x2 0 j l) (fun j l => at3 x3 0 j l)))
        (fun f n => at2 x9 f n) (fun l => at2 x10 0 l) l := by
  have hz : ∀ l : Fin 768, k0_pay2 (F := Ideal) x4 x5 x6 (ix2 r l) = (fun l => projAt x4 (fun k => x5 (ix2 0 k)) x6 r.val l) l.val :=
    fun l => gates_apply x4 x5 x6 r l
  have hn : ∀ l : Fin 128, x8 (ix2 0 l) = (fun l => at2 x8 0 l) l.val := fun l => at2_eq x8 0 l
  unfold stored
  refine (last_apply x4 _ _ _ _ _ _ _ _ _ _ _ _ _ _ _ x9 x10 r l).trans ?_
  unfold outRow
  rw [at2_eq x4 r l, show (fun k : Fin 1024 => x10 (ix2 0 k)) = fun k => at2 x10 0 k.val from funext fun k => at2_eq x10 0 k]
  refine congrArg (fun y => at2 x4 r.val l.val + rmsRow y (fun k => at2 x10 0 k.val) l) (funext fun n => Finset.sum_congr rfl fun f _ => ?_)
  refine congrArg₂ (· * ·) (joined_eq _ _ _ _ _ _ _ _ _ (fun l => head0 _ _ _ x8 r l _ _ _ hn hz fun _ => rfl)
    (fun l => head1 _ _ _ x8 r l _ _ _ hn hz fun _ => rfl) (fun l => head2 _ _ _ x8 r l _ _ _ hn hz fun _ => rfl)
    (fun l => head3 _ _ _ x8 r l _ _ _ hn hz fun _ => rfl) (fun l => head4 _ _ _ x8 r l _ _ _ hn hz fun _ => rfl)
    (fun l => head5 _ _ _ x8 r l _ _ _ hn hz fun _ => rfl) (fun l => ?_) f) (at2_eq x9 f n)
  rw [mask0, mask1, mask2]
  simp only [probs0, probs1, logits2, top2, logits3, values_apply]
  refine (memRow_choice _ _ (fun j l => at3 x3 0 j l) l _ _ _ _ rfl rfl rfl rfl).trans ?_
  exact memRow_congr (fun l hl => (at2_eq (k0_pay3 (F := Ideal) x4 x5 x7) r ⟨l, hl⟩).symm.trans (queries_apply x4 x5 x7 r ⟨l, hl⟩))
    (fun j l hj hl => (at2_eq (k0_pay16 (F := Ideal) x2) ⟨j, hj⟩ ⟨l, hl⟩).symm.trans (keys_apply x2 ⟨j, hj⟩ ⟨l, hl⟩)) (fun _ _ _ _ => rfl) l.val l.isLt

end

section
variable (c : Dev nD) (i : grid0.Coords)
variable (arg1 : Memref sig .tc .vmem S1024x768 .bf16) (harg1 : arg1.IsWhole)
variable (arg2 : Memref sig .tc .vmem S1024x768 .bf16) (harg2 : arg2.IsWhole)
variable (arg3 : Memref sig .tc .vmem S1x256x256 .bf16) (harg3 : arg3.IsWhole)
variable (arg4 : Memref sig .tc .vmem S1x256x256 .bf16) (harg4 : arg4.IsWhole)
variable (arg5 : Memref sig .tc .vmem S1024x1024 .f32) (harg5 : arg5.IsWhole)
variable (arg6 : Memref sig .tc .vmem S1x1024 .f32) (harg6 : arg6.IsWhole)
variable (arg7 : Memref sig .tc .vmem S1024x768 .bf16) (harg7 : arg7.IsWhole)
variable (arg8 : Memref sig .tc .vmem S1024x256 .bf16) (harg8 : arg8.IsWhole)
variable (arg9 : Memref sig .tc .vmem S1x128 .f32) (harg9 : arg9.IsWhole)
variable (arg10 : Memref sig .tc .vmem S1024x1024 .bf16) (harg10 : arg10.IsWhole)
variable (arg11 : Memref sig .tc .vmem S1x1024 .f32) (harg11 : arg11.IsWhole)
variable (arg12 : Memref sig .tc .vmem S1024x1024 .f32) (harg12 : arg12.IsWhole)
variable (x0 x1 : FVec Ideal S1024x768 .bf16) (x2 x3 : FVec Ideal S1x256x256 .bf16) (x4 : FVec Ideal S1024x1024 .f32)
variable (x5 : FVec Ideal S1x1024 .f32) (x6 : FVec Ideal S1024x768 .bf16) (x7 : FVec Ideal S1024x256 .bf16)
variable (x8 : FVec Ideal S1x128 .f32) (x9 : FVec Ideal S1024x1024 .bf16) (x10 : FVec Ideal S1x1024 .f32)

/-- The output is one store. -/
theorem out11 (y : S1024x1024.Idx) :
    out0_A_11 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 y = stored x0 x1 x2 x3 x4 x5 x6 x7 x8 x9 x10 y := by
  have l1_0 := load_lanes 0 arg1 harg1 x0 inb_S1024x768_S1024x128_0_0
  have l1_128 := load_lanes 128 arg1 harg1 x0 inb_S1024x768_S1024x128_0_128
  have l1_256 := load_lanes 256 arg1 harg1 x0 inb_S1024x768_S1024x128_0_256
  have l1_384 := load_lanes 384 arg1 harg1 x0 inb_S1024x768_S1024x128_0_384
  have l1_512 := load_lanes 512 arg1 harg1 x0 inb_S1024x768_S1024x128_0_512
  have l1_640 := load_lanes 640 arg1 harg1 x0 inb_S1024x768_S1024x128_0_640
  have l2_0 := load_lanes 0 arg2 harg2 x1 inb_S1024x768_S1024x128_0_0
  have l2_128 := load_lanes 128 arg2 harg2 x1 inb_S1024x768_S1024x128_0_128
  have l2_256 := load_lanes 256 arg2 harg2 x1 inb_S1024x768_S1024x128_0_256
  have l2_384 := load_lanes 384 arg2 harg2 x1 inb_S1024x768_S1024x128_0_384
  have l2_512 := load_lanes 512 arg2 harg2 x1 inb_S1024x768_S1024x128_0_512
  have l2_640 := load_lanes 640 arg2 harg2 x1 inb_S1024x768_S1024x128_0_640
  have e3 := load_stack arg3 harg3 x2 inb_S1x256x256_S1x256x256_0_0_0
  have e4 := load_stack arg4 harg4 x3 inb_S1x256x256_S1x256x256_0_0_0
  have e5 := load_matrix arg5 harg5 x4 inb_S1024x1024_S1024x1024_0_0
  have e6 := load_matrix arg6 harg6 x5 inb_S1x1024_S1x1024_0_0
  have e7 := load_matrix arg7 harg7 x6 inb_S1024x768_S1024x768_0_0
  have e8 := load_matrix arg8 harg8 x7 inb_S1024x256_S1024x256_0_0
  have e9 := load_matrix arg9 harg9 x8 inb_S1x128_S1x128_0_0
  have e10 := load_matrix arg10 harg10 x9 inb_S1024x1024_S1024x1024_0_0
  have e11 := load_matrix arg11 harg11 x10 inb_S1x1024_S1x1024_0_0
  unfold out0_A_11
  refine View.read_writes_apply_of_pieces VO0_11 VO0_11.junk (stored x0 x1 x2 x3 x4 x5 x6 x7 x8 x9 x10) _
    (fun q hq => View.PiecesOf.mem (Val := Elt Ideal) ?_ q hq) y
    (cover0_A_11 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 y)
  unfold kernelRun0_A
  dsimp only
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23]
  rw [l1_0, l1_128, l1_256, l1_384, l1_512, l1_640, l2_0, l2_128, l2_256, l2_384, l2_512, l2_640, e3, e4, e5, e6, e7, e8, e9, e10, e11]
  refine ⟨fun z => congrArg (stored x0 x1 x2 x3 x4 x5 x6 x7 x8 x9 x10) (funext fun j => Fin.ext ?_), trivial⟩
  fin_cases j
  · show (z 0).val = 0 + 1 * (z 0).val
    omega
  · show (z 1).val = 0 + 1 * (z 1).val
    omega

end

end Cert.Layer.DnOutStore

end
-- ==== Proof.Layer.DnOutValue.lean ====
/-
  The delta-rule layer's output after a run of the kernel: every entry is the layer's output at that row and lane.
-/
module

public import proofs.«01_k».proof.Proof.Gen.DnOutIdeal.Value
public import proofs.«01_k».proof.Proof.Layer.DnOutStore
public import Idealize.ShloMosaic.Lib.Pipeline.ValueKit
public import Idealize.ShloMosaic.Lib.StableHlo.ReadAt

@[expose] public section

set_option maxRecDepth 65536

noncomputable section

open Idealize.ShloMosaic Idealize.ShloMosaic.TcCoe Idealize.SL.Sem
open Idealize.ShloMosaic.Pipeline (Dat)

namespace Cert.Layer.DnOutValue

open Cert.DnOutIdeal Cert.DnOutIdeal.Gen Cert.Layer Cert.Layer.DnOutStore

/-- Where each window's block sits: the point's rows of the heads' outputs, of the input and of the output, the point's
    sequence of the memory, the gates' columns of the weights, everything else whole. -/
theorem idx : ∀ t : Fin cfg0.N, win0_0.index t = ![t.val, 0] ∧ win0_1.index t = ![t.val, 0] ∧ win0_2.index t = ![t.val / 4, 0, 0]
    ∧ win0_3.index t = ![t.val / 4, 0, 0] ∧ win0_4.index t = ![t.val, 0] ∧ win0_5.index t = ![0, 0]
    ∧ win0_6.index t = ![0, 3] ∧ win0_7.index t = ![0, 0] ∧ win0_8.index t = ![0, 0] ∧ win0_9.index t = ![0, 0]
    ∧ win0_10.index t = ![0, 0] ∧ win0_11.index t = ![t.val, 0] :=
  (by decide +kernel : ∀ t : Fin grid0.N, _)

variable (m : (ℓ : Loc nD τ sig) → Buf (Elt Ideal) ℓ)

/-- The first gain, as the host lays it out. -/
theorem gain_pre (c : Dev nD) (k : Fin 1024) : V m c main_v3 (ix2 0 k) = m ((c : Thread nD τ).loc main_arg5) (ix1 k) := by
  unfold V
  after_reads_at

/-- The heads' gain. -/
theorem gain_head (c : Dev nD) (k : Fin 128) : V m c main_v4 (ix2 0 k) = m ((c : Thread nD τ).loc main_arg7) (ix1 k) := by
  unfold V
  after_reads_at

/-- The last gain. -/
theorem gain_last (c : Dev nD) (k : Fin 1024) : V m c main_v5 (ix2 0 k) = m ((c : Thread nD τ).loc main_arg9) (ix1 k) := by
  unfold V
  after_reads_at

/-- The input weights, rounded. -/
theorem weights_in (c : Dev nD) (k : Fin 1024) (l : Fin 3352) :
    V m c main_v0 (ix2 k l) = m ((c : Thread nD τ).loc main_arg6) (ix2 k l) := by
  unfold V
  after_reads_at

/-- The memory heads' columns of the input weights. -/
theorem weights_memory (c : Dev nD) (k : Fin 1024) (l : Fin 256) :
    V m c main_v1 (ix2 k l) = m ((c : Thread nD τ).loc main_arg6) (ix2 k ⟨3096 + l.val, by omega⟩) := by
  unfold V
  after_reads_at

/-- The output weights, rounded. -/
theorem weights_out (c : Dev nD) (k l : Fin 1024) :
    V m c main_v2 (ix2 k l) = m ((c : Thread nD τ).loc main_arg8) (ix2 k l) := by
  unfold V
  after_reads_at

/-- A point's block of the forward heads' outputs. -/
theorem block_forward (c : Dev nD) (t : Fin cfg0.N) (r : Fin 1024) (k : ℕ) (hk : k < 768) :
    at2 (n0 := 1024) (n1 := 768) (iblk m c 0 t) r.val k
      = at2 (n0 := 32768) (n1 := 768) (m ((c : Thread nD τ).loc main_arg0)) (t.val * 1024 + r.val) k := by
  have ht : t.val < 32 := lt_of_lt_of_eq t.isLt (by decide +kernel)
  refine (at2_eq (n0 := 1024) (n1 := 768) (iblk m c 0 t) r ⟨k, hk⟩).symm.trans ?_
  refine Eq.trans ?_ (at2_eq (n0 := 32768) (n1 := 768) (m ((c : Thread nD τ).loc main_arg0)) ⟨t.val * 1024 + r.val, by omega⟩ ⟨k, hk⟩)
  blk_point [iblk, V, idx t]

/-- A point's block of the backward heads' outputs. -/
theorem block_backward (c : Dev nD) (t : Fin cfg0.N) (r : Fin 1024) (k : ℕ) (hk : k < 768) :
    at2 (n0 := 1024) (n1 := 768) (iblk m c 1 t) r.val k
      = at2 (n0 := 32768) (n1 := 768) (m ((c : Thread nD τ).loc main_arg1)) (t.val * 1024 + r.val) k := by
  have ht : t.val < 32 := lt_of_lt_of_eq t.isLt (by decide +kernel)
  refine (at2_eq (n0 := 1024) (n1 := 768) (iblk m c 1 t) r ⟨k, hk⟩).symm.trans ?_
  refine Eq.trans ?_ (at2_eq (n0 := 32768) (n1 := 768) (m ((c : Thread nD τ).loc main_arg1)) ⟨t.val * 1024 + r.val, by omega⟩ ⟨k, hk⟩)
  blk_point [iblk, V, idx t]

/-- A point's block of the input. -/
theorem block_x (c : Dev nD) (t : Fin cfg0.N) (r : Fin 1024) (k : ℕ) (hk : k < 1024) :
    at2 (n0 := 1024) (n1 := 1024) (iblk m c 4 t) r.val k
      = at2 (n0 := 32768) (n1 := 1024) (m ((c : Thread nD τ).loc main_arg4)) (t.val * 1024 + r.val) k := by
  have ht : t.val < 32 := lt_of_lt_of_eq t.isLt (by decide +kernel)
  refine (at2_eq (n0 := 1024) (n1 := 1024) (iblk m c 4 t) r ⟨k, hk⟩).symm.trans ?_
  refine Eq.trans ?_ (at2_eq (n0 := 32768) (n1 := 1024) (m ((c : Thread nD τ).loc main_arg4)) ⟨t.val * 1024 + r.val, by omega⟩ ⟨k, hk⟩)
  blk_point [iblk, V, idx t]

/-- A point's block of the memory's keys: its sequence's. -/
theorem block_keys (c : Dev nD) (t : Fin cfg0.N) (j l : ℕ) (hj : j < 256) (hl : l < 256) :
    at3 (n0 := 1) (n1 := 256) (n2 := 256) (iblk m c 2 t) 0 j l
      = at3 (n0 := 8) (n1 := 256) (n2 := 256) (m ((c : Thread nD τ).loc main_arg2)) (t.val / 4) j l := by
  have ht : t.val < 32 := lt_of_lt_of_eq t.isLt (by decide +kernel)
  refine (at3_eq (n0 := 1) (n1 := 256) (n2 := 256) (iblk m c 2 t) 0 ⟨j, hj⟩ ⟨l, hl⟩).symm.trans ?_
  refine Eq.trans ?_ (at3_eq (n0 := 8) (n1 := 256) (n2 := 256) (m ((c : Thread nD τ).loc main_arg2)) ⟨t.val / 4, by omega⟩ ⟨j, hj⟩ ⟨l, hl⟩)
  blk_point [iblk, V, idx t]

/-- A point's block of the memory's values: its sequence's. -/
theorem block_values (c : Dev nD) (t : Fin cfg0.N) (j l : ℕ) (hj : j < 256) (hl : l < 256) :
    at3 (n0 := 1) (n1 := 256) (n2 := 256) (iblk m c 3 t) 0 j l
      = at3 (n0 := 8) (n1 := 256) (n2 := 256) (m ((c : Thread nD τ).loc main_arg3)) (t.val / 4) j l := by
  have ht : t.val < 32 := lt_of_lt_of_eq t.isLt (by decide +kernel)
  refine (at3_eq (n0 := 1) (n1 := 256) (n2 := 256) (iblk m c 3 t) 0 ⟨j, hj⟩ ⟨l, hl⟩).symm.trans ?_
  refine Eq.trans ?_ (at3_eq (n0 := 8) (n1 := 256) (n2 := 256) (m ((c : Thread nD τ).loc main_arg3)) ⟨t.val / 4, by omega⟩ ⟨j, hj⟩ ⟨l, hl⟩)
  blk_point [iblk, V, idx t]

/-- The first gain's block. -/
theorem block_gain_pre (c : Dev nD) (t : Fin cfg0.N) (k : Fin 1024) :
    (iblk m c 5 t : FVec Ideal S1x1024 .f32) (ix2 0 k) = m ((c : Thread nD τ).loc main_arg5) (ix1 k) := by
  refine Eq.trans ?_ (gain_pre m c k)
  blk_point [iblk, idx t]

/-- The heads' gain's block. -/
theorem block_gain_head (c : Dev nD) (t : Fin cfg0.N) (k : ℕ) (hk : k < 128) :
    at2 (n0 := 1) (n1 := 128) (iblk m c 8 t) 0 k = at1 (n0 := 128) (m ((c : Thread nD τ).loc main_arg7)) k := by
  refine (at2_eq (n0 := 1) (n1 := 128) (iblk m c 8 t) 0 ⟨k, hk⟩).symm.trans ?_
  refine Eq.trans ?_ ((gain_head m c ⟨k, hk⟩).trans (at1_eq (n0 := 128) (m ((c : Thread nD τ).loc main_arg7)) ⟨k, hk⟩))
  blk_point [iblk, idx t]

/-- The last gain's block. -/
theorem block_gain_last (c : Dev nD) (t : Fin cfg0.N) (k : ℕ) (hk : k < 1024) :
    at2 (n0 := 1) (n1 := 1024) (iblk m c 10 t) 0 k = at1 (n0 := 1024) (m ((c : Thread nD τ).loc main_arg9)) k := by
  refine (at2_eq (n0 := 1) (n1 := 1024) (iblk m c 10 t) 0 ⟨k, hk⟩).symm.trans ?_
  refine Eq.trans ?_ ((gain_last m c ⟨k, hk⟩).trans (at1_eq (n0 := 1024) (m ((c : Thread nD τ).loc main_arg9)) ⟨k, hk⟩))
  blk_point [iblk, idx t]

/-- The output weights' block. -/
theorem block_out (c : Dev nD) (t : Fin cfg0.N) (f n : ℕ) (hf : f < 1024) (hn : n < 1024) :
    at2 (n0 := 1024) (n1 := 1024) (iblk m c 9 t) f n = at2 (n0 := 1024) (n1 := 1024) (m ((c : Thread nD τ).loc main_arg8)) f n := by
  refine (at2_eq (n0 := 1024) (n1 := 1024) (iblk m c 9 t) ⟨f, hf⟩ ⟨n, hn⟩).symm.trans ?_
  refine Eq.trans ?_ ((weights_out m c ⟨f, hf⟩ ⟨n, hn⟩).trans (at2_eq (n0 := 1024) (n1 := 1024) (m ((c : Thread nD τ).loc main_arg8)) ⟨f, hf⟩ ⟨n, hn⟩))
  blk_point [iblk, idx t]

/-- The block of the memory heads' columns. -/
theorem block_memory (c : Dev nD) (t : Fin cfg0.N) (k : Fin 1024) (l : ℕ) (hl : l < 256) :
    at2 (n0 := 1024) (n1 := 256) (iblk m c 7 t) k.val l
      = at2 (n0 := 1024) (n1 := 3352) (m ((c : Thread nD τ).loc main_arg6)) k.val (3096 + l) := by
  refine (at2_eq (n0 := 1024) (n1 := 256) (iblk m c 7 t) k ⟨l, hl⟩).symm.trans ?_
  refine Eq.trans ?_ ((weights_memory m c k ⟨l, hl⟩).trans (at2_eq (n0 := 1024) (n1 := 3352) (m ((c : Thread nD τ).loc main_arg6)) k ⟨3096 + l, by omega⟩))
  blk_point [iblk, idx t]

/-- The block of the gates' columns. -/
theorem block_gates (c : Dev nD) (t : Fin cfg0.N) (k : Fin 1024) (l : ℕ) (hl : l < 768) :
    at2 (n0 := 1024) (n1 := 768) (X0_6 m c t) k.val l
      = at2 (n0 := 1024) (n1 := 3352) (m ((c : Thread nD τ).loc main_arg6)) k.val (2304 + l) := by
  refine (at2_eq (n0 := 1024) (n1 := 768) (X0_6 m c t) k ⟨l, hl⟩).symm.trans ?_
  refine Eq.trans ?_ ((weights_in m c k ⟨2304 + l, by omega⟩).trans (at2_eq (n0 := 1024) (n1 := 3352) (m ((c : Thread nD τ).loc main_arg6)) k ⟨2304 + l, by omega⟩))
  have hm : win0_6.moved (grid0.coords t) (ix2 k (⟨l, hl⟩ : Fin 768)) = true :=
    moved0_6 t _
  unfold X0_6 Pipeline.Window.fill
  rw [dif_pos hm]
  blk_point [iblk, idx t]

/-- The layer's output, from the arguments. -/
def outArr (a b : FVec Ideal S32768x768 .bf16) (k v : FVec Ideal S8x256x256 .bf16) (x : FVec Ideal S32768x1024 .f32)
    (gp : FVec Ideal S1024 .f32) (wi : FVec Ideal S1024x3352 .f32) (n : FVec Ideal S128 .f32) (wo : FVec Ideal S1024x1024 .f32)
    (g : FVec Ideal S1024 .f32) : FVec Ideal S32768x1024 .f32 := fun i =>
  dnOutAt 4096 a b (fun b j l => at3 k b j l) (fun b j l => at3 v b j l) x
    (fun r l => projAt x (fun k => gp (ix1 k)) wi r (2304 + l)) (fun r l => projAt x (fun k => gp (ix1 k)) wi r (3096 + l))
    (at1 n) wo (at1 g) (i 0).val (i 1)

/-- The array after the run. -/
theorem final (c : Dev nD) : (dats m 0 c).arrAt 11 cfg0.N
    = outArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) := by
  refine (dats m 0 c).arrAt_eq_of_covers 11 _ (by decide +kernel) fun t _ y => ?_
  blk_simp
  rw [after0_11]
  unfold outsAt0
  idx_vars y
  have ht : t.val < 32 := lt_of_lt_of_eq t.isLt (by decide +kernel)
  have hy0 := y0.isLt
  refine (out11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t)
    (iblk m c 0 t) (iblk m c 1 t) (iblk m c 2 t) (iblk m c 3 t) (iblk m c 4 t) (iblk m c 5 t) (X0_6 m c t) (iblk m c 7 t) (iblk m c 8 t) (iblk m c 9 t) (iblk m c 10 t) _).trans ?_
  have e0 : ((((cfg0.win 11).blk t).view.emb (ix2 y0 y1)) 0).val = t.val * 1024 + y0.val := by blk_simp [idx t]
  have e1 : ((((cfg0.win 11).blk t).view.emb (ix2 y0 y1)) 1) = y1 := Fin.ext (by blk_simp [idx t])
  refine (stored_apply _ _ _ _ _ _ _ _ _ _ _ y0 y1).trans ?_
  refine Eq.trans ?_ (Eq.symm (b := dnOutAt 4096 (m ((c : Thread nD τ).loc main_arg0)) (m ((c : Thread nD τ).loc main_arg1))
    (fun b j l => at3 (n0 := 8) (n1 := 256) (n2 := 256) (m ((c : Thread nD τ).loc main_arg2)) b j l)
    (fun b j l => at3 (n0 := 8) (n1 := 256) (n2 := 256) (m ((c : Thread nD τ).loc main_arg3)) b j l) (m ((c : Thread nD τ).loc main_arg4))
    (fun r l => projAt (m ((c : Thread nD τ).loc main_arg4)) (fun k => m ((c : Thread nD τ).loc main_arg5) (ix1 k)) (m ((c : Thread nD τ).loc main_arg6)) r (2304 + l))
    (fun r l => projAt (m ((c : Thread nD τ).loc main_arg4)) (fun k => m ((c : Thread nD τ).loc main_arg5) (ix1 k)) (m ((c : Thread nD τ).loc main_arg6)) r (3096 + l))
    (at1 (n0 := 128) (m ((c : Thread nD τ).loc main_arg7))) (m ((c : Thread nD τ).loc main_arg8)) (at1 (n0 := 1024) (m ((c : Thread nD τ).loc main_arg9)))
    (t.val * 1024 + y0.val) y1) ?_)
  · unfold dnOutAt
    refine outRow_congr (fun l hl => block_x m c t y0 l hl) (fun l hl => besideRow_congr (fun l hl => ?_) (fun l hl => ?_) l hl)
      (fun f n hf hn => block_out m c t f n hf hn) (fun l hl => block_gain_last m c t l hl) y1
    · exact gatedRow_congr (fun l hl => congrArg₂ (· + ·) (block_forward m c t y0 l hl) (block_backward m c t y0 l hl))
        (fun l hl => block_gain_head m c t l hl) (fun l hl => projRow_congr (fun k => block_x m c t y0 k.val k.isLt)
          (fun k => block_gain_pre m c t k) (fun k => block_gates m c t k l hl)) l hl
    · rw [show (t.val * 1024 + y0.val) / 4096 = t.val / 4 by omega]
      exact memRow_congr (fun l hl => projRow_congr (fun k => block_x m c t y0 k.val k.isLt)
          (fun k => block_gain_pre m c t k) (fun k => block_memory m c t k l hl))
        (fun j l hj hl => block_keys m c t j l hj hl) (fun j l hj hl => block_values m c t j l hj hl) l hl
  · show dnOutAt _ _ _ _ _ _ _ _ _ _ _ ((((cfg0.win 11).blk t).view.emb (ix2 y0 y1)) 0).val ((((cfg0.win 11).blk t).view.emb (ix2 y0 y1)) 1) = _
    rw [e0, e1]

end Cert.Layer.DnOutValue

end
-- ==== Proof.Layer.DnOutReference.lean ====
/-
  The reference of the delta-rule layer's output, read at a row and a lane: the gated heads beside the memory heads, through
  the output projection.
-/
module

public import proofs.«01_k».proof.Proof.Gen.DnOutRefIdeal.Run
public import proofs.«01_k».proof.Proof.Layer.OutMath

@[expose] public section

set_option maxRecDepth 16384

noncomputable section

open Idealize.ShloMosaic Idealize.ShloMosaic.TcCoe Idealize.SL.Sem

namespace Cert.Layer.DnOutReference

open Cert.DnOutRefIdeal Cert.DnOutRefIdeal.Gen Cert.DnOutRefIdeal.Value Cert.Layer

/-- The input's rows, normalised, times the weights. -/
def product (x : FVec Ideal S32768x1024 .f32) (g : FVec Ideal S1024 .f32) (w : FVec Ideal S1024x3352 .f32) : FVec Ideal S32768x3352 .f32 :=
  Host.dotGeneral dot_S32768x1024_S1024x3352_S32768x3352_1_0_0_1_n_n none (mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))) w

/-- One product. -/
theorem product_apply (x : FVec Ideal S32768x1024 .f32) (g : FVec Ideal S1024 .f32) (w : FVec Ideal S1024x3352 .f32) (r : Fin 32768) (l : Fin 3352) :
    product x g w (ix2 r l) = projAt x (fun k => g (ix1 k)) w r.val l.val := by
  refine Eq.trans ?_ (projAt_eq x _ w r l)
  pointwise [product]
  simp only [projRow, rmsRow]

/-- The gates before `silu`. -/
def gates (p : FVec Ideal S32768x3352 .f32) : FVec Ideal S32768x768 .f32 :=
  extractStridedSlice S32768x768 ![0, 2304] p slices_S32768x3352_S32768x768_0_2304

/-- The memory heads' queries. -/
def queries (p : FVec Ideal S32768x3352 .f32) : FVec Ideal S32768x256 .f32 :=
  extractStridedSlice S32768x256 ![0, 3096] p slices_S32768x3352_S32768x256_0_3096

/-- The two directions' outputs, added, normalised head by head, scaled and gated. -/
def gated (a b : FVec Ideal S32768x768 .bf16) (n : FVec Ideal S128 .f32) (z : FVec Ideal S32768x768 .f32) : FVec Ideal S32768x768 .f32 :=
  shapeCast S32768x768 (mulf (mulf (mulf (shapeCast S32768x6x128 (addf (extf .f32 a bitsLt_bf16_f32) (extf .f32 b bitsLt_bf16_f32)) shapeCasts_S32768x768_S32768x6x128) (broadcastInDim S32768x6x128 ![0, 1, 2] bcast_S32768x6x1_S32768x6x128_0_1_2 (Host.rsqrt (addf (Host.divf (broadcastInDim S32768x6x1 ![0, 1] bcast_S32768x6_S32768x6x1_0_1 (Host.reduceAdd (mulf (shapeCast S32768x6x128 (addf (extf .f32 a bitsLt_bf16_f32) (extf .f32 b bitsLt_bf16_f32)) shapeCasts_S32768x768_S32768x6x128) (shapeCast S32768x6x128 (addf (extf .f32 a bitsLt_bf16_f32) (extf .f32 b bitsLt_bf16_f32)) shapeCasts_S32768x768_S32768x6x128)) (constant S_ .f32 0x00000000#32) reducesTo_S32768x6x128_S32768x6_d2 h_S_)) (broadcastInDim S32768x6x1 ![] bcast_S_S32768x6x1 (constant S_ .f32 0x43000000#32))) (broadcastInDim S32768x6x1 ![] bcast_S_S32768x6x1 (constant S_ .f32 0x358637BD#32)))))) (broadcastInDim S32768x6x128 ![0, 1, 2] bcast_S1x1x128_S32768x6x128_0_1_2 (broadcastInDim S1x1x128 ![2] bcast_S128_S1x1x128_2 n))) (mulf (shapeCast S32768x6x128 z shapeCasts_S32768x768_S32768x6x128) (Host.divf (broadcastInDim S32768x6x128 ![] bcast_S_S32768x6x128 (constant S_ .f32 0x3F800000#32)) (addf (broadcastInDim S32768x6x128 ![] bcast_S_S32768x6x128 (constant S_ .f32 0x3F800000#32)) (Host.exp (Host.negf (shapeCast S32768x6x128 z shapeCasts_S32768x768_S32768x6x128))))))) shapeCasts_S32768x6x128_S32768x768

/-- The memory heads' logits. -/
def logits (q : FVec Ideal S32768x256 .f32) (k : FVec Ideal S8x256x256 .bf16) : FVec Ideal S8x4x4096x256 .f32 :=
  Host.dotGeneral dot_S8x4096x4x64_S8x256x4x64_S8x4x4096x256_3_3_1_1_02_02 none (mulf (shapeCast S8x4096x4x64 q shapeCasts_S32768x256_S8x4096x4x64) (broadcastInDim S8x4096x4x64 ![] bcast_S_S8x4096x4x64 (constant S_ .f32 0x3E000000#32))) (shapeCast S8x256x4x64 (extf .f32 k bitsLt_bf16_f32) shapeCasts_S8x256x256_S8x256x4x64)

/-- The largest of a head's logits. -/
def largest (s : FVec Ideal S8x4x4096x256 .f32) : FVec Ideal S8x4x4096 .f32 :=
  Host.reduce FloatOps.maximumf s (constant S_ .f32 0xFF800000#32) reducesTo_S8x4x4096x256_S8x4x4096_d3 h_S_

/-- The largest of minus infinity and that. -/
def tops (s : FVec Ideal S8x4x4096x256 .f32) : FVec Ideal S8x4x4096 .f32 :=
  maximumf (broadcastInDim S8x4x4096 ![] bcast_S_S8x4x4096 (constant S_ .f32 0xFF800000#32)) (largest s)

/-- The exponentials of the logits' distances to the largest. -/
def weights (s : FVec Ideal S8x4x4096x256 .f32) : FVec Ideal S8x4x4096x256 .f32 :=
  Host.exp (subf s (broadcastInDim S8x4x4096x256 ![0, 1, 2, 3] bcast_S8x4x4096x1_S8x4x4096x256_0_1_2_3 (broadcastInDim S8x4x4096x1 ![0, 1, 2] bcast_S8x4x4096_S8x4x4096x1_0_1_2 (tops s))))

/-- The weights over their sum. -/
def probs (e : FVec Ideal S8x4x4096x256 .f32) : FVec Ideal S8x4x4096x256 .f32 :=
  Host.divf e (broadcastInDim S8x4x4096x256 ![0, 1, 2, 3] bcast_S8x4x4096x1_S8x4x4096x256_0_1_2_3 (broadcastInDim S8x4x4096x1 ![0, 1, 2] bcast_S8x4x4096_S8x4x4096x1_0_1_2 (Host.reduceAdd e (constant S_ .f32 0x00000000#32) reducesTo_S8x4x4096x256_S8x4x4096_d3 h_S_)))

/-- The memory heads' outputs, from their probabilities. -/
def heads (p : FVec Ideal S8x4x4096x256 .f32) (v : FVec Ideal S8x256x256 .bf16) : FVec Ideal S32768x256 .f32 :=
  shapeCast S32768x256 (transpose S8x4096x4x64 [0, 3, 1, 2] (Host.dotGeneral dot_S8x256x4x64_S8x4x4096x256_S8x4x64x4096_1_3_3_2_02_01 none (shapeCast S8x256x4x64 (extf .f32 v bitsLt_bf16_f32) shapeCasts_S8x256x256_S8x256x4x64) p) transposes_S8x4x64x4096_S8x4096x4x64_0_3_1_2) shapeCasts_S8x4096x4x64_S32768x256

/-- Both kinds of heads, side by side, through the output projection. -/
def projected (a : FVec Ideal S32768x768 .f32) (b : FVec Ideal S32768x256 .f32) (w : FVec Ideal S1024x1024 .f32) : FVec Ideal S32768x1024 .f32 :=
  Host.dotGeneral dot_S32768x1024_S1024x1024_S32768x1024_1_0_0_1_n_n none (concatenate S32768x1024 1 [⟨S32768x768, a⟩, ⟨S32768x256, b⟩] concatenates_S32768x768_S32768x256_S32768x1024_d1) w

/-- The residual plus the normalised output. -/
def last (x y : FVec Ideal S32768x1024 .f32) (g : FVec Ideal S1024 .f32) : FVec Ideal S32768x1024 .f32 :=
  addf x (mulf (mulf y (broadcastInDim S32768x1024 ![0, 1] bcast_S32768x1_S32768x1024_0_1 (Host.rsqrt (addf (Host.divf (broadcastInDim S32768x1 ![0] bcast_S32768_S32768x1_0 (Host.reduceAdd (mulf y y) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g)))

/-- The bits of minus infinity. -/
theorem minus_inf : Ideal.ofBits .f32 0xFF800000#32 = ⊥ := by
  simp [Ideal.ofBits, Ideal.ieee]

/-- The gates are the product's columns from 2304 on. -/
theorem gates_apply (p : FVec Ideal S32768x3352 .f32) (r : Fin 32768) (l : Fin 768) :
    gates p (ix2 r l) = at2 p r.val (2304 + l.val) := by
  refine Eq.trans ?_ (at2_eq p r ⟨2304 + l.val, by omega⟩)
  pointwise [gates]

/-- The memory heads' queries are the product's columns from 3096 on. -/
theorem queries_apply (p : FVec Ideal S32768x3352 .f32) (r : Fin 32768) (l : Fin 256) :
    queries p (ix2 r l) = at2 p r.val (3096 + l.val) := by
  refine Eq.trans ?_ (at2_eq p r ⟨3096 + l.val, by omega⟩)
  pointwise [queries]

/-- One lane of the gated heads. -/
theorem gated_apply (a b : FVec Ideal S32768x768 .bf16) (n : FVec Ideal S128 .f32) (z : FVec Ideal S32768x768 .f32)
    (r : Fin 32768) (l : Fin 768) :
    gated a b n z (ix2 r l) = gatedRow (fun l => at2 a r.val l + at2 b r.val l) (at1 n) (fun l => at2 z r.val l) l.val := by
  have e : ∀ d : Fin 128, a (ix2 r ⟨l.val / 128 * 128 + d.val, by omega⟩) + b (ix2 r ⟨l.val / 128 * 128 + d.val, by omega⟩)
      = at2 a r.val (128 * (l.val / 128) + d.val) + at2 b r.val (128 * (l.val / 128) + d.val) := fun d => by
    rw [at2_eq a, at2_eq b]
    simp only [Nat.mul_comm]
  unfold gatedRow siluRow
  beta_reduce
  rw [← at2_eq a r l, ← at2_eq b r l, ← at2_eq z r l, ← at1_eq n ⟨l.val % 128, by omega⟩]
  simp only [← e]
  pointwise [gated]

/-- One logit of a memory head. -/
theorem logits_apply (q : FVec Ideal S32768x256 .f32) (k : FVec Ideal S8x256x256 .bf16) (b : Fin 8) (h : Fin 4) (s : Fin 4096)
    (j : Fin 256) : logits q k (ix4 b h s j)
      = memLogits (fun l => at2 q (b.val * 4096 + s.val) l) (fun j l => at3 k b.val j l) h.val j := by
  have e : ∀ d : Fin 64, q (ix2 ⟨b.val * 4096 + s.val, by omega⟩ ⟨h.val * 64 + d.val, by omega⟩) * Ideal.ofBits .f32 0x3E000000#32
        * k (ix3 b j ⟨h.val * 64 + d.val, by omega⟩)
      = at2 q (b.val * 4096 + s.val) (64 * h.val + d.val) * Ideal.ofBits .f32 0x3E000000#32 * at3 k b.val j.val (64 * h.val + d.val) := fun d => by
    rw [at2_eq q, at3_eq k]
    simp only [Nat.mul_comm]
  unfold memLogits
  simp only [← e]
  pointwise [logits]

/-- The largest of a head's logits. -/
theorem largest_apply (s : FVec Ideal S8x4x4096x256 .f32) (b : Fin 8) (h : Fin 4) (i : Fin 4096) :
    largest s (ix3 b h i) = topLogit fun j => s (ix4 b h i j) := by
  pointwise [largest]
  rw [minus_inf]
  rfl

/-- Minus infinity changes nothing. -/
theorem top_least (w : FVec Ideal S8x4x4096 .f32) (b : Fin 8) (h : Fin 4) (i : Fin 4096) :
    maximumf (broadcastInDim S8x4x4096 ![] bcast_S_S8x4x4096 (constant S_ .f32 0xFF800000#32)) w (ix3 b h i) = w (ix3 b h i) := by
  refine Eq.trans (b := max (Ideal.ofBits .f32 0xFF800000#32) (w (ix3 b h i))) rfl ?_
  rw [minus_inf]
  exact bot_sup_eq _

/-- The largest of minus infinity and the logits. -/
theorem tops_apply (s : FVec Ideal S8x4x4096x256 .f32) (b : Fin 8) (h : Fin 4) (i : Fin 4096) :
    tops s (ix3 b h i) = topLogit fun j => s (ix4 b h i j) :=
  (top_least (largest s) b h i).trans (largest_apply s b h i)

/-- One weight. -/
theorem weights_apply (s : FVec Ideal S8x4x4096x256 .f32) (b : Fin 8) (h : Fin 4) (i : Fin 4096) (j : Fin 256) :
    weights s (ix4 b h i j) = keyWeight (fun j => s (ix4 b h i j)) j := by
  unfold keyWeight
  rw [← tops_apply]
  pointwise [weights]

/-- One probability. -/
theorem probs_apply (e : FVec Ideal S8x4x4096x256 .f32) (b : Fin 8) (h : Fin 4) (i : Fin 4096) (j : Fin 256) :
    probs e (ix4 b h i j) = Ideal.div (e (ix4 b h i j)) (∑ x : Fin 256, e (ix4 b h i x)) := by
  pointwise [probs]

/-- One lane of the memory heads, from the probabilities. -/
theorem heads_apply (p : FVec Ideal S8x4x4096x256 .f32) (v : FVec Ideal S8x256x256 .bf16) (r : Fin 32768) (l : Fin 256) :
    heads p v (ix2 r l) = ∑ x : Fin 256, v (ix3 ⟨r.val / 4096, by omega⟩ x l)
      * p (ix4 ⟨r.val / 4096, by omega⟩ ⟨l.val / 64, by omega⟩ ⟨r.val % 4096, by omega⟩ x) := by
  pointwise [heads]

/-- One lane of the memory heads. -/
theorem memory_apply (q : FVec Ideal S32768x256 .f32) (k v : FVec Ideal S8x256x256 .bf16) (r : Fin 32768) (l : Fin 256) :
    heads (probs (weights (logits q k))) v (ix2 r l)
      = memRow (fun l => at2 q r.val l) (fun j l => at3 k (r.val / 4096) j l) (fun j l => at3 v (r.val / 4096) j l) l.val := by
  refine (heads_apply _ v r l).trans ?_
  unfold memRow
  refine Finset.sum_congr rfl fun x _ => ?_
  rw [mul_comm, probs_apply]
  simp only [weights_apply, logits_apply]
  rw [at3_eq v, show r.val / 4096 * 4096 + r.val % 4096 = r.val by omega]
  rfl

/-- One entry of the output projection. -/
theorem projected_apply (a : FVec Ideal S32768x768 .f32) (b : FVec Ideal S32768x256 .f32) (w : FVec Ideal S1024x1024 .f32)
    (r : Fin 32768) (l : Fin 1024) : projected a b w (ix2 r l)
      = ∑ x : Fin 768, a (ix2 r x) * w (ix2 ⟨x.val, by omega⟩ l) + ∑ x : Fin 256, b (ix2 r x) * w (ix2 ⟨768 + x.val, by omega⟩ l) := by
  pointwise [projected]

/-- The last step. -/
theorem last_apply (x y : FVec Ideal S32768x1024 .f32) (g : FVec Ideal S1024 .f32) (r : Fin 32768) (l : Fin 1024) :
    last x y g (ix2 r l) = x (ix2 r l) + rmsRow (fun n => y (ix2 r n)) (fun k => g (ix1 k)) l := by
  unfold rmsRow
  pointwise [last]

/-- The reference at a row and a lane. -/
theorem result (of ob : FVec Ideal S32768x768 .bf16) (k v : FVec Ideal S8x256x256 .bf16) (x : FVec Ideal S32768x1024 .f32)
    (gp : FVec Ideal S1024 .f32) (wi : FVec Ideal S1024x3352 .f32) (n : FVec Ideal S128 .f32) (wo : FVec Ideal S1024x1024 .f32)
    (g : FVec Ideal S1024 .f32) (r : Fin 32768) (l : Fin 1024) :
    last x (projected (gated of ob n (gates (product x gp wi)))
        (heads (probs (weights (logits (queries (product x gp wi)) k))) v) wo) g (ix2 r l)
      = dnOutAt 4096 of ob (fun b j l => at3 k b j l) (fun b j l => at3 v b j l) x
          (fun r l => projAt x (fun k => gp (ix1 k)) wi r (2304 + l)) (fun r l => projAt x (fun k => gp (ix1 k)) wi r (3096 + l))
          (at1 n) wo (at1 g) r.val l := by
  have hp : ∀ l, l < 3352 → at2 (product x gp wi) r.val l = projAt x (fun k => gp (ix1 k)) wi r.val l := fun l hl =>
    (at2_eq (product x gp wi) r ⟨l, hl⟩).symm.trans (product_apply x gp wi r ⟨l, hl⟩)
  refine (last_apply _ _ g r l).trans ?_
  unfold dnOutAt outRow
  rw [at2_eq x r l]
  simp only [← at1_eq g]
  refine congrArg (fun y => at2 x r.val l.val + rmsRow y (fun k => g (ix1 k)) l) (funext fun n' => ?_)
  refine (projected_apply _ _ wo r n').trans ?_
  rw [sum_beside _ _ (fun f => at2 wo f n'.val)]
  refine congrArg₂ (· + ·) (Finset.sum_congr rfl fun y _ => ?_) (Finset.sum_congr rfl fun y _ => ?_)
  · rw [gated_apply, at2_eq wo]
    refine congrArg (· * _) (gatedRow_congr (fun _ _ => rfl) (fun _ _ => rfl) (fun l hl => ?_) y.val y.isLt)
    refine (at2_eq (gates (product x gp wi)) r ⟨l, hl⟩).symm.trans ((gates_apply _ r ⟨l, hl⟩).trans (hp _ ?_))
    show 2304 + l < 3352
    omega
  · rw [memory_apply, at2_eq wo]
    refine congrArg (· * _) (memRow_congr (fun l hl => ?_) (fun _ _ _ _ => rfl) (fun _ _ _ _ => rfl) y.val y.isLt)
    refine (at2_eq (queries (product x gp wi)) r ⟨l, hl⟩).symm.trans ((queries_apply _ r ⟨l, hl⟩).trans (hp _ ?_))
    show 3096 + l < 3352
    omega

end Cert.Layer.DnOutReference

end
-- ==== Proof.Layer.AttOutMath.lean ====
/-
  The attention's output on one row, as plain functions of extended reals: the three groups' outputs, each weighted by its
  share of the softmax over the groups' log-sum-exps, beside the memory heads.
-/
module

public import proofs.«01_k».proof.Proof.Layer.OutMath

@[expose] public section

noncomputable section

open Idealize.ShloMosaic

namespace Cert.Layer

/-- A lane of a token, from rows of `d` tokens with 256 lanes each. -/
def tok {n0 n1 : ℕ} (d : ℕ) (X : (⟨2, ![n0, n1]⟩ : Shape).Idx → EReal) (r l : ℕ) : EReal := at2 X (r / d) (256 * (r % d) + l)

/-- The share of a group whose log-sum-exp is `w` among three groups. -/
def share (a b c w : EReal) : EReal :=
  Ideal.div (Ideal.exp (w - max (max a b) c))
    (Ideal.exp (a - max (max a b) c) + Ideal.exp (b - max (max a b) c) + Ideal.exp (c - max (max a b) c))

/-- Three rows of 256 lanes, side by side. -/
def threeRow (p0 p1 p2 : ℕ → EReal) (l : ℕ) : EReal := if l < 256 then p0 l else if l < 512 then p1 (l - 256) else p2 (l - 512)

/-- One lane of the weighted groups. -/
def mixRow (o0 o1 o2 s0 s1 s2 : ℕ → EReal) (l : ℕ) : EReal :=
  threeRow (fun l => o0 l * share (s0 l) (s1 l) (s2 l) (s0 l)) (fun l => o1 l * share (s0 l) (s1 l) (s2 l) (s1 l))
    (fun l => o2 l * share (s0 l) (s1 l) (s2 l) (s2 l)) l

/-- A row of three parts depends only on the parts' lanes. -/
theorem threeRow_congr {a a' b b' c c' : ℕ → EReal} (ha : ∀ l, l < 256 → a l = a' l) (hb : ∀ l, l < 256 → b l = b' l)
    (hc : ∀ l, l < 256 → c l = c' l) (l : ℕ) (hl : l < 768) : threeRow a b c l = threeRow a' b' c' l := by
  unfold threeRow
  split_ifs with h h'
  · exact ha l h
  · exact hb _ (by omega)
  · exact hc _ (by omega)

/-- The weighted groups depend only on the groups' lanes. -/
theorem mixRow_congr {o0 o0' o1 o1' o2 o2' s0 s0' s1 s1' s2 s2' : ℕ → EReal} (h0 : ∀ l, l < 256 → o0 l = o0' l)
    (h1 : ∀ l, l < 256 → o1 l = o1' l) (h2 : ∀ l, l < 256 → o2 l = o2' l) (g0 : ∀ l, l < 256 → s0 l = s0' l)
    (g1 : ∀ l, l < 256 → s1 l = s1' l) (g2 : ∀ l, l < 256 → s2 l = s2' l) (l : ℕ) (hl : l < 768) :
    mixRow o0 o1 o2 s0 s1 s2 l = mixRow o0' o1' o2' s0' s1' s2' l :=
  threeRow_congr (fun l hl => by rw [h0 l hl, g0 l hl, g1 l hl, g2 l hl]) (fun l hl => by rw [h1 l hl, g0 l hl, g1 l hl, g2 l hl])
    (fun l hl => by rw [h2 l hl, g0 l hl, g1 l hl, g2 l hl]) l hl

/-- Four parts of 256 lanes. -/
def four (p0 p1 p2 b : Fin 256 → EReal) (x : Fin 1024) : EReal :=
  if h : x.val < 256 then p0 ⟨x.val, by omega⟩
  else if h : x.val - 256 < 256 then p1 ⟨x.val - 256, by omega⟩
  else if h : x.val - 256 - 256 < 256 then p2 ⟨x.val - 256 - 256, by omega⟩
  else b ⟨x.val - 256 - 256 - 256, by omega⟩

/-- The first three of them are one row of 768 lanes. -/
theorem four_eq (p0 p1 p2 b : Fin 256 → EReal) (A0 A1 A2 B : ℕ → EReal) (h0 : ∀ l, p0 l = A0 l.val) (h1 : ∀ l, p1 l = A1 l.val)
    (h2 : ∀ l, p2 l = A2 l.val) (hb : ∀ l, b l = B l.val) (x : Fin 1024) :
    four p0 p1 p2 b x = besideRow (threeRow A0 A1 A2) B x.val := by
  unfold four besideRow threeRow
  split_ifs
  all_goals first | (exfalso; omega) | (simp only [h0, h1, h2, hb] <;> refine congrArg _ ?_ <;> omega)

/-- The largest of three. -/
theorem topLogit_three (s : Fin 3 → EReal) : topLogit s = max (max (s 0) (s 1)) (s 2) := by
  unfold topLogit
  rw [show (Finset.univ : Finset (Fin 3)) = {0, 1, 2} from rfl]
  simp [max_assoc]

/-- The attention's output at row `r` and lane `l`. -/
def attOutAt {t : ℕ} (S : ℕ) (o0 o1 o2 s0 s1 s2 q : ℕ → ℕ → EReal) (k v : ℕ → ℕ → ℕ → EReal)
    (x : (⟨2, ![t, 1024]⟩ : Shape).Idx → EReal) (w : (⟨2, ![1024, 1024]⟩ : Shape).Idx → EReal) (g : ℕ → EReal) (r : ℕ) (l : Fin 1024) : EReal :=
  outRow (fun l => at2 x r l) (besideRow (mixRow (o0 r) (o1 r) (o2 r) (s0 r) (s1 r) (s2 r)) (memRow (q r) (k (r / S)) (v (r / S))))
    (fun f n => at2 w f n) g l

end Cert.Layer

end
-- ==== Proof.Layer.AttOutStage.lean ====
/-
  The attention output's staging: every group's blocks, whose rows hold several tokens, are stored with a stride into planes
  of the scratch and read back token after token.
-/
module

public import proofs.«01_k».proof.Proof.Gen.AttOutIdeal.Frame
public import proofs.«01_k».proof.Proof.Layer.AttOutMath
public import Idealize.ShloMosaic.Lib.WholeRead
public import Idealize.ShloMosaic.Lib.Writes
public import Idealize.ShloMosaic.Lib.Pipeline.ReadBack
public import Idealize.ShloMosaic.Lib.Pipeline.ValueKit

@[expose] public section

set_option maxRecDepth 65536

noncomputable section

open Idealize.ShloMosaic Idealize.ShloMosaic.TcCoe Idealize.SL.Sem

namespace Cert.Layer.AttOutStage

open Cert.AttOutIdeal Cert.AttOutIdeal.Gen Cert.Layer

/-- The scratch's planes: two lane tiles each of the second group's logs, its outputs, the third group's logs, its outputs. -/
def plane (x1 : FVec Ideal S256x1024 .bf16) (x2 : FVec Ideal S64x4096 .bf16) (x4 : FVec Ideal S256x1024 .f32)
    (x5 : FVec Ideal S64x4096 .f32) (y : S12x1024x128.Idx) : EReal :=
  if (y 0).val < 6 then tok 4 x4 (y 1).val (128 * ((y 0).val - 4) + (y 2).val)
  else if (y 0).val < 8 then tok 4 x1 (y 1).val (128 * ((y 0).val - 6) + (y 2).val)
  else if (y 0).val < 10 then tok 16 x5 (y 1).val (128 * ((y 0).val - 8) + (y 2).val)
  else tok 16 x2 (y 1).val (128 * ((y 0).val - 10) + (y 2).val)

/-- A store of the second group's logs: one token of every row, one lane tile. -/
theorem put4 (a : Memref sig .tc .vmem S256x1024 .f32) (h : a.IsWhole) (X : FVec Ideal S256x1024 .f32) (x1 : FVec Ideal S256x1024 .bf16) (x2 : FVec Ideal S64x4096 .bf16) (x5 : FVec Ideal S64x4096 .f32)
    (p r o : ℕ) (hp : 4 ≤ p ∧ p < 6) (hr : r < 4) (ho : o = 256 * r + 128 * (p - 4))
    (inb : ∀ a, (![0, o] : Fin 2 → ℕ) a + S256x128.size a ≤ S256x1024.size a)
    (inb' : ∀ a, S1x256x128.size a = 0 ∨ (![p, r, 0] : Fin 3 → ℕ) a + (![1, 4, 1] : Fin 3 → ℕ) a * (S1x256x128.size a - 1) < S12x1024x128.size a)
    (z : S1x256x128.Idx) :
    shapeCast S1x256x128 (View.readAt (Elt Ideal) a.view (Rect.unit (s := S256x1024) ![0, o] S256x128.size inb).toLoadRect (h.unread X)) shapeCasts_S256x128_S1x256x128 z
      = plane x1 x2 X x5 ((⟨⟨![p, r, 0], S1x256x128.size, ![1, 4, 1], inb'⟩, spos_1_4_1⟩ : Rect S12x1024x128).emb z) := by
  idx_vars z
  obtain rfl : z0 = 0 := Subsingleton.elim _ _
  have hq : ∀ v : FVec Ideal S256x128 .f32, shapeCast S1x256x128 (v) shapeCasts_S256x128_S1x256x128 (ix3 0 z1 z2) = v (ix2 z1 z2) := by
    intro v
    pointwise
  have h1 := z1.isLt
  have h2 := z2.isLt
  refine (hq _).trans ?_
  refine (Memref.IsWhole.readAt_unread (Val := Elt Ideal) h X _ _).trans (Eq.trans (congrArg X (funext fun j => Fin.ext ?_))
    ((at2_eq X ⟨z1.val, h1⟩ ⟨o + z2.val, by omega⟩).trans ?_))
  · fin_cases j
    · show 0 + 1 * z1.val = z1.val
      omega
    · show o + 1 * z2.val = o + z2.val
      omega
  · unfold plane
    have e0 : (((⟨⟨![p, r, 0], S1x256x128.size, ![1, 4, 1], inb'⟩, spos_1_4_1⟩ : Rect S12x1024x128).emb (ix3 0 z1 z2)) 0).val = p := by
      show p + 1 * 0 = p
      omega
    have e1 : (((⟨⟨![p, r, 0], S1x256x128.size, ![1, 4, 1], inb'⟩, spos_1_4_1⟩ : Rect S12x1024x128).emb (ix3 0 z1 z2)) 1).val = r + 4 * z1.val := rfl
    have e2 : (((⟨⟨![p, r, 0], S1x256x128.size, ![1, 4, 1], inb'⟩, spos_1_4_1⟩ : Rect S12x1024x128).emb (ix3 0 z1 z2)) 2).val = z2.val := by
      show 0 + 1 * z2.val = z2.val
      omega
    rw [e0, e1, e2, if_pos (by omega)]
    unfold tok
    exact congrArg₂ (at2 X) (by show z1.val = _; omega) (by show o + z2.val = _; omega)

/-- A store of the second group's outputs: one token of every row, one lane tile. -/
theorem put6 (a : Memref sig .tc .vmem S256x1024 .bf16) (h : a.IsWhole) (X : FVec Ideal S256x1024 .bf16) (x2 : FVec Ideal S64x4096 .bf16) (x4 : FVec Ideal S256x1024 .f32) (x5 : FVec Ideal S64x4096 .f32)
    (p r o : ℕ) (hp : 6 ≤ p ∧ p < 8) (hr : r < 4) (ho : o = 256 * r + 128 * (p - 6))
    (inb : ∀ a, (![0, o] : Fin 2 → ℕ) a + S256x128.size a ≤ S256x1024.size a)
    (inb' : ∀ a, S1x256x128.size a = 0 ∨ (![p, r, 0] : Fin 3 → ℕ) a + (![1, 4, 1] : Fin 3 → ℕ) a * (S1x256x128.size a - 1) < S12x1024x128.size a)
    (z : S1x256x128.Idx) :
    shapeCast S1x256x128 ((extf .f32 (View.readAt (Elt Ideal) a.view (Rect.unit (s := S256x1024) ![0, o] S256x128.size inb).toLoadRect (h.unread X) : FVec Ideal S256x128 .bf16) bitsLt_bf16_f32 : FVec Ideal S256x128 .f32)) shapeCasts_S256x128_S1x256x128 z
      = plane X x2 x4 x5 ((⟨⟨![p, r, 0], S1x256x128.size, ![1, 4, 1], inb'⟩, spos_1_4_1⟩ : Rect S12x1024x128).emb z) := by
  idx_vars z
  obtain rfl : z0 = 0 := Subsingleton.elim _ _
  have hq : ∀ v : FVec Ideal S256x128 .bf16, shapeCast S1x256x128 (extf .f32 v bitsLt_bf16_f32) shapeCasts_S256x128_S1x256x128 (ix3 0 z1 z2) = v (ix2 z1 z2) := by
    intro v
    pointwise
  have h1 := z1.isLt
  have h2 := z2.isLt
  refine (hq _).trans ?_
  refine (Memref.IsWhole.readAt_unread (Val := Elt Ideal) h X _ _).trans (Eq.trans (congrArg X (funext fun j => Fin.ext ?_))
    ((at2_eq X ⟨z1.val, h1⟩ ⟨o + z2.val, by omega⟩).trans ?_))
  · fin_cases j
    · show 0 + 1 * z1.val = z1.val
      omega
    · show o + 1 * z2.val = o + z2.val
      omega
  · unfold plane
    have e0 : (((⟨⟨![p, r, 0], S1x256x128.size, ![1, 4, 1], inb'⟩, spos_1_4_1⟩ : Rect S12x1024x128).emb (ix3 0 z1 z2)) 0).val = p := by
      show p + 1 * 0 = p
      omega
    have e1 : (((⟨⟨![p, r, 0], S1x256x128.size, ![1, 4, 1], inb'⟩, spos_1_4_1⟩ : Rect S12x1024x128).emb (ix3 0 z1 z2)) 1).val = r + 4 * z1.val := rfl
    have e2 : (((⟨⟨![p, r, 0], S1x256x128.size, ![1, 4, 1], inb'⟩, spos_1_4_1⟩ : Rect S12x1024x128).emb (ix3 0 z1 z2)) 2).val = z2.val := by
      show 0 + 1 * z2.val = z2.val
      omega
    rw [e0, e1, e2, if_neg (by omega), if_pos (by omega)]
    unfold tok
    exact congrArg₂ (at2 X) (by show z1.val = _; omega) (by show o + z2.val = _; omega)

/-- A store of the third group's logs: one token of every row, one lane tile. -/
theorem put8 (a : Memref sig .tc .vmem S64x4096 .f32) (h : a.IsWhole) (X : FVec Ideal S64x4096 .f32) (x1 : FVec Ideal S256x1024 .bf16) (x2 : FVec Ideal S64x4096 .bf16) (x4 : FVec Ideal S256x1024 .f32)
    (p r o : ℕ) (hp : 8 ≤ p ∧ p < 10) (hr : r < 16) (ho : o = 256 * r + 128 * (p - 8))
    (inb : ∀ a, (![0, o] : Fin 2 → ℕ) a + S64x128.size a ≤ S64x4096.size a)
    (inb' : ∀ a, S1x64x128.size a = 0 ∨ (![p, r, 0] : Fin 3 → ℕ) a + (![1, 16, 1] : Fin 3 → ℕ) a * (S1x64x128.size a - 1) < S12x1024x128.size a)
    (z : S1x64x128.Idx) :
    shapeCast S1x64x128 (View.readAt (Elt Ideal) a.view (Rect.unit (s := S64x4096) ![0, o] S64x128.size inb).toLoadRect (h.unread X)) shapeCasts_S64x128_S1x64x128 z
      = plane x1 x2 x4 X ((⟨⟨![p, r, 0], S1x64x128.size, ![1, 16, 1], inb'⟩, spos_1_16_1⟩ : Rect S12x1024x128).emb z) := by
  idx_vars z
  obtain rfl : z0 = 0 := Subsingleton.elim _ _
  have hq : ∀ v : FVec Ideal S64x128 .f32, shapeCast S1x64x128 (v) shapeCasts_S64x128_S1x64x128 (ix3 0 z1 z2) = v (ix2 z1 z2) := by
    intro v
    pointwise
  have h1 := z1.isLt
  have h2 := z2.isLt
  refine (hq _).trans ?_
  refine (Memref.IsWhole.readAt_unread (Val := Elt Ideal) h X _ _).trans (Eq.trans (congrArg X (funext fun j => Fin.ext ?_))
    ((at2_eq X ⟨z1.val, h1⟩ ⟨o + z2.val, by omega⟩).trans ?_))
  · fin_cases j
    · show 0 + 1 * z1.val = z1.val
      omega
    · show o + 1 * z2.val = o + z2.val
      omega
  · unfold plane
    have e0 : (((⟨⟨![p, r, 0], S1x64x128.size, ![1, 16, 1], inb'⟩, spos_1_16_1⟩ : Rect S12x1024x128).emb (ix3 0 z1 z2)) 0).val = p := by
      show p + 1 * 0 = p
      omega
    have e1 : (((⟨⟨![p, r, 0], S1x64x128.size, ![1, 16, 1], inb'⟩, spos_1_16_1⟩ : Rect S12x1024x128).emb (ix3 0 z1 z2)) 1).val = r + 16 * z1.val := rfl
    have e2 : (((⟨⟨![p, r, 0], S1x64x128.size, ![1, 16, 1], inb'⟩, spos_1_16_1⟩ : Rect S12x1024x128).emb (ix3 0 z1 z2)) 2).val = z2.val := by
      show 0 + 1 * z2.val = z2.val
      omega
    rw [e0, e1, e2, if_neg (by omega), if_neg (by omega), if_pos (by omega)]
    unfold tok
    exact congrArg₂ (at2 X) (by show z1.val = _; omega) (by show o + z2.val = _; omega)

/-- A store of the third group's outputs: one token of every row, one lane tile. -/
theorem put10 (a : Memref sig .tc .vmem S64x4096 .bf16) (h : a.IsWhole) (X : FVec Ideal S64x4096 .bf16) (x1 : FVec Ideal S256x1024 .bf16) (x4 : FVec Ideal S256x1024 .f32) (x5 : FVec Ideal S64x4096 .f32)
    (p r o : ℕ) (hp : 10 ≤ p ∧ p < 12) (hr : r < 16) (ho : o = 256 * r + 128 * (p - 10))
    (inb : ∀ a, (![0, o] : Fin 2 → ℕ) a + S64x128.size a ≤ S64x4096.size a)
    (inb' : ∀ a, S1x64x128.size a = 0 ∨ (![p, r, 0] : Fin 3 → ℕ) a + (![1, 16, 1] : Fin 3 → ℕ) a * (S1x64x128.size a - 1) < S12x1024x128.size a)
    (z : S1x64x128.Idx) :
    shapeCast S1x64x128 ((extf .f32 (View.readAt (Elt Ideal) a.view (Rect.unit (s := S64x4096) ![0, o] S64x128.size inb).toLoadRect (h.unread X) : FVec Ideal S64x128 .bf16) bitsLt_bf16_f32 : FVec Ideal S64x128 .f32)) shapeCasts_S64x128_S1x64x128 z
      = plane x1 X x4 x5 ((⟨⟨![p, r, 0], S1x64x128.size, ![1, 16, 1], inb'⟩, spos_1_16_1⟩ : Rect S12x1024x128).emb z) := by
  idx_vars z
  obtain rfl : z0 = 0 := Subsingleton.elim _ _
  have hq : ∀ v : FVec Ideal S64x128 .bf16, shapeCast S1x64x128 (extf .f32 v bitsLt_bf16_f32) shapeCasts_S64x128_S1x64x128 (ix3 0 z1 z2) = v (ix2 z1 z2) := by
    intro v
    pointwise
  have h1 := z1.isLt
  have h2 := z2.isLt
  refine (hq _).trans ?_
  refine (Memref.IsWhole.readAt_unread (Val := Elt Ideal) h X _ _).trans (Eq.trans (congrArg X (funext fun j => Fin.ext ?_))
    ((at2_eq X ⟨z1.val, h1⟩ ⟨o + z2.val, by omega⟩).trans ?_))
  · fin_cases j
    · show 0 + 1 * z1.val = z1.val
      omega
    · show o + 1 * z2.val = o + z2.val
      omega
  · unfold plane
    have e0 : (((⟨⟨![p, r, 0], S1x64x128.size, ![1, 16, 1], inb'⟩, spos_1_16_1⟩ : Rect S12x1024x128).emb (ix3 0 z1 z2)) 0).val = p := by
      show p + 1 * 0 = p
      omega
    have e1 : (((⟨⟨![p, r, 0], S1x64x128.size, ![1, 16, 1], inb'⟩, spos_1_16_1⟩ : Rect S12x1024x128).emb (ix3 0 z1 z2)) 1).val = r + 16 * z1.val := rfl
    have e2 : (((⟨⟨![p, r, 0], S1x64x128.size, ![1, 16, 1], inb'⟩, spos_1_16_1⟩ : Rect S12x1024x128).emb (ix3 0 z1 z2)) 2).val = z2.val := by
      show 0 + 1 * z2.val = z2.val
      omega
    rw [e0, e1, e2, if_neg (by omega), if_neg (by omega), if_neg (by omega)]
    unfold tok
    exact congrArg₂ (at2 X) (by show z1.val = _; omega) (by show o + z2.val = _; omega)

/-- The places one store with stride 4 covers. -/
theorem mem4 (p r : ℕ) (inb' : ∀ a, S1x256x128.size a = 0 ∨ (![p, r, 0] : Fin 3 → ℕ) a + (![1, 4, 1] : Fin 3 → ℕ) a * (S1x256x128.size a - 1) < S12x1024x128.size a)
    (k : Fin 12) (i : Fin 1024) (j : Fin 128) (hk : k.val = p) (hi : i.val % 4 = r) :
    (ix3 k i j : S12x1024x128.Idx) ∈ (⟨⟨![p, r, 0], S1x256x128.size, ![1, 4, 1], inb'⟩, spos_1_4_1⟩ : Rect S12x1024x128).set := by
  have h := i.isLt
  refine (LoadRect.mem_set _).mpr fun a => ?_
  fin_cases a
  · exact ⟨0, Nat.one_pos, by show k.val = p + 1 * 0; omega⟩
  · refine ⟨i.val / 4, ?_, ?_⟩
    · show i.val / 4 < 256
      omega
    · show i.val = r + 4 * (i.val / 4)
      omega
  · exact ⟨j.val, j.isLt, by show j.val = 0 + 1 * j.val; omega⟩

/-- The places one store with stride 16 covers. -/
theorem mem16 (p r : ℕ) (inb' : ∀ a, S1x64x128.size a = 0 ∨ (![p, r, 0] : Fin 3 → ℕ) a + (![1, 16, 1] : Fin 3 → ℕ) a * (S1x64x128.size a - 1) < S12x1024x128.size a)
    (k : Fin 12) (i : Fin 1024) (j : Fin 128) (hk : k.val = p) (hi : i.val % 16 = r) :
    (ix3 k i j : S12x1024x128.Idx) ∈ (⟨⟨![p, r, 0], S1x64x128.size, ![1, 16, 1], inb'⟩, spos_1_16_1⟩ : Rect S12x1024x128).set := by
  have h := i.isLt
  refine (LoadRect.mem_set _).mpr fun a => ?_
  fin_cases a
  · exact ⟨0, Nat.one_pos, by show k.val = p + 1 * 0; omega⟩
  · refine ⟨i.val / 16, ?_, ?_⟩
    · show i.val / 16 < 64
      omega
    · show i.val = r + 16 * (i.val / 16)
      omega
  · exact ⟨j.val, j.isLt, by show j.val = 0 + 1 * j.val; omega⟩

/-- A load of a plane that the stores cover reads what they hold. -/
theorem got (v : View sig .tc .vmem S12x1024x128 .f32) (L : List (View.Piece (Elt Ideal) S12x1024x128 .f32)) (G : S12x1024x128.Idx → EReal)
    (h : View.PiecesOf (Val := Elt Ideal) G L) (p : ℕ) (hp : p < 12)
    (inb : ∀ a, (![p, 0, 0] : Fin 3 → ℕ) a + S1x1024x128.size a ≤ S12x1024x128.size a)
    (hc : ∀ (i : Fin 1024) (j : Fin 128), ∃ q ∈ L, (ix3 ⟨p, hp⟩ i j : S12x1024x128.Idx) ∈ q.1.set) (i : Fin 1024) (j : Fin 128) :
    v.readCov L (Rect.unit (s := S12x1024x128) ![p, 0, 0] S1x1024x128.size inb).toLoadRect (ix3 0 i j) = G (ix3 ⟨p, hp⟩ i j) := by
  refine (congrFun (View.readCov_eq_canon' v L (Rect.unit (s := S12x1024x128) ![p, 0, 0] S1x1024x128.size inb).toLoadRect) (ix3 0 i j)).trans ?_
  have e : (Rect.unit (s := S12x1024x128) ![p, 0, 0] S1x1024x128.size inb).toLoadRect.idx (ix3 0 i j) = ix3 ⟨p, hp⟩ i j := by
    funext a
    refine Fin.ext ?_
    fin_cases a
    · show p + 1 * 0 = p
      omega
    · show 0 + 1 * i.val = i.val
      omega
    · show 0 + 1 * j.val = j.val
      omega
  refine (congrArg (View.canon L) e).trans ?_
  exact (congrArg (fun M => View.canon M (ix3 ⟨p, hp⟩ i j)) (List.append_nil L).symm).trans (View.canon_append_of_piecesOf G [] L h _ (hc i j))

section
variable (c : Dev nD)
variable (arg2 : Memref sig .tc .vmem S256x1024 .bf16) (harg2 : arg2.IsWhole) (arg3 : Memref sig .tc .vmem S64x4096 .bf16) (harg3 : arg3.IsWhole)
variable (arg5 : Memref sig .tc .vmem S256x1024 .f32) (harg5 : arg5.IsWhole) (arg6 : Memref sig .tc .vmem S64x4096 .f32) (harg6 : arg6.IsWhole)
variable (x1 : FVec Ideal S256x1024 .bf16) (x2 : FVec Ideal S64x4096 .bf16) (x4 : FVec Ideal S256x1024 .f32) (x5 : FVec Ideal S64x4096 .f32)

/-- The first 8 stores hold the planes. -/
theorem pieces8 : View.PiecesOf (Val := Elt Ideal) (plane x1 x2 x4 x5) (kernelRun0_A.sl.HS0_8 (F := Ideal) c arg5 harg5 x4) :=
  ⟨fun z => put4 arg5 harg5 x4 x1 x2 x5 5 3 896 (by decide) (by decide) (by decide) inb_S256x1024_S256x128_0_896 inb_S12x1024x128_S1x256x128_5_3_0_s_1_4_1 z,
    fun z => put4 arg5 harg5 x4 x1 x2 x5 4 3 768 (by decide) (by decide) (by decide) inb_S256x1024_S256x128_0_768 inb_S12x1024x128_S1x256x128_4_3_0_s_1_4_1 z,
    fun z => put4 arg5 harg5 x4 x1 x2 x5 5 2 640 (by decide) (by decide) (by decide) inb_S256x1024_S256x128_0_640 inb_S12x1024x128_S1x256x128_5_2_0_s_1_4_1 z,
    fun z => put4 arg5 harg5 x4 x1 x2 x5 4 2 512 (by decide) (by decide) (by decide) inb_S256x1024_S256x128_0_512 inb_S12x1024x128_S1x256x128_4_2_0_s_1_4_1 z,
    fun z => put4 arg5 harg5 x4 x1 x2 x5 5 1 384 (by decide) (by decide) (by decide) inb_S256x1024_S256x128_0_384 inb_S12x1024x128_S1x256x128_5_1_0_s_1_4_1 z,
    fun z => put4 arg5 harg5 x4 x1 x2 x5 4 1 256 (by decide) (by decide) (by decide) inb_S256x1024_S256x128_0_256 inb_S12x1024x128_S1x256x128_4_1_0_s_1_4_1 z,
    fun z => put4 arg5 harg5 x4 x1 x2 x5 5 0 128 (by decide) (by decide) (by decide) inb_S256x1024_S256x128_0_128 inb_S12x1024x128_S1x256x128_5_0_0_s_1_4_1 z,
    fun z => put4 arg5 harg5 x4 x1 x2 x5 4 0 0 (by decide) (by decide) (by decide) inb_S256x1024_S256x128_0_0 inb_S12x1024x128_S1x256x128_4_0_0_s_1_4_1 z,
    trivial⟩

/-- They cover plane 4. -/
theorem cover4 (i : Fin 1024) (j : Fin 128) :
    ∃ q ∈ kernelRun0_A.sl.HS0_8 (F := Ideal) c arg5 harg5 x4, (ix3 ⟨4, by decide⟩ i j : S12x1024x128.Idx) ∈ q.1.set := by
  obtain h | h | h | h : i.val % 4 = 0 ∨ i.val % 4 = 1 ∨ i.val % 4 = 2 ∨ i.val % 4 = 3 := by omega
  · exact ⟨_, List.mem_of_getElem? (i := 7) rfl, mem4 4 0 inb_S12x1024x128_S1x256x128_4_0_0_s_1_4_1 _ i j rfl h⟩
  · exact ⟨_, List.mem_of_getElem? (i := 5) rfl, mem4 4 1 inb_S12x1024x128_S1x256x128_4_1_0_s_1_4_1 _ i j rfl h⟩
  · exact ⟨_, List.mem_of_getElem? (i := 3) rfl, mem4 4 2 inb_S12x1024x128_S1x256x128_4_2_0_s_1_4_1 _ i j rfl h⟩
  · exact ⟨_, List.mem_of_getElem? (i := 1) rfl, mem4 4 3 inb_S12x1024x128_S1x256x128_4_3_0_s_1_4_1 _ i j rfl h⟩

/-- They cover plane 5. -/
theorem cover5 (i : Fin 1024) (j : Fin 128) :
    ∃ q ∈ kernelRun0_A.sl.HS0_8 (F := Ideal) c arg5 harg5 x4, (ix3 ⟨5, by decide⟩ i j : S12x1024x128.Idx) ∈ q.1.set := by
  obtain h | h | h | h : i.val % 4 = 0 ∨ i.val % 4 = 1 ∨ i.val % 4 = 2 ∨ i.val % 4 = 3 := by omega
  · exact ⟨_, List.mem_of_getElem? (i := 6) rfl, mem4 5 0 inb_S12x1024x128_S1x256x128_5_0_0_s_1_4_1 _ i j rfl h⟩
  · exact ⟨_, List.mem_of_getElem? (i := 4) rfl, mem4 5 1 inb_S12x1024x128_S1x256x128_5_1_0_s_1_4_1 _ i j rfl h⟩
  · exact ⟨_, List.mem_of_getElem? (i := 2) rfl, mem4 5 2 inb_S12x1024x128_S1x256x128_5_2_0_s_1_4_1 _ i j rfl h⟩
  · exact ⟨_, List.mem_of_getElem? (i := 0) rfl, mem4 5 3 inb_S12x1024x128_S1x256x128_5_3_0_s_1_4_1 _ i j rfl h⟩

/-- The first 16 stores hold the planes. -/
theorem pieces16 : View.PiecesOf (Val := Elt Ideal) (plane x1 x2 x4 x5) (kernelRun0_A.sl.HS0_16 (F := Ideal) c arg5 harg5 arg6 harg6 x4 x5) :=
  ⟨fun z => put8 arg6 harg6 x5 x1 x2 x4 9 3 896 (by decide) (by decide) (by decide) inb_S64x4096_S64x128_0_896 inb_S12x1024x128_S1x64x128_9_3_0_s_1_16_1 z,
    fun z => put8 arg6 harg6 x5 x1 x2 x4 8 3 768 (by decide) (by decide) (by decide) inb_S64x4096_S64x128_0_768 inb_S12x1024x128_S1x64x128_8_3_0_s_1_16_1 z,
    fun z => put8 arg6 harg6 x5 x1 x2 x4 9 2 640 (by decide) (by decide) (by decide) inb_S64x4096_S64x128_0_640 inb_S12x1024x128_S1x64x128_9_2_0_s_1_16_1 z,
    fun z => put8 arg6 harg6 x5 x1 x2 x4 8 2 512 (by decide) (by decide) (by decide) inb_S64x4096_S64x128_0_512 inb_S12x1024x128_S1x64x128_8_2_0_s_1_16_1 z,
    fun z => put8 arg6 harg6 x5 x1 x2 x4 9 1 384 (by decide) (by decide) (by decide) inb_S64x4096_S64x128_0_384 inb_S12x1024x128_S1x64x128_9_1_0_s_1_16_1 z,
    fun z => put8 arg6 harg6 x5 x1 x2 x4 8 1 256 (by decide) (by decide) (by decide) inb_S64x4096_S64x128_0_256 inb_S12x1024x128_S1x64x128_8_1_0_s_1_16_1 z,
    fun z => put8 arg6 harg6 x5 x1 x2 x4 9 0 128 (by decide) (by decide) (by decide) inb_S64x4096_S64x128_0_128 inb_S12x1024x128_S1x64x128_9_0_0_s_1_16_1 z,
    fun z => put8 arg6 harg6 x5 x1 x2 x4 8 0 0 (by decide) (by decide) (by decide) inb_S64x4096_S64x128_0_0 inb_S12x1024x128_S1x64x128_8_0_0_s_1_16_1 z,
    pieces8 c arg5 harg5 x1 x2 x4 x5⟩

/-- The first 24 stores hold the planes. -/
theorem pieces24 : View.PiecesOf (Val := Elt Ideal) (plane x1 x2 x4 x5) (kernelRun0_A.sl.HS0_24 (F := Ideal) c arg5 harg5 arg6 harg6 x4 x5) :=
  ⟨fun z => put8 arg6 harg6 x5 x1 x2 x4 9 7 1920 (by decide) (by decide) (by decide) inb_S64x4096_S64x128_0_1920 inb_S12x1024x128_S1x64x128_9_7_0_s_1_16_1 z,
    fun z => put8 arg6 harg6 x5 x1 x2 x4 8 7 1792 (by decide) (by decide) (by decide) inb_S64x4096_S64x128_0_1792 inb_S12x1024x128_S1x64x128_8_7_0_s_1_16_1 z,
    fun z => put8 arg6 harg6 x5 x1 x2 x4 9 6 1664 (by decide) (by decide) (by decide) inb_S64x4096_S64x128_0_1664 inb_S12x1024x128_S1x64x128_9_6_0_s_1_16_1 z,
    fun z => put8 arg6 harg6 x5 x1 x2 x4 8 6 1536 (by decide) (by decide) (by decide) inb_S64x4096_S64x128_0_1536 inb_S12x1024x128_S1x64x128_8_6_0_s_1_16_1 z,
    fun z => put8 arg6 harg6 x5 x1 x2 x4 9 5 1408 (by decide) (by decide) (by decide) inb_S64x4096_S64x128_0_1408 inb_S12x1024x128_S1x64x128_9_5_0_s_1_16_1 z,
    fun z => put8 arg6 harg6 x5 x1 x2 x4 8 5 1280 (by decide) (by decide) (by decide) inb_S64x4096_S64x128_0_1280 inb_S12x1024x128_S1x64x128_8_5_0_s_1_16_1 z,
    fun z => put8 arg6 harg6 x5 x1 x2 x4 9 4 1152 (by decide) (by decide) (by decide) inb_S64x4096_S64x128_0_1152 inb_S12x1024x128_S1x64x128_9_4_0_s_1_16_1 z,
    fun z => put8 arg6 harg6 x5 x1 x2 x4 8 4 1024 (by decide) (by decide) (by decide) inb_S64x4096_S64x128_0_1024 inb_S12x1024x128_S1x64x128_8_4_0_s_1_16_1 z,
    pieces16 c arg5 harg5 arg6 harg6 x1 x2 x4 x5⟩

/-- The first 32 stores hold the planes. -/
theorem pieces32 : View.PiecesOf (Val := Elt Ideal) (plane x1 x2 x4 x5) (kernelRun0_A.sl.HS0_32 (F := Ideal) c arg5 harg5 arg6 harg6 x4 x5) :=
  ⟨fun z => put8 arg6 harg6 x5 x1 x2 x4 9 11 2944 (by decide) (by decide) (by decide) inb_S64x4096_S64x128_0_2944 inb_S12x1024x128_S1x64x128_9_11_0_s_1_16_1 z,
    fun z => put8 arg6 harg6 x5 x1 x2 x4 8 11 2816 (by decide) (by decide) (by decide) inb_S64x4096_S64x128_0_2816 inb_S12x1024x128_S1x64x128_8_11_0_s_1_16_1 z,
    fun z => put8 arg6 harg6 x5 x1 x2 x4 9 10 2688 (by decide) (by decide) (by decide) inb_S64x4096_S64x128_0_2688 inb_S12x1024x128_S1x64x128_9_10_0_s_1_16_1 z,
    fun z => put8 arg6 harg6 x5 x1 x2 x4 8 10 2560 (by decide) (by decide) (by decide) inb_S64x4096_S64x128_0_2560 inb_S12x1024x128_S1x64x128_8_10_0_s_1_16_1 z,
    fun z => put8 arg6 harg6 x5 x1 x2 x4 9 9 2432 (by decide) (by decide) (by decide) inb_S64x4096_S64x128_0_2432 inb_S12x1024x128_S1x64x128_9_9_0_s_1_16_1 z,
    fun z => put8 arg6 harg6 x5 x1 x2 x4 8 9 2304 (by decide) (by decide) (by decide) inb_S64x4096_S64x128_0_2304 inb_S12x1024x128_S1x64x128_8_9_0_s_1_16_1 z,
    fun z => put8 arg6 harg6 x5 x1 x2 x4 9 8 2176 (by decide) (by decide) (by decide) inb_S64x4096_S64x128_0_2176 inb_S12x1024x128_S1x64x128_9_8_0_s_1_16_1 z,
    fun z => put8 arg6 harg6 x5 x1 x2 x4 8 8 2048 (by decide) (by decide) (by decide) inb_S64x4096_S64x128_0_2048 inb_S12x1024x128_S1x64x128_8_8_0_s_1_16_1 z,
    pieces24 c arg5 harg5 arg6 harg6 x1 x2 x4 x5⟩

/-- The first 40 stores hold the planes. -/
theorem pieces40 : View.PiecesOf (Val := Elt Ideal) (plane x1 x2 x4 x5) (kernelRun0_A.sl.HS0_40 (F := Ideal) c arg5 harg5 arg6 harg6 x4 x5) :=
  ⟨fun z => put8 arg6 harg6 x5 x1 x2 x4 9 15 3968 (by decide) (by decide) (by decide) inb_S64x4096_S64x128_0_3968 inb_S12x1024x128_S1x64x128_9_15_0_s_1_16_1 z,
    fun z => put8 arg6 harg6 x5 x1 x2 x4 8 15 3840 (by decide) (by decide) (by decide) inb_S64x4096_S64x128_0_3840 inb_S12x1024x128_S1x64x128_8_15_0_s_1_16_1 z,
    fun z => put8 arg6 harg6 x5 x1 x2 x4 9 14 3712 (by decide) (by decide) (by decide) inb_S64x4096_S64x128_0_3712 inb_S12x1024x128_S1x64x128_9_14_0_s_1_16_1 z,
    fun z => put8 arg6 harg6 x5 x1 x2 x4 8 14 3584 (by decide) (by decide) (by decide) inb_S64x4096_S64x128_0_3584 inb_S12x1024x128_S1x64x128_8_14_0_s_1_16_1 z,
    fun z => put8 arg6 harg6 x5 x1 x2 x4 9 13 3456 (by decide) (by decide) (by decide) inb_S64x4096_S64x128_0_3456 inb_S12x1024x128_S1x64x128_9_13_0_s_1_16_1 z,
    fun z => put8 arg6 harg6 x5 x1 x2 x4 8 13 3328 (by decide) (by decide) (by decide) inb_S64x4096_S64x128_0_3328 inb_S12x1024x128_S1x64x128_8_13_0_s_1_16_1 z,
    fun z => put8 arg6 harg6 x5 x1 x2 x4 9 12 3200 (by decide) (by decide) (by decide) inb_S64x4096_S64x128_0_3200 inb_S12x1024x128_S1x64x128_9_12_0_s_1_16_1 z,
    fun z => put8 arg6 harg6 x5 x1 x2 x4 8 12 3072 (by decide) (by decide) (by decide) inb_S64x4096_S64x128_0_3072 inb_S12x1024x128_S1x64x128_8_12_0_s_1_16_1 z,
    pieces32 c arg5 harg5 arg6 harg6 x1 x2 x4 x5⟩

/-- They cover plane 8. -/
theorem cover8 (i : Fin 1024) (j : Fin 128) :
    ∃ q ∈ kernelRun0_A.sl.HS0_40 (F := Ideal) c arg5 harg5 arg6 harg6 x4 x5, (ix3 ⟨8, by decide⟩ i j : S12x1024x128.Idx) ∈ q.1.set := by
  obtain h | h | h | h | h | h | h | h | h | h | h | h | h | h | h | h : i.val % 16 = 0 ∨ i.val % 16 = 1 ∨ i.val % 16 = 2 ∨ i.val % 16 = 3 ∨ i.val % 16 = 4 ∨ i.val % 16 = 5 ∨ i.val % 16 = 6 ∨ i.val % 16 = 7 ∨ i.val % 16 = 8 ∨ i.val % 16 = 9 ∨ i.val % 16 = 10 ∨ i.val % 16 = 11 ∨ i.val % 16 = 12 ∨ i.val % 16 = 13 ∨ i.val % 16 = 14 ∨ i.val % 16 = 15 := by omega
  · exact ⟨_, List.mem_of_getElem? (i := 31) rfl, mem16 8 0 inb_S12x1024x128_S1x64x128_8_0_0_s_1_16_1 _ i j rfl h⟩
  · exact ⟨_, List.mem_of_getElem? (i := 29) rfl, mem16 8 1 inb_S12x1024x128_S1x64x128_8_1_0_s_1_16_1 _ i j rfl h⟩
  · exact ⟨_, List.mem_of_getElem? (i := 27) rfl, mem16 8 2 inb_S12x1024x128_S1x64x128_8_2_0_s_1_16_1 _ i j rfl h⟩
  · exact ⟨_, List.mem_of_getElem? (i := 25) rfl, mem16 8 3 inb_S12x1024x128_S1x64x128_8_3_0_s_1_16_1 _ i j rfl h⟩
  · exact ⟨_, List.mem_of_getElem? (i := 23) rfl, mem16 8 4 inb_S12x1024x128_S1x64x128_8_4_0_s_1_16_1 _ i j rfl h⟩
  · exact ⟨_, List.mem_of_getElem? (i := 21) rfl, mem16 8 5 inb_S12x1024x128_S1x64x128_8_5_0_s_1_16_1 _ i j rfl h⟩
  · exact ⟨_, List.mem_of_getElem? (i := 19) rfl, mem16 8 6 inb_S12x1024x128_S1x64x128_8_6_0_s_1_16_1 _ i j rfl h⟩
  · exact ⟨_, List.mem_of_getElem? (i := 17) rfl, mem16 8 7 inb_S12x1024x128_S1x64x128_8_7_0_s_1_16_1 _ i j rfl h⟩
  · exact ⟨_, List.mem_of_getElem? (i := 15) rfl, mem16 8 8 inb_S12x1024x128_S1x64x128_8_8_0_s_1_16_1 _ i j rfl h⟩
  · exact ⟨_, List.mem_of_getElem? (i := 13) rfl, mem16 8 9 inb_S12x1024x128_S1x64x128_8_9_0_s_1_16_1 _ i j rfl h⟩
  · exact ⟨_, List.mem_of_getElem? (i := 11) rfl, mem16 8 10 inb_S12x1024x128_S1x64x128_8_10_0_s_1_16_1 _ i j rfl h⟩
  · exact ⟨_, List.mem_of_getElem? (i := 9) rfl, mem16 8 11 inb_S12x1024x128_S1x64x128_8_11_0_s_1_16_1 _ i j rfl h⟩
  · exact ⟨_, List.mem_of_getElem? (i := 7) rfl, mem16 8 12 inb_S12x1024x128_S1x64x128_8_12_0_s_1_16_1 _ i j rfl h⟩
  · exact ⟨_, List.mem_of_getElem? (i := 5) rfl, mem16 8 13 inb_S12x1024x128_S1x64x128_8_13_0_s_1_16_1 _ i j rfl h⟩
  · exact ⟨_, List.mem_of_getElem? (i := 3) rfl, mem16 8 14 inb_S12x1024x128_S1x64x128_8_14_0_s_1_16_1 _ i j rfl h⟩
  · exact ⟨_, List.mem_of_getElem? (i := 1) rfl, mem16 8 15 inb_S12x1024x128_S1x64x128_8_15_0_s_1_16_1 _ i j rfl h⟩

/-- They cover plane 9. -/
theorem cover9 (i : Fin 1024) (j : Fin 128) :
    ∃ q ∈ kernelRun0_A.sl.HS0_40 (F := Ideal) c arg5 harg5 arg6 harg6 x4 x5, (ix3 ⟨9, by decide⟩ i j : S12x1024x128.Idx) ∈ q.1.set := by
  obtain h | h | h | h | h | h | h | h | h | h | h | h | h | h | h | h : i.val % 16 = 0 ∨ i.val % 16 = 1 ∨ i.val % 16 = 2 ∨ i.val % 16 = 3 ∨ i.val % 16 = 4 ∨ i.val % 16 = 5 ∨ i.val % 16 = 6 ∨ i.val % 16 = 7 ∨ i.val % 16 = 8 ∨ i.val % 16 = 9 ∨ i.val % 16 = 10 ∨ i.val % 16 = 11 ∨ i.val % 16 = 12 ∨ i.val % 16 = 13 ∨ i.val % 16 = 14 ∨ i.val % 16 = 15 := by omega
  · exact ⟨_, List.mem_of_getElem? (i := 30) rfl, mem16 9 0 inb_S12x1024x128_S1x64x128_9_0_0_s_1_16_1 _ i j rfl h⟩
  · exact ⟨_, List.mem_of_getElem? (i := 28) rfl, mem16 9 1 inb_S12x1024x128_S1x64x128_9_1_0_s_1_16_1 _ i j rfl h⟩
  · exact ⟨_, List.mem_of_getElem? (i := 26) rfl, mem16 9 2 inb_S12x1024x128_S1x64x128_9_2_0_s_1_16_1 _ i j rfl h⟩
  · exact ⟨_, List.mem_of_getElem? (i := 24) rfl, mem16 9 3 inb_S12x1024x128_S1x64x128_9_3_0_s_1_16_1 _ i j rfl h⟩
  · exact ⟨_, List.mem_of_getElem? (i := 22) rfl, mem16 9 4 inb_S12x1024x128_S1x64x128_9_4_0_s_1_16_1 _ i j rfl h⟩
  · exact ⟨_, List.mem_of_getElem? (i := 20) rfl, mem16 9 5 inb_S12x1024x128_S1x64x128_9_5_0_s_1_16_1 _ i j rfl h⟩
  · exact ⟨_, List.mem_of_getElem? (i := 18) rfl, mem16 9 6 inb_S12x1024x128_S1x64x128_9_6_0_s_1_16_1 _ i j rfl h⟩
  · exact ⟨_, List.mem_of_getElem? (i := 16) rfl, mem16 9 7 inb_S12x1024x128_S1x64x128_9_7_0_s_1_16_1 _ i j rfl h⟩
  · exact ⟨_, List.mem_of_getElem? (i := 14) rfl, mem16 9 8 inb_S12x1024x128_S1x64x128_9_8_0_s_1_16_1 _ i j rfl h⟩
  · exact ⟨_, List.mem_of_getElem? (i := 12) rfl, mem16 9 9 inb_S12x1024x128_S1x64x128_9_9_0_s_1_16_1 _ i j rfl h⟩
  · exact ⟨_, List.mem_of_getElem? (i := 10) rfl, mem16 9 10 inb_S12x1024x128_S1x64x128_9_10_0_s_1_16_1 _ i j rfl h⟩
  · exact ⟨_, List.mem_of_getElem? (i := 8) rfl, mem16 9 11 inb_S12x1024x128_S1x64x128_9_11_0_s_1_16_1 _ i j rfl h⟩
  · exact ⟨_, List.mem_of_getElem? (i := 6) rfl, mem16 9 12 inb_S12x1024x128_S1x64x128_9_12_0_s_1_16_1 _ i j rfl h⟩
  · exact ⟨_, List.mem_of_getElem? (i := 4) rfl, mem16 9 13 inb_S12x1024x128_S1x64x128_9_13_0_s_1_16_1 _ i j rfl h⟩
  · exact ⟨_, List.mem_of_getElem? (i := 2) rfl, mem16 9 14 inb_S12x1024x128_S1x64x128_9_14_0_s_1_16_1 _ i j rfl h⟩
  · exact ⟨_, List.mem_of_getElem? (i := 0) rfl, mem16 9 15 inb_S12x1024x128_S1x64x128_9_15_0_s_1_16_1 _ i j rfl h⟩

/-- The first 48 stores hold the planes. -/
theorem pieces48 : View.PiecesOf (Val := Elt Ideal) (plane x1 x2 x4 x5) (kernelRun0_A.sl.HS0_48 (F := Ideal) c arg2 harg2 arg5 harg5 arg6 harg6 x1 x4 x5) :=
  ⟨fun z => put6 arg2 harg2 x1 x2 x4 x5 7 3 896 (by decide) (by decide) (by decide) inb_S256x1024_S256x128_0_896 inb_S12x1024x128_S1x256x128_7_3_0_s_1_4_1 z,
    fun z => put6 arg2 harg2 x1 x2 x4 x5 6 3 768 (by decide) (by decide) (by decide) inb_S256x1024_S256x128_0_768 inb_S12x1024x128_S1x256x128_6_3_0_s_1_4_1 z,
    fun z => put6 arg2 harg2 x1 x2 x4 x5 7 2 640 (by decide) (by decide) (by decide) inb_S256x1024_S256x128_0_640 inb_S12x1024x128_S1x256x128_7_2_0_s_1_4_1 z,
    fun z => put6 arg2 harg2 x1 x2 x4 x5 6 2 512 (by decide) (by decide) (by decide) inb_S256x1024_S256x128_0_512 inb_S12x1024x128_S1x256x128_6_2_0_s_1_4_1 z,
    fun z => put6 arg2 harg2 x1 x2 x4 x5 7 1 384 (by decide) (by decide) (by decide) inb_S256x1024_S256x128_0_384 inb_S12x1024x128_S1x256x128_7_1_0_s_1_4_1 z,
    fun z => put6 arg2 harg2 x1 x2 x4 x5 6 1 256 (by decide) (by decide) (by decide) inb_S256x1024_S256x128_0_256 inb_S12x1024x128_S1x256x128_6_1_0_s_1_4_1 z,
    fun z => put6 arg2 harg2 x1 x2 x4 x5 7 0 128 (by decide) (by decide) (by decide) inb_S256x1024_S256x128_0_128 inb_S12x1024x128_S1x256x128_7_0_0_s_1_4_1 z,
    fun z => put6 arg2 harg2 x1 x2 x4 x5 6 0 0 (by decide) (by decide) (by decide) inb_S256x1024_S256x128_0_0 inb_S12x1024x128_S1x256x128_6_0_0_s_1_4_1 z,
    pieces40 c arg5 harg5 arg6 harg6 x1 x2 x4 x5⟩

/-- They cover plane 6. -/
theorem cover6 (i : Fin 1024) (j : Fin 128) :
    ∃ q ∈ kernelRun0_A.sl.HS0_48 (F := Ideal) c arg2 harg2 arg5 harg5 arg6 harg6 x1 x4 x5, (ix3 ⟨6, by decide⟩ i j : S12x1024x128.Idx) ∈ q.1.set := by
  obtain h | h | h | h : i.val % 4 = 0 ∨ i.val % 4 = 1 ∨ i.val % 4 = 2 ∨ i.val % 4 = 3 := by omega
  · exact ⟨_, List.mem_of_getElem? (i := 7) rfl, mem4 6 0 inb_S12x1024x128_S1x256x128_6_0_0_s_1_4_1 _ i j rfl h⟩
  · exact ⟨_, List.mem_of_getElem? (i := 5) rfl, mem4 6 1 inb_S12x1024x128_S1x256x128_6_1_0_s_1_4_1 _ i j rfl h⟩
  · exact ⟨_, List.mem_of_getElem? (i := 3) rfl, mem4 6 2 inb_S12x1024x128_S1x256x128_6_2_0_s_1_4_1 _ i j rfl h⟩
  · exact ⟨_, List.mem_of_getElem? (i := 1) rfl, mem4 6 3 inb_S12x1024x128_S1x256x128_6_3_0_s_1_4_1 _ i j rfl h⟩

/-- They cover plane 7. -/
theorem cover7 (i : Fin 1024) (j : Fin 128) :
    ∃ q ∈ kernelRun0_A.sl.HS0_48 (F := Ideal) c arg2 harg2 arg5 harg5 arg6 harg6 x1 x4 x5, (ix3 ⟨7, by decide⟩ i j : S12x1024x128.Idx) ∈ q.1.set := by
  obtain h | h | h | h : i.val % 4 = 0 ∨ i.val % 4 = 1 ∨ i.val % 4 = 2 ∨ i.val % 4 = 3 := by omega
  · exact ⟨_, List.mem_of_getElem? (i := 6) rfl, mem4 7 0 inb_S12x1024x128_S1x256x128_7_0_0_s_1_4_1 _ i j rfl h⟩
  · exact ⟨_, List.mem_of_getElem? (i := 4) rfl, mem4 7 1 inb_S12x1024x128_S1x256x128_7_1_0_s_1_4_1 _ i j rfl h⟩
  · exact ⟨_, List.mem_of_getElem? (i := 2) rfl, mem4 7 2 inb_S12x1024x128_S1x256x128_7_2_0_s_1_4_1 _ i j rfl h⟩
  · exact ⟨_, List.mem_of_getElem? (i := 0) rfl, mem4 7 3 inb_S12x1024x128_S1x256x128_7_3_0_s_1_4_1 _ i j rfl h⟩

/-- The first 80 stores hold the planes. -/
theorem pieces80 : View.PiecesOf (Val := Elt Ideal) (plane x1 x2 x4 x5) (kernelRun0_A.sl.HS0_80 (F := Ideal) c arg2 harg2 arg3 harg3 arg5 harg5 arg6 harg6 x1 x2 x4 x5) :=
  ⟨fun z => put10 arg3 harg3 x2 x1 x4 x5 11 15 3968 (by decide) (by decide) (by decide) inb_S64x4096_S64x128_0_3968 inb_S12x1024x128_S1x64x128_11_15_0_s_1_16_1 z,
    fun z => put10 arg3 harg3 x2 x1 x4 x5 10 15 3840 (by decide) (by decide) (by decide) inb_S64x4096_S64x128_0_3840 inb_S12x1024x128_S1x64x128_10_15_0_s_1_16_1 z,
    fun z => put10 arg3 harg3 x2 x1 x4 x5 11 14 3712 (by decide) (by decide) (by decide) inb_S64x4096_S64x128_0_3712 inb_S12x1024x128_S1x64x128_11_14_0_s_1_16_1 z,
    fun z => put10 arg3 harg3 x2 x1 x4 x5 10 14 3584 (by decide) (by decide) (by decide) inb_S64x4096_S64x128_0_3584 inb_S12x1024x128_S1x64x128_10_14_0_s_1_16_1 z,
    fun z => put10 arg3 harg3 x2 x1 x4 x5 11 13 3456 (by decide) (by decide) (by decide) inb_S64x4096_S64x128_0_3456 inb_S12x1024x128_S1x64x128_11_13_0_s_1_16_1 z,
    fun z => put10 arg3 harg3 x2 x1 x4 x5 10 13 3328 (by decide) (by decide) (by decide) inb_S64x4096_S64x128_0_3328 inb_S12x1024x128_S1x64x128_10_13_0_s_1_16_1 z,
    fun z => put10 arg3 harg3 x2 x1 x4 x5 11 12 3200 (by decide) (by decide) (by decide) inb_S64x4096_S64x128_0_3200 inb_S12x1024x128_S1x64x128_11_12_0_s_1_16_1 z,
    fun z => put10 arg3 harg3 x2 x1 x4 x5 10 12 3072 (by decide) (by decide) (by decide) inb_S64x4096_S64x128_0_3072 inb_S12x1024x128_S1x64x128_10_12_0_s_1_16_1 z,
    fun z => put10 arg3 harg3 x2 x1 x4 x5 11 11 2944 (by decide) (by decide) (by decide) inb_S64x4096_S64x128_0_2944 inb_S12x1024x128_S1x64x128_11_11_0_s_1_16_1 z,
    fun z => put10 arg3 harg3 x2 x1 x4 x5 10 11 2816 (by decide) (by decide) (by decide) inb_S64x4096_S64x128_0_2816 inb_S12x1024x128_S1x64x128_10_11_0_s_1_16_1 z,
    fun z => put10 arg3 harg3 x2 x1 x4 x5 11 10 2688 (by decide) (by decide) (by decide) inb_S64x4096_S64x128_0_2688 inb_S12x1024x128_S1x64x128_11_10_0_s_1_16_1 z,
    fun z => put10 arg3 harg3 x2 x1 x4 x5 10 10 2560 (by decide) (by decide) (by decide) inb_S64x4096_S64x128_0_2560 inb_S12x1024x128_S1x64x128_10_10_0_s_1_16_1 z,
    fun z => put10 arg3 harg3 x2 x1 x4 x5 11 9 2432 (by decide) (by decide) (by decide) inb_S64x4096_S64x128_0_2432 inb_S12x1024x128_S1x64x128_11_9_0_s_1_16_1 z,
    fun z => put10 arg3 harg3 x2 x1 x4 x5 10 9 2304 (by decide) (by decide) (by decide) inb_S64x4096_S64x128_0_2304 inb_S12x1024x128_S1x64x128_10_9_0_s_1_16_1 z,
    fun z => put10 arg3 harg3 x2 x1 x4 x5 11 8 2176 (by decide) (by decide) (by decide) inb_S64x4096_S64x128_0_2176 inb_S12x1024x128_S1x64x128_11_8_0_s_1_16_1 z,
    fun z => put10 arg3 harg3 x2 x1 x4 x5 10 8 2048 (by decide) (by decide) (by decide) inb_S64x4096_S64x128_0_2048 inb_S12x1024x128_S1x64x128_10_8_0_s_1_16_1 z,
    fun z => put10 arg3 harg3 x2 x1 x4 x5 11 7 1920 (by decide) (by decide) (by decide) inb_S64x4096_S64x128_0_1920 inb_S12x1024x128_S1x64x128_11_7_0_s_1_16_1 z,
    fun z => put10 arg3 harg3 x2 x1 x4 x5 10 7 1792 (by decide) (by decide) (by decide) inb_S64x4096_S64x128_0_1792 inb_S12x1024x128_S1x64x128_10_7_0_s_1_16_1 z,
    fun z => put10 arg3 harg3 x2 x1 x4 x5 11 6 1664 (by decide) (by decide) (by decide) inb_S64x4096_S64x128_0_1664 inb_S12x1024x128_S1x64x128_11_6_0_s_1_16_1 z,
    fun z => put10 arg3 harg3 x2 x1 x4 x5 10 6 1536 (by decide) (by decide) (by decide) inb_S64x4096_S64x128_0_1536 inb_S12x1024x128_S1x64x128_10_6_0_s_1_16_1 z,
    fun z => put10 arg3 harg3 x2 x1 x4 x5 11 5 1408 (by decide) (by decide) (by decide) inb_S64x4096_S64x128_0_1408 inb_S12x1024x128_S1x64x128_11_5_0_s_1_16_1 z,
    fun z => put10 arg3 harg3 x2 x1 x4 x5 10 5 1280 (by decide) (by decide) (by decide) inb_S64x4096_S64x128_0_1280 inb_S12x1024x128_S1x64x128_10_5_0_s_1_16_1 z,
    fun z => put10 arg3 harg3 x2 x1 x4 x5 11 4 1152 (by decide) (by decide) (by decide) inb_S64x4096_S64x128_0_1152 inb_S12x1024x128_S1x64x128_11_4_0_s_1_16_1 z,
    fun z => put10 arg3 harg3 x2 x1 x4 x5 10 4 1024 (by decide) (by decide) (by decide) inb_S64x4096_S64x128_0_1024 inb_S12x1024x128_S1x64x128_10_4_0_s_1_16_1 z,
    fun z => put10 arg3 harg3 x2 x1 x4 x5 11 3 896 (by decide) (by decide) (by decide) inb_S64x4096_S64x128_0_896 inb_S12x1024x128_S1x64x128_11_3_0_s_1_16_1 z,
    fun z => put10 arg3 harg3 x2 x1 x4 x5 10 3 768 (by decide) (by decide) (by decide) inb_S64x4096_S64x128_0_768 inb_S12x1024x128_S1x64x128_10_3_0_s_1_16_1 z,
    fun z => put10 arg3 harg3 x2 x1 x4 x5 11 2 640 (by decide) (by decide) (by decide) inb_S64x4096_S64x128_0_640 inb_S12x1024x128_S1x64x128_11_2_0_s_1_16_1 z,
    fun z => put10 arg3 harg3 x2 x1 x4 x5 10 2 512 (by decide) (by decide) (by decide) inb_S64x4096_S64x128_0_512 inb_S12x1024x128_S1x64x128_10_2_0_s_1_16_1 z,
    fun z => put10 arg3 harg3 x2 x1 x4 x5 11 1 384 (by decide) (by decide) (by decide) inb_S64x4096_S64x128_0_384 inb_S12x1024x128_S1x64x128_11_1_0_s_1_16_1 z,
    fun z => put10 arg3 harg3 x2 x1 x4 x5 10 1 256 (by decide) (by decide) (by decide) inb_S64x4096_S64x128_0_256 inb_S12x1024x128_S1x64x128_10_1_0_s_1_16_1 z,
    fun z => put10 arg3 harg3 x2 x1 x4 x5 11 0 128 (by decide) (by decide) (by decide) inb_S64x4096_S64x128_0_128 inb_S12x1024x128_S1x64x128_11_0_0_s_1_16_1 z,
    fun z => put10 arg3 harg3 x2 x1 x4 x5 10 0 0 (by decide) (by decide) (by decide) inb_S64x4096_S64x128_0_0 inb_S12x1024x128_S1x64x128_10_0_0_s_1_16_1 z,
    pieces48 c arg2 harg2 arg5 harg5 arg6 harg6 x1 x2 x4 x5⟩

/-- They cover plane 10. -/
theorem cover10 (i : Fin 1024) (j : Fin 128) :
    ∃ q ∈ kernelRun0_A.sl.HS0_80 (F := Ideal) c arg2 harg2 arg3 harg3 arg5 harg5 arg6 harg6 x1 x2 x4 x5, (ix3 ⟨10, by decide⟩ i j : S12x1024x128.Idx) ∈ q.1.set := by
  obtain h | h | h | h | h | h | h | h | h | h | h | h | h | h | h | h : i.val % 16 = 0 ∨ i.val % 16 = 1 ∨ i.val % 16 = 2 ∨ i.val % 16 = 3 ∨ i.val % 16 = 4 ∨ i.val % 16 = 5 ∨ i.val % 16 = 6 ∨ i.val % 16 = 7 ∨ i.val % 16 = 8 ∨ i.val % 16 = 9 ∨ i.val % 16 = 10 ∨ i.val % 16 = 11 ∨ i.val % 16 = 12 ∨ i.val % 16 = 13 ∨ i.val % 16 = 14 ∨ i.val % 16 = 15 := by omega
  · exact ⟨_, List.mem_of_getElem? (i := 31) rfl, mem16 10 0 inb_S12x1024x128_S1x64x128_10_0_0_s_1_16_1 _ i j rfl h⟩
  · exact ⟨_, List.mem_of_getElem? (i := 29) rfl, mem16 10 1 inb_S12x1024x128_S1x64x128_10_1_0_s_1_16_1 _ i j rfl h⟩
  · exact ⟨_, List.mem_of_getElem? (i := 27) rfl, mem16 10 2 inb_S12x1024x128_S1x64x128_10_2_0_s_1_16_1 _ i j rfl h⟩
  · exact ⟨_, List.mem_of_getElem? (i := 25) rfl, mem16 10 3 inb_S12x1024x128_S1x64x128_10_3_0_s_1_16_1 _ i j rfl h⟩
  · exact ⟨_, List.mem_of_getElem? (i := 23) rfl, mem16 10 4 inb_S12x1024x128_S1x64x128_10_4_0_s_1_16_1 _ i j rfl h⟩
  · exact ⟨_, List.mem_of_getElem? (i := 21) rfl, mem16 10 5 inb_S12x1024x128_S1x64x128_10_5_0_s_1_16_1 _ i j rfl h⟩
  · exact ⟨_, List.mem_of_getElem? (i := 19) rfl, mem16 10 6 inb_S12x1024x128_S1x64x128_10_6_0_s_1_16_1 _ i j rfl h⟩
  · exact ⟨_, List.mem_of_getElem? (i := 17) rfl, mem16 10 7 inb_S12x1024x128_S1x64x128_10_7_0_s_1_16_1 _ i j rfl h⟩
  · exact ⟨_, List.mem_of_getElem? (i := 15) rfl, mem16 10 8 inb_S12x1024x128_S1x64x128_10_8_0_s_1_16_1 _ i j rfl h⟩
  · exact ⟨_, List.mem_of_getElem? (i := 13) rfl, mem16 10 9 inb_S12x1024x128_S1x64x128_10_9_0_s_1_16_1 _ i j rfl h⟩
  · exact ⟨_, List.mem_of_getElem? (i := 11) rfl, mem16 10 10 inb_S12x1024x128_S1x64x128_10_10_0_s_1_16_1 _ i j rfl h⟩
  · exact ⟨_, List.mem_of_getElem? (i := 9) rfl, mem16 10 11 inb_S12x1024x128_S1x64x128_10_11_0_s_1_16_1 _ i j rfl h⟩
  · exact ⟨_, List.mem_of_getElem? (i := 7) rfl, mem16 10 12 inb_S12x1024x128_S1x64x128_10_12_0_s_1_16_1 _ i j rfl h⟩
  · exact ⟨_, List.mem_of_getElem? (i := 5) rfl, mem16 10 13 inb_S12x1024x128_S1x64x128_10_13_0_s_1_16_1 _ i j rfl h⟩
  · exact ⟨_, List.mem_of_getElem? (i := 3) rfl, mem16 10 14 inb_S12x1024x128_S1x64x128_10_14_0_s_1_16_1 _ i j rfl h⟩
  · exact ⟨_, List.mem_of_getElem? (i := 1) rfl, mem16 10 15 inb_S12x1024x128_S1x64x128_10_15_0_s_1_16_1 _ i j rfl h⟩

/-- They cover plane 11. -/
theorem cover11 (i : Fin 1024) (j : Fin 128) :
    ∃ q ∈ kernelRun0_A.sl.HS0_80 (F := Ideal) c arg2 harg2 arg3 harg3 arg5 harg5 arg6 harg6 x1 x2 x4 x5, (ix3 ⟨11, by decide⟩ i j : S12x1024x128.Idx) ∈ q.1.set := by
  obtain h | h | h | h | h | h | h | h | h | h | h | h | h | h | h | h : i.val % 16 = 0 ∨ i.val % 16 = 1 ∨ i.val % 16 = 2 ∨ i.val % 16 = 3 ∨ i.val % 16 = 4 ∨ i.val % 16 = 5 ∨ i.val % 16 = 6 ∨ i.val % 16 = 7 ∨ i.val % 16 = 8 ∨ i.val % 16 = 9 ∨ i.val % 16 = 10 ∨ i.val % 16 = 11 ∨ i.val % 16 = 12 ∨ i.val % 16 = 13 ∨ i.val % 16 = 14 ∨ i.val % 16 = 15 := by omega
  · exact ⟨_, List.mem_of_getElem? (i := 30) rfl, mem16 11 0 inb_S12x1024x128_S1x64x128_11_0_0_s_1_16_1 _ i j rfl h⟩
  · exact ⟨_, List.mem_of_getElem? (i := 28) rfl, mem16 11 1 inb_S12x1024x128_S1x64x128_11_1_0_s_1_16_1 _ i j rfl h⟩
  · exact ⟨_, List.mem_of_getElem? (i := 26) rfl, mem16 11 2 inb_S12x1024x128_S1x64x128_11_2_0_s_1_16_1 _ i j rfl h⟩
  · exact ⟨_, List.mem_of_getElem? (i := 24) rfl, mem16 11 3 inb_S12x1024x128_S1x64x128_11_3_0_s_1_16_1 _ i j rfl h⟩
  · exact ⟨_, List.mem_of_getElem? (i := 22) rfl, mem16 11 4 inb_S12x1024x128_S1x64x128_11_4_0_s_1_16_1 _ i j rfl h⟩
  · exact ⟨_, List.mem_of_getElem? (i := 20) rfl, mem16 11 5 inb_S12x1024x128_S1x64x128_11_5_0_s_1_16_1 _ i j rfl h⟩
  · exact ⟨_, List.mem_of_getElem? (i := 18) rfl, mem16 11 6 inb_S12x1024x128_S1x64x128_11_6_0_s_1_16_1 _ i j rfl h⟩
  · exact ⟨_, List.mem_of_getElem? (i := 16) rfl, mem16 11 7 inb_S12x1024x128_S1x64x128_11_7_0_s_1_16_1 _ i j rfl h⟩
  · exact ⟨_, List.mem_of_getElem? (i := 14) rfl, mem16 11 8 inb_S12x1024x128_S1x64x128_11_8_0_s_1_16_1 _ i j rfl h⟩
  · exact ⟨_, List.mem_of_getElem? (i := 12) rfl, mem16 11 9 inb_S12x1024x128_S1x64x128_11_9_0_s_1_16_1 _ i j rfl h⟩
  · exact ⟨_, List.mem_of_getElem? (i := 10) rfl, mem16 11 10 inb_S12x1024x128_S1x64x128_11_10_0_s_1_16_1 _ i j rfl h⟩
  · exact ⟨_, List.mem_of_getElem? (i := 8) rfl, mem16 11 11 inb_S12x1024x128_S1x64x128_11_11_0_s_1_16_1 _ i j rfl h⟩
  · exact ⟨_, List.mem_of_getElem? (i := 6) rfl, mem16 11 12 inb_S12x1024x128_S1x64x128_11_12_0_s_1_16_1 _ i j rfl h⟩
  · exact ⟨_, List.mem_of_getElem? (i := 4) rfl, mem16 11 13 inb_S12x1024x128_S1x64x128_11_13_0_s_1_16_1 _ i j rfl h⟩
  · exact ⟨_, List.mem_of_getElem? (i := 2) rfl, mem16 11 14 inb_S12x1024x128_S1x64x128_11_14_0_s_1_16_1 _ i j rfl h⟩
  · exact ⟨_, List.mem_of_getElem? (i := 0) rfl, mem16 11 15 inb_S12x1024x128_S1x64x128_11_15_0_s_1_16_1 _ i j rfl h⟩

end

end Cert.Layer.AttOutStage

end
-- ==== Proof.Layer.AttOutBlock.lean ====
/-
  What the body of the attention's output call stores for its 1024 rows: at every row, the weighted groups beside the memory
  heads, through the output projection.
-/
module

public import proofs.«01_k».proof.Proof.Gen.AttOutIdeal.Skeleton
public import proofs.«01_k».proof.Proof.Layer.AttOutMath

@[expose] public section

set_option maxRecDepth 16384

noncomputable section

open Idealize.ShloMosaic Idealize.ShloMosaic.TcCoe

namespace Cert.Layer.AttOutBlock

open Cert.AttOutIdeal Cert.AttOutIdeal.Gen Cert.Layer

/-- One eighth, in either width. -/
theorem eighth : Ideal.ofBits .bf16 0x3E00#16 = Ideal.ofBits .f32 0x3E000000#32 := by
  simp [Ideal.ofBits, Ideal.ieee, -EReal.coe_mul]
  norm_num

/-- The bits of minus infinity. -/
theorem minus_inf : Ideal.ofBits .f32 0xFF800000#32 = ⊥ := by
  simp [Ideal.ofBits, Ideal.ieee]

/-! ### The memory heads -/

/-- The mask of head 0's lanes. -/
theorem mask0 {α : Type} (r : Fin 1024) (l : Fin 256) (a b : α) :
    Scalar.select (k0_pay102 (ix2 r l)) a b = if l.val / 64 = 0 then a else b := by
  have h : ∀ l : Fin 256, IntOp.andi (IntOp.cmpi CmpIPredicate.sge (BitVec.ofNat 32 l.val) 0#32)
      (IntOp.cmpi CmpIPredicate.slt (BitVec.ofNat 32 l.val) 64#32) = if l.val / 64 = 0 then 1#1 else 0#1 := by decide +kernel
  have e : k0_pay102 (ix2 r l) = if l.val / 64 = 0 then 1#1 else 0#1 := by
    rw [← h l]; pointwise [k0_pay102]
  rw [e]
  by_cases hl : l.val / 64 = 0 <;> simp [hl, Scalar.select]

/-- The mask of head 1's lanes. -/
theorem mask1 {α : Type} (r : Fin 1024) (l : Fin 256) (a b : α) :
    Scalar.select (k0_pay103 (ix2 r l)) a b = if l.val / 64 = 1 then a else b := by
  have h : ∀ l : Fin 256, IntOp.andi (IntOp.cmpi CmpIPredicate.sge (BitVec.ofNat 32 l.val) 64#32)
      (IntOp.cmpi CmpIPredicate.slt (BitVec.ofNat 32 l.val) 128#32) = if l.val / 64 = 1 then 1#1 else 0#1 := by decide +kernel
  have e : k0_pay103 (ix2 r l) = if l.val / 64 = 1 then 1#1 else 0#1 := by
    rw [← h l]; pointwise [k0_pay103]
  rw [e]
  by_cases hl : l.val / 64 = 1 <;> simp [hl, Scalar.select]

/-- The mask of head 2's lanes. -/
theorem mask2 {α : Type} (r : Fin 1024) (l : Fin 256) (a b : α) :
    Scalar.select (k0_pay104 (ix2 r l)) a b = if l.val / 64 = 2 then a else b := by
  have h : ∀ l : Fin 256, IntOp.andi (IntOp.cmpi CmpIPredicate.sge (BitVec.ofNat 32 l.val) 128#32)
      (IntOp.cmpi CmpIPredicate.slt (BitVec.ofNat 32 l.val) 192#32) = if l.val / 64 = 2 then 1#1 else 0#1 := by decide +kernel
  have e : k0_pay104 (ix2 r l) = if l.val / 64 = 2 then 1#1 else 0#1 := by
    rw [← h l]; pointwise [k0_pay104]
  rw [e]
  by_cases hl : l.val / 64 = 2 <;> simp [hl, Scalar.select]

/-- The mask of head 3's lanes. -/
theorem mask3 {α : Type} (r : Fin 1024) (l : Fin 256) (a b : α) :
    Scalar.select (k0_pay105 (ix2 r l)) a b = if l.val / 64 = 3 then a else b := by
  have h : ∀ l : Fin 256, IntOp.andi (IntOp.cmpi CmpIPredicate.sge (BitVec.ofNat 32 l.val) 192#32)
      (IntOp.cmpi CmpIPredicate.slt (BitVec.ofNat 32 l.val) 256#32) = if l.val / 64 = 3 then 1#1 else 0#1 := by decide +kernel
  have e : k0_pay105 (ix2 r l) = if l.val / 64 = 3 then 1#1 else 0#1 := by
    rw [← h l]; pointwise [k0_pay105]
  rw [e]
  by_cases hl : l.val / 64 = 3 <;> simp [hl, Scalar.select]

section
variable (q : FVec Ideal S1024x256 .bf16) (k : FVec Ideal S256x256 .bf16) (r : Fin 1024)

/-- A masked product with the keys is a head's logits. -/
theorem logits_of (h : ℕ) (hh : h < 4) (j : Fin 256) (sel : Fin 256 → EReal → EReal → EReal)
    (hs : ∀ l a b, sel l a b = if l.val / 64 = h then a else b) :
    ∑ l : Fin 256, sel l (q (ix2 r l) * Ideal.ofBits .bf16 0x3E00#16 * k (ix2 j l)) 0
      = memLogits (fun l => at2 q r.val l) (fun j l => at2 k j l) h j := by
  refine memLogits_of h hh _ _ j _ fun l => ?_
  rw [hs, eighth, at2_eq q r l, at2_eq k j l]

/-- The probabilities of head 0. -/
theorem probs0 (j : Fin 256) : k0_pay108 (F := Ideal) k (k0_pay107 q) (constant S1024x256 .f32 0#32) (ix2 r j)
    = Ideal.div (keyWeight (memLogits (fun l => at2 q r.val l) (fun j l => at2 k j l) 0) j)
        (rowDen (memLogits (fun l => at2 q r.val l) (fun j l => at2 k j l) 0)) := by
  have e := fun j => logits_of q k r 0 (by omega) j (fun l a b => Scalar.select (k0_pay102 (ix2 r l)) a b) fun l a b => mask0 r l a b
  pointwise [k0_pay108, k0_pay107, k0_pay106]
  simp only [e, minus_inf, keyWeight, rowDen, topLogit]

/-- The probabilities of head 1. -/
theorem probs1 (j : Fin 256) : k0_pay109 (F := Ideal) k k0_pay103 (k0_pay106 q) (ix2 r j)
    = Ideal.div (keyWeight (memLogits (fun l => at2 q r.val l) (fun j l => at2 k j l) 1) j)
        (rowDen (memLogits (fun l => at2 q r.val l) (fun j l => at2 k j l) 1)) := by
  have e := fun j => logits_of q k r 1 (by omega) j (fun l a b => Scalar.select (k0_pay103 (ix2 r l)) a b) fun l a b => mask1 r l a b
  pointwise [k0_pay109, k0_pay106]
  simp only [e, minus_inf, keyWeight, rowDen, topLogit]

/-- The probabilities of head 2. -/
theorem probs2 (j : Fin 256) : k0_pay110 (F := Ideal) k k0_pay104 (k0_pay106 q) (ix2 r j)
    = Ideal.div (keyWeight (memLogits (fun l => at2 q r.val l) (fun j l => at2 k j l) 2) j)
        (rowDen (memLogits (fun l => at2 q r.val l) (fun j l => at2 k j l) 2)) := by
  have e := fun j => logits_of q k r 2 (by omega) j (fun l a b => Scalar.select (k0_pay104 (ix2 r l)) a b) fun l a b => mask2 r l a b
  pointwise [k0_pay110, k0_pay106]
  simp only [e, minus_inf, keyWeight, rowDen, topLogit]

/-- The weights of head 3. -/
theorem weights3 (j : Fin 256) : k0_pay111 (F := Ideal) k k0_pay105 (k0_pay106 q) (ix2 r j)
    = keyWeight (memLogits (fun l => at2 q r.val l) (fun j l => at2 k j l) 3) j := by
  have e := fun j => logits_of q k r 3 (by omega) j (fun l a b => Scalar.select (k0_pay105 (ix2 r l)) a b) fun l a b => mask3 r l a b
  pointwise [k0_pay111, k0_pay106]
  simp only [e, minus_inf, keyWeight, topLogit]

/-- Their sum. -/
theorem total3 : k0_pay112 (F := Ideal) k k0_pay105 (k0_pay106 q) (ix1 r)
    = rowDen (memLogits (fun l => at2 q r.val l) (fun j l => at2 k j l) 3) := by
  unfold rowDen
  simp only [← weights3]
  pointwise [k0_pay112]

end

/-! ### The groups -/

section
variable (a b c o : FVec Ideal S1024x256 .f32) (r : Fin 1024) (l : Fin 256)

/-- Group 0, weighted. -/
theorem group0 : k0_pay97 (F := Ideal) o (k0_pay93 a b c) (k0_pay94 a b c) (k0_pay95 a b c) (ix2 r l)
    = o (ix2 r l) * share (a (ix2 r l)) (b (ix2 r l)) (c (ix2 r l)) (a (ix2 r l)) := by
  unfold share
  pointwise [k0_pay97, k0_pay96, k0_pay95, k0_pay94, k0_pay93, k0_pay92]

/-- Group 1, weighted. -/
theorem group1 : k0_pay98 (F := Ideal) o (k0_pay93 a b c) (k0_pay94 a b c) (k0_pay95 a b c) (ix2 r l)
    = o (ix2 r l) * share (a (ix2 r l)) (b (ix2 r l)) (c (ix2 r l)) (b (ix2 r l)) := by
  unfold share
  pointwise [k0_pay98, k0_pay96, k0_pay95, k0_pay94, k0_pay93, k0_pay92]

/-- Group 2, weighted. -/
theorem group2 : k0_pay99 (F := Ideal) o (k0_pay93 a b c) (k0_pay94 a b c) (k0_pay95 a b c) (ix2 r l)
    = o (ix2 r l) * share (a (ix2 r l)) (b (ix2 r l)) (c (ix2 r l)) (c (ix2 r l)) := by
  unfold share
  pointwise [k0_pay99, k0_pay96, k0_pay95, k0_pay94, k0_pay93, k0_pay92]

end

/-! ### All of it -/

/-- The last step at a row and a lane: the groups and the memory heads side by side, through the output projection. -/
theorem last_apply (x : FVec Ideal S1024x1024 .f32) (p0 p1 p2 : FVec Ideal S1024x256 .bf16)
    (v : FVec Ideal S256x256 .bf16) (m0 m1 m2 : IVec S1024x256 1) (e0 e1 e2 : FVec Ideal S1024x256 .bf16)
    (w3 : FVec Ideal S1024x256 .f32) (t3 : FVec Ideal S1024 .f32) (w : FVec Ideal S1024x1024 .bf16)
    (g : FVec Ideal S1x1024 .f32) (r l : Fin 1024) :
    k0_pay1 (F := Ideal) x (k0_pay113 g) (k0_pay114 p0 p1 p2 v m0 m1 m2 e0 e1 e2 w3 t3 w) (ix2 r l)
      = x (ix2 r l) + rmsRow (fun n => ∑ f : Fin 1024, four (fun l => p0 (ix2 r l)) (fun l => p1 (ix2 r l)) (fun l => p2 (ix2 r l))
          (fun l => Scalar.select (m2 (ix2 r l)) (∑ j : Fin 256, e2 (ix2 r j) * v (ix2 j l))
            (Scalar.select (m1 (ix2 r l)) (∑ j : Fin 256, e1 (ix2 r j) * v (ix2 j l))
              (Scalar.select (m0 (ix2 r l)) (∑ j : Fin 256, e0 (ix2 r j) * v (ix2 j l))
                (∑ j : Fin 256, Ideal.div (w3 (ix2 r j)) (t3 (ix1 r)) * v (ix2 j l))))) f
          * w (ix2 f n)) (fun k => g (ix2 0 k)) l := by
  pointwise [k0_pay1, k0_pay113, k0_pay114]
  simp only [four, rmsRow]

end Cert.Layer.AttOutBlock

end
-- ==== Proof.Layer.AttOutStore.lean ====
/-
  What one grid point of the attention's output call leaves in its output: one store of the whole block, every entry of which
  is the attention's output at that row and lane.
-/
module

public import proofs.«01_k».proof.Proof.Layer.AttOutStage
public import proofs.«01_k».proof.Proof.Layer.AttOutBlock

@[expose] public section

set_option maxRecDepth 65536

noncomputable section

open Idealize.ShloMosaic Idealize.ShloMosaic.TcCoe Idealize.SL.Sem

namespace Cert.Layer.AttOutStore

open Cert.AttOutIdeal Cert.AttOutIdeal.Gen Cert.Layer Cert.Layer.AttOutBlock Cert.Layer.AttOutStage

/-- A load of a whole matrix is the matrix. -/
theorem load_matrix {n d : ℕ} {e : EltTy} {κ : Kind} {sp : Space} (a : Memref sig κ sp (⟨2, ![n, d]⟩ : Shape) e) (h : a.IsWhole)
    (X : (⟨2, ![n, d]⟩ : Shape).Idx → Elt Ideal e) (inb : ∀ a, (![0, 0] : Fin 2 → ℕ) a + (![n, d] : Fin 2 → ℕ) a ≤ (⟨2, ![n, d]⟩ : Shape).size a) :
    View.readAt (Elt Ideal) a.view (Rect.unit (s := (⟨2, ![n, d]⟩ : Shape)) ![0, 0] ![n, d] inb).toLoadRect (h.unread X) = X := by
  funext y
  refine (Memref.IsWhole.readAt_unread (Val := Elt Ideal) h X _ _).trans (congrArg X (funext fun j => Fin.ext ?_))
  fin_cases j
  · show 0 + 1 * (y 0).val = (y 0).val
    omega
  · show 0 + 1 * (y 1).val = (y 1).val
    omega

/-- A load of a whole stack of matrices is the stack. -/
theorem load_stack {n d f : ℕ} {e : EltTy} {κ : Kind} {sp : Space} (a : Memref sig κ sp (⟨3, ![n, d, f]⟩ : Shape) e) (h : a.IsWhole)
    (X : (⟨3, ![n, d, f]⟩ : Shape).Idx → Elt Ideal e)
    (inb : ∀ a, (![0, 0, 0] : Fin 3 → ℕ) a + (![n, d, f] : Fin 3 → ℕ) a ≤ (⟨3, ![n, d, f]⟩ : Shape).size a) :
    View.readAt (Elt Ideal) a.view (Rect.unit (s := (⟨3, ![n, d, f]⟩ : Shape)) ![0, 0, 0] ![n, d, f] inb).toLoadRect (h.unread X) = X := by
  funext y
  refine (Memref.IsWhole.readAt_unread (Val := Elt Ideal) h X _ _).trans (congrArg X (funext fun j => Fin.ext ?_))
  fin_cases j
  · show 0 + 1 * (y 0).val = (y 0).val
    omega
  · show 0 + 1 * (y 1).val = (y 1).val
    omega
  · show 0 + 1 * (y 2).val = (y 2).val
    omega

/-- The tokens of rows of `d`, a token a row. -/
def tokens {n0 n1 : ℕ} (d : ℕ) (X : (⟨2, ![n0, n1]⟩ : Shape).Idx → EReal) : FVec Ideal S1024x256 .f32 :=
  fun y => tok d X (y 0).val (y 1).val

/-- Two planes side by side. -/
theorem beside (a b : FVec Ideal S1x1024x128 .f32) (i : Fin 1024) (l : Fin 256) :
    k0_pay10 (F := Ideal) a b (ix2 i l) = if h : l.val < 128 then a (ix3 0 i ⟨l.val, h⟩) else b (ix3 0 i ⟨l.val - 128, by omega⟩) := by
  pointwise [k0_pay10]

/-- Two planes that hold a group's lane tiles are the group's tokens. -/
theorem tokens_of {n0 n1 : ℕ} (d : ℕ) (X : (⟨2, ![n0, n1]⟩ : Shape).Idx → EReal) (a b : FVec Ideal S1x1024x128 .f32)
    (ha : ∀ (i : Fin 1024) (j : Fin 128), a (ix3 0 i j) = tok d X i.val (128 * 0 + j.val))
    (hb : ∀ (i : Fin 1024) (j : Fin 128), b (ix3 0 i j) = tok d X i.val (128 * 1 + j.val)) :
    k0_pay10 (F := Ideal) a b = tokens d X := by
  funext y
  idx_vars y
  refine (beside a b y0 y1).trans ?_
  show _ = tok d X y0.val y1.val
  split_ifs with h
  · exact (ha _ _).trans (congrArg (tok d X y0.val) (by show 128 * 0 + y1.val = _; omega))
  · exact (hb _ _).trans (congrArg (tok d X y0.val) (by show 128 * 1 + (y1.val - 128) = _; omega))

section
variable (c : Dev nD)
variable (arg2 : Memref sig .tc .vmem S256x1024 .bf16) (harg2 : arg2.IsWhole) (arg3 : Memref sig .tc .vmem S64x4096 .bf16) (harg3 : arg3.IsWhole)
variable (arg5 : Memref sig .tc .vmem S256x1024 .f32) (harg5 : arg5.IsWhole) (arg6 : Memref sig .tc .vmem S64x4096 .f32) (harg6 : arg6.IsWhole)
variable (arg14 : Memref sig .tc .vmem S12x1024x128 .f32)
variable (x1 : FVec Ideal S256x1024 .bf16) (x2 : FVec Ideal S64x4096 .bf16) (x4 : FVec Ideal S256x1024 .f32) (x5 : FVec Ideal S64x4096 .f32)

include x1 x2 x5 in
/-- The second group's logs, read back. -/
theorem read4 : kernelRun0_A.sl.v37 (F := Ideal) c arg5 harg5 arg14 x4 = tokens 4 x4 :=
  tokens_of 4 x4 (kernelRun0_A.sl.v33 (F := Ideal) c arg5 harg5 arg14 x4) (kernelRun0_A.sl.v35 (F := Ideal) c arg5 harg5 arg14 x4)
    (fun i j => (got arg14.view (kernelRun0_A.sl.HS0_8 (F := Ideal) c arg5 harg5 x4) (plane x1 x2 x4 x5) (pieces8 c arg5 harg5 x1 x2 x4 x5) 4 (by decide)
      inb_S12x1024x128_S1x1024x128_4_0_0 (cover4 c arg5 harg5 x4) i j).trans (if_pos (by show (4 : ℕ) < 6; decide)))
    (fun i j => (got arg14.view (kernelRun0_A.sl.HS0_8 (F := Ideal) c arg5 harg5 x4) (plane x1 x2 x4 x5) (pieces8 c arg5 harg5 x1 x2 x4 x5) 5 (by decide)
      inb_S12x1024x128_S1x1024x128_5_0_0 (cover5 c arg5 harg5 x4) i j).trans (if_pos (by show (5 : ℕ) < 6; decide)))

include x1 x2 in
/-- The third group's logs, read back. -/
theorem read8 : kernelRun0_A.sl.r_7 (F := Ideal) c arg5 harg5 arg6 harg6 arg14 x4 x5 = tokens 16 x5 :=
  tokens_of 16 x5 (kernelRun0_A.sl.v166 (F := Ideal) c arg5 harg5 arg6 harg6 arg14 x4 x5) (kernelRun0_A.sl.v168 (F := Ideal) c arg5 harg5 arg6 harg6 arg14 x4 x5)
    (fun i j => (got arg14.view (kernelRun0_A.sl.HS0_40 (F := Ideal) c arg5 harg5 arg6 harg6 x4 x5) (plane x1 x2 x4 x5) (pieces40 c arg5 harg5 arg6 harg6 x1 x2 x4 x5) 8 (by decide)
      inb_S12x1024x128_S1x1024x128_8_0_0 (cover8 c arg5 harg5 arg6 harg6 x4 x5) i j).trans ((if_neg (by show ¬ (8 : ℕ) < 6; decide)).trans ((if_neg (by show ¬ (8 : ℕ) < 8; decide)).trans (if_pos (by show (8 : ℕ) < 10; decide)))))
    (fun i j => (got arg14.view (kernelRun0_A.sl.HS0_40 (F := Ideal) c arg5 harg5 arg6 harg6 x4 x5) (plane x1 x2 x4 x5) (pieces40 c arg5 harg5 arg6 harg6 x1 x2 x4 x5) 9 (by decide)
      inb_S12x1024x128_S1x1024x128_9_0_0 (cover9 c arg5 harg5 arg6 harg6 x4 x5) i j).trans ((if_neg (by show ¬ (9 : ℕ) < 6; decide)).trans ((if_neg (by show ¬ (9 : ℕ) < 8; decide)).trans (if_pos (by show (9 : ℕ) < 10; decide)))))

include x2 in
/-- The second group's outputs, read back. -/
theorem read6 : kernelRun0_A.sl.r_10 (F := Ideal) c arg2 harg2 arg5 harg5 arg6 harg6 arg14 x1 x4 x5 = tokens 4 x1 :=
  tokens_of 4 x1 (kernelRun0_A.sl.v213 (F := Ideal) c arg2 harg2 arg5 harg5 arg6 harg6 arg14 x1 x4 x5) (kernelRun0_A.sl.v215 (F := Ideal) c arg2 harg2 arg5 harg5 arg6 harg6 arg14 x1 x4 x5)
    (fun i j => (got arg14.view (kernelRun0_A.sl.HS0_48 (F := Ideal) c arg2 harg2 arg5 harg5 arg6 harg6 x1 x4 x5) (plane x1 x2 x4 x5) (pieces48 c arg2 harg2 arg5 harg5 arg6 harg6 x1 x2 x4 x5) 6 (by decide)
      inb_S12x1024x128_S1x1024x128_6_0_0 (cover6 c arg2 harg2 arg5 harg5 arg6 harg6 x1 x4 x5) i j).trans ((if_neg (by show ¬ (6 : ℕ) < 6; decide)).trans (if_pos (by show (6 : ℕ) < 8; decide))))
    (fun i j => (got arg14.view (kernelRun0_A.sl.HS0_48 (F := Ideal) c arg2 harg2 arg5 harg5 arg6 harg6 x1 x4 x5) (plane x1 x2 x4 x5) (pieces48 c arg2 harg2 arg5 harg5 arg6 harg6 x1 x2 x4 x5) 7 (by decide)
      inb_S12x1024x128_S1x1024x128_7_0_0 (cover7 c arg2 harg2 arg5 harg5 arg6 harg6 x1 x4 x5) i j).trans ((if_neg (by show ¬ (7 : ℕ) < 6; decide)).trans (if_pos (by show (7 : ℕ) < 8; decide))))

/-- The third group's outputs, read back. -/
theorem read10 : kernelRun0_A.sl.r_16 (F := Ideal) c arg2 harg2 arg3 harg3 arg5 harg5 arg6 harg6 arg14 x1 x2 x4 x5 = tokens 16 x2 :=
  tokens_of 16 x2 (kernelRun0_A.sl.v378 (F := Ideal) c arg2 harg2 arg3 harg3 arg5 harg5 arg6 harg6 arg14 x1 x2 x4 x5) (kernelRun0_A.sl.v380 (F := Ideal) c arg2 harg2 arg3 harg3 arg5 harg5 arg6 harg6 arg14 x1 x2 x4 x5)
    (fun i j => (got arg14.view (kernelRun0_A.sl.HS0_80 (F := Ideal) c arg2 harg2 arg3 harg3 arg5 harg5 arg6 harg6 x1 x2 x4 x5) (plane x1 x2 x4 x5) (pieces80 c arg2 harg2 arg3 harg3 arg5 harg5 arg6 harg6 x1 x2 x4 x5) 10 (by decide)
      inb_S12x1024x128_S1x1024x128_10_0_0 (cover10 c arg2 harg2 arg3 harg3 arg5 harg5 arg6 harg6 x1 x2 x4 x5) i j).trans ((if_neg (by show ¬ (10 : ℕ) < 6; decide)).trans ((if_neg (by show ¬ (10 : ℕ) < 8; decide)).trans (if_neg (by show ¬ (10 : ℕ) < 10; decide)))))
    (fun i j => (got arg14.view (kernelRun0_A.sl.HS0_80 (F := Ideal) c arg2 harg2 arg3 harg3 arg5 harg5 arg6 harg6 x1 x2 x4 x5) (plane x1 x2 x4 x5) (pieces80 c arg2 harg2 arg3 harg3 arg5 harg5 arg6 harg6 x1 x2 x4 x5) 11 (by decide)
      inb_S12x1024x128_S1x1024x128_11_0_0 (cover11 c arg2 harg2 arg3 harg3 arg5 harg5 arg6 harg6 x1 x2 x4 x5) i j).trans ((if_neg (by show ¬ (11 : ℕ) < 6; decide)).trans ((if_neg (by show ¬ (11 : ℕ) < 8; decide)).trans (if_neg (by show ¬ (11 : ℕ) < 10; decide)))))

end

section
variable (x0 : FVec Ideal S1024x256 .bf16) (x1 : FVec Ideal S256x1024 .bf16) (x2 : FVec Ideal S64x4096 .bf16) (x3 : FVec Ideal S1024x256 .f32)
variable (x4 : FVec Ideal S256x1024 .f32) (x5 : FVec Ideal S64x4096 .f32) (x6 : FVec Ideal S1024x256 .bf16) (x7 x8 : FVec Ideal S1x256x256 .bf16)
variable (x9 : FVec Ideal S1024x1024 .f32) (x10 : FVec Ideal S1024x1024 .bf16) (x11 : FVec Ideal S1x1024 .f32)

/-- The block the point stores. -/
def stored : FVec Ideal S1024x1024 .f32 :=
  k0_pay1 x9 (k0_pay113 x11) (k0_pay114
    (k0_pay97 (k0_pay45 x0) (k0_pay93 x3 (tokens 4 x4) (tokens 16 x5)) (k0_pay94 x3 (tokens 4 x4) (tokens 16 x5)) (k0_pay95 x3 (tokens 4 x4) (tokens 16 x5)))
    (k0_pay98 (tokens 4 x1) (k0_pay93 x3 (tokens 4 x4) (tokens 16 x5)) (k0_pay94 x3 (tokens 4 x4) (tokens 16 x5)) (k0_pay95 x3 (tokens 4 x4) (tokens 16 x5)))
    (k0_pay99 (tokens 16 x2) (k0_pay93 x3 (tokens 4 x4) (tokens 16 x5)) (k0_pay94 x3 (tokens 4 x4) (tokens 16 x5)) (k0_pay95 x3 (tokens 4 x4) (tokens 16 x5)))
    (k0_pay101 x8) k0_pay102 k0_pay103 k0_pay104 (k0_pay108 (k0_pay100 x7) (k0_pay107 x6) (constant S1024x256 .f32 0#32))
    (k0_pay109 (k0_pay100 x7) k0_pay103 (k0_pay106 x6)) (k0_pay110 (k0_pay100 x7) k0_pay104 (k0_pay106 x6))
    (k0_pay111 (k0_pay100 x7) k0_pay105 (k0_pay106 x6)) (k0_pay112 (k0_pay100 x7) k0_pay105 (k0_pay106 x6)) x10)

/-- The memory's keys. -/
theorem keys_apply (j l : Fin 256) : k0_pay100 (F := Ideal) x7 (ix2 j l) = at3 x7 0 j.val l.val := by
  refine Eq.trans ?_ (at3_eq x7 0 j l)
  pointwise [k0_pay100]

/-- The memory's values. -/
theorem values_apply (j l : Fin 256) : k0_pay101 (F := Ideal) x8 (ix2 j l) = at3 x8 0 j.val l.val := by
  refine Eq.trans ?_ (at3_eq x8 0 j l)
  pointwise [k0_pay101]

/-- The first group's outputs. -/
theorem first_apply (r : Fin 1024) (l : Fin 256) : k0_pay45 (F := Ideal) x0 (ix2 r l) = at2 x0 r.val l.val := by
  refine Eq.trans ?_ (at2_eq x0 r l)
  pointwise [k0_pay45]

/-- The stored block at a row and a lane. -/
theorem stored_apply (r l : Fin 1024) : stored x0 x1 x2 x3 x4 x5 x6 x7 x8 x9 x10 x11 (ix2 r l)
    = outRow (fun l => at2 x9 r.val l)
        (besideRow (mixRow (fun l => at2 x0 r.val l) (tok 4 x1 r.val) (tok 16 x2 r.val) (fun l => at2 x3 r.val l) (tok 4 x4 r.val) (tok 16 x5 r.val))
          (memRow (fun l => at2 x6 r.val l) (fun j l => at3 x7 0 j l) (fun j l => at3 x8 0 j l)))
        (fun f n => at2 x10 f n) (fun l => at2 x11 0 l) l := by
  unfold stored
  refine (last_apply x9 _ _ _ _ _ _ _ _ _ _ _ _ x10 x11 r l).trans ?_
  unfold outRow
  rw [at2_eq x9 r l, show (fun k : Fin 1024 => x11 (ix2 0 k)) = fun k => at2 x11 0 k.val from funext fun k => at2_eq x11 0 k]
  refine congrArg (fun y => at2 x9 r.val l.val + rmsRow y (fun k => at2 x11 0 k.val) l) (funext fun n => Finset.sum_congr rfl fun f _ => ?_)
  refine congrArg₂ (· * ·) (four_eq _ _ _ _ _ _ _ _ (fun l => ?_) (fun l => ?_) (fun l => ?_) (fun l => ?_) f) (at2_eq x10 f n)
  · refine (group0 _ _ _ _ r l).trans ?_
    rw [first_apply, at2_eq x3 r l]
    rfl
  · refine (group1 _ _ _ _ r l).trans ?_
    rw [at2_eq x3 r l]
    rfl
  · refine (group2 _ _ _ _ r l).trans ?_
    rw [at2_eq x3 r l]
    rfl
  · rw [mask0, mask1, mask2]
    simp only [probs0, probs1, probs2, weights3, total3, values_apply]
    refine (memRow_choice _ _ (fun j l => at3 x8 0 j l) l _ _ _ _ rfl rfl rfl rfl).trans ?_
    exact memRow_congr (fun _ _ => rfl)
      (fun j l hj hl => (at2_eq (k0_pay100 (F := Ideal) x7) ⟨j, hj⟩ ⟨l, hl⟩).symm.trans (keys_apply x7 ⟨j, hj⟩ ⟨l, hl⟩)) (fun _ _ _ _ => rfl) l.val l.isLt

end

section
variable (c : Dev nD) (i : grid0.Coords)
variable (arg1 : Memref sig .tc .vmem S1024x256 .bf16) (harg1 : arg1.IsWhole)
variable (arg2 : Memref sig .tc .vmem S256x1024 .bf16) (harg2 : arg2.IsWhole)
variable (arg3 : Memref sig .tc .vmem S64x4096 .bf16) (harg3 : arg3.IsWhole)
variable (arg4 : Memref sig .tc .vmem S1024x256 .f32) (harg4 : arg4.IsWhole)
variable (arg5 : Memref sig .tc .vmem S256x1024 .f32) (harg5 : arg5.IsWhole)
variable (arg6 : Memref sig .tc .vmem S64x4096 .f32) (harg6 : arg6.IsWhole)
variable (arg7 : Memref sig .tc .vmem S1024x256 .bf16) (harg7 : arg7.IsWhole)
variable (arg8 : Memref sig .tc .vmem S1x256x256 .bf16) (harg8 : arg8.IsWhole)
variable (arg9 : Memref sig .tc .vmem S1x256x256 .bf16) (harg9 : arg9.IsWhole)
variable (arg10 : Memref sig .tc .vmem S1024x1024 .f32) (harg10 : arg10.IsWhole)
variable (arg11 : Memref sig .tc .vmem S1024x1024 .bf16) (harg11 : arg11.IsWhole)
variable (arg12 : Memref sig .tc .vmem S1x1024 .f32) (harg12 : arg12.IsWhole)
variable (arg13 : Memref sig .tc .vmem S1024x1024 .f32) (harg13 : arg13.IsWhole)
variable (arg14 : Memref sig .tc .vmem S12x1024x128 .f32) (harg14 : arg14.IsWhole)
variable (x0 : FVec Ideal S1024x256 .bf16) (x1 : FVec Ideal S256x1024 .bf16) (x2 : FVec Ideal S64x4096 .bf16) (x3 : FVec Ideal S1024x256 .f32)
variable (x4 : FVec Ideal S256x1024 .f32) (x5 : FVec Ideal S64x4096 .f32) (x6 : FVec Ideal S1024x256 .bf16) (x7 x8 : FVec Ideal S1x256x256 .bf16)
variable (x9 : FVec Ideal S1024x1024 .f32) (x10 : FVec Ideal S1024x1024 .bf16) (x11 : FVec Ideal S1x1024 .f32)

/-- The output is one store. -/
theorem out12 (y : S1024x1024.Idx) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 y = stored x0 x1 x2 x3 x4 x5 x6 x7 x8 x9 x10 x11 y := by
  have e1 := load_matrix arg1 harg1 x0 inb_S1024x256_S1024x256_0_0
  have e4 := load_matrix arg4 harg4 x3 inb_S1024x256_S1024x256_0_0
  have e7 := load_matrix arg7 harg7 x6 inb_S1024x256_S1024x256_0_0
  have e8 := load_stack arg8 harg8 x7 inb_S1x256x256_S1x256x256_0_0_0
  have e9 := load_stack arg9 harg9 x8 inb_S1x256x256_S1x256x256_0_0_0
  have e10 := load_matrix arg10 harg10 x9 inb_S1024x1024_S1024x1024_0_0
  have e11 := load_matrix arg11 harg11 x10 inb_S1024x1024_S1024x1024_0_0
  have e12 := load_matrix arg12 harg12 x11 inb_S1x1024_S1x1024_0_0
  have s4 := read4 c arg5 harg5 arg14 x1 x2 x4 x5
  have s8 := read8 c arg5 harg5 arg6 harg6 arg14 x1 x2 x4 x5
  have s6 := read6 c arg2 harg2 arg5 harg5 arg6 harg6 arg14 x1 x2 x4 x5
  have s10 := read10 c arg2 harg2 arg3 harg3 arg5 harg5 arg6 harg6 arg14 x1 x2 x4 x5
  unfold out0_A_12
  refine View.read_writes_apply_of_pieces VO0_12 VO0_12.junk (stored x0 x1 x2 x3 x4 x5 x6 x7 x8 x9 x10 x11) _
    (fun q hq => View.PiecesOf.mem (Val := Elt Ideal) ?_ q hq) y
    (cover0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 y)
  unfold kernelRun0_A
  dsimp only
  simp only [kernelRun0_A.sl.r, kernelRun0_A.sl.r_8, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34]
  rw [s4, s8, s6, s10, e1, e4, e7, e8, e9, e10, e11, e12]
  refine ⟨fun z => congrArg (stored x0 x1 x2 x3 x4 x5 x6 x7 x8 x9 x10 x11) (funext fun j => Fin.ext ?_), trivial⟩
  fin_cases j
  · show (z 0).val = 0 + 1 * (z 0).val
    omega
  · show (z 1).val = 0 + 1 * (z 1).val
    omega

end

end Cert.Layer.AttOutStore

end
-- ==== Proof.Layer.AttOutValue.lean ====
/-
  The attention's output after a run of the kernel: every entry is the attention's output at that row and lane.
-/
module

public import proofs.«01_k».proof.Proof.Gen.AttOutIdeal.Value
public import proofs.«01_k».proof.Proof.Layer.AttOutStore
public import Idealize.ShloMosaic.Lib.Pipeline.ValueKit
public import Idealize.ShloMosaic.Lib.StableHlo.ReadAt

@[expose] public section

set_option maxRecDepth 65536

noncomputable section

open Idealize.ShloMosaic Idealize.ShloMosaic.TcCoe Idealize.SL.Sem
open Idealize.ShloMosaic.Pipeline (Dat)

namespace Cert.Layer.AttOutValue

open Cert.AttOutIdeal Cert.AttOutIdeal.Gen Cert.Layer Cert.Layer.AttOutStore

/-- Where each window's block sits: the point's rows of the groups, of the queries, of the input and of the output, the
    point's sequence of the memory, everything else whole. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val / 4, 0, 0] ∧ win0_8.index t = ![t.val / 4, 0, 0] ∧ win0_9.index t = ![t.val, 0]
    ∧ win0_10.index t = ![0, 0] ∧ win0_11.index t = ![0, 0] ∧ win0_12.index t = ![t.val, 0] :=
  (by decide +kernel : ∀ t : Fin grid0.N, _)

variable (m : (ℓ : Loc nD τ sig) → Buf (Elt Ideal) ℓ)

/-- The gain, as the host lays it out. -/
theorem gain_last (c : Dev nD) (k : Fin 1024) : V m c main_v1 (ix2 0 k) = m ((c : Thread nD τ).loc main_arg11) (ix1 k) := by
  unfold V
  after_reads_at

/-- The output weights, rounded. -/
theorem weights_out (c : Dev nD) (k l : Fin 1024) :
    V m c main_v0 (ix2 k l) = m ((c : Thread nD τ).loc main_arg10) (ix2 k l) := by
  unfold V
  after_reads_at

/-- A point's block of the first group's outputs. -/
theorem block_0 (c : Dev nD) (t : Fin cfg0.N) (r : Fin 1024) (k : ℕ) (hk : k < 256) :
    at2 (n0 := 1024) (n1 := 256) (iblk m c 0 t) r.val k
      = at2 (n0 := 32768) (n1 := 256) (m ((c : Thread nD τ).loc main_arg0)) (t.val * 1024 + r.val) k := by
  have ht : t.val < 32 := lt_of_lt_of_eq t.isLt (by decide +kernel)
  refine (at2_eq (n0 := 1024) (n1 := 256) (iblk m c 0 t) r ⟨k, hk⟩).symm.trans ?_
  refine Eq.trans ?_ (at2_eq (n0 := 32768) (n1 := 256) (m ((c : Thread nD τ).loc main_arg0)) ⟨t.val * 1024 + r.val, by omega⟩ ⟨k, hk⟩)
  blk_point [iblk, V, idx t]

/-- A point's block of the second group's outputs. -/
theorem block_1 (c : Dev nD) (t : Fin cfg0.N) (r : Fin 256) (k : ℕ) (hk : k < 1024) :
    at2 (n0 := 256) (n1 := 1024) (iblk m c 1 t) r.val k
      = at2 (n0 := 8192) (n1 := 1024) (m ((c : Thread nD τ).loc main_arg1)) (t.val * 256 + r.val) k := by
  have ht : t.val < 32 := lt_of_lt_of_eq t.isLt (by decide +kernel)
  refine (at2_eq (n0 := 256) (n1 := 1024) (iblk m c 1 t) r ⟨k, hk⟩).symm.trans ?_
  refine Eq.trans ?_ (at2_eq (n0 := 8192) (n1 := 1024) (m ((c : Thread nD τ).loc main_arg1)) ⟨t.val * 256 + r.val, by omega⟩ ⟨k, hk⟩)
  blk_point [iblk, V, idx t]

/-- A point's block of the third group's outputs. -/
theorem block_2 (c : Dev nD) (t : Fin cfg0.N) (r : Fin 64) (k : ℕ) (hk : k < 4096) :
    at2 (n0 := 64) (n1 := 4096) (iblk m c 2 t) r.val k
      = at2 (n0 := 2048) (n1 := 4096) (m ((c : Thread nD τ).loc main_arg2)) (t.val * 64 + r.val) k := by
  have ht : t.val < 32 := lt_of_lt_of_eq t.isLt (by decide +kernel)
  refine (at2_eq (n0 := 64) (n1 := 4096) (iblk m c 2 t) r ⟨k, hk⟩).symm.trans ?_
  refine Eq.trans ?_ (at2_eq (n0 := 2048) (n1 := 4096) (m ((c : Thread nD τ).loc main_arg2)) ⟨t.val * 64 + r.val, by omega⟩ ⟨k, hk⟩)
  blk_point [iblk, V, idx t]

/-- A point's block of the first group's logs. -/
theorem block_3 (c : Dev nD) (t : Fin cfg0.N) (r : Fin 1024) (k : ℕ) (hk : k < 256) :
    at2 (n0 := 1024) (n1 := 256) (iblk m c 3 t) r.val k
      = at2 (n0 := 32768) (n1 := 256) (m ((c : Thread nD τ).loc main_arg3)) (t.val * 1024 + r.val) k := by
  have ht : t.val < 32 := lt_of_lt_of_eq t.isLt (by decide +kernel)
  refine (at2_eq (n0 := 1024) (n1 := 256) (iblk m c 3 t) r ⟨k, hk⟩).symm.trans ?_
  refine Eq.trans ?_ (at2_eq (n0 := 32768) (n1 := 256) (m ((c : Thread nD τ).loc main_arg3)) ⟨t.val * 1024 + r.val, by omega⟩ ⟨k, hk⟩)
  blk_point [iblk, V, idx t]

/-- A point's block of the second group's logs. -/
theorem block_4 (c : Dev nD) (t : Fin cfg0.N) (r : Fin 256) (k : ℕ) (hk : k < 1024) :
    at2 (n0 := 256) (n1 := 1024) (iblk m c 4 t) r.val k
      = at2 (n0 := 8192) (n1 := 1024) (m ((c : Thread nD τ).loc main_arg4)) (t.val * 256 + r.val) k := by
  have ht : t.val < 32 := lt_of_lt_of_eq t.isLt (by decide +kernel)
  refine (at2_eq (n0 := 256) (n1 := 1024) (iblk m c 4 t) r ⟨k, hk⟩).symm.trans ?_
  refine Eq.trans ?_ (at2_eq (n0 := 8192) (n1 := 1024) (m ((c : Thread nD τ).loc main_arg4)) ⟨t.val * 256 + r.val, by omega⟩ ⟨k, hk⟩)
  blk_point [iblk, V, idx t]

/-- A point's block of the third group's logs. -/
theorem block_5 (c : Dev nD) (t : Fin cfg0.N) (r : Fin 64) (k : ℕ) (hk : k < 4096) :
    at2 (n0 := 64) (n1 := 4096) (iblk m c 5 t) r.val k
      = at2 (n0 := 2048) (n1 := 4096) (m ((c : Thread nD τ).loc main_arg5)) (t.val * 64 + r.val) k := by
  have ht : t.val < 32 := lt_of_lt_of_eq t.isLt (by decide +kernel)
  refine (at2_eq (n0 := 64) (n1 := 4096) (iblk m c 5 t) r ⟨k, hk⟩).symm.trans ?_
  refine Eq.trans ?_ (at2_eq (n0 := 2048) (n1 := 4096) (m ((c : Thread nD τ).loc main_arg5)) ⟨t.val * 64 + r.val, by omega⟩ ⟨k, hk⟩)
  blk_point [iblk, V, idx t]

/-- A point's block of the memory heads' queries. -/
theorem block_6 (c : Dev nD) (t : Fin cfg0.N) (r : Fin 1024) (k : ℕ) (hk : k < 256) :
    at2 (n0 := 1024) (n1 := 256) (iblk m c 6 t) r.val k
      = at2 (n0 := 32768) (n1 := 256) (m ((c : Thread nD τ).loc main_arg6)) (t.val * 1024 + r.val) k := by
  have ht : t.val < 32 := lt_of_lt_of_eq t.isLt (by decide +kernel)
  refine (at2_eq (n0 := 1024) (n1 := 256) (iblk m c 6 t) r ⟨k, hk⟩).symm.trans ?_
  refine Eq.trans ?_ (at2_eq (n0 := 32768) (n1 := 256) (m ((c : Thread nD τ).loc main_arg6)) ⟨t.val * 1024 + r.val, by omega⟩ ⟨k, hk⟩)
  blk_point [iblk, V, idx t]

/-- A point's block of the input. -/
theorem block_9 (c : Dev nD) (t : Fin cfg0.N) (r : Fin 1024) (k : ℕ) (hk : k < 1024) :
    at2 (n0 := 1024) (n1 := 1024) (iblk m c 9 t) r.val k
      = at2 (n0 := 32768) (n1 := 1024) (m ((c : Thread nD τ).loc main_arg9)) (t.val * 1024 + r.val) k := by
  have ht : t.val < 32 := lt_of_lt_of_eq t.isLt (by decide +kernel)
  refine (at2_eq (n0 := 1024) (n1 := 1024) (iblk m c 9 t) r ⟨k, hk⟩).symm.trans ?_
  refine Eq.trans ?_ (at2_eq (n0 := 32768) (n1 := 1024) (m ((c : Thread nD τ).loc main_arg9)) ⟨t.val * 1024 + r.val, by omega⟩ ⟨k, hk⟩)
  blk_point [iblk, V, idx t]

/-- The same, token after token. -/
theorem tokens_1 (c : Dev nD) (t : Fin cfg0.N) (r : Fin 1024) (l : ℕ) (hl : l < 256) :
    tok (n0 := 256) (n1 := 1024) 4 (iblk m c 1 t) r.val l
      = tok (n0 := 8192) (n1 := 1024) 4 (m ((c : Thread nD τ).loc main_arg1)) (t.val * 1024 + r.val) l := by
  have hr := r.isLt
  refine (block_1 m c t ⟨r.val / 4, by omega⟩ (256 * (r.val % 4) + l) (by omega)).trans ?_
  exact congrArg₂ (at2 (n0 := 8192) (n1 := 1024) (m ((c : Thread nD τ).loc main_arg1))) (by show t.val * 256 + r.val / 4 = _; omega) (by omega)

/-- The same, token after token. -/
theorem tokens_4 (c : Dev nD) (t : Fin cfg0.N) (r : Fin 1024) (l : ℕ) (hl : l < 256) :
    tok (n0 := 256) (n1 := 1024) 4 (iblk m c 4 t) r.val l
      = tok (n0 := 8192) (n1 := 1024) 4 (m ((c : Thread nD τ).loc main_arg4)) (t.val * 1024 + r.val) l := by
  have hr := r.isLt
  refine (block_4 m c t ⟨r.val / 4, by omega⟩ (256 * (r.val % 4) + l) (by omega)).trans ?_
  exact congrArg₂ (at2 (n0 := 8192) (n1 := 1024) (m ((c : Thread nD τ).loc main_arg4))) (by show t.val * 256 + r.val / 4 = _; omega) (by omega)

/-- The same, token after token. -/
theorem tokens_2 (c : Dev nD) (t : Fin cfg0.N) (r : Fin 1024) (l : ℕ) (hl : l < 256) :
    tok (n0 := 64) (n1 := 4096) 16 (iblk m c 2 t) r.val l
      = tok (n0 := 2048) (n1 := 4096) 16 (m ((c : Thread nD τ).loc main_arg2)) (t.val * 1024 + r.val) l := by
  have hr := r.isLt
  refine (block_2 m c t ⟨r.val / 16, by omega⟩ (256 * (r.val % 16) + l) (by omega)).trans ?_
  exact congrArg₂ (at2 (n0 := 2048) (n1 := 4096) (m ((c : Thread nD τ).loc main_arg2))) (by show t.val * 64 + r.val / 16 = _; omega) (by omega)

/-- The same, token after token. -/
theorem tokens_5 (c : Dev nD) (t : Fin cfg0.N) (r : Fin 1024) (l : ℕ) (hl : l < 256) :
    tok (n0 := 64) (n1 := 4096) 16 (iblk m c 5 t) r.val l
      = tok (n0 := 2048) (n1 := 4096) 16 (m ((c : Thread nD τ).loc main_arg5)) (t.val * 1024 + r.val) l := by
  have hr := r.isLt
  refine (block_5 m c t ⟨r.val / 16, by omega⟩ (256 * (r.val % 16) + l) (by omega)).trans ?_
  exact congrArg₂ (at2 (n0 := 2048) (n1 := 4096) (m ((c : Thread nD τ).loc main_arg5))) (by show t.val * 64 + r.val / 16 = _; omega) (by omega)

/-- A point's block of the memory's keys: its sequence's. -/
theorem block_7 (c : Dev nD) (t : Fin cfg0.N) (j l : ℕ) (hj : j < 256) (hl : l < 256) :
    at3 (n0 := 1) (n1 := 256) (n2 := 256) (iblk m c 7 t) 0 j l
      = at3 (n0 := 8) (n1 := 256) (n2 := 256) (m ((c : Thread nD τ).loc main_arg7)) (t.val / 4) j l := by
  have ht : t.val < 32 := lt_of_lt_of_eq t.isLt (by decide +kernel)
  refine (at3_eq (n0 := 1) (n1 := 256) (n2 := 256) (iblk m c 7 t) 0 ⟨j, hj⟩ ⟨l, hl⟩).symm.trans ?_
  refine Eq.trans ?_ (at3_eq (n0 := 8) (n1 := 256) (n2 := 256) (m ((c : Thread nD τ).loc main_arg7)) ⟨t.val / 4, by omega⟩ ⟨j, hj⟩ ⟨l, hl⟩)
  blk_point [iblk, V, idx t]

/-- A point's block of the memory's values: its sequence's. -/
theorem block_8 (c : Dev nD) (t : Fin cfg0.N) (j l : ℕ) (hj : j < 256) (hl : l < 256) :
    at3 (n0 := 1) (n1 := 256) (n2 := 256) (iblk m c 8 t) 0 j l
      = at3 (n0 := 8) (n1 := 256) (n2 := 256) (m ((c : Thread nD τ).loc main_arg8)) (t.val / 4) j l := by
  have ht : t.val < 32 := lt_of_lt_of_eq t.isLt (by decide +kernel)
  refine (at3_eq (n0 := 1) (n1 := 256) (n2 := 256) (iblk m c 8 t) 0 ⟨j, hj⟩ ⟨l, hl⟩).symm.trans ?_
  refine Eq.trans ?_ (at3_eq (n0 := 8) (n1 := 256) (n2 := 256) (m ((c : Thread nD τ).loc main_arg8)) ⟨t.val / 4, by omega⟩ ⟨j, hj⟩ ⟨l, hl⟩)
  blk_point [iblk, V, idx t]

/-- The gain's block. -/
theorem block_gain_last (c : Dev nD) (t : Fin cfg0.N) (k : ℕ) (hk : k < 1024) :
    at2 (n0 := 1) (n1 := 1024) (iblk m c 11 t) 0 k = at1 (n0 := 1024) (m ((c : Thread nD τ).loc main_arg11)) k := by
  refine (at2_eq (n0 := 1) (n1 := 1024) (iblk m c 11 t) 0 ⟨k, hk⟩).symm.trans ?_
  refine Eq.trans ?_ ((gain_last m c ⟨k, hk⟩).trans (at1_eq (n0 := 1024) (m ((c : Thread nD τ).loc main_arg11)) ⟨k, hk⟩))
  blk_point [iblk, idx t]

/-- The output weights' block. -/
theorem block_out (c : Dev nD) (t : Fin cfg0.N) (f n : ℕ) (hf : f < 1024) (hn : n < 1024) :
    at2 (n0 := 1024) (n1 := 1024) (iblk m c 10 t) f n = at2 (n0 := 1024) (n1 := 1024) (m ((c : Thread nD τ).loc main_arg10)) f n := by
  refine (at2_eq (n0 := 1024) (n1 := 1024) (iblk m c 10 t) ⟨f, hf⟩ ⟨n, hn⟩).symm.trans ?_
  refine Eq.trans ?_ ((weights_out m c ⟨f, hf⟩ ⟨n, hn⟩).trans (at2_eq (n0 := 1024) (n1 := 1024) (m ((c : Thread nD τ).loc main_arg10)) ⟨f, hf⟩ ⟨n, hn⟩))
  blk_point [iblk, idx t]

/-- The attention's output, from the arguments. -/
def outArr (o0 : FVec Ideal S32768x256 .bf16) (o1 : FVec Ideal S8192x1024 .bf16) (o2 : FVec Ideal S2048x4096 .bf16)
    (s0 : FVec Ideal S32768x256 .f32) (s1 : FVec Ideal S8192x1024 .f32) (s2 : FVec Ideal S2048x4096 .f32)
    (q : FVec Ideal S32768x256 .bf16) (k v : FVec Ideal S8x256x256 .bf16) (x : FVec Ideal S32768x1024 .f32)
    (w : FVec Ideal S1024x1024 .f32) (g : FVec Ideal S1024 .f32) : FVec Ideal S32768x1024 .f32 := fun i =>
  attOutAt 4096 (fun r l => at2 o0 r l) (fun r l => tok 4 o1 r l) (fun r l => tok 16 o2 r l) (fun r l => at2 s0 r l)
    (fun r l => tok 4 s1 r l) (fun r l => tok 16 s2 r l) (fun r l => at2 q r l) (fun b j l => at3 k b j l)
    (fun b j l => at3 v b j l) x w (at1 g) (i 0).val (i 1)

/-- The array after the run. -/
theorem final (c : Dev nD) : (dats m 0 c).arrAt 12 cfg0.N
    = outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 12 _ (by decide +kernel) fun t _ y => ?_
  blk_simp
  rw [after0_12]
  unfold outsAt0
  idx_vars y
  have ht : t.val < 32 := lt_of_lt_of_eq t.isLt (by decide +kernel)
  have hy0 := y0.isLt
  refine (out12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _).trans ?_
  have e0 : ((((cfg0.win 12).blk t).view.emb (ix2 y0 y1)) 0).val = t.val * 1024 + y0.val := by blk_simp [idx t]
  have e1 : ((((cfg0.win 12).blk t).view.emb (ix2 y0 y1)) 1) = y1 := Fin.ext (by blk_simp [idx t])
  refine (stored_apply _ _ _ _ _ _ _ _ _ _ _ _ y0 y1).trans ?_
  refine Eq.trans ?_ (Eq.symm (b := attOutAt 4096 (fun r l => at2 (n0 := 32768) (n1 := 256) (m ((c : Thread nD τ).loc main_arg0)) r l)
    (fun r l => tok (n0 := 8192) (n1 := 1024) 4 (m ((c : Thread nD τ).loc main_arg1)) r l) (fun r l => tok (n0 := 2048) (n1 := 4096) 16 (m ((c : Thread nD τ).loc main_arg2)) r l)
    (fun r l => at2 (n0 := 32768) (n1 := 256) (m ((c : Thread nD τ).loc main_arg3)) r l) (fun r l => tok (n0 := 8192) (n1 := 1024) 4 (m ((c : Thread nD τ).loc main_arg4)) r l)
    (fun r l => tok (n0 := 2048) (n1 := 4096) 16 (m ((c : Thread nD τ).loc main_arg5)) r l) (fun r l => at2 (n0 := 32768) (n1 := 256) (m ((c : Thread nD τ).loc main_arg6)) r l)
    (fun b j l => at3 (n0 := 8) (n1 := 256) (n2 := 256) (m ((c : Thread nD τ).loc main_arg7)) b j l) (fun b j l => at3 (n0 := 8) (n1 := 256) (n2 := 256) (m ((c : Thread nD τ).loc main_arg8)) b j l)
    (m ((c : Thread nD τ).loc main_arg9)) (m ((c : Thread nD τ).loc main_arg10)) (at1 (n0 := 1024) (m ((c : Thread nD τ).loc main_arg11))) (t.val * 1024 + y0.val) y1) ?_)
  · unfold attOutAt
    refine outRow_congr (fun l hl => block_9 m c t y0 l hl) (fun l hl => besideRow_congr (fun l hl => ?_) (fun l hl => ?_) l hl)
      (fun f n hf hn => block_out m c t f n hf hn) (fun l hl => block_gain_last m c t l hl) y1
    · exact mixRow_congr (fun l hl => block_0 m c t y0 l hl) (fun l hl => tokens_1 m c t y0 l hl) (fun l hl => tokens_2 m c t y0 l hl)
        (fun l hl => block_3 m c t y0 l hl) (fun l hl => tokens_4 m c t y0 l hl) (fun l hl => tokens_5 m c t y0 l hl) l hl
    · rw [show (t.val * 1024 + y0.val) / 4096 = t.val / 4 by omega]
      exact memRow_congr (fun l hl => block_6 m c t y0 l hl) (fun j l hj hl => block_7 m c t j l hj hl)
        (fun j l hj hl => block_8 m c t j l hj hl) l hl
  · show attOutAt _ _ _ _ _ _ _ _ _ _ _ _ _ ((((cfg0.win 12).blk t).view.emb (ix2 y0 y1)) 0).val ((((cfg0.win 12).blk t).view.emb (ix2 y0 y1)) 1) = _
    rw [e0, e1]

end Cert.Layer.AttOutValue

end
-- ==== Proof.Layer.AttOutReference.lean ====
/-
  The reference of the attention's output, read at a row and a lane: the weighted groups beside the memory heads, through the
  output projection.
-/
module

public import proofs.«01_k».proof.Proof.Gen.AttOutRefIdeal.Run
public import proofs.«01_k».proof.Proof.Layer.AttOutMath

@[expose] public section

set_option maxRecDepth 16384

noncomputable section

open Idealize.ShloMosaic Idealize.ShloMosaic.TcCoe Idealize.SL.Sem

namespace Cert.Layer.AttOutReference

open Cert.AttOutRefIdeal Cert.AttOutRefIdeal.Gen Cert.AttOutRefIdeal.Value Cert.Layer

/-- The three groups' log-sum-exps, stacked. -/
def stack (a b c : FVec Ideal S32768x256 .f32) : FVec Ideal S3x32768x256 .f32 :=
  concatenate S3x32768x256 0 [⟨S1x32768x256, broadcastInDim S1x32768x256 ![1, 2] bcast_S32768x256_S1x32768x256_1_2 a⟩, ⟨S1x32768x256, broadcastInDim S1x32768x256 ![1, 2] bcast_S32768x256_S1x32768x256_1_2 b⟩, ⟨S1x32768x256, broadcastInDim S1x32768x256 ![1, 2] bcast_S32768x256_S1x32768x256_1_2 c⟩] concatenates_S1x32768x256_S1x32768x256_S1x32768x256_S3x32768x256_d0

/-- The largest of the groups'. -/
def largest3 (s : FVec Ideal S3x32768x256 .f32) : FVec Ideal S32768x256 .f32 :=
  Host.reduce FloatOps.maximumf s (constant S_ .f32 0xFF800000#32) reducesTo_S3x32768x256_S32768x256_d0 h_S_

/-- The largest of minus infinity and that. -/
def tops3 (s : FVec Ideal S3x32768x256 .f32) : FVec Ideal S32768x256 .f32 :=
  maximumf (broadcastInDim S32768x256 ![] bcast_S_S32768x256 (constant S_ .f32 0xFF800000#32)) (largest3 s)

/-- The exponentials of the distances to the largest. -/
def weights3 (s : FVec Ideal S3x32768x256 .f32) : FVec Ideal S3x32768x256 .f32 :=
  Host.exp (subf s (broadcastInDim S3x32768x256 ![0, 1, 2] bcast_S1x32768x256_S3x32768x256_0_1_2 (broadcastInDim S1x32768x256 ![1, 2] bcast_S32768x256_S1x32768x256_1_2 (tops3 s))))

/-- The weights over their sum. -/
def shares (e : FVec Ideal S3x32768x256 .f32) : FVec Ideal S3x32768x256 .f32 :=
  Host.divf e (broadcastInDim S3x32768x256 ![0, 1, 2] bcast_S1x32768x256_S3x32768x256_0_1_2 (broadcastInDim S1x32768x256 ![1, 2] bcast_S32768x256_S1x32768x256_1_2 (Host.reduceAdd e (constant S_ .f32 0x00000000#32) reducesTo_S3x32768x256_S32768x256_d0 h_S_)))

/-- Group 0's outputs times its shares. -/
def part0 (o : FVec Ideal S32768x256 .f32) (p : FVec Ideal S3x32768x256 .f32) : FVec Ideal S32768x256 .f32 :=
  mulf o (shapeCast S32768x256 (extractStridedSlice S1x32768x256 ![0, 0, 0] p slices_S3x32768x256_S1x32768x256_0_0_0) shapeCasts_S1x32768x256_S32768x256)

/-- Group 1's outputs times its shares. -/
def part1 (o : FVec Ideal S32768x256 .f32) (p : FVec Ideal S3x32768x256 .f32) : FVec Ideal S32768x256 .f32 :=
  mulf o (shapeCast S32768x256 (extractStridedSlice S1x32768x256 ![1, 0, 0] p slices_S3x32768x256_S1x32768x256_1_0_0) shapeCasts_S1x32768x256_S32768x256)

/-- Group 2's outputs times its shares. -/
def part2 (o : FVec Ideal S32768x256 .f32) (p : FVec Ideal S3x32768x256 .f32) : FVec Ideal S32768x256 .f32 :=
  mulf o (shapeCast S32768x256 (extractStridedSlice S1x32768x256 ![2, 0, 0] p slices_S3x32768x256_S1x32768x256_2_0_0) shapeCasts_S1x32768x256_S32768x256)

/-- Three groups side by side. -/
def groups (a b c : FVec Ideal S32768x256 .f32) : FVec Ideal S32768x768 .f32 :=
  concatenate S32768x768 1 [⟨S32768x256, a⟩, ⟨S32768x256, b⟩, ⟨S32768x256, c⟩] concatenates_S32768x256_S32768x256_S32768x256_S32768x768_d1

/-- Rows of four tokens, a token a row. -/
def tokens4 (a : FVec Ideal S8192x1024 .f32) : FVec Ideal S32768x256 .f32 := shapeCast S32768x256 a shapeCasts_S8192x1024_S32768x256

/-- Rows of sixteen tokens, a token a row. -/
def tokens16 (a : FVec Ideal S2048x4096 .f32) : FVec Ideal S32768x256 .f32 := shapeCast S32768x256 a shapeCasts_S2048x4096_S32768x256

/-- The memory heads' logits. -/
def logits (q : FVec Ideal S32768x256 .f32) (k : FVec Ideal S8x256x256 .bf16) : FVec Ideal S8x4x4096x256 .f32 :=
  Host.dotGeneral dot_S8x4096x4x64_S8x256x4x64_S8x4x4096x256_3_3_1_1_02_02 none (mulf (shapeCast S8x4096x4x64 q shapeCasts_S32768x256_S8x4096x4x64) (broadcastInDim S8x4096x4x64 ![] bcast_S_S8x4096x4x64 (constant S_ .f32 0x3E000000#32))) (shapeCast S8x256x4x64 (extf .f32 k bitsLt_bf16_f32) shapeCasts_S8x256x256_S8x256x4x64)

/-- The largest of a head's logits. -/
def memLargest (s : FVec Ideal S8x4x4096x256 .f32) : FVec Ideal S8x4x4096 .f32 :=
  Host.reduce FloatOps.maximumf s (constant S_ .f32 0xFF800000#32) reducesTo_S8x4x4096x256_S8x4x4096_d3 h_S_

/-- The largest of minus infinity and that. -/
def memTops (s : FVec Ideal S8x4x4096x256 .f32) : FVec Ideal S8x4x4096 .f32 :=
  maximumf (broadcastInDim S8x4x4096 ![] bcast_S_S8x4x4096 (constant S_ .f32 0xFF800000#32)) (memLargest s)

/-- The exponentials of the logits' distances to the largest. -/
def memWeights (s : FVec Ideal S8x4x4096x256 .f32) : FVec Ideal S8x4x4096x256 .f32 :=
  Host.exp (subf s (broadcastInDim S8x4x4096x256 ![0, 1, 2, 3] bcast_S8x4x4096x1_S8x4x4096x256_0_1_2_3 (broadcastInDim S8x4x4096x1 ![0, 1, 2] bcast_S8x4x4096_S8x4x4096x1_0_1_2 (memTops s))))

/-- The weights over their sum. -/
def memProbs (e : FVec Ideal S8x4x4096x256 .f32) : FVec Ideal S8x4x4096x256 .f32 :=
  Host.divf e (broadcastInDim S8x4x4096x256 ![0, 1, 2, 3] bcast_S8x4x4096x1_S8x4x4096x256_0_1_2_3 (broadcastInDim S8x4x4096x1 ![0, 1, 2] bcast_S8x4x4096_S8x4x4096x1_0_1_2 (Host.reduceAdd e (constant S_ .f32 0x00000000#32) reducesTo_S8x4x4096x256_S8x4x4096_d3 h_S_)))

/-- The memory heads' outputs, from their probabilities. -/
def heads (p : FVec Ideal S8x4x4096x256 .f32) (v : FVec Ideal S8x256x256 .bf16) : FVec Ideal S32768x256 .f32 :=
  shapeCast S32768x256 (transpose S8x4096x4x64 [0, 3, 1, 2] (Host.dotGeneral dot_S8x256x4x64_S8x4x4096x256_S8x4x64x4096_1_3_3_2_02_01 none (shapeCast S8x256x4x64 (extf .f32 v bitsLt_bf16_f32) shapeCasts_S8x256x256_S8x256x4x64) p) transposes_S8x4x64x4096_S8x4096x4x64_0_3_1_2) shapeCasts_S8x4096x4x64_S32768x256

/-- Both kinds of heads, side by side, through the output projection. -/
def projected (a : FVec Ideal S32768x768 .f32) (b : FVec Ideal S32768x256 .f32) (w : FVec Ideal S1024x1024 .f32) : FVec Ideal S32768x1024 .f32 :=
  Host.dotGeneral dot_S32768x1024_S1024x1024_S32768x1024_1_0_0_1_n_n none (concatenate S32768x1024 1 [⟨S32768x768, a⟩, ⟨S32768x256, b⟩] concatenates_S32768x768_S32768x256_S32768x1024_d1) w

/-- The residual plus the normalised output. -/
def last (x y : FVec Ideal S32768x1024 .f32) (g : FVec Ideal S1024 .f32) : FVec Ideal S32768x1024 .f32 :=
  addf x (mulf (mulf y (broadcastInDim S32768x1024 ![0, 1] bcast_S32768x1_S32768x1024_0_1 (Host.rsqrt (addf (Host.divf (broadcastInDim S32768x1 ![0] bcast_S32768_S32768x1_0 (Host.reduceAdd (mulf y y) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g)))

/-- The bits of minus infinity. -/
theorem minus_inf : Ideal.ofBits .f32 0xFF800000#32 = ⊥ := by
  simp [Ideal.ofBits, Ideal.ieee]

/-- The stack's plane 0. -/
theorem stack0 (a b c : FVec Ideal S32768x256 .f32) (r : Fin 32768) (l : Fin 256) : stack a b c (ix3 0 r l) = a (ix2 r l) := by
  pointwise [stack]

/-- The stack's plane 1. -/
theorem stack1 (a b c : FVec Ideal S32768x256 .f32) (r : Fin 32768) (l : Fin 256) : stack a b c (ix3 1 r l) = b (ix2 r l) := by
  pointwise [stack]

/-- The stack's plane 2. -/
theorem stack2 (a b c : FVec Ideal S32768x256 .f32) (r : Fin 32768) (l : Fin 256) : stack a b c (ix3 2 r l) = c (ix2 r l) := by
  pointwise [stack]

/-- The largest of three. -/
theorem largest3_apply (s : FVec Ideal S3x32768x256 .f32) (r : Fin 32768) (l : Fin 256) :
    largest3 s (ix2 r l) = topLogit fun j : Fin 3 => s (ix3 j r l) := by
  pointwise [largest3]
  rw [minus_inf]
  rfl

/-- Minus infinity changes nothing. -/
theorem top_least3 (w : FVec Ideal S32768x256 .f32) (r : Fin 32768) (l : Fin 256) :
    maximumf (broadcastInDim S32768x256 ![] bcast_S_S32768x256 (constant S_ .f32 0xFF800000#32)) w (ix2 r l) = w (ix2 r l) := by
  refine Eq.trans (b := max (Ideal.ofBits .f32 0xFF800000#32) (w (ix2 r l))) rfl ?_
  rw [minus_inf]
  exact bot_sup_eq _

/-- The largest of minus infinity and the groups'. -/
theorem tops3_apply (s : FVec Ideal S3x32768x256 .f32) (r : Fin 32768) (l : Fin 256) :
    tops3 s (ix2 r l) = topLogit fun j : Fin 3 => s (ix3 j r l) :=
  (top_least3 (largest3 s) r l).trans (largest3_apply s r l)

/-- One weight. -/
theorem weights3_apply (s : FVec Ideal S3x32768x256 .f32) (g : Fin 3) (r : Fin 32768) (l : Fin 256) :
    weights3 s (ix3 g r l) = Ideal.exp (s (ix3 g r l) - max (max (s (ix3 0 r l)) (s (ix3 1 r l))) (s (ix3 2 r l))) := by
  rw [← topLogit_three fun j => s (ix3 j r l), ← tops3_apply s r l]
  pointwise [weights3]

/-- One share. -/
theorem shares_apply (e : FVec Ideal S3x32768x256 .f32) (g : Fin 3) (r : Fin 32768) (l : Fin 256) :
    shares e (ix3 g r l) = Ideal.div (e (ix3 g r l)) (e (ix3 0 r l) + e (ix3 1 r l) + e (ix3 2 r l)) := by
  rw [← Fin.sum_univ_three fun x => e (ix3 x r l)]
  pointwise [shares]

/-- One entry of group 0's part. -/
theorem part0_apply (o : FVec Ideal S32768x256 .f32) (p : FVec Ideal S3x32768x256 .f32) (r : Fin 32768) (l : Fin 256) :
    part0 o p (ix2 r l) = o (ix2 r l) * p (ix3 0 r l) := by
  pointwise [part0]

/-- Group 0, weighted. -/
theorem group0 (o a b c : FVec Ideal S32768x256 .f32) (r : Fin 32768) (l : Fin 256) :
    part0 o (shares (weights3 (stack a b c))) (ix2 r l)
      = o (ix2 r l) * share (a (ix2 r l)) (b (ix2 r l)) (c (ix2 r l)) (a (ix2 r l)) := by
  rw [part0_apply, shares_apply]
  simp only [weights3_apply, stack0, stack1, stack2, share]

/-- One entry of group 1's part. -/
theorem part1_apply (o : FVec Ideal S32768x256 .f32) (p : FVec Ideal S3x32768x256 .f32) (r : Fin 32768) (l : Fin 256) :
    part1 o p (ix2 r l) = o (ix2 r l) * p (ix3 1 r l) := by
  pointwise [part1]

/-- Group 1, weighted. -/
theorem group1 (o a b c : FVec Ideal S32768x256 .f32) (r : Fin 32768) (l : Fin 256) :
    part1 o (shares (weights3 (stack a b c))) (ix2 r l)
      = o (ix2 r l) * share (a (ix2 r l)) (b (ix2 r l)) (c (ix2 r l)) (b (ix2 r l)) := by
  rw [part1_apply, shares_apply]
  simp only [weights3_apply, stack0, stack1, stack2, share]

/-- One entry of group 2's part. -/
theorem part2_apply (o : FVec Ideal S32768x256 .f32) (p : FVec Ideal S3x32768x256 .f32) (r : Fin 32768) (l : Fin 256) :
    part2 o p (ix2 r l) = o (ix2 r l) * p (ix3 2 r l) := by
  pointwise [part2]

/-- Group 2, weighted. -/
theorem group2 (o a b c : FVec Ideal S32768x256 .f32) (r : Fin 32768) (l : Fin 256) :
    part2 o (shares (weights3 (stack a b c))) (ix2 r l)
      = o (ix2 r l) * share (a (ix2 r l)) (b (ix2 r l)) (c (ix2 r l)) (c (ix2 r l)) := by
  rw [part2_apply, shares_apply]
  simp only [weights3_apply, stack0, stack1, stack2, share]

/-- The groups at a lane. -/
theorem groups_apply (a b c : FVec Ideal S32768x256 .f32) (r : Fin 32768) (l : Fin 768) :
    groups a b c (ix2 r l) = if h : l.val < 256 then a (ix2 r ⟨l.val, by omega⟩) else if h : l.val - 256 < 256 then b (ix2 r ⟨l.val - 256, by omega⟩)
      else c (ix2 r ⟨l.val - 256 - 256, by omega⟩) := by
  pointwise [groups]

/-- The groups at a lane, as three rows side by side. -/
theorem groups_three (a b c : FVec Ideal S32768x256 .f32) (r : Fin 32768) (l : Fin 768) :
    groups a b c (ix2 r l) = threeRow (fun l => at2 a r.val l) (fun l => at2 b r.val l) (fun l => at2 c r.val l) l.val := by
  rw [groups_apply]
  unfold threeRow
  split_ifs
  · exact at2_eq a r ⟨l.val, by omega⟩
  all_goals first | (exfalso; omega) | skip
  · exact at2_eq b r ⟨l.val - 256, by omega⟩
  · exact (at2_eq c r ⟨l.val - 256 - 256, by omega⟩).trans (congrArg (at2 c r.val) (by show l.val - 256 - 256 = l.val - 512; omega))

/-- One lane of a token, from rows of four. -/
theorem tokens4_apply (a : FVec Ideal S8192x1024 .f32) (r : Fin 32768) (l : Fin 256) : tokens4 a (ix2 r l) = tok 4 a r.val l.val := by
  have e : tokens4 a (ix2 r l) = a (ix2 ⟨r.val / 4, by omega⟩ ⟨r.val % 4 * 256 + l.val, by omega⟩) := by
    pointwise [tokens4]
  rw [e, at2_eq a]
  exact congrArg (at2 a (r.val / 4)) (by show r.val % 4 * 256 + l.val = _; omega)

/-- One lane of a token, from rows of sixteen. -/
theorem tokens16_apply (a : FVec Ideal S2048x4096 .f32) (r : Fin 32768) (l : Fin 256) : tokens16 a (ix2 r l) = tok 16 a r.val l.val := by
  have e : tokens16 a (ix2 r l) = a (ix2 ⟨r.val / 16, by omega⟩ ⟨r.val % 16 * 256 + l.val, by omega⟩) := by
    pointwise [tokens16]
  rw [e, at2_eq a]
  exact congrArg (at2 a (r.val / 16)) (by show r.val % 16 * 256 + l.val = _; omega)

/-- One logit of a memory head. -/
theorem logits_apply (q : FVec Ideal S32768x256 .f32) (k : FVec Ideal S8x256x256 .bf16) (b : Fin 8) (h : Fin 4) (s : Fin 4096)
    (j : Fin 256) : logits q k (ix4 b h s j)
      = memLogits (fun l => at2 q (b.val * 4096 + s.val) l) (fun j l => at3 k b.val j l) h.val j := by
  have e : ∀ d : Fin 64, q (ix2 ⟨b.val * 4096 + s.val, by omega⟩ ⟨h.val * 64 + d.val, by omega⟩) * Ideal.ofBits .f32 0x3E000000#32
        * k (ix3 b j ⟨h.val * 64 + d.val, by omega⟩)
      = at2 q (b.val * 4096 + s.val) (64 * h.val + d.val) * Ideal.ofBits .f32 0x3E000000#32 * at3 k b.val j.val (64 * h.val + d.val) := fun d => by
    rw [at2_eq q, at3_eq k]
    simp only [Nat.mul_comm]
  unfold memLogits
  simp only [← e]
  pointwise [logits]

/-- The largest of a head's logits. -/
theorem memLargest_apply (s : FVec Ideal S8x4x4096x256 .f32) (b : Fin 8) (h : Fin 4) (i : Fin 4096) :
    memLargest s (ix3 b h i) = topLogit fun j => s (ix4 b h i j) := by
  pointwise [memLargest]
  rw [minus_inf]
  rfl

/-- Minus infinity changes nothing. -/
theorem mem_top_least (w : FVec Ideal S8x4x4096 .f32) (b : Fin 8) (h : Fin 4) (i : Fin 4096) :
    maximumf (broadcastInDim S8x4x4096 ![] bcast_S_S8x4x4096 (constant S_ .f32 0xFF800000#32)) w (ix3 b h i) = w (ix3 b h i) := by
  refine Eq.trans (b := max (Ideal.ofBits .f32 0xFF800000#32) (w (ix3 b h i))) rfl ?_
  rw [minus_inf]
  exact bot_sup_eq _

/-- The largest of minus infinity and the logits. -/
theorem memTops_apply (s : FVec Ideal S8x4x4096x256 .f32) (b : Fin 8) (h : Fin 4) (i : Fin 4096) :
    memTops s (ix3 b h i) = topLogit fun j => s (ix4 b h i j) :=
  (mem_top_least (memLargest s) b h i).trans (memLargest_apply s b h i)

/-- One weight. -/
theorem memWeights_apply (s : FVec Ideal S8x4x4096x256 .f32) (b : Fin 8) (h : Fin 4) (i : Fin 4096) (j : Fin 256) :
    memWeights s (ix4 b h i j) = keyWeight (fun j => s (ix4 b h i j)) j := by
  unfold keyWeight
  rw [← memTops_apply]
  pointwise [memWeights]

/-- One probability. -/
theorem memProbs_apply (e : FVec Ideal S8x4x4096x256 .f32) (b : Fin 8) (h : Fin 4) (i : Fin 4096) (j : Fin 256) :
    memProbs e (ix4 b h i j) = Ideal.div (e (ix4 b h i j)) (∑ x : Fin 256, e (ix4 b h i x)) := by
  pointwise [memProbs]

/-- One lane of the memory heads, from the probabilities. -/
theorem heads_apply (p : FVec Ideal S8x4x4096x256 .f32) (v : FVec Ideal S8x256x256 .bf16) (r : Fin 32768) (l : Fin 256) :
    heads p v (ix2 r l) = ∑ x : Fin 256, v (ix3 ⟨r.val / 4096, by omega⟩ x l)
      * p (ix4 ⟨r.val / 4096, by omega⟩ ⟨l.val / 64, by omega⟩ ⟨r.val % 4096, by omega⟩ x) := by
  pointwise [heads]

/-- One lane of the memory heads. -/
theorem memory_apply (q : FVec Ideal S32768x256 .f32) (k v : FVec Ideal S8x256x256 .bf16) (r : Fin 32768) (l : Fin 256) :
    heads (memProbs (memWeights (logits q k))) v (ix2 r l)
      = memRow (fun l => at2 q r.val l) (fun j l => at3 k (r.val / 4096) j l) (fun j l => at3 v (r.val / 4096) j l) l.val := by
  refine (heads_apply _ v r l).trans ?_
  unfold memRow
  refine Finset.sum_congr rfl fun x _ => ?_
  rw [mul_comm, memProbs_apply]
  simp only [memWeights_apply, logits_apply]
  rw [at3_eq v, show r.val / 4096 * 4096 + r.val % 4096 = r.val by omega]
  rfl

/-- One entry of the output projection. -/
theorem projected_apply (a : FVec Ideal S32768x768 .f32) (b : FVec Ideal S32768x256 .f32) (w : FVec Ideal S1024x1024 .f32)
    (r : Fin 32768) (l : Fin 1024) : projected a b w (ix2 r l)
      = ∑ x : Fin 768, a (ix2 r x) * w (ix2 ⟨x.val, by omega⟩ l) + ∑ x : Fin 256, b (ix2 r x) * w (ix2 ⟨768 + x.val, by omega⟩ l) := by
  pointwise [projected]

/-- The last step. -/
theorem last_apply (x y : FVec Ideal S32768x1024 .f32) (g : FVec Ideal S1024 .f32) (r : Fin 32768) (l : Fin 1024) :
    last x y g (ix2 r l) = x (ix2 r l) + rmsRow (fun n => y (ix2 r n)) (fun k => g (ix1 k)) l := by
  unfold rmsRow
  pointwise [last]

/-- The reference at a row and a lane. -/
theorem result (o0 : FVec Ideal S32768x256 .bf16) (o1 : FVec Ideal S8192x1024 .bf16) (o2 : FVec Ideal S2048x4096 .bf16)
    (s0 : FVec Ideal S32768x256 .f32) (s1 : FVec Ideal S8192x1024 .f32) (s2 : FVec Ideal S2048x4096 .f32)
    (q : FVec Ideal S32768x256 .bf16) (k v : FVec Ideal S8x256x256 .bf16) (x : FVec Ideal S32768x1024 .f32)
    (w : FVec Ideal S1024x1024 .f32) (g : FVec Ideal S1024 .f32) (r : Fin 32768) (l : Fin 1024) :
    last x (projected (groups (part0 (extf .f32 o0 bitsLt_bf16_f32) (shares (weights3 (stack s0 (tokens4 s1) (tokens16 s2)))))
          (part1 (tokens4 (extf .f32 o1 bitsLt_bf16_f32)) (shares (weights3 (stack s0 (tokens4 s1) (tokens16 s2)))))
          (part2 (tokens16 (extf .f32 o2 bitsLt_bf16_f32)) (shares (weights3 (stack s0 (tokens4 s1) (tokens16 s2))))))
        (heads (memProbs (memWeights (logits (extf .f32 q bitsLt_bf16_f32) k))) v) w) g (ix2 r l)
      = attOutAt 4096 (fun r l => at2 o0 r l) (fun r l => tok 4 o1 r l) (fun r l => tok 16 o2 r l) (fun r l => at2 s0 r l)
          (fun r l => tok 4 s1 r l) (fun r l => tok 16 s2 r l) (fun r l => at2 q r l) (fun b j l => at3 k b j l)
          (fun b j l => at3 v b j l) x w (at1 g) r.val l := by
  refine (last_apply _ _ g r l).trans ?_
  unfold attOutAt outRow
  rw [at2_eq x r l]
  simp only [← at1_eq g]
  refine congrArg (fun y => at2 x r.val l.val + rmsRow y (fun k => g (ix1 k)) l) (funext fun n' => ?_)
  refine (projected_apply _ _ w r n').trans ?_
  rw [sum_beside _ _ (fun f => at2 w f n'.val)]
  refine congrArg₂ (· + ·) (Finset.sum_congr rfl fun y _ => ?_) (Finset.sum_congr rfl fun y _ => ?_)
  · rw [groups_three, at2_eq w]
    unfold mixRow
    refine congrArg (· * _) (threeRow_congr (fun l hl => ?_) (fun l hl => ?_) (fun l hl => ?_) y.val y.isLt)
    · refine (at2_eq (part0 _ _) r ⟨l, hl⟩).symm.trans ((group0 _ _ _ _ r ⟨l, hl⟩).trans ?_)
      rw [tokens4_apply, tokens16_apply, at2_eq s0]
      exact congrArg (· * _) (at2_eq o0 r ⟨l, hl⟩)
    · refine (at2_eq (part1 _ _) r ⟨l, hl⟩).symm.trans ((group1 _ _ _ _ r ⟨l, hl⟩).trans ?_)
      rw [tokens4_apply, tokens4_apply, tokens16_apply, at2_eq s0]
      rfl
    · refine (at2_eq (part2 _ _) r ⟨l, hl⟩).symm.trans ((group2 _ _ _ _ r ⟨l, hl⟩).trans ?_)
      rw [tokens4_apply, tokens16_apply, tokens16_apply, at2_eq s0]
      rfl
  · rw [memory_apply, at2_eq w]
    rfl

end Cert.Layer.AttOutReference

end
-- ==== Proof.Layer.OutClaims.lean ====
/-
  The outputs of the delta-rule layer and of the attention compute what their references compute.
-/
module

public import proofs.«01_k».proof.Defs
public import proofs.«01_k».proof.Proof.Layer.DnOutValue
public import proofs.«01_k».proof.Proof.Layer.DnOutReference
public import proofs.«01_k».proof.Proof.Layer.AttOutValue
public import proofs.«01_k».proof.Proof.Layer.AttOutReference
public import Idealize.ShloMosaic.Lib.Claim

@[expose] public section

set_option maxRecDepth 16384

noncomputable section

open Idealize.ShloMosaic Idealize.ShloMosaic.TcCoe Idealize.SL.Sem

namespace Cert.Layer.OutClaims

/-- On equal arguments the kernel and its reference hold the same output of the delta-rule layer. -/
theorem algebraicDnOut : Cert.algebraic_DnOutIdeal_DnOutRefIdeal := by
  intro m ρ m' ρ' _ hagree
  refine ⟨_, (θ_run Cert.DnOutIdeal.defs _ _).mono (fun _ h c => ⟨(h c).1.trans (DnOutValue.final m c), (h c).2⟩)
    (Cert.DnOutIdeal.Value.run_blocks (F := Ideal) m ρ), ?_⟩
  refine (θ_run Cert.DnOutRefIdeal.defs _ _).mono (fun _ h c => ⟨(h c).1.trans ?_, (h c).2⟩)
    (Cert.DnOutRefIdeal.Value.run (F := Ideal) m' ρ')
  obtain ⟨h0, h1, h2, h3, h4, h5, h6, h7, h8, h9⟩ := hagree c
  funext i
  idx_vars i
  exact (DnOutReference.result _ _ _ _ _ _ _ _ _ _ i0 i1).trans (by rw [h0, h1, h2, h3, h4, h5, h6, h7, h8, h9]; rfl)

/-- On equal arguments the kernel and its reference hold the same output of the attention. -/
theorem algebraicAttOut : Cert.algebraic_AttOutIdeal_AttOutRefIdeal := by
  intro m ρ m' ρ' _ hagree
  refine ⟨_, (θ_run Cert.AttOutIdeal.defs _ _).mono (fun _ h c => ⟨(h c).1.trans (AttOutValue.final m c), (h c).2⟩)
    (Cert.AttOutIdeal.Value.run_blocks (F := Ideal) m ρ), ?_⟩
  refine (θ_run Cert.AttOutRefIdeal.defs _ _).mono (fun _ h c => ⟨(h c).1.trans ?_, (h c).2⟩)
    (Cert.AttOutRefIdeal.Value.run (F := Ideal) m' ρ')
  obtain ⟨h0, h1, h2, h3, h4, h5, h6, h7, h8, h9, h10, h11⟩ := hagree c
  funext i
  idx_vars i
  exact (AttOutReference.result _ _ _ _ _ _ _ _ _ _ _ _ i0 i1).trans (by rw [h0, h1, h2, h3, h4, h5, h6, h7, h8, h9, h10, h11]; rfl)

end Cert.Layer.OutClaims

end
-- ==== Proof.lean ====
module

public import proofs.«01_k».proof.Defs
public import proofs.«01_k».proof.Proof.Gen.FfnIdeal.Value
public import proofs.«01_k».proof.Proof.Gen.FfnRefIdeal.Run
public import proofs.«01_k».proof.Proof.Gen.Band1Ideal.Value
public import proofs.«01_k».proof.Proof.Gen.Band1RefIdeal.Run
public import proofs.«01_k».proof.Proof.Gen.Band4Ideal.Value
public import proofs.«01_k».proof.Proof.Gen.Band4RefIdeal.Run
public import proofs.«01_k».proof.Proof.Gen.Band16Ideal.Value
public import proofs.«01_k».proof.Proof.Gen.Band16RefIdeal.Run
public import proofs.«01_k».proof.Proof.Gen.MemKvIdeal.Value
public import proofs.«01_k».proof.Proof.Gen.MemKvRefIdeal.Run
public import proofs.«01_k».proof.Proof.Gen.MemKv.Frame
public import proofs.«01_k».proof.Proof.Gen.AttProjIdeal.Value
public import proofs.«01_k».proof.Proof.Gen.AttProjRefIdeal.Run
public import proofs.«01_k».proof.Proof.Gen.AttProj.Frame
public import proofs.«01_k».proof.Proof.Gen.AttOutIdeal.Value
public import proofs.«01_k».proof.Proof.Gen.AttOutRefIdeal.Run
public import proofs.«01_k».proof.Proof.Gen.AttOut.Frame
public import proofs.«01_k».proof.Proof.Gen.DnOutIdeal.Value
public import proofs.«01_k».proof.Proof.Gen.DnOutRefIdeal.Run
public import proofs.«01_k».proof.Proof.Gen.DnOut.Frame
public import proofs.«01_k».proof.Proof.Layer.FfnClaims
public import proofs.«01_k».proof.Proof.Layer.BandFrames
public import proofs.«01_k».proof.Proof.Layer.BandClaims
public import proofs.«01_k».proof.Proof.Layer.MixerFrames
public import proofs.«01_k».proof.Proof.Layer.ProjClaims
public import proofs.«01_k».proof.Proof.Layer.OutClaims

@[expose] public section

noncomputable section

namespace Cert.Proof

open Idealize.ShloMosaic Idealize.SL.Sem Cert.Layer

/-- Everything the certificate claims. -/
theorem claim : Cert.Claim := ⟨Cert.Ffn.Gen.facts, Cert.FfnIdeal.Gen.facts, Cert.FfnRefIdeal.Gen.facts, Cert.Band1.Gen.facts, Cert.Band1Ideal.Gen.facts, Cert.Band1RefIdeal.Gen.facts, Cert.Band4.Gen.facts, Cert.Band4Ideal.Gen.facts, Cert.Band4RefIdeal.Gen.facts, Cert.Band16.Gen.facts, Cert.Band16Ideal.Gen.facts, Cert.Band16RefIdeal.Gen.facts,
  Cert.MemKv.Gen.facts, Cert.MemKvIdeal.Gen.facts, Cert.MemKvRefIdeal.Gen.facts, Cert.AttProj.Gen.facts, Cert.AttProjIdeal.Gen.facts, Cert.AttProjRefIdeal.Gen.facts, Cert.AttOut.Gen.facts, Cert.AttOutIdeal.Gen.facts, Cert.AttOutRefIdeal.Gen.facts, Cert.DnOut.Gen.facts, Cert.DnOutIdeal.Gen.facts, Cert.DnOutRefIdeal.Gen.facts,
  FfnClaims.frame_kernel, FfnClaims.frame_ideal, FfnClaims.frame_reference,
  BandFrames.frame_kernel1, BandFrames.frame_ideal1, BandFrames.frame_reference1,
  BandFrames.frame_kernel4, BandFrames.frame_ideal4, BandFrames.frame_reference4,
  BandFrames.frame_kernel16, BandFrames.frame_ideal16, BandFrames.frame_reference16,
  MixerFrames.frame_kernelMemKv, MixerFrames.frame_idealMemKv, MixerFrames.frame_referenceMemKv,
  MixerFrames.frame_kernelAttProj, MixerFrames.frame_idealAttProj, MixerFrames.frame_referenceAttProj,
  MixerFrames.frame_kernelAttOut, MixerFrames.frame_idealAttOut, MixerFrames.frame_referenceAttOut,
  MixerFrames.frame_kernelDnOut, MixerFrames.frame_idealDnOut, MixerFrames.frame_referenceDnOut,
  FfnClaims.preserves, FfnClaims.algebraic,
  BandFrames.preserves1, BandClaims.algebraic1, BandFrames.preserves4, BandClaims.algebraic4,
  BandFrames.preserves16, BandClaims.algebraic16,
  MixerFrames.preservesMemKv, ProjClaims.algebraicMemKv,
  MixerFrames.preservesAttProj, ProjClaims.algebraicAttProj,
  MixerFrames.preservesAttOut, OutClaims.algebraicAttOut,
  MixerFrames.preservesDnOut, OutClaims.algebraicDnOut⟩

end Cert.Proof

end
